-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x20000x4 : Shape := ⟨3, ![8, 20000, 4]⟩
abbrev S8x560000 : Shape := ⟨2, ![8, 560000]⟩
abbrev S_ : Shape := ⟨0, ![]⟩

class Facts : Prop where
  bcast_S_S8x20000x4 : S_.BroadcastsInDim S8x20000x4 (![] : Fin 0 → Fin S8x20000x4.rank)
  reducesTo_S8x20000x4_S_d0_1_2 : S8x20000x4.ReducesTo [0, 1, 2] S_
  h_S_ : 0 < S_.numel
  bcast_S_S8x560000 : S_.BroadcastsInDim S8x560000 (![] : Fin 0 → Fin S8x560000.rank)
  reducesTo_S8x560000_S_d0_1 : S8x560000.ReducesTo [0, 1] S_

variable [Facts]

def fn {F : FTy → Type} [FloatOps F] (main_arg0 : FVec F S8x20000x4 .f32) (main_arg1 : FVec F S8x560000 .f32) (main_arg2 : FVec F S8x560000 .f32) : IVec S_ 1 :=
  let main_v0 : FVec F S8x20000x4 .f32 := Host.absf main_arg0
  let main_cst : FVec F S_ .f32 := constant S_ .f32 0x7F800000#32
  let main_v1 : FVec F S8x20000x4 .f32 := broadcastInDim S8x20000x4 ![] bcast_S_S8x20000x4 main_cst
  let main_v2 : IVec S8x20000x4 1 := cmpf .olt main_v0 main_v1
  let main_c : IVec S_ 1 := constantI S_ 1 1#1
  let main_v3 : IVec S_ 1 := (fun x v => Host.reduce IntOp.andi x v reducesTo_S8x20000x4_S_d0_1_2 h_S_) main_v2 main_c
  let main_v4 : FVec F S8x560000 .f32 := Host.absf main_arg1
  let main_cst_0 : FVec F S_ .f32 := constant S_ .f32 0x7F800000#32
  let main_v5 : FVec F S8x560000 .f32 := broadcastInDim S8x560000 ![] bcast_S_S8x560000 main_cst_0
  let main_v6 : IVec S8x560000 1 := cmpf .olt main_v4 main_v5
  let main_c_1 : IVec S_ 1 := constantI S_ 1 1#1
  let main_v7 : IVec S_ 1 := (fun x v => Host.reduce IntOp.andi x v reducesTo_S8x560000_S_d0_1 h_S_) main_v6 main_c_1
  let main_v8 : IVec S_ 1 := andi main_v3 main_v7
  main_v8
-- ==== Kernel.lean ====
abbrev S8x20000x4 : Shape := ⟨3, ![8, 20000, 4]⟩
abbrev S8x560000 : Shape := ⟨2, ![8, 560000]⟩
abbrev S8x32x4 : Shape := ⟨3, ![8, 32, 4]⟩
abbrev S1024 : Shape := ⟨1, ![1024]⟩
abbrev S8x4x20000 : Shape := ⟨3, ![8, 4, 20000]⟩
abbrev S8x4x20096 : Shape := ⟨3, ![8, 4, 20096]⟩
abbrev S160000 : Shape := ⟨1, ![160000]⟩
abbrev S8x1792 : Shape := ⟨2, ![8, 1792]⟩
abbrev S8x4x640 : Shape := ⟨3, ![8, 4, 640]⟩
abbrev S8x4x128 : Shape := ⟨3, ![8, 4, 128]⟩
abbrev S5376 : Shape := ⟨1, ![5376]⟩
abbrev S_ : Shape := ⟨0, ![]⟩
abbrev S8x4x512 : Shape := ⟨3, ![8, 4, 512]⟩
abbrev S16 : Shape := ⟨1, ![16]⟩
abbrev S8x896 : Shape := ⟨2, ![8, 896]⟩
abbrev S640 : Shape := ⟨1, ![640]⟩
abbrev S512 : Shape := ⟨1, ![512]⟩
abbrev S544 : Shape := ⟨1, ![544]⟩
abbrev S8x20096x4 : Shape := ⟨3, ![8, 20096, 4]⟩
abbrev S8x20000 : Shape := ⟨2, ![8, 20000]⟩

abbrev nBuf : Table → Nat
  | .hbm => 11
  | .local .scVector .vmem => 8
  | _ => 0

abbrev bufTy : (tb : Table) → Fin (nBuf tb) → BufTy
  | .hbm, ⟨0, _⟩ => ⟨S8x20000x4, .f32⟩
  | .hbm, ⟨1, _⟩ => ⟨S8x560000, .f32⟩
  | .hbm, ⟨2, _⟩ => ⟨S8x560000, .f32⟩
  | .hbm, ⟨3, _⟩ => ⟨S8x32x4, .f32⟩
  | .hbm, ⟨4, _⟩ => ⟨S1024, .f32⟩
  | .hbm, ⟨5, _⟩ => ⟨S8x4x20000, .f32⟩
  | .hbm, ⟨6, _⟩ => ⟨S8x4x20096, .f32⟩
  | .hbm, ⟨7, _⟩ => ⟨S160000, .f32⟩
  | .hbm, ⟨8, _⟩ => ⟨S8x20096x4, .f32⟩
  | .hbm, ⟨9, _⟩ => ⟨S8x20000x4, .f32⟩
  | .hbm, ⟨10, _⟩ => ⟨S8x20000, .f32⟩
  | .local .scVector .vmem, ⟨0, _⟩ => ⟨S8x1792, .f32⟩
  | .local .scVector .vmem, ⟨1, _⟩ => ⟨S8x1792, .f32⟩
  | .local .scVector .vmem, ⟨2, _⟩ => ⟨S8x1792, .f32⟩
  | .local .scVector .vmem, ⟨3, _⟩ => ⟨S8x1792, .f32⟩
  | .local .scVector .vmem, ⟨4, _⟩ => ⟨S8x4x640, .f32⟩
  | .local .scVector .vmem, ⟨5, _⟩ => ⟨S8x4x128, .f32⟩
  | .local .scVector .vmem, ⟨6, _⟩ => ⟨S5376, .f32⟩
  | .local .scVector .vmem, ⟨7, _⟩ => ⟨S1024, .f32⟩
  | _, _ => ⟨S8x20000x4, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 34 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | _ => false

abbrev sig : RefSig :=
  ofTables nBuf rfl bufTy 4 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_arg1_scv : Ref sig .scVector := ⟨.hbm, 1, rfl⟩
abbrev main_arg2_scv : Ref sig .scVector := ⟨.hbm, 2, rfl⟩
abbrev main_v2_scv : Ref sig .scVector := ⟨.hbm, 5, rfl⟩
abbrev main_v1_scv : Ref sig .scVector := ⟨.hbm, 4, rfl⟩
abbrev main_v3_0_scv : Ref sig .scVector := ⟨.hbm, 6, rfl⟩
abbrev main_v3_1_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let c0_i32_3 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let c5_i32 : BitVec 32 := 5#32
  let v3 : BitVec 32 := Scalar.muli c5_i32 v1
  let c4_i32 : BitVec 32 := 4#32
  let v4 : BitVec 32 := Scalar.muli c4_i32 v1
  let c28_i32_0 : BitVec 32 := 28#32
  let v5 : BitVec 32 := Scalar.addi v4 c28_i32_0
  let v6 : BitVec 32 := Scalar.select v2 v3 v5
  let c3584_i32 : BitVec 32 := 3584#32
  let v10 : BitVec 32 := Scalar.muli v6 c3584_i32
  let c1792_i32 : BitVec 32 := 1792#32
  let v11 : BitVec 32 := Scalar.muli c0_i32 c1792_i32
  let v12 : BitVec 32 := Scalar.addi v10 v11
  ![0, v12.toNat]
def k0_cond1 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let v24 : BitVec 32 := Scalar.extui v2
  let c0_i32_13 : BitVec 32 := 0#32
  let v25 : BitVec 1 := Scalar.cmpi .ne v24 c0_i32_13
  v25

def k0_off2 (i : grid0.Coords) : Fin 3 → Nat :=
  let c0_i32_26_r0 : BitVec 32 := 0#32
  let c0_i32_27_r0 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let c5_i32 : BitVec 32 := 5#32
  let v3 : BitVec 32 := Scalar.muli c5_i32 v1
  let c4_i32 : BitVec 32 := 4#32
  let v4 : BitVec 32 := Scalar.muli c4_i32 v1
  let c28_i32_0 : BitVec 32 := 28#32
  let v5 : BitVec 32 := Scalar.addi v4 c28_i32_0
  let v6 : BitVec 32 := Scalar.select v2 v3 v5
  let c128_i32 : BitVec 32 := 128#32
  let v47 : BitVec 32 := Scalar.muli v6 c128_i32
  ![0, 0, v47.toNat]
def k0_cond2 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let v_true : BitVec 1 := 1#1
  let v26 : BitVec 1 := Scalar.xori v2 v_true
  let v27 : BitVec 32 := Scalar.extui v26
  let c0_i32_14 : BitVec 32 := 0#32
  let v28 : BitVec 1 := Scalar.cmpi .ne v27 c0_i32_14
  v28

def k0_off3 (i : grid0.Coords) : Fin 3 → Nat :=
  let c0_i32_29_r1 : BitVec 32 := 0#32
  let c0_i32_30_r1 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let c5_i32 : BitVec 32 := 5#32
  let v3 : BitVec 32 := Scalar.muli c5_i32 v1
  let c4_i32 : BitVec 32 := 4#32
  let v4 : BitVec 32 := Scalar.muli c4_i32 v1
  let c28_i32_0 : BitVec 32 := 28#32
  let v5 : BitVec 32 := Scalar.addi v4 c28_i32_0
  let v6 : BitVec 32 := Scalar.select v2 v3 v5
  let c128_i32 : BitVec 32 := 128#32
  let v47 : BitVec 32 := Scalar.muli v6 c128_i32
  ![0, 0, v47.toNat]
@[reducible] def k0_t1_loop (i : grid0.Coords) : Scf.Loop 32 :=
  let c0_i32_16 : BitVec 32 := 0#32
  let c2_i32 : BitVec 32 := 2#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let c5_i32_1 : BitVec 32 := 5#32
  let c4_i32_2 : BitVec 32 := 4#32
  let v7 : BitVec 32 := Scalar.select v2 c5_i32_1 c4_i32_2
  let v8 : BitVec 32 := Scalar.muli c2_i32 v7
  let v31 : BitVec 32 := Scalar.subi v8 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_18 : BitVec 32 := 1#32
  ⟨c0_i32_16, v35, c1_i32_18⟩
def k0_cond4 (i : grid0.Coords) (k0_t1 : Fin (k0_t1_loop i).trips) : BitVec 1 :=
  let c0_i32_16 : BitVec 32 := 0#32
  let c1_i32_18 : BitVec 32 := 1#32
  let arg18 : BitVec 32 := Scf.iv c0_i32_16 c1_i32_18 k0_t1
  let c1_i32_26 : BitVec 32 := 1#32
  let v47 : BitVec 32 := Scalar.andi arg18 c1_i32_26
  let c0_i32_27 : BitVec 32 := 0#32
  let v48 : BitVec 1 := Scalar.cmpi .eq v47 c0_i32_27
  let v49 : BitVec 32 := Scalar.extui v48
  let c0_i32_28 : BitVec 32 := 0#32
  let v50 : BitVec 1 := Scalar.cmpi .ne v49 c0_i32_28
  v50

def k0_off4 (i : grid0.Coords) (k0_t1 : Fin (k0_t1_loop i).trips) : Fin 2 → Nat :=
  let c0_i32_41 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let c5_i32 : BitVec 32 := 5#32
  let v3 : BitVec 32 := Scalar.muli c5_i32 v1
  let c4_i32 : BitVec 32 := 4#32
  let v4 : BitVec 32 := Scalar.muli c4_i32 v1
  let c28_i32_0 : BitVec 32 := 28#32
  let v5 : BitVec 32 := Scalar.addi v4 c28_i32_0
  let v6 : BitVec 32 := Scalar.select v2 v3 v5
  let c3584_i32_39 : BitVec 32 := 3584#32
  let v73 : BitVec 32 := Scalar.muli v6 c3584_i32_39
  let c0_i32_16 : BitVec 32 := 0#32
  let c1_i32_18 : BitVec 32 := 1#32
  let arg18 : BitVec 32 := Scf.iv c0_i32_16 c1_i32_18 k0_t1
  let c1792_i32_40 : BitVec 32 := 1792#32
  let v74 : BitVec 32 := Scalar.muli arg18 c1792_i32_40
  let v75 : BitVec 32 := Scalar.addi v73 v74
  ![0, v75.toNat]
@[reducible] def k0_t2_loop : Scf.Loop 32 :=
  let c0_i32_45 : BitVec 32 := 0#32
  let c32_i32 : BitVec 32 := 32#32
  let v80 : BitVec 32 := Scalar.addi c0_i32_45 c32_i32
  let c1_i32_46 : BitVec 32 := 1#32
  ⟨c0_i32_45, v80, c1_i32_46⟩

def k0_chk1 (i : grid0.Coords) (k0_t1 : Fin (k0_t1_loop i).trips) (v145 : IVec S16 32) (v154 : IVec S16 32) : Prop :=
  (∀ (k0_h4 : k0_cond4 i k0_t1 = 1#1), ∀ a x, ((![v145, v154] : Fin 2 → IVec S16 32) a x).toNat < S8x1792.size a)
theorem k0_idx1_inb : ∀ (i : grid0.Coords) (k0_t1 : Fin (k0_t1_loop i).trips) (v145 : IVec S16 32) (v154 : IVec S16 32) (k0_hw1 : k0_chk1 i k0_t1 v145 v154), ∀ (k0_h4 : k0_cond4 i k0_t1 = 1#1), ∀ a x, ((![v145, v154] : Fin 2 → IVec S16 32) a x).toNat < S8x1792.size a := fun i k0_t1 v145 v154 k0_hw1 k0_h4 => k0_hw1 k0_h4

def k0_chk2 (i : grid0.Coords) (k0_t1 : Fin (k0_t1_loop i).trips) (v145 : IVec S16 32) (v157 : IVec S16 32) : Prop :=
  (∀ (k0_h4 : k0_cond4 i k0_t1 = 1#1), ∀ a x, ((![v145, v157] : Fin 2 → IVec S16 32) a x).toNat < S8x1792.size a)
theorem k0_idx2_inb : ∀ (i : grid0.Coords) (k0_t1 : Fin (k0_t1_loop i).trips) (v145 : IVec S16 32) (v157 : IVec S16 32) (k0_hw2 : k0_chk2 i k0_t1 v145 v157), ∀ (k0_h4 : k0_cond4 i k0_t1 = 1#1), ∀ a x, ((![v145, v157] : Fin 2 → IVec S16 32) a x).toNat < S8x1792.size a := fun i k0_t1 v145 v157 k0_hw2 k0_h4 => k0_hw2 k0_h4

def k0_chk3 (i : grid0.Coords) (k0_t1 : Fin (k0_t1_loop i).trips) (v145 : IVec S16 32) (v160 : IVec S16 32) : Prop :=
  (∀ (k0_h4 : k0_cond4 i k0_t1 = 1#1), ∀ a x, ((![v145, v160] : Fin 2 → IVec S16 32) a x).toNat < S8x1792.size a)
theorem k0_idx3_inb : ∀ (i : grid0.Coords) (k0_t1 : Fin (k0_t1_loop i).trips) (v145 : IVec S16 32) (v160 : IVec S16 32) (k0_hw3 : k0_chk3 i k0_t1 v145 v160), ∀ (k0_h4 : k0_cond4 i k0_t1 = 1#1), ∀ a x, ((![v145, v160] : Fin 2 → IVec S16 32) a x).toNat < S8x1792.size a := fun i k0_t1 v145 v160 k0_hw3 k0_h4 => k0_hw3 k0_h4

def k0_chk4 (i : grid0.Coords) (k0_t1 : Fin (k0_t1_loop i).trips) (v145 : IVec S16 32) (v163 : IVec S16 32) : Prop :=
  (∀ (k0_h4 : k0_cond4 i k0_t1 = 1#1), ∀ a x, ((![v145, v163] : Fin 2 → IVec S16 32) a x).toNat < S8x1792.size a)
theorem k0_idx4_inb : ∀ (i : grid0.Coords) (k0_t1 : Fin (k0_t1_loop i).trips) (v145 : IVec S16 32) (v163 : IVec S16 32) (k0_hw4 : k0_chk4 i k0_t1 v145 v163), ∀ (k0_h4 : k0_cond4 i k0_t1 = 1#1), ∀ a x, ((![v145, v163] : Fin 2 → IVec S16 32) a x).toNat < S8x1792.size a := fun i k0_t1 v145 v163 k0_hw4 k0_h4 => k0_hw4 k0_h4

def k0_chk5 (i : grid0.Coords) (k0_t1 : Fin (k0_t1_loop i).trips) (v145 : IVec S16 32) (v166 : IVec S16 32) : Prop :=
  (∀ (k0_h4 : k0_cond4 i k0_t1 = 1#1), ∀ a x, ((![v145, v166] : Fin 2 → IVec S16 32) a x).toNat < S8x1792.size a)
theorem k0_idx5_inb : ∀ (i : grid0.Coords) (k0_t1 : Fin (k0_t1_loop i).trips) (v145 : IVec S16 32) (v166 : IVec S16 32) (k0_hw5 : k0_chk5 i k0_t1 v145 v166), ∀ (k0_h4 : k0_cond4 i k0_t1 = 1#1), ∀ a x, ((![v145, v166] : Fin 2 → IVec S16 32) a x).toNat < S8x1792.size a := fun i k0_t1 v145 v166 k0_hw5 k0_h4 => k0_hw5 k0_h4

def k0_chk6 (i : grid0.Coords) (k0_t1 : Fin (k0_t1_loop i).trips) (v145 : IVec S16 32) (v169 : IVec S16 32) : Prop :=
  (∀ (k0_h4 : k0_cond4 i k0_t1 = 1#1), ∀ a x, ((![v145, v169] : Fin 2 → IVec S16 32) a x).toNat < S8x1792.size a)
theorem k0_idx6_inb : ∀ (i : grid0.Coords) (k0_t1 : Fin (k0_t1_loop i).trips) (v145 : IVec S16 32) (v169 : IVec S16 32) (k0_hw6 : k0_chk6 i k0_t1 v145 v169), ∀ (k0_h4 : k0_cond4 i k0_t1 = 1#1), ∀ a x, ((![v145, v169] : Fin 2 → IVec S16 32) a x).toNat < S8x1792.size a := fun i k0_t1 v145 v169 k0_hw6 k0_h4 => k0_hw6 k0_h4

def k0_chk7 (i : grid0.Coords) (k0_t1 : Fin (k0_t1_loop i).trips) (v145 : IVec S16 32) (v172 : IVec S16 32) : Prop :=
  (∀ (k0_h4 : k0_cond4 i k0_t1 = 1#1), ∀ a x, ((![v145, v172] : Fin 2 → IVec S16 32) a x).toNat < S8x1792.size a)
theorem k0_idx7_inb : ∀ (i : grid0.Coords) (k0_t1 : Fin (k0_t1_loop i).trips) (v145 : IVec S16 32) (v172 : IVec S16 32) (k0_hw7 : k0_chk7 i k0_t1 v145 v172), ∀ (k0_h4 : k0_cond4 i k0_t1 = 1#1), ∀ a x, ((![v145, v172] : Fin 2 → IVec S16 32) a x).toNat < S8x1792.size a := fun i k0_t1 v145 v172 k0_hw7 k0_h4 => k0_hw7 k0_h4

def k0_chk8 (i : grid0.Coords) (k0_t1 : Fin (k0_t1_loop i).trips) (v145 : IVec S16 32) (v175 : IVec S16 32) : Prop :=
  (∀ (k0_h4 : k0_cond4 i k0_t1 = 1#1), ∀ a x, ((![v145, v175] : Fin 2 → IVec S16 32) a x).toNat < S8x1792.size a)
theorem k0_idx8_inb : ∀ (i : grid0.Coords) (k0_t1 : Fin (k0_t1_loop i).trips) (v145 : IVec S16 32) (v175 : IVec S16 32) (k0_hw8 : k0_chk8 i k0_t1 v145 v175), ∀ (k0_h4 : k0_cond4 i k0_t1 = 1#1), ∀ a x, ((![v145, v175] : Fin 2 → IVec S16 32) a x).toNat < S8x1792.size a := fun i k0_t1 v145 v175 k0_hw8 k0_h4 => k0_hw8 k0_h4

def k0_chk9 (i : grid0.Coords) (k0_t1 : Fin (k0_t1_loop i).trips) (v145 : IVec S16 32) (v178 : IVec S16 32) : Prop :=
  (∀ (k0_h4 : k0_cond4 i k0_t1 = 1#1), ∀ a x, ((![v145, v178] : Fin 2 → IVec S16 32) a x).toNat < S8x1792.size a)
theorem k0_idx9_inb : ∀ (i : grid0.Coords) (k0_t1 : Fin (k0_t1_loop i).trips) (v145 : IVec S16 32) (v178 : IVec S16 32) (k0_hw9 : k0_chk9 i k0_t1 v145 v178), ∀ (k0_h4 : k0_cond4 i k0_t1 = 1#1), ∀ a x, ((![v145, v178] : Fin 2 → IVec S16 32) a x).toNat < S8x1792.size a := fun i k0_t1 v145 v178 k0_hw9 k0_h4 => k0_hw9 k0_h4

def k0_chk10 (i : grid0.Coords) (k0_t1 : Fin (k0_t1_loop i).trips) (v145 : IVec S16 32) (v181 : IVec S16 32) : Prop :=
  (∀ (k0_h4 : k0_cond4 i k0_t1 = 1#1), ∀ a x, ((![v145, v181] : Fin 2 → IVec S16 32) a x).toNat < S8x1792.size a)
theorem k0_idx10_inb : ∀ (i : grid0.Coords) (k0_t1 : Fin (k0_t1_loop i).trips) (v145 : IVec S16 32) (v181 : IVec S16 32) (k0_hw10 : k0_chk10 i k0_t1 v145 v181), ∀ (k0_h4 : k0_cond4 i k0_t1 = 1#1), ∀ a x, ((![v145, v181] : Fin 2 → IVec S16 32) a x).toNat < S8x1792.size a := fun i k0_t1 v145 v181 k0_hw10 k0_h4 => k0_hw10 k0_h4

def k0_chk11 (i : grid0.Coords) (k0_t1 : Fin (k0_t1_loop i).trips) (v145 : IVec S16 32) (v184 : IVec S16 32) : Prop :=
  (∀ (k0_h4 : k0_cond4 i k0_t1 = 1#1), ∀ a x, ((![v145, v184] : Fin 2 → IVec S16 32) a x).toNat < S8x1792.size a)
theorem k0_idx11_inb : ∀ (i : grid0.Coords) (k0_t1 : Fin (k0_t1_loop i).trips) (v145 : IVec S16 32) (v184 : IVec S16 32) (k0_hw11 : k0_chk11 i k0_t1 v145 v184), ∀ (k0_h4 : k0_cond4 i k0_t1 = 1#1), ∀ a x, ((![v145, v184] : Fin 2 → IVec S16 32) a x).toNat < S8x1792.size a := fun i k0_t1 v145 v184 k0_hw11 k0_h4 => k0_hw11 k0_h4

def k0_chk12 (i : grid0.Coords) (k0_t1 : Fin (k0_t1_loop i).trips) (v145 : IVec S16 32) (v187 : IVec S16 32) : Prop :=
  (∀ (k0_h4 : k0_cond4 i k0_t1 = 1#1), ∀ a x, ((![v145, v187] : Fin 2 → IVec S16 32) a x).toNat < S8x1792.size a)
theorem k0_idx12_inb : ∀ (i : grid0.Coords) (k0_t1 : Fin (k0_t1_loop i).trips) (v145 : IVec S16 32) (v187 : IVec S16 32) (k0_hw12 : k0_chk12 i k0_t1 v145 v187), ∀ (k0_h4 : k0_cond4 i k0_t1 = 1#1), ∀ a x, ((![v145, v187] : Fin 2 → IVec S16 32) a x).toNat < S8x1792.size a := fun i k0_t1 v145 v187 k0_hw12 k0_h4 => k0_hw12 k0_h4

def k0_chk13 (i : grid0.Coords) (k0_t1 : Fin (k0_t1_loop i).trips) (v145 : IVec S16 32) (v190 : IVec S16 32) : Prop :=
  (∀ (k0_h4 : k0_cond4 i k0_t1 = 1#1), ∀ a x, ((![v145, v190] : Fin 2 → IVec S16 32) a x).toNat < S8x1792.size a)
theorem k0_idx13_inb : ∀ (i : grid0.Coords) (k0_t1 : Fin (k0_t1_loop i).trips) (v145 : IVec S16 32) (v190 : IVec S16 32) (k0_hw13 : k0_chk13 i k0_t1 v145 v190), ∀ (k0_h4 : k0_cond4 i k0_t1 = 1#1), ∀ a x, ((![v145, v190] : Fin 2 → IVec S16 32) a x).toNat < S8x1792.size a := fun i k0_t1 v145 v190 k0_hw13 k0_h4 => k0_hw13 k0_h4

def k0_chk14 (i : grid0.Coords) (k0_t1 : Fin (k0_t1_loop i).trips) (v145 : IVec S16 32) (v193 : IVec S16 32) : Prop :=
  (∀ (k0_h4 : k0_cond4 i k0_t1 = 1#1), ∀ a x, ((![v145, v193] : Fin 2 → IVec S16 32) a x).toNat < S8x1792.size a)
theorem k0_idx14_inb : ∀ (i : grid0.Coords) (k0_t1 : Fin (k0_t1_loop i).trips) (v145 : IVec S16 32) (v193 : IVec S16 32) (k0_hw14 : k0_chk14 i k0_t1 v145 v193), ∀ (k0_h4 : k0_cond4 i k0_t1 = 1#1), ∀ a x, ((![v145, v193] : Fin 2 → IVec S16 32) a x).toNat < S8x1792.size a := fun i k0_t1 v145 v193 k0_hw14 k0_h4 => k0_hw14 k0_h4

def k0_chk15 (i : grid0.Coords) (k0_t1 : Fin (k0_t1_loop i).trips) (v145 : IVec S16 32) (v196 : IVec S16 32) : Prop :=
  (∀ (k0_h4 : k0_cond4 i k0_t1 = 1#1), ∀ a x, ((![v145, v196] : Fin 2 → IVec S16 32) a x).toNat < S8x1792.size a)
theorem k0_idx15_inb : ∀ (i : grid0.Coords) (k0_t1 : Fin (k0_t1_loop i).trips) (v145 : IVec S16 32) (v196 : IVec S16 32) (k0_hw15 : k0_chk15 i k0_t1 v145 v196), ∀ (k0_h4 : k0_cond4 i k0_t1 = 1#1), ∀ a x, ((![v145, v196] : Fin 2 → IVec S16 32) a x).toNat < S8x1792.size a := fun i k0_t1 v145 v196 k0_hw15 k0_h4 => k0_hw15 k0_h4

def k0_chk16 (i : grid0.Coords) (k0_t1 : Fin (k0_t1_loop i).trips) (v145 : IVec S16 32) (v199 : IVec S16 32) : Prop :=
  (∀ (k0_h4 : k0_cond4 i k0_t1 = 1#1), ∀ a x, ((![v145, v199] : Fin 2 → IVec S16 32) a x).toNat < S8x1792.size a)
theorem k0_idx16_inb : ∀ (i : grid0.Coords) (k0_t1 : Fin (k0_t1_loop i).trips) (v145 : IVec S16 32) (v199 : IVec S16 32) (k0_hw16 : k0_chk16 i k0_t1 v145 v199), ∀ (k0_h4 : k0_cond4 i k0_t1 = 1#1), ∀ a x, ((![v145, v199] : Fin 2 → IVec S16 32) a x).toNat < S8x1792.size a := fun i k0_t1 v145 v199 k0_hw16 k0_h4 => k0_hw16 k0_h4

def k0_chk17 (i : grid0.Coords) (k0_t1 : Fin (k0_t1_loop i).trips) (v145 : IVec S16 32) (v202 : IVec S16 32) : Prop :=
  (∀ (k0_h4 : k0_cond4 i k0_t1 = 1#1), ∀ a x, ((![v145, v202] : Fin 2 → IVec S16 32) a x).toNat < S8x1792.size a)
theorem k0_idx17_inb : ∀ (i : grid0.Coords) (k0_t1 : Fin (k0_t1_loop i).trips) (v145 : IVec S16 32) (v202 : IVec S16 32) (k0_hw17 : k0_chk17 i k0_t1 v145 v202), ∀ (k0_h4 : k0_cond4 i k0_t1 = 1#1), ∀ a x, ((![v145, v202] : Fin 2 → IVec S16 32) a x).toNat < S8x1792.size a := fun i k0_t1 v145 v202 k0_hw17 k0_h4 => k0_hw17 k0_h4

def k0_chk18 (i : grid0.Coords) (k0_t1 : Fin (k0_t1_loop i).trips) (v145 : IVec S16 32) (v205 : IVec S16 32) : Prop :=
  (∀ (k0_h4 : k0_cond4 i k0_t1 = 1#1), ∀ a x, ((![v145, v205] : Fin 2 → IVec S16 32) a x).toNat < S8x1792.size a)
theorem k0_idx18_inb : ∀ (i : grid0.Coords) (k0_t1 : Fin (k0_t1_loop i).trips) (v145 : IVec S16 32) (v205 : IVec S16 32) (k0_hw18 : k0_chk18 i k0_t1 v145 v205), ∀ (k0_h4 : k0_cond4 i k0_t1 = 1#1), ∀ a x, ((![v145, v205] : Fin 2 → IVec S16 32) a x).toNat < S8x1792.size a := fun i k0_t1 v145 v205 k0_hw18 k0_h4 => k0_hw18 k0_h4

def k0_chk19 (i : grid0.Coords) (k0_t1 : Fin (k0_t1_loop i).trips) (v145 : IVec S16 32) (v208 : IVec S16 32) : Prop :=
  (∀ (k0_h4 : k0_cond4 i k0_t1 = 1#1), ∀ a x, ((![v145, v208] : Fin 2 → IVec S16 32) a x).toNat < S8x1792.size a)
theorem k0_idx19_inb : ∀ (i : grid0.Coords) (k0_t1 : Fin (k0_t1_loop i).trips) (v145 : IVec S16 32) (v208 : IVec S16 32) (k0_hw19 : k0_chk19 i k0_t1 v145 v208), ∀ (k0_h4 : k0_cond4 i k0_t1 = 1#1), ∀ a x, ((![v145, v208] : Fin 2 → IVec S16 32) a x).toNat < S8x1792.size a := fun i k0_t1 v145 v208 k0_hw19 k0_h4 => k0_hw19 k0_h4

def k0_chk20 (i : grid0.Coords) (k0_t1 : Fin (k0_t1_loop i).trips) (v145 : IVec S16 32) (v211 : IVec S16 32) : Prop :=
  (∀ (k0_h4 : k0_cond4 i k0_t1 = 1#1), ∀ a x, ((![v145, v211] : Fin 2 → IVec S16 32) a x).toNat < S8x1792.size a)
theorem k0_idx20_inb : ∀ (i : grid0.Coords) (k0_t1 : Fin (k0_t1_loop i).trips) (v145 : IVec S16 32) (v211 : IVec S16 32) (k0_hw20 : k0_chk20 i k0_t1 v145 v211), ∀ (k0_h4 : k0_cond4 i k0_t1 = 1#1), ∀ a x, ((![v145, v211] : Fin 2 → IVec S16 32) a x).toNat < S8x1792.size a := fun i k0_t1 v145 v211 k0_hw20 k0_h4 => k0_hw20 k0_h4

def k0_chk21 (i : grid0.Coords) (k0_t1 : Fin (k0_t1_loop i).trips) (v145 : IVec S16 32) (v214 : IVec S16 32) : Prop :=
  (∀ (k0_h4 : k0_cond4 i k0_t1 = 1#1), ∀ a x, ((![v145, v214] : Fin 2 → IVec S16 32) a x).toNat < S8x1792.size a)
theorem k0_idx21_inb : ∀ (i : grid0.Coords) (k0_t1 : Fin (k0_t1_loop i).trips) (v145 : IVec S16 32) (v214 : IVec S16 32) (k0_hw21 : k0_chk21 i k0_t1 v145 v214), ∀ (k0_h4 : k0_cond4 i k0_t1 = 1#1), ∀ a x, ((![v145, v214] : Fin 2 → IVec S16 32) a x).toNat < S8x1792.size a := fun i k0_t1 v145 v214 k0_hw21 k0_h4 => k0_hw21 k0_h4

def k0_chk22 (i : grid0.Coords) (k0_t1 : Fin (k0_t1_loop i).trips) (v145 : IVec S16 32) (v217 : IVec S16 32) : Prop :=
  (∀ (k0_h4 : k0_cond4 i k0_t1 = 1#1), ∀ a x, ((![v145, v217] : Fin 2 → IVec S16 32) a x).toNat < S8x1792.size a)
theorem k0_idx22_inb : ∀ (i : grid0.Coords) (k0_t1 : Fin (k0_t1_loop i).trips) (v145 : IVec S16 32) (v217 : IVec S16 32) (k0_hw22 : k0_chk22 i k0_t1 v145 v217), ∀ (k0_h4 : k0_cond4 i k0_t1 = 1#1), ∀ a x, ((![v145, v217] : Fin 2 → IVec S16 32) a x).toNat < S8x1792.size a := fun i k0_t1 v145 v217 k0_hw22 k0_h4 => k0_hw22 k0_h4

def k0_chk23 (i : grid0.Coords) (k0_t1 : Fin (k0_t1_loop i).trips) (v145 : IVec S16 32) (v220 : IVec S16 32) : Prop :=
  (∀ (k0_h4 : k0_cond4 i k0_t1 = 1#1), ∀ a x, ((![v145, v220] : Fin 2 → IVec S16 32) a x).toNat < S8x1792.size a)
theorem k0_idx23_inb : ∀ (i : grid0.Coords) (k0_t1 : Fin (k0_t1_loop i).trips) (v145 : IVec S16 32) (v220 : IVec S16 32) (k0_hw23 : k0_chk23 i k0_t1 v145 v220), ∀ (k0_h4 : k0_cond4 i k0_t1 = 1#1), ∀ a x, ((![v145, v220] : Fin 2 → IVec S16 32) a x).toNat < S8x1792.size a := fun i k0_t1 v145 v220 k0_hw23 k0_h4 => k0_hw23 k0_h4

def k0_chk24 (i : grid0.Coords) (k0_t1 : Fin (k0_t1_loop i).trips) (v145 : IVec S16 32) (v223 : IVec S16 32) : Prop :=
  (∀ (k0_h4 : k0_cond4 i k0_t1 = 1#1), ∀ a x, ((![v145, v223] : Fin 2 → IVec S16 32) a x).toNat < S8x1792.size a)
theorem k0_idx24_inb : ∀ (i : grid0.Coords) (k0_t1 : Fin (k0_t1_loop i).trips) (v145 : IVec S16 32) (v223 : IVec S16 32) (k0_hw24 : k0_chk24 i k0_t1 v145 v223), ∀ (k0_h4 : k0_cond4 i k0_t1 = 1#1), ∀ a x, ((![v145, v223] : Fin 2 → IVec S16 32) a x).toNat < S8x1792.size a := fun i k0_t1 v145 v223 k0_hw24 k0_h4 => k0_hw24 k0_h4

def k0_chk25 (i : grid0.Coords) (k0_t1 : Fin (k0_t1_loop i).trips) (v145 : IVec S16 32) (v226 : IVec S16 32) : Prop :=
  (∀ (k0_h4 : k0_cond4 i k0_t1 = 1#1), ∀ a x, ((![v145, v226] : Fin 2 → IVec S16 32) a x).toNat < S8x1792.size a)
theorem k0_idx25_inb : ∀ (i : grid0.Coords) (k0_t1 : Fin (k0_t1_loop i).trips) (v145 : IVec S16 32) (v226 : IVec S16 32) (k0_hw25 : k0_chk25 i k0_t1 v145 v226), ∀ (k0_h4 : k0_cond4 i k0_t1 = 1#1), ∀ a x, ((![v145, v226] : Fin 2 → IVec S16 32) a x).toNat < S8x1792.size a := fun i k0_t1 v145 v226 k0_hw25 k0_h4 => k0_hw25 k0_h4

def k0_chk26 (i : grid0.Coords) (k0_t1 : Fin (k0_t1_loop i).trips) (v145 : IVec S16 32) (v229 : IVec S16 32) : Prop :=
  (∀ (k0_h4 : k0_cond4 i k0_t1 = 1#1), ∀ a x, ((![v145, v229] : Fin 2 → IVec S16 32) a x).toNat < S8x1792.size a)
theorem k0_idx26_inb : ∀ (i : grid0.Coords) (k0_t1 : Fin (k0_t1_loop i).trips) (v145 : IVec S16 32) (v229 : IVec S16 32) (k0_hw26 : k0_chk26 i k0_t1 v145 v229), ∀ (k0_h4 : k0_cond4 i k0_t1 = 1#1), ∀ a x, ((![v145, v229] : Fin 2 → IVec S16 32) a x).toNat < S8x1792.size a := fun i k0_t1 v145 v229 k0_hw26 k0_h4 => k0_hw26 k0_h4

def k0_chk27 (i : grid0.Coords) (k0_t1 : Fin (k0_t1_loop i).trips) (v145 : IVec S16 32) (v232 : IVec S16 32) : Prop :=
  (∀ (k0_h4 : k0_cond4 i k0_t1 = 1#1), ∀ a x, ((![v145, v232] : Fin 2 → IVec S16 32) a x).toNat < S8x1792.size a)
theorem k0_idx27_inb : ∀ (i : grid0.Coords) (k0_t1 : Fin (k0_t1_loop i).trips) (v145 : IVec S16 32) (v232 : IVec S16 32) (k0_hw27 : k0_chk27 i k0_t1 v145 v232), ∀ (k0_h4 : k0_cond4 i k0_t1 = 1#1), ∀ a x, ((![v145, v232] : Fin 2 → IVec S16 32) a x).toNat < S8x1792.size a := fun i k0_t1 v145 v232 k0_hw27 k0_h4 => k0_hw27 k0_h4

def k0_chk28 (i : grid0.Coords) (k0_t1 : Fin (k0_t1_loop i).trips) (v145 : IVec S16 32) (v235 : IVec S16 32) : Prop :=
  (∀ (k0_h4 : k0_cond4 i k0_t1 = 1#1), ∀ a x, ((![v145, v235] : Fin 2 → IVec S16 32) a x).toNat < S8x1792.size a)
theorem k0_idx28_inb : ∀ (i : grid0.Coords) (k0_t1 : Fin (k0_t1_loop i).trips) (v145 : IVec S16 32) (v235 : IVec S16 32) (k0_hw28 : k0_chk28 i k0_t1 v145 v235), ∀ (k0_h4 : k0_cond4 i k0_t1 = 1#1), ∀ a x, ((![v145, v235] : Fin 2 → IVec S16 32) a x).toNat < S8x1792.size a := fun i k0_t1 v145 v235 k0_hw28 k0_h4 => k0_hw28 k0_h4

def k0_chk29 (i : grid0.Coords) (k0_t1 : Fin (k0_t1_loop i).trips) (v145 : IVec S16 32) (v316 : IVec S16 32) : Prop :=
  (∀ (k0_h4 : k0_cond4 i k0_t1 = 1#1), ∀ a x, ((![v145, v316] : Fin 2 → IVec S16 32) a x).toNat < S8x1792.size a)
theorem k0_idx29_inb : ∀ (i : grid0.Coords) (k0_t1 : Fin (k0_t1_loop i).trips) (v145 : IVec S16 32) (v316 : IVec S16 32) (k0_hw29 : k0_chk29 i k0_t1 v145 v316), ∀ (k0_h4 : k0_cond4 i k0_t1 = 1#1), ∀ a x, ((![v145, v316] : Fin 2 → IVec S16 32) a x).toNat < S8x1792.size a := fun i k0_t1 v145 v316 k0_hw29 k0_h4 => k0_hw29 k0_h4

def k0_chk30 (i : grid0.Coords) (k0_t1 : Fin (k0_t1_loop i).trips) (v145 : IVec S16 32) (v407 : IVec S16 32) : Prop :=
  (∀ (k0_h4 : k0_cond4 i k0_t1 = 1#1), ∀ a x, ((![v145, v407] : Fin 2 → IVec S16 32) a x).toNat < S8x1792.size a)
theorem k0_idx30_inb : ∀ (i : grid0.Coords) (k0_t1 : Fin (k0_t1_loop i).trips) (v145 : IVec S16 32) (v407 : IVec S16 32) (k0_hw30 : k0_chk30 i k0_t1 v145 v407), ∀ (k0_h4 : k0_cond4 i k0_t1 = 1#1), ∀ a x, ((![v145, v407] : Fin 2 → IVec S16 32) a x).toNat < S8x1792.size a := fun i k0_t1 v145 v407 k0_hw30 k0_h4 => k0_hw30 k0_h4

def k0_chk31 (i : grid0.Coords) (k0_t1 : Fin (k0_t1_loop i).trips) (v145 : IVec S16 32) (v499 : IVec S16 32) : Prop :=
  (∀ (k0_h4 : k0_cond4 i k0_t1 = 1#1), ∀ a x, ((![v145, v499] : Fin 2 → IVec S16 32) a x).toNat < S8x1792.size a)
theorem k0_idx31_inb : ∀ (i : grid0.Coords) (k0_t1 : Fin (k0_t1_loop i).trips) (v145 : IVec S16 32) (v499 : IVec S16 32) (k0_hw31 : k0_chk31 i k0_t1 v145 v499), ∀ (k0_h4 : k0_cond4 i k0_t1 = 1#1), ∀ a x, ((![v145, v499] : Fin 2 → IVec S16 32) a x).toNat < S8x1792.size a := fun i k0_t1 v145 v499 k0_hw31 k0_h4 => k0_hw31 k0_h4

def k0_chk32 (i : grid0.Coords) (k0_t1 : Fin (k0_t1_loop i).trips) (v145 : IVec S16 32) (v591 : IVec S16 32) : Prop :=
  (∀ (k0_h4 : k0_cond4 i k0_t1 = 1#1), ∀ a x, ((![v145, v591] : Fin 2 → IVec S16 32) a x).toNat < S8x1792.size a)
theorem k0_idx32_inb : ∀ (i : grid0.Coords) (k0_t1 : Fin (k0_t1_loop i).trips) (v145 : IVec S16 32) (v591 : IVec S16 32) (k0_hw32 : k0_chk32 i k0_t1 v145 v591), ∀ (k0_h4 : k0_cond4 i k0_t1 = 1#1), ∀ a x, ((![v145, v591] : Fin 2 → IVec S16 32) a x).toNat < S8x1792.size a := fun i k0_t1 v145 v591 k0_hw32 k0_h4 => k0_hw32 k0_h4

def k0_chk33 (i : grid0.Coords) (k0_t1 : Fin (k0_t1_loop i).trips) (v145 : IVec S16 32) (v604 : IVec S16 32) (v605 : IVec S16 32) (v606 : IVec S16 32) (v607 : IVec S16 32) (v610 : IVec S16 32) : Prop :=
  (∀ (k0_h4 : k0_cond4 i k0_t1 = 1#1), ∀ a x, ((![v145, v604, v610] : Fin 3 → IVec S16 32) a x).toNat < S8x4x640.size a) ∧
  (∀ (k0_h4 : k0_cond4 i k0_t1 = 1#1), ∀ a x, ((![v145, v605, v610] : Fin 3 → IVec S16 32) a x).toNat < S8x4x640.size a) ∧
  (∀ (k0_h4 : k0_cond4 i k0_t1 = 1#1), ∀ a x, ((![v145, v606, v610] : Fin 3 → IVec S16 32) a x).toNat < S8x4x640.size a) ∧
  (∀ (k0_h4 : k0_cond4 i k0_t1 = 1#1), ∀ a x, ((![v145, v607, v610] : Fin 3 → IVec S16 32) a x).toNat < S8x4x640.size a)
theorem k0_idx33_inb : ∀ (i : grid0.Coords) (k0_t1 : Fin (k0_t1_loop i).trips) (v145 : IVec S16 32) (v604 : IVec S16 32) (v605 : IVec S16 32) (v606 : IVec S16 32) (v607 : IVec S16 32) (v610 : IVec S16 32) (k0_hw33 : k0_chk33 i k0_t1 v145 v604 v605 v606 v607 v610), ∀ (k0_h4 : k0_cond4 i k0_t1 = 1#1), ∀ a x, ((![v145, v604, v610] : Fin 3 → IVec S16 32) a x).toNat < S8x4x640.size a := fun i k0_t1 v145 v604 v605 v606 v607 v610 k0_hw33 k0_h4 => k0_hw33.1 k0_h4
theorem k0_idx34_inb : ∀ (i : grid0.Coords) (k0_t1 : Fin (k0_t1_loop i).trips) (v145 : IVec S16 32) (v604 : IVec S16 32) (v605 : IVec S16 32) (v606 : IVec S16 32) (v607 : IVec S16 32) (v610 : IVec S16 32) (k0_hw33 : k0_chk33 i k0_t1 v145 v604 v605 v606 v607 v610), ∀ (k0_h4 : k0_cond4 i k0_t1 = 1#1), ∀ a x, ((![v145, v605, v610] : Fin 3 → IVec S16 32) a x).toNat < S8x4x640.size a := fun i k0_t1 v145 v604 v605 v606 v607 v610 k0_hw33 k0_h4 => k0_hw33.2.1 k0_h4
theorem k0_idx35_inb : ∀ (i : grid0.Coords) (k0_t1 : Fin (k0_t1_loop i).trips) (v145 : IVec S16 32) (v604 : IVec S16 32) (v605 : IVec S16 32) (v606 : IVec S16 32) (v607 : IVec S16 32) (v610 : IVec S16 32) (k0_hw33 : k0_chk33 i k0_t1 v145 v604 v605 v606 v607 v610), ∀ (k0_h4 : k0_cond4 i k0_t1 = 1#1), ∀ a x, ((![v145, v606, v610] : Fin 3 → IVec S16 32) a x).toNat < S8x4x640.size a := fun i k0_t1 v145 v604 v605 v606 v607 v610 k0_hw33 k0_h4 => k0_hw33.2.2.1 k0_h4
theorem k0_idx36_inb : ∀ (i : grid0.Coords) (k0_t1 : Fin (k0_t1_loop i).trips) (v145 : IVec S16 32) (v604 : IVec S16 32) (v605 : IVec S16 32) (v606 : IVec S16 32) (v607 : IVec S16 32) (v610 : IVec S16 32) (k0_hw33 : k0_chk33 i k0_t1 v145 v604 v605 v606 v607 v610), ∀ (k0_h4 : k0_cond4 i k0_t1 = 1#1), ∀ a x, ((![v145, v607, v610] : Fin 3 → IVec S16 32) a x).toNat < S8x4x640.size a := fun i k0_t1 v145 v604 v605 v606 v607 v610 k0_hw33 k0_h4 => k0_hw33.2.2.2 k0_h4

def k0_chk34 (i : grid0.Coords) (k0_t1 : Fin (k0_t1_loop i).trips) (v145 : IVec S16 32) (v659 : IVec S16 32) (v660 : IVec S16 32) (v661 : IVec S16 32) (v662 : IVec S16 32) (v665 : IVec S16 32) : Prop :=
  (∀ (k0_h4 : k0_cond4 i k0_t1 = 1#1), ∀ a x, ((![v145, v659, v665] : Fin 3 → IVec S16 32) a x).toNat < S8x4x128.size a) ∧
  (∀ (k0_h4 : k0_cond4 i k0_t1 = 1#1), ∀ a x, ((![v145, v660, v665] : Fin 3 → IVec S16 32) a x).toNat < S8x4x128.size a) ∧
  (∀ (k0_h4 : k0_cond4 i k0_t1 = 1#1), ∀ a x, ((![v145, v661, v665] : Fin 3 → IVec S16 32) a x).toNat < S8x4x128.size a) ∧
  (∀ (k0_h4 : k0_cond4 i k0_t1 = 1#1), ∀ a x, ((![v145, v662, v665] : Fin 3 → IVec S16 32) a x).toNat < S8x4x128.size a)
theorem k0_idx37_inb : ∀ (i : grid0.Coords) (k0_t1 : Fin (k0_t1_loop i).trips) (v145 : IVec S16 32) (v659 : IVec S16 32) (v660 : IVec S16 32) (v661 : IVec S16 32) (v662 : IVec S16 32) (v665 : IVec S16 32) (k0_hw34 : k0_chk34 i k0_t1 v145 v659 v660 v661 v662 v665), ∀ (k0_h4 : k0_cond4 i k0_t1 = 1#1), ∀ a x, ((![v145, v659, v665] : Fin 3 → IVec S16 32) a x).toNat < S8x4x128.size a := fun i k0_t1 v145 v659 v660 v661 v662 v665 k0_hw34 k0_h4 => k0_hw34.1 k0_h4
theorem k0_idx38_inb : ∀ (i : grid0.Coords) (k0_t1 : Fin (k0_t1_loop i).trips) (v145 : IVec S16 32) (v659 : IVec S16 32) (v660 : IVec S16 32) (v661 : IVec S16 32) (v662 : IVec S16 32) (v665 : IVec S16 32) (k0_hw34 : k0_chk34 i k0_t1 v145 v659 v660 v661 v662 v665), ∀ (k0_h4 : k0_cond4 i k0_t1 = 1#1), ∀ a x, ((![v145, v660, v665] : Fin 3 → IVec S16 32) a x).toNat < S8x4x128.size a := fun i k0_t1 v145 v659 v660 v661 v662 v665 k0_hw34 k0_h4 => k0_hw34.2.1 k0_h4
theorem k0_idx39_inb : ∀ (i : grid0.Coords) (k0_t1 : Fin (k0_t1_loop i).trips) (v145 : IVec S16 32) (v659 : IVec S16 32) (v660 : IVec S16 32) (v661 : IVec S16 32) (v662 : IVec S16 32) (v665 : IVec S16 32) (k0_hw34 : k0_chk34 i k0_t1 v145 v659 v660 v661 v662 v665), ∀ (k0_h4 : k0_cond4 i k0_t1 = 1#1), ∀ a x, ((![v145, v661, v665] : Fin 3 → IVec S16 32) a x).toNat < S8x4x128.size a := fun i k0_t1 v145 v659 v660 v661 v662 v665 k0_hw34 k0_h4 => k0_hw34.2.2.1 k0_h4
theorem k0_idx40_inb : ∀ (i : grid0.Coords) (k0_t1 : Fin (k0_t1_loop i).trips) (v145 : IVec S16 32) (v659 : IVec S16 32) (v660 : IVec S16 32) (v661 : IVec S16 32) (v662 : IVec S16 32) (v665 : IVec S16 32) (k0_hw34 : k0_chk34 i k0_t1 v145 v659 v660 v661 v662 v665), ∀ (k0_h4 : k0_cond4 i k0_t1 = 1#1), ∀ a x, ((![v145, v662, v665] : Fin 3 → IVec S16 32) a x).toNat < S8x4x128.size a := fun i k0_t1 v145 v659 v660 v661 v662 v665 k0_hw34 k0_h4 => k0_hw34.2.2.2 k0_h4
def k0_off5 (i : grid0.Coords) (k0_t1 : Fin (k0_t1_loop i).trips) (k0_t2 : Fin k0_t2_loop.trips) : Fin 1 → Nat :=
  let c0_i32_45 : BitVec 32 := 0#32
  let c1_i32_46 : BitVec 32 := 1#32
  let arg19 : BitVec 32 := Scf.iv c0_i32_45 c1_i32_46 k0_t2
  let c0_i32_51 : BitVec 32 := 0#32
  let v86 : BitVec 1 := Scalar.cmpi .sgt arg19 c0_i32_51
  let v87 : BitVec 32 := Scalar.extui v86
  let c0_i32_52 : BitVec 32 := 0#32
  let v88 : BitVec 1 := Scalar.cmpi .slt arg19 c0_i32_52
  let v89 : BitVec 32 := Scalar.extui v88
  let v90 : BitVec 32 := Scalar.subi v87 v89
  let c2_i32_50 : BitVec 32 := 2#32
  let c0_i32_53 : BitVec 32 := 0#32
  let v91 : BitVec 1 := Scalar.cmpi .sgt c2_i32_50 c0_i32_53
  let v92 : BitVec 32 := Scalar.extui v91
  let c0_i32_54 : BitVec 32 := 0#32
  let v93 : BitVec 1 := Scalar.cmpi .slt c2_i32_50 c0_i32_54
  let v94 : BitVec 32 := Scalar.extui v93
  let v95 : BitVec 32 := Scalar.subi v92 v94
  let v96 : BitVec 1 := Scalar.cmpi .ne v90 v95
  let v97 : BitVec 32 := Scalar.remsi arg19 c2_i32_50
  let c0_i32_55 : BitVec 32 := 0#32
  let v98 : BitVec 1 := Scalar.cmpi .ne v97 c0_i32_55
  let v99 : BitVec 1 := Scalar.andi v96 v98
  let v85 : BitVec 32 := Scalar.divsi arg19 c2_i32_50
  let c1_i32_56 : BitVec 32 := 1#32
  let v100 : BitVec 32 := Scalar.subi v85 c1_i32_56
  let v101 : BitVec 32 := Scalar.select v99 v100 v85
  let c8_i32 : BitVec 32 := 8#32
  let c0_i32_57 : BitVec 32 := 0#32
  let v102 : BitVec 1 := Scalar.cmpi .eq c8_i32 c0_i32_57
  let c1_i32_58 : BitVec 32 := 1#32
  let v103 : BitVec 32 := Scalar.select v102 c1_i32_58 c8_i32
  let v104 : BitVec 32 := Scalar.remsi v101 v103
  let c0_i32_60 : BitVec 32 := 0#32
  let v106 : BitVec 1 := Scalar.cmpi .slt v104 c0_i32_60
  let c0_i32_61 : BitVec 32 := 0#32
  let v107 : BitVec 1 := Scalar.cmpi .slt v103 c0_i32_61
  let v108 : BitVec 1 := Scalar.xori v106 v107
  let c0_i32_59 : BitVec 32 := 0#32
  let v105 : BitVec 1 := Scalar.cmpi .ne v104 c0_i32_59
  let v109 : BitVec 1 := Scalar.andi v108 v105
  let v110 : BitVec 32 := Scalar.addi v104 v103
  let v111 : BitVec 32 := Scalar.select v109 v110 v104
  let c672_i32 : BitVec 32 := 672#32
  let v668 : BitVec 32 := Scalar.muli v111 c672_i32
  let c0_i32_16 : BitVec 32 := 0#32
  let c1_i32_18 : BitVec 32 := 1#32
  let arg18 : BitVec 32 := Scf.iv c0_i32_16 c1_i32_18 k0_t1
  let c0_i32_33 : BitVec 32 := 0#32
  let v56 : BitVec 1 := Scalar.cmpi .sgt arg18 c0_i32_33
  let v57 : BitVec 32 := Scalar.extui v56
  let c0_i32_34 : BitVec 32 := 0#32
  let v58 : BitVec 1 := Scalar.cmpi .slt arg18 c0_i32_34
  let v59 : BitVec 32 := Scalar.extui v58
  let v60 : BitVec 32 := Scalar.subi v57 v59
  let c2_i32_32 : BitVec 32 := 2#32
  let c0_i32_35 : BitVec 32 := 0#32
  let v61 : BitVec 1 := Scalar.cmpi .sgt c2_i32_32 c0_i32_35
  let v62 : BitVec 32 := Scalar.extui v61
  let c0_i32_36 : BitVec 32 := 0#32
  let v63 : BitVec 1 := Scalar.cmpi .slt c2_i32_32 c0_i32_36
  let v64 : BitVec 32 := Scalar.extui v63
  let v65 : BitVec 32 := Scalar.subi v62 v64
  let v66 : BitVec 1 := Scalar.cmpi .ne v60 v65
  let v67 : BitVec 32 := Scalar.remsi arg18 c2_i32_32
  let c0_i32_37 : BitVec 32 := 0#32
  let v68 : BitVec 1 := Scalar.cmpi .ne v67 c0_i32_37
  let v69 : BitVec 1 := Scalar.andi v66 v68
  let v55 : BitVec 32 := Scalar.divsi arg18 c2_i32_32
  let c1_i32_38 : BitVec 32 := 1#32
  let v70 : BitVec 32 := Scalar.subi v55 c1_i32_38
  let v71 : BitVec 32 := Scalar.select v69 v70 v55
  let c128_i32 : BitVec 32 := 128#32
  let v140 : BitVec 32 := Scalar.muli v71 c128_i32
  let c0_i32_76 : BitVec 32 := 0#32
  let v141 : BitVec 32 := Scalar.addi v140 c0_i32_76
  let v669 : BitVec 32 := Scalar.addi v668 v141
  let c0_i32_63 : BitVec 32 := 0#32
  let v113 : BitVec 1 := Scalar.cmpi .sgt arg19 c0_i32_63
  let v114 : BitVec 32 := Scalar.extui v113
  let c0_i32_64 : BitVec 32 := 0#32
  let v115 : BitVec 1 := Scalar.cmpi .slt arg19 c0_i32_64
  let v116 : BitVec 32 := Scalar.extui v115
  let v117 : BitVec 32 := Scalar.subi v114 v116
  let c16_i32_62 : BitVec 32 := 16#32
  let c0_i32_65 : BitVec 32 := 0#32
  let v118 : BitVec 1 := Scalar.cmpi .sgt c16_i32_62 c0_i32_65
  let v119 : BitVec 32 := Scalar.extui v118
  let c0_i32_66 : BitVec 32 := 0#32
  let v120 : BitVec 1 := Scalar.cmpi .slt c16_i32_62 c0_i32_66
  let v121 : BitVec 32 := Scalar.extui v120
  let v122 : BitVec 32 := Scalar.subi v119 v121
  let v123 : BitVec 1 := Scalar.cmpi .ne v117 v122
  let v124 : BitVec 32 := Scalar.remsi arg19 c16_i32_62
  let c0_i32_67 : BitVec 32 := 0#32
  let v125 : BitVec 1 := Scalar.cmpi .ne v124 c0_i32_67
  let v126 : BitVec 1 := Scalar.andi v123 v125
  let v112 : BitVec 32 := Scalar.divsi arg19 c16_i32_62
  let c1_i32_68 : BitVec 32 := 1#32
  let v127 : BitVec 32 := Scalar.subi v112 c1_i32_68
  let v128 : BitVec 32 := Scalar.select v126 v127 v112
  let c32_i32_79 : BitVec 32 := 32#32
  let v146 : BitVec 32 := Scalar.muli v128 c32_i32_79
  let c2_i32_69 : BitVec 32 := 2#32
  let c0_i32_70 : BitVec 32 := 0#32
  let v129 : BitVec 1 := Scalar.cmpi .eq c2_i32_69 c0_i32_70
  let c1_i32_71 : BitVec 32 := 1#32
  let v130 : BitVec 32 := Scalar.select v129 c1_i32_71 c2_i32_69
  let v131 : BitVec 32 := Scalar.remsi arg19 v130
  let c0_i32_73 : BitVec 32 := 0#32
  let v133 : BitVec 1 := Scalar.cmpi .slt v131 c0_i32_73
  let c0_i32_74 : BitVec 32 := 0#32
  let v134 : BitVec 1 := Scalar.cmpi .slt v130 c0_i32_74
  let v135 : BitVec 1 := Scalar.xori v133 v134
  let c0_i32_72 : BitVec 32 := 0#32
  let v132 : BitVec 1 := Scalar.cmpi .ne v131 c0_i32_72
  let v136 : BitVec 1 := Scalar.andi v135 v132
  let v137 : BitVec 32 := Scalar.addi v131 v130
  let v138 : BitVec 32 := Scalar.select v136 v137 v131
  let c16_i32_75 : BitVec 32 := 16#32
  let v139 : BitVec 32 := Scalar.muli v138 c16_i32_75
  let v147 : BitVec 32 := Scalar.addi v146 v139
  let v670 : BitVec 32 := Scalar.addi v669 v147
  let v671 : Index := Scalar.indexCast v670
  ![v671.toNat]
def k0_cond5 (i : grid0.Coords) (k0_t1 : Fin (k0_t1_loop i).trips) : BitVec 1 :=
  let c0_i32_16 : BitVec 32 := 0#32
  let c1_i32_18 : BitVec 32 := 1#32
  let arg18 : BitVec 32 := Scf.iv c0_i32_16 c1_i32_18 k0_t1
  let c2_i32_48 : BitVec 32 := 2#32
  let v81 : BitVec 32 := Scalar.addi arg18 c2_i32_48
  let c2_i32 : BitVec 32 := 2#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let c5_i32_1 : BitVec 32 := 5#32
  let c4_i32_2 : BitVec 32 := 4#32
  let v7 : BitVec 32 := Scalar.select v2 c5_i32_1 c4_i32_2
  let v8 : BitVec 32 := Scalar.muli c2_i32 v7
  let v82 : BitVec 1 := Scalar.cmpi .slt v81 v8
  let v83 : BitVec 32 := Scalar.extui v82
  let c0_i32_49 : BitVec 32 := 0#32
  let v84 : BitVec 1 := Scalar.cmpi .ne v83 c0_i32_49
  v84

def k0_off6 (i : grid0.Coords) (k0_t1 : Fin (k0_t1_loop i).trips) : Fin 2 → Nat :=
  let c0_i32_53 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let c5_i32 : BitVec 32 := 5#32
  let v3 : BitVec 32 := Scalar.muli c5_i32 v1
  let c4_i32 : BitVec 32 := 4#32
  let v4 : BitVec 32 := Scalar.muli c4_i32 v1
  let c28_i32_0 : BitVec 32 := 28#32
  let v5 : BitVec 32 := Scalar.addi v4 c28_i32_0
  let v6 : BitVec 32 := Scalar.select v2 v3 v5
  let c3584_i32_51 : BitVec 32 := 3584#32
  let v86 : BitVec 32 := Scalar.muli v6 c3584_i32_51
  let c0_i32_16 : BitVec 32 := 0#32
  let c1_i32_18 : BitVec 32 := 1#32
  let arg18 : BitVec 32 := Scf.iv c0_i32_16 c1_i32_18 k0_t1
  let c2_i32_50 : BitVec 32 := 2#32
  let v85 : BitVec 32 := Scalar.addi arg18 c2_i32_50
  let c1792_i32_52 : BitVec 32 := 1792#32
  let v87 : BitVec 32 := Scalar.muli v85 c1792_i32_52
  let v88 : BitVec 32 := Scalar.addi v86 v87
  ![0, v88.toNat]
def k0_cond6 (i : grid0.Coords) (k0_t1 : Fin (k0_t1_loop i).trips) : BitVec 1 :=
  let c0_i32_16 : BitVec 32 := 0#32
  let c1_i32_18 : BitVec 32 := 1#32
  let arg18 : BitVec 32 := Scf.iv c0_i32_16 c1_i32_18 k0_t1
  let c1_i32_29 : BitVec 32 := 1#32
  let v51 : BitVec 32 := Scalar.andi arg18 c1_i32_29
  let c1_i32_30 : BitVec 32 := 1#32
  let v52 : BitVec 1 := Scalar.cmpi .eq v51 c1_i32_30
  let v53 : BitVec 32 := Scalar.extui v52
  let c0_i32_31 : BitVec 32 := 0#32
  let v54 : BitVec 1 := Scalar.cmpi .ne v53 c0_i32_31
  v54

def k0_off7 (i : grid0.Coords) (k0_t1 : Fin (k0_t1_loop i).trips) : Fin 2 → Nat :=
  let c0_i32_41 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let c5_i32 : BitVec 32 := 5#32
  let v3 : BitVec 32 := Scalar.muli c5_i32 v1
  let c4_i32 : BitVec 32 := 4#32
  let v4 : BitVec 32 := Scalar.muli c4_i32 v1
  let c28_i32_0 : BitVec 32 := 28#32
  let v5 : BitVec 32 := Scalar.addi v4 c28_i32_0
  let v6 : BitVec 32 := Scalar.select v2 v3 v5
  let c3584_i32_39 : BitVec 32 := 3584#32
  let v73 : BitVec 32 := Scalar.muli v6 c3584_i32_39
  let c0_i32_16 : BitVec 32 := 0#32
  let c1_i32_18 : BitVec 32 := 1#32
  let arg18 : BitVec 32 := Scf.iv c0_i32_16 c1_i32_18 k0_t1
  let c1792_i32_40 : BitVec 32 := 1792#32
  let v74 : BitVec 32 := Scalar.muli arg18 c1792_i32_40
  let v75 : BitVec 32 := Scalar.addi v73 v74
  ![0, v75.toNat]
@[reducible] def k0_t3_loop : Scf.Loop 32 :=
  let c0_i32_45 : BitVec 32 := 0#32
  let c32_i32 : BitVec 32 := 32#32
  let v80 : BitVec 32 := Scalar.addi c0_i32_45 c32_i32
  let c1_i32_46 : BitVec 32 := 1#32
  ⟨c0_i32_45, v80, c1_i32_46⟩

def k0_chk35 (i : grid0.Coords) (k0_t1 : Fin (k0_t1_loop i).trips) (v146 : IVec S16 32) (v155 : IVec S16 32) : Prop :=
  (∀ (k0_h6 : k0_cond6 i k0_t1 = 1#1), ∀ a x, ((![v146, v155] : Fin 2 → IVec S16 32) a x).toNat < S8x1792.size a)
theorem k0_idx41_inb : ∀ (i : grid0.Coords) (k0_t1 : Fin (k0_t1_loop i).trips) (v146 : IVec S16 32) (v155 : IVec S16 32) (k0_hw35 : k0_chk35 i k0_t1 v146 v155), ∀ (k0_h6 : k0_cond6 i k0_t1 = 1#1), ∀ a x, ((![v146, v155] : Fin 2 → IVec S16 32) a x).toNat < S8x1792.size a := fun i k0_t1 v146 v155 k0_hw35 k0_h6 => k0_hw35 k0_h6

def k0_chk36 (i : grid0.Coords) (k0_t1 : Fin (k0_t1_loop i).trips) (v146 : IVec S16 32) (v158 : IVec S16 32) : Prop :=
  (∀ (k0_h6 : k0_cond6 i k0_t1 = 1#1), ∀ a x, ((![v146, v158] : Fin 2 → IVec S16 32) a x).toNat < S8x1792.size a)
theorem k0_idx42_inb : ∀ (i : grid0.Coords) (k0_t1 : Fin (k0_t1_loop i).trips) (v146 : IVec S16 32) (v158 : IVec S16 32) (k0_hw36 : k0_chk36 i k0_t1 v146 v158), ∀ (k0_h6 : k0_cond6 i k0_t1 = 1#1), ∀ a x, ((![v146, v158] : Fin 2 → IVec S16 32) a x).toNat < S8x1792.size a := fun i k0_t1 v146 v158 k0_hw36 k0_h6 => k0_hw36 k0_h6

def k0_chk37 (i : grid0.Coords) (k0_t1 : Fin (k0_t1_loop i).trips) (v146 : IVec S16 32) (v161 : IVec S16 32) : Prop :=
  (∀ (k0_h6 : k0_cond6 i k0_t1 = 1#1), ∀ a x, ((![v146, v161] : Fin 2 → IVec S16 32) a x).toNat < S8x1792.size a)
theorem k0_idx43_inb : ∀ (i : grid0.Coords) (k0_t1 : Fin (k0_t1_loop i).trips) (v146 : IVec S16 32) (v161 : IVec S16 32) (k0_hw37 : k0_chk37 i k0_t1 v146 v161), ∀ (k0_h6 : k0_cond6 i k0_t1 = 1#1), ∀ a x, ((![v146, v161] : Fin 2 → IVec S16 32) a x).toNat < S8x1792.size a := fun i k0_t1 v146 v161 k0_hw37 k0_h6 => k0_hw37 k0_h6

def k0_chk38 (i : grid0.Coords) (k0_t1 : Fin (k0_t1_loop i).trips) (v146 : IVec S16 32) (v164 : IVec S16 32) : Prop :=
  (∀ (k0_h6 : k0_cond6 i k0_t1 = 1#1), ∀ a x, ((![v146, v164] : Fin 2 → IVec S16 32) a x).toNat < S8x1792.size a)
theorem k0_idx44_inb : ∀ (i : grid0.Coords) (k0_t1 : Fin (k0_t1_loop i).trips) (v146 : IVec S16 32) (v164 : IVec S16 32) (k0_hw38 : k0_chk38 i k0_t1 v146 v164), ∀ (k0_h6 : k0_cond6 i k0_t1 = 1#1), ∀ a x, ((![v146, v164] : Fin 2 → IVec S16 32) a x).toNat < S8x1792.size a := fun i k0_t1 v146 v164 k0_hw38 k0_h6 => k0_hw38 k0_h6

def k0_chk39 (i : grid0.Coords) (k0_t1 : Fin (k0_t1_loop i).trips) (v146 : IVec S16 32) (v167 : IVec S16 32) : Prop :=
  (∀ (k0_h6 : k0_cond6 i k0_t1 = 1#1), ∀ a x, ((![v146, v167] : Fin 2 → IVec S16 32) a x).toNat < S8x1792.size a)
theorem k0_idx45_inb : ∀ (i : grid0.Coords) (k0_t1 : Fin (k0_t1_loop i).trips) (v146 : IVec S16 32) (v167 : IVec S16 32) (k0_hw39 : k0_chk39 i k0_t1 v146 v167), ∀ (k0_h6 : k0_cond6 i k0_t1 = 1#1), ∀ a x, ((![v146, v167] : Fin 2 → IVec S16 32) a x).toNat < S8x1792.size a := fun i k0_t1 v146 v167 k0_hw39 k0_h6 => k0_hw39 k0_h6

def k0_chk40 (i : grid0.Coords) (k0_t1 : Fin (k0_t1_loop i).trips) (v146 : IVec S16 32) (v170 : IVec S16 32) : Prop :=
  (∀ (k0_h6 : k0_cond6 i k0_t1 = 1#1), ∀ a x, ((![v146, v170] : Fin 2 → IVec S16 32) a x).toNat < S8x1792.size a)
theorem k0_idx46_inb : ∀ (i : grid0.Coords) (k0_t1 : Fin (k0_t1_loop i).trips) (v146 : IVec S16 32) (v170 : IVec S16 32) (k0_hw40 : k0_chk40 i k0_t1 v146 v170), ∀ (k0_h6 : k0_cond6 i k0_t1 = 1#1), ∀ a x, ((![v146, v170] : Fin 2 → IVec S16 32) a x).toNat < S8x1792.size a := fun i k0_t1 v146 v170 k0_hw40 k0_h6 => k0_hw40 k0_h6

def k0_chk41 (i : grid0.Coords) (k0_t1 : Fin (k0_t1_loop i).trips) (v146 : IVec S16 32) (v173 : IVec S16 32) : Prop :=
  (∀ (k0_h6 : k0_cond6 i k0_t1 = 1#1), ∀ a x, ((![v146, v173] : Fin 2 → IVec S16 32) a x).toNat < S8x1792.size a)
theorem k0_idx47_inb : ∀ (i : grid0.Coords) (k0_t1 : Fin (k0_t1_loop i).trips) (v146 : IVec S16 32) (v173 : IVec S16 32) (k0_hw41 : k0_chk41 i k0_t1 v146 v173), ∀ (k0_h6 : k0_cond6 i k0_t1 = 1#1), ∀ a x, ((![v146, v173] : Fin 2 → IVec S16 32) a x).toNat < S8x1792.size a := fun i k0_t1 v146 v173 k0_hw41 k0_h6 => k0_hw41 k0_h6

def k0_chk42 (i : grid0.Coords) (k0_t1 : Fin (k0_t1_loop i).trips) (v146 : IVec S16 32) (v176 : IVec S16 32) : Prop :=
  (∀ (k0_h6 : k0_cond6 i k0_t1 = 1#1), ∀ a x, ((![v146, v176] : Fin 2 → IVec S16 32) a x).toNat < S8x1792.size a)
theorem k0_idx48_inb : ∀ (i : grid0.Coords) (k0_t1 : Fin (k0_t1_loop i).trips) (v146 : IVec S16 32) (v176 : IVec S16 32) (k0_hw42 : k0_chk42 i k0_t1 v146 v176), ∀ (k0_h6 : k0_cond6 i k0_t1 = 1#1), ∀ a x, ((![v146, v176] : Fin 2 → IVec S16 32) a x).toNat < S8x1792.size a := fun i k0_t1 v146 v176 k0_hw42 k0_h6 => k0_hw42 k0_h6

def k0_chk43 (i : grid0.Coords) (k0_t1 : Fin (k0_t1_loop i).trips) (v146 : IVec S16 32) (v179 : IVec S16 32) : Prop :=
  (∀ (k0_h6 : k0_cond6 i k0_t1 = 1#1), ∀ a x, ((![v146, v179] : Fin 2 → IVec S16 32) a x).toNat < S8x1792.size a)
theorem k0_idx49_inb : ∀ (i : grid0.Coords) (k0_t1 : Fin (k0_t1_loop i).trips) (v146 : IVec S16 32) (v179 : IVec S16 32) (k0_hw43 : k0_chk43 i k0_t1 v146 v179), ∀ (k0_h6 : k0_cond6 i k0_t1 = 1#1), ∀ a x, ((![v146, v179] : Fin 2 → IVec S16 32) a x).toNat < S8x1792.size a := fun i k0_t1 v146 v179 k0_hw43 k0_h6 => k0_hw43 k0_h6

def k0_chk44 (i : grid0.Coords) (k0_t1 : Fin (k0_t1_loop i).trips) (v146 : IVec S16 32) (v182 : IVec S16 32) : Prop :=
  (∀ (k0_h6 : k0_cond6 i k0_t1 = 1#1), ∀ a x, ((![v146, v182] : Fin 2 → IVec S16 32) a x).toNat < S8x1792.size a)
theorem k0_idx50_inb : ∀ (i : grid0.Coords) (k0_t1 : Fin (k0_t1_loop i).trips) (v146 : IVec S16 32) (v182 : IVec S16 32) (k0_hw44 : k0_chk44 i k0_t1 v146 v182), ∀ (k0_h6 : k0_cond6 i k0_t1 = 1#1), ∀ a x, ((![v146, v182] : Fin 2 → IVec S16 32) a x).toNat < S8x1792.size a := fun i k0_t1 v146 v182 k0_hw44 k0_h6 => k0_hw44 k0_h6

def k0_chk45 (i : grid0.Coords) (k0_t1 : Fin (k0_t1_loop i).trips) (v146 : IVec S16 32) (v185 : IVec S16 32) : Prop :=
  (∀ (k0_h6 : k0_cond6 i k0_t1 = 1#1), ∀ a x, ((![v146, v185] : Fin 2 → IVec S16 32) a x).toNat < S8x1792.size a)
theorem k0_idx51_inb : ∀ (i : grid0.Coords) (k0_t1 : Fin (k0_t1_loop i).trips) (v146 : IVec S16 32) (v185 : IVec S16 32) (k0_hw45 : k0_chk45 i k0_t1 v146 v185), ∀ (k0_h6 : k0_cond6 i k0_t1 = 1#1), ∀ a x, ((![v146, v185] : Fin 2 → IVec S16 32) a x).toNat < S8x1792.size a := fun i k0_t1 v146 v185 k0_hw45 k0_h6 => k0_hw45 k0_h6

def k0_chk46 (i : grid0.Coords) (k0_t1 : Fin (k0_t1_loop i).trips) (v146 : IVec S16 32) (v188 : IVec S16 32) : Prop :=
  (∀ (k0_h6 : k0_cond6 i k0_t1 = 1#1), ∀ a x, ((![v146, v188] : Fin 2 → IVec S16 32) a x).toNat < S8x1792.size a)
theorem k0_idx52_inb : ∀ (i : grid0.Coords) (k0_t1 : Fin (k0_t1_loop i).trips) (v146 : IVec S16 32) (v188 : IVec S16 32) (k0_hw46 : k0_chk46 i k0_t1 v146 v188), ∀ (k0_h6 : k0_cond6 i k0_t1 = 1#1), ∀ a x, ((![v146, v188] : Fin 2 → IVec S16 32) a x).toNat < S8x1792.size a := fun i k0_t1 v146 v188 k0_hw46 k0_h6 => k0_hw46 k0_h6

def k0_chk47 (i : grid0.Coords) (k0_t1 : Fin (k0_t1_loop i).trips) (v146 : IVec S16 32) (v191 : IVec S16 32) : Prop :=
  (∀ (k0_h6 : k0_cond6 i k0_t1 = 1#1), ∀ a x, ((![v146, v191] : Fin 2 → IVec S16 32) a x).toNat < S8x1792.size a)
theorem k0_idx53_inb : ∀ (i : grid0.Coords) (k0_t1 : Fin (k0_t1_loop i).trips) (v146 : IVec S16 32) (v191 : IVec S16 32) (k0_hw47 : k0_chk47 i k0_t1 v146 v191), ∀ (k0_h6 : k0_cond6 i k0_t1 = 1#1), ∀ a x, ((![v146, v191] : Fin 2 → IVec S16 32) a x).toNat < S8x1792.size a := fun i k0_t1 v146 v191 k0_hw47 k0_h6 => k0_hw47 k0_h6

def k0_chk48 (i : grid0.Coords) (k0_t1 : Fin (k0_t1_loop i).trips) (v146 : IVec S16 32) (v194 : IVec S16 32) : Prop :=
  (∀ (k0_h6 : k0_cond6 i k0_t1 = 1#1), ∀ a x, ((![v146, v194] : Fin 2 → IVec S16 32) a x).toNat < S8x1792.size a)
theorem k0_idx54_inb : ∀ (i : grid0.Coords) (k0_t1 : Fin (k0_t1_loop i).trips) (v146 : IVec S16 32) (v194 : IVec S16 32) (k0_hw48 : k0_chk48 i k0_t1 v146 v194), ∀ (k0_h6 : k0_cond6 i k0_t1 = 1#1), ∀ a x, ((![v146, v194] : Fin 2 → IVec S16 32) a x).toNat < S8x1792.size a := fun i k0_t1 v146 v194 k0_hw48 k0_h6 => k0_hw48 k0_h6

def k0_chk49 (i : grid0.Coords) (k0_t1 : Fin (k0_t1_loop i).trips) (v146 : IVec S16 32) (v197 : IVec S16 32) : Prop :=
  (∀ (k0_h6 : k0_cond6 i k0_t1 = 1#1), ∀ a x, ((![v146, v197] : Fin 2 → IVec S16 32) a x).toNat < S8x1792.size a)
theorem k0_idx55_inb : ∀ (i : grid0.Coords) (k0_t1 : Fin (k0_t1_loop i).trips) (v146 : IVec S16 32) (v197 : IVec S16 32) (k0_hw49 : k0_chk49 i k0_t1 v146 v197), ∀ (k0_h6 : k0_cond6 i k0_t1 = 1#1), ∀ a x, ((![v146, v197] : Fin 2 → IVec S16 32) a x).toNat < S8x1792.size a := fun i k0_t1 v146 v197 k0_hw49 k0_h6 => k0_hw49 k0_h6

def k0_chk50 (i : grid0.Coords) (k0_t1 : Fin (k0_t1_loop i).trips) (v146 : IVec S16 32) (v200 : IVec S16 32) : Prop :=
  (∀ (k0_h6 : k0_cond6 i k0_t1 = 1#1), ∀ a x, ((![v146, v200] : Fin 2 → IVec S16 32) a x).toNat < S8x1792.size a)
theorem k0_idx56_inb : ∀ (i : grid0.Coords) (k0_t1 : Fin (k0_t1_loop i).trips) (v146 : IVec S16 32) (v200 : IVec S16 32) (k0_hw50 : k0_chk50 i k0_t1 v146 v200), ∀ (k0_h6 : k0_cond6 i k0_t1 = 1#1), ∀ a x, ((![v146, v200] : Fin 2 → IVec S16 32) a x).toNat < S8x1792.size a := fun i k0_t1 v146 v200 k0_hw50 k0_h6 => k0_hw50 k0_h6

def k0_chk51 (i : grid0.Coords) (k0_t1 : Fin (k0_t1_loop i).trips) (v146 : IVec S16 32) (v203 : IVec S16 32) : Prop :=
  (∀ (k0_h6 : k0_cond6 i k0_t1 = 1#1), ∀ a x, ((![v146, v203] : Fin 2 → IVec S16 32) a x).toNat < S8x1792.size a)
theorem k0_idx57_inb : ∀ (i : grid0.Coords) (k0_t1 : Fin (k0_t1_loop i).trips) (v146 : IVec S16 32) (v203 : IVec S16 32) (k0_hw51 : k0_chk51 i k0_t1 v146 v203), ∀ (k0_h6 : k0_cond6 i k0_t1 = 1#1), ∀ a x, ((![v146, v203] : Fin 2 → IVec S16 32) a x).toNat < S8x1792.size a := fun i k0_t1 v146 v203 k0_hw51 k0_h6 => k0_hw51 k0_h6

def k0_chk52 (i : grid0.Coords) (k0_t1 : Fin (k0_t1_loop i).trips) (v146 : IVec S16 32) (v206 : IVec S16 32) : Prop :=
  (∀ (k0_h6 : k0_cond6 i k0_t1 = 1#1), ∀ a x, ((![v146, v206] : Fin 2 → IVec S16 32) a x).toNat < S8x1792.size a)
theorem k0_idx58_inb : ∀ (i : grid0.Coords) (k0_t1 : Fin (k0_t1_loop i).trips) (v146 : IVec S16 32) (v206 : IVec S16 32) (k0_hw52 : k0_chk52 i k0_t1 v146 v206), ∀ (k0_h6 : k0_cond6 i k0_t1 = 1#1), ∀ a x, ((![v146, v206] : Fin 2 → IVec S16 32) a x).toNat < S8x1792.size a := fun i k0_t1 v146 v206 k0_hw52 k0_h6 => k0_hw52 k0_h6

def k0_chk53 (i : grid0.Coords) (k0_t1 : Fin (k0_t1_loop i).trips) (v146 : IVec S16 32) (v209 : IVec S16 32) : Prop :=
  (∀ (k0_h6 : k0_cond6 i k0_t1 = 1#1), ∀ a x, ((![v146, v209] : Fin 2 → IVec S16 32) a x).toNat < S8x1792.size a)
theorem k0_idx59_inb : ∀ (i : grid0.Coords) (k0_t1 : Fin (k0_t1_loop i).trips) (v146 : IVec S16 32) (v209 : IVec S16 32) (k0_hw53 : k0_chk53 i k0_t1 v146 v209), ∀ (k0_h6 : k0_cond6 i k0_t1 = 1#1), ∀ a x, ((![v146, v209] : Fin 2 → IVec S16 32) a x).toNat < S8x1792.size a := fun i k0_t1 v146 v209 k0_hw53 k0_h6 => k0_hw53 k0_h6

def k0_chk54 (i : grid0.Coords) (k0_t1 : Fin (k0_t1_loop i).trips) (v146 : IVec S16 32) (v212 : IVec S16 32) : Prop :=
  (∀ (k0_h6 : k0_cond6 i k0_t1 = 1#1), ∀ a x, ((![v146, v212] : Fin 2 → IVec S16 32) a x).toNat < S8x1792.size a)
theorem k0_idx60_inb : ∀ (i : grid0.Coords) (k0_t1 : Fin (k0_t1_loop i).trips) (v146 : IVec S16 32) (v212 : IVec S16 32) (k0_hw54 : k0_chk54 i k0_t1 v146 v212), ∀ (k0_h6 : k0_cond6 i k0_t1 = 1#1), ∀ a x, ((![v146, v212] : Fin 2 → IVec S16 32) a x).toNat < S8x1792.size a := fun i k0_t1 v146 v212 k0_hw54 k0_h6 => k0_hw54 k0_h6

def k0_chk55 (i : grid0.Coords) (k0_t1 : Fin (k0_t1_loop i).trips) (v146 : IVec S16 32) (v215 : IVec S16 32) : Prop :=
  (∀ (k0_h6 : k0_cond6 i k0_t1 = 1#1), ∀ a x, ((![v146, v215] : Fin 2 → IVec S16 32) a x).toNat < S8x1792.size a)
theorem k0_idx61_inb : ∀ (i : grid0.Coords) (k0_t1 : Fin (k0_t1_loop i).trips) (v146 : IVec S16 32) (v215 : IVec S16 32) (k0_hw55 : k0_chk55 i k0_t1 v146 v215), ∀ (k0_h6 : k0_cond6 i k0_t1 = 1#1), ∀ a x, ((![v146, v215] : Fin 2 → IVec S16 32) a x).toNat < S8x1792.size a := fun i k0_t1 v146 v215 k0_hw55 k0_h6 => k0_hw55 k0_h6

def k0_chk56 (i : grid0.Coords) (k0_t1 : Fin (k0_t1_loop i).trips) (v146 : IVec S16 32) (v218 : IVec S16 32) : Prop :=
  (∀ (k0_h6 : k0_cond6 i k0_t1 = 1#1), ∀ a x, ((![v146, v218] : Fin 2 → IVec S16 32) a x).toNat < S8x1792.size a)
theorem k0_idx62_inb : ∀ (i : grid0.Coords) (k0_t1 : Fin (k0_t1_loop i).trips) (v146 : IVec S16 32) (v218 : IVec S16 32) (k0_hw56 : k0_chk56 i k0_t1 v146 v218), ∀ (k0_h6 : k0_cond6 i k0_t1 = 1#1), ∀ a x, ((![v146, v218] : Fin 2 → IVec S16 32) a x).toNat < S8x1792.size a := fun i k0_t1 v146 v218 k0_hw56 k0_h6 => k0_hw56 k0_h6

def k0_chk57 (i : grid0.Coords) (k0_t1 : Fin (k0_t1_loop i).trips) (v146 : IVec S16 32) (v221 : IVec S16 32) : Prop :=
  (∀ (k0_h6 : k0_cond6 i k0_t1 = 1#1), ∀ a x, ((![v146, v221] : Fin 2 → IVec S16 32) a x).toNat < S8x1792.size a)
theorem k0_idx63_inb : ∀ (i : grid0.Coords) (k0_t1 : Fin (k0_t1_loop i).trips) (v146 : IVec S16 32) (v221 : IVec S16 32) (k0_hw57 : k0_chk57 i k0_t1 v146 v221), ∀ (k0_h6 : k0_cond6 i k0_t1 = 1#1), ∀ a x, ((![v146, v221] : Fin 2 → IVec S16 32) a x).toNat < S8x1792.size a := fun i k0_t1 v146 v221 k0_hw57 k0_h6 => k0_hw57 k0_h6

def k0_chk58 (i : grid0.Coords) (k0_t1 : Fin (k0_t1_loop i).trips) (v146 : IVec S16 32) (v224 : IVec S16 32) : Prop :=
  (∀ (k0_h6 : k0_cond6 i k0_t1 = 1#1), ∀ a x, ((![v146, v224] : Fin 2 → IVec S16 32) a x).toNat < S8x1792.size a)
theorem k0_idx64_inb : ∀ (i : grid0.Coords) (k0_t1 : Fin (k0_t1_loop i).trips) (v146 : IVec S16 32) (v224 : IVec S16 32) (k0_hw58 : k0_chk58 i k0_t1 v146 v224), ∀ (k0_h6 : k0_cond6 i k0_t1 = 1#1), ∀ a x, ((![v146, v224] : Fin 2 → IVec S16 32) a x).toNat < S8x1792.size a := fun i k0_t1 v146 v224 k0_hw58 k0_h6 => k0_hw58 k0_h6

def k0_chk59 (i : grid0.Coords) (k0_t1 : Fin (k0_t1_loop i).trips) (v146 : IVec S16 32) (v227 : IVec S16 32) : Prop :=
  (∀ (k0_h6 : k0_cond6 i k0_t1 = 1#1), ∀ a x, ((![v146, v227] : Fin 2 → IVec S16 32) a x).toNat < S8x1792.size a)
theorem k0_idx65_inb : ∀ (i : grid0.Coords) (k0_t1 : Fin (k0_t1_loop i).trips) (v146 : IVec S16 32) (v227 : IVec S16 32) (k0_hw59 : k0_chk59 i k0_t1 v146 v227), ∀ (k0_h6 : k0_cond6 i k0_t1 = 1#1), ∀ a x, ((![v146, v227] : Fin 2 → IVec S16 32) a x).toNat < S8x1792.size a := fun i k0_t1 v146 v227 k0_hw59 k0_h6 => k0_hw59 k0_h6

def k0_chk60 (i : grid0.Coords) (k0_t1 : Fin (k0_t1_loop i).trips) (v146 : IVec S16 32) (v230 : IVec S16 32) : Prop :=
  (∀ (k0_h6 : k0_cond6 i k0_t1 = 1#1), ∀ a x, ((![v146, v230] : Fin 2 → IVec S16 32) a x).toNat < S8x1792.size a)
theorem k0_idx66_inb : ∀ (i : grid0.Coords) (k0_t1 : Fin (k0_t1_loop i).trips) (v146 : IVec S16 32) (v230 : IVec S16 32) (k0_hw60 : k0_chk60 i k0_t1 v146 v230), ∀ (k0_h6 : k0_cond6 i k0_t1 = 1#1), ∀ a x, ((![v146, v230] : Fin 2 → IVec S16 32) a x).toNat < S8x1792.size a := fun i k0_t1 v146 v230 k0_hw60 k0_h6 => k0_hw60 k0_h6

def k0_chk61 (i : grid0.Coords) (k0_t1 : Fin (k0_t1_loop i).trips) (v146 : IVec S16 32) (v233 : IVec S16 32) : Prop :=
  (∀ (k0_h6 : k0_cond6 i k0_t1 = 1#1), ∀ a x, ((![v146, v233] : Fin 2 → IVec S16 32) a x).toNat < S8x1792.size a)
theorem k0_idx67_inb : ∀ (i : grid0.Coords) (k0_t1 : Fin (k0_t1_loop i).trips) (v146 : IVec S16 32) (v233 : IVec S16 32) (k0_hw61 : k0_chk61 i k0_t1 v146 v233), ∀ (k0_h6 : k0_cond6 i k0_t1 = 1#1), ∀ a x, ((![v146, v233] : Fin 2 → IVec S16 32) a x).toNat < S8x1792.size a := fun i k0_t1 v146 v233 k0_hw61 k0_h6 => k0_hw61 k0_h6

def k0_chk62 (i : grid0.Coords) (k0_t1 : Fin (k0_t1_loop i).trips) (v146 : IVec S16 32) (v236 : IVec S16 32) : Prop :=
  (∀ (k0_h6 : k0_cond6 i k0_t1 = 1#1), ∀ a x, ((![v146, v236] : Fin 2 → IVec S16 32) a x).toNat < S8x1792.size a)
theorem k0_idx68_inb : ∀ (i : grid0.Coords) (k0_t1 : Fin (k0_t1_loop i).trips) (v146 : IVec S16 32) (v236 : IVec S16 32) (k0_hw62 : k0_chk62 i k0_t1 v146 v236), ∀ (k0_h6 : k0_cond6 i k0_t1 = 1#1), ∀ a x, ((![v146, v236] : Fin 2 → IVec S16 32) a x).toNat < S8x1792.size a := fun i k0_t1 v146 v236 k0_hw62 k0_h6 => k0_hw62 k0_h6

def k0_chk63 (i : grid0.Coords) (k0_t1 : Fin (k0_t1_loop i).trips) (v146 : IVec S16 32) (v317 : IVec S16 32) : Prop :=
  (∀ (k0_h6 : k0_cond6 i k0_t1 = 1#1), ∀ a x, ((![v146, v317] : Fin 2 → IVec S16 32) a x).toNat < S8x1792.size a)
theorem k0_idx69_inb : ∀ (i : grid0.Coords) (k0_t1 : Fin (k0_t1_loop i).trips) (v146 : IVec S16 32) (v317 : IVec S16 32) (k0_hw63 : k0_chk63 i k0_t1 v146 v317), ∀ (k0_h6 : k0_cond6 i k0_t1 = 1#1), ∀ a x, ((![v146, v317] : Fin 2 → IVec S16 32) a x).toNat < S8x1792.size a := fun i k0_t1 v146 v317 k0_hw63 k0_h6 => k0_hw63 k0_h6

def k0_chk64 (i : grid0.Coords) (k0_t1 : Fin (k0_t1_loop i).trips) (v146 : IVec S16 32) (v408 : IVec S16 32) : Prop :=
  (∀ (k0_h6 : k0_cond6 i k0_t1 = 1#1), ∀ a x, ((![v146, v408] : Fin 2 → IVec S16 32) a x).toNat < S8x1792.size a)
theorem k0_idx70_inb : ∀ (i : grid0.Coords) (k0_t1 : Fin (k0_t1_loop i).trips) (v146 : IVec S16 32) (v408 : IVec S16 32) (k0_hw64 : k0_chk64 i k0_t1 v146 v408), ∀ (k0_h6 : k0_cond6 i k0_t1 = 1#1), ∀ a x, ((![v146, v408] : Fin 2 → IVec S16 32) a x).toNat < S8x1792.size a := fun i k0_t1 v146 v408 k0_hw64 k0_h6 => k0_hw64 k0_h6

def k0_chk65 (i : grid0.Coords) (k0_t1 : Fin (k0_t1_loop i).trips) (v146 : IVec S16 32) (v500 : IVec S16 32) : Prop :=
  (∀ (k0_h6 : k0_cond6 i k0_t1 = 1#1), ∀ a x, ((![v146, v500] : Fin 2 → IVec S16 32) a x).toNat < S8x1792.size a)
theorem k0_idx71_inb : ∀ (i : grid0.Coords) (k0_t1 : Fin (k0_t1_loop i).trips) (v146 : IVec S16 32) (v500 : IVec S16 32) (k0_hw65 : k0_chk65 i k0_t1 v146 v500), ∀ (k0_h6 : k0_cond6 i k0_t1 = 1#1), ∀ a x, ((![v146, v500] : Fin 2 → IVec S16 32) a x).toNat < S8x1792.size a := fun i k0_t1 v146 v500 k0_hw65 k0_h6 => k0_hw65 k0_h6

def k0_chk66 (i : grid0.Coords) (k0_t1 : Fin (k0_t1_loop i).trips) (v146 : IVec S16 32) (v592 : IVec S16 32) : Prop :=
  (∀ (k0_h6 : k0_cond6 i k0_t1 = 1#1), ∀ a x, ((![v146, v592] : Fin 2 → IVec S16 32) a x).toNat < S8x1792.size a)
theorem k0_idx72_inb : ∀ (i : grid0.Coords) (k0_t1 : Fin (k0_t1_loop i).trips) (v146 : IVec S16 32) (v592 : IVec S16 32) (k0_hw66 : k0_chk66 i k0_t1 v146 v592), ∀ (k0_h6 : k0_cond6 i k0_t1 = 1#1), ∀ a x, ((![v146, v592] : Fin 2 → IVec S16 32) a x).toNat < S8x1792.size a := fun i k0_t1 v146 v592 k0_hw66 k0_h6 => k0_hw66 k0_h6

def k0_chk67 (i : grid0.Coords) (k0_t1 : Fin (k0_t1_loop i).trips) (v146 : IVec S16 32) (v605 : IVec S16 32) (v606 : IVec S16 32) (v607 : IVec S16 32) (v608 : IVec S16 32) (v611 : IVec S16 32) : Prop :=
  (∀ (k0_h6 : k0_cond6 i k0_t1 = 1#1), ∀ a x, ((![v146, v605, v611] : Fin 3 → IVec S16 32) a x).toNat < S8x4x640.size a) ∧
  (∀ (k0_h6 : k0_cond6 i k0_t1 = 1#1), ∀ a x, ((![v146, v606, v611] : Fin 3 → IVec S16 32) a x).toNat < S8x4x640.size a) ∧
  (∀ (k0_h6 : k0_cond6 i k0_t1 = 1#1), ∀ a x, ((![v146, v607, v611] : Fin 3 → IVec S16 32) a x).toNat < S8x4x640.size a) ∧
  (∀ (k0_h6 : k0_cond6 i k0_t1 = 1#1), ∀ a x, ((![v146, v608, v611] : Fin 3 → IVec S16 32) a x).toNat < S8x4x640.size a)
theorem k0_idx73_inb : ∀ (i : grid0.Coords) (k0_t1 : Fin (k0_t1_loop i).trips) (v146 : IVec S16 32) (v605 : IVec S16 32) (v606 : IVec S16 32) (v607 : IVec S16 32) (v608 : IVec S16 32) (v611 : IVec S16 32) (k0_hw67 : k0_chk67 i k0_t1 v146 v605 v606 v607 v608 v611), ∀ (k0_h6 : k0_cond6 i k0_t1 = 1#1), ∀ a x, ((![v146, v605, v611] : Fin 3 → IVec S16 32) a x).toNat < S8x4x640.size a := fun i k0_t1 v146 v605 v606 v607 v608 v611 k0_hw67 k0_h6 => k0_hw67.1 k0_h6
theorem k0_idx74_inb : ∀ (i : grid0.Coords) (k0_t1 : Fin (k0_t1_loop i).trips) (v146 : IVec S16 32) (v605 : IVec S16 32) (v606 : IVec S16 32) (v607 : IVec S16 32) (v608 : IVec S16 32) (v611 : IVec S16 32) (k0_hw67 : k0_chk67 i k0_t1 v146 v605 v606 v607 v608 v611), ∀ (k0_h6 : k0_cond6 i k0_t1 = 1#1), ∀ a x, ((![v146, v606, v611] : Fin 3 → IVec S16 32) a x).toNat < S8x4x640.size a := fun i k0_t1 v146 v605 v606 v607 v608 v611 k0_hw67 k0_h6 => k0_hw67.2.1 k0_h6
theorem k0_idx75_inb : ∀ (i : grid0.Coords) (k0_t1 : Fin (k0_t1_loop i).trips) (v146 : IVec S16 32) (v605 : IVec S16 32) (v606 : IVec S16 32) (v607 : IVec S16 32) (v608 : IVec S16 32) (v611 : IVec S16 32) (k0_hw67 : k0_chk67 i k0_t1 v146 v605 v606 v607 v608 v611), ∀ (k0_h6 : k0_cond6 i k0_t1 = 1#1), ∀ a x, ((![v146, v607, v611] : Fin 3 → IVec S16 32) a x).toNat < S8x4x640.size a := fun i k0_t1 v146 v605 v606 v607 v608 v611 k0_hw67 k0_h6 => k0_hw67.2.2.1 k0_h6
theorem k0_idx76_inb : ∀ (i : grid0.Coords) (k0_t1 : Fin (k0_t1_loop i).trips) (v146 : IVec S16 32) (v605 : IVec S16 32) (v606 : IVec S16 32) (v607 : IVec S16 32) (v608 : IVec S16 32) (v611 : IVec S16 32) (k0_hw67 : k0_chk67 i k0_t1 v146 v605 v606 v607 v608 v611), ∀ (k0_h6 : k0_cond6 i k0_t1 = 1#1), ∀ a x, ((![v146, v608, v611] : Fin 3 → IVec S16 32) a x).toNat < S8x4x640.size a := fun i k0_t1 v146 v605 v606 v607 v608 v611 k0_hw67 k0_h6 => k0_hw67.2.2.2 k0_h6

def k0_chk68 (i : grid0.Coords) (k0_t1 : Fin (k0_t1_loop i).trips) (v146 : IVec S16 32) (v660 : IVec S16 32) (v661 : IVec S16 32) (v662 : IVec S16 32) (v663 : IVec S16 32) (v666 : IVec S16 32) : Prop :=
  (∀ (k0_h6 : k0_cond6 i k0_t1 = 1#1), ∀ a x, ((![v146, v660, v666] : Fin 3 → IVec S16 32) a x).toNat < S8x4x128.size a) ∧
  (∀ (k0_h6 : k0_cond6 i k0_t1 = 1#1), ∀ a x, ((![v146, v661, v666] : Fin 3 → IVec S16 32) a x).toNat < S8x4x128.size a) ∧
  (∀ (k0_h6 : k0_cond6 i k0_t1 = 1#1), ∀ a x, ((![v146, v662, v666] : Fin 3 → IVec S16 32) a x).toNat < S8x4x128.size a) ∧
  (∀ (k0_h6 : k0_cond6 i k0_t1 = 1#1), ∀ a x, ((![v146, v663, v666] : Fin 3 → IVec S16 32) a x).toNat < S8x4x128.size a)
theorem k0_idx77_inb : ∀ (i : grid0.Coords) (k0_t1 : Fin (k0_t1_loop i).trips) (v146 : IVec S16 32) (v660 : IVec S16 32) (v661 : IVec S16 32) (v662 : IVec S16 32) (v663 : IVec S16 32) (v666 : IVec S16 32) (k0_hw68 : k0_chk68 i k0_t1 v146 v660 v661 v662 v663 v666), ∀ (k0_h6 : k0_cond6 i k0_t1 = 1#1), ∀ a x, ((![v146, v660, v666] : Fin 3 → IVec S16 32) a x).toNat < S8x4x128.size a := fun i k0_t1 v146 v660 v661 v662 v663 v666 k0_hw68 k0_h6 => k0_hw68.1 k0_h6
theorem k0_idx78_inb : ∀ (i : grid0.Coords) (k0_t1 : Fin (k0_t1_loop i).trips) (v146 : IVec S16 32) (v660 : IVec S16 32) (v661 : IVec S16 32) (v662 : IVec S16 32) (v663 : IVec S16 32) (v666 : IVec S16 32) (k0_hw68 : k0_chk68 i k0_t1 v146 v660 v661 v662 v663 v666), ∀ (k0_h6 : k0_cond6 i k0_t1 = 1#1), ∀ a x, ((![v146, v661, v666] : Fin 3 → IVec S16 32) a x).toNat < S8x4x128.size a := fun i k0_t1 v146 v660 v661 v662 v663 v666 k0_hw68 k0_h6 => k0_hw68.2.1 k0_h6
theorem k0_idx79_inb : ∀ (i : grid0.Coords) (k0_t1 : Fin (k0_t1_loop i).trips) (v146 : IVec S16 32) (v660 : IVec S16 32) (v661 : IVec S16 32) (v662 : IVec S16 32) (v663 : IVec S16 32) (v666 : IVec S16 32) (k0_hw68 : k0_chk68 i k0_t1 v146 v660 v661 v662 v663 v666), ∀ (k0_h6 : k0_cond6 i k0_t1 = 1#1), ∀ a x, ((![v146, v662, v666] : Fin 3 → IVec S16 32) a x).toNat < S8x4x128.size a := fun i k0_t1 v146 v660 v661 v662 v663 v666 k0_hw68 k0_h6 => k0_hw68.2.2.1 k0_h6
theorem k0_idx80_inb : ∀ (i : grid0.Coords) (k0_t1 : Fin (k0_t1_loop i).trips) (v146 : IVec S16 32) (v660 : IVec S16 32) (v661 : IVec S16 32) (v662 : IVec S16 32) (v663 : IVec S16 32) (v666 : IVec S16 32) (k0_hw68 : k0_chk68 i k0_t1 v146 v660 v661 v662 v663 v666), ∀ (k0_h6 : k0_cond6 i k0_t1 = 1#1), ∀ a x, ((![v146, v663, v666] : Fin 3 → IVec S16 32) a x).toNat < S8x4x128.size a := fun i k0_t1 v146 v660 v661 v662 v663 v666 k0_hw68 k0_h6 => k0_hw68.2.2.2 k0_h6
def k0_off8 (i : grid0.Coords) (k0_t1 : Fin (k0_t1_loop i).trips) (k0_t3 : Fin k0_t3_loop.trips) : Fin 1 → Nat :=
  let c0_i32_45 : BitVec 32 := 0#32
  let c1_i32_46 : BitVec 32 := 1#32
  let arg19 : BitVec 32 := Scf.iv c0_i32_45 c1_i32_46 k0_t3
  let c0_i32_51 : BitVec 32 := 0#32
  let v87 : BitVec 1 := Scalar.cmpi .sgt arg19 c0_i32_51
  let v88 : BitVec 32 := Scalar.extui v87
  let c0_i32_52 : BitVec 32 := 0#32
  let v89 : BitVec 1 := Scalar.cmpi .slt arg19 c0_i32_52
  let v90 : BitVec 32 := Scalar.extui v89
  let v91 : BitVec 32 := Scalar.subi v88 v90
  let c2_i32_50 : BitVec 32 := 2#32
  let c0_i32_53 : BitVec 32 := 0#32
  let v92 : BitVec 1 := Scalar.cmpi .sgt c2_i32_50 c0_i32_53
  let v93 : BitVec 32 := Scalar.extui v92
  let c0_i32_54 : BitVec 32 := 0#32
  let v94 : BitVec 1 := Scalar.cmpi .slt c2_i32_50 c0_i32_54
  let v95 : BitVec 32 := Scalar.extui v94
  let v96 : BitVec 32 := Scalar.subi v93 v95
  let v97 : BitVec 1 := Scalar.cmpi .ne v91 v96
  let v98 : BitVec 32 := Scalar.remsi arg19 c2_i32_50
  let c0_i32_55 : BitVec 32 := 0#32
  let v99 : BitVec 1 := Scalar.cmpi .ne v98 c0_i32_55
  let v100 : BitVec 1 := Scalar.andi v97 v99
  let v86 : BitVec 32 := Scalar.divsi arg19 c2_i32_50
  let c1_i32_56 : BitVec 32 := 1#32
  let v101 : BitVec 32 := Scalar.subi v86 c1_i32_56
  let v102 : BitVec 32 := Scalar.select v100 v101 v86
  let c8_i32 : BitVec 32 := 8#32
  let c0_i32_57 : BitVec 32 := 0#32
  let v103 : BitVec 1 := Scalar.cmpi .eq c8_i32 c0_i32_57
  let c1_i32_58 : BitVec 32 := 1#32
  let v104 : BitVec 32 := Scalar.select v103 c1_i32_58 c8_i32
  let v105 : BitVec 32 := Scalar.remsi v102 v104
  let c0_i32_60 : BitVec 32 := 0#32
  let v107 : BitVec 1 := Scalar.cmpi .slt v105 c0_i32_60
  let c0_i32_61 : BitVec 32 := 0#32
  let v108 : BitVec 1 := Scalar.cmpi .slt v104 c0_i32_61
  let v109 : BitVec 1 := Scalar.xori v107 v108
  let c0_i32_59 : BitVec 32 := 0#32
  let v106 : BitVec 1 := Scalar.cmpi .ne v105 c0_i32_59
  let v110 : BitVec 1 := Scalar.andi v109 v106
  let v111 : BitVec 32 := Scalar.addi v105 v104
  let v112 : BitVec 32 := Scalar.select v110 v111 v105
  let c672_i32 : BitVec 32 := 672#32
  let v669 : BitVec 32 := Scalar.muli v112 c672_i32
  let c0_i32_16 : BitVec 32 := 0#32
  let c1_i32_18 : BitVec 32 := 1#32
  let arg18 : BitVec 32 := Scf.iv c0_i32_16 c1_i32_18 k0_t1
  let c0_i32_33 : BitVec 32 := 0#32
  let v56 : BitVec 1 := Scalar.cmpi .sgt arg18 c0_i32_33
  let v57 : BitVec 32 := Scalar.extui v56
  let c0_i32_34 : BitVec 32 := 0#32
  let v58 : BitVec 1 := Scalar.cmpi .slt arg18 c0_i32_34
  let v59 : BitVec 32 := Scalar.extui v58
  let v60 : BitVec 32 := Scalar.subi v57 v59
  let c2_i32_32 : BitVec 32 := 2#32
  let c0_i32_35 : BitVec 32 := 0#32
  let v61 : BitVec 1 := Scalar.cmpi .sgt c2_i32_32 c0_i32_35
  let v62 : BitVec 32 := Scalar.extui v61
  let c0_i32_36 : BitVec 32 := 0#32
  let v63 : BitVec 1 := Scalar.cmpi .slt c2_i32_32 c0_i32_36
  let v64 : BitVec 32 := Scalar.extui v63
  let v65 : BitVec 32 := Scalar.subi v62 v64
  let v66 : BitVec 1 := Scalar.cmpi .ne v60 v65
  let v67 : BitVec 32 := Scalar.remsi arg18 c2_i32_32
  let c0_i32_37 : BitVec 32 := 0#32
  let v68 : BitVec 1 := Scalar.cmpi .ne v67 c0_i32_37
  let v69 : BitVec 1 := Scalar.andi v66 v68
  let v55 : BitVec 32 := Scalar.divsi arg18 c2_i32_32
  let c1_i32_38 : BitVec 32 := 1#32
  let v70 : BitVec 32 := Scalar.subi v55 c1_i32_38
  let v71 : BitVec 32 := Scalar.select v69 v70 v55
  let c128_i32_76 : BitVec 32 := 128#32
  let v141 : BitVec 32 := Scalar.muli v71 c128_i32_76
  let c64_i32 : BitVec 32 := 64#32
  let v142 : BitVec 32 := Scalar.addi v141 c64_i32
  let v670 : BitVec 32 := Scalar.addi v669 v142
  let c0_i32_63 : BitVec 32 := 0#32
  let v114 : BitVec 1 := Scalar.cmpi .sgt arg19 c0_i32_63
  let v115 : BitVec 32 := Scalar.extui v114
  let c0_i32_64 : BitVec 32 := 0#32
  let v116 : BitVec 1 := Scalar.cmpi .slt arg19 c0_i32_64
  let v117 : BitVec 32 := Scalar.extui v116
  let v118 : BitVec 32 := Scalar.subi v115 v117
  let c16_i32_62 : BitVec 32 := 16#32
  let c0_i32_65 : BitVec 32 := 0#32
  let v119 : BitVec 1 := Scalar.cmpi .sgt c16_i32_62 c0_i32_65
  let v120 : BitVec 32 := Scalar.extui v119
  let c0_i32_66 : BitVec 32 := 0#32
  let v121 : BitVec 1 := Scalar.cmpi .slt c16_i32_62 c0_i32_66
  let v122 : BitVec 32 := Scalar.extui v121
  let v123 : BitVec 32 := Scalar.subi v120 v122
  let v124 : BitVec 1 := Scalar.cmpi .ne v118 v123
  let v125 : BitVec 32 := Scalar.remsi arg19 c16_i32_62
  let c0_i32_67 : BitVec 32 := 0#32
  let v126 : BitVec 1 := Scalar.cmpi .ne v125 c0_i32_67
  let v127 : BitVec 1 := Scalar.andi v124 v126
  let v113 : BitVec 32 := Scalar.divsi arg19 c16_i32_62
  let c1_i32_68 : BitVec 32 := 1#32
  let v128 : BitVec 32 := Scalar.subi v113 c1_i32_68
  let v129 : BitVec 32 := Scalar.select v127 v128 v113
  let c32_i32_79 : BitVec 32 := 32#32
  let v147 : BitVec 32 := Scalar.muli v129 c32_i32_79
  let c2_i32_69 : BitVec 32 := 2#32
  let c0_i32_70 : BitVec 32 := 0#32
  let v130 : BitVec 1 := Scalar.cmpi .eq c2_i32_69 c0_i32_70
  let c1_i32_71 : BitVec 32 := 1#32
  let v131 : BitVec 32 := Scalar.select v130 c1_i32_71 c2_i32_69
  let v132 : BitVec 32 := Scalar.remsi arg19 v131
  let c0_i32_73 : BitVec 32 := 0#32
  let v134 : BitVec 1 := Scalar.cmpi .slt v132 c0_i32_73
  let c0_i32_74 : BitVec 32 := 0#32
  let v135 : BitVec 1 := Scalar.cmpi .slt v131 c0_i32_74
  let v136 : BitVec 1 := Scalar.xori v134 v135
  let c0_i32_72 : BitVec 32 := 0#32
  let v133 : BitVec 1 := Scalar.cmpi .ne v132 c0_i32_72
  let v137 : BitVec 1 := Scalar.andi v136 v133
  let v138 : BitVec 32 := Scalar.addi v132 v131
  let v139 : BitVec 32 := Scalar.select v137 v138 v132
  let c16_i32_75 : BitVec 32 := 16#32
  let v140 : BitVec 32 := Scalar.muli v139 c16_i32_75
  let v148 : BitVec 32 := Scalar.addi v147 v140
  let v671 : BitVec 32 := Scalar.addi v670 v148
  let v672 : Index := Scalar.indexCast v671
  ![v672.toNat]
def k0_off9 (i : grid0.Coords) (k0_t1 : Fin (k0_t1_loop i).trips) : Fin 3 → Nat :=
  let c0_i32_50_r3 : BitVec 32 := 0#32
  let c0_i32_51_r3 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let c5_i32 : BitVec 32 := 5#32
  let v3 : BitVec 32 := Scalar.muli c5_i32 v1
  let c4_i32 : BitVec 32 := 4#32
  let v4 : BitVec 32 := Scalar.muli c4_i32 v1
  let c28_i32_0 : BitVec 32 := 28#32
  let v5 : BitVec 32 := Scalar.addi v4 c28_i32_0
  let v6 : BitVec 32 := Scalar.select v2 v3 v5
  let c0_i32_16 : BitVec 32 := 0#32
  let c1_i32_18 : BitVec 32 := 1#32
  let arg18 : BitVec 32 := Scf.iv c0_i32_16 c1_i32_18 k0_t1
  let c0_i32_33 : BitVec 32 := 0#32
  let v56 : BitVec 1 := Scalar.cmpi .sgt arg18 c0_i32_33
  let v57 : BitVec 32 := Scalar.extui v56
  let c0_i32_34 : BitVec 32 := 0#32
  let v58 : BitVec 1 := Scalar.cmpi .slt arg18 c0_i32_34
  let v59 : BitVec 32 := Scalar.extui v58
  let v60 : BitVec 32 := Scalar.subi v57 v59
  let c2_i32_32 : BitVec 32 := 2#32
  let c0_i32_35 : BitVec 32 := 0#32
  let v61 : BitVec 1 := Scalar.cmpi .sgt c2_i32_32 c0_i32_35
  let v62 : BitVec 32 := Scalar.extui v61
  let c0_i32_36 : BitVec 32 := 0#32
  let v63 : BitVec 1 := Scalar.cmpi .slt c2_i32_32 c0_i32_36
  let v64 : BitVec 32 := Scalar.extui v63
  let v65 : BitVec 32 := Scalar.subi v62 v64
  let v66 : BitVec 1 := Scalar.cmpi .ne v60 v65
  let v67 : BitVec 32 := Scalar.remsi arg18 c2_i32_32
  let c0_i32_37 : BitVec 32 := 0#32
  let v68 : BitVec 1 := Scalar.cmpi .ne v67 c0_i32_37
  let v69 : BitVec 1 := Scalar.andi v66 v68
  let v55 : BitVec 32 := Scalar.divsi arg18 c2_i32_32
  let c1_i32_38 : BitVec 32 := 1#32
  let v70 : BitVec 32 := Scalar.subi v55 c1_i32_38
  let v71 : BitVec 32 := Scalar.select v69 v70 v55
  let v72 : BitVec 32 := Scalar.addi v6 v71
  let c128_i32 : BitVec 32 := 128#32
  let v81 : BitVec 32 := Scalar.muli v72 c128_i32
  ![0, 0, v81.toNat]
def k0_cond7 (i : grid0.Coords) (k0_t1 : Fin (k0_t1_loop i).trips) : BitVec 1 :=
  let c0_i32_16 : BitVec 32 := 0#32
  let c1_i32_18 : BitVec 32 := 1#32
  let arg18 : BitVec 32 := Scf.iv c0_i32_16 c1_i32_18 k0_t1
  let c2_i32_48 : BitVec 32 := 2#32
  let v82 : BitVec 32 := Scalar.addi arg18 c2_i32_48
  let c2_i32 : BitVec 32 := 2#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let c5_i32_1 : BitVec 32 := 5#32
  let c4_i32_2 : BitVec 32 := 4#32
  let v7 : BitVec 32 := Scalar.select v2 c5_i32_1 c4_i32_2
  let v8 : BitVec 32 := Scalar.muli c2_i32 v7
  let v83 : BitVec 1 := Scalar.cmpi .slt v82 v8
  let v84 : BitVec 32 := Scalar.extui v83
  let c0_i32_49 : BitVec 32 := 0#32
  let v85 : BitVec 1 := Scalar.cmpi .ne v84 c0_i32_49
  v85

def k0_off10 (i : grid0.Coords) (k0_t1 : Fin (k0_t1_loop i).trips) : Fin 2 → Nat :=
  let c0_i32_53 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let c5_i32 : BitVec 32 := 5#32
  let v3 : BitVec 32 := Scalar.muli c5_i32 v1
  let c4_i32 : BitVec 32 := 4#32
  let v4 : BitVec 32 := Scalar.muli c4_i32 v1
  let c28_i32_0 : BitVec 32 := 28#32
  let v5 : BitVec 32 := Scalar.addi v4 c28_i32_0
  let v6 : BitVec 32 := Scalar.select v2 v3 v5
  let c3584_i32_51 : BitVec 32 := 3584#32
  let v87 : BitVec 32 := Scalar.muli v6 c3584_i32_51
  let c0_i32_16 : BitVec 32 := 0#32
  let c1_i32_18 : BitVec 32 := 1#32
  let arg18 : BitVec 32 := Scf.iv c0_i32_16 c1_i32_18 k0_t1
  let c2_i32_50 : BitVec 32 := 2#32
  let v86 : BitVec 32 := Scalar.addi arg18 c2_i32_50
  let c1792_i32_52 : BitVec 32 := 1792#32
  let v88 : BitVec 32 := Scalar.muli v86 c1792_i32_52
  let v89 : BitVec 32 := Scalar.addi v87 v88
  ![0, v89.toNat]
@[reducible] def k0_t4_loop (i : grid0.Coords) : Scf.Loop 32 :=
  let c0_i32_16 : BitVec 32 := 0#32
  let c2_i32 : BitVec 32 := 2#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let c5_i32_1 : BitVec 32 := 5#32
  let c4_i32_2 : BitVec 32 := 4#32
  let v7 : BitVec 32 := Scalar.select v2 c5_i32_1 c4_i32_2
  let v8 : BitVec 32 := Scalar.muli c2_i32 v7
  let v31 : BitVec 32 := Scalar.subi v8 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let v32 : BitVec 32 := Scalar.addi c0_i32_16 v31
  let c1_i32_19 : BitVec 32 := 1#32
  ⟨v35, v32, c1_i32_19⟩
def k0_cond8 (i : grid0.Coords) (k0_t4 : Fin (k0_t4_loop i).trips) : BitVec 1 :=
  let c0_i32_16 : BitVec 32 := 0#32
  let c2_i32 : BitVec 32 := 2#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let c5_i32_1 : BitVec 32 := 5#32
  let c4_i32_2 : BitVec 32 := 4#32
  let v7 : BitVec 32 := Scalar.select v2 c5_i32_1 c4_i32_2
  let v8 : BitVec 32 := Scalar.muli c2_i32 v7
  let v31 : BitVec 32 := Scalar.subi v8 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg18 : BitVec 32 := Scf.iv v35 c1_i32_19 k0_t4
  let c1_i32_26 : BitVec 32 := 1#32
  let v47 : BitVec 32 := Scalar.andi arg18 c1_i32_26
  let c0_i32_27 : BitVec 32 := 0#32
  let v48 : BitVec 1 := Scalar.cmpi .eq v47 c0_i32_27
  let v49 : BitVec 32 := Scalar.extui v48
  let c0_i32_28 : BitVec 32 := 0#32
  let v50 : BitVec 1 := Scalar.cmpi .ne v49 c0_i32_28
  v50

def k0_off11 (i : grid0.Coords) (k0_t4 : Fin (k0_t4_loop i).trips) : Fin 2 → Nat :=
  let c0_i32_41 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let c5_i32 : BitVec 32 := 5#32
  let v3 : BitVec 32 := Scalar.muli c5_i32 v1
  let c4_i32 : BitVec 32 := 4#32
  let v4 : BitVec 32 := Scalar.muli c4_i32 v1
  let c28_i32_0 : BitVec 32 := 28#32
  let v5 : BitVec 32 := Scalar.addi v4 c28_i32_0
  let v6 : BitVec 32 := Scalar.select v2 v3 v5
  let c3584_i32_39 : BitVec 32 := 3584#32
  let v73 : BitVec 32 := Scalar.muli v6 c3584_i32_39
  let c0_i32_16 : BitVec 32 := 0#32
  let c2_i32 : BitVec 32 := 2#32
  let c5_i32_1 : BitVec 32 := 5#32
  let c4_i32_2 : BitVec 32 := 4#32
  let v7 : BitVec 32 := Scalar.select v2 c5_i32_1 c4_i32_2
  let v8 : BitVec 32 := Scalar.muli c2_i32 v7
  let v31 : BitVec 32 := Scalar.subi v8 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg18 : BitVec 32 := Scf.iv v35 c1_i32_19 k0_t4
  let c1792_i32_40 : BitVec 32 := 1792#32
  let v74 : BitVec 32 := Scalar.muli arg18 c1792_i32_40
  let v75 : BitVec 32 := Scalar.addi v73 v74
  ![0, v75.toNat]
@[reducible] def k0_t5_loop : Scf.Loop 32 :=
  let c0_i32_45 : BitVec 32 := 0#32
  let c32_i32 : BitVec 32 := 32#32
  let v80 : BitVec 32 := Scalar.addi c0_i32_45 c32_i32
  let c1_i32_46 : BitVec 32 := 1#32
  ⟨c0_i32_45, v80, c1_i32_46⟩

def k0_chk69 (i : grid0.Coords) (k0_t4 : Fin (k0_t4_loop i).trips) (v145 : IVec S16 32) (v154 : IVec S16 32) : Prop :=
  (∀ (k0_h8 : k0_cond8 i k0_t4 = 1#1), ∀ a x, ((![v145, v154] : Fin 2 → IVec S16 32) a x).toNat < S8x1792.size a)
theorem k0_idx81_inb : ∀ (i : grid0.Coords) (k0_t4 : Fin (k0_t4_loop i).trips) (v145 : IVec S16 32) (v154 : IVec S16 32) (k0_hw69 : k0_chk69 i k0_t4 v145 v154), ∀ (k0_h8 : k0_cond8 i k0_t4 = 1#1), ∀ a x, ((![v145, v154] : Fin 2 → IVec S16 32) a x).toNat < S8x1792.size a := fun i k0_t4 v145 v154 k0_hw69 k0_h8 => k0_hw69 k0_h8

def k0_chk70 (i : grid0.Coords) (k0_t4 : Fin (k0_t4_loop i).trips) (v145 : IVec S16 32) (v157 : IVec S16 32) : Prop :=
  (∀ (k0_h8 : k0_cond8 i k0_t4 = 1#1), ∀ a x, ((![v145, v157] : Fin 2 → IVec S16 32) a x).toNat < S8x1792.size a)
theorem k0_idx82_inb : ∀ (i : grid0.Coords) (k0_t4 : Fin (k0_t4_loop i).trips) (v145 : IVec S16 32) (v157 : IVec S16 32) (k0_hw70 : k0_chk70 i k0_t4 v145 v157), ∀ (k0_h8 : k0_cond8 i k0_t4 = 1#1), ∀ a x, ((![v145, v157] : Fin 2 → IVec S16 32) a x).toNat < S8x1792.size a := fun i k0_t4 v145 v157 k0_hw70 k0_h8 => k0_hw70 k0_h8

def k0_chk71 (i : grid0.Coords) (k0_t4 : Fin (k0_t4_loop i).trips) (v145 : IVec S16 32) (v160 : IVec S16 32) : Prop :=
  (∀ (k0_h8 : k0_cond8 i k0_t4 = 1#1), ∀ a x, ((![v145, v160] : Fin 2 → IVec S16 32) a x).toNat < S8x1792.size a)
theorem k0_idx83_inb : ∀ (i : grid0.Coords) (k0_t4 : Fin (k0_t4_loop i).trips) (v145 : IVec S16 32) (v160 : IVec S16 32) (k0_hw71 : k0_chk71 i k0_t4 v145 v160), ∀ (k0_h8 : k0_cond8 i k0_t4 = 1#1), ∀ a x, ((![v145, v160] : Fin 2 → IVec S16 32) a x).toNat < S8x1792.size a := fun i k0_t4 v145 v160 k0_hw71 k0_h8 => k0_hw71 k0_h8

def k0_chk72 (i : grid0.Coords) (k0_t4 : Fin (k0_t4_loop i).trips) (v145 : IVec S16 32) (v163 : IVec S16 32) : Prop :=
  (∀ (k0_h8 : k0_cond8 i k0_t4 = 1#1), ∀ a x, ((![v145, v163] : Fin 2 → IVec S16 32) a x).toNat < S8x1792.size a)
theorem k0_idx84_inb : ∀ (i : grid0.Coords) (k0_t4 : Fin (k0_t4_loop i).trips) (v145 : IVec S16 32) (v163 : IVec S16 32) (k0_hw72 : k0_chk72 i k0_t4 v145 v163), ∀ (k0_h8 : k0_cond8 i k0_t4 = 1#1), ∀ a x, ((![v145, v163] : Fin 2 → IVec S16 32) a x).toNat < S8x1792.size a := fun i k0_t4 v145 v163 k0_hw72 k0_h8 => k0_hw72 k0_h8

def k0_chk73 (i : grid0.Coords) (k0_t4 : Fin (k0_t4_loop i).trips) (v145 : IVec S16 32) (v166 : IVec S16 32) : Prop :=
  (∀ (k0_h8 : k0_cond8 i k0_t4 = 1#1), ∀ a x, ((![v145, v166] : Fin 2 → IVec S16 32) a x).toNat < S8x1792.size a)
theorem k0_idx85_inb : ∀ (i : grid0.Coords) (k0_t4 : Fin (k0_t4_loop i).trips) (v145 : IVec S16 32) (v166 : IVec S16 32) (k0_hw73 : k0_chk73 i k0_t4 v145 v166), ∀ (k0_h8 : k0_cond8 i k0_t4 = 1#1), ∀ a x, ((![v145, v166] : Fin 2 → IVec S16 32) a x).toNat < S8x1792.size a := fun i k0_t4 v145 v166 k0_hw73 k0_h8 => k0_hw73 k0_h8

def k0_chk74 (i : grid0.Coords) (k0_t4 : Fin (k0_t4_loop i).trips) (v145 : IVec S16 32) (v169 : IVec S16 32) : Prop :=
  (∀ (k0_h8 : k0_cond8 i k0_t4 = 1#1), ∀ a x, ((![v145, v169] : Fin 2 → IVec S16 32) a x).toNat < S8x1792.size a)
theorem k0_idx86_inb : ∀ (i : grid0.Coords) (k0_t4 : Fin (k0_t4_loop i).trips) (v145 : IVec S16 32) (v169 : IVec S16 32) (k0_hw74 : k0_chk74 i k0_t4 v145 v169), ∀ (k0_h8 : k0_cond8 i k0_t4 = 1#1), ∀ a x, ((![v145, v169] : Fin 2 → IVec S16 32) a x).toNat < S8x1792.size a := fun i k0_t4 v145 v169 k0_hw74 k0_h8 => k0_hw74 k0_h8

def k0_chk75 (i : grid0.Coords) (k0_t4 : Fin (k0_t4_loop i).trips) (v145 : IVec S16 32) (v172 : IVec S16 32) : Prop :=
  (∀ (k0_h8 : k0_cond8 i k0_t4 = 1#1), ∀ a x, ((![v145, v172] : Fin 2 → IVec S16 32) a x).toNat < S8x1792.size a)
theorem k0_idx87_inb : ∀ (i : grid0.Coords) (k0_t4 : Fin (k0_t4_loop i).trips) (v145 : IVec S16 32) (v172 : IVec S16 32) (k0_hw75 : k0_chk75 i k0_t4 v145 v172), ∀ (k0_h8 : k0_cond8 i k0_t4 = 1#1), ∀ a x, ((![v145, v172] : Fin 2 → IVec S16 32) a x).toNat < S8x1792.size a := fun i k0_t4 v145 v172 k0_hw75 k0_h8 => k0_hw75 k0_h8

def k0_chk76 (i : grid0.Coords) (k0_t4 : Fin (k0_t4_loop i).trips) (v145 : IVec S16 32) (v175 : IVec S16 32) : Prop :=
  (∀ (k0_h8 : k0_cond8 i k0_t4 = 1#1), ∀ a x, ((![v145, v175] : Fin 2 → IVec S16 32) a x).toNat < S8x1792.size a)
theorem k0_idx88_inb : ∀ (i : grid0.Coords) (k0_t4 : Fin (k0_t4_loop i).trips) (v145 : IVec S16 32) (v175 : IVec S16 32) (k0_hw76 : k0_chk76 i k0_t4 v145 v175), ∀ (k0_h8 : k0_cond8 i k0_t4 = 1#1), ∀ a x, ((![v145, v175] : Fin 2 → IVec S16 32) a x).toNat < S8x1792.size a := fun i k0_t4 v145 v175 k0_hw76 k0_h8 => k0_hw76 k0_h8

def k0_chk77 (i : grid0.Coords) (k0_t4 : Fin (k0_t4_loop i).trips) (v145 : IVec S16 32) (v178 : IVec S16 32) : Prop :=
  (∀ (k0_h8 : k0_cond8 i k0_t4 = 1#1), ∀ a x, ((![v145, v178] : Fin 2 → IVec S16 32) a x).toNat < S8x1792.size a)
theorem k0_idx89_inb : ∀ (i : grid0.Coords) (k0_t4 : Fin (k0_t4_loop i).trips) (v145 : IVec S16 32) (v178 : IVec S16 32) (k0_hw77 : k0_chk77 i k0_t4 v145 v178), ∀ (k0_h8 : k0_cond8 i k0_t4 = 1#1), ∀ a x, ((![v145, v178] : Fin 2 → IVec S16 32) a x).toNat < S8x1792.size a := fun i k0_t4 v145 v178 k0_hw77 k0_h8 => k0_hw77 k0_h8

def k0_chk78 (i : grid0.Coords) (k0_t4 : Fin (k0_t4_loop i).trips) (v145 : IVec S16 32) (v181 : IVec S16 32) : Prop :=
  (∀ (k0_h8 : k0_cond8 i k0_t4 = 1#1), ∀ a x, ((![v145, v181] : Fin 2 → IVec S16 32) a x).toNat < S8x1792.size a)
theorem k0_idx90_inb : ∀ (i : grid0.Coords) (k0_t4 : Fin (k0_t4_loop i).trips) (v145 : IVec S16 32) (v181 : IVec S16 32) (k0_hw78 : k0_chk78 i k0_t4 v145 v181), ∀ (k0_h8 : k0_cond8 i k0_t4 = 1#1), ∀ a x, ((![v145, v181] : Fin 2 → IVec S16 32) a x).toNat < S8x1792.size a := fun i k0_t4 v145 v181 k0_hw78 k0_h8 => k0_hw78 k0_h8

def k0_chk79 (i : grid0.Coords) (k0_t4 : Fin (k0_t4_loop i).trips) (v145 : IVec S16 32) (v184 : IVec S16 32) : Prop :=
  (∀ (k0_h8 : k0_cond8 i k0_t4 = 1#1), ∀ a x, ((![v145, v184] : Fin 2 → IVec S16 32) a x).toNat < S8x1792.size a)
theorem k0_idx91_inb : ∀ (i : grid0.Coords) (k0_t4 : Fin (k0_t4_loop i).trips) (v145 : IVec S16 32) (v184 : IVec S16 32) (k0_hw79 : k0_chk79 i k0_t4 v145 v184), ∀ (k0_h8 : k0_cond8 i k0_t4 = 1#1), ∀ a x, ((![v145, v184] : Fin 2 → IVec S16 32) a x).toNat < S8x1792.size a := fun i k0_t4 v145 v184 k0_hw79 k0_h8 => k0_hw79 k0_h8

def k0_chk80 (i : grid0.Coords) (k0_t4 : Fin (k0_t4_loop i).trips) (v145 : IVec S16 32) (v187 : IVec S16 32) : Prop :=
  (∀ (k0_h8 : k0_cond8 i k0_t4 = 1#1), ∀ a x, ((![v145, v187] : Fin 2 → IVec S16 32) a x).toNat < S8x1792.size a)
theorem k0_idx92_inb : ∀ (i : grid0.Coords) (k0_t4 : Fin (k0_t4_loop i).trips) (v145 : IVec S16 32) (v187 : IVec S16 32) (k0_hw80 : k0_chk80 i k0_t4 v145 v187), ∀ (k0_h8 : k0_cond8 i k0_t4 = 1#1), ∀ a x, ((![v145, v187] : Fin 2 → IVec S16 32) a x).toNat < S8x1792.size a := fun i k0_t4 v145 v187 k0_hw80 k0_h8 => k0_hw80 k0_h8

def k0_chk81 (i : grid0.Coords) (k0_t4 : Fin (k0_t4_loop i).trips) (v145 : IVec S16 32) (v190 : IVec S16 32) : Prop :=
  (∀ (k0_h8 : k0_cond8 i k0_t4 = 1#1), ∀ a x, ((![v145, v190] : Fin 2 → IVec S16 32) a x).toNat < S8x1792.size a)
theorem k0_idx93_inb : ∀ (i : grid0.Coords) (k0_t4 : Fin (k0_t4_loop i).trips) (v145 : IVec S16 32) (v190 : IVec S16 32) (k0_hw81 : k0_chk81 i k0_t4 v145 v190), ∀ (k0_h8 : k0_cond8 i k0_t4 = 1#1), ∀ a x, ((![v145, v190] : Fin 2 → IVec S16 32) a x).toNat < S8x1792.size a := fun i k0_t4 v145 v190 k0_hw81 k0_h8 => k0_hw81 k0_h8

def k0_chk82 (i : grid0.Coords) (k0_t4 : Fin (k0_t4_loop i).trips) (v145 : IVec S16 32) (v193 : IVec S16 32) : Prop :=
  (∀ (k0_h8 : k0_cond8 i k0_t4 = 1#1), ∀ a x, ((![v145, v193] : Fin 2 → IVec S16 32) a x).toNat < S8x1792.size a)
theorem k0_idx94_inb : ∀ (i : grid0.Coords) (k0_t4 : Fin (k0_t4_loop i).trips) (v145 : IVec S16 32) (v193 : IVec S16 32) (k0_hw82 : k0_chk82 i k0_t4 v145 v193), ∀ (k0_h8 : k0_cond8 i k0_t4 = 1#1), ∀ a x, ((![v145, v193] : Fin 2 → IVec S16 32) a x).toNat < S8x1792.size a := fun i k0_t4 v145 v193 k0_hw82 k0_h8 => k0_hw82 k0_h8

def k0_chk83 (i : grid0.Coords) (k0_t4 : Fin (k0_t4_loop i).trips) (v145 : IVec S16 32) (v196 : IVec S16 32) : Prop :=
  (∀ (k0_h8 : k0_cond8 i k0_t4 = 1#1), ∀ a x, ((![v145, v196] : Fin 2 → IVec S16 32) a x).toNat < S8x1792.size a)
theorem k0_idx95_inb : ∀ (i : grid0.Coords) (k0_t4 : Fin (k0_t4_loop i).trips) (v145 : IVec S16 32) (v196 : IVec S16 32) (k0_hw83 : k0_chk83 i k0_t4 v145 v196), ∀ (k0_h8 : k0_cond8 i k0_t4 = 1#1), ∀ a x, ((![v145, v196] : Fin 2 → IVec S16 32) a x).toNat < S8x1792.size a := fun i k0_t4 v145 v196 k0_hw83 k0_h8 => k0_hw83 k0_h8

def k0_chk84 (i : grid0.Coords) (k0_t4 : Fin (k0_t4_loop i).trips) (v145 : IVec S16 32) (v199 : IVec S16 32) : Prop :=
  (∀ (k0_h8 : k0_cond8 i k0_t4 = 1#1), ∀ a x, ((![v145, v199] : Fin 2 → IVec S16 32) a x).toNat < S8x1792.size a)
theorem k0_idx96_inb : ∀ (i : grid0.Coords) (k0_t4 : Fin (k0_t4_loop i).trips) (v145 : IVec S16 32) (v199 : IVec S16 32) (k0_hw84 : k0_chk84 i k0_t4 v145 v199), ∀ (k0_h8 : k0_cond8 i k0_t4 = 1#1), ∀ a x, ((![v145, v199] : Fin 2 → IVec S16 32) a x).toNat < S8x1792.size a := fun i k0_t4 v145 v199 k0_hw84 k0_h8 => k0_hw84 k0_h8

def k0_chk85 (i : grid0.Coords) (k0_t4 : Fin (k0_t4_loop i).trips) (v145 : IVec S16 32) (v202 : IVec S16 32) : Prop :=
  (∀ (k0_h8 : k0_cond8 i k0_t4 = 1#1), ∀ a x, ((![v145, v202] : Fin 2 → IVec S16 32) a x).toNat < S8x1792.size a)
theorem k0_idx97_inb : ∀ (i : grid0.Coords) (k0_t4 : Fin (k0_t4_loop i).trips) (v145 : IVec S16 32) (v202 : IVec S16 32) (k0_hw85 : k0_chk85 i k0_t4 v145 v202), ∀ (k0_h8 : k0_cond8 i k0_t4 = 1#1), ∀ a x, ((![v145, v202] : Fin 2 → IVec S16 32) a x).toNat < S8x1792.size a := fun i k0_t4 v145 v202 k0_hw85 k0_h8 => k0_hw85 k0_h8

def k0_chk86 (i : grid0.Coords) (k0_t4 : Fin (k0_t4_loop i).trips) (v145 : IVec S16 32) (v205 : IVec S16 32) : Prop :=
  (∀ (k0_h8 : k0_cond8 i k0_t4 = 1#1), ∀ a x, ((![v145, v205] : Fin 2 → IVec S16 32) a x).toNat < S8x1792.size a)
theorem k0_idx98_inb : ∀ (i : grid0.Coords) (k0_t4 : Fin (k0_t4_loop i).trips) (v145 : IVec S16 32) (v205 : IVec S16 32) (k0_hw86 : k0_chk86 i k0_t4 v145 v205), ∀ (k0_h8 : k0_cond8 i k0_t4 = 1#1), ∀ a x, ((![v145, v205] : Fin 2 → IVec S16 32) a x).toNat < S8x1792.size a := fun i k0_t4 v145 v205 k0_hw86 k0_h8 => k0_hw86 k0_h8

def k0_chk87 (i : grid0.Coords) (k0_t4 : Fin (k0_t4_loop i).trips) (v145 : IVec S16 32) (v208 : IVec S16 32) : Prop :=
  (∀ (k0_h8 : k0_cond8 i k0_t4 = 1#1), ∀ a x, ((![v145, v208] : Fin 2 → IVec S16 32) a x).toNat < S8x1792.size a)
theorem k0_idx99_inb : ∀ (i : grid0.Coords) (k0_t4 : Fin (k0_t4_loop i).trips) (v145 : IVec S16 32) (v208 : IVec S16 32) (k0_hw87 : k0_chk87 i k0_t4 v145 v208), ∀ (k0_h8 : k0_cond8 i k0_t4 = 1#1), ∀ a x, ((![v145, v208] : Fin 2 → IVec S16 32) a x).toNat < S8x1792.size a := fun i k0_t4 v145 v208 k0_hw87 k0_h8 => k0_hw87 k0_h8

def k0_chk88 (i : grid0.Coords) (k0_t4 : Fin (k0_t4_loop i).trips) (v145 : IVec S16 32) (v211 : IVec S16 32) : Prop :=
  (∀ (k0_h8 : k0_cond8 i k0_t4 = 1#1), ∀ a x, ((![v145, v211] : Fin 2 → IVec S16 32) a x).toNat < S8x1792.size a)
theorem k0_idx100_inb : ∀ (i : grid0.Coords) (k0_t4 : Fin (k0_t4_loop i).trips) (v145 : IVec S16 32) (v211 : IVec S16 32) (k0_hw88 : k0_chk88 i k0_t4 v145 v211), ∀ (k0_h8 : k0_cond8 i k0_t4 = 1#1), ∀ a x, ((![v145, v211] : Fin 2 → IVec S16 32) a x).toNat < S8x1792.size a := fun i k0_t4 v145 v211 k0_hw88 k0_h8 => k0_hw88 k0_h8

def k0_chk89 (i : grid0.Coords) (k0_t4 : Fin (k0_t4_loop i).trips) (v145 : IVec S16 32) (v214 : IVec S16 32) : Prop :=
  (∀ (k0_h8 : k0_cond8 i k0_t4 = 1#1), ∀ a x, ((![v145, v214] : Fin 2 → IVec S16 32) a x).toNat < S8x1792.size a)
theorem k0_idx101_inb : ∀ (i : grid0.Coords) (k0_t4 : Fin (k0_t4_loop i).trips) (v145 : IVec S16 32) (v214 : IVec S16 32) (k0_hw89 : k0_chk89 i k0_t4 v145 v214), ∀ (k0_h8 : k0_cond8 i k0_t4 = 1#1), ∀ a x, ((![v145, v214] : Fin 2 → IVec S16 32) a x).toNat < S8x1792.size a := fun i k0_t4 v145 v214 k0_hw89 k0_h8 => k0_hw89 k0_h8

def k0_chk90 (i : grid0.Coords) (k0_t4 : Fin (k0_t4_loop i).trips) (v145 : IVec S16 32) (v217 : IVec S16 32) : Prop :=
  (∀ (k0_h8 : k0_cond8 i k0_t4 = 1#1), ∀ a x, ((![v145, v217] : Fin 2 → IVec S16 32) a x).toNat < S8x1792.size a)
theorem k0_idx102_inb : ∀ (i : grid0.Coords) (k0_t4 : Fin (k0_t4_loop i).trips) (v145 : IVec S16 32) (v217 : IVec S16 32) (k0_hw90 : k0_chk90 i k0_t4 v145 v217), ∀ (k0_h8 : k0_cond8 i k0_t4 = 1#1), ∀ a x, ((![v145, v217] : Fin 2 → IVec S16 32) a x).toNat < S8x1792.size a := fun i k0_t4 v145 v217 k0_hw90 k0_h8 => k0_hw90 k0_h8

def k0_chk91 (i : grid0.Coords) (k0_t4 : Fin (k0_t4_loop i).trips) (v145 : IVec S16 32) (v220 : IVec S16 32) : Prop :=
  (∀ (k0_h8 : k0_cond8 i k0_t4 = 1#1), ∀ a x, ((![v145, v220] : Fin 2 → IVec S16 32) a x).toNat < S8x1792.size a)
theorem k0_idx103_inb : ∀ (i : grid0.Coords) (k0_t4 : Fin (k0_t4_loop i).trips) (v145 : IVec S16 32) (v220 : IVec S16 32) (k0_hw91 : k0_chk91 i k0_t4 v145 v220), ∀ (k0_h8 : k0_cond8 i k0_t4 = 1#1), ∀ a x, ((![v145, v220] : Fin 2 → IVec S16 32) a x).toNat < S8x1792.size a := fun i k0_t4 v145 v220 k0_hw91 k0_h8 => k0_hw91 k0_h8

def k0_chk92 (i : grid0.Coords) (k0_t4 : Fin (k0_t4_loop i).trips) (v145 : IVec S16 32) (v223 : IVec S16 32) : Prop :=
  (∀ (k0_h8 : k0_cond8 i k0_t4 = 1#1), ∀ a x, ((![v145, v223] : Fin 2 → IVec S16 32) a x).toNat < S8x1792.size a)
theorem k0_idx104_inb : ∀ (i : grid0.Coords) (k0_t4 : Fin (k0_t4_loop i).trips) (v145 : IVec S16 32) (v223 : IVec S16 32) (k0_hw92 : k0_chk92 i k0_t4 v145 v223), ∀ (k0_h8 : k0_cond8 i k0_t4 = 1#1), ∀ a x, ((![v145, v223] : Fin 2 → IVec S16 32) a x).toNat < S8x1792.size a := fun i k0_t4 v145 v223 k0_hw92 k0_h8 => k0_hw92 k0_h8

def k0_chk93 (i : grid0.Coords) (k0_t4 : Fin (k0_t4_loop i).trips) (v145 : IVec S16 32) (v226 : IVec S16 32) : Prop :=
  (∀ (k0_h8 : k0_cond8 i k0_t4 = 1#1), ∀ a x, ((![v145, v226] : Fin 2 → IVec S16 32) a x).toNat < S8x1792.size a)
theorem k0_idx105_inb : ∀ (i : grid0.Coords) (k0_t4 : Fin (k0_t4_loop i).trips) (v145 : IVec S16 32) (v226 : IVec S16 32) (k0_hw93 : k0_chk93 i k0_t4 v145 v226), ∀ (k0_h8 : k0_cond8 i k0_t4 = 1#1), ∀ a x, ((![v145, v226] : Fin 2 → IVec S16 32) a x).toNat < S8x1792.size a := fun i k0_t4 v145 v226 k0_hw93 k0_h8 => k0_hw93 k0_h8

def k0_chk94 (i : grid0.Coords) (k0_t4 : Fin (k0_t4_loop i).trips) (v145 : IVec S16 32) (v229 : IVec S16 32) : Prop :=
  (∀ (k0_h8 : k0_cond8 i k0_t4 = 1#1), ∀ a x, ((![v145, v229] : Fin 2 → IVec S16 32) a x).toNat < S8x1792.size a)
theorem k0_idx106_inb : ∀ (i : grid0.Coords) (k0_t4 : Fin (k0_t4_loop i).trips) (v145 : IVec S16 32) (v229 : IVec S16 32) (k0_hw94 : k0_chk94 i k0_t4 v145 v229), ∀ (k0_h8 : k0_cond8 i k0_t4 = 1#1), ∀ a x, ((![v145, v229] : Fin 2 → IVec S16 32) a x).toNat < S8x1792.size a := fun i k0_t4 v145 v229 k0_hw94 k0_h8 => k0_hw94 k0_h8

def k0_chk95 (i : grid0.Coords) (k0_t4 : Fin (k0_t4_loop i).trips) (v145 : IVec S16 32) (v232 : IVec S16 32) : Prop :=
  (∀ (k0_h8 : k0_cond8 i k0_t4 = 1#1), ∀ a x, ((![v145, v232] : Fin 2 → IVec S16 32) a x).toNat < S8x1792.size a)
theorem k0_idx107_inb : ∀ (i : grid0.Coords) (k0_t4 : Fin (k0_t4_loop i).trips) (v145 : IVec S16 32) (v232 : IVec S16 32) (k0_hw95 : k0_chk95 i k0_t4 v145 v232), ∀ (k0_h8 : k0_cond8 i k0_t4 = 1#1), ∀ a x, ((![v145, v232] : Fin 2 → IVec S16 32) a x).toNat < S8x1792.size a := fun i k0_t4 v145 v232 k0_hw95 k0_h8 => k0_hw95 k0_h8

def k0_chk96 (i : grid0.Coords) (k0_t4 : Fin (k0_t4_loop i).trips) (v145 : IVec S16 32) (v235 : IVec S16 32) : Prop :=
  (∀ (k0_h8 : k0_cond8 i k0_t4 = 1#1), ∀ a x, ((![v145, v235] : Fin 2 → IVec S16 32) a x).toNat < S8x1792.size a)
theorem k0_idx108_inb : ∀ (i : grid0.Coords) (k0_t4 : Fin (k0_t4_loop i).trips) (v145 : IVec S16 32) (v235 : IVec S16 32) (k0_hw96 : k0_chk96 i k0_t4 v145 v235), ∀ (k0_h8 : k0_cond8 i k0_t4 = 1#1), ∀ a x, ((![v145, v235] : Fin 2 → IVec S16 32) a x).toNat < S8x1792.size a := fun i k0_t4 v145 v235 k0_hw96 k0_h8 => k0_hw96 k0_h8

def k0_chk97 (i : grid0.Coords) (k0_t4 : Fin (k0_t4_loop i).trips) (v145 : IVec S16 32) (v316 : IVec S16 32) : Prop :=
  (∀ (k0_h8 : k0_cond8 i k0_t4 = 1#1), ∀ a x, ((![v145, v316] : Fin 2 → IVec S16 32) a x).toNat < S8x1792.size a)
theorem k0_idx109_inb : ∀ (i : grid0.Coords) (k0_t4 : Fin (k0_t4_loop i).trips) (v145 : IVec S16 32) (v316 : IVec S16 32) (k0_hw97 : k0_chk97 i k0_t4 v145 v316), ∀ (k0_h8 : k0_cond8 i k0_t4 = 1#1), ∀ a x, ((![v145, v316] : Fin 2 → IVec S16 32) a x).toNat < S8x1792.size a := fun i k0_t4 v145 v316 k0_hw97 k0_h8 => k0_hw97 k0_h8

def k0_chk98 (i : grid0.Coords) (k0_t4 : Fin (k0_t4_loop i).trips) (v145 : IVec S16 32) (v407 : IVec S16 32) : Prop :=
  (∀ (k0_h8 : k0_cond8 i k0_t4 = 1#1), ∀ a x, ((![v145, v407] : Fin 2 → IVec S16 32) a x).toNat < S8x1792.size a)
theorem k0_idx110_inb : ∀ (i : grid0.Coords) (k0_t4 : Fin (k0_t4_loop i).trips) (v145 : IVec S16 32) (v407 : IVec S16 32) (k0_hw98 : k0_chk98 i k0_t4 v145 v407), ∀ (k0_h8 : k0_cond8 i k0_t4 = 1#1), ∀ a x, ((![v145, v407] : Fin 2 → IVec S16 32) a x).toNat < S8x1792.size a := fun i k0_t4 v145 v407 k0_hw98 k0_h8 => k0_hw98 k0_h8

def k0_chk99 (i : grid0.Coords) (k0_t4 : Fin (k0_t4_loop i).trips) (v145 : IVec S16 32) (v499 : IVec S16 32) : Prop :=
  (∀ (k0_h8 : k0_cond8 i k0_t4 = 1#1), ∀ a x, ((![v145, v499] : Fin 2 → IVec S16 32) a x).toNat < S8x1792.size a)
theorem k0_idx111_inb : ∀ (i : grid0.Coords) (k0_t4 : Fin (k0_t4_loop i).trips) (v145 : IVec S16 32) (v499 : IVec S16 32) (k0_hw99 : k0_chk99 i k0_t4 v145 v499), ∀ (k0_h8 : k0_cond8 i k0_t4 = 1#1), ∀ a x, ((![v145, v499] : Fin 2 → IVec S16 32) a x).toNat < S8x1792.size a := fun i k0_t4 v145 v499 k0_hw99 k0_h8 => k0_hw99 k0_h8

def k0_chk100 (i : grid0.Coords) (k0_t4 : Fin (k0_t4_loop i).trips) (v145 : IVec S16 32) (v591 : IVec S16 32) : Prop :=
  (∀ (k0_h8 : k0_cond8 i k0_t4 = 1#1), ∀ a x, ((![v145, v591] : Fin 2 → IVec S16 32) a x).toNat < S8x1792.size a)
theorem k0_idx112_inb : ∀ (i : grid0.Coords) (k0_t4 : Fin (k0_t4_loop i).trips) (v145 : IVec S16 32) (v591 : IVec S16 32) (k0_hw100 : k0_chk100 i k0_t4 v145 v591), ∀ (k0_h8 : k0_cond8 i k0_t4 = 1#1), ∀ a x, ((![v145, v591] : Fin 2 → IVec S16 32) a x).toNat < S8x1792.size a := fun i k0_t4 v145 v591 k0_hw100 k0_h8 => k0_hw100 k0_h8

def k0_chk101 (i : grid0.Coords) (k0_t4 : Fin (k0_t4_loop i).trips) (v145 : IVec S16 32) (v604 : IVec S16 32) (v605 : IVec S16 32) (v606 : IVec S16 32) (v607 : IVec S16 32) (v610 : IVec S16 32) : Prop :=
  (∀ (k0_h8 : k0_cond8 i k0_t4 = 1#1), ∀ a x, ((![v145, v604, v610] : Fin 3 → IVec S16 32) a x).toNat < S8x4x640.size a) ∧
  (∀ (k0_h8 : k0_cond8 i k0_t4 = 1#1), ∀ a x, ((![v145, v605, v610] : Fin 3 → IVec S16 32) a x).toNat < S8x4x640.size a) ∧
  (∀ (k0_h8 : k0_cond8 i k0_t4 = 1#1), ∀ a x, ((![v145, v606, v610] : Fin 3 → IVec S16 32) a x).toNat < S8x4x640.size a) ∧
  (∀ (k0_h8 : k0_cond8 i k0_t4 = 1#1), ∀ a x, ((![v145, v607, v610] : Fin 3 → IVec S16 32) a x).toNat < S8x4x640.size a)
theorem k0_idx113_inb : ∀ (i : grid0.Coords) (k0_t4 : Fin (k0_t4_loop i).trips) (v145 : IVec S16 32) (v604 : IVec S16 32) (v605 : IVec S16 32) (v606 : IVec S16 32) (v607 : IVec S16 32) (v610 : IVec S16 32) (k0_hw101 : k0_chk101 i k0_t4 v145 v604 v605 v606 v607 v610), ∀ (k0_h8 : k0_cond8 i k0_t4 = 1#1), ∀ a x, ((![v145, v604, v610] : Fin 3 → IVec S16 32) a x).toNat < S8x4x640.size a := fun i k0_t4 v145 v604 v605 v606 v607 v610 k0_hw101 k0_h8 => k0_hw101.1 k0_h8
theorem k0_idx114_inb : ∀ (i : grid0.Coords) (k0_t4 : Fin (k0_t4_loop i).trips) (v145 : IVec S16 32) (v604 : IVec S16 32) (v605 : IVec S16 32) (v606 : IVec S16 32) (v607 : IVec S16 32) (v610 : IVec S16 32) (k0_hw101 : k0_chk101 i k0_t4 v145 v604 v605 v606 v607 v610), ∀ (k0_h8 : k0_cond8 i k0_t4 = 1#1), ∀ a x, ((![v145, v605, v610] : Fin 3 → IVec S16 32) a x).toNat < S8x4x640.size a := fun i k0_t4 v145 v604 v605 v606 v607 v610 k0_hw101 k0_h8 => k0_hw101.2.1 k0_h8
theorem k0_idx115_inb : ∀ (i : grid0.Coords) (k0_t4 : Fin (k0_t4_loop i).trips) (v145 : IVec S16 32) (v604 : IVec S16 32) (v605 : IVec S16 32) (v606 : IVec S16 32) (v607 : IVec S16 32) (v610 : IVec S16 32) (k0_hw101 : k0_chk101 i k0_t4 v145 v604 v605 v606 v607 v610), ∀ (k0_h8 : k0_cond8 i k0_t4 = 1#1), ∀ a x, ((![v145, v606, v610] : Fin 3 → IVec S16 32) a x).toNat < S8x4x640.size a := fun i k0_t4 v145 v604 v605 v606 v607 v610 k0_hw101 k0_h8 => k0_hw101.2.2.1 k0_h8
theorem k0_idx116_inb : ∀ (i : grid0.Coords) (k0_t4 : Fin (k0_t4_loop i).trips) (v145 : IVec S16 32) (v604 : IVec S16 32) (v605 : IVec S16 32) (v606 : IVec S16 32) (v607 : IVec S16 32) (v610 : IVec S16 32) (k0_hw101 : k0_chk101 i k0_t4 v145 v604 v605 v606 v607 v610), ∀ (k0_h8 : k0_cond8 i k0_t4 = 1#1), ∀ a x, ((![v145, v607, v610] : Fin 3 → IVec S16 32) a x).toNat < S8x4x640.size a := fun i k0_t4 v145 v604 v605 v606 v607 v610 k0_hw101 k0_h8 => k0_hw101.2.2.2 k0_h8

def k0_chk102 (i : grid0.Coords) (k0_t4 : Fin (k0_t4_loop i).trips) (v145 : IVec S16 32) (v659 : IVec S16 32) (v660 : IVec S16 32) (v661 : IVec S16 32) (v662 : IVec S16 32) (v665 : IVec S16 32) : Prop :=
  (∀ (k0_h8 : k0_cond8 i k0_t4 = 1#1), ∀ a x, ((![v145, v659, v665] : Fin 3 → IVec S16 32) a x).toNat < S8x4x128.size a) ∧
  (∀ (k0_h8 : k0_cond8 i k0_t4 = 1#1), ∀ a x, ((![v145, v660, v665] : Fin 3 → IVec S16 32) a x).toNat < S8x4x128.size a) ∧
  (∀ (k0_h8 : k0_cond8 i k0_t4 = 1#1), ∀ a x, ((![v145, v661, v665] : Fin 3 → IVec S16 32) a x).toNat < S8x4x128.size a) ∧
  (∀ (k0_h8 : k0_cond8 i k0_t4 = 1#1), ∀ a x, ((![v145, v662, v665] : Fin 3 → IVec S16 32) a x).toNat < S8x4x128.size a)
theorem k0_idx117_inb : ∀ (i : grid0.Coords) (k0_t4 : Fin (k0_t4_loop i).trips) (v145 : IVec S16 32) (v659 : IVec S16 32) (v660 : IVec S16 32) (v661 : IVec S16 32) (v662 : IVec S16 32) (v665 : IVec S16 32) (k0_hw102 : k0_chk102 i k0_t4 v145 v659 v660 v661 v662 v665), ∀ (k0_h8 : k0_cond8 i k0_t4 = 1#1), ∀ a x, ((![v145, v659, v665] : Fin 3 → IVec S16 32) a x).toNat < S8x4x128.size a := fun i k0_t4 v145 v659 v660 v661 v662 v665 k0_hw102 k0_h8 => k0_hw102.1 k0_h8
theorem k0_idx118_inb : ∀ (i : grid0.Coords) (k0_t4 : Fin (k0_t4_loop i).trips) (v145 : IVec S16 32) (v659 : IVec S16 32) (v660 : IVec S16 32) (v661 : IVec S16 32) (v662 : IVec S16 32) (v665 : IVec S16 32) (k0_hw102 : k0_chk102 i k0_t4 v145 v659 v660 v661 v662 v665), ∀ (k0_h8 : k0_cond8 i k0_t4 = 1#1), ∀ a x, ((![v145, v660, v665] : Fin 3 → IVec S16 32) a x).toNat < S8x4x128.size a := fun i k0_t4 v145 v659 v660 v661 v662 v665 k0_hw102 k0_h8 => k0_hw102.2.1 k0_h8
theorem k0_idx119_inb : ∀ (i : grid0.Coords) (k0_t4 : Fin (k0_t4_loop i).trips) (v145 : IVec S16 32) (v659 : IVec S16 32) (v660 : IVec S16 32) (v661 : IVec S16 32) (v662 : IVec S16 32) (v665 : IVec S16 32) (k0_hw102 : k0_chk102 i k0_t4 v145 v659 v660 v661 v662 v665), ∀ (k0_h8 : k0_cond8 i k0_t4 = 1#1), ∀ a x, ((![v145, v661, v665] : Fin 3 → IVec S16 32) a x).toNat < S8x4x128.size a := fun i k0_t4 v145 v659 v660 v661 v662 v665 k0_hw102 k0_h8 => k0_hw102.2.2.1 k0_h8
theorem k0_idx120_inb : ∀ (i : grid0.Coords) (k0_t4 : Fin (k0_t4_loop i).trips) (v145 : IVec S16 32) (v659 : IVec S16 32) (v660 : IVec S16 32) (v661 : IVec S16 32) (v662 : IVec S16 32) (v665 : IVec S16 32) (k0_hw102 : k0_chk102 i k0_t4 v145 v659 v660 v661 v662 v665), ∀ (k0_h8 : k0_cond8 i k0_t4 = 1#1), ∀ a x, ((![v145, v662, v665] : Fin 3 → IVec S16 32) a x).toNat < S8x4x128.size a := fun i k0_t4 v145 v659 v660 v661 v662 v665 k0_hw102 k0_h8 => k0_hw102.2.2.2 k0_h8
def k0_off12 (i : grid0.Coords) (k0_t4 : Fin (k0_t4_loop i).trips) (k0_t5 : Fin k0_t5_loop.trips) : Fin 1 → Nat :=
  let c0_i32_45 : BitVec 32 := 0#32
  let c1_i32_46 : BitVec 32 := 1#32
  let arg19 : BitVec 32 := Scf.iv c0_i32_45 c1_i32_46 k0_t5
  let c0_i32_51 : BitVec 32 := 0#32
  let v86 : BitVec 1 := Scalar.cmpi .sgt arg19 c0_i32_51
  let v87 : BitVec 32 := Scalar.extui v86
  let c0_i32_52 : BitVec 32 := 0#32
  let v88 : BitVec 1 := Scalar.cmpi .slt arg19 c0_i32_52
  let v89 : BitVec 32 := Scalar.extui v88
  let v90 : BitVec 32 := Scalar.subi v87 v89
  let c2_i32_50 : BitVec 32 := 2#32
  let c0_i32_53 : BitVec 32 := 0#32
  let v91 : BitVec 1 := Scalar.cmpi .sgt c2_i32_50 c0_i32_53
  let v92 : BitVec 32 := Scalar.extui v91
  let c0_i32_54 : BitVec 32 := 0#32
  let v93 : BitVec 1 := Scalar.cmpi .slt c2_i32_50 c0_i32_54
  let v94 : BitVec 32 := Scalar.extui v93
  let v95 : BitVec 32 := Scalar.subi v92 v94
  let v96 : BitVec 1 := Scalar.cmpi .ne v90 v95
  let v97 : BitVec 32 := Scalar.remsi arg19 c2_i32_50
  let c0_i32_55 : BitVec 32 := 0#32
  let v98 : BitVec 1 := Scalar.cmpi .ne v97 c0_i32_55
  let v99 : BitVec 1 := Scalar.andi v96 v98
  let v85 : BitVec 32 := Scalar.divsi arg19 c2_i32_50
  let c1_i32_56 : BitVec 32 := 1#32
  let v100 : BitVec 32 := Scalar.subi v85 c1_i32_56
  let v101 : BitVec 32 := Scalar.select v99 v100 v85
  let c8_i32 : BitVec 32 := 8#32
  let c0_i32_57 : BitVec 32 := 0#32
  let v102 : BitVec 1 := Scalar.cmpi .eq c8_i32 c0_i32_57
  let c1_i32_58 : BitVec 32 := 1#32
  let v103 : BitVec 32 := Scalar.select v102 c1_i32_58 c8_i32
  let v104 : BitVec 32 := Scalar.remsi v101 v103
  let c0_i32_60 : BitVec 32 := 0#32
  let v106 : BitVec 1 := Scalar.cmpi .slt v104 c0_i32_60
  let c0_i32_61 : BitVec 32 := 0#32
  let v107 : BitVec 1 := Scalar.cmpi .slt v103 c0_i32_61
  let v108 : BitVec 1 := Scalar.xori v106 v107
  let c0_i32_59 : BitVec 32 := 0#32
  let v105 : BitVec 1 := Scalar.cmpi .ne v104 c0_i32_59
  let v109 : BitVec 1 := Scalar.andi v108 v105
  let v110 : BitVec 32 := Scalar.addi v104 v103
  let v111 : BitVec 32 := Scalar.select v109 v110 v104
  let c672_i32 : BitVec 32 := 672#32
  let v668 : BitVec 32 := Scalar.muli v111 c672_i32
  let c0_i32_16 : BitVec 32 := 0#32
  let c2_i32 : BitVec 32 := 2#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let c5_i32_1 : BitVec 32 := 5#32
  let c4_i32_2 : BitVec 32 := 4#32
  let v7 : BitVec 32 := Scalar.select v2 c5_i32_1 c4_i32_2
  let v8 : BitVec 32 := Scalar.muli c2_i32 v7
  let v31 : BitVec 32 := Scalar.subi v8 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg18 : BitVec 32 := Scf.iv v35 c1_i32_19 k0_t4
  let c0_i32_33 : BitVec 32 := 0#32
  let v56 : BitVec 1 := Scalar.cmpi .sgt arg18 c0_i32_33
  let v57 : BitVec 32 := Scalar.extui v56
  let c0_i32_34 : BitVec 32 := 0#32
  let v58 : BitVec 1 := Scalar.cmpi .slt arg18 c0_i32_34
  let v59 : BitVec 32 := Scalar.extui v58
  let v60 : BitVec 32 := Scalar.subi v57 v59
  let c2_i32_32 : BitVec 32 := 2#32
  let c0_i32_35 : BitVec 32 := 0#32
  let v61 : BitVec 1 := Scalar.cmpi .sgt c2_i32_32 c0_i32_35
  let v62 : BitVec 32 := Scalar.extui v61
  let c0_i32_36 : BitVec 32 := 0#32
  let v63 : BitVec 1 := Scalar.cmpi .slt c2_i32_32 c0_i32_36
  let v64 : BitVec 32 := Scalar.extui v63
  let v65 : BitVec 32 := Scalar.subi v62 v64
  let v66 : BitVec 1 := Scalar.cmpi .ne v60 v65
  let v67 : BitVec 32 := Scalar.remsi arg18 c2_i32_32
  let c0_i32_37 : BitVec 32 := 0#32
  let v68 : BitVec 1 := Scalar.cmpi .ne v67 c0_i32_37
  let v69 : BitVec 1 := Scalar.andi v66 v68
  let v55 : BitVec 32 := Scalar.divsi arg18 c2_i32_32
  let c1_i32_38 : BitVec 32 := 1#32
  let v70 : BitVec 32 := Scalar.subi v55 c1_i32_38
  let v71 : BitVec 32 := Scalar.select v69 v70 v55
  let c128_i32 : BitVec 32 := 128#32
  let v140 : BitVec 32 := Scalar.muli v71 c128_i32
  let c0_i32_76 : BitVec 32 := 0#32
  let v141 : BitVec 32 := Scalar.addi v140 c0_i32_76
  let v669 : BitVec 32 := Scalar.addi v668 v141
  let c0_i32_63 : BitVec 32 := 0#32
  let v113 : BitVec 1 := Scalar.cmpi .sgt arg19 c0_i32_63
  let v114 : BitVec 32 := Scalar.extui v113
  let c0_i32_64 : BitVec 32 := 0#32
  let v115 : BitVec 1 := Scalar.cmpi .slt arg19 c0_i32_64
  let v116 : BitVec 32 := Scalar.extui v115
  let v117 : BitVec 32 := Scalar.subi v114 v116
  let c16_i32_62 : BitVec 32 := 16#32
  let c0_i32_65 : BitVec 32 := 0#32
  let v118 : BitVec 1 := Scalar.cmpi .sgt c16_i32_62 c0_i32_65
  let v119 : BitVec 32 := Scalar.extui v118
  let c0_i32_66 : BitVec 32 := 0#32
  let v120 : BitVec 1 := Scalar.cmpi .slt c16_i32_62 c0_i32_66
  let v121 : BitVec 32 := Scalar.extui v120
  let v122 : BitVec 32 := Scalar.subi v119 v121
  let v123 : BitVec 1 := Scalar.cmpi .ne v117 v122
  let v124 : BitVec 32 := Scalar.remsi arg19 c16_i32_62
  let c0_i32_67 : BitVec 32 := 0#32
  let v125 : BitVec 1 := Scalar.cmpi .ne v124 c0_i32_67
  let v126 : BitVec 1 := Scalar.andi v123 v125
  let v112 : BitVec 32 := Scalar.divsi arg19 c16_i32_62
  let c1_i32_68 : BitVec 32 := 1#32
  let v127 : BitVec 32 := Scalar.subi v112 c1_i32_68
  let v128 : BitVec 32 := Scalar.select v126 v127 v112
  let c32_i32_79 : BitVec 32 := 32#32
  let v146 : BitVec 32 := Scalar.muli v128 c32_i32_79
  let c2_i32_69 : BitVec 32 := 2#32
  let c0_i32_70 : BitVec 32 := 0#32
  let v129 : BitVec 1 := Scalar.cmpi .eq c2_i32_69 c0_i32_70
  let c1_i32_71 : BitVec 32 := 1#32
  let v130 : BitVec 32 := Scalar.select v129 c1_i32_71 c2_i32_69
  let v131 : BitVec 32 := Scalar.remsi arg19 v130
  let c0_i32_73 : BitVec 32 := 0#32
  let v133 : BitVec 1 := Scalar.cmpi .slt v131 c0_i32_73
  let c0_i32_74 : BitVec 32 := 0#32
  let v134 : BitVec 1 := Scalar.cmpi .slt v130 c0_i32_74
  let v135 : BitVec 1 := Scalar.xori v133 v134
  let c0_i32_72 : BitVec 32 := 0#32
  let v132 : BitVec 1 := Scalar.cmpi .ne v131 c0_i32_72
  let v136 : BitVec 1 := Scalar.andi v135 v132
  let v137 : BitVec 32 := Scalar.addi v131 v130
  let v138 : BitVec 32 := Scalar.select v136 v137 v131
  let c16_i32_75 : BitVec 32 := 16#32
  let v139 : BitVec 32 := Scalar.muli v138 c16_i32_75
  let v147 : BitVec 32 := Scalar.addi v146 v139
  let v670 : BitVec 32 := Scalar.addi v669 v147
  let v671 : Index := Scalar.indexCast v670
  ![v671.toNat]
def k0_cond9 (i : grid0.Coords) (k0_t4 : Fin (k0_t4_loop i).trips) : BitVec 1 :=
  let c0_i32_16 : BitVec 32 := 0#32
  let c2_i32 : BitVec 32 := 2#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let c5_i32_1 : BitVec 32 := 5#32
  let c4_i32_2 : BitVec 32 := 4#32
  let v7 : BitVec 32 := Scalar.select v2 c5_i32_1 c4_i32_2
  let v8 : BitVec 32 := Scalar.muli c2_i32 v7
  let v31 : BitVec 32 := Scalar.subi v8 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg18 : BitVec 32 := Scf.iv v35 c1_i32_19 k0_t4
  let c2_i32_48 : BitVec 32 := 2#32
  let v81 : BitVec 32 := Scalar.addi arg18 c2_i32_48
  let v82 : BitVec 1 := Scalar.cmpi .slt v81 v8
  let v83 : BitVec 32 := Scalar.extui v82
  let c0_i32_49 : BitVec 32 := 0#32
  let v84 : BitVec 1 := Scalar.cmpi .ne v83 c0_i32_49
  v84

def k0_off13 (i : grid0.Coords) (k0_t4 : Fin (k0_t4_loop i).trips) : Fin 2 → Nat :=
  let c0_i32_53 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let c5_i32 : BitVec 32 := 5#32
  let v3 : BitVec 32 := Scalar.muli c5_i32 v1
  let c4_i32 : BitVec 32 := 4#32
  let v4 : BitVec 32 := Scalar.muli c4_i32 v1
  let c28_i32_0 : BitVec 32 := 28#32
  let v5 : BitVec 32 := Scalar.addi v4 c28_i32_0
  let v6 : BitVec 32 := Scalar.select v2 v3 v5
  let c3584_i32_51 : BitVec 32 := 3584#32
  let v86 : BitVec 32 := Scalar.muli v6 c3584_i32_51
  let c0_i32_16 : BitVec 32 := 0#32
  let c2_i32 : BitVec 32 := 2#32
  let c5_i32_1 : BitVec 32 := 5#32
  let c4_i32_2 : BitVec 32 := 4#32
  let v7 : BitVec 32 := Scalar.select v2 c5_i32_1 c4_i32_2
  let v8 : BitVec 32 := Scalar.muli c2_i32 v7
  let v31 : BitVec 32 := Scalar.subi v8 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg18 : BitVec 32 := Scf.iv v35 c1_i32_19 k0_t4
  let c2_i32_50 : BitVec 32 := 2#32
  let v85 : BitVec 32 := Scalar.addi arg18 c2_i32_50
  let c1792_i32_52 : BitVec 32 := 1792#32
  let v87 : BitVec 32 := Scalar.muli v85 c1792_i32_52
  let v88 : BitVec 32 := Scalar.addi v86 v87
  ![0, v88.toNat]
def k0_cond10 (i : grid0.Coords) (k0_t4 : Fin (k0_t4_loop i).trips) : BitVec 1 :=
  let c0_i32_16 : BitVec 32 := 0#32
  let c2_i32 : BitVec 32 := 2#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let c5_i32_1 : BitVec 32 := 5#32
  let c4_i32_2 : BitVec 32 := 4#32
  let v7 : BitVec 32 := Scalar.select v2 c5_i32_1 c4_i32_2
  let v8 : BitVec 32 := Scalar.muli c2_i32 v7
  let v31 : BitVec 32 := Scalar.subi v8 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg18 : BitVec 32 := Scf.iv v35 c1_i32_19 k0_t4
  let c1_i32_29 : BitVec 32 := 1#32
  let v51 : BitVec 32 := Scalar.andi arg18 c1_i32_29
  let c1_i32_30 : BitVec 32 := 1#32
  let v52 : BitVec 1 := Scalar.cmpi .eq v51 c1_i32_30
  let v53 : BitVec 32 := Scalar.extui v52
  let c0_i32_31 : BitVec 32 := 0#32
  let v54 : BitVec 1 := Scalar.cmpi .ne v53 c0_i32_31
  v54

def k0_off14 (i : grid0.Coords) (k0_t4 : Fin (k0_t4_loop i).trips) : Fin 2 → Nat :=
  let c0_i32_41 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let c5_i32 : BitVec 32 := 5#32
  let v3 : BitVec 32 := Scalar.muli c5_i32 v1
  let c4_i32 : BitVec 32 := 4#32
  let v4 : BitVec 32 := Scalar.muli c4_i32 v1
  let c28_i32_0 : BitVec 32 := 28#32
  let v5 : BitVec 32 := Scalar.addi v4 c28_i32_0
  let v6 : BitVec 32 := Scalar.select v2 v3 v5
  let c3584_i32_39 : BitVec 32 := 3584#32
  let v73 : BitVec 32 := Scalar.muli v6 c3584_i32_39
  let c0_i32_16 : BitVec 32 := 0#32
  let c2_i32 : BitVec 32 := 2#32
  let c5_i32_1 : BitVec 32 := 5#32
  let c4_i32_2 : BitVec 32 := 4#32
  let v7 : BitVec 32 := Scalar.select v2 c5_i32_1 c4_i32_2
  let v8 : BitVec 32 := Scalar.muli c2_i32 v7
  let v31 : BitVec 32 := Scalar.subi v8 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg18 : BitVec 32 := Scf.iv v35 c1_i32_19 k0_t4
  let c1792_i32_40 : BitVec 32 := 1792#32
  let v74 : BitVec 32 := Scalar.muli arg18 c1792_i32_40
  let v75 : BitVec 32 := Scalar.addi v73 v74
  ![0, v75.toNat]
@[reducible] def k0_t6_loop : Scf.Loop 32 :=
  let c0_i32_45 : BitVec 32 := 0#32
  let c32_i32 : BitVec 32 := 32#32
  let v80 : BitVec 32 := Scalar.addi c0_i32_45 c32_i32
  let c1_i32_46 : BitVec 32 := 1#32
  ⟨c0_i32_45, v80, c1_i32_46⟩

def k0_chk103 (i : grid0.Coords) (k0_t4 : Fin (k0_t4_loop i).trips) (v146 : IVec S16 32) (v155 : IVec S16 32) : Prop :=
  (∀ (k0_h10 : k0_cond10 i k0_t4 = 1#1), ∀ a x, ((![v146, v155] : Fin 2 → IVec S16 32) a x).toNat < S8x1792.size a)
theorem k0_idx121_inb : ∀ (i : grid0.Coords) (k0_t4 : Fin (k0_t4_loop i).trips) (v146 : IVec S16 32) (v155 : IVec S16 32) (k0_hw103 : k0_chk103 i k0_t4 v146 v155), ∀ (k0_h10 : k0_cond10 i k0_t4 = 1#1), ∀ a x, ((![v146, v155] : Fin 2 → IVec S16 32) a x).toNat < S8x1792.size a := fun i k0_t4 v146 v155 k0_hw103 k0_h10 => k0_hw103 k0_h10

def k0_chk104 (i : grid0.Coords) (k0_t4 : Fin (k0_t4_loop i).trips) (v146 : IVec S16 32) (v158 : IVec S16 32) : Prop :=
  (∀ (k0_h10 : k0_cond10 i k0_t4 = 1#1), ∀ a x, ((![v146, v158] : Fin 2 → IVec S16 32) a x).toNat < S8x1792.size a)
theorem k0_idx122_inb : ∀ (i : grid0.Coords) (k0_t4 : Fin (k0_t4_loop i).trips) (v146 : IVec S16 32) (v158 : IVec S16 32) (k0_hw104 : k0_chk104 i k0_t4 v146 v158), ∀ (k0_h10 : k0_cond10 i k0_t4 = 1#1), ∀ a x, ((![v146, v158] : Fin 2 → IVec S16 32) a x).toNat < S8x1792.size a := fun i k0_t4 v146 v158 k0_hw104 k0_h10 => k0_hw104 k0_h10

def k0_chk105 (i : grid0.Coords) (k0_t4 : Fin (k0_t4_loop i).trips) (v146 : IVec S16 32) (v161 : IVec S16 32) : Prop :=
  (∀ (k0_h10 : k0_cond10 i k0_t4 = 1#1), ∀ a x, ((![v146, v161] : Fin 2 → IVec S16 32) a x).toNat < S8x1792.size a)
theorem k0_idx123_inb : ∀ (i : grid0.Coords) (k0_t4 : Fin (k0_t4_loop i).trips) (v146 : IVec S16 32) (v161 : IVec S16 32) (k0_hw105 : k0_chk105 i k0_t4 v146 v161), ∀ (k0_h10 : k0_cond10 i k0_t4 = 1#1), ∀ a x, ((![v146, v161] : Fin 2 → IVec S16 32) a x).toNat < S8x1792.size a := fun i k0_t4 v146 v161 k0_hw105 k0_h10 => k0_hw105 k0_h10

def k0_chk106 (i : grid0.Coords) (k0_t4 : Fin (k0_t4_loop i).trips) (v146 : IVec S16 32) (v164 : IVec S16 32) : Prop :=
  (∀ (k0_h10 : k0_cond10 i k0_t4 = 1#1), ∀ a x, ((![v146, v164] : Fin 2 → IVec S16 32) a x).toNat < S8x1792.size a)
theorem k0_idx124_inb : ∀ (i : grid0.Coords) (k0_t4 : Fin (k0_t4_loop i).trips) (v146 : IVec S16 32) (v164 : IVec S16 32) (k0_hw106 : k0_chk106 i k0_t4 v146 v164), ∀ (k0_h10 : k0_cond10 i k0_t4 = 1#1), ∀ a x, ((![v146, v164] : Fin 2 → IVec S16 32) a x).toNat < S8x1792.size a := fun i k0_t4 v146 v164 k0_hw106 k0_h10 => k0_hw106 k0_h10

def k0_chk107 (i : grid0.Coords) (k0_t4 : Fin (k0_t4_loop i).trips) (v146 : IVec S16 32) (v167 : IVec S16 32) : Prop :=
  (∀ (k0_h10 : k0_cond10 i k0_t4 = 1#1), ∀ a x, ((![v146, v167] : Fin 2 → IVec S16 32) a x).toNat < S8x1792.size a)
theorem k0_idx125_inb : ∀ (i : grid0.Coords) (k0_t4 : Fin (k0_t4_loop i).trips) (v146 : IVec S16 32) (v167 : IVec S16 32) (k0_hw107 : k0_chk107 i k0_t4 v146 v167), ∀ (k0_h10 : k0_cond10 i k0_t4 = 1#1), ∀ a x, ((![v146, v167] : Fin 2 → IVec S16 32) a x).toNat < S8x1792.size a := fun i k0_t4 v146 v167 k0_hw107 k0_h10 => k0_hw107 k0_h10

def k0_chk108 (i : grid0.Coords) (k0_t4 : Fin (k0_t4_loop i).trips) (v146 : IVec S16 32) (v170 : IVec S16 32) : Prop :=
  (∀ (k0_h10 : k0_cond10 i k0_t4 = 1#1), ∀ a x, ((![v146, v170] : Fin 2 → IVec S16 32) a x).toNat < S8x1792.size a)
theorem k0_idx126_inb : ∀ (i : grid0.Coords) (k0_t4 : Fin (k0_t4_loop i).trips) (v146 : IVec S16 32) (v170 : IVec S16 32) (k0_hw108 : k0_chk108 i k0_t4 v146 v170), ∀ (k0_h10 : k0_cond10 i k0_t4 = 1#1), ∀ a x, ((![v146, v170] : Fin 2 → IVec S16 32) a x).toNat < S8x1792.size a := fun i k0_t4 v146 v170 k0_hw108 k0_h10 => k0_hw108 k0_h10

def k0_chk109 (i : grid0.Coords) (k0_t4 : Fin (k0_t4_loop i).trips) (v146 : IVec S16 32) (v173 : IVec S16 32) : Prop :=
  (∀ (k0_h10 : k0_cond10 i k0_t4 = 1#1), ∀ a x, ((![v146, v173] : Fin 2 → IVec S16 32) a x).toNat < S8x1792.size a)
theorem k0_idx127_inb : ∀ (i : grid0.Coords) (k0_t4 : Fin (k0_t4_loop i).trips) (v146 : IVec S16 32) (v173 : IVec S16 32) (k0_hw109 : k0_chk109 i k0_t4 v146 v173), ∀ (k0_h10 : k0_cond10 i k0_t4 = 1#1), ∀ a x, ((![v146, v173] : Fin 2 → IVec S16 32) a x).toNat < S8x1792.size a := fun i k0_t4 v146 v173 k0_hw109 k0_h10 => k0_hw109 k0_h10

def k0_chk110 (i : grid0.Coords) (k0_t4 : Fin (k0_t4_loop i).trips) (v146 : IVec S16 32) (v176 : IVec S16 32) : Prop :=
  (∀ (k0_h10 : k0_cond10 i k0_t4 = 1#1), ∀ a x, ((![v146, v176] : Fin 2 → IVec S16 32) a x).toNat < S8x1792.size a)
theorem k0_idx128_inb : ∀ (i : grid0.Coords) (k0_t4 : Fin (k0_t4_loop i).trips) (v146 : IVec S16 32) (v176 : IVec S16 32) (k0_hw110 : k0_chk110 i k0_t4 v146 v176), ∀ (k0_h10 : k0_cond10 i k0_t4 = 1#1), ∀ a x, ((![v146, v176] : Fin 2 → IVec S16 32) a x).toNat < S8x1792.size a := fun i k0_t4 v146 v176 k0_hw110 k0_h10 => k0_hw110 k0_h10

def k0_chk111 (i : grid0.Coords) (k0_t4 : Fin (k0_t4_loop i).trips) (v146 : IVec S16 32) (v179 : IVec S16 32) : Prop :=
  (∀ (k0_h10 : k0_cond10 i k0_t4 = 1#1), ∀ a x, ((![v146, v179] : Fin 2 → IVec S16 32) a x).toNat < S8x1792.size a)
theorem k0_idx129_inb : ∀ (i : grid0.Coords) (k0_t4 : Fin (k0_t4_loop i).trips) (v146 : IVec S16 32) (v179 : IVec S16 32) (k0_hw111 : k0_chk111 i k0_t4 v146 v179), ∀ (k0_h10 : k0_cond10 i k0_t4 = 1#1), ∀ a x, ((![v146, v179] : Fin 2 → IVec S16 32) a x).toNat < S8x1792.size a := fun i k0_t4 v146 v179 k0_hw111 k0_h10 => k0_hw111 k0_h10

def k0_chk112 (i : grid0.Coords) (k0_t4 : Fin (k0_t4_loop i).trips) (v146 : IVec S16 32) (v182 : IVec S16 32) : Prop :=
  (∀ (k0_h10 : k0_cond10 i k0_t4 = 1#1), ∀ a x, ((![v146, v182] : Fin 2 → IVec S16 32) a x).toNat < S8x1792.size a)
theorem k0_idx130_inb : ∀ (i : grid0.Coords) (k0_t4 : Fin (k0_t4_loop i).trips) (v146 : IVec S16 32) (v182 : IVec S16 32) (k0_hw112 : k0_chk112 i k0_t4 v146 v182), ∀ (k0_h10 : k0_cond10 i k0_t4 = 1#1), ∀ a x, ((![v146, v182] : Fin 2 → IVec S16 32) a x).toNat < S8x1792.size a := fun i k0_t4 v146 v182 k0_hw112 k0_h10 => k0_hw112 k0_h10

def k0_chk113 (i : grid0.Coords) (k0_t4 : Fin (k0_t4_loop i).trips) (v146 : IVec S16 32) (v185 : IVec S16 32) : Prop :=
  (∀ (k0_h10 : k0_cond10 i k0_t4 = 1#1), ∀ a x, ((![v146, v185] : Fin 2 → IVec S16 32) a x).toNat < S8x1792.size a)
theorem k0_idx131_inb : ∀ (i : grid0.Coords) (k0_t4 : Fin (k0_t4_loop i).trips) (v146 : IVec S16 32) (v185 : IVec S16 32) (k0_hw113 : k0_chk113 i k0_t4 v146 v185), ∀ (k0_h10 : k0_cond10 i k0_t4 = 1#1), ∀ a x, ((![v146, v185] : Fin 2 → IVec S16 32) a x).toNat < S8x1792.size a := fun i k0_t4 v146 v185 k0_hw113 k0_h10 => k0_hw113 k0_h10

def k0_chk114 (i : grid0.Coords) (k0_t4 : Fin (k0_t4_loop i).trips) (v146 : IVec S16 32) (v188 : IVec S16 32) : Prop :=
  (∀ (k0_h10 : k0_cond10 i k0_t4 = 1#1), ∀ a x, ((![v146, v188] : Fin 2 → IVec S16 32) a x).toNat < S8x1792.size a)
theorem k0_idx132_inb : ∀ (i : grid0.Coords) (k0_t4 : Fin (k0_t4_loop i).trips) (v146 : IVec S16 32) (v188 : IVec S16 32) (k0_hw114 : k0_chk114 i k0_t4 v146 v188), ∀ (k0_h10 : k0_cond10 i k0_t4 = 1#1), ∀ a x, ((![v146, v188] : Fin 2 → IVec S16 32) a x).toNat < S8x1792.size a := fun i k0_t4 v146 v188 k0_hw114 k0_h10 => k0_hw114 k0_h10

def k0_chk115 (i : grid0.Coords) (k0_t4 : Fin (k0_t4_loop i).trips) (v146 : IVec S16 32) (v191 : IVec S16 32) : Prop :=
  (∀ (k0_h10 : k0_cond10 i k0_t4 = 1#1), ∀ a x, ((![v146, v191] : Fin 2 → IVec S16 32) a x).toNat < S8x1792.size a)
theorem k0_idx133_inb : ∀ (i : grid0.Coords) (k0_t4 : Fin (k0_t4_loop i).trips) (v146 : IVec S16 32) (v191 : IVec S16 32) (k0_hw115 : k0_chk115 i k0_t4 v146 v191), ∀ (k0_h10 : k0_cond10 i k0_t4 = 1#1), ∀ a x, ((![v146, v191] : Fin 2 → IVec S16 32) a x).toNat < S8x1792.size a := fun i k0_t4 v146 v191 k0_hw115 k0_h10 => k0_hw115 k0_h10

def k0_chk116 (i : grid0.Coords) (k0_t4 : Fin (k0_t4_loop i).trips) (v146 : IVec S16 32) (v194 : IVec S16 32) : Prop :=
  (∀ (k0_h10 : k0_cond10 i k0_t4 = 1#1), ∀ a x, ((![v146, v194] : Fin 2 → IVec S16 32) a x).toNat < S8x1792.size a)
theorem k0_idx134_inb : ∀ (i : grid0.Coords) (k0_t4 : Fin (k0_t4_loop i).trips) (v146 : IVec S16 32) (v194 : IVec S16 32) (k0_hw116 : k0_chk116 i k0_t4 v146 v194), ∀ (k0_h10 : k0_cond10 i k0_t4 = 1#1), ∀ a x, ((![v146, v194] : Fin 2 → IVec S16 32) a x).toNat < S8x1792.size a := fun i k0_t4 v146 v194 k0_hw116 k0_h10 => k0_hw116 k0_h10

def k0_chk117 (i : grid0.Coords) (k0_t4 : Fin (k0_t4_loop i).trips) (v146 : IVec S16 32) (v197 : IVec S16 32) : Prop :=
  (∀ (k0_h10 : k0_cond10 i k0_t4 = 1#1), ∀ a x, ((![v146, v197] : Fin 2 → IVec S16 32) a x).toNat < S8x1792.size a)
theorem k0_idx135_inb : ∀ (i : grid0.Coords) (k0_t4 : Fin (k0_t4_loop i).trips) (v146 : IVec S16 32) (v197 : IVec S16 32) (k0_hw117 : k0_chk117 i k0_t4 v146 v197), ∀ (k0_h10 : k0_cond10 i k0_t4 = 1#1), ∀ a x, ((![v146, v197] : Fin 2 → IVec S16 32) a x).toNat < S8x1792.size a := fun i k0_t4 v146 v197 k0_hw117 k0_h10 => k0_hw117 k0_h10

def k0_chk118 (i : grid0.Coords) (k0_t4 : Fin (k0_t4_loop i).trips) (v146 : IVec S16 32) (v200 : IVec S16 32) : Prop :=
  (∀ (k0_h10 : k0_cond10 i k0_t4 = 1#1), ∀ a x, ((![v146, v200] : Fin 2 → IVec S16 32) a x).toNat < S8x1792.size a)
theorem k0_idx136_inb : ∀ (i : grid0.Coords) (k0_t4 : Fin (k0_t4_loop i).trips) (v146 : IVec S16 32) (v200 : IVec S16 32) (k0_hw118 : k0_chk118 i k0_t4 v146 v200), ∀ (k0_h10 : k0_cond10 i k0_t4 = 1#1), ∀ a x, ((![v146, v200] : Fin 2 → IVec S16 32) a x).toNat < S8x1792.size a := fun i k0_t4 v146 v200 k0_hw118 k0_h10 => k0_hw118 k0_h10

def k0_chk119 (i : grid0.Coords) (k0_t4 : Fin (k0_t4_loop i).trips) (v146 : IVec S16 32) (v203 : IVec S16 32) : Prop :=
  (∀ (k0_h10 : k0_cond10 i k0_t4 = 1#1), ∀ a x, ((![v146, v203] : Fin 2 → IVec S16 32) a x).toNat < S8x1792.size a)
theorem k0_idx137_inb : ∀ (i : grid0.Coords) (k0_t4 : Fin (k0_t4_loop i).trips) (v146 : IVec S16 32) (v203 : IVec S16 32) (k0_hw119 : k0_chk119 i k0_t4 v146 v203), ∀ (k0_h10 : k0_cond10 i k0_t4 = 1#1), ∀ a x, ((![v146, v203] : Fin 2 → IVec S16 32) a x).toNat < S8x1792.size a := fun i k0_t4 v146 v203 k0_hw119 k0_h10 => k0_hw119 k0_h10

def k0_chk120 (i : grid0.Coords) (k0_t4 : Fin (k0_t4_loop i).trips) (v146 : IVec S16 32) (v206 : IVec S16 32) : Prop :=
  (∀ (k0_h10 : k0_cond10 i k0_t4 = 1#1), ∀ a x, ((![v146, v206] : Fin 2 → IVec S16 32) a x).toNat < S8x1792.size a)
theorem k0_idx138_inb : ∀ (i : grid0.Coords) (k0_t4 : Fin (k0_t4_loop i).trips) (v146 : IVec S16 32) (v206 : IVec S16 32) (k0_hw120 : k0_chk120 i k0_t4 v146 v206), ∀ (k0_h10 : k0_cond10 i k0_t4 = 1#1), ∀ a x, ((![v146, v206] : Fin 2 → IVec S16 32) a x).toNat < S8x1792.size a := fun i k0_t4 v146 v206 k0_hw120 k0_h10 => k0_hw120 k0_h10

def k0_chk121 (i : grid0.Coords) (k0_t4 : Fin (k0_t4_loop i).trips) (v146 : IVec S16 32) (v209 : IVec S16 32) : Prop :=
  (∀ (k0_h10 : k0_cond10 i k0_t4 = 1#1), ∀ a x, ((![v146, v209] : Fin 2 → IVec S16 32) a x).toNat < S8x1792.size a)
theorem k0_idx139_inb : ∀ (i : grid0.Coords) (k0_t4 : Fin (k0_t4_loop i).trips) (v146 : IVec S16 32) (v209 : IVec S16 32) (k0_hw121 : k0_chk121 i k0_t4 v146 v209), ∀ (k0_h10 : k0_cond10 i k0_t4 = 1#1), ∀ a x, ((![v146, v209] : Fin 2 → IVec S16 32) a x).toNat < S8x1792.size a := fun i k0_t4 v146 v209 k0_hw121 k0_h10 => k0_hw121 k0_h10

def k0_chk122 (i : grid0.Coords) (k0_t4 : Fin (k0_t4_loop i).trips) (v146 : IVec S16 32) (v212 : IVec S16 32) : Prop :=
  (∀ (k0_h10 : k0_cond10 i k0_t4 = 1#1), ∀ a x, ((![v146, v212] : Fin 2 → IVec S16 32) a x).toNat < S8x1792.size a)
theorem k0_idx140_inb : ∀ (i : grid0.Coords) (k0_t4 : Fin (k0_t4_loop i).trips) (v146 : IVec S16 32) (v212 : IVec S16 32) (k0_hw122 : k0_chk122 i k0_t4 v146 v212), ∀ (k0_h10 : k0_cond10 i k0_t4 = 1#1), ∀ a x, ((![v146, v212] : Fin 2 → IVec S16 32) a x).toNat < S8x1792.size a := fun i k0_t4 v146 v212 k0_hw122 k0_h10 => k0_hw122 k0_h10

def k0_chk123 (i : grid0.Coords) (k0_t4 : Fin (k0_t4_loop i).trips) (v146 : IVec S16 32) (v215 : IVec S16 32) : Prop :=
  (∀ (k0_h10 : k0_cond10 i k0_t4 = 1#1), ∀ a x, ((![v146, v215] : Fin 2 → IVec S16 32) a x).toNat < S8x1792.size a)
theorem k0_idx141_inb : ∀ (i : grid0.Coords) (k0_t4 : Fin (k0_t4_loop i).trips) (v146 : IVec S16 32) (v215 : IVec S16 32) (k0_hw123 : k0_chk123 i k0_t4 v146 v215), ∀ (k0_h10 : k0_cond10 i k0_t4 = 1#1), ∀ a x, ((![v146, v215] : Fin 2 → IVec S16 32) a x).toNat < S8x1792.size a := fun i k0_t4 v146 v215 k0_hw123 k0_h10 => k0_hw123 k0_h10

def k0_chk124 (i : grid0.Coords) (k0_t4 : Fin (k0_t4_loop i).trips) (v146 : IVec S16 32) (v218 : IVec S16 32) : Prop :=
  (∀ (k0_h10 : k0_cond10 i k0_t4 = 1#1), ∀ a x, ((![v146, v218] : Fin 2 → IVec S16 32) a x).toNat < S8x1792.size a)
theorem k0_idx142_inb : ∀ (i : grid0.Coords) (k0_t4 : Fin (k0_t4_loop i).trips) (v146 : IVec S16 32) (v218 : IVec S16 32) (k0_hw124 : k0_chk124 i k0_t4 v146 v218), ∀ (k0_h10 : k0_cond10 i k0_t4 = 1#1), ∀ a x, ((![v146, v218] : Fin 2 → IVec S16 32) a x).toNat < S8x1792.size a := fun i k0_t4 v146 v218 k0_hw124 k0_h10 => k0_hw124 k0_h10

def k0_chk125 (i : grid0.Coords) (k0_t4 : Fin (k0_t4_loop i).trips) (v146 : IVec S16 32) (v221 : IVec S16 32) : Prop :=
  (∀ (k0_h10 : k0_cond10 i k0_t4 = 1#1), ∀ a x, ((![v146, v221] : Fin 2 → IVec S16 32) a x).toNat < S8x1792.size a)
theorem k0_idx143_inb : ∀ (i : grid0.Coords) (k0_t4 : Fin (k0_t4_loop i).trips) (v146 : IVec S16 32) (v221 : IVec S16 32) (k0_hw125 : k0_chk125 i k0_t4 v146 v221), ∀ (k0_h10 : k0_cond10 i k0_t4 = 1#1), ∀ a x, ((![v146, v221] : Fin 2 → IVec S16 32) a x).toNat < S8x1792.size a := fun i k0_t4 v146 v221 k0_hw125 k0_h10 => k0_hw125 k0_h10

def k0_chk126 (i : grid0.Coords) (k0_t4 : Fin (k0_t4_loop i).trips) (v146 : IVec S16 32) (v224 : IVec S16 32) : Prop :=
  (∀ (k0_h10 : k0_cond10 i k0_t4 = 1#1), ∀ a x, ((![v146, v224] : Fin 2 → IVec S16 32) a x).toNat < S8x1792.size a)
theorem k0_idx144_inb : ∀ (i : grid0.Coords) (k0_t4 : Fin (k0_t4_loop i).trips) (v146 : IVec S16 32) (v224 : IVec S16 32) (k0_hw126 : k0_chk126 i k0_t4 v146 v224), ∀ (k0_h10 : k0_cond10 i k0_t4 = 1#1), ∀ a x, ((![v146, v224] : Fin 2 → IVec S16 32) a x).toNat < S8x1792.size a := fun i k0_t4 v146 v224 k0_hw126 k0_h10 => k0_hw126 k0_h10

def k0_chk127 (i : grid0.Coords) (k0_t4 : Fin (k0_t4_loop i).trips) (v146 : IVec S16 32) (v227 : IVec S16 32) : Prop :=
  (∀ (k0_h10 : k0_cond10 i k0_t4 = 1#1), ∀ a x, ((![v146, v227] : Fin 2 → IVec S16 32) a x).toNat < S8x1792.size a)
theorem k0_idx145_inb : ∀ (i : grid0.Coords) (k0_t4 : Fin (k0_t4_loop i).trips) (v146 : IVec S16 32) (v227 : IVec S16 32) (k0_hw127 : k0_chk127 i k0_t4 v146 v227), ∀ (k0_h10 : k0_cond10 i k0_t4 = 1#1), ∀ a x, ((![v146, v227] : Fin 2 → IVec S16 32) a x).toNat < S8x1792.size a := fun i k0_t4 v146 v227 k0_hw127 k0_h10 => k0_hw127 k0_h10

def k0_chk128 (i : grid0.Coords) (k0_t4 : Fin (k0_t4_loop i).trips) (v146 : IVec S16 32) (v230 : IVec S16 32) : Prop :=
  (∀ (k0_h10 : k0_cond10 i k0_t4 = 1#1), ∀ a x, ((![v146, v230] : Fin 2 → IVec S16 32) a x).toNat < S8x1792.size a)
theorem k0_idx146_inb : ∀ (i : grid0.Coords) (k0_t4 : Fin (k0_t4_loop i).trips) (v146 : IVec S16 32) (v230 : IVec S16 32) (k0_hw128 : k0_chk128 i k0_t4 v146 v230), ∀ (k0_h10 : k0_cond10 i k0_t4 = 1#1), ∀ a x, ((![v146, v230] : Fin 2 → IVec S16 32) a x).toNat < S8x1792.size a := fun i k0_t4 v146 v230 k0_hw128 k0_h10 => k0_hw128 k0_h10

def k0_chk129 (i : grid0.Coords) (k0_t4 : Fin (k0_t4_loop i).trips) (v146 : IVec S16 32) (v233 : IVec S16 32) : Prop :=
  (∀ (k0_h10 : k0_cond10 i k0_t4 = 1#1), ∀ a x, ((![v146, v233] : Fin 2 → IVec S16 32) a x).toNat < S8x1792.size a)
theorem k0_idx147_inb : ∀ (i : grid0.Coords) (k0_t4 : Fin (k0_t4_loop i).trips) (v146 : IVec S16 32) (v233 : IVec S16 32) (k0_hw129 : k0_chk129 i k0_t4 v146 v233), ∀ (k0_h10 : k0_cond10 i k0_t4 = 1#1), ∀ a x, ((![v146, v233] : Fin 2 → IVec S16 32) a x).toNat < S8x1792.size a := fun i k0_t4 v146 v233 k0_hw129 k0_h10 => k0_hw129 k0_h10

def k0_chk130 (i : grid0.Coords) (k0_t4 : Fin (k0_t4_loop i).trips) (v146 : IVec S16 32) (v236 : IVec S16 32) : Prop :=
  (∀ (k0_h10 : k0_cond10 i k0_t4 = 1#1), ∀ a x, ((![v146, v236] : Fin 2 → IVec S16 32) a x).toNat < S8x1792.size a)
theorem k0_idx148_inb : ∀ (i : grid0.Coords) (k0_t4 : Fin (k0_t4_loop i).trips) (v146 : IVec S16 32) (v236 : IVec S16 32) (k0_hw130 : k0_chk130 i k0_t4 v146 v236), ∀ (k0_h10 : k0_cond10 i k0_t4 = 1#1), ∀ a x, ((![v146, v236] : Fin 2 → IVec S16 32) a x).toNat < S8x1792.size a := fun i k0_t4 v146 v236 k0_hw130 k0_h10 => k0_hw130 k0_h10

def k0_chk131 (i : grid0.Coords) (k0_t4 : Fin (k0_t4_loop i).trips) (v146 : IVec S16 32) (v317 : IVec S16 32) : Prop :=
  (∀ (k0_h10 : k0_cond10 i k0_t4 = 1#1), ∀ a x, ((![v146, v317] : Fin 2 → IVec S16 32) a x).toNat < S8x1792.size a)
theorem k0_idx149_inb : ∀ (i : grid0.Coords) (k0_t4 : Fin (k0_t4_loop i).trips) (v146 : IVec S16 32) (v317 : IVec S16 32) (k0_hw131 : k0_chk131 i k0_t4 v146 v317), ∀ (k0_h10 : k0_cond10 i k0_t4 = 1#1), ∀ a x, ((![v146, v317] : Fin 2 → IVec S16 32) a x).toNat < S8x1792.size a := fun i k0_t4 v146 v317 k0_hw131 k0_h10 => k0_hw131 k0_h10

def k0_chk132 (i : grid0.Coords) (k0_t4 : Fin (k0_t4_loop i).trips) (v146 : IVec S16 32) (v408 : IVec S16 32) : Prop :=
  (∀ (k0_h10 : k0_cond10 i k0_t4 = 1#1), ∀ a x, ((![v146, v408] : Fin 2 → IVec S16 32) a x).toNat < S8x1792.size a)
theorem k0_idx150_inb : ∀ (i : grid0.Coords) (k0_t4 : Fin (k0_t4_loop i).trips) (v146 : IVec S16 32) (v408 : IVec S16 32) (k0_hw132 : k0_chk132 i k0_t4 v146 v408), ∀ (k0_h10 : k0_cond10 i k0_t4 = 1#1), ∀ a x, ((![v146, v408] : Fin 2 → IVec S16 32) a x).toNat < S8x1792.size a := fun i k0_t4 v146 v408 k0_hw132 k0_h10 => k0_hw132 k0_h10

def k0_chk133 (i : grid0.Coords) (k0_t4 : Fin (k0_t4_loop i).trips) (v146 : IVec S16 32) (v500 : IVec S16 32) : Prop :=
  (∀ (k0_h10 : k0_cond10 i k0_t4 = 1#1), ∀ a x, ((![v146, v500] : Fin 2 → IVec S16 32) a x).toNat < S8x1792.size a)
theorem k0_idx151_inb : ∀ (i : grid0.Coords) (k0_t4 : Fin (k0_t4_loop i).trips) (v146 : IVec S16 32) (v500 : IVec S16 32) (k0_hw133 : k0_chk133 i k0_t4 v146 v500), ∀ (k0_h10 : k0_cond10 i k0_t4 = 1#1), ∀ a x, ((![v146, v500] : Fin 2 → IVec S16 32) a x).toNat < S8x1792.size a := fun i k0_t4 v146 v500 k0_hw133 k0_h10 => k0_hw133 k0_h10

def k0_chk134 (i : grid0.Coords) (k0_t4 : Fin (k0_t4_loop i).trips) (v146 : IVec S16 32) (v592 : IVec S16 32) : Prop :=
  (∀ (k0_h10 : k0_cond10 i k0_t4 = 1#1), ∀ a x, ((![v146, v592] : Fin 2 → IVec S16 32) a x).toNat < S8x1792.size a)
theorem k0_idx152_inb : ∀ (i : grid0.Coords) (k0_t4 : Fin (k0_t4_loop i).trips) (v146 : IVec S16 32) (v592 : IVec S16 32) (k0_hw134 : k0_chk134 i k0_t4 v146 v592), ∀ (k0_h10 : k0_cond10 i k0_t4 = 1#1), ∀ a x, ((![v146, v592] : Fin 2 → IVec S16 32) a x).toNat < S8x1792.size a := fun i k0_t4 v146 v592 k0_hw134 k0_h10 => k0_hw134 k0_h10

def k0_chk135 (i : grid0.Coords) (k0_t4 : Fin (k0_t4_loop i).trips) (v146 : IVec S16 32) (v605 : IVec S16 32) (v606 : IVec S16 32) (v607 : IVec S16 32) (v608 : IVec S16 32) (v611 : IVec S16 32) : Prop :=
  (∀ (k0_h10 : k0_cond10 i k0_t4 = 1#1), ∀ a x, ((![v146, v605, v611] : Fin 3 → IVec S16 32) a x).toNat < S8x4x640.size a) ∧
  (∀ (k0_h10 : k0_cond10 i k0_t4 = 1#1), ∀ a x, ((![v146, v606, v611] : Fin 3 → IVec S16 32) a x).toNat < S8x4x640.size a) ∧
  (∀ (k0_h10 : k0_cond10 i k0_t4 = 1#1), ∀ a x, ((![v146, v607, v611] : Fin 3 → IVec S16 32) a x).toNat < S8x4x640.size a) ∧
  (∀ (k0_h10 : k0_cond10 i k0_t4 = 1#1), ∀ a x, ((![v146, v608, v611] : Fin 3 → IVec S16 32) a x).toNat < S8x4x640.size a)
theorem k0_idx153_inb : ∀ (i : grid0.Coords) (k0_t4 : Fin (k0_t4_loop i).trips) (v146 : IVec S16 32) (v605 : IVec S16 32) (v606 : IVec S16 32) (v607 : IVec S16 32) (v608 : IVec S16 32) (v611 : IVec S16 32) (k0_hw135 : k0_chk135 i k0_t4 v146 v605 v606 v607 v608 v611), ∀ (k0_h10 : k0_cond10 i k0_t4 = 1#1), ∀ a x, ((![v146, v605, v611] : Fin 3 → IVec S16 32) a x).toNat < S8x4x640.size a := fun i k0_t4 v146 v605 v606 v607 v608 v611 k0_hw135 k0_h10 => k0_hw135.1 k0_h10
theorem k0_idx154_inb : ∀ (i : grid0.Coords) (k0_t4 : Fin (k0_t4_loop i).trips) (v146 : IVec S16 32) (v605 : IVec S16 32) (v606 : IVec S16 32) (v607 : IVec S16 32) (v608 : IVec S16 32) (v611 : IVec S16 32) (k0_hw135 : k0_chk135 i k0_t4 v146 v605 v606 v607 v608 v611), ∀ (k0_h10 : k0_cond10 i k0_t4 = 1#1), ∀ a x, ((![v146, v606, v611] : Fin 3 → IVec S16 32) a x).toNat < S8x4x640.size a := fun i k0_t4 v146 v605 v606 v607 v608 v611 k0_hw135 k0_h10 => k0_hw135.2.1 k0_h10
theorem k0_idx155_inb : ∀ (i : grid0.Coords) (k0_t4 : Fin (k0_t4_loop i).trips) (v146 : IVec S16 32) (v605 : IVec S16 32) (v606 : IVec S16 32) (v607 : IVec S16 32) (v608 : IVec S16 32) (v611 : IVec S16 32) (k0_hw135 : k0_chk135 i k0_t4 v146 v605 v606 v607 v608 v611), ∀ (k0_h10 : k0_cond10 i k0_t4 = 1#1), ∀ a x, ((![v146, v607, v611] : Fin 3 → IVec S16 32) a x).toNat < S8x4x640.size a := fun i k0_t4 v146 v605 v606 v607 v608 v611 k0_hw135 k0_h10 => k0_hw135.2.2.1 k0_h10
theorem k0_idx156_inb : ∀ (i : grid0.Coords) (k0_t4 : Fin (k0_t4_loop i).trips) (v146 : IVec S16 32) (v605 : IVec S16 32) (v606 : IVec S16 32) (v607 : IVec S16 32) (v608 : IVec S16 32) (v611 : IVec S16 32) (k0_hw135 : k0_chk135 i k0_t4 v146 v605 v606 v607 v608 v611), ∀ (k0_h10 : k0_cond10 i k0_t4 = 1#1), ∀ a x, ((![v146, v608, v611] : Fin 3 → IVec S16 32) a x).toNat < S8x4x640.size a := fun i k0_t4 v146 v605 v606 v607 v608 v611 k0_hw135 k0_h10 => k0_hw135.2.2.2 k0_h10

def k0_chk136 (i : grid0.Coords) (k0_t4 : Fin (k0_t4_loop i).trips) (v146 : IVec S16 32) (v660 : IVec S16 32) (v661 : IVec S16 32) (v662 : IVec S16 32) (v663 : IVec S16 32) (v666 : IVec S16 32) : Prop :=
  (∀ (k0_h10 : k0_cond10 i k0_t4 = 1#1), ∀ a x, ((![v146, v660, v666] : Fin 3 → IVec S16 32) a x).toNat < S8x4x128.size a) ∧
  (∀ (k0_h10 : k0_cond10 i k0_t4 = 1#1), ∀ a x, ((![v146, v661, v666] : Fin 3 → IVec S16 32) a x).toNat < S8x4x128.size a) ∧
  (∀ (k0_h10 : k0_cond10 i k0_t4 = 1#1), ∀ a x, ((![v146, v662, v666] : Fin 3 → IVec S16 32) a x).toNat < S8x4x128.size a) ∧
  (∀ (k0_h10 : k0_cond10 i k0_t4 = 1#1), ∀ a x, ((![v146, v663, v666] : Fin 3 → IVec S16 32) a x).toNat < S8x4x128.size a)
theorem k0_idx157_inb : ∀ (i : grid0.Coords) (k0_t4 : Fin (k0_t4_loop i).trips) (v146 : IVec S16 32) (v660 : IVec S16 32) (v661 : IVec S16 32) (v662 : IVec S16 32) (v663 : IVec S16 32) (v666 : IVec S16 32) (k0_hw136 : k0_chk136 i k0_t4 v146 v660 v661 v662 v663 v666), ∀ (k0_h10 : k0_cond10 i k0_t4 = 1#1), ∀ a x, ((![v146, v660, v666] : Fin 3 → IVec S16 32) a x).toNat < S8x4x128.size a := fun i k0_t4 v146 v660 v661 v662 v663 v666 k0_hw136 k0_h10 => k0_hw136.1 k0_h10
theorem k0_idx158_inb : ∀ (i : grid0.Coords) (k0_t4 : Fin (k0_t4_loop i).trips) (v146 : IVec S16 32) (v660 : IVec S16 32) (v661 : IVec S16 32) (v662 : IVec S16 32) (v663 : IVec S16 32) (v666 : IVec S16 32) (k0_hw136 : k0_chk136 i k0_t4 v146 v660 v661 v662 v663 v666), ∀ (k0_h10 : k0_cond10 i k0_t4 = 1#1), ∀ a x, ((![v146, v661, v666] : Fin 3 → IVec S16 32) a x).toNat < S8x4x128.size a := fun i k0_t4 v146 v660 v661 v662 v663 v666 k0_hw136 k0_h10 => k0_hw136.2.1 k0_h10
theorem k0_idx159_inb : ∀ (i : grid0.Coords) (k0_t4 : Fin (k0_t4_loop i).trips) (v146 : IVec S16 32) (v660 : IVec S16 32) (v661 : IVec S16 32) (v662 : IVec S16 32) (v663 : IVec S16 32) (v666 : IVec S16 32) (k0_hw136 : k0_chk136 i k0_t4 v146 v660 v661 v662 v663 v666), ∀ (k0_h10 : k0_cond10 i k0_t4 = 1#1), ∀ a x, ((![v146, v662, v666] : Fin 3 → IVec S16 32) a x).toNat < S8x4x128.size a := fun i k0_t4 v146 v660 v661 v662 v663 v666 k0_hw136 k0_h10 => k0_hw136.2.2.1 k0_h10
theorem k0_idx160_inb : ∀ (i : grid0.Coords) (k0_t4 : Fin (k0_t4_loop i).trips) (v146 : IVec S16 32) (v660 : IVec S16 32) (v661 : IVec S16 32) (v662 : IVec S16 32) (v663 : IVec S16 32) (v666 : IVec S16 32) (k0_hw136 : k0_chk136 i k0_t4 v146 v660 v661 v662 v663 v666), ∀ (k0_h10 : k0_cond10 i k0_t4 = 1#1), ∀ a x, ((![v146, v663, v666] : Fin 3 → IVec S16 32) a x).toNat < S8x4x128.size a := fun i k0_t4 v146 v660 v661 v662 v663 v666 k0_hw136 k0_h10 => k0_hw136.2.2.2 k0_h10
def k0_off15 (i : grid0.Coords) (k0_t4 : Fin (k0_t4_loop i).trips) (k0_t6 : Fin k0_t6_loop.trips) : Fin 1 → Nat :=
  let c0_i32_45 : BitVec 32 := 0#32
  let c1_i32_46 : BitVec 32 := 1#32
  let arg19 : BitVec 32 := Scf.iv c0_i32_45 c1_i32_46 k0_t6
  let c0_i32_51 : BitVec 32 := 0#32
  let v87 : BitVec 1 := Scalar.cmpi .sgt arg19 c0_i32_51
  let v88 : BitVec 32 := Scalar.extui v87
  let c0_i32_52 : BitVec 32 := 0#32
  let v89 : BitVec 1 := Scalar.cmpi .slt arg19 c0_i32_52
  let v90 : BitVec 32 := Scalar.extui v89
  let v91 : BitVec 32 := Scalar.subi v88 v90
  let c2_i32_50 : BitVec 32 := 2#32
  let c0_i32_53 : BitVec 32 := 0#32
  let v92 : BitVec 1 := Scalar.cmpi .sgt c2_i32_50 c0_i32_53
  let v93 : BitVec 32 := Scalar.extui v92
  let c0_i32_54 : BitVec 32 := 0#32
  let v94 : BitVec 1 := Scalar.cmpi .slt c2_i32_50 c0_i32_54
  let v95 : BitVec 32 := Scalar.extui v94
  let v96 : BitVec 32 := Scalar.subi v93 v95
  let v97 : BitVec 1 := Scalar.cmpi .ne v91 v96
  let v98 : BitVec 32 := Scalar.remsi arg19 c2_i32_50
  let c0_i32_55 : BitVec 32 := 0#32
  let v99 : BitVec 1 := Scalar.cmpi .ne v98 c0_i32_55
  let v100 : BitVec 1 := Scalar.andi v97 v99
  let v86 : BitVec 32 := Scalar.divsi arg19 c2_i32_50
  let c1_i32_56 : BitVec 32 := 1#32
  let v101 : BitVec 32 := Scalar.subi v86 c1_i32_56
  let v102 : BitVec 32 := Scalar.select v100 v101 v86
  let c8_i32 : BitVec 32 := 8#32
  let c0_i32_57 : BitVec 32 := 0#32
  let v103 : BitVec 1 := Scalar.cmpi .eq c8_i32 c0_i32_57
  let c1_i32_58 : BitVec 32 := 1#32
  let v104 : BitVec 32 := Scalar.select v103 c1_i32_58 c8_i32
  let v105 : BitVec 32 := Scalar.remsi v102 v104
  let c0_i32_60 : BitVec 32 := 0#32
  let v107 : BitVec 1 := Scalar.cmpi .slt v105 c0_i32_60
  let c0_i32_61 : BitVec 32 := 0#32
  let v108 : BitVec 1 := Scalar.cmpi .slt v104 c0_i32_61
  let v109 : BitVec 1 := Scalar.xori v107 v108
  let c0_i32_59 : BitVec 32 := 0#32
  let v106 : BitVec 1 := Scalar.cmpi .ne v105 c0_i32_59
  let v110 : BitVec 1 := Scalar.andi v109 v106
  let v111 : BitVec 32 := Scalar.addi v105 v104
  let v112 : BitVec 32 := Scalar.select v110 v111 v105
  let c672_i32 : BitVec 32 := 672#32
  let v669 : BitVec 32 := Scalar.muli v112 c672_i32
  let c0_i32_16 : BitVec 32 := 0#32
  let c2_i32 : BitVec 32 := 2#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let c5_i32_1 : BitVec 32 := 5#32
  let c4_i32_2 : BitVec 32 := 4#32
  let v7 : BitVec 32 := Scalar.select v2 c5_i32_1 c4_i32_2
  let v8 : BitVec 32 := Scalar.muli c2_i32 v7
  let v31 : BitVec 32 := Scalar.subi v8 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg18 : BitVec 32 := Scf.iv v35 c1_i32_19 k0_t4
  let c0_i32_33 : BitVec 32 := 0#32
  let v56 : BitVec 1 := Scalar.cmpi .sgt arg18 c0_i32_33
  let v57 : BitVec 32 := Scalar.extui v56
  let c0_i32_34 : BitVec 32 := 0#32
  let v58 : BitVec 1 := Scalar.cmpi .slt arg18 c0_i32_34
  let v59 : BitVec 32 := Scalar.extui v58
  let v60 : BitVec 32 := Scalar.subi v57 v59
  let c2_i32_32 : BitVec 32 := 2#32
  let c0_i32_35 : BitVec 32 := 0#32
  let v61 : BitVec 1 := Scalar.cmpi .sgt c2_i32_32 c0_i32_35
  let v62 : BitVec 32 := Scalar.extui v61
  let c0_i32_36 : BitVec 32 := 0#32
  let v63 : BitVec 1 := Scalar.cmpi .slt c2_i32_32 c0_i32_36
  let v64 : BitVec 32 := Scalar.extui v63
  let v65 : BitVec 32 := Scalar.subi v62 v64
  let v66 : BitVec 1 := Scalar.cmpi .ne v60 v65
  let v67 : BitVec 32 := Scalar.remsi arg18 c2_i32_32
  let c0_i32_37 : BitVec 32 := 0#32
  let v68 : BitVec 1 := Scalar.cmpi .ne v67 c0_i32_37
  let v69 : BitVec 1 := Scalar.andi v66 v68
  let v55 : BitVec 32 := Scalar.divsi arg18 c2_i32_32
  let c1_i32_38 : BitVec 32 := 1#32
  let v70 : BitVec 32 := Scalar.subi v55 c1_i32_38
  let v71 : BitVec 32 := Scalar.select v69 v70 v55
  let c128_i32_76 : BitVec 32 := 128#32
  let v141 : BitVec 32 := Scalar.muli v71 c128_i32_76
  let c64_i32 : BitVec 32 := 64#32
  let v142 : BitVec 32 := Scalar.addi v141 c64_i32
  let v670 : BitVec 32 := Scalar.addi v669 v142
  let c0_i32_63 : BitVec 32 := 0#32
  let v114 : BitVec 1 := Scalar.cmpi .sgt arg19 c0_i32_63
  let v115 : BitVec 32 := Scalar.extui v114
  let c0_i32_64 : BitVec 32 := 0#32
  let v116 : BitVec 1 := Scalar.cmpi .slt arg19 c0_i32_64
  let v117 : BitVec 32 := Scalar.extui v116
  let v118 : BitVec 32 := Scalar.subi v115 v117
  let c16_i32_62 : BitVec 32 := 16#32
  let c0_i32_65 : BitVec 32 := 0#32
  let v119 : BitVec 1 := Scalar.cmpi .sgt c16_i32_62 c0_i32_65
  let v120 : BitVec 32 := Scalar.extui v119
  let c0_i32_66 : BitVec 32 := 0#32
  let v121 : BitVec 1 := Scalar.cmpi .slt c16_i32_62 c0_i32_66
  let v122 : BitVec 32 := Scalar.extui v121
  let v123 : BitVec 32 := Scalar.subi v120 v122
  let v124 : BitVec 1 := Scalar.cmpi .ne v118 v123
  let v125 : BitVec 32 := Scalar.remsi arg19 c16_i32_62
  let c0_i32_67 : BitVec 32 := 0#32
  let v126 : BitVec 1 := Scalar.cmpi .ne v125 c0_i32_67
  let v127 : BitVec 1 := Scalar.andi v124 v126
  let v113 : BitVec 32 := Scalar.divsi arg19 c16_i32_62
  let c1_i32_68 : BitVec 32 := 1#32
  let v128 : BitVec 32 := Scalar.subi v113 c1_i32_68
  let v129 : BitVec 32 := Scalar.select v127 v128 v113
  let c32_i32_79 : BitVec 32 := 32#32
  let v147 : BitVec 32 := Scalar.muli v129 c32_i32_79
  let c2_i32_69 : BitVec 32 := 2#32
  let c0_i32_70 : BitVec 32 := 0#32
  let v130 : BitVec 1 := Scalar.cmpi .eq c2_i32_69 c0_i32_70
  let c1_i32_71 : BitVec 32 := 1#32
  let v131 : BitVec 32 := Scalar.select v130 c1_i32_71 c2_i32_69
  let v132 : BitVec 32 := Scalar.remsi arg19 v131
  let c0_i32_73 : BitVec 32 := 0#32
  let v134 : BitVec 1 := Scalar.cmpi .slt v132 c0_i32_73
  let c0_i32_74 : BitVec 32 := 0#32
  let v135 : BitVec 1 := Scalar.cmpi .slt v131 c0_i32_74
  let v136 : BitVec 1 := Scalar.xori v134 v135
  let c0_i32_72 : BitVec 32 := 0#32
  let v133 : BitVec 1 := Scalar.cmpi .ne v132 c0_i32_72
  let v137 : BitVec 1 := Scalar.andi v136 v133
  let v138 : BitVec 32 := Scalar.addi v132 v131
  let v139 : BitVec 32 := Scalar.select v137 v138 v132
  let c16_i32_75 : BitVec 32 := 16#32
  let v140 : BitVec 32 := Scalar.muli v139 c16_i32_75
  let v148 : BitVec 32 := Scalar.addi v147 v140
  let v671 : BitVec 32 := Scalar.addi v670 v148
  let v672 : Index := Scalar.indexCast v671
  ![v672.toNat]
def k0_off16 (i : grid0.Coords) (k0_t4 : Fin (k0_t4_loop i).trips) : Fin 3 → Nat :=
  let c0_i32_50_r4 : BitVec 32 := 0#32
  let c0_i32_51_r4 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let c5_i32 : BitVec 32 := 5#32
  let v3 : BitVec 32 := Scalar.muli c5_i32 v1
  let c4_i32 : BitVec 32 := 4#32
  let v4 : BitVec 32 := Scalar.muli c4_i32 v1
  let c28_i32_0 : BitVec 32 := 28#32
  let v5 : BitVec 32 := Scalar.addi v4 c28_i32_0
  let v6 : BitVec 32 := Scalar.select v2 v3 v5
  let c0_i32_16 : BitVec 32 := 0#32
  let c2_i32 : BitVec 32 := 2#32
  let c5_i32_1 : BitVec 32 := 5#32
  let c4_i32_2 : BitVec 32 := 4#32
  let v7 : BitVec 32 := Scalar.select v2 c5_i32_1 c4_i32_2
  let v8 : BitVec 32 := Scalar.muli c2_i32 v7
  let v31 : BitVec 32 := Scalar.subi v8 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg18 : BitVec 32 := Scf.iv v35 c1_i32_19 k0_t4
  let c0_i32_33 : BitVec 32 := 0#32
  let v56 : BitVec 1 := Scalar.cmpi .sgt arg18 c0_i32_33
  let v57 : BitVec 32 := Scalar.extui v56
  let c0_i32_34 : BitVec 32 := 0#32
  let v58 : BitVec 1 := Scalar.cmpi .slt arg18 c0_i32_34
  let v59 : BitVec 32 := Scalar.extui v58
  let v60 : BitVec 32 := Scalar.subi v57 v59
  let c2_i32_32 : BitVec 32 := 2#32
  let c0_i32_35 : BitVec 32 := 0#32
  let v61 : BitVec 1 := Scalar.cmpi .sgt c2_i32_32 c0_i32_35
  let v62 : BitVec 32 := Scalar.extui v61
  let c0_i32_36 : BitVec 32 := 0#32
  let v63 : BitVec 1 := Scalar.cmpi .slt c2_i32_32 c0_i32_36
  let v64 : BitVec 32 := Scalar.extui v63
  let v65 : BitVec 32 := Scalar.subi v62 v64
  let v66 : BitVec 1 := Scalar.cmpi .ne v60 v65
  let v67 : BitVec 32 := Scalar.remsi arg18 c2_i32_32
  let c0_i32_37 : BitVec 32 := 0#32
  let v68 : BitVec 1 := Scalar.cmpi .ne v67 c0_i32_37
  let v69 : BitVec 1 := Scalar.andi v66 v68
  let v55 : BitVec 32 := Scalar.divsi arg18 c2_i32_32
  let c1_i32_38 : BitVec 32 := 1#32
  let v70 : BitVec 32 := Scalar.subi v55 c1_i32_38
  let v71 : BitVec 32 := Scalar.select v69 v70 v55
  let v72 : BitVec 32 := Scalar.addi v6 v71
  let c128_i32 : BitVec 32 := 128#32
  let v81 : BitVec 32 := Scalar.muli v72 c128_i32
  ![0, 0, v81.toNat]
def k0_cond11 (i : grid0.Coords) (k0_t4 : Fin (k0_t4_loop i).trips) : BitVec 1 :=
  let c0_i32_16 : BitVec 32 := 0#32
  let c2_i32 : BitVec 32 := 2#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let c5_i32_1 : BitVec 32 := 5#32
  let c4_i32_2 : BitVec 32 := 4#32
  let v7 : BitVec 32 := Scalar.select v2 c5_i32_1 c4_i32_2
  let v8 : BitVec 32 := Scalar.muli c2_i32 v7
  let v31 : BitVec 32 := Scalar.subi v8 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg18 : BitVec 32 := Scf.iv v35 c1_i32_19 k0_t4
  let c2_i32_48 : BitVec 32 := 2#32
  let v82 : BitVec 32 := Scalar.addi arg18 c2_i32_48
  let v83 : BitVec 1 := Scalar.cmpi .slt v82 v8
  let v84 : BitVec 32 := Scalar.extui v83
  let c0_i32_49 : BitVec 32 := 0#32
  let v85 : BitVec 1 := Scalar.cmpi .ne v84 c0_i32_49
  v85

def k0_off17 (i : grid0.Coords) (k0_t4 : Fin (k0_t4_loop i).trips) : Fin 2 → Nat :=
  let c0_i32_53 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let c5_i32 : BitVec 32 := 5#32
  let v3 : BitVec 32 := Scalar.muli c5_i32 v1
  let c4_i32 : BitVec 32 := 4#32
  let v4 : BitVec 32 := Scalar.muli c4_i32 v1
  let c28_i32_0 : BitVec 32 := 28#32
  let v5 : BitVec 32 := Scalar.addi v4 c28_i32_0
  let v6 : BitVec 32 := Scalar.select v2 v3 v5
  let c3584_i32_51 : BitVec 32 := 3584#32
  let v87 : BitVec 32 := Scalar.muli v6 c3584_i32_51
  let c0_i32_16 : BitVec 32 := 0#32
  let c2_i32 : BitVec 32 := 2#32
  let c5_i32_1 : BitVec 32 := 5#32
  let c4_i32_2 : BitVec 32 := 4#32
  let v7 : BitVec 32 := Scalar.select v2 c5_i32_1 c4_i32_2
  let v8 : BitVec 32 := Scalar.muli c2_i32 v7
  let v31 : BitVec 32 := Scalar.subi v8 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg18 : BitVec 32 := Scf.iv v35 c1_i32_19 k0_t4
  let c2_i32_50 : BitVec 32 := 2#32
  let v86 : BitVec 32 := Scalar.addi arg18 c2_i32_50
  let c1792_i32_52 : BitVec 32 := 1792#32
  let v88 : BitVec 32 := Scalar.muli v86 c1792_i32_52
  let v89 : BitVec 32 := Scalar.addi v87 v88
  ![0, v89.toNat]
def k0_cond12 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v9 : BitVec 1 := Scalar.cmpi .eq v1 c31_i32
  let v36 : BitVec 32 := Scalar.extui v9
  let c0_i32_20 : BitVec 32 := 0#32
  let v37 : BitVec 1 := Scalar.cmpi .ne v36 c0_i32_20
  v37

@[reducible] def k0_t7_loop : Scf.Loop 32 :=
  let c0_i32_26 : BitVec 32 := 0#32
  let c16_i32_27 : BitVec 32 := 16#32
  let v47 : BitVec 32 := Scalar.addi c0_i32_26 c16_i32_27
  let c1_i32_28 : BitVec 32 := 1#32
  ⟨c0_i32_26, v47, c1_i32_28⟩

def k0_chk137 (i : grid0.Coords) (v77 : IVec S16 32) (v85 : IVec S16 32) : Prop :=
  (∀ (k0_h12 : k0_cond12 i = 1#1), ∀ a x, ((![v77, v85] : Fin 2 → IVec S16 32) a x).toNat < S8x1792.size a)
theorem k0_idx161_inb : ∀ (i : grid0.Coords) (v77 : IVec S16 32) (v85 : IVec S16 32) (k0_hw137 : k0_chk137 i v77 v85), ∀ (k0_h12 : k0_cond12 i = 1#1), ∀ a x, ((![v77, v85] : Fin 2 → IVec S16 32) a x).toNat < S8x1792.size a := fun i v77 v85 k0_hw137 k0_h12 => k0_hw137 k0_h12

def k0_chk138 (i : grid0.Coords) (v77 : IVec S16 32) (v88 : IVec S16 32) : Prop :=
  (∀ (k0_h12 : k0_cond12 i = 1#1), ∀ a x, ((![v77, v88] : Fin 2 → IVec S16 32) a x).toNat < S8x1792.size a)
theorem k0_idx162_inb : ∀ (i : grid0.Coords) (v77 : IVec S16 32) (v88 : IVec S16 32) (k0_hw138 : k0_chk138 i v77 v88), ∀ (k0_h12 : k0_cond12 i = 1#1), ∀ a x, ((![v77, v88] : Fin 2 → IVec S16 32) a x).toNat < S8x1792.size a := fun i v77 v88 k0_hw138 k0_h12 => k0_hw138 k0_h12

def k0_chk139 (i : grid0.Coords) (v77 : IVec S16 32) (v91 : IVec S16 32) : Prop :=
  (∀ (k0_h12 : k0_cond12 i = 1#1), ∀ a x, ((![v77, v91] : Fin 2 → IVec S16 32) a x).toNat < S8x1792.size a)
theorem k0_idx163_inb : ∀ (i : grid0.Coords) (v77 : IVec S16 32) (v91 : IVec S16 32) (k0_hw139 : k0_chk139 i v77 v91), ∀ (k0_h12 : k0_cond12 i = 1#1), ∀ a x, ((![v77, v91] : Fin 2 → IVec S16 32) a x).toNat < S8x1792.size a := fun i v77 v91 k0_hw139 k0_h12 => k0_hw139 k0_h12

def k0_chk140 (i : grid0.Coords) (v77 : IVec S16 32) (v94 : IVec S16 32) : Prop :=
  (∀ (k0_h12 : k0_cond12 i = 1#1), ∀ a x, ((![v77, v94] : Fin 2 → IVec S16 32) a x).toNat < S8x1792.size a)
theorem k0_idx164_inb : ∀ (i : grid0.Coords) (v77 : IVec S16 32) (v94 : IVec S16 32) (k0_hw140 : k0_chk140 i v77 v94), ∀ (k0_h12 : k0_cond12 i = 1#1), ∀ a x, ((![v77, v94] : Fin 2 → IVec S16 32) a x).toNat < S8x1792.size a := fun i v77 v94 k0_hw140 k0_h12 => k0_hw140 k0_h12

def k0_chk141 (i : grid0.Coords) (v77 : IVec S16 32) (v97 : IVec S16 32) : Prop :=
  (∀ (k0_h12 : k0_cond12 i = 1#1), ∀ a x, ((![v77, v97] : Fin 2 → IVec S16 32) a x).toNat < S8x1792.size a)
theorem k0_idx165_inb : ∀ (i : grid0.Coords) (v77 : IVec S16 32) (v97 : IVec S16 32) (k0_hw141 : k0_chk141 i v77 v97), ∀ (k0_h12 : k0_cond12 i = 1#1), ∀ a x, ((![v77, v97] : Fin 2 → IVec S16 32) a x).toNat < S8x1792.size a := fun i v77 v97 k0_hw141 k0_h12 => k0_hw141 k0_h12

def k0_chk142 (i : grid0.Coords) (v77 : IVec S16 32) (v100 : IVec S16 32) : Prop :=
  (∀ (k0_h12 : k0_cond12 i = 1#1), ∀ a x, ((![v77, v100] : Fin 2 → IVec S16 32) a x).toNat < S8x1792.size a)
theorem k0_idx166_inb : ∀ (i : grid0.Coords) (v77 : IVec S16 32) (v100 : IVec S16 32) (k0_hw142 : k0_chk142 i v77 v100), ∀ (k0_h12 : k0_cond12 i = 1#1), ∀ a x, ((![v77, v100] : Fin 2 → IVec S16 32) a x).toNat < S8x1792.size a := fun i v77 v100 k0_hw142 k0_h12 => k0_hw142 k0_h12

def k0_chk143 (i : grid0.Coords) (v77 : IVec S16 32) (v103 : IVec S16 32) : Prop :=
  (∀ (k0_h12 : k0_cond12 i = 1#1), ∀ a x, ((![v77, v103] : Fin 2 → IVec S16 32) a x).toNat < S8x1792.size a)
theorem k0_idx167_inb : ∀ (i : grid0.Coords) (v77 : IVec S16 32) (v103 : IVec S16 32) (k0_hw143 : k0_chk143 i v77 v103), ∀ (k0_h12 : k0_cond12 i = 1#1), ∀ a x, ((![v77, v103] : Fin 2 → IVec S16 32) a x).toNat < S8x1792.size a := fun i v77 v103 k0_hw143 k0_h12 => k0_hw143 k0_h12

def k0_chk144 (i : grid0.Coords) (v77 : IVec S16 32) (v106 : IVec S16 32) : Prop :=
  (∀ (k0_h12 : k0_cond12 i = 1#1), ∀ a x, ((![v77, v106] : Fin 2 → IVec S16 32) a x).toNat < S8x1792.size a)
theorem k0_idx168_inb : ∀ (i : grid0.Coords) (v77 : IVec S16 32) (v106 : IVec S16 32) (k0_hw144 : k0_chk144 i v77 v106), ∀ (k0_h12 : k0_cond12 i = 1#1), ∀ a x, ((![v77, v106] : Fin 2 → IVec S16 32) a x).toNat < S8x1792.size a := fun i v77 v106 k0_hw144 k0_h12 => k0_hw144 k0_h12

def k0_chk145 (i : grid0.Coords) (v77 : IVec S16 32) (v109 : IVec S16 32) : Prop :=
  (∀ (k0_h12 : k0_cond12 i = 1#1), ∀ a x, ((![v77, v109] : Fin 2 → IVec S16 32) a x).toNat < S8x1792.size a)
theorem k0_idx169_inb : ∀ (i : grid0.Coords) (v77 : IVec S16 32) (v109 : IVec S16 32) (k0_hw145 : k0_chk145 i v77 v109), ∀ (k0_h12 : k0_cond12 i = 1#1), ∀ a x, ((![v77, v109] : Fin 2 → IVec S16 32) a x).toNat < S8x1792.size a := fun i v77 v109 k0_hw145 k0_h12 => k0_hw145 k0_h12

def k0_chk146 (i : grid0.Coords) (v77 : IVec S16 32) (v112 : IVec S16 32) : Prop :=
  (∀ (k0_h12 : k0_cond12 i = 1#1), ∀ a x, ((![v77, v112] : Fin 2 → IVec S16 32) a x).toNat < S8x1792.size a)
theorem k0_idx170_inb : ∀ (i : grid0.Coords) (v77 : IVec S16 32) (v112 : IVec S16 32) (k0_hw146 : k0_chk146 i v77 v112), ∀ (k0_h12 : k0_cond12 i = 1#1), ∀ a x, ((![v77, v112] : Fin 2 → IVec S16 32) a x).toNat < S8x1792.size a := fun i v77 v112 k0_hw146 k0_h12 => k0_hw146 k0_h12

def k0_chk147 (i : grid0.Coords) (v77 : IVec S16 32) (v115 : IVec S16 32) : Prop :=
  (∀ (k0_h12 : k0_cond12 i = 1#1), ∀ a x, ((![v77, v115] : Fin 2 → IVec S16 32) a x).toNat < S8x1792.size a)
theorem k0_idx171_inb : ∀ (i : grid0.Coords) (v77 : IVec S16 32) (v115 : IVec S16 32) (k0_hw147 : k0_chk147 i v77 v115), ∀ (k0_h12 : k0_cond12 i = 1#1), ∀ a x, ((![v77, v115] : Fin 2 → IVec S16 32) a x).toNat < S8x1792.size a := fun i v77 v115 k0_hw147 k0_h12 => k0_hw147 k0_h12

def k0_chk148 (i : grid0.Coords) (v77 : IVec S16 32) (v118 : IVec S16 32) : Prop :=
  (∀ (k0_h12 : k0_cond12 i = 1#1), ∀ a x, ((![v77, v118] : Fin 2 → IVec S16 32) a x).toNat < S8x1792.size a)
theorem k0_idx172_inb : ∀ (i : grid0.Coords) (v77 : IVec S16 32) (v118 : IVec S16 32) (k0_hw148 : k0_chk148 i v77 v118), ∀ (k0_h12 : k0_cond12 i = 1#1), ∀ a x, ((![v77, v118] : Fin 2 → IVec S16 32) a x).toNat < S8x1792.size a := fun i v77 v118 k0_hw148 k0_h12 => k0_hw148 k0_h12

def k0_chk149 (i : grid0.Coords) (v77 : IVec S16 32) (v121 : IVec S16 32) : Prop :=
  (∀ (k0_h12 : k0_cond12 i = 1#1), ∀ a x, ((![v77, v121] : Fin 2 → IVec S16 32) a x).toNat < S8x1792.size a)
theorem k0_idx173_inb : ∀ (i : grid0.Coords) (v77 : IVec S16 32) (v121 : IVec S16 32) (k0_hw149 : k0_chk149 i v77 v121), ∀ (k0_h12 : k0_cond12 i = 1#1), ∀ a x, ((![v77, v121] : Fin 2 → IVec S16 32) a x).toNat < S8x1792.size a := fun i v77 v121 k0_hw149 k0_h12 => k0_hw149 k0_h12

def k0_chk150 (i : grid0.Coords) (v77 : IVec S16 32) (v124 : IVec S16 32) : Prop :=
  (∀ (k0_h12 : k0_cond12 i = 1#1), ∀ a x, ((![v77, v124] : Fin 2 → IVec S16 32) a x).toNat < S8x1792.size a)
theorem k0_idx174_inb : ∀ (i : grid0.Coords) (v77 : IVec S16 32) (v124 : IVec S16 32) (k0_hw150 : k0_chk150 i v77 v124), ∀ (k0_h12 : k0_cond12 i = 1#1), ∀ a x, ((![v77, v124] : Fin 2 → IVec S16 32) a x).toNat < S8x1792.size a := fun i v77 v124 k0_hw150 k0_h12 => k0_hw150 k0_h12

def k0_chk151 (i : grid0.Coords) (v77 : IVec S16 32) (v127 : IVec S16 32) : Prop :=
  (∀ (k0_h12 : k0_cond12 i = 1#1), ∀ a x, ((![v77, v127] : Fin 2 → IVec S16 32) a x).toNat < S8x1792.size a)
theorem k0_idx175_inb : ∀ (i : grid0.Coords) (v77 : IVec S16 32) (v127 : IVec S16 32) (k0_hw151 : k0_chk151 i v77 v127), ∀ (k0_h12 : k0_cond12 i = 1#1), ∀ a x, ((![v77, v127] : Fin 2 → IVec S16 32) a x).toNat < S8x1792.size a := fun i v77 v127 k0_hw151 k0_h12 => k0_hw151 k0_h12

def k0_chk152 (i : grid0.Coords) (v77 : IVec S16 32) (v130 : IVec S16 32) : Prop :=
  (∀ (k0_h12 : k0_cond12 i = 1#1), ∀ a x, ((![v77, v130] : Fin 2 → IVec S16 32) a x).toNat < S8x1792.size a)
theorem k0_idx176_inb : ∀ (i : grid0.Coords) (v77 : IVec S16 32) (v130 : IVec S16 32) (k0_hw152 : k0_chk152 i v77 v130), ∀ (k0_h12 : k0_cond12 i = 1#1), ∀ a x, ((![v77, v130] : Fin 2 → IVec S16 32) a x).toNat < S8x1792.size a := fun i v77 v130 k0_hw152 k0_h12 => k0_hw152 k0_h12

def k0_chk153 (i : grid0.Coords) (v77 : IVec S16 32) (v133 : IVec S16 32) : Prop :=
  (∀ (k0_h12 : k0_cond12 i = 1#1), ∀ a x, ((![v77, v133] : Fin 2 → IVec S16 32) a x).toNat < S8x1792.size a)
theorem k0_idx177_inb : ∀ (i : grid0.Coords) (v77 : IVec S16 32) (v133 : IVec S16 32) (k0_hw153 : k0_chk153 i v77 v133), ∀ (k0_h12 : k0_cond12 i = 1#1), ∀ a x, ((![v77, v133] : Fin 2 → IVec S16 32) a x).toNat < S8x1792.size a := fun i v77 v133 k0_hw153 k0_h12 => k0_hw153 k0_h12

def k0_chk154 (i : grid0.Coords) (v77 : IVec S16 32) (v136 : IVec S16 32) : Prop :=
  (∀ (k0_h12 : k0_cond12 i = 1#1), ∀ a x, ((![v77, v136] : Fin 2 → IVec S16 32) a x).toNat < S8x1792.size a)
theorem k0_idx178_inb : ∀ (i : grid0.Coords) (v77 : IVec S16 32) (v136 : IVec S16 32) (k0_hw154 : k0_chk154 i v77 v136), ∀ (k0_h12 : k0_cond12 i = 1#1), ∀ a x, ((![v77, v136] : Fin 2 → IVec S16 32) a x).toNat < S8x1792.size a := fun i v77 v136 k0_hw154 k0_h12 => k0_hw154 k0_h12

def k0_chk155 (i : grid0.Coords) (v77 : IVec S16 32) (v139 : IVec S16 32) : Prop :=
  (∀ (k0_h12 : k0_cond12 i = 1#1), ∀ a x, ((![v77, v139] : Fin 2 → IVec S16 32) a x).toNat < S8x1792.size a)
theorem k0_idx179_inb : ∀ (i : grid0.Coords) (v77 : IVec S16 32) (v139 : IVec S16 32) (k0_hw155 : k0_chk155 i v77 v139), ∀ (k0_h12 : k0_cond12 i = 1#1), ∀ a x, ((![v77, v139] : Fin 2 → IVec S16 32) a x).toNat < S8x1792.size a := fun i v77 v139 k0_hw155 k0_h12 => k0_hw155 k0_h12

def k0_chk156 (i : grid0.Coords) (v77 : IVec S16 32) (v142 : IVec S16 32) : Prop :=
  (∀ (k0_h12 : k0_cond12 i = 1#1), ∀ a x, ((![v77, v142] : Fin 2 → IVec S16 32) a x).toNat < S8x1792.size a)
theorem k0_idx180_inb : ∀ (i : grid0.Coords) (v77 : IVec S16 32) (v142 : IVec S16 32) (k0_hw156 : k0_chk156 i v77 v142), ∀ (k0_h12 : k0_cond12 i = 1#1), ∀ a x, ((![v77, v142] : Fin 2 → IVec S16 32) a x).toNat < S8x1792.size a := fun i v77 v142 k0_hw156 k0_h12 => k0_hw156 k0_h12

def k0_chk157 (i : grid0.Coords) (v77 : IVec S16 32) (v145 : IVec S16 32) : Prop :=
  (∀ (k0_h12 : k0_cond12 i = 1#1), ∀ a x, ((![v77, v145] : Fin 2 → IVec S16 32) a x).toNat < S8x1792.size a)
theorem k0_idx181_inb : ∀ (i : grid0.Coords) (v77 : IVec S16 32) (v145 : IVec S16 32) (k0_hw157 : k0_chk157 i v77 v145), ∀ (k0_h12 : k0_cond12 i = 1#1), ∀ a x, ((![v77, v145] : Fin 2 → IVec S16 32) a x).toNat < S8x1792.size a := fun i v77 v145 k0_hw157 k0_h12 => k0_hw157 k0_h12

def k0_chk158 (i : grid0.Coords) (v77 : IVec S16 32) (v148 : IVec S16 32) : Prop :=
  (∀ (k0_h12 : k0_cond12 i = 1#1), ∀ a x, ((![v77, v148] : Fin 2 → IVec S16 32) a x).toNat < S8x1792.size a)
theorem k0_idx182_inb : ∀ (i : grid0.Coords) (v77 : IVec S16 32) (v148 : IVec S16 32) (k0_hw158 : k0_chk158 i v77 v148), ∀ (k0_h12 : k0_cond12 i = 1#1), ∀ a x, ((![v77, v148] : Fin 2 → IVec S16 32) a x).toNat < S8x1792.size a := fun i v77 v148 k0_hw158 k0_h12 => k0_hw158 k0_h12

def k0_chk159 (i : grid0.Coords) (v77 : IVec S16 32) (v151 : IVec S16 32) : Prop :=
  (∀ (k0_h12 : k0_cond12 i = 1#1), ∀ a x, ((![v77, v151] : Fin 2 → IVec S16 32) a x).toNat < S8x1792.size a)
theorem k0_idx183_inb : ∀ (i : grid0.Coords) (v77 : IVec S16 32) (v151 : IVec S16 32) (k0_hw159 : k0_chk159 i v77 v151), ∀ (k0_h12 : k0_cond12 i = 1#1), ∀ a x, ((![v77, v151] : Fin 2 → IVec S16 32) a x).toNat < S8x1792.size a := fun i v77 v151 k0_hw159 k0_h12 => k0_hw159 k0_h12

def k0_chk160 (i : grid0.Coords) (v77 : IVec S16 32) (v154 : IVec S16 32) : Prop :=
  (∀ (k0_h12 : k0_cond12 i = 1#1), ∀ a x, ((![v77, v154] : Fin 2 → IVec S16 32) a x).toNat < S8x1792.size a)
theorem k0_idx184_inb : ∀ (i : grid0.Coords) (v77 : IVec S16 32) (v154 : IVec S16 32) (k0_hw160 : k0_chk160 i v77 v154), ∀ (k0_h12 : k0_cond12 i = 1#1), ∀ a x, ((![v77, v154] : Fin 2 → IVec S16 32) a x).toNat < S8x1792.size a := fun i v77 v154 k0_hw160 k0_h12 => k0_hw160 k0_h12

def k0_chk161 (i : grid0.Coords) (v77 : IVec S16 32) (v157 : IVec S16 32) : Prop :=
  (∀ (k0_h12 : k0_cond12 i = 1#1), ∀ a x, ((![v77, v157] : Fin 2 → IVec S16 32) a x).toNat < S8x1792.size a)
theorem k0_idx185_inb : ∀ (i : grid0.Coords) (v77 : IVec S16 32) (v157 : IVec S16 32) (k0_hw161 : k0_chk161 i v77 v157), ∀ (k0_h12 : k0_cond12 i = 1#1), ∀ a x, ((![v77, v157] : Fin 2 → IVec S16 32) a x).toNat < S8x1792.size a := fun i v77 v157 k0_hw161 k0_h12 => k0_hw161 k0_h12

def k0_chk162 (i : grid0.Coords) (v77 : IVec S16 32) (v160 : IVec S16 32) : Prop :=
  (∀ (k0_h12 : k0_cond12 i = 1#1), ∀ a x, ((![v77, v160] : Fin 2 → IVec S16 32) a x).toNat < S8x1792.size a)
theorem k0_idx186_inb : ∀ (i : grid0.Coords) (v77 : IVec S16 32) (v160 : IVec S16 32) (k0_hw162 : k0_chk162 i v77 v160), ∀ (k0_h12 : k0_cond12 i = 1#1), ∀ a x, ((![v77, v160] : Fin 2 → IVec S16 32) a x).toNat < S8x1792.size a := fun i v77 v160 k0_hw162 k0_h12 => k0_hw162 k0_h12

def k0_chk163 (i : grid0.Coords) (v77 : IVec S16 32) (v163 : IVec S16 32) : Prop :=
  (∀ (k0_h12 : k0_cond12 i = 1#1), ∀ a x, ((![v77, v163] : Fin 2 → IVec S16 32) a x).toNat < S8x1792.size a)
theorem k0_idx187_inb : ∀ (i : grid0.Coords) (v77 : IVec S16 32) (v163 : IVec S16 32) (k0_hw163 : k0_chk163 i v77 v163), ∀ (k0_h12 : k0_cond12 i = 1#1), ∀ a x, ((![v77, v163] : Fin 2 → IVec S16 32) a x).toNat < S8x1792.size a := fun i v77 v163 k0_hw163 k0_h12 => k0_hw163 k0_h12

def k0_chk164 (i : grid0.Coords) (v77 : IVec S16 32) (v166 : IVec S16 32) : Prop :=
  (∀ (k0_h12 : k0_cond12 i = 1#1), ∀ a x, ((![v77, v166] : Fin 2 → IVec S16 32) a x).toNat < S8x1792.size a)
theorem k0_idx188_inb : ∀ (i : grid0.Coords) (v77 : IVec S16 32) (v166 : IVec S16 32) (k0_hw164 : k0_chk164 i v77 v166), ∀ (k0_h12 : k0_cond12 i = 1#1), ∀ a x, ((![v77, v166] : Fin 2 → IVec S16 32) a x).toNat < S8x1792.size a := fun i v77 v166 k0_hw164 k0_h12 => k0_hw164 k0_h12

def k0_chk165 (i : grid0.Coords) (v77 : IVec S16 32) (v247 : IVec S16 32) : Prop :=
  (∀ (k0_h12 : k0_cond12 i = 1#1), ∀ a x, ((![v77, v247] : Fin 2 → IVec S16 32) a x).toNat < S8x1792.size a)
theorem k0_idx189_inb : ∀ (i : grid0.Coords) (v77 : IVec S16 32) (v247 : IVec S16 32) (k0_hw165 : k0_chk165 i v77 v247), ∀ (k0_h12 : k0_cond12 i = 1#1), ∀ a x, ((![v77, v247] : Fin 2 → IVec S16 32) a x).toNat < S8x1792.size a := fun i v77 v247 k0_hw165 k0_h12 => k0_hw165 k0_h12

def k0_chk166 (i : grid0.Coords) (v77 : IVec S16 32) (v338 : IVec S16 32) : Prop :=
  (∀ (k0_h12 : k0_cond12 i = 1#1), ∀ a x, ((![v77, v338] : Fin 2 → IVec S16 32) a x).toNat < S8x1792.size a)
theorem k0_idx190_inb : ∀ (i : grid0.Coords) (v77 : IVec S16 32) (v338 : IVec S16 32) (k0_hw166 : k0_chk166 i v77 v338), ∀ (k0_h12 : k0_cond12 i = 1#1), ∀ a x, ((![v77, v338] : Fin 2 → IVec S16 32) a x).toNat < S8x1792.size a := fun i v77 v338 k0_hw166 k0_h12 => k0_hw166 k0_h12

def k0_chk167 (i : grid0.Coords) (v77 : IVec S16 32) (v430 : IVec S16 32) : Prop :=
  (∀ (k0_h12 : k0_cond12 i = 1#1), ∀ a x, ((![v77, v430] : Fin 2 → IVec S16 32) a x).toNat < S8x1792.size a)
theorem k0_idx191_inb : ∀ (i : grid0.Coords) (v77 : IVec S16 32) (v430 : IVec S16 32) (k0_hw167 : k0_chk167 i v77 v430), ∀ (k0_h12 : k0_cond12 i = 1#1), ∀ a x, ((![v77, v430] : Fin 2 → IVec S16 32) a x).toNat < S8x1792.size a := fun i v77 v430 k0_hw167 k0_h12 => k0_hw167 k0_h12

def k0_chk168 (i : grid0.Coords) (v77 : IVec S16 32) (v522 : IVec S16 32) : Prop :=
  (∀ (k0_h12 : k0_cond12 i = 1#1), ∀ a x, ((![v77, v522] : Fin 2 → IVec S16 32) a x).toNat < S8x1792.size a)
theorem k0_idx192_inb : ∀ (i : grid0.Coords) (v77 : IVec S16 32) (v522 : IVec S16 32) (k0_hw168 : k0_chk168 i v77 v522), ∀ (k0_h12 : k0_cond12 i = 1#1), ∀ a x, ((![v77, v522] : Fin 2 → IVec S16 32) a x).toNat < S8x1792.size a := fun i v77 v522 k0_hw168 k0_h12 => k0_hw168 k0_h12

def k0_chk169 (i : grid0.Coords) (v541 : IVec S16 32) : Prop :=
  (∀ (k0_h12 : k0_cond12 i = 1#1), ∀ a x, ((![v541] : Fin 1 → IVec S16 32) a x).toNat < S1024.size a)
theorem k0_idx193_inb : ∀ (i : grid0.Coords) (v541 : IVec S16 32) (k0_hw169 : k0_chk169 i v541), ∀ (k0_h12 : k0_cond12 i = 1#1), ∀ a x, ((![v541] : Fin 1 → IVec S16 32) a x).toNat < S1024.size a := fun i v541 k0_hw169 k0_h12 => k0_hw169 k0_h12

def k0_chk170 (i : grid0.Coords) (v544 : IVec S16 32) : Prop :=
  (∀ (k0_h12 : k0_cond12 i = 1#1), ∀ a x, ((![v544] : Fin 1 → IVec S16 32) a x).toNat < S1024.size a)
theorem k0_idx194_inb : ∀ (i : grid0.Coords) (v544 : IVec S16 32) (k0_hw170 : k0_chk170 i v544), ∀ (k0_h12 : k0_cond12 i = 1#1), ∀ a x, ((![v544] : Fin 1 → IVec S16 32) a x).toNat < S1024.size a := fun i v544 k0_hw170 k0_h12 => k0_hw170 k0_h12

def k0_chk171 (i : grid0.Coords) (v547 : IVec S16 32) : Prop :=
  (∀ (k0_h12 : k0_cond12 i = 1#1), ∀ a x, ((![v547] : Fin 1 → IVec S16 32) a x).toNat < S1024.size a)
theorem k0_idx195_inb : ∀ (i : grid0.Coords) (v547 : IVec S16 32) (k0_hw171 : k0_chk171 i v547), ∀ (k0_h12 : k0_cond12 i = 1#1), ∀ a x, ((![v547] : Fin 1 → IVec S16 32) a x).toNat < S1024.size a := fun i v547 k0_hw171 k0_h12 => k0_hw171 k0_h12

def k0_chk172 (i : grid0.Coords) (v550 : IVec S16 32) : Prop :=
  (∀ (k0_h12 : k0_cond12 i = 1#1), ∀ a x, ((![v550] : Fin 1 → IVec S16 32) a x).toNat < S1024.size a)
theorem k0_idx196_inb : ∀ (i : grid0.Coords) (v550 : IVec S16 32) (k0_hw172 : k0_chk172 i v550), ∀ (k0_h12 : k0_cond12 i = 1#1), ∀ a x, ((![v550] : Fin 1 → IVec S16 32) a x).toNat < S1024.size a := fun i v550 k0_hw172 k0_h12 => k0_hw172 k0_h12

def k0_chk173 (i : grid0.Coords) (v77 : IVec S16 32) (v596 : IVec S16 32) (v597 : IVec S16 32) (v598 : IVec S16 32) (v599 : IVec S16 32) (v602 : IVec S16 32) : Prop :=
  (∀ (k0_h12 : k0_cond12 i = 1#1), ∀ a x, ((![v77, v596, v602] : Fin 3 → IVec S16 32) a x).toNat < S8x4x128.size a) ∧
  (∀ (k0_h12 : k0_cond12 i = 1#1), ∀ a x, ((![v77, v597, v602] : Fin 3 → IVec S16 32) a x).toNat < S8x4x128.size a) ∧
  (∀ (k0_h12 : k0_cond12 i = 1#1), ∀ a x, ((![v77, v598, v602] : Fin 3 → IVec S16 32) a x).toNat < S8x4x128.size a) ∧
  (∀ (k0_h12 : k0_cond12 i = 1#1), ∀ a x, ((![v77, v599, v602] : Fin 3 → IVec S16 32) a x).toNat < S8x4x128.size a)
theorem k0_idx197_inb : ∀ (i : grid0.Coords) (v77 : IVec S16 32) (v596 : IVec S16 32) (v597 : IVec S16 32) (v598 : IVec S16 32) (v599 : IVec S16 32) (v602 : IVec S16 32) (k0_hw173 : k0_chk173 i v77 v596 v597 v598 v599 v602), ∀ (k0_h12 : k0_cond12 i = 1#1), ∀ a x, ((![v77, v596, v602] : Fin 3 → IVec S16 32) a x).toNat < S8x4x128.size a := fun i v77 v596 v597 v598 v599 v602 k0_hw173 k0_h12 => k0_hw173.1 k0_h12
theorem k0_idx198_inb : ∀ (i : grid0.Coords) (v77 : IVec S16 32) (v596 : IVec S16 32) (v597 : IVec S16 32) (v598 : IVec S16 32) (v599 : IVec S16 32) (v602 : IVec S16 32) (k0_hw173 : k0_chk173 i v77 v596 v597 v598 v599 v602), ∀ (k0_h12 : k0_cond12 i = 1#1), ∀ a x, ((![v77, v597, v602] : Fin 3 → IVec S16 32) a x).toNat < S8x4x128.size a := fun i v77 v596 v597 v598 v599 v602 k0_hw173 k0_h12 => k0_hw173.2.1 k0_h12
theorem k0_idx199_inb : ∀ (i : grid0.Coords) (v77 : IVec S16 32) (v596 : IVec S16 32) (v597 : IVec S16 32) (v598 : IVec S16 32) (v599 : IVec S16 32) (v602 : IVec S16 32) (k0_hw173 : k0_chk173 i v77 v596 v597 v598 v599 v602), ∀ (k0_h12 : k0_cond12 i = 1#1), ∀ a x, ((![v77, v598, v602] : Fin 3 → IVec S16 32) a x).toNat < S8x4x128.size a := fun i v77 v596 v597 v598 v599 v602 k0_hw173 k0_h12 => k0_hw173.2.2.1 k0_h12
theorem k0_idx200_inb : ∀ (i : grid0.Coords) (v77 : IVec S16 32) (v596 : IVec S16 32) (v597 : IVec S16 32) (v598 : IVec S16 32) (v599 : IVec S16 32) (v602 : IVec S16 32) (k0_hw173 : k0_chk173 i v77 v596 v597 v598 v599 v602), ∀ (k0_h12 : k0_cond12 i = 1#1), ∀ a x, ((![v77, v599, v602] : Fin 3 → IVec S16 32) a x).toNat < S8x4x128.size a := fun i v77 v596 v597 v598 v599 v602 k0_hw173 k0_h12 => k0_hw173.2.2.2 k0_h12
def k0_off18 (k0_t7 : Fin k0_t7_loop.trips) : Fin 1 → Nat :=
  let c0_i32_26 : BitVec 32 := 0#32
  let c1_i32_28 : BitVec 32 := 1#32
  let arg18 : BitVec 32 := Scf.iv c0_i32_26 c1_i32_28 k0_t7
  let c0_i32_31 : BitVec 32 := 0#32
  let v49 : BitVec 1 := Scalar.cmpi .sgt arg18 c0_i32_31
  let v50 : BitVec 32 := Scalar.extui v49
  let c0_i32_32 : BitVec 32 := 0#32
  let v51 : BitVec 1 := Scalar.cmpi .slt arg18 c0_i32_32
  let v52 : BitVec 32 := Scalar.extui v51
  let v53 : BitVec 32 := Scalar.subi v50 v52
  let c2_i32_30 : BitVec 32 := 2#32
  let c0_i32_33 : BitVec 32 := 0#32
  let v54 : BitVec 1 := Scalar.cmpi .sgt c2_i32_30 c0_i32_33
  let v55 : BitVec 32 := Scalar.extui v54
  let c0_i32_34 : BitVec 32 := 0#32
  let v56 : BitVec 1 := Scalar.cmpi .slt c2_i32_30 c0_i32_34
  let v57 : BitVec 32 := Scalar.extui v56
  let v58 : BitVec 32 := Scalar.subi v55 v57
  let v59 : BitVec 1 := Scalar.cmpi .ne v53 v58
  let v60 : BitVec 32 := Scalar.remsi arg18 c2_i32_30
  let c0_i32_35 : BitVec 32 := 0#32
  let v61 : BitVec 1 := Scalar.cmpi .ne v60 c0_i32_35
  let v62 : BitVec 1 := Scalar.andi v59 v61
  let v48 : BitVec 32 := Scalar.divsi arg18 c2_i32_30
  let c1_i32_36 : BitVec 32 := 1#32
  let v63 : BitVec 32 := Scalar.subi v48 c1_i32_36
  let v64 : BitVec 32 := Scalar.select v62 v63 v48
  let c672_i32 : BitVec 32 := 672#32
  let v605 : BitVec 32 := Scalar.muli v64 c672_i32
  let c512_i32 : BitVec 32 := 512#32
  let v606 : BitVec 32 := Scalar.addi v605 c512_i32
  let c0_i32_44 : BitVec 32 := 0#32
  let c2_i32_37 : BitVec 32 := 2#32
  let c0_i32_38 : BitVec 32 := 0#32
  let v65 : BitVec 1 := Scalar.cmpi .eq c2_i32_37 c0_i32_38
  let c1_i32_39 : BitVec 32 := 1#32
  let v66 : BitVec 32 := Scalar.select v65 c1_i32_39 c2_i32_37
  let v67 : BitVec 32 := Scalar.remsi arg18 v66
  let c0_i32_41 : BitVec 32 := 0#32
  let v69 : BitVec 1 := Scalar.cmpi .slt v67 c0_i32_41
  let c0_i32_42 : BitVec 32 := 0#32
  let v70 : BitVec 1 := Scalar.cmpi .slt v66 c0_i32_42
  let v71 : BitVec 1 := Scalar.xori v69 v70
  let c0_i32_40 : BitVec 32 := 0#32
  let v68 : BitVec 1 := Scalar.cmpi .ne v67 c0_i32_40
  let v72 : BitVec 1 := Scalar.andi v71 v68
  let v73 : BitVec 32 := Scalar.addi v67 v66
  let v74 : BitVec 32 := Scalar.select v72 v73 v67
  let c16_i32_43 : BitVec 32 := 16#32
  let v75 : BitVec 32 := Scalar.muli v74 c16_i32_43
  let v78 : BitVec 32 := Scalar.addi c0_i32_44 v75
  let v607 : BitVec 32 := Scalar.addi v606 v78
  let v608 : Index := Scalar.indexCast v607
  ![v608.toNat]
def k0_cond13 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let v38 : BitVec 32 := Scalar.extui v2
  let c0_i32_21 : BitVec 32 := 0#32
  let v39 : BitVec 1 := Scalar.cmpi .ne v38 c0_i32_21
  v39

def k0_off19 (i : grid0.Coords) (c0_i32_26 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let c5_i32 : BitVec 32 := 5#32
  let v3 : BitVec 32 := Scalar.muli c5_i32 v1
  let c4_i32 : BitVec 32 := 4#32
  let v4 : BitVec 32 := Scalar.muli c4_i32 v1
  let c28_i32_0 : BitVec 32 := 28#32
  let v5 : BitVec 32 := Scalar.addi v4 c28_i32_0
  let v6 : BitVec 32 := Scalar.select v2 v3 v5
  let c128_i32 : BitVec 32 := 128#32
  let v47 : BitVec 32 := Scalar.muli v6 c128_i32
  let v48 : BitVec 32 := Scalar.addi c0_i32_26 v47
  ![v48.toNat]
def k0_cond14 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let true_22 : BitVec 1 := 1#1
  let v40 : BitVec 1 := Scalar.xori v2 true_22
  let c31_i32 : BitVec 32 := 31#32
  let v9 : BitVec 1 := Scalar.cmpi .eq v1 c31_i32
  let true_23 : BitVec 1 := 1#1
  let v41 : BitVec 1 := Scalar.xori v9 true_23
  let v42 : BitVec 1 := Scalar.andi v40 v41
  let v43 : BitVec 32 := Scalar.extui v42
  let c0_i32_24 : BitVec 32 := 0#32
  let v44 : BitVec 1 := Scalar.cmpi .ne v43 c0_i32_24
  v44

def k0_off20 (i : grid0.Coords) (c0_i32_26 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let c5_i32 : BitVec 32 := 5#32
  let v3 : BitVec 32 := Scalar.muli c5_i32 v1
  let c4_i32 : BitVec 32 := 4#32
  let v4 : BitVec 32 := Scalar.muli c4_i32 v1
  let c28_i32_0 : BitVec 32 := 28#32
  let v5 : BitVec 32 := Scalar.addi v4 c28_i32_0
  let v6 : BitVec 32 := Scalar.select v2 v3 v5
  let c128_i32 : BitVec 32 := 128#32
  let v47 : BitVec 32 := Scalar.muli v6 c128_i32
  let v48 : BitVec 32 := Scalar.addi c0_i32_26 v47
  ![v48.toNat]
def k0_cond15 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v9 : BitVec 1 := Scalar.cmpi .eq v1 c31_i32
  let v45 : BitVec 32 := Scalar.extui v9
  let c0_i32_25 : BitVec 32 := 0#32
  let v46 : BitVec 1 := Scalar.cmpi .ne v45 c0_i32_25
  v46

def k0_off21 (i : grid0.Coords) (c0_i32_26 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32 : BitVec 32 := 28#32
  let v2 : BitVec 1 := Scalar.cmpi .slt v1 c28_i32
  let c5_i32 : BitVec 32 := 5#32
  let v3 : BitVec 32 := Scalar.muli c5_i32 v1
  let c4_i32 : BitVec 32 := 4#32
  let v4 : BitVec 32 := Scalar.muli c4_i32 v1
  let c28_i32_0 : BitVec 32 := 28#32
  let v5 : BitVec 32 := Scalar.addi v4 c28_i32_0
  let v6 : BitVec 32 := Scalar.select v2 v3 v5
  let c128_i32 : BitVec 32 := 128#32
  let v47 : BitVec 32 := Scalar.muli v6 c128_i32
  let v48 : BitVec 32 := Scalar.addi c0_i32_26 v47
  ![v48.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x20000x4 : Shape := ⟨3, ![8, 20000, 4]⟩
abbrev S8x560000 : Shape := ⟨2, ![8, 560000]⟩
abbrev S8x20000x4x7 : Shape := ⟨4, ![8, 20000, 4, 7]⟩
abbrev S_ : Shape := ⟨0, ![]⟩
abbrev S8x20000x4x1 : Shape := ⟨4, ![8, 20000, 4, 1]⟩
abbrev S8x20000x4x2 : Shape := ⟨4, ![8, 20000, 4, 2]⟩
abbrev S8x20000x4x1x1 : Shape := ⟨5, ![8, 20000, 4, 1, 1]⟩
abbrev S1 : Shape := ⟨1, ![1]⟩
abbrev S1x1x1x1x1 : Shape := ⟨5, ![1, 1, 1, 1, 1]⟩
abbrev S8x20000x1 : Shape := ⟨3, ![8, 20000, 1]⟩
abbrev S8x20000 : Shape := ⟨2, ![8, 20000]⟩

abbrev nBuf : Space → Nat
  | .hbm => 174
  | .vmem => 0
  | .smem => 0
  | _ => 0

abbrev hbmTy0_0 (i : Nat) : BufTy := match i % 128 with
  | 0 => ⟨S8x20000x4, .f32⟩
  | 1 => ⟨S8x560000, .f32⟩
  | 2 => ⟨S8x560000, .f32⟩
  | 3 => ⟨S8x20000x4x7, .f32⟩
  | 4 => ⟨S_, .f32⟩
  | 5 => ⟨S8x20000x4, .f32⟩
  | 6 => ⟨S_, .f32⟩
  | 7 => ⟨S8x20000x4, .f32⟩
  | 8 => ⟨S8x20000x4, .f32⟩
  | 9 => ⟨S8x20000x4x1, .f32⟩
  | 10 => ⟨S8x20000x4x7, .f32⟩
  | 11 => ⟨S8x20000x4x7, .f32⟩
  | 12 => ⟨S8x20000x4x7, .f32⟩
  | 13 => ⟨S_, .f32⟩
  | 14 => ⟨S8x20000x4, .f32⟩
  | 15 => ⟨S8x20000x4x1, .f32⟩
  | 16 => ⟨S8x20000x4x7, .f32⟩
  | 17 => ⟨S8x20000x4x7, .f32⟩
  | 18 => ⟨S8x20000x4x2, .f32⟩
  | 19 => ⟨S8x20000x4x2, .i32⟩
  | 20 => ⟨S8x20000x4x7, .f32⟩
  | 21 => ⟨S8x20000x4x1, .i32⟩
  | 22 => ⟨S_, .i32⟩
  | 23 => ⟨S8x20000x4x1, .i32⟩
  | 24 => ⟨S8x20000x4x1, .i1⟩
  | 25 => ⟨S_, .i32⟩
  | 26 => ⟨S8x20000x4x1, .i32⟩
  | 27 => ⟨S8x20000x4x1, .i32⟩
  | 28 => ⟨S8x20000x4x1, .i32⟩
  | 29 => ⟨S8x20000x4x1x1, .i32⟩
  | 30 => ⟨S1, .i32⟩
  | 31 => ⟨S_, .i32⟩
  | 32 => ⟨S8x20000x4x1x1, .i32⟩
  | 33 => ⟨S8x20000x4x1x1, .i1⟩
  | 34 => ⟨S1x1x1x1x1, .i32⟩
  | 35 => ⟨S8x20000x4x1x1, .i32⟩
  | 36 => ⟨S8x20000x4x1x1, .i1⟩
  | 37 => ⟨S8x20000x4x1x1, .i1⟩
  | 38 => ⟨S_, .i1⟩
  | 39 => ⟨S8x20000x4x1, .i1⟩
  | 40 => ⟨S8x20000x4x1, .f32⟩
  | 41 => ⟨S_, .f32⟩
  | 42 => ⟨S8x20000x4x1, .f32⟩
  | 43 => ⟨S8x20000x4x1, .f32⟩
  | 44 => ⟨S8x20000x4, .f32⟩
  | 45 => ⟨S8x20000x4x1, .i32⟩
  | 46 => ⟨S8x20000x4, .i32⟩
  | 47 => ⟨S8x20000x4, .f32⟩
  | 48 => ⟨S8x20000x1, .f32⟩
  | 49 => ⟨S8x20000, .f32⟩
  | 50 => ⟨S8x20000x1, .f32⟩
  | 51 => ⟨S8x20000, .f32⟩
  | 52 => ⟨S8x20000, .f32⟩
  | 53 => ⟨S_, .f32⟩
  | 54 => ⟨S8x20000, .f32⟩
  | 55 => ⟨S8x20000, .f32⟩
  | 56 => ⟨S8x20000x1, .f32⟩
  | 57 => ⟨S8x20000, .f32⟩
  | 58 => ⟨S8x20000x1, .f32⟩
  | 59 => ⟨S8x20000, .f32⟩
  | 60 => ⟨S8x20000, .f32⟩
  | 61 => ⟨S_, .f32⟩
  | 62 => ⟨S8x20000, .f32⟩
  | 63 => ⟨S8x20000, .f32⟩
  | 64 => ⟨S8x20000x1, .f32⟩
  | 65 => ⟨S8x20000, .f32⟩
  | 66 => ⟨S8x20000x1, .f32⟩
  | 67 => ⟨S8x20000, .f32⟩
  | 68 => ⟨S8x20000, .f32⟩
  | 69 => ⟨S_, .f32⟩
  | 70 => ⟨S8x20000, .f32⟩
  | 71 => ⟨S8x20000, .f32⟩
  | 72 => ⟨S8x20000x1, .f32⟩
  | 73 => ⟨S8x20000, .f32⟩
  | 74 => ⟨S8x20000x1, .f32⟩
  | 75 => ⟨S8x20000, .f32⟩
  | 76 => ⟨S8x20000, .f32⟩
  | 77 => ⟨S_, .f32⟩
  | 78 => ⟨S8x20000, .f32⟩
  | 79 => ⟨S8x20000, .f32⟩
  | 80 => ⟨S_, .f32⟩
  | 81 => ⟨S8x20000, .f32⟩
  | 82 => ⟨S8x20000, .f32⟩
  | 83 => ⟨S8x20000, .f32⟩
  | 84 => ⟨S_, .f32⟩
  | 85 => ⟨S8x20000, .f32⟩
  | 86 => ⟨S8x20000, .f32⟩
  | 87 => ⟨S8x20000, .f32⟩
  | 88 => ⟨S_, .f32⟩
  | 89 => ⟨S8x20000, .f32⟩
  | 90 => ⟨S8x20000, .f32⟩
  | 91 => ⟨S8x20000, .f32⟩
  | 92 => ⟨S_, .f32⟩
  | 93 => ⟨S8x20000, .f32⟩
  | 94 => ⟨S8x20000, .f32⟩
  | 95 => ⟨S8x20000, .f32⟩
  | 96 => ⟨S8x20000, .f32⟩
  | 97 => ⟨S_, .f32⟩
  | 98 => ⟨S8x20000, .f32⟩
  | 99 => ⟨S8x20000, .f32⟩
  | 100 => ⟨S8x20000, .f32⟩
  | 101 => ⟨S_, .f32⟩
  | 102 => ⟨S8x20000, .f32⟩
  | 103 => ⟨S8x20000, .f32⟩
  | 104 => ⟨S8x20000x1, .f32⟩
  | 105 => ⟨S8x20000, .f32⟩
  | 106 => ⟨S_, .f32⟩
  | 107 => ⟨S8x20000, .f32⟩
  | 108 => ⟨S8x20000, .f32⟩
  | 109 => ⟨S8x20000, .f32⟩
  | 110 => ⟨S8x20000, .f32⟩
  | 111 => ⟨S8x20000x1, .f32⟩
  | 112 => ⟨S8x20000, .f32⟩
  | 113 => ⟨S8x20000, .f32⟩
  | 114 => ⟨S8x20000, .f32⟩
  | 115 => ⟨S8x20000x1, .f32⟩
  | 116 => ⟨S8x20000, .f32⟩
  | 117 => ⟨S_, .f32⟩
  | 118 => ⟨S8x20000, .f32⟩
  | 119 => ⟨S8x20000, .f32⟩
  | 120 => ⟨S8x20000, .f32⟩
  | 121 => ⟨S8x20000, .f32⟩
  | 122 => ⟨S8x20000x1, .f32⟩
  | 123 => ⟨S8x20000, .f32⟩
  | 124 => ⟨S8x20000, .f32⟩
  | 125 => ⟨S8x20000, .f32⟩
  | 126 => ⟨S8x20000x1, .f32⟩
  | 127 => ⟨S8x20000, .f32⟩
  | _ => ⟨S8x20000x4, .f32⟩

abbrev hbmTy0_1 (i : Nat) : BufTy := match i % 128 with
  | 0 => ⟨S_, .f32⟩
  | 1 => ⟨S8x20000, .f32⟩
  | 2 => ⟨S8x20000, .f32⟩
  | 3 => ⟨S8x20000, .f32⟩
  | 4 => ⟨S8x20000, .f32⟩
  | 5 => ⟨S8x20000x1, .f32⟩
  | 6 => ⟨S8x20000, .f32⟩
  | 7 => ⟨S8x20000, .f32⟩
  | 8 => ⟨S8x20000, .f32⟩
  | 9 => ⟨S8x20000x1, .f32⟩
  | 10 => ⟨S8x20000, .f32⟩
  | 11 => ⟨S_, .f32⟩
  | 12 => ⟨S8x20000, .f32⟩
  | 13 => ⟨S8x20000, .f32⟩
  | 14 => ⟨S8x20000, .f32⟩
  | 15 => ⟨S8x20000, .f32⟩
  | 16 => ⟨S8x20000x1, .f32⟩
  | 17 => ⟨S8x20000, .f32⟩
  | 18 => ⟨S8x20000, .f32⟩
  | 19 => ⟨S8x20000, .f32⟩
  | 20 => ⟨S8x20000x1, .f32⟩
  | 21 => ⟨S8x20000x1, .f32⟩
  | 22 => ⟨S8x20000x1, .f32⟩
  | 23 => ⟨S8x20000x1, .f32⟩
  | 24 => ⟨S8x20000x4, .f32⟩
  | 25 => ⟨S8x20000x4x1, .i32⟩
  | 26 => ⟨S8x20000x4, .i32⟩
  | 27 => ⟨S8x20000x4x1, .i32⟩
  | 28 => ⟨S8x20000x4, .i32⟩
  | 29 => ⟨S8x20000x4, .i32⟩
  | 30 => ⟨S8x20000x4, .f32⟩
  | 31 => ⟨S8x20000x4, .f32⟩
  | 32 => ⟨S_, .f32⟩
  | 33 => ⟨S8x20000x4, .f32⟩
  | 34 => ⟨S8x20000x4, .f32⟩
  | 35 => ⟨S8x20000x4x1, .f32⟩
  | 36 => ⟨S8x20000x4, .f32⟩
  | 37 => ⟨S8x20000x4x1, .f32⟩
  | 38 => ⟨S8x20000x4, .f32⟩
  | 39 => ⟨S8x20000x4, .f32⟩
  | 40 => ⟨S8x20000x4, .f32⟩
  | 41 => ⟨S_, .f32⟩
  | 42 => ⟨S8x20000, .f32⟩
  | 43 => ⟨S_, .f32⟩
  | 44 => ⟨S8x20000, .f32⟩
  | 45 => ⟨S8x20000, .f32⟩
  | _ => ⟨S8x20000x4, .f32⟩

abbrev hbmTy (i : Nat) : BufTy := match i / 128 with
  | 0 => hbmTy0_0 i
  | 1 => hbmTy0_1 i
  | _ => ⟨S8x20000x4, .f32⟩

abbrev bufTy : (tb : Table) → Fin (tcTables nBuf tb) → BufTy
  | .hbm, ⟨i, _⟩ => hbmTy i
  | _, _ => ⟨S8x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_values : Ref sig .tc := ⟨.hbm, 18, rfl⟩
abbrev main_indices : Ref sig .tc := ⟨.hbm, 19, rfl⟩
abbrev main_v12 : Ref sig .tc := ⟨.hbm, 20, rfl⟩
abbrev main_v13 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_2 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_3 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_4 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_5 : Ref sig .tc := ⟨.hbm, 77, rfl⟩
abbrev main_v45 : Ref sig .tc := ⟨.hbm, 78, rfl⟩
abbrev main_v46 : Ref sig .tc := ⟨.hbm, 79, rfl⟩
abbrev main_cst_6 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_7 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_8 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_9 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_10 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_11 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_12 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_13 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_14 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_15 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_cst_16 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_17 : Ref sig .tc := ⟨.hbm, 169, rfl⟩
abbrev main_v125 : Ref sig .tc := ⟨.hbm, 170, rfl⟩
abbrev main_cst_18 : Ref sig .tc := ⟨.hbm, 171, rfl⟩
abbrev main_v126 : Ref sig .tc := ⟨.hbm, 172, rfl⟩
abbrev main_v127 : Ref sig .tc := ⟨.hbm, 173, rfl⟩

abbrev nD : Nat := 1
abbrev τ : Topo := Topo.v7x

variable {F : FTy → Type} [FloatOps F]
-- ==== Proof.Lane.lean ====
/- One lane of the kernel's arithmetic: what the body computes, for one proposal, from the twenty-eight
   class scores, the four selected offsets and the four box coordinates, over any float values `F`. -/
module

public import proofs.«01_k».proof.Proof.Gen.KernelIdeal.Skeleton

@[expose] public section

noncomputable section

namespace Cert.Proof

open Idealize.ShloMosaic Cert.KernelIdeal

variable {F : FTy → Type} [FloatOps F]

/-- The float words of the bucket numbers `0 … 6`. -/
def bucketWord (j : Fin 7) : BitVec 32 :=
  ![0x00000000#32, 0x3F800000#32, 0x40000000#32, 0x40400000#32, 0x40800000#32, 0x40A00000#32, 0x40C00000#32] j

/-- The running state of one side's scan over its seven buckets: the greatest and second greatest
    exponential so far, the bucket numbers they came from (as floats), and the sum so far. -/
structure Scan (F : FTy → Type) where
  m1 : F .f32
  i1 : F .f32
  m2 : F .f32
  i2 : F .f32
  den : F .f32

/-- The scan before any comparison: bucket 0 leads. -/
def Scan.start (e : F .f32) : Scan F :=
  ⟨e, FloatOps.ofBits .f32 0x00000000#32, FloatOps.ofBits .f32 0x00000000#32, FloatOps.ofBits .f32 0x00000000#32, e⟩

/-- One more bucket, numbered by the float word `w`, of exponential `e`. -/
def Scan.step (s : Scan F) (w : BitVec 32) (e : F .f32) : Scan F where
  m2 := if FloatOps.cmpf .ogt e s.m1 = 1 then s.m1 else if FloatOps.cmpf .ogt e s.m2 = 1 then e else s.m2
  i2 := if FloatOps.cmpf .ogt e s.m1 = 1 then s.i1 else if FloatOps.cmpf .ogt e s.m2 = 1 then FloatOps.ofBits .f32 w else s.i2
  m1 := FloatOps.maximumf e s.m1
  i1 := if FloatOps.cmpf .ogt e s.m1 = 1 then FloatOps.ofBits .f32 w else s.i1
  den := FloatOps.addf s.den e

/-- The scan of one side, from its seven class scores. -/
def scan (c : Fin 7 → F .f32) : Scan F :=
  ((((((Scan.start (FloatOps.exp (c 0))).step 0x3F800000#32 (FloatOps.exp (c 1))).step 0x40000000#32 (FloatOps.exp (c 2))).step
    0x40400000#32 (FloatOps.exp (c 3))).step 0x40800000#32 (FloatOps.exp (c 4))).step 0x40A00000#32 (FloatOps.exp (c 5))).step
    0x40C00000#32 (FloatOps.exp (c 6))

/-- The best bucket of a side, as the float the kernel keeps. -/
def best (c : Fin 7 → F .f32) : F .f32 := (scan c).i1

/-- One side's share of the confidence. -/
def sideConf (c : Fin 7 → F .f32) : F .f32 :=
  FloatOps.addf
    (FloatOps.mulf (scan c).m1 (FloatOps.divf (FloatOps.ofBits .f32 0x3F800000#32) (scan c).den))
    (FloatOps.mulf (FloatOps.mulf (scan c).m2 (FloatOps.divf (FloatOps.ofBits .f32 0x3F800000#32) (scan c).den))
      (FloatOps.subf (FloatOps.absf (FloatOps.subf (scan c).i1 (scan c).i2)) (FloatOps.ofBits .f32 0x3F800000#32)))

/-- The seven scores of side `s` among the twenty-eight. -/
def sideOf (c : Fin 28 → F .f32) (s : Fin 4) : Fin 7 → F .f32 := fun j => c ⟨7 * s.val + j.val, by omega⟩

/-- The confidence of a proposal, from its twenty-eight class scores. -/
def laneConf (c : Fin 28 → F .f32) : F .f32 :=
  FloatOps.mulf (FloatOps.addf (FloatOps.addf (FloatOps.addf (sideConf (sideOf c 0)) (sideConf (sideOf c 1))) (sideConf (sideOf c 2)))
    (sideConf (sideOf c 3))) (FloatOps.ofBits .f32 0x3E800000#32)

/-- The scaled extent of the box along one axis. -/
def ext17 (lo hi : F .f32) : F .f32 := FloatOps.mulf (FloatOps.subf hi lo) (FloatOps.ofBits .f32 0x3FD9999A#32)

/-- The lower refined edge along one axis: from coordinates `lo`, `hi`, the best bucket `i` and its offset `o`. -/
def edgeLo (lo hi i o : F .f32) : F .f32 :=
  FloatOps.addf (FloatOps.mulf (FloatOps.subf (FloatOps.addf lo hi) (ext17 lo hi)) (FloatOps.ofBits .f32 0x3F000000#32))
    (FloatOps.mulf (FloatOps.subf (FloatOps.addf (FloatOps.ofBits .f32 0x3F000000#32) i) o)
      (FloatOps.divf (ext17 lo hi) (FloatOps.ofBits .f32 0x41600000#32)))

/-- The upper refined edge along one axis. -/
def edgeHi (lo hi i o : F .f32) : F .f32 :=
  FloatOps.subf (FloatOps.mulf (FloatOps.addf (FloatOps.addf lo hi) (ext17 lo hi)) (FloatOps.ofBits .f32 0x3F000000#32))
    (FloatOps.mulf (FloatOps.addf (FloatOps.addf (FloatOps.ofBits .f32 0x3F000000#32) i) o)
      (FloatOps.divf (ext17 lo hi) (FloatOps.ofBits .f32 0x41600000#32)))

/-- The column, among a side's seven, of the offset the kernel fetches. -/
def bestIdx (c : Fin 7 → F .f32) : BitVec 32 := FloatOps.fptosi 32 (best c)

/-- The column of the fetched offset of side `s`, kept below 28. -/
def offIdx (c : Fin 28 → F .f32) (s : Fin 4) : Fin 28 := ⟨(7 * s.val + (bestIdx (sideOf c s)).toNat) % 28, Nat.mod_lt _ (by decide)⟩

/-- The four refined coordinates of a proposal, in the order the kernel stores them: left, top, right, bottom. -/
def laneBox (c o : Fin 28 → F .f32) (p : Fin 4 → F .f32) : Fin 4 → F .f32
  | 0 => edgeLo (p 0) (p 2) (best (sideOf c 0)) (o (offIdx c 0))
  | 1 => edgeLo (p 1) (p 3) (best (sideOf c 2)) (o (offIdx c 2))
  | 2 => edgeHi (p 0) (p 2) (best (sideOf c 1)) (o (offIdx c 1))
  | 3 => edgeHi (p 1) (p 3) (best (sideOf c 3)) (o (offIdx c 3))

/-- What the proof needs of the float values: the seven bucket numbers convert to the words `0 … 6`. -/
class Buckets (F : FTy → Type) [FloatOps F] : Prop where
  conv : ∀ j : Fin 7, (FloatOps.fptosi 32 (FloatOps.ofBits (F := F) .f32 (bucketWord j)) : BitVec 32) = BitVec.ofNat 32 j.val

/-- A scan whose leading bucket number is one of the seven. -/
def Scan.Ok (s : Scan F) : Prop := ∃ j : Fin 7, s.i1 = FloatOps.ofBits .f32 (bucketWord j)

omit [FloatOps F] in
theorem Scan.ok_step [FloatOps F] {s : Scan F} (h : s.Ok) (j : Fin 7) (e : F .f32) : (s.step (bucketWord j) e).Ok := by
  unfold Scan.Ok Scan.step; dsimp only; split
  · exact ⟨j, rfl⟩
  · exact h

theorem scan_ok (c : Fin 7 → F .f32) : (scan c).Ok := by
  refine Scan.ok_step (j := 6) (Scan.ok_step (j := 5) (Scan.ok_step (j := 4) (Scan.ok_step (j := 3)
    (Scan.ok_step (j := 2) (Scan.ok_step (j := 1) ?_ _) _) _) _) _) _
  exact ⟨0, rfl⟩

theorem bestIdx_lt [Buckets F] (c : Fin 7 → F .f32) : (bestIdx c).toNat < 7 := by
  obtain ⟨j, h⟩ := scan_ok c
  unfold bestIdx best; rw [h, Buckets.conv]
  have := j.isLt; rw [BitVec.toNat_ofNat]; omega

theorem offIdx_val [Buckets F] (c : Fin 28 → F .f32) (s : Fin 4) : (offIdx c s).val = 7 * s.val + (bestIdx (sideOf c s)).toNat := by
  have := bestIdx_lt (sideOf c s); have := s.isLt
  show (7 * s.val + (bestIdx (sideOf c s)).toNat) % 28 = _
  omega

end Cert.Proof
-- ==== Proof.Base.lean ====
/- The launch as the proof sees it: the label signature, the SparseCore call, the resource algebra, the
   threads and the memrefs of one tile, and the steps the body's indexed loads and stores take. -/
module

public import proofs.«01_k».proof.Proof.Lane
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The kernels' labels, lifted through the empty family of TensorCore pipelines. -/
abbrev ΛP : Labels := Pipeline.Sig Λ₀ (Fin 0) fun p => (pcfgs (F := F) p).Adm
/-- The one SparseCore call. -/
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

/-- What the launch theorem asks of the launch's semaphores and the SparseCores' buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds beside the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The memrefs of one tile: the class scores, the offsets, the transposed proposals, the tail's proposals,
    the two results and the eight scratches. -/
abbrev mC : Memref sig .scVector .hbm S8x560000 .f32 := Memref.whole main_arg1_scv
abbrev mO : Memref sig .scVector .hbm S8x560000 .f32 := Memref.whole main_arg2_scv
abbrev mP : Memref sig .scVector .hbm S8x4x20000 .f32 := Memref.whole main_v2_scv
abbrev mT : Memref sig .scVector .hbm S1024 .f32 := Memref.whole main_v1_scv
abbrev mB : Memref sig .scVector .hbm S8x4x20096 .f32 := Memref.whole main_v3_0_scv
abbrev mF : Memref sig .scVector .hbm S160000 .f32 := Memref.whole main_v3_1_scv
abbrev bC0 : Memref sig .scVector .vmem S8x1792 .f32 := Memref.whole cc0_scratch0
abbrev bC1 : Memref sig .scVector .vmem S8x1792 .f32 := Memref.whole cc0_scratch1
abbrev bO0 : Memref sig .scVector .vmem S8x1792 .f32 := Memref.whole cc0_scratch2
abbrev bO1 : Memref sig .scVector .vmem S8x1792 .f32 := Memref.whole cc0_scratch3
abbrev bP : Memref sig .scVector .vmem S8x4x640 .f32 := Memref.whole cc0_scratch4
abbrev bB : Memref sig .scVector .vmem S8x4x128 .f32 := Memref.whole cc0_scratch5
abbrev bF : Memref sig .scVector .vmem S5376 .f32 := Memref.whole cc0_scratch6
abbrev bT : Memref sig .scVector .vmem S1024 .f32 := Memref.whole cc0_scratch7

/-- The tile at grid coordinates `i` of device `d`. -/
abbrev thr (d : Dev nD) (i : grid0.Coords) : Thread nD τ := V d ((i 0).castLE hcore0) ((i 1).castLE hsub0)

section Steps

variable [FloatOps F] (d : Dev nD) (i : grid0.Coords)

/-- An assumed fact, supplied. -/
theorem st_assume {P : Prop} {dec : Decidable P} {α : Type}
    {k : PLift P → Prog (TpuEff nD τ sig (Elt F) Λ₀ (thr d i).2) α} {Q : α → sProp 𝕄} {H : sProp 𝕄} (hP : P)
    (hk : H ⊢ wp frame (wpE (defs₀ (F := F)) 𝒱₀ (thr d i) none) Set.univ (k ⟨hP⟩) Q) :
    H ⊢ wp frame (wpE (defs₀ (F := F)) 𝒱₀ (thr d i) none) Set.univ (Prog.lift (TpuEff.assume P dec) >>= k) Q := by
  have e := wp_assume_of (Ix := HIx 1) (Name := ℕ) (U := UU) (Lvl := ℕ) (defs := defs₀ (F := F)) 𝒱₀ (thr d i) none Set.univ (d := dec) (k := k) (Q := Q) hP
  exact hk.trans (Entails.of_eq e.symm)

/-- An indexed load out of a scratch the context holds whole. -/
theorem st_gather {s t : Shape} {e : EltTy} {base : Memref sig (thr d i).2.kind .vmem s e} {idxs : Fin s.rank → IVec t 32}
    {h : ∀ a x, (idxs a x).toNat < s.size a} {hl : base.view.Loads} {α : Type}
    {k : Vec F t e → Prog (TpuEff nD τ sig (Elt F) Λ₀ (thr d i).2) α} {Q : α → sProp 𝕄} {H : sProp 𝕄} {q : PosShare TreeShare}
    {f : Buf (Elt F) ((base.access (.whole s)).loc (thr d i))}
    (acc : H ⊢ iprop(((base.access (.whole s)).loc (thr d i) ↦{q} f) ∗ (((base.access (.whole s)).loc (thr d i) ↦{q} f) -∗ H)))
    (hk : H ⊢ wp frame (wpE (defs₀ (F := F)) 𝒱₀ (thr d i) none) Set.univ (k (loadIdx ((base.access (.whole s)).read (Elt F) f) idxs h)) Q) :
    H ⊢ wp frame (wpE (defs₀ (F := F)) 𝒱₀ (thr d i) none) Set.univ (SparseCore.vectorLoadIdx base idxs h hl >>= k) Q := by
  refine acc.trans ?_
  iintro ⟨Hp, Hb⟩
  iapply (SparseCore.wp_vectorLoadIdx (defs := defs₀ (F := F)) 𝒱₀ (thr d i) none Set.univ (base := base) (S := Finset.univ) (q := q) (f := f)
    (Finset.subset_univ _)) $$ Hp
  iintro Hp
  iapply hk
  iapply Hb $$ Hp

/-- An indexed store into a scratch the context holds whole. -/
theorem st_scatter {s : Shape} {e : EltTy} {n : Fin 1 → Nat} {base : Memref sig (thr d i).2.kind .vmem s e} {idxs : Fin s.rank → IVec ⟨1, n⟩ 32}
    {v : Vec F ⟨1, n⟩ e} {mask : IVec ⟨1, n⟩ 1} {add : Bool}
    {h : ∀ a x, (idxs a x).toNat < s.size a} {hs : (base.access (.whole s)).Stores Finset.univ} {α : Type}
    {k : PUnit → Prog (TpuEff nD τ sig (Elt F) Λ₀ (thr d i).2) α} {Q : α → sProp 𝕄} {H H' : sProp 𝕄}
    {f g : Buf (Elt F) ((base.access (.whole s)).loc (thr d i))} (hset : (base.access (.whole s)).set = Finset.univ)
    (hg : (base.access (.whole s)).write (Elt F) f (storeIdx ((base.access (.whole s)).read (Elt F) f) idxs v mask add h) Finset.univ = g)
    (acc : H ⊢ iprop(((base.access (.whole s)).loc (thr d i) ↦{fullShare} f) ∗ (((base.access (.whole s)).loc (thr d i) ↦{fullShare} g) -∗ H')))
    (hk : H' ⊢ wp frame (wpE (defs₀ (F := F)) 𝒱₀ (thr d i) none) Set.univ (k ⟨⟩) Q) :
    H ⊢ wp frame (wpE (defs₀ (F := F)) 𝒱₀ (thr d i) none) Set.univ (SparseCore.vectorStoreIdx base idxs v mask add h hs >>= k) Q := by
  refine acc.trans ?_
  have hp := SparseCore.wp_vectorStoreIdx (defs := defs₀ (F := F)) 𝒱₀ (thr d i) none Set.univ (base := base) (idxs := idxs) (v := v) (mask := mask)
    (add := add) (h := h) (hs := hs) (k := k) (f := f) (Q := Q)
  rw [hg, hset] at hp
  iintro ⟨Hp, Hb⟩
  iapply hp $$ Hp
  iintro Hp
  iapply hk
  iapply Hb $$ Hp

/-- The same steps inside a part of the body, the rest of the body following. -/
theorem st_assume' {P : Prop} {dec : Decidable P} {α β : Type}
    {f : PLift P → Prog (TpuEff nD τ sig (Elt F) Λ₀ (thr d i).2) β}
    {k : β → Prog (TpuEff nD τ sig (Elt F) Λ₀ (thr d i).2) α} {Q : α → sProp 𝕄} {H : sProp 𝕄} (hP : P)
    (hk : H ⊢ wp frame (wpE (defs₀ (F := F)) 𝒱₀ (thr d i) none) Set.univ (f ⟨hP⟩ >>= k) Q) :
    H ⊢ wp frame (wpE (defs₀ (F := F)) 𝒱₀ (thr d i) none) Set.univ ((Prog.lift (TpuEff.assume P dec) >>= f) >>= k) Q := by
  rw [bind_assoc]; exact st_assume d i hP hk

theorem st_gather' {s t : Shape} {e : EltTy} {base : Memref sig (thr d i).2.kind .vmem s e} {idxs : Fin s.rank → IVec t 32}
    {h : ∀ a x, (idxs a x).toNat < s.size a} {hl : base.view.Loads} {α β : Type}
    {g : Vec F t e → Prog (TpuEff nD τ sig (Elt F) Λ₀ (thr d i).2) β}
    {k : β → Prog (TpuEff nD τ sig (Elt F) Λ₀ (thr d i).2) α} {Q : α → sProp 𝕄} {H : sProp 𝕄} {q : PosShare TreeShare}
    {f : Buf (Elt F) ((base.access (.whole s)).loc (thr d i))}
    (acc : H ⊢ iprop(((base.access (.whole s)).loc (thr d i) ↦{q} f) ∗ (((base.access (.whole s)).loc (thr d i) ↦{q} f) -∗ H)))
    (hk : H ⊢ wp frame (wpE (defs₀ (F := F)) 𝒱₀ (thr d i) none) Set.univ (g (loadIdx ((base.access (.whole s)).read (Elt F) f) idxs h) >>= k) Q) :
    H ⊢ wp frame (wpE (defs₀ (F := F)) 𝒱₀ (thr d i) none) Set.univ ((SparseCore.vectorLoadIdx base idxs h hl >>= g) >>= k) Q := by
  rw [bind_assoc]; exact st_gather d i acc hk

theorem st_scatter' {s : Shape} {e : EltTy} {n : Fin 1 → Nat} {base : Memref sig (thr d i).2.kind .vmem s e} {idxs : Fin s.rank → IVec ⟨1, n⟩ 32}
    {v : Vec F ⟨1, n⟩ e} {mask : IVec ⟨1, n⟩ 1} {add : Bool}
    {h : ∀ a x, (idxs a x).toNat < s.size a} {hs : (base.access (.whole s)).Stores Finset.univ} {α β : Type}
    {u : PUnit → Prog (TpuEff nD τ sig (Elt F) Λ₀ (thr d i).2) β}
    {k : β → Prog (TpuEff nD τ sig (Elt F) Λ₀ (thr d i).2) α} {Q : α → sProp 𝕄} {H H' : sProp 𝕄}
    {f g : Buf (Elt F) ((base.access (.whole s)).loc (thr d i))} (hset : (base.access (.whole s)).set = Finset.univ)
    (hg : (base.access (.whole s)).write (Elt F) f (storeIdx ((base.access (.whole s)).read (Elt F) f) idxs v mask add h) Finset.univ = g)
    (acc : H ⊢ iprop(((base.access (.whole s)).loc (thr d i) ↦{fullShare} f) ∗ (((base.access (.whole s)).loc (thr d i) ↦{fullShare} g) -∗ H')))
    (hk : H' ⊢ wp frame (wpE (defs₀ (F := F)) 𝒱₀ (thr d i) none) Set.univ (u ⟨⟩ >>= k) Q) :
    H ⊢ wp frame (wpE (defs₀ (F := F)) 𝒱₀ (thr d i) none) Set.univ ((SparseCore.vectorStoreIdx base idxs v mask add h hs >>= u) >>= k) Q := by
  rw [bind_assoc]; exact st_scatter d i hset hg acc hk

theorem st_pure {α β : Type} {r : β} {k : β → Prog (TpuEff nD τ sig (Elt F) Λ₀ (thr d i).2) α} {Q : α → sProp 𝕄} {H : sProp 𝕄}
    (hk : H ⊢ wp frame (wpE (defs₀ (F := F)) 𝒱₀ (thr d i) none) Set.univ (k r) Q) :
    H ⊢ wp frame (wpE (defs₀ (F := F)) 𝒱₀ (thr d i) none) Set.univ ((pure r : Prog (TpuEff nD τ sig (Elt F) Λ₀ (thr d i).2) β) >>= k) Q := hk

end Steps

section Reads

variable [FloatOps F]

/-- An element of a half buffer named by numbers (kept in range). -/
def at2 (f : Vec F S8x1792 .f32) (a c : ℕ) : F .f32 :=
  f (fun | 0 => ⟨a % 8, Nat.mod_lt _ (by decide)⟩ | 1 => ⟨c % 1792, Nat.mod_lt _ (by decide)⟩)

/-- The index check of a gather at column `j` past the lane's own. -/
theorem chk_col {vb vc : IVec S16 32} (hb : ∀ x, (vb x).toNat < 8) (hc : ∀ x, (vc x).toNat + 28 ≤ 1792) (j : BitVec 32) (hj : j.toNat < 28) :
    ∀ a x, ((![vb, addi vc (broadcast S16 j)] : Fin 2 → IVec S16 32) a x).toNat < S8x1792.size a := by
  intro a x
  have h1 := hb x; have h2 := hc x
  fin_cases a
  · exact h1
  · show (vc x + j).toNat < 1792
    rw [BitVec.toNat_add]; omega

theorem load_col {vb vc : IVec S16 32} {g : Vec F S8x1792 .f32}
    {f : Vec F S8x1792 .f32} (e : f = g)
    (hb : ∀ x, (vb x).toNat < 8) (hc : ∀ x, (vc x).toNat + 28 ≤ 1792) (j : BitVec 32) (hj : j.toNat < 28)
    (h : ∀ a x, ((![vb, addi vc (broadcast S16 j)] : Fin 2 → IVec S16 32) a x).toNat < S8x1792.size a) :
    loadIdx f ![vb, addi vc (broadcast S16 j)] h = fun x => at2 g (vb x).toNat ((vc x).toNat + j.toNat) := by
  subst e
  funext x
  unfold loadIdx at2
  congr 1
  funext a
  have h1 := hb x; have h2 := hc x
  apply Fin.ext
  fin_cases a
  · exact (Nat.mod_eq_of_lt h1).symm
  · show (vc x + j).toNat = ((vc x).toNat + j.toNat) % 1792
    rw [BitVec.toNat_add]; omega

end Reads

end Cert.Proof
-- ==== Proof.Reads.lean ====
/- The indexed loads and stores of one group of sixteen proposals, their indices given as numbers: the range
   checks hold, a load reads the named element per lane, and a store rewrites sixteen consecutive elements. -/
module

public import proofs.«01_k».proof.Proof.Base

@[expose] public section

noncomputable section

namespace Cert.Proof

open Cert.KernelIdeal Cert.KernelIdeal.Gen
open Idealize.ShloMosaic

variable {F : FTy → Type} [FloatOps F]

/-- The number of a lane. -/
abbrev ln (x : S16.Idx) : ℕ := (x 0).val

theorem ln_lt (x : S16.Idx) : ln x < 16 := (x 0).isLt

/-- The lane of a number. -/
def laneOf (k : Fin 16) : S16.Idx := Shape.ofLane (d := ![16]) k

/-- An element of the proposals' slice, named by numbers (kept in range). -/
def at3 (f : Vec F S8x4x640 .f32) (a k c : ℕ) : F .f32 :=
  f (fun | 0 => ⟨a % 8, Nat.mod_lt _ (by decide)⟩ | 1 => ⟨k % 4, Nat.mod_lt _ (by decide)⟩ | 2 => ⟨c % 640, Nat.mod_lt _ (by decide)⟩)

/-- An element of the tail's proposals. -/
def at1 (f : Vec F S1024 .f32) (c : ℕ) : F .f32 := f (fun | 0 => ⟨c % 1024, Nat.mod_lt _ (by decide)⟩)

section

variable {vb vc : IVec S16 32} {b u : ℕ}

theorem chkC (hvb : ∀ x, (vb x).toNat = b) (hvc : ∀ x, (vc x).toNat = 28 * (u + ln x)) (hb : b < 8) (hu : u + 16 ≤ 64)
    (j : BitVec 32) (hj : j.toNat < 28) :
    ∀ a x, ((![vb, addi vc (broadcast S16 j)] : Fin 2 → IVec S16 32) a x).toNat < S8x1792.size a := by
  intro a x
  have h1 := hvb x; have h2 := hvc x; have h3 := ln_lt x; have h5 : 28 * (u + ln x) + 28 ≤ 1792 := by omega
  generalize 28 * (u + ln x) = n at *
  fin_cases a
  · show (vb x).toNat < 8; omega
  · show (vc x + j).toNat < 1792
    rw [BitVec.toNat_add]; omega

theorem ldC {f g : Vec F S8x1792 .f32} (e : f = g)
    (hvb : ∀ x, (vb x).toNat = b) (hvc : ∀ x, (vc x).toNat = 28 * (u + ln x)) (hb : b < 8) (hu : u + 16 ≤ 64)
    (j : BitVec 32) (hj : j.toNat < 28)
    (h : ∀ a x, ((![vb, addi vc (broadcast S16 j)] : Fin 2 → IVec S16 32) a x).toNat < S8x1792.size a) :
    loadIdx f ![vb, addi vc (broadcast S16 j)] h = fun x => at2 g b (28 * (u + ln x) + j.toNat) := by
  subst e
  funext x
  unfold loadIdx at2
  congr 1
  funext a
  have h1 := hvb x; have h2 := hvc x; have h3 := ln_lt x; have h5 : 28 * (u + ln x) + 28 ≤ 1792 := by omega
  generalize 28 * (u + ln x) = n at *
  apply Fin.ext
  fin_cases a
  · show (vb x).toNat = b % 8; omega
  · show (vc x + j).toNat = (n + j.toNat) % 1792
    rw [BitVec.toNat_add]; omega

theorem chkW {ix w : IVec S16 32} {j : BitVec 32} (hix : ix = addi (addi vc (broadcast S16 j)) w)
    (hvb : ∀ x, (vb x).toNat = b) (hvc : ∀ x, (vc x).toNat = 28 * (u + ln x)) (hb : b < 8) (hu : u + 16 ≤ 64)
    (hj : j.toNat ≤ 21) (hw : ∀ x, (w x).toNat < 7) :
    ∀ a x, ((![vb, ix] : Fin 2 → IVec S16 32) a x).toNat < S8x1792.size a := by
  subst hix
  intro a x
  have h1 := hvb x; have h2 := hvc x; have h3 := ln_lt x; have h5 : 28 * (u + ln x) + 28 ≤ 1792 := by omega
  generalize 28 * (u + ln x) = n at *; have h4 := hw x
  fin_cases a
  · show (vb x).toNat < 8; omega
  · show (vc x + j + w x).toNat < 1792
    rw [BitVec.toNat_add, BitVec.toNat_add]; omega

theorem ldW {f g : Vec F S8x1792 .f32} (e : f = g) {ix w : IVec S16 32} {j : BitVec 32} (hix : ix = addi (addi vc (broadcast S16 j)) w)
    (hvb : ∀ x, (vb x).toNat = b) (hvc : ∀ x, (vc x).toNat = 28 * (u + ln x)) (hb : b < 8) (hu : u + 16 ≤ 64)
    (hj : j.toNat ≤ 21) (hw : ∀ x, (w x).toNat < 7)
    (h : ∀ a x, ((![vb, ix] : Fin 2 → IVec S16 32) a x).toNat < S8x1792.size a) :
    loadIdx f ![vb, ix] h = fun x => at2 g b (28 * (u + ln x) + (j.toNat + (w x).toNat)) := by
  subst e; subst hix
  funext x
  unfold loadIdx at2
  congr 1
  funext a
  have h1 := hvb x; have h2 := hvc x; have h3 := ln_lt x; have h5 : 28 * (u + ln x) + 28 ≤ 1792 := by omega
  generalize 28 * (u + ln x) = n at *; have h4 := hw x
  apply Fin.ext
  fin_cases a
  · show (vb x).toNat = b % 8; omega
  · show (vc x + j + w x).toNat = (n + (j.toNat + (w x).toNat)) % 1792
    rw [BitVec.toNat_add, BitVec.toNat_add]; omega

theorem chkP {vp : IVec S16 32} {p : ℕ} (hvb : ∀ x, (vb x).toNat = b) (hb : b < 8) (hvp : ∀ x, (vp x).toNat = p + ln x) (hp : p + 16 ≤ 640)
    (j : BitVec 32) (hj : j.toNat < 4) :
    ∀ a x, ((![vb, broadcast S16 j, vp] : Fin 3 → IVec S16 32) a x).toNat < S8x4x640.size a := by
  intro a x
  have h1 := hvb x; have h2 := hvp x; have h3 := ln_lt x
  fin_cases a
  · show (vb x).toNat < 8; omega
  · exact hj
  · show (vp x).toNat < 640; omega

theorem ldP {f g : Vec F S8x4x640 .f32} (e : f = g) {vp : IVec S16 32} {p : ℕ} (hvb : ∀ x, (vb x).toNat = b) (hb : b < 8)
    (hvp : ∀ x, (vp x).toNat = p + ln x) (hp : p + 16 ≤ 640) (j : BitVec 32) (hj : j.toNat < 4)
    (h : ∀ a x, ((![vb, broadcast S16 j, vp] : Fin 3 → IVec S16 32) a x).toNat < S8x4x640.size a) :
    loadIdx f ![vb, broadcast S16 j, vp] h = fun x => at3 g b j.toNat (p + ln x) := by
  subst e
  funext x
  unfold loadIdx at3
  congr 1
  funext a
  have h1 := hvb x; have h2 := hvp x; have h3 := ln_lt x
  apply Fin.ext
  fin_cases a
  · show (vb x).toNat = b % 8; omega
  · show j.toNat = j.toNat % 4; omega
  · show (vp x).toNat = (p + ln x) % 640; omega

theorem chkT {vt : IVec S16 32} {p : ℕ} (hvt : ∀ x, (vt x).toNat = p + 4 * ln x) (hp : p + 64 ≤ 1024) :
    ∀ a x, ((![vt] : Fin 1 → IVec S16 32) a x).toNat < S1024.size a := by
  intro a x
  have h2 := hvt x; have h3 := ln_lt x
  fin_cases a
  show (vt x).toNat < 1024; omega

theorem ldT {f g : Vec F S1024 .f32} (e : f = g) {vt : IVec S16 32} {p : ℕ} (hvt : ∀ x, (vt x).toNat = p + 4 * ln x) (hp : p + 64 ≤ 1024)
    (h : ∀ a x, ((![vt] : Fin 1 → IVec S16 32) a x).toNat < S1024.size a) :
    loadIdx f ![vt] h = fun x => at1 g (p + 4 * ln x) := by
  subst e
  funext x
  unfold loadIdx at1
  congr 1
  funext a
  have h2 := hvt x; have h3 := ln_lt x
  apply Fin.ext
  fin_cases a
  show (vt x).toNat = (p + 4 * ln x) % 1024; omega

theorem addT {vt : IVec S16 32} {p : ℕ} (hvt : ∀ x, (vt x).toNat = p + 4 * ln x) (hp : p + 64 ≤ 1024) (j : BitVec 32) (hj : j.toNat < 4) :
    ∀ x, ((addi vt (broadcast S16 j)) x).toNat = p + j.toNat + 4 * ln x := by
  intro x
  have h2 := hvt x; have h3 := ln_lt x
  show (vt x + j).toNat = _
  rw [BitVec.toNat_add]; omega

theorem chkT' {vt : IVec S16 32} {p : ℕ} (hvt : ∀ x, (vt x).toNat = p + 4 * ln x) (hp : p + 64 ≤ 1024) (j : BitVec 32) (hj : j.toNat < 4) :
    ∀ a x, ((![addi vt (broadcast S16 j)] : Fin 1 → IVec S16 32) a x).toNat < S1024.size a := by
  intro a x
  have h2 := addT hvt hp j hj x; have h3 := ln_lt x
  fin_cases a
  show ((addi vt (broadcast S16 j)) x).toNat < 1024
  have := hvt x
  show (vt x + j).toNat < 1024
  rw [BitVec.toNat_add]
  omega

theorem ldT' {f g : Vec F S1024 .f32} (e : f = g) {vt : IVec S16 32} {p : ℕ} (hvt : ∀ x, (vt x).toNat = p + 4 * ln x) (hp : p + 64 ≤ 1024)
    (hd : 4 ∣ p) (j : BitVec 32) (hj : j.toNat < 4)
    (h : ∀ a x, ((![addi vt (broadcast S16 j)] : Fin 1 → IVec S16 32) a x).toNat < S1024.size a) :
    loadIdx f ![addi vt (broadcast S16 j)] h = fun x => at1 g (p + 4 * ln x + j.toNat) := by
  subst e
  funext x
  unfold loadIdx at1
  congr 1
  funext a
  have h2 := addT hvt hp j hj x; have h3 := ln_lt x
  apply Fin.ext
  fin_cases a
  show ((addi vt (broadcast S16 j)) x).toNat = (p + 4 * ln x + j.toNat) % 1024
  omega

/-! ### The store of sixteen consecutive elements -/

theorem chkB {vp : IVec S16 32} {p : ℕ} (hvb : ∀ x, (vb x).toNat = b) (hb : b < 8) (hvp : ∀ x, (vp x).toNat = p + ln x) (hp : p + 16 ≤ 128)
    (j : BitVec 32) (hj : j.toNat < 4) :
    ∀ a x, ((![vb, broadcast S16 j, vp] : Fin 3 → IVec S16 32) a x).toNat < S8x4x128.size a := by
  intro a x
  have h1 := hvb x; have h2 := hvp x; have h3 := ln_lt x
  fin_cases a
  · show (vb x).toNat < 8; omega
  · exact hj
  · show (vp x).toNat < 128; omega

/-- Sixteen consecutive elements of row `(b, k)` rewritten, from column `p`. -/
def putRow (f : Vec F S8x4x128 .f32) (b k p : ℕ) (v : ℕ → F .f32) : Vec F S8x4x128 .f32 :=
  fun y => if (y 0).val = b ∧ (y 1).val = k ∧ p ≤ (y 2).val ∧ (y 2).val < p + 16 then v ((y 2).val - p) else f y

omit [FloatOps F] in
theorem foldl_miss {α β : Type} (P : α → β → Prop) [∀ a b, Decidable (P a b)] (v : α → F .f32) (l : List α) (f : β → F .f32) (y : β)
    (h : ∀ a ∈ l, ¬ P a y) : l.foldl (fun g a => fun j => if P a j then v a else g j) f y = f y := by
  induction l generalizing f with
  | nil => rfl
  | cons a l ih =>
    rw [List.foldl_cons, ih _ fun a' ha' => h a' (List.mem_cons_of_mem _ ha')]
    exact if_neg (h a (List.mem_cons_self ..))

omit [FloatOps F] in
theorem foldl_hit {α β : Type} [DecidableEq α] (P : α → β → Prop) [∀ a b, Decidable (P a b)] (v : α → F .f32) (l : List α) (f : β → F .f32) (y : β) (a : α)
    (ha : a ∈ l) (hp : P a y) (h : ∀ a' ∈ l, P a' y → a' = a) : l.foldl (fun g a => fun j => if P a j then v a else g j) f y = v a := by
  induction l generalizing f with
  | nil => cases ha
  | cons c l ih =>
    rw [List.foldl_cons]
    by_cases hm : a ∈ l
    · exact ih _ hm fun a' ha' => h a' (List.mem_cons_of_mem _ ha')
    · have hac : a = c := by rcases List.mem_cons.mp ha with e | e; exact e; exact absurd e hm
      rw [foldl_miss P v l _ y]
      · subst hac; exact if_pos hp
      · intro a' ha' hpa
        exact hm (h a' (List.mem_cons_of_mem _ ha') hpa ▸ ha')

theorem stB {f g : Vec F S8x4x128 .f32} (e : f = g) {vp : IVec S16 32} {p : ℕ} (hvb : ∀ x, (vb x).toNat = b) (hb : b < 8)
    (hvp : ∀ x, (vp x).toNat = p + ln x) (hp : p + 16 ≤ 128) (j : BitVec 32) (hj : j.toNat < 4) (v : Vec F S16 .f32) (w : ℕ → F .f32)
    (hw : ∀ x, v x = w (ln x))
    (h : ∀ a x, ((![vb, broadcast S16 j, vp] : Fin 3 → IVec S16 32) a x).toNat < S8x4x128.size a) :
    storeIdx f ![vb, broadcast S16 j, vp] v (fun _ => 1#1) false h = putRow g b j.toNat p w := by
  subst e
  funext y
  unfold putRow
  let I : Fin 16 → S8x4x128.Idx := fun k => idxAt ![vb, broadcast S16 j, vp] h (laneOf k)
  have hiff : ∀ k : Fin 16, (∀ a, (y a).val = (I k a).val) ↔ ((y 0).val = b ∧ (y 1).val = j.toNat ∧ (y 2).val = p + k.val) := by
    intro k
    have h0 : (I k 0).val = b := hvb _
    have h1 : (I k 1).val = j.toNat := rfl
    have h2 : (I k 2).val = p + k.val := hvp _
    constructor
    · intro ha
      exact ⟨(ha 0).trans h0, (ha 1).trans h1, (ha 2).trans h2⟩
    · rintro ⟨a0, a1, a2⟩ a
      match a with
      | 0 => exact a0.trans h0.symm
      | 1 => exact a1.trans h1.symm
      | 2 => exact a2.trans h2.symm
  have hE : storeIdx f ![vb, broadcast S16 j, vp] v (fun _ => 1#1) false h
      = (List.finRange 16).foldl (fun g k => fun y' => if (∀ a, (y' a).val = (I k a).val) then v (laneOf k) else g y') f := by
    unfold storeIdx
    show List.foldl _ f (List.finRange 16) = _
    congr 1
    funext g k
    refine (if_pos (rfl : (1#1 : BitVec 1) = 1)).trans ?_
    funext y'
    by_cases hy : ∀ a, (y' a).val = (I k a).val
    · exact (if_pos hy).trans (if_pos hy).symm
    · exact (if_neg hy).trans (if_neg hy).symm
  rw [hE]
  split
  · rename_i hc
    obtain ⟨c0, c1, c2, c3⟩ := hc
    have hk : (y 2).val - p < 16 := by omega
    refine (foldl_hit (fun (k : Fin 16) (y' : S8x4x128.Idx) => ∀ a, (y' a).val = (I k a).val)
      (fun k => v (laneOf k)) (List.finRange 16) f y ⟨(y 2).val - p, hk⟩ (List.mem_finRange _)
      ((hiff _).mpr ⟨c0, c1, by show (y 2).val = p + ((y 2).val - p); omega⟩)
      (fun a' _ hp' => Fin.ext (by have := ((hiff a').mp hp').2.2; show a'.val = (y 2).val - p; omega))).trans ?_
    rw [hw]; rfl
  · rename_i hc
    refine foldl_miss (fun (k : Fin 16) (y' : S8x4x128.Idx) => ∀ a, (y' a).val = (I k a).val)
      (fun k => v (laneOf k)) (List.finRange 16) f y ?_
    intro k _ hp'
    obtain ⟨c0, c1, c2⟩ := (hiff k).mp hp'
    exact hc ⟨c0, c1, by omega, by have := k.isLt; omega⟩

end

end Cert.Proof
-- ==== Proof.GroupA.lean ====
/- The parts of one group of an even half: what each gathers and hands on. -/
module

public import proofs.«01_k».proof.Proof.Reads

@[expose] public section

set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

local notation "𝕄" => MT nD τ sig (HIx 1) (Elt F) ℕ UU ℕ

def p1_arg19 (c0_i32_45 : BitVec 32) (c1_i32_46 : BitVec 32) (k0_t2 : Fin k0_t2_loop.trips) : BitVec 32 :=
  let arg19 : BitVec 32 := Scf.iv c0_i32_45 c1_i32_46 k0_t2
  arg19

def p1_v111 (c0_i32_45 : BitVec 32) (c1_i32_46 : BitVec 32) (k0_t2 : Fin k0_t2_loop.trips) : BitVec 32 :=
  let arg19 : BitVec 32 := Scf.iv c0_i32_45 c1_i32_46 k0_t2
  let v85 : BitVec 32 := Scalar.divsi arg19 2#32
  let v86 : BitVec 1 := Scalar.cmpi .sgt arg19 0#32
  let v87 : BitVec 32 := Scalar.extui v86
  let v88 : BitVec 1 := Scalar.cmpi .slt arg19 0#32
  let v89 : BitVec 32 := Scalar.extui v88
  let v90 : BitVec 32 := Scalar.subi v87 v89
  let v91 : BitVec 1 := Scalar.cmpi .sgt 2#32 0#32
  let v92 : BitVec 32 := Scalar.extui v91
  let v93 : BitVec 1 := Scalar.cmpi .slt 2#32 0#32
  let v94 : BitVec 32 := Scalar.extui v93
  let v95 : BitVec 32 := Scalar.subi v92 v94
  let v96 : BitVec 1 := Scalar.cmpi .ne v90 v95
  let v97 : BitVec 32 := Scalar.remsi arg19 2#32
  let v98 : BitVec 1 := Scalar.cmpi .ne v97 0#32
  let v99 : BitVec 1 := Scalar.andi v96 v98
  let v100 : BitVec 32 := Scalar.subi v85 1#32
  let v101 : BitVec 32 := Scalar.select v99 v100 v85
  let v102 : BitVec 1 := Scalar.cmpi .eq 8#32 0#32
  let v103 : BitVec 32 := Scalar.select v102 1#32 8#32
  let v104 : BitVec 32 := Scalar.remsi v101 v103
  let v105 : BitVec 1 := Scalar.cmpi .ne v104 0#32
  let v106 : BitVec 1 := Scalar.cmpi .slt v104 0#32
  let v107 : BitVec 1 := Scalar.cmpi .slt v103 0#32
  let v108 : BitVec 1 := Scalar.xori v106 v107
  let v109 : BitVec 1 := Scalar.andi v108 v105
  let v110 : BitVec 32 := Scalar.addi v104 v103
  let v111 : BitVec 32 := Scalar.select v109 v110 v104
  v111

def p1_v112 (c0_i32_45 : BitVec 32) (c1_i32_46 : BitVec 32) (k0_t2 : Fin k0_t2_loop.trips) : BitVec 32 :=
  let arg19 : BitVec 32 := Scf.iv c0_i32_45 c1_i32_46 k0_t2
  let v112 : BitVec 32 := Scalar.divsi arg19 16#32
  v112

def p1_v123 (c0_i32_45 : BitVec 32) (c1_i32_46 : BitVec 32) (k0_t2 : Fin k0_t2_loop.trips) : BitVec 1 :=
  let arg19 : BitVec 32 := Scf.iv c0_i32_45 c1_i32_46 k0_t2
  let v113 : BitVec 1 := Scalar.cmpi .sgt arg19 0#32
  let v114 : BitVec 32 := Scalar.extui v113
  let v115 : BitVec 1 := Scalar.cmpi .slt arg19 0#32
  let v116 : BitVec 32 := Scalar.extui v115
  let v117 : BitVec 32 := Scalar.subi v114 v116
  let v118 : BitVec 1 := Scalar.cmpi .sgt 16#32 0#32
  let v119 : BitVec 32 := Scalar.extui v118
  let v120 : BitVec 1 := Scalar.cmpi .slt 16#32 0#32
  let v121 : BitVec 32 := Scalar.extui v120
  let v122 : BitVec 32 := Scalar.subi v119 v121
  let v123 : BitVec 1 := Scalar.cmpi .ne v117 v122
  v123

def p1_v124 (c0_i32_45 : BitVec 32) (c1_i32_46 : BitVec 32) (k0_t2 : Fin k0_t2_loop.trips) : BitVec 32 :=
  let arg19 : BitVec 32 := Scf.iv c0_i32_45 c1_i32_46 k0_t2
  let v124 : BitVec 32 := Scalar.remsi arg19 16#32
  v124

theorem w_part1 {α : Type} {k : ((Σ' (arg19 : BitVec 32) (v111 : BitVec 32) (v112 : BitVec 32) (v123 : BitVec 1) (v124 : BitVec 32), BitVec 32)) → Prog (TpuEff nD τ sig (Elt F) Λ₀ (thr d i).2) α} {Q : α → sProp 𝕄} {H : sProp 𝕄}
    (c0_i32_45 : BitVec 32) (c1_i32_46 : BitVec 32) (k0_t2 : Fin k0_t2_loop.trips)

    (hk :
      H ⊢ wp frame (wpE (defs₀ (F := F)) 𝒱₀ (thr d i) none) Set.univ (k ⟨(p1_arg19 c0_i32_45 c1_i32_46 k0_t2), (p1_v111 c0_i32_45 c1_i32_46 k0_t2), (p1_v112 c0_i32_45 c1_i32_46 k0_t2), (p1_v123 c0_i32_45 c1_i32_46 k0_t2), (p1_v124 c0_i32_45 c1_i32_46 k0_t2), 0#32⟩) Q) :
    H ⊢ wp frame (wpE (defs₀ (F := F)) 𝒱₀ (thr d i) none) Set.univ (k0_part1 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 c0_i32_45 c1_i32_46 k0_t2 >>= k) Q := by
  rw [k0_part1_eq_skeleton]; unfold k0_part1_skel
  refine st_pure d i ?_
  exact hk

def p2_v141 (v71 : BitVec 32) : BitVec 32 :=
  let v140 : BitVec 32 := Scalar.muli v71 128#32
  let v141 : BitVec 32 := Scalar.addi v140 0#32
  v141

def p2_v143 (v71 : BitVec 32) : BitVec 32 :=
  let v142 : BitVec 32 := Scalar.muli v71 128#32
  let v143 : BitVec 32 := Scalar.addi v142 0#32
  v143

def p2_v147 (arg19 : BitVec 32) (v112 : BitVec 32) (v123 : BitVec 1) (v124 : BitVec 32) (c0_i32_67 : BitVec 32) : BitVec 32 :=
  let v125 : BitVec 1 := Scalar.cmpi .ne v124 c0_i32_67
  let v126 : BitVec 1 := Scalar.andi v123 v125
  let v127 : BitVec 32 := Scalar.subi v112 1#32
  let v128 : BitVec 32 := Scalar.select v126 v127 v112
  let v129 : BitVec 1 := Scalar.cmpi .eq 2#32 0#32
  let v130 : BitVec 32 := Scalar.select v129 1#32 2#32
  let v131 : BitVec 32 := Scalar.remsi arg19 v130
  let v132 : BitVec 1 := Scalar.cmpi .ne v131 0#32
  let v133 : BitVec 1 := Scalar.cmpi .slt v131 0#32
  let v134 : BitVec 1 := Scalar.cmpi .slt v130 0#32
  let v135 : BitVec 1 := Scalar.xori v133 v134
  let v136 : BitVec 1 := Scalar.andi v135 v132
  let v137 : BitVec 32 := Scalar.addi v131 v130
  let v138 : BitVec 32 := Scalar.select v136 v137 v131
  let v139 : BitVec 32 := Scalar.muli v138 16#32
  let v146 : BitVec 32 := Scalar.muli v128 32#32
  let v147 : BitVec 32 := Scalar.addi v146 v139
  v147

theorem w_part2 {α : Type} {k : ((Σ' (v141 : BitVec 32) (v143 : BitVec 32) (v144 : IVec S16 32) (v145 : IVec S16 32) (v147 : BitVec 32) (v152 : IVec S16 32) (v155 : Vec F S16 .f32) (v158 : Vec F S16 .f32) (v161 : Vec F S16 .f32), IVec S16 32)) → Prog (TpuEff nD τ sig (Elt F) Λ₀ (thr d i).2) α} {Q : α → sProp 𝕄} {H : sProp 𝕄}
    (k0_t1 : Fin (k0_t1_loop i).trips) (k0_h4 : k0_cond4 i k0_t1 = 1#1) (v71 : BitVec 32) (arg19 : BitVec 32) (v111 : BitVec 32) (v112 : BitVec 32) (v123 : BitVec 1) (v124 : BitVec 32) (c0_i32_67 : BitVec 32)
    {b : ℕ} (hb : b < 8) (hvb : ∀ x, ((broadcast S16 v111 : IVec S16 32) x).toNat = b) {u : ℕ} (hu : u + 16 ≤ 64) (hvc : ∀ x, ((k0_pay1 arg19 v112 v123 v124 c0_i32_67) x).toNat = 28 * (u + ln x))
    {fC : Vec F S8x1792 .f32} (accC : H ⊢ iprop((((bC0.access (.whole S8x1792)).loc (thr d i)) ↦{fullShare} fC) ∗ ((((bC0.access (.whole S8x1792)).loc (thr d i)) ↦{fullShare} fC) -∗ H)))
    (hk : ∀ (v155 : Vec F S16 .f32) (v158 : Vec F S16 .f32) (v161 : Vec F S16 .f32) (v144 : IVec S16 32) (v162 : IVec S16 32), v155 = (fun x => at2 fC b (28 * (u + ln x) + (0#32).toNat)) → v158 = (fun x => at2 fC b (28 * (u + ln x) + (1#32).toNat)) → v161 = (fun x => at2 fC b (28 * (u + ln x) + (2#32).toNat)) → v144 = (iota .scVector S16 32 [0] iota_S16_d0_w32_scVector) → v162 = (k0_pay5) →
      H ⊢ wp frame (wpE (defs₀ (F := F)) 𝒱₀ (thr d i) none) Set.univ (k ⟨(p2_v141 v71), (p2_v143 v71), v144, (broadcast S16 v111), (p2_v147 arg19 v112 v123 v124 c0_i32_67), (k0_pay1 arg19 v112 v123 v124 c0_i32_67), v155, v158, v161, v162⟩) Q) :
    H ⊢ wp frame (wpE (defs₀ (F := F)) 𝒱₀ (thr d i) none) Set.univ (k0_part2 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_t1 k0_h4 v71 arg19 v111 v112 v123 v124 c0_i32_67 >>= k) Q := by
  rw [k0_part2_eq_skeleton]; unfold k0_part2_skel
  refine st_assume' d i (fun _ => chkC hvb hvc hb hu 0#32 (by decide)) ?_
  refine st_gather' d i accC ?_
  refine st_assume' d i (fun _ => chkC hvb hvc hb hu 1#32 (by decide)) ?_
  refine st_gather' d i accC ?_
  refine st_assume' d i (fun _ => chkC hvb hvc hb hu 2#32 (by decide)) ?_
  refine st_gather' d i accC ?_
  refine st_pure d i ?_
  exact hk _ _ _ _ _ (ldC (f := (bC0.access (.whole S8x1792)).read (Elt F) fC) (g := fC) (Memref.read_access_whole _ _ _) hvb hvc hb hu 0#32 (by decide) _) (ldC (f := (bC0.access (.whole S8x1792)).read (Elt F) fC) (g := fC) (Memref.read_access_whole _ _ _) hvb hvc hb hu 1#32 (by decide) _) (ldC (f := (bC0.access (.whole S8x1792)).read (Elt F) fC) (g := fC) (Memref.read_access_whole _ _ _) hvb hvc hb hu 2#32 (by decide) _) rfl rfl

theorem w_part3 {α : Type} {k : ((Σ' (v164 : Vec F S16 .f32) (v167 : Vec F S16 .f32) (v170 : Vec F S16 .f32) (v173 : Vec F S16 .f32) (v176 : Vec F S16 .f32) (v179 : Vec F S16 .f32) (v182 : Vec F S16 .f32) (v185 : Vec F S16 .f32) (v188 : Vec F S16 .f32) (v191 : Vec F S16 .f32) (v194 : Vec F S16 .f32) (v197 : Vec F S16 .f32), IVec S16 32)) → Prog (TpuEff nD τ sig (Elt F) Λ₀ (thr d i).2) α} {Q : α → sProp 𝕄} {H : sProp 𝕄}
    (k0_t1 : Fin (k0_t1_loop i).trips) (k0_h4 : k0_cond4 i k0_t1 = 1#1) (v145 : IVec S16 32) (v152 : IVec S16 32) (v162 : IVec S16 32)
    {b : ℕ} (hb : b < 8) (hvb : ∀ x, ((v145 : IVec S16 32) x).toNat = b) {u : ℕ} (hu : u + 16 ≤ 64) (hvc : ∀ x, ((v152) x).toNat = 28 * (u + ln x)) (h_v162 : v162 = broadcast S16 3#32)
    {fC : Vec F S8x1792 .f32} (accC : H ⊢ iprop((((bC0.access (.whole S8x1792)).loc (thr d i)) ↦{fullShare} fC) ∗ ((((bC0.access (.whole S8x1792)).loc (thr d i)) ↦{fullShare} fC) -∗ H)))
    (hk : ∀ (v164 : Vec F S16 .f32) (v167 : Vec F S16 .f32) (v170 : Vec F S16 .f32) (v173 : Vec F S16 .f32) (v176 : Vec F S16 .f32) (v179 : Vec F S16 .f32) (v182 : Vec F S16 .f32) (v185 : Vec F S16 .f32) (v188 : Vec F S16 .f32) (v191 : Vec F S16 .f32) (v194 : Vec F S16 .f32) (v197 : Vec F S16 .f32) (v198 : IVec S16 32), v164 = (fun x => at2 fC b (28 * (u + ln x) + (3#32).toNat)) → v167 = (fun x => at2 fC b (28 * (u + ln x) + (4#32).toNat)) → v170 = (fun x => at2 fC b (28 * (u + ln x) + (5#32).toNat)) → v173 = (fun x => at2 fC b (28 * (u + ln x) + (6#32).toNat)) → v176 = (fun x => at2 fC b (28 * (u + ln x) + (7#32).toNat)) → v179 = (fun x => at2 fC b (28 * (u + ln x) + (8#32).toNat)) → v182 = (fun x => at2 fC b (28 * (u + ln x) + (9#32).toNat)) → v185 = (fun x => at2 fC b (28 * (u + ln x) + (10#32).toNat)) → v188 = (fun x => at2 fC b (28 * (u + ln x) + (11#32).toNat)) → v191 = (fun x => at2 fC b (28 * (u + ln x) + (12#32).toNat)) → v194 = (fun x => at2 fC b (28 * (u + ln x) + (13#32).toNat)) → v197 = (fun x => at2 fC b (28 * (u + ln x) + (14#32).toNat)) → v198 = (k0_pay17) →
      H ⊢ wp frame (wpE (defs₀ (F := F)) 𝒱₀ (thr d i) none) Set.univ (k ⟨v164, v167, v170, v173, v176, v179, v182, v185, v188, v191, v194, v197, v198⟩) Q) :
    H ⊢ wp frame (wpE (defs₀ (F := F)) 𝒱₀ (thr d i) none) Set.univ (k0_part3 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_t1 k0_h4 v145 v152 v162 >>= k) Q := by
  subst h_v162
  rw [k0_part3_eq_skeleton]; unfold k0_part3_skel
  refine st_assume' d i (fun _ => chkC hvb hvc hb hu 3#32 (by decide)) ?_
  refine st_gather' d i accC ?_
  refine st_assume' d i (fun _ => chkC hvb hvc hb hu 4#32 (by decide)) ?_
  refine st_gather' d i accC ?_
  refine st_assume' d i (fun _ => chkC hvb hvc hb hu 5#32 (by decide)) ?_
  refine st_gather' d i accC ?_
  refine st_assume' d i (fun _ => chkC hvb hvc hb hu 6#32 (by decide)) ?_
  refine st_gather' d i accC ?_
  refine st_assume' d i (fun _ => chkC hvb hvc hb hu 7#32 (by decide)) ?_
  refine st_gather' d i accC ?_
  refine st_assume' d i (fun _ => chkC hvb hvc hb hu 8#32 (by decide)) ?_
  refine st_gather' d i accC ?_
  refine st_assume' d i (fun _ => chkC hvb hvc hb hu 9#32 (by decide)) ?_
  refine st_gather' d i accC ?_
  refine st_assume' d i (fun _ => chkC hvb hvc hb hu 10#32 (by decide)) ?_
  refine st_gather' d i accC ?_
  refine st_assume' d i (fun _ => chkC hvb hvc hb hu 11#32 (by decide)) ?_
  refine st_gather' d i accC ?_
  refine st_assume' d i (fun _ => chkC hvb hvc hb hu 12#32 (by decide)) ?_
  refine st_gather' d i accC ?_
  refine st_assume' d i (fun _ => chkC hvb hvc hb hu 13#32 (by decide)) ?_
  refine st_gather' d i accC ?_
  refine st_assume' d i (fun _ => chkC hvb hvc hb hu 14#32 (by decide)) ?_
  refine st_gather' d i accC ?_
  refine st_pure d i ?_
  exact hk _ _ _ _ _ _ _ _ _ _ _ _ _ (ldC (f := (bC0.access (.whole S8x1792)).read (Elt F) fC) (g := fC) (Memref.read_access_whole _ _ _) hvb hvc hb hu 3#32 (by decide) _) (ldC (f := (bC0.access (.whole S8x1792)).read (Elt F) fC) (g := fC) (Memref.read_access_whole _ _ _) hvb hvc hb hu 4#32 (by decide) _) (ldC (f := (bC0.access (.whole S8x1792)).read (Elt F) fC) (g := fC) (Memref.read_access_whole _ _ _) hvb hvc hb hu 5#32 (by decide) _) (ldC (f := (bC0.access (.whole S8x1792)).read (Elt F) fC) (g := fC) (Memref.read_access_whole _ _ _) hvb hvc hb hu 6#32 (by decide) _) (ldC (f := (bC0.access (.whole S8x1792)).read (Elt F) fC) (g := fC) (Memref.read_access_whole _ _ _) hvb hvc hb hu 7#32 (by decide) _) (ldC (f := (bC0.access (.whole S8x1792)).read (Elt F) fC) (g := fC) (Memref.read_access_whole _ _ _) hvb hvc hb hu 8#32 (by decide) _) (ldC (f := (bC0.access (.whole S8x1792)).read (Elt F) fC) (g := fC) (Memref.read_access_whole _ _ _) hvb hvc hb hu 9#32 (by decide) _) (ldC (f := (bC0.access (.whole S8x1792)).read (Elt F) fC) (g := fC) (Memref.read_access_whole _ _ _) hvb hvc hb hu 10#32 (by decide) _) (ldC (f := (bC0.access (.whole S8x1792)).read (Elt F) fC) (g := fC) (Memref.read_access_whole _ _ _) hvb hvc hb hu 11#32 (by decide) _) (ldC (f := (bC0.access (.whole S8x1792)).read (Elt F) fC) (g := fC) (Memref.read_access_whole _ _ _) hvb hvc hb hu 12#32 (by decide) _) (ldC (f := (bC0.access (.whole S8x1792)).read (Elt F) fC) (g := fC) (Memref.read_access_whole _ _ _) hvb hvc hb hu 13#32 (by decide) _) (ldC (f := (bC0.access (.whole S8x1792)).read (Elt F) fC) (g := fC) (Memref.read_access_whole _ _ _) hvb hvc hb hu 14#32 (by decide) _) rfl

theorem w_part4 {α : Type} {k : ((Σ' (v200 : Vec F S16 .f32) (v203 : Vec F S16 .f32) (v206 : Vec F S16 .f32) (v209 : Vec F S16 .f32) (v212 : Vec F S16 .f32) (v215 : Vec F S16 .f32) (v218 : Vec F S16 .f32) (v221 : Vec F S16 .f32) (v224 : Vec F S16 .f32) (v227 : Vec F S16 .f32) (v230 : Vec F S16 .f32) (v233 : Vec F S16 .f32), IVec S16 32)) → Prog (TpuEff nD τ sig (Elt F) Λ₀ (thr d i).2) α} {Q : α → sProp 𝕄} {H : sProp 𝕄}
    (k0_t1 : Fin (k0_t1_loop i).trips) (k0_h4 : k0_cond4 i k0_t1 = 1#1) (v145 : IVec S16 32) (v152 : IVec S16 32) (v198 : IVec S16 32)
    {b : ℕ} (hb : b < 8) (hvb : ∀ x, ((v145 : IVec S16 32) x).toNat = b) {u : ℕ} (hu : u + 16 ≤ 64) (hvc : ∀ x, ((v152) x).toNat = 28 * (u + ln x)) (h_v198 : v198 = broadcast S16 15#32)
    {fC : Vec F S8x1792 .f32} (accC : H ⊢ iprop((((bC0.access (.whole S8x1792)).loc (thr d i)) ↦{fullShare} fC) ∗ ((((bC0.access (.whole S8x1792)).loc (thr d i)) ↦{fullShare} fC) -∗ H)))
    (hk : ∀ (v200 : Vec F S16 .f32) (v203 : Vec F S16 .f32) (v206 : Vec F S16 .f32) (v209 : Vec F S16 .f32) (v212 : Vec F S16 .f32) (v215 : Vec F S16 .f32) (v218 : Vec F S16 .f32) (v221 : Vec F S16 .f32) (v224 : Vec F S16 .f32) (v227 : Vec F S16 .f32) (v230 : Vec F S16 .f32) (v233 : Vec F S16 .f32) (v234 : IVec S16 32), v200 = (fun x => at2 fC b (28 * (u + ln x) + (15#32).toNat)) → v203 = (fun x => at2 fC b (28 * (u + ln x) + (16#32).toNat)) → v206 = (fun x => at2 fC b (28 * (u + ln x) + (17#32).toNat)) → v209 = (fun x => at2 fC b (28 * (u + ln x) + (18#32).toNat)) → v212 = (fun x => at2 fC b (28 * (u + ln x) + (19#32).toNat)) → v215 = (fun x => at2 fC b (28 * (u + ln x) + (20#32).toNat)) → v218 = (fun x => at2 fC b (28 * (u + ln x) + (21#32).toNat)) → v221 = (fun x => at2 fC b (28 * (u + ln x) + (22#32).toNat)) → v224 = (fun x => at2 fC b (28 * (u + ln x) + (23#32).toNat)) → v227 = (fun x => at2 fC b (28 * (u + ln x) + (24#32).toNat)) → v230 = (fun x => at2 fC b (28 * (u + ln x) + (25#32).toNat)) → v233 = (fun x => at2 fC b (28 * (u + ln x) + (26#32).toNat)) → v234 = (k0_pay29) →
      H ⊢ wp frame (wpE (defs₀ (F := F)) 𝒱₀ (thr d i) none) Set.univ (k ⟨v200, v203, v206, v209, v212, v215, v218, v221, v224, v227, v230, v233, v234⟩) Q) :
    H ⊢ wp frame (wpE (defs₀ (F := F)) 𝒱₀ (thr d i) none) Set.univ (k0_part4 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_t1 k0_h4 v145 v152 v198 >>= k) Q := by
  subst h_v198
  rw [k0_part4_eq_skeleton]; unfold k0_part4_skel
  refine st_assume' d i (fun _ => chkC hvb hvc hb hu 15#32 (by decide)) ?_
  refine st_gather' d i accC ?_
  refine st_assume' d i (fun _ => chkC hvb hvc hb hu 16#32 (by decide)) ?_
  refine st_gather' d i accC ?_
  refine st_assume' d i (fun _ => chkC hvb hvc hb hu 17#32 (by decide)) ?_
  refine st_gather' d i accC ?_
  refine st_assume' d i (fun _ => chkC hvb hvc hb hu 18#32 (by decide)) ?_
  refine st_gather' d i accC ?_
  refine st_assume' d i (fun _ => chkC hvb hvc hb hu 19#32 (by decide)) ?_
  refine st_gather' d i accC ?_
  refine st_assume' d i (fun _ => chkC hvb hvc hb hu 20#32 (by decide)) ?_
  refine st_gather' d i accC ?_
  refine st_assume' d i (fun _ => chkC hvb hvc hb hu 21#32 (by decide)) ?_
  refine st_gather' d i accC ?_
  refine st_assume' d i (fun _ => chkC hvb hvc hb hu 22#32 (by decide)) ?_
  refine st_gather' d i accC ?_
  refine st_assume' d i (fun _ => chkC hvb hvc hb hu 23#32 (by decide)) ?_
  refine st_gather' d i accC ?_
  refine st_assume' d i (fun _ => chkC hvb hvc hb hu 24#32 (by decide)) ?_
  refine st_gather' d i accC ?_
  refine st_assume' d i (fun _ => chkC hvb hvc hb hu 25#32 (by decide)) ?_
  refine st_gather' d i accC ?_
  refine st_assume' d i (fun _ => chkC hvb hvc hb hu 26#32 (by decide)) ?_
  refine st_gather' d i accC ?_
  refine st_pure d i ?_
  exact hk _ _ _ _ _ _ _ _ _ _ _ _ _ (ldC (f := (bC0.access (.whole S8x1792)).read (Elt F) fC) (g := fC) (Memref.read_access_whole _ _ _) hvb hvc hb hu 15#32 (by decide) _) (ldC (f := (bC0.access (.whole S8x1792)).read (Elt F) fC) (g := fC) (Memref.read_access_whole _ _ _) hvb hvc hb hu 16#32 (by decide) _) (ldC (f := (bC0.access (.whole S8x1792)).read (Elt F) fC) (g := fC) (Memref.read_access_whole _ _ _) hvb hvc hb hu 17#32 (by decide) _) (ldC (f := (bC0.access (.whole S8x1792)).read (Elt F) fC) (g := fC) (Memref.read_access_whole _ _ _) hvb hvc hb hu 18#32 (by decide) _) (ldC (f := (bC0.access (.whole S8x1792)).read (Elt F) fC) (g := fC) (Memref.read_access_whole _ _ _) hvb hvc hb hu 19#32 (by decide) _) (ldC (f := (bC0.access (.whole S8x1792)).read (Elt F) fC) (g := fC) (Memref.read_access_whole _ _ _) hvb hvc hb hu 20#32 (by decide) _) (ldC (f := (bC0.access (.whole S8x1792)).read (Elt F) fC) (g := fC) (Memref.read_access_whole _ _ _) hvb hvc hb hu 21#32 (by decide) _) (ldC (f := (bC0.access (.whole S8x1792)).read (Elt F) fC) (g := fC) (Memref.read_access_whole _ _ _) hvb hvc hb hu 22#32 (by decide) _) (ldC (f := (bC0.access (.whole S8x1792)).read (Elt F) fC) (g := fC) (Memref.read_access_whole _ _ _) hvb hvc hb hu 23#32 (by decide) _) (ldC (f := (bC0.access (.whole S8x1792)).read (Elt F) fC) (g := fC) (Memref.read_access_whole _ _ _) hvb hvc hb hu 24#32 (by decide) _) (ldC (f := (bC0.access (.whole S8x1792)).read (Elt F) fC) (g := fC) (Memref.read_access_whole _ _ _) hvb hvc hb hu 25#32 (by decide) _) (ldC (f := (bC0.access (.whole S8x1792)).read (Elt F) fC) (g := fC) (Memref.read_access_whole _ _ _) hvb hvc hb hu 26#32 (by decide) _) rfl

theorem w_part5 {α : Type} {k : ((Σ' (v236 : Vec F S16 .f32) (v241 : FVec F S16 .f32) (v242 : FVec F S16 .f32) (v243 : FVec F S16 .f32) (v275 : FVec F S16 .f32) (v276 : FVec F S16 .f32) (v278 : FVec F S16 .f32) (v279 : FVec F S16 .f32) (v280 : IVec S16 1) (v281 : IVec S16 1) (v283 : FVec F S16 .f32), F .f32)) → Prog (TpuEff nD τ sig (Elt F) Λ₀ (thr d i).2) α} {Q : α → sProp 𝕄} {H : sProp 𝕄}
    (k0_t1 : Fin (k0_t1_loop i).trips) (k0_h4 : k0_cond4 i k0_t1 = 1#1) (v145 : IVec S16 32) (v152 : IVec S16 32) (v155 : Vec F S16 .f32) (v158 : Vec F S16 .f32) (v161 : Vec F S16 .f32) (v164 : Vec F S16 .f32) (v167 : Vec F S16 .f32) (v170 : Vec F S16 .f32) (v173 : Vec F S16 .f32) (v234 : IVec S16 32)
    {b : ℕ} (hb : b < 8) (hvb : ∀ x, ((v145 : IVec S16 32) x).toNat = b) {u : ℕ} (hu : u + 16 ≤ 64) (hvc : ∀ x, ((v152) x).toNat = 28 * (u + ln x)) (h_v234 : v234 = broadcast S16 27#32)
    {fC : Vec F S8x1792 .f32} (accC : H ⊢ iprop((((bC0.access (.whole S8x1792)).loc (thr d i)) ↦{fullShare} fC) ∗ ((((bC0.access (.whole S8x1792)).loc (thr d i)) ↦{fullShare} fC) -∗ H)))
    (hk : ∀ (v236 : Vec F S16 .f32) (v241 : FVec F S16 .f32) (v242 : FVec F S16 .f32) (v243 : FVec F S16 .f32) (v275 : FVec F S16 .f32) (v276 : FVec F S16 .f32) (v278 : FVec F S16 .f32) (v279 : FVec F S16 .f32) (v280 : IVec S16 1) (v281 : IVec S16 1) (v283 : FVec F S16 .f32) (cst_97 : F .f32), v236 = (fun x => at2 fC b (28 * (u + ln x) + (27#32).toNat)) → v241 = (k0_pay34 v167) → v242 = (k0_pay35 v170) → v243 = (k0_pay36 v173) → v275 = (k0_pay52 v155 v158 v161 v164) → v276 = (k0_pay53 v155 v158 v161 v164) → v278 = (k0_pay54 v155 v158 v161 v164) → v279 = (k0_pay55 v155 v158 v161 v164) → v280 = (k0_pay56 v155 v158 v161 v164 v167) → v281 = (k0_pay57 v155 v158 v161 v164 v167) → v283 = (k0_pay58 v155 v158 v161 v164 v167) → cst_97 = (Scalar.ofBits .f32 0x40800000#32) →
      H ⊢ wp frame (wpE (defs₀ (F := F)) 𝒱₀ (thr d i) none) Set.univ (k ⟨v236, v241, v242, v243, v275, v276, v278, v279, v280, v281, v283, cst_97⟩) Q) :
    H ⊢ wp frame (wpE (defs₀ (F := F)) 𝒱₀ (thr d i) none) Set.univ (k0_part5 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_t1 k0_h4 v145 v152 v155 v158 v161 v164 v167 v170 v173 v234 >>= k) Q := by
  subst h_v234
  rw [k0_part5_eq_skeleton]; unfold k0_part5_skel
  refine st_assume' d i (fun _ => chkC hvb hvc hb hu 27#32 (by decide)) ?_
  refine st_gather' d i accC ?_
  refine st_pure d i ?_
  exact hk _ _ _ _ _ _ _ _ _ _ _ _ (ldC (f := (bC0.access (.whole S8x1792)).read (Elt F) fC) (g := fC) (Memref.read_access_whole _ _ _) hvb hvc hb hu 27#32 (by decide) _) rfl rfl rfl rfl rfl rfl rfl rfl rfl rfl rfl

theorem w_part6 {α : Type} {k : ((Σ' (v311 : FVec F S16 .f32) (v317 : Vec F S16 .f32) (v327 : FVec F S16 .f32) (v328 : FVec F S16 .f32) (v329 : FVec F S16 .f32) (v330 : FVec F S16 .f32) (v331 : FVec F S16 .f32) (v332 : FVec F S16 .f32) (v333 : FVec F S16 .f32), FVec F S16 .f32)) → Prog (TpuEff nD τ sig (Elt F) Λ₀ (thr d i).2) α} {Q : α → sProp 𝕄} {H : sProp 𝕄}
    (k0_t1 : Fin (k0_t1_loop i).trips) (k0_h4 : k0_cond4 i k0_t1 = 1#1) (v145 : IVec S16 32) (v152 : IVec S16 32) (v176 : Vec F S16 .f32) (v179 : Vec F S16 .f32) (v182 : Vec F S16 .f32) (v185 : Vec F S16 .f32) (v188 : Vec F S16 .f32) (v191 : Vec F S16 .f32) (v194 : Vec F S16 .f32) (v241 : FVec F S16 .f32) (v242 : FVec F S16 .f32) (v243 : FVec F S16 .f32) (v275 : FVec F S16 .f32) (v276 : FVec F S16 .f32) (v278 : FVec F S16 .f32) (v279 : FVec F S16 .f32) (v280 : IVec S16 1) (v281 : IVec S16 1) (v283 : FVec F S16 .f32) (cst_97 : F .f32)
    {b : ℕ} (hb : b < 8) (hvb : ∀ x, ((v145 : IVec S16 32) x).toNat = b) {u : ℕ} (hu : u + 16 ≤ 64) (hvc : ∀ x, ((v152) x).toNat = 28 * (u + ln x)) {w : IVec S16 32} (hix : k0_pay66 v152 v241 v242 v243 v276 v278 v280 = addi (addi (v152) (broadcast S16 0#32)) w) (hw : ∀ x, (w x).toNat < 7)
    {fO : Vec F S8x1792 .f32} (accO : H ⊢ iprop((((bO0.access (.whole S8x1792)).loc (thr d i)) ↦{fullShare} fO) ∗ ((((bO0.access (.whole S8x1792)).loc (thr d i)) ↦{fullShare} fO) -∗ H)))
    (hk : ∀ (v317 : Vec F S16 .f32) (v311 : FVec F S16 .f32) (v327 : FVec F S16 .f32) (v328 : FVec F S16 .f32) (v329 : FVec F S16 .f32) (v330 : FVec F S16 .f32) (v331 : FVec F S16 .f32) (v332 : FVec F S16 .f32) (v333 : FVec F S16 .f32) (v334 : FVec F S16 .f32), v317 = (fun x => at2 fO b (28 * (u + ln x) + ((0#32).toNat + (w x).toNat))) → v311 = (k0_pay65 v241 v242 v243 v276 v278 v280) → v327 = (k0_pay67 v241 v242 v243 v275 v276 v278 v279 v280 v281 v283 cst_97) → v328 = (k0_pay68 v176) → v329 = (k0_pay69 v179) → v330 = (k0_pay70 v182) → v331 = (k0_pay71 v185) → v332 = (k0_pay72 v188) → v333 = (k0_pay73 v191) → v334 = (k0_pay74 v194) →
      H ⊢ wp frame (wpE (defs₀ (F := F)) 𝒱₀ (thr d i) none) Set.univ (k ⟨v311, v317, v327, v328, v329, v330, v331, v332, v333, v334⟩) Q) :
    H ⊢ wp frame (wpE (defs₀ (F := F)) 𝒱₀ (thr d i) none) Set.univ (k0_part6 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_t1 k0_h4 v145 v152 v176 v179 v182 v185 v188 v191 v194 v241 v242 v243 v275 v276 v278 v279 v280 v281 v283 cst_97 >>= k) Q := by
  rw [k0_part6_eq_skeleton]; unfold k0_part6_skel
  refine st_assume' d i (fun _ => chkW hix hvb hvc hb hu (by decide) hw) ?_
  refine st_gather' d i accO ?_
  refine st_pure d i ?_
  exact hk _ _ _ _ _ _ _ _ _ _ (ldW (f := (bO0.access (.whole S8x1792)).read (Elt F) fO) (g := fO) (Memref.read_access_whole _ _ _) hix hvb hvc hb hu (by decide) hw _) rfl rfl rfl rfl rfl rfl rfl rfl rfl

theorem w_part7 {α : Type} {k : ((Σ' (v374 : FVec F S16 .f32) (v377 : FVec F S16 .f32) (v378 : FVec F S16 .f32) (v380 : FVec F S16 .f32) (v381 : FVec F S16 .f32) (v382 : IVec S16 1), IVec S16 1)) → Prog (TpuEff nD τ sig (Elt F) Λ₀ (thr d i).2) α} {Q : α → sProp 𝕄} {H : sProp 𝕄}
    (v328 : FVec F S16 .f32) (v329 : FVec F S16 .f32) (v330 : FVec F S16 .f32) (v331 : FVec F S16 .f32) (v332 : FVec F S16 .f32) (v333 : FVec F S16 .f32)

    (hk : ∀ (v374 : FVec F S16 .f32) (v377 : FVec F S16 .f32) (v378 : FVec F S16 .f32) (v380 : FVec F S16 .f32) (v381 : FVec F S16 .f32) (v382 : IVec S16 1) (v383 : IVec S16 1), v374 = (k0_pay94 v328 v329 v330 v331 v332) → v377 = (k0_pay95 v328 v329 v330 v331 v332) → v378 = (k0_pay96 v328 v329 v330 v331 v332) → v380 = (k0_pay97 v328 v329 v330 v331 v332) → v381 = (k0_pay98 v328 v329 v330 v331 v332) → v382 = (k0_pay99 v328 v329 v330 v331 v332 v333) → v383 = (k0_pay100 v328 v329 v330 v331 v332 v333) →
      H ⊢ wp frame (wpE (defs₀ (F := F)) 𝒱₀ (thr d i) none) Set.univ (k ⟨v374, v377, v378, v380, v381, v382, v383⟩) Q) :
    H ⊢ wp frame (wpE (defs₀ (F := F)) 𝒱₀ (thr d i) none) Set.univ (k0_part7 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 v328 v329 v330 v331 v332 v333 >>= k) Q := by
  rw [k0_part7_eq_skeleton]; unfold k0_part7_skel
  refine st_pure d i ?_
  exact hk _ _ _ _ _ _ _ rfl rfl rfl rfl rfl rfl rfl

theorem w_part8 {α : Type} {k : ((Σ' (v402 : FVec F S16 .f32) (v408 : Vec F S16 .f32) (v419 : FVec F S16 .f32) (v420 : FVec F S16 .f32) (v421 : FVec F S16 .f32) (v422 : FVec F S16 .f32) (v423 : FVec F S16 .f32) (v424 : FVec F S16 .f32) (v425 : FVec F S16 .f32) (v426 : FVec F S16 .f32) (v427 : FVec F S16 .f32) (v429 : FVec F S16 .f32) (v430 : IVec S16 1) (v431 : IVec S16 1), FVec F S16 .f32)) → Prog (TpuEff nD τ sig (Elt F) Λ₀ (thr d i).2) α} {Q : α → sProp 𝕄} {H : sProp 𝕄}
    (k0_t1 : Fin (k0_t1_loop i).trips) (k0_h4 : k0_cond4 i k0_t1 = 1#1) (v145 : IVec S16 32) (v152 : IVec S16 32) (v197 : Vec F S16 .f32) (v200 : Vec F S16 .f32) (v203 : Vec F S16 .f32) (v206 : Vec F S16 .f32) (v209 : Vec F S16 .f32) (v212 : Vec F S16 .f32) (v215 : Vec F S16 .f32) (v327 : FVec F S16 .f32) (v333 : FVec F S16 .f32) (v334 : FVec F S16 .f32) (v374 : FVec F S16 .f32) (v377 : FVec F S16 .f32) (v378 : FVec F S16 .f32) (v380 : FVec F S16 .f32) (v381 : FVec F S16 .f32) (v382 : IVec S16 1) (v383 : IVec S16 1)
    {b : ℕ} (hb : b < 8) (hvb : ∀ x, ((v145 : IVec S16 32) x).toNat = b) {u : ℕ} (hu : u + 16 ≤ 64) (hvc : ∀ x, ((v152) x).toNat = 28 * (u + ln x)) {w : IVec S16 32} (hix : k0_pay105 v152 v333 v334 v378 v380 v382 = addi (addi (v152) (broadcast S16 7#32)) w) (hw : ∀ x, (w x).toNat < 7)
    {fO : Vec F S8x1792 .f32} (accO : H ⊢ iprop((((bO0.access (.whole S8x1792)).loc (thr d i)) ↦{fullShare} fO) ∗ ((((bO0.access (.whole S8x1792)).loc (thr d i)) ↦{fullShare} fO) -∗ H)))
    (hk : ∀ (v408 : Vec F S16 .f32) (v402 : FVec F S16 .f32) (v419 : FVec F S16 .f32) (v420 : FVec F S16 .f32) (v421 : FVec F S16 .f32) (v422 : FVec F S16 .f32) (v423 : FVec F S16 .f32) (v424 : FVec F S16 .f32) (v425 : FVec F S16 .f32) (v426 : FVec F S16 .f32) (v427 : FVec F S16 .f32) (v429 : FVec F S16 .f32) (v430 : IVec S16 1) (v431 : IVec S16 1) (v432 : FVec F S16 .f32), v408 = (fun x => at2 fO b (28 * (u + ln x) + ((7#32).toNat + (w x).toNat))) → v402 = (k0_pay104 v333 v334 v378 v380 v382) → v419 = (k0_pay106 v327 v333 v334 v374 v377 v378 v380 v381 v382 v383) → v420 = (k0_pay107 v197) → v421 = (k0_pay108 v200) → v422 = (k0_pay109 v203) → v423 = (k0_pay110 v206) → v424 = (k0_pay111 v209) → v425 = (k0_pay112 v212) → v426 = (k0_pay113 v215) → v427 = (k0_pay114 (F := F)) → v429 = (k0_pay116 (F := F)) → v430 = (k0_pay117 v197 v200) → v431 = (k0_pay118 v200) → v432 = (k0_pay119 v200) →
      H ⊢ wp frame (wpE (defs₀ (F := F)) 𝒱₀ (thr d i) none) Set.univ (k ⟨v402, v408, v419, v420, v421, v422, v423, v424, v425, v426, v427, v429, v430, v431, v432⟩) Q) :
    H ⊢ wp frame (wpE (defs₀ (F := F)) 𝒱₀ (thr d i) none) Set.univ (k0_part8 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_t1 k0_h4 v145 v152 v197 v200 v203 v206 v209 v212 v215 v327 v333 v334 v374 v377 v378 v380 v381 v382 v383 >>= k) Q := by
  rw [k0_part8_eq_skeleton]; unfold k0_part8_skel
  refine st_assume' d i (fun _ => chkW hix hvb hvc hb hu (by decide) hw) ?_
  refine st_gather' d i accO ?_
  refine st_pure d i ?_
  exact hk _ _ _ _ _ _ _ _ _ _ _ _ _ _ _ (ldW (f := (bO0.access (.whole S8x1792)).read (Elt F) fO) (g := fO) (Memref.read_access_whole _ _ _) hix hvb hvc hb hu (by decide) hw _) rfl rfl rfl rfl rfl rfl rfl rfl rfl rfl rfl rfl rfl rfl

theorem w_part9 {α : Type} {k : ((Σ' (v472 : FVec F S16 .f32) (v473 : FVec F S16 .f32) (v474 : IVec S16 1) (v477 : FVec F S16 .f32) (v480 : FVec F S16 .f32) (v481 : FVec F S16 .f32), FVec F S16 .f32)) → Prog (TpuEff nD τ sig (Elt F) Λ₀ (thr d i).2) α} {Q : α → sProp 𝕄} {H : sProp 𝕄}
    (v420 : FVec F S16 .f32) (v421 : FVec F S16 .f32) (v422 : FVec F S16 .f32) (v423 : FVec F S16 .f32) (v424 : FVec F S16 .f32) (v425 : FVec F S16 .f32) (v427 : FVec F S16 .f32) (v429 : FVec F S16 .f32) (v430 : IVec S16 1) (v431 : IVec S16 1) (v432 : FVec F S16 .f32)

    (hk : ∀ (v472 : FVec F S16 .f32) (v473 : FVec F S16 .f32) (v474 : IVec S16 1) (v477 : FVec F S16 .f32) (v480 : FVec F S16 .f32) (v481 : FVec F S16 .f32) (v482 : FVec F S16 .f32), v472 = (k0_pay137 v420 v421 v422 v423 v424 v427 v430) → v473 = (k0_pay138 v420 v421 v422 v423 v424) → v474 = (k0_pay139 v420 v421 v422 v423 v424 v425) → v477 = (k0_pay141 v420 v421 v422 v423 v424 v425 v430 v432) → v480 = (k0_pay142 v420 v421 v422 v423 v424 v425 v427 v429 v430 v431 v432) → v481 = (k0_pay143 v420 v421 v422 v423 v424 v425) → v482 = (k0_pay144 (F := F)) →
      H ⊢ wp frame (wpE (defs₀ (F := F)) 𝒱₀ (thr d i) none) Set.univ (k ⟨v472, v473, v474, v477, v480, v481, v482⟩) Q) :
    H ⊢ wp frame (wpE (defs₀ (F := F)) 𝒱₀ (thr d i) none) Set.univ (k0_part9 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 v420 v421 v422 v423 v424 v425 v427 v429 v430 v431 v432 >>= k) Q := by
  rw [k0_part9_eq_skeleton]; unfold k0_part9_skel
  refine st_pure d i ?_
  exact hk _ _ _ _ _ _ _ rfl rfl rfl rfl rfl rfl rfl

theorem w_part10 {α : Type} {k : ((Σ' (v494 : FVec F S16 .f32) (v500 : Vec F S16 .f32) (v511 : FVec F S16 .f32) (v512 : FVec F S16 .f32) (v513 : FVec F S16 .f32) (v514 : FVec F S16 .f32) (v515 : FVec F S16 .f32) (v516 : FVec F S16 .f32) (v517 : FVec F S16 .f32) (v518 : FVec F S16 .f32) (v525 : FVec F S16 .f32) (v528 : FVec F S16 .f32) (v529 : FVec F S16 .f32), FVec F S16 .f32)) → Prog (TpuEff nD τ sig (Elt F) Λ₀ (thr d i).2) α} {Q : α → sProp 𝕄} {H : sProp 𝕄}
    (k0_t1 : Fin (k0_t1_loop i).trips) (k0_h4 : k0_cond4 i k0_t1 = 1#1) (v145 : IVec S16 32) (v152 : IVec S16 32) (v218 : Vec F S16 .f32) (v221 : Vec F S16 .f32) (v224 : Vec F S16 .f32) (v227 : Vec F S16 .f32) (v230 : Vec F S16 .f32) (v233 : Vec F S16 .f32) (v236 : Vec F S16 .f32) (v419 : FVec F S16 .f32) (v425 : FVec F S16 .f32) (v426 : FVec F S16 .f32) (v472 : FVec F S16 .f32) (v473 : FVec F S16 .f32) (v474 : IVec S16 1) (v477 : FVec F S16 .f32) (v480 : FVec F S16 .f32) (v481 : FVec F S16 .f32) (v482 : FVec F S16 .f32)
    {b : ℕ} (hb : b < 8) (hvb : ∀ x, ((v145 : IVec S16 32) x).toNat = b) {u : ℕ} (hu : u + 16 ≤ 64) (hvc : ∀ x, ((v152) x).toNat = 28 * (u + ln x)) {w : IVec S16 32} (hix : k0_pay148 v152 v426 v472 v474 v481 v482 = addi (addi (v152) (broadcast S16 14#32)) w) (hw : ∀ x, (w x).toNat < 7)
    {fO : Vec F S8x1792 .f32} (accO : H ⊢ iprop((((bO0.access (.whole S8x1792)).loc (thr d i)) ↦{fullShare} fO) ∗ ((((bO0.access (.whole S8x1792)).loc (thr d i)) ↦{fullShare} fO) -∗ H)))
    (hk : ∀ (v500 : Vec F S16 .f32) (v494 : FVec F S16 .f32) (v511 : FVec F S16 .f32) (v512 : FVec F S16 .f32) (v513 : FVec F S16 .f32) (v514 : FVec F S16 .f32) (v515 : FVec F S16 .f32) (v516 : FVec F S16 .f32) (v517 : FVec F S16 .f32) (v518 : FVec F S16 .f32) (v525 : FVec F S16 .f32) (v528 : FVec F S16 .f32) (v529 : FVec F S16 .f32) (v531 : FVec F S16 .f32), v500 = (fun x => at2 fO b (28 * (u + ln x) + ((14#32).toNat + (w x).toNat))) → v494 = (k0_pay147 v426 v472 v474 v481 v482) → v511 = (k0_pay149 v419 v425 v426 v472 v473 v474 v477 v480 v481 v482) → v512 = (k0_pay150 v218) → v513 = (k0_pay151 v221) → v514 = (k0_pay152 v224) → v515 = (k0_pay153 v227) → v516 = (k0_pay154 v230) → v517 = (k0_pay155 v233) → v518 = (k0_pay156 v236) → v525 = (k0_pay161 v218 v221) → v528 = (k0_pay162 v218 v221) → v529 = (k0_pay163 v218 v221) → v531 = (k0_pay164 v218 v221) →
      H ⊢ wp frame (wpE (defs₀ (F := F)) 𝒱₀ (thr d i) none) Set.univ (k ⟨v494, v500, v511, v512, v513, v514, v515, v516, v517, v518, v525, v528, v529, v531⟩) Q) :
    H ⊢ wp frame (wpE (defs₀ (F := F)) 𝒱₀ (thr d i) none) Set.univ (k0_part10 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_t1 k0_h4 v145 v152 v218 v221 v224 v227 v230 v233 v236 v419 v425 v426 v472 v473 v474 v477 v480 v481 v482 >>= k) Q := by
  rw [k0_part10_eq_skeleton]; unfold k0_part10_skel
  refine st_assume' d i (fun _ => chkW hix hvb hvc hb hu (by decide) hw) ?_
  refine st_gather' d i accO ?_
  refine st_pure d i ?_
  exact hk _ _ _ _ _ _ _ _ _ _ _ _ _ _ (ldW (f := (bO0.access (.whole S8x1792)).read (Elt F) fO) (g := fO) (Memref.read_access_whole _ _ _) hix hvb hvc hb hu (by decide) hw _) rfl rfl rfl rfl rfl rfl rfl rfl rfl rfl rfl rfl rfl

theorem w_part11 {α : Type} {k : ((Σ' (v573 : FVec F S16 .f32) (v575 : FVec F S16 .f32) (v576 : FVec F S16 .f32) (v577 : IVec S16 1) (v580 : FVec F S16 .f32), FVec F S16 .f32)) → Prog (TpuEff nD τ sig (Elt F) Λ₀ (thr d i).2) α} {Q : α → sProp 𝕄} {H : sProp 𝕄}
    (v512 : FVec F S16 .f32) (v513 : FVec F S16 .f32) (v514 : FVec F S16 .f32) (v515 : FVec F S16 .f32) (v516 : FVec F S16 .f32) (v517 : FVec F S16 .f32) (v518 : FVec F S16 .f32) (v525 : FVec F S16 .f32) (v528 : FVec F S16 .f32) (v529 : FVec F S16 .f32) (v531 : FVec F S16 .f32)

    (hk : ∀ (v573 : FVec F S16 .f32) (v575 : FVec F S16 .f32) (v576 : FVec F S16 .f32) (v577 : IVec S16 1) (v580 : FVec F S16 .f32) (v582 : FVec F S16 .f32), v573 = (k0_pay183 v514 v515 v516 v517 v529) → v575 = (k0_pay184 v514 v515 v516 v517 v529 v531) → v576 = (k0_pay185 v512 v513 v514 v515 v516 v517) → v577 = (k0_pay186 v514 v515 v516 v517 v518 v529) → v580 = (k0_pay188 v514 v515 v516 v517 v518 v525 v529) → v582 = (k0_pay189 v514 v515 v516 v517 v518 v525 v528 v529 v531) →
      H ⊢ wp frame (wpE (defs₀ (F := F)) 𝒱₀ (thr d i) none) Set.univ (k ⟨v573, v575, v576, v577, v580, v582⟩) Q) :
    H ⊢ wp frame (wpE (defs₀ (F := F)) 𝒱₀ (thr d i) none) Set.univ (k0_part11 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 v512 v513 v514 v515 v516 v517 v518 v525 v528 v529 v531 >>= k) Q := by
  rw [k0_part11_eq_skeleton]; unfold k0_part11_skel
  refine st_pure d i ?_
  exact hk _ _ _ _ _ _ rfl rfl rfl rfl rfl rfl

theorem w_part12 {α : Type} {k : ((Σ' (v586 : FVec F S16 .f32) (v592 : Vec F S16 .f32) (v603 : FVec F S16 .f32) (v616 : FVec F S16 .f32) (v619 : FVec F S16 .f32) (v622 : FVec F S16 .f32) (v625 : FVec F S16 .f32), FVec F S16 .f32)) → Prog (TpuEff nD τ sig (Elt F) Λ₀ (thr d i).2) α} {Q : α → sProp 𝕄} {H : sProp 𝕄}
    (k0_t1 : Fin (k0_t1_loop i).trips) (k0_h4 : k0_cond4 i k0_t1 = 1#1) (v143 : BitVec 32) (v144 : IVec S16 32) (v145 : IVec S16 32) (v147 : BitVec 32) (v152 : IVec S16 32) (v511 : FVec F S16 .f32) (v518 : FVec F S16 .f32) (v573 : FVec F S16 .f32) (v575 : FVec F S16 .f32) (v576 : FVec F S16 .f32) (v577 : IVec S16 1) (v580 : FVec F S16 .f32) (v582 : FVec F S16 .f32)
    {b : ℕ} (hb : b < 8) (hvb : ∀ x, ((v145 : IVec S16 32) x).toNat = b) {u : ℕ} (hu : u + 16 ≤ 64) (hvc : ∀ x, ((v152) x).toNat = 28 * (u + ln x)) {w : IVec S16 32} (hix : k0_pay191 v152 v575 v577 = addi (addi (v152) (broadcast S16 21#32)) w) (hw : ∀ x, (w x).toNat < 7) {p : ℕ} (hp : p + 16 ≤ 640) (hvp : ∀ x, ((k0_pay193 v143 v144 v147) x).toNat = p + ln x)
    {fO : Vec F S8x1792 .f32} (accO : H ⊢ iprop((((bO0.access (.whole S8x1792)).loc (thr d i)) ↦{fullShare} fO) ∗ ((((bO0.access (.whole S8x1792)).loc (thr d i)) ↦{fullShare} fO) -∗ H)))
    {fP : Vec F S8x4x640 .f32} (accP : H ⊢ iprop((((bP.access (.whole S8x4x640)).loc (thr d i)) ↦{fullShare} fP) ∗ ((((bP.access (.whole S8x4x640)).loc (thr d i)) ↦{fullShare} fP) -∗ H)))
    (hk : ∀ (v592 : Vec F S16 .f32) (v611 : Vec F S16 .f32) (v612 : Vec F S16 .f32) (v613 : Vec F S16 .f32) (v614 : Vec F S16 .f32) (v586 : FVec F S16 .f32) (v603 : FVec F S16 .f32) (v616 : FVec F S16 .f32) (v619 : FVec F S16 .f32) (v622 : FVec F S16 .f32) (v625 : FVec F S16 .f32) (v628 : FVec F S16 .f32), v592 = (fun x => at2 fO b (28 * (u + ln x) + ((21#32).toNat + (w x).toNat))) → v611 = (fun x => at3 fP b (0#32).toNat (p + ln x)) → v612 = (fun x => at3 fP b (1#32).toNat (p + ln x)) → v613 = (fun x => at3 fP b (2#32).toNat (p + ln x)) → v614 = (fun x => at3 fP b (3#32).toNat (p + ln x)) → v586 = (k0_pay190 v575 v577) → v603 = (k0_pay192 v511 v518 v573 v575 v576 v577 v580 v582) → v616 = (k0_pay195 v612 v614) → v619 = (k0_pay196 v611 v613) → v622 = (k0_pay197 v612 v614) → v625 = (k0_pay198 v611 v613) → v628 = (k0_pay199 v611 v613) →
      H ⊢ wp frame (wpE (defs₀ (F := F)) 𝒱₀ (thr d i) none) Set.univ (k ⟨v586, v592, v603, v616, v619, v622, v625, v628⟩) Q) :
    H ⊢ wp frame (wpE (defs₀ (F := F)) 𝒱₀ (thr d i) none) Set.univ (k0_part12 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_t1 k0_h4 v143 v144 v145 v147 v152 v511 v518 v573 v575 v576 v577 v580 v582 >>= k) Q := by
  rw [k0_part12_eq_skeleton]; unfold k0_part12_skel
  refine st_assume' d i (fun _ => chkW hix hvb hvc hb hu (by decide) hw) ?_
  refine st_gather' d i accO ?_
  refine st_assume' d i ⟨fun _ => chkP hvb hb hvp hp 0#32 (by decide), fun _ => chkP hvb hb hvp hp 1#32 (by decide), fun _ => chkP hvb hb hvp hp 2#32 (by decide), fun _ => chkP hvb hb hvp hp 3#32 (by decide)⟩ ?_
  refine st_gather' d i accP ?_
  refine st_gather' d i accP ?_
  refine st_gather' d i accP ?_
  refine st_gather' d i accP ?_
  refine st_pure d i ?_
  exact hk _ _ _ _ _ _ _ _ _ _ _ _ (ldW (f := (bO0.access (.whole S8x1792)).read (Elt F) fO) (g := fO) (Memref.read_access_whole _ _ _) hix hvb hvc hb hu (by decide) hw _) (ldP (f := (bP.access (.whole S8x4x640)).read (Elt F) fP) (g := fP) (Memref.read_access_whole _ _ _) hvb hb hvp hp 0#32 (by decide) _) (ldP (f := (bP.access (.whole S8x4x640)).read (Elt F) fP) (g := fP) (Memref.read_access_whole _ _ _) hvb hb hvp hp 1#32 (by decide) _) (ldP (f := (bP.access (.whole S8x4x640)).read (Elt F) fP) (g := fP) (Memref.read_access_whole _ _ _) hvb hb hvp hp 2#32 (by decide) _) (ldP (f := (bP.access (.whole S8x4x640)).read (Elt F) fP) (g := fP) (Memref.read_access_whole _ _ _) hvb hb hvp hp 3#32 (by decide) _) rfl rfl rfl rfl rfl rfl rfl

end Cert.Proof
-- ==== Proof.GroupB.lean ====
/- The parts of one group of an odd half: what each gathers and hands on. -/
module

public import proofs.«01_k».proof.Proof.Reads

@[expose] public section

set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

local notation "𝕄" => MT nD τ sig (HIx 1) (Elt F) ℕ UU ℕ

def p14_arg19 (c0_i32_45 : BitVec 32) (c1_i32_46 : BitVec 32) (k0_t3 : Fin k0_t3_loop.trips) : BitVec 32 :=
  let arg19 : BitVec 32 := Scf.iv c0_i32_45 c1_i32_46 k0_t3
  arg19

def p14_v112 (c0_i32_45 : BitVec 32) (c1_i32_46 : BitVec 32) (k0_t3 : Fin k0_t3_loop.trips) : BitVec 32 :=
  let arg19 : BitVec 32 := Scf.iv c0_i32_45 c1_i32_46 k0_t3
  let v86 : BitVec 32 := Scalar.divsi arg19 2#32
  let v87 : BitVec 1 := Scalar.cmpi .sgt arg19 0#32
  let v88 : BitVec 32 := Scalar.extui v87
  let v89 : BitVec 1 := Scalar.cmpi .slt arg19 0#32
  let v90 : BitVec 32 := Scalar.extui v89
  let v91 : BitVec 32 := Scalar.subi v88 v90
  let v92 : BitVec 1 := Scalar.cmpi .sgt 2#32 0#32
  let v93 : BitVec 32 := Scalar.extui v92
  let v94 : BitVec 1 := Scalar.cmpi .slt 2#32 0#32
  let v95 : BitVec 32 := Scalar.extui v94
  let v96 : BitVec 32 := Scalar.subi v93 v95
  let v97 : BitVec 1 := Scalar.cmpi .ne v91 v96
  let v98 : BitVec 32 := Scalar.remsi arg19 2#32
  let v99 : BitVec 1 := Scalar.cmpi .ne v98 0#32
  let v100 : BitVec 1 := Scalar.andi v97 v99
  let v101 : BitVec 32 := Scalar.subi v86 1#32
  let v102 : BitVec 32 := Scalar.select v100 v101 v86
  let v103 : BitVec 1 := Scalar.cmpi .eq 8#32 0#32
  let v104 : BitVec 32 := Scalar.select v103 1#32 8#32
  let v105 : BitVec 32 := Scalar.remsi v102 v104
  let v106 : BitVec 1 := Scalar.cmpi .ne v105 0#32
  let v107 : BitVec 1 := Scalar.cmpi .slt v105 0#32
  let v108 : BitVec 1 := Scalar.cmpi .slt v104 0#32
  let v109 : BitVec 1 := Scalar.xori v107 v108
  let v110 : BitVec 1 := Scalar.andi v109 v106
  let v111 : BitVec 32 := Scalar.addi v105 v104
  let v112 : BitVec 32 := Scalar.select v110 v111 v105
  v112

def p14_v113 (c0_i32_45 : BitVec 32) (c1_i32_46 : BitVec 32) (k0_t3 : Fin k0_t3_loop.trips) : BitVec 32 :=
  let arg19 : BitVec 32 := Scf.iv c0_i32_45 c1_i32_46 k0_t3
  let v113 : BitVec 32 := Scalar.divsi arg19 16#32
  v113

def p14_v124 (c0_i32_45 : BitVec 32) (c1_i32_46 : BitVec 32) (k0_t3 : Fin k0_t3_loop.trips) : BitVec 1 :=
  let arg19 : BitVec 32 := Scf.iv c0_i32_45 c1_i32_46 k0_t3
  let v114 : BitVec 1 := Scalar.cmpi .sgt arg19 0#32
  let v115 : BitVec 32 := Scalar.extui v114
  let v116 : BitVec 1 := Scalar.cmpi .slt arg19 0#32
  let v117 : BitVec 32 := Scalar.extui v116
  let v118 : BitVec 32 := Scalar.subi v115 v117
  let v119 : BitVec 1 := Scalar.cmpi .sgt 16#32 0#32
  let v120 : BitVec 32 := Scalar.extui v119
  let v121 : BitVec 1 := Scalar.cmpi .slt 16#32 0#32
  let v122 : BitVec 32 := Scalar.extui v121
  let v123 : BitVec 32 := Scalar.subi v120 v122
  let v124 : BitVec 1 := Scalar.cmpi .ne v118 v123
  v124

def p14_v125 (c0_i32_45 : BitVec 32) (c1_i32_46 : BitVec 32) (k0_t3 : Fin k0_t3_loop.trips) : BitVec 32 :=
  let arg19 : BitVec 32 := Scf.iv c0_i32_45 c1_i32_46 k0_t3
  let v125 : BitVec 32 := Scalar.remsi arg19 16#32
  v125

theorem w_part14 {α : Type} {k : ((Σ' (arg19 : BitVec 32) (v112 : BitVec 32) (v113 : BitVec 32) (v124 : BitVec 1) (v125 : BitVec 32), BitVec 32)) → Prog (TpuEff nD τ sig (Elt F) Λ₀ (thr d i).2) α} {Q : α → sProp 𝕄} {H : sProp 𝕄}
    (c0_i32_45 : BitVec 32) (c1_i32_46 : BitVec 32) (k0_t3 : Fin k0_t3_loop.trips)

    (hk :
      H ⊢ wp frame (wpE (defs₀ (F := F)) 𝒱₀ (thr d i) none) Set.univ (k ⟨(p14_arg19 c0_i32_45 c1_i32_46 k0_t3), (p14_v112 c0_i32_45 c1_i32_46 k0_t3), (p14_v113 c0_i32_45 c1_i32_46 k0_t3), (p14_v124 c0_i32_45 c1_i32_46 k0_t3), (p14_v125 c0_i32_45 c1_i32_46 k0_t3), 0#32⟩) Q) :
    H ⊢ wp frame (wpE (defs₀ (F := F)) 𝒱₀ (thr d i) none) Set.univ (k0_part14 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 c0_i32_45 c1_i32_46 k0_t3 >>= k) Q := by
  rw [k0_part14_eq_skeleton]; unfold k0_part14_skel
  refine st_pure d i ?_
  exact hk

def p15_v142 (v71 : BitVec 32) : BitVec 32 :=
  let v141 : BitVec 32 := Scalar.muli v71 128#32
  let v142 : BitVec 32 := Scalar.addi v141 64#32
  v142

def p15_v144 (v71 : BitVec 32) : BitVec 32 :=
  let v143 : BitVec 32 := Scalar.muli v71 128#32
  let v144 : BitVec 32 := Scalar.addi v143 64#32
  v144

def p15_v148 (arg19 : BitVec 32) (v113 : BitVec 32) (v124 : BitVec 1) (v125 : BitVec 32) (c0_i32_67 : BitVec 32) : BitVec 32 :=
  let v126 : BitVec 1 := Scalar.cmpi .ne v125 c0_i32_67
  let v127 : BitVec 1 := Scalar.andi v124 v126
  let v128 : BitVec 32 := Scalar.subi v113 1#32
  let v129 : BitVec 32 := Scalar.select v127 v128 v113
  let v130 : BitVec 1 := Scalar.cmpi .eq 2#32 0#32
  let v131 : BitVec 32 := Scalar.select v130 1#32 2#32
  let v132 : BitVec 32 := Scalar.remsi arg19 v131
  let v133 : BitVec 1 := Scalar.cmpi .ne v132 0#32
  let v134 : BitVec 1 := Scalar.cmpi .slt v132 0#32
  let v135 : BitVec 1 := Scalar.cmpi .slt v131 0#32
  let v136 : BitVec 1 := Scalar.xori v134 v135
  let v137 : BitVec 1 := Scalar.andi v136 v133
  let v138 : BitVec 32 := Scalar.addi v132 v131
  let v139 : BitVec 32 := Scalar.select v137 v138 v132
  let v140 : BitVec 32 := Scalar.muli v139 16#32
  let v147 : BitVec 32 := Scalar.muli v129 32#32
  let v148 : BitVec 32 := Scalar.addi v147 v140
  v148

theorem w_part15 {α : Type} {k : ((Σ' (v142 : BitVec 32) (v144 : BitVec 32) (v145 : IVec S16 32) (v146 : IVec S16 32) (v148 : BitVec 32) (v153 : IVec S16 32) (v156 : Vec F S16 .f32) (v159 : Vec F S16 .f32) (v162 : Vec F S16 .f32), IVec S16 32)) → Prog (TpuEff nD τ sig (Elt F) Λ₀ (thr d i).2) α} {Q : α → sProp 𝕄} {H : sProp 𝕄}
    (k0_t1 : Fin (k0_t1_loop i).trips) (k0_h6 : k0_cond6 i k0_t1 = 1#1) (v71 : BitVec 32) (arg19 : BitVec 32) (v112 : BitVec 32) (v113 : BitVec 32) (v124 : BitVec 1) (v125 : BitVec 32) (c0_i32_67 : BitVec 32)
    {b : ℕ} (hb : b < 8) (hvb : ∀ x, ((broadcast S16 v112 : IVec S16 32) x).toNat = b) {u : ℕ} (hu : u + 16 ≤ 64) (hvc : ∀ x, ((k0_pay208 arg19 v113 v124 v125 c0_i32_67) x).toNat = 28 * (u + ln x))
    {fC : Vec F S8x1792 .f32} (accC : H ⊢ iprop((((bC1.access (.whole S8x1792)).loc (thr d i)) ↦{fullShare} fC) ∗ ((((bC1.access (.whole S8x1792)).loc (thr d i)) ↦{fullShare} fC) -∗ H)))
    (hk : ∀ (v156 : Vec F S16 .f32) (v159 : Vec F S16 .f32) (v162 : Vec F S16 .f32) (v145 : IVec S16 32) (v163 : IVec S16 32), v156 = (fun x => at2 fC b (28 * (u + ln x) + (0#32).toNat)) → v159 = (fun x => at2 fC b (28 * (u + ln x) + (1#32).toNat)) → v162 = (fun x => at2 fC b (28 * (u + ln x) + (2#32).toNat)) → v145 = (iota .scVector S16 32 [0] iota_S16_d0_w32_scVector) → v163 = (k0_pay212) →
      H ⊢ wp frame (wpE (defs₀ (F := F)) 𝒱₀ (thr d i) none) Set.univ (k ⟨(p15_v142 v71), (p15_v144 v71), v145, (broadcast S16 v112), (p15_v148 arg19 v113 v124 v125 c0_i32_67), (k0_pay208 arg19 v113 v124 v125 c0_i32_67), v156, v159, v162, v163⟩) Q) :
    H ⊢ wp frame (wpE (defs₀ (F := F)) 𝒱₀ (thr d i) none) Set.univ (k0_part15 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_t1 k0_h6 v71 arg19 v112 v113 v124 v125 c0_i32_67 >>= k) Q := by
  rw [k0_part15_eq_skeleton]; unfold k0_part15_skel
  refine st_assume' d i (fun _ => chkC hvb hvc hb hu 0#32 (by decide)) ?_
  refine st_gather' d i accC ?_
  refine st_assume' d i (fun _ => chkC hvb hvc hb hu 1#32 (by decide)) ?_
  refine st_gather' d i accC ?_
  refine st_assume' d i (fun _ => chkC hvb hvc hb hu 2#32 (by decide)) ?_
  refine st_gather' d i accC ?_
  refine st_pure d i ?_
  exact hk _ _ _ _ _ (ldC (f := (bC1.access (.whole S8x1792)).read (Elt F) fC) (g := fC) (Memref.read_access_whole _ _ _) hvb hvc hb hu 0#32 (by decide) _) (ldC (f := (bC1.access (.whole S8x1792)).read (Elt F) fC) (g := fC) (Memref.read_access_whole _ _ _) hvb hvc hb hu 1#32 (by decide) _) (ldC (f := (bC1.access (.whole S8x1792)).read (Elt F) fC) (g := fC) (Memref.read_access_whole _ _ _) hvb hvc hb hu 2#32 (by decide) _) rfl rfl

theorem w_part16 {α : Type} {k : ((Σ' (v165 : Vec F S16 .f32) (v168 : Vec F S16 .f32) (v171 : Vec F S16 .f32) (v174 : Vec F S16 .f32) (v177 : Vec F S16 .f32) (v180 : Vec F S16 .f32) (v183 : Vec F S16 .f32) (v186 : Vec F S16 .f32) (v189 : Vec F S16 .f32) (v192 : Vec F S16 .f32) (v195 : Vec F S16 .f32) (v198 : Vec F S16 .f32), IVec S16 32)) → Prog (TpuEff nD τ sig (Elt F) Λ₀ (thr d i).2) α} {Q : α → sProp 𝕄} {H : sProp 𝕄}
    (k0_t1 : Fin (k0_t1_loop i).trips) (k0_h6 : k0_cond6 i k0_t1 = 1#1) (v146 : IVec S16 32) (v153 : IVec S16 32) (v163 : IVec S16 32)
    {b : ℕ} (hb : b < 8) (hvb : ∀ x, ((v146 : IVec S16 32) x).toNat = b) {u : ℕ} (hu : u + 16 ≤ 64) (hvc : ∀ x, ((v153) x).toNat = 28 * (u + ln x)) (h_v163 : v163 = broadcast S16 3#32)
    {fC : Vec F S8x1792 .f32} (accC : H ⊢ iprop((((bC1.access (.whole S8x1792)).loc (thr d i)) ↦{fullShare} fC) ∗ ((((bC1.access (.whole S8x1792)).loc (thr d i)) ↦{fullShare} fC) -∗ H)))
    (hk : ∀ (v165 : Vec F S16 .f32) (v168 : Vec F S16 .f32) (v171 : Vec F S16 .f32) (v174 : Vec F S16 .f32) (v177 : Vec F S16 .f32) (v180 : Vec F S16 .f32) (v183 : Vec F S16 .f32) (v186 : Vec F S16 .f32) (v189 : Vec F S16 .f32) (v192 : Vec F S16 .f32) (v195 : Vec F S16 .f32) (v198 : Vec F S16 .f32) (v199 : IVec S16 32), v165 = (fun x => at2 fC b (28 * (u + ln x) + (3#32).toNat)) → v168 = (fun x => at2 fC b (28 * (u + ln x) + (4#32).toNat)) → v171 = (fun x => at2 fC b (28 * (u + ln x) + (5#32).toNat)) → v174 = (fun x => at2 fC b (28 * (u + ln x) + (6#32).toNat)) → v177 = (fun x => at2 fC b (28 * (u + ln x) + (7#32).toNat)) → v180 = (fun x => at2 fC b (28 * (u + ln x) + (8#32).toNat)) → v183 = (fun x => at2 fC b (28 * (u + ln x) + (9#32).toNat)) → v186 = (fun x => at2 fC b (28 * (u + ln x) + (10#32).toNat)) → v189 = (fun x => at2 fC b (28 * (u + ln x) + (11#32).toNat)) → v192 = (fun x => at2 fC b (28 * (u + ln x) + (12#32).toNat)) → v195 = (fun x => at2 fC b (28 * (u + ln x) + (13#32).toNat)) → v198 = (fun x => at2 fC b (28 * (u + ln x) + (14#32).toNat)) → v199 = (k0_pay224) →
      H ⊢ wp frame (wpE (defs₀ (F := F)) 𝒱₀ (thr d i) none) Set.univ (k ⟨v165, v168, v171, v174, v177, v180, v183, v186, v189, v192, v195, v198, v199⟩) Q) :
    H ⊢ wp frame (wpE (defs₀ (F := F)) 𝒱₀ (thr d i) none) Set.univ (k0_part16 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_t1 k0_h6 v146 v153 v163 >>= k) Q := by
  subst h_v163
  rw [k0_part16_eq_skeleton]; unfold k0_part16_skel
  refine st_assume' d i (fun _ => chkC hvb hvc hb hu 3#32 (by decide)) ?_
  refine st_gather' d i accC ?_
  refine st_assume' d i (fun _ => chkC hvb hvc hb hu 4#32 (by decide)) ?_
  refine st_gather' d i accC ?_
  refine st_assume' d i (fun _ => chkC hvb hvc hb hu 5#32 (by decide)) ?_
  refine st_gather' d i accC ?_
  refine st_assume' d i (fun _ => chkC hvb hvc hb hu 6#32 (by decide)) ?_
  refine st_gather' d i accC ?_
  refine st_assume' d i (fun _ => chkC hvb hvc hb hu 7#32 (by decide)) ?_
  refine st_gather' d i accC ?_
  refine st_assume' d i (fun _ => chkC hvb hvc hb hu 8#32 (by decide)) ?_
  refine st_gather' d i accC ?_
  refine st_assume' d i (fun _ => chkC hvb hvc hb hu 9#32 (by decide)) ?_
  refine st_gather' d i accC ?_
  refine st_assume' d i (fun _ => chkC hvb hvc hb hu 10#32 (by decide)) ?_
  refine st_gather' d i accC ?_
  refine st_assume' d i (fun _ => chkC hvb hvc hb hu 11#32 (by decide)) ?_
  refine st_gather' d i accC ?_
  refine st_assume' d i (fun _ => chkC hvb hvc hb hu 12#32 (by decide)) ?_
  refine st_gather' d i accC ?_
  refine st_assume' d i (fun _ => chkC hvb hvc hb hu 13#32 (by decide)) ?_
  refine st_gather' d i accC ?_
  refine st_assume' d i (fun _ => chkC hvb hvc hb hu 14#32 (by decide)) ?_
  refine st_gather' d i accC ?_
  refine st_pure d i ?_
  exact hk _ _ _ _ _ _ _ _ _ _ _ _ _ (ldC (f := (bC1.access (.whole S8x1792)).read (Elt F) fC) (g := fC) (Memref.read_access_whole _ _ _) hvb hvc hb hu 3#32 (by decide) _) (ldC (f := (bC1.access (.whole S8x1792)).read (Elt F) fC) (g := fC) (Memref.read_access_whole _ _ _) hvb hvc hb hu 4#32 (by decide) _) (ldC (f := (bC1.access (.whole S8x1792)).read (Elt F) fC) (g := fC) (Memref.read_access_whole _ _ _) hvb hvc hb hu 5#32 (by decide) _) (ldC (f := (bC1.access (.whole S8x1792)).read (Elt F) fC) (g := fC) (Memref.read_access_whole _ _ _) hvb hvc hb hu 6#32 (by decide) _) (ldC (f := (bC1.access (.whole S8x1792)).read (Elt F) fC) (g := fC) (Memref.read_access_whole _ _ _) hvb hvc hb hu 7#32 (by decide) _) (ldC (f := (bC1.access (.whole S8x1792)).read (Elt F) fC) (g := fC) (Memref.read_access_whole _ _ _) hvb hvc hb hu 8#32 (by decide) _) (ldC (f := (bC1.access (.whole S8x1792)).read (Elt F) fC) (g := fC) (Memref.read_access_whole _ _ _) hvb hvc hb hu 9#32 (by decide) _) (ldC (f := (bC1.access (.whole S8x1792)).read (Elt F) fC) (g := fC) (Memref.read_access_whole _ _ _) hvb hvc hb hu 10#32 (by decide) _) (ldC (f := (bC1.access (.whole S8x1792)).read (Elt F) fC) (g := fC) (Memref.read_access_whole _ _ _) hvb hvc hb hu 11#32 (by decide) _) (ldC (f := (bC1.access (.whole S8x1792)).read (Elt F) fC) (g := fC) (Memref.read_access_whole _ _ _) hvb hvc hb hu 12#32 (by decide) _) (ldC (f := (bC1.access (.whole S8x1792)).read (Elt F) fC) (g := fC) (Memref.read_access_whole _ _ _) hvb hvc hb hu 13#32 (by decide) _) (ldC (f := (bC1.access (.whole S8x1792)).read (Elt F) fC) (g := fC) (Memref.read_access_whole _ _ _) hvb hvc hb hu 14#32 (by decide) _) rfl

theorem w_part17 {α : Type} {k : ((Σ' (v201 : Vec F S16 .f32) (v204 : Vec F S16 .f32) (v207 : Vec F S16 .f32) (v210 : Vec F S16 .f32) (v213 : Vec F S16 .f32) (v216 : Vec F S16 .f32) (v219 : Vec F S16 .f32) (v222 : Vec F S16 .f32) (v225 : Vec F S16 .f32) (v228 : Vec F S16 .f32) (v231 : Vec F S16 .f32) (v234 : Vec F S16 .f32), IVec S16 32)) → Prog (TpuEff nD τ sig (Elt F) Λ₀ (thr d i).2) α} {Q : α → sProp 𝕄} {H : sProp 𝕄}
    (k0_t1 : Fin (k0_t1_loop i).trips) (k0_h6 : k0_cond6 i k0_t1 = 1#1) (v146 : IVec S16 32) (v153 : IVec S16 32) (v199 : IVec S16 32)
    {b : ℕ} (hb : b < 8) (hvb : ∀ x, ((v146 : IVec S16 32) x).toNat = b) {u : ℕ} (hu : u + 16 ≤ 64) (hvc : ∀ x, ((v153) x).toNat = 28 * (u + ln x)) (h_v199 : v199 = broadcast S16 15#32)
    {fC : Vec F S8x1792 .f32} (accC : H ⊢ iprop((((bC1.access (.whole S8x1792)).loc (thr d i)) ↦{fullShare} fC) ∗ ((((bC1.access (.whole S8x1792)).loc (thr d i)) ↦{fullShare} fC) -∗ H)))
    (hk : ∀ (v201 : Vec F S16 .f32) (v204 : Vec F S16 .f32) (v207 : Vec F S16 .f32) (v210 : Vec F S16 .f32) (v213 : Vec F S16 .f32) (v216 : Vec F S16 .f32) (v219 : Vec F S16 .f32) (v222 : Vec F S16 .f32) (v225 : Vec F S16 .f32) (v228 : Vec F S16 .f32) (v231 : Vec F S16 .f32) (v234 : Vec F S16 .f32) (v235 : IVec S16 32), v201 = (fun x => at2 fC b (28 * (u + ln x) + (15#32).toNat)) → v204 = (fun x => at2 fC b (28 * (u + ln x) + (16#32).toNat)) → v207 = (fun x => at2 fC b (28 * (u + ln x) + (17#32).toNat)) → v210 = (fun x => at2 fC b (28 * (u + ln x) + (18#32).toNat)) → v213 = (fun x => at2 fC b (28 * (u + ln x) + (19#32).toNat)) → v216 = (fun x => at2 fC b (28 * (u + ln x) + (20#32).toNat)) → v219 = (fun x => at2 fC b (28 * (u + ln x) + (21#32).toNat)) → v222 = (fun x => at2 fC b (28 * (u + ln x) + (22#32).toNat)) → v225 = (fun x => at2 fC b (28 * (u + ln x) + (23#32).toNat)) → v228 = (fun x => at2 fC b (28 * (u + ln x) + (24#32).toNat)) → v231 = (fun x => at2 fC b (28 * (u + ln x) + (25#32).toNat)) → v234 = (fun x => at2 fC b (28 * (u + ln x) + (26#32).toNat)) → v235 = (k0_pay236) →
      H ⊢ wp frame (wpE (defs₀ (F := F)) 𝒱₀ (thr d i) none) Set.univ (k ⟨v201, v204, v207, v210, v213, v216, v219, v222, v225, v228, v231, v234, v235⟩) Q) :
    H ⊢ wp frame (wpE (defs₀ (F := F)) 𝒱₀ (thr d i) none) Set.univ (k0_part17 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_t1 k0_h6 v146 v153 v199 >>= k) Q := by
  subst h_v199
  rw [k0_part17_eq_skeleton]; unfold k0_part17_skel
  refine st_assume' d i (fun _ => chkC hvb hvc hb hu 15#32 (by decide)) ?_
  refine st_gather' d i accC ?_
  refine st_assume' d i (fun _ => chkC hvb hvc hb hu 16#32 (by decide)) ?_
  refine st_gather' d i accC ?_
  refine st_assume' d i (fun _ => chkC hvb hvc hb hu 17#32 (by decide)) ?_
  refine st_gather' d i accC ?_
  refine st_assume' d i (fun _ => chkC hvb hvc hb hu 18#32 (by decide)) ?_
  refine st_gather' d i accC ?_
  refine st_assume' d i (fun _ => chkC hvb hvc hb hu 19#32 (by decide)) ?_
  refine st_gather' d i accC ?_
  refine st_assume' d i (fun _ => chkC hvb hvc hb hu 20#32 (by decide)) ?_
  refine st_gather' d i accC ?_
  refine st_assume' d i (fun _ => chkC hvb hvc hb hu 21#32 (by decide)) ?_
  refine st_gather' d i accC ?_
  refine st_assume' d i (fun _ => chkC hvb hvc hb hu 22#32 (by decide)) ?_
  refine st_gather' d i accC ?_
  refine st_assume' d i (fun _ => chkC hvb hvc hb hu 23#32 (by decide)) ?_
  refine st_gather' d i accC ?_
  refine st_assume' d i (fun _ => chkC hvb hvc hb hu 24#32 (by decide)) ?_
  refine st_gather' d i accC ?_
  refine st_assume' d i (fun _ => chkC hvb hvc hb hu 25#32 (by decide)) ?_
  refine st_gather' d i accC ?_
  refine st_assume' d i (fun _ => chkC hvb hvc hb hu 26#32 (by decide)) ?_
  refine st_gather' d i accC ?_
  refine st_pure d i ?_
  exact hk _ _ _ _ _ _ _ _ _ _ _ _ _ (ldC (f := (bC1.access (.whole S8x1792)).read (Elt F) fC) (g := fC) (Memref.read_access_whole _ _ _) hvb hvc hb hu 15#32 (by decide) _) (ldC (f := (bC1.access (.whole S8x1792)).read (Elt F) fC) (g := fC) (Memref.read_access_whole _ _ _) hvb hvc hb hu 16#32 (by decide) _) (ldC (f := (bC1.access (.whole S8x1792)).read (Elt F) fC) (g := fC) (Memref.read_access_whole _ _ _) hvb hvc hb hu 17#32 (by decide) _) (ldC (f := (bC1.access (.whole S8x1792)).read (Elt F) fC) (g := fC) (Memref.read_access_whole _ _ _) hvb hvc hb hu 18#32 (by decide) _) (ldC (f := (bC1.access (.whole S8x1792)).read (Elt F) fC) (g := fC) (Memref.read_access_whole _ _ _) hvb hvc hb hu 19#32 (by decide) _) (ldC (f := (bC1.access (.whole S8x1792)).read (Elt F) fC) (g := fC) (Memref.read_access_whole _ _ _) hvb hvc hb hu 20#32 (by decide) _) (ldC (f := (bC1.access (.whole S8x1792)).read (Elt F) fC) (g := fC) (Memref.read_access_whole _ _ _) hvb hvc hb hu 21#32 (by decide) _) (ldC (f := (bC1.access (.whole S8x1792)).read (Elt F) fC) (g := fC) (Memref.read_access_whole _ _ _) hvb hvc hb hu 22#32 (by decide) _) (ldC (f := (bC1.access (.whole S8x1792)).read (Elt F) fC) (g := fC) (Memref.read_access_whole _ _ _) hvb hvc hb hu 23#32 (by decide) _) (ldC (f := (bC1.access (.whole S8x1792)).read (Elt F) fC) (g := fC) (Memref.read_access_whole _ _ _) hvb hvc hb hu 24#32 (by decide) _) (ldC (f := (bC1.access (.whole S8x1792)).read (Elt F) fC) (g := fC) (Memref.read_access_whole _ _ _) hvb hvc hb hu 25#32 (by decide) _) (ldC (f := (bC1.access (.whole S8x1792)).read (Elt F) fC) (g := fC) (Memref.read_access_whole _ _ _) hvb hvc hb hu 26#32 (by decide) _) rfl

theorem w_part18 {α : Type} {k : ((Σ' (v237 : Vec F S16 .f32) (v242 : FVec F S16 .f32) (v243 : FVec F S16 .f32) (v244 : FVec F S16 .f32) (v276 : FVec F S16 .f32) (v277 : FVec F S16 .f32) (v279 : FVec F S16 .f32) (v280 : FVec F S16 .f32) (v281 : IVec S16 1) (v282 : IVec S16 1) (v284 : FVec F S16 .f32), F .f32)) → Prog (TpuEff nD τ sig (Elt F) Λ₀ (thr d i).2) α} {Q : α → sProp 𝕄} {H : sProp 𝕄}
    (k0_t1 : Fin (k0_t1_loop i).trips) (k0_h6 : k0_cond6 i k0_t1 = 1#1) (v146 : IVec S16 32) (v153 : IVec S16 32) (v156 : Vec F S16 .f32) (v159 : Vec F S16 .f32) (v162 : Vec F S16 .f32) (v165 : Vec F S16 .f32) (v168 : Vec F S16 .f32) (v171 : Vec F S16 .f32) (v174 : Vec F S16 .f32) (v235 : IVec S16 32)
    {b : ℕ} (hb : b < 8) (hvb : ∀ x, ((v146 : IVec S16 32) x).toNat = b) {u : ℕ} (hu : u + 16 ≤ 64) (hvc : ∀ x, ((v153) x).toNat = 28 * (u + ln x)) (h_v235 : v235 = broadcast S16 27#32)
    {fC : Vec F S8x1792 .f32} (accC : H ⊢ iprop((((bC1.access (.whole S8x1792)).loc (thr d i)) ↦{fullShare} fC) ∗ ((((bC1.access (.whole S8x1792)).loc (thr d i)) ↦{fullShare} fC) -∗ H)))
    (hk : ∀ (v237 : Vec F S16 .f32) (v242 : FVec F S16 .f32) (v243 : FVec F S16 .f32) (v244 : FVec F S16 .f32) (v276 : FVec F S16 .f32) (v277 : FVec F S16 .f32) (v279 : FVec F S16 .f32) (v280 : FVec F S16 .f32) (v281 : IVec S16 1) (v282 : IVec S16 1) (v284 : FVec F S16 .f32) (cst_97 : F .f32), v237 = (fun x => at2 fC b (28 * (u + ln x) + (27#32).toNat)) → v242 = (k0_pay241 v168) → v243 = (k0_pay242 v171) → v244 = (k0_pay243 v174) → v276 = (k0_pay259 v156 v159 v162 v165) → v277 = (k0_pay260 v156 v159 v162 v165) → v279 = (k0_pay261 v156 v159 v162 v165) → v280 = (k0_pay262 v156 v159 v162 v165) → v281 = (k0_pay263 v156 v159 v162 v165 v168) → v282 = (k0_pay264 v156 v159 v162 v165 v168) → v284 = (k0_pay265 v156 v159 v162 v165 v168) → cst_97 = (Scalar.ofBits .f32 0x40800000#32) →
      H ⊢ wp frame (wpE (defs₀ (F := F)) 𝒱₀ (thr d i) none) Set.univ (k ⟨v237, v242, v243, v244, v276, v277, v279, v280, v281, v282, v284, cst_97⟩) Q) :
    H ⊢ wp frame (wpE (defs₀ (F := F)) 𝒱₀ (thr d i) none) Set.univ (k0_part18 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_t1 k0_h6 v146 v153 v156 v159 v162 v165 v168 v171 v174 v235 >>= k) Q := by
  subst h_v235
  rw [k0_part18_eq_skeleton]; unfold k0_part18_skel
  refine st_assume' d i (fun _ => chkC hvb hvc hb hu 27#32 (by decide)) ?_
  refine st_gather' d i accC ?_
  refine st_pure d i ?_
  exact hk _ _ _ _ _ _ _ _ _ _ _ _ (ldC (f := (bC1.access (.whole S8x1792)).read (Elt F) fC) (g := fC) (Memref.read_access_whole _ _ _) hvb hvc hb hu 27#32 (by decide) _) rfl rfl rfl rfl rfl rfl rfl rfl rfl rfl rfl

theorem w_part19 {α : Type} {k : ((Σ' (v312 : FVec F S16 .f32) (v318 : Vec F S16 .f32) (v328 : FVec F S16 .f32) (v329 : FVec F S16 .f32) (v330 : FVec F S16 .f32) (v331 : FVec F S16 .f32) (v332 : FVec F S16 .f32) (v333 : FVec F S16 .f32) (v334 : FVec F S16 .f32), FVec F S16 .f32)) → Prog (TpuEff nD τ sig (Elt F) Λ₀ (thr d i).2) α} {Q : α → sProp 𝕄} {H : sProp 𝕄}
    (k0_t1 : Fin (k0_t1_loop i).trips) (k0_h6 : k0_cond6 i k0_t1 = 1#1) (v146 : IVec S16 32) (v153 : IVec S16 32) (v177 : Vec F S16 .f32) (v180 : Vec F S16 .f32) (v183 : Vec F S16 .f32) (v186 : Vec F S16 .f32) (v189 : Vec F S16 .f32) (v192 : Vec F S16 .f32) (v195 : Vec F S16 .f32) (v242 : FVec F S16 .f32) (v243 : FVec F S16 .f32) (v244 : FVec F S16 .f32) (v276 : FVec F S16 .f32) (v277 : FVec F S16 .f32) (v279 : FVec F S16 .f32) (v280 : FVec F S16 .f32) (v281 : IVec S16 1) (v282 : IVec S16 1) (v284 : FVec F S16 .f32) (cst_97 : F .f32)
    {b : ℕ} (hb : b < 8) (hvb : ∀ x, ((v146 : IVec S16 32) x).toNat = b) {u : ℕ} (hu : u + 16 ≤ 64) (hvc : ∀ x, ((v153) x).toNat = 28 * (u + ln x)) {w : IVec S16 32} (hix : k0_pay273 v153 v242 v243 v244 v277 v279 v281 = addi (addi (v153) (broadcast S16 0#32)) w) (hw : ∀ x, (w x).toNat < 7)
    {fO : Vec F S8x1792 .f32} (accO : H ⊢ iprop((((bO1.access (.whole S8x1792)).loc (thr d i)) ↦{fullShare} fO) ∗ ((((bO1.access (.whole S8x1792)).loc (thr d i)) ↦{fullShare} fO) -∗ H)))
    (hk : ∀ (v318 : Vec F S16 .f32) (v312 : FVec F S16 .f32) (v328 : FVec F S16 .f32) (v329 : FVec F S16 .f32) (v330 : FVec F S16 .f32) (v331 : FVec F S16 .f32) (v332 : FVec F S16 .f32) (v333 : FVec F S16 .f32) (v334 : FVec F S16 .f32) (v335 : FVec F S16 .f32), v318 = (fun x => at2 fO b (28 * (u + ln x) + ((0#32).toNat + (w x).toNat))) → v312 = (k0_pay272 v242 v243 v244 v277 v279 v281) → v328 = (k0_pay274 v242 v243 v244 v276 v277 v279 v280 v281 v282 v284 cst_97) → v329 = (k0_pay275 v177) → v330 = (k0_pay276 v180) → v331 = (k0_pay277 v183) → v332 = (k0_pay278 v186) → v333 = (k0_pay279 v189) → v334 = (k0_pay280 v192) → v335 = (k0_pay281 v195) →
      H ⊢ wp frame (wpE (defs₀ (F := F)) 𝒱₀ (thr d i) none) Set.univ (k ⟨v312, v318, v328, v329, v330, v331, v332, v333, v334, v335⟩) Q) :
    H ⊢ wp frame (wpE (defs₀ (F := F)) 𝒱₀ (thr d i) none) Set.univ (k0_part19 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_t1 k0_h6 v146 v153 v177 v180 v183 v186 v189 v192 v195 v242 v243 v244 v276 v277 v279 v280 v281 v282 v284 cst_97 >>= k) Q := by
  rw [k0_part19_eq_skeleton]; unfold k0_part19_skel
  refine st_assume' d i (fun _ => chkW hix hvb hvc hb hu (by decide) hw) ?_
  refine st_gather' d i accO ?_
  refine st_pure d i ?_
  exact hk _ _ _ _ _ _ _ _ _ _ (ldW (f := (bO1.access (.whole S8x1792)).read (Elt F) fO) (g := fO) (Memref.read_access_whole _ _ _) hix hvb hvc hb hu (by decide) hw _) rfl rfl rfl rfl rfl rfl rfl rfl rfl

theorem w_part20 {α : Type} {k : ((Σ' (v375 : FVec F S16 .f32) (v378 : FVec F S16 .f32) (v379 : FVec F S16 .f32) (v381 : FVec F S16 .f32) (v382 : FVec F S16 .f32) (v383 : IVec S16 1), IVec S16 1)) → Prog (TpuEff nD τ sig (Elt F) Λ₀ (thr d i).2) α} {Q : α → sProp 𝕄} {H : sProp 𝕄}
    (v329 : FVec F S16 .f32) (v330 : FVec F S16 .f32) (v331 : FVec F S16 .f32) (v332 : FVec F S16 .f32) (v333 : FVec F S16 .f32) (v334 : FVec F S16 .f32)

    (hk : ∀ (v375 : FVec F S16 .f32) (v378 : FVec F S16 .f32) (v379 : FVec F S16 .f32) (v381 : FVec F S16 .f32) (v382 : FVec F S16 .f32) (v383 : IVec S16 1) (v384 : IVec S16 1), v375 = (k0_pay301 v329 v330 v331 v332 v333) → v378 = (k0_pay302 v329 v330 v331 v332 v333) → v379 = (k0_pay303 v329 v330 v331 v332 v333) → v381 = (k0_pay304 v329 v330 v331 v332 v333) → v382 = (k0_pay305 v329 v330 v331 v332 v333) → v383 = (k0_pay306 v329 v330 v331 v332 v333 v334) → v384 = (k0_pay307 v329 v330 v331 v332 v333 v334) →
      H ⊢ wp frame (wpE (defs₀ (F := F)) 𝒱₀ (thr d i) none) Set.univ (k ⟨v375, v378, v379, v381, v382, v383, v384⟩) Q) :
    H ⊢ wp frame (wpE (defs₀ (F := F)) 𝒱₀ (thr d i) none) Set.univ (k0_part20 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 v329 v330 v331 v332 v333 v334 >>= k) Q := by
  rw [k0_part20_eq_skeleton]; unfold k0_part20_skel
  refine st_pure d i ?_
  exact hk _ _ _ _ _ _ _ rfl rfl rfl rfl rfl rfl rfl

theorem w_part21 {α : Type} {k : ((Σ' (v403 : FVec F S16 .f32) (v409 : Vec F S16 .f32) (v420 : FVec F S16 .f32) (v421 : FVec F S16 .f32) (v422 : FVec F S16 .f32) (v423 : FVec F S16 .f32) (v424 : FVec F S16 .f32) (v425 : FVec F S16 .f32) (v426 : FVec F S16 .f32) (v427 : FVec F S16 .f32) (v428 : FVec F S16 .f32) (v430 : FVec F S16 .f32) (v431 : IVec S16 1) (v432 : IVec S16 1), FVec F S16 .f32)) → Prog (TpuEff nD τ sig (Elt F) Λ₀ (thr d i).2) α} {Q : α → sProp 𝕄} {H : sProp 𝕄}
    (k0_t1 : Fin (k0_t1_loop i).trips) (k0_h6 : k0_cond6 i k0_t1 = 1#1) (v146 : IVec S16 32) (v153 : IVec S16 32) (v198 : Vec F S16 .f32) (v201 : Vec F S16 .f32) (v204 : Vec F S16 .f32) (v207 : Vec F S16 .f32) (v210 : Vec F S16 .f32) (v213 : Vec F S16 .f32) (v216 : Vec F S16 .f32) (v328 : FVec F S16 .f32) (v334 : FVec F S16 .f32) (v335 : FVec F S16 .f32) (v375 : FVec F S16 .f32) (v378 : FVec F S16 .f32) (v379 : FVec F S16 .f32) (v381 : FVec F S16 .f32) (v382 : FVec F S16 .f32) (v383 : IVec S16 1) (v384 : IVec S16 1)
    {b : ℕ} (hb : b < 8) (hvb : ∀ x, ((v146 : IVec S16 32) x).toNat = b) {u : ℕ} (hu : u + 16 ≤ 64) (hvc : ∀ x, ((v153) x).toNat = 28 * (u + ln x)) {w : IVec S16 32} (hix : k0_pay312 v153 v334 v335 v379 v381 v383 = addi (addi (v153) (broadcast S16 7#32)) w) (hw : ∀ x, (w x).toNat < 7)
    {fO : Vec F S8x1792 .f32} (accO : H ⊢ iprop((((bO1.access (.whole S8x1792)).loc (thr d i)) ↦{fullShare} fO) ∗ ((((bO1.access (.whole S8x1792)).loc (thr d i)) ↦{fullShare} fO) -∗ H)))
    (hk : ∀ (v409 : Vec F S16 .f32) (v403 : FVec F S16 .f32) (v420 : FVec F S16 .f32) (v421 : FVec F S16 .f32) (v422 : FVec F S16 .f32) (v423 : FVec F S16 .f32) (v424 : FVec F S16 .f32) (v425 : FVec F S16 .f32) (v426 : FVec F S16 .f32) (v427 : FVec F S16 .f32) (v428 : FVec F S16 .f32) (v430 : FVec F S16 .f32) (v431 : IVec S16 1) (v432 : IVec S16 1) (v433 : FVec F S16 .f32), v409 = (fun x => at2 fO b (28 * (u + ln x) + ((7#32).toNat + (w x).toNat))) → v403 = (k0_pay311 v334 v335 v379 v381 v383) → v420 = (k0_pay313 v328 v334 v335 v375 v378 v379 v381 v382 v383 v384) → v421 = (k0_pay314 v198) → v422 = (k0_pay315 v201) → v423 = (k0_pay316 v204) → v424 = (k0_pay317 v207) → v425 = (k0_pay318 v210) → v426 = (k0_pay319 v213) → v427 = (k0_pay320 v216) → v428 = (k0_pay321 (F := F)) → v430 = (k0_pay323 (F := F)) → v431 = (k0_pay324 v198 v201) → v432 = (k0_pay325 v201) → v433 = (k0_pay326 v201) →
      H ⊢ wp frame (wpE (defs₀ (F := F)) 𝒱₀ (thr d i) none) Set.univ (k ⟨v403, v409, v420, v421, v422, v423, v424, v425, v426, v427, v428, v430, v431, v432, v433⟩) Q) :
    H ⊢ wp frame (wpE (defs₀ (F := F)) 𝒱₀ (thr d i) none) Set.univ (k0_part21 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_t1 k0_h6 v146 v153 v198 v201 v204 v207 v210 v213 v216 v328 v334 v335 v375 v378 v379 v381 v382 v383 v384 >>= k) Q := by
  rw [k0_part21_eq_skeleton]; unfold k0_part21_skel
  refine st_assume' d i (fun _ => chkW hix hvb hvc hb hu (by decide) hw) ?_
  refine st_gather' d i accO ?_
  refine st_pure d i ?_
  exact hk _ _ _ _ _ _ _ _ _ _ _ _ _ _ _ (ldW (f := (bO1.access (.whole S8x1792)).read (Elt F) fO) (g := fO) (Memref.read_access_whole _ _ _) hix hvb hvc hb hu (by decide) hw _) rfl rfl rfl rfl rfl rfl rfl rfl rfl rfl rfl rfl rfl rfl

theorem w_part22 {α : Type} {k : ((Σ' (v473 : FVec F S16 .f32) (v474 : FVec F S16 .f32) (v475 : IVec S16 1) (v478 : FVec F S16 .f32) (v481 : FVec F S16 .f32) (v482 : FVec F S16 .f32), FVec F S16 .f32)) → Prog (TpuEff nD τ sig (Elt F) Λ₀ (thr d i).2) α} {Q : α → sProp 𝕄} {H : sProp 𝕄}
    (v421 : FVec F S16 .f32) (v422 : FVec F S16 .f32) (v423 : FVec F S16 .f32) (v424 : FVec F S16 .f32) (v425 : FVec F S16 .f32) (v426 : FVec F S16 .f32) (v428 : FVec F S16 .f32) (v430 : FVec F S16 .f32) (v431 : IVec S16 1) (v432 : IVec S16 1) (v433 : FVec F S16 .f32)

    (hk : ∀ (v473 : FVec F S16 .f32) (v474 : FVec F S16 .f32) (v475 : IVec S16 1) (v478 : FVec F S16 .f32) (v481 : FVec F S16 .f32) (v482 : FVec F S16 .f32) (v483 : FVec F S16 .f32), v473 = (k0_pay344 v421 v422 v423 v424 v425 v428 v431) → v474 = (k0_pay345 v421 v422 v423 v424 v425) → v475 = (k0_pay346 v421 v422 v423 v424 v425 v426) → v478 = (k0_pay348 v421 v422 v423 v424 v425 v426 v431 v433) → v481 = (k0_pay349 v421 v422 v423 v424 v425 v426 v428 v430 v431 v432 v433) → v482 = (k0_pay350 v421 v422 v423 v424 v425 v426) → v483 = (k0_pay351 (F := F)) →
      H ⊢ wp frame (wpE (defs₀ (F := F)) 𝒱₀ (thr d i) none) Set.univ (k ⟨v473, v474, v475, v478, v481, v482, v483⟩) Q) :
    H ⊢ wp frame (wpE (defs₀ (F := F)) 𝒱₀ (thr d i) none) Set.univ (k0_part22 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 v421 v422 v423 v424 v425 v426 v428 v430 v431 v432 v433 >>= k) Q := by
  rw [k0_part22_eq_skeleton]; unfold k0_part22_skel
  refine st_pure d i ?_
  exact hk _ _ _ _ _ _ _ rfl rfl rfl rfl rfl rfl rfl

theorem w_part23 {α : Type} {k : ((Σ' (v495 : FVec F S16 .f32) (v501 : Vec F S16 .f32) (v512 : FVec F S16 .f32) (v513 : FVec F S16 .f32) (v514 : FVec F S16 .f32) (v515 : FVec F S16 .f32) (v516 : FVec F S16 .f32) (v517 : FVec F S16 .f32) (v518 : FVec F S16 .f32) (v519 : FVec F S16 .f32) (v526 : FVec F S16 .f32) (v529 : FVec F S16 .f32) (v530 : FVec F S16 .f32), FVec F S16 .f32)) → Prog (TpuEff nD τ sig (Elt F) Λ₀ (thr d i).2) α} {Q : α → sProp 𝕄} {H : sProp 𝕄}
    (k0_t1 : Fin (k0_t1_loop i).trips) (k0_h6 : k0_cond6 i k0_t1 = 1#1) (v146 : IVec S16 32) (v153 : IVec S16 32) (v219 : Vec F S16 .f32) (v222 : Vec F S16 .f32) (v225 : Vec F S16 .f32) (v228 : Vec F S16 .f32) (v231 : Vec F S16 .f32) (v234 : Vec F S16 .f32) (v237 : Vec F S16 .f32) (v420 : FVec F S16 .f32) (v426 : FVec F S16 .f32) (v427 : FVec F S16 .f32) (v473 : FVec F S16 .f32) (v474 : FVec F S16 .f32) (v475 : IVec S16 1) (v478 : FVec F S16 .f32) (v481 : FVec F S16 .f32) (v482 : FVec F S16 .f32) (v483 : FVec F S16 .f32)
    {b : ℕ} (hb : b < 8) (hvb : ∀ x, ((v146 : IVec S16 32) x).toNat = b) {u : ℕ} (hu : u + 16 ≤ 64) (hvc : ∀ x, ((v153) x).toNat = 28 * (u + ln x)) {w : IVec S16 32} (hix : k0_pay355 v153 v427 v473 v475 v482 v483 = addi (addi (v153) (broadcast S16 14#32)) w) (hw : ∀ x, (w x).toNat < 7)
    {fO : Vec F S8x1792 .f32} (accO : H ⊢ iprop((((bO1.access (.whole S8x1792)).loc (thr d i)) ↦{fullShare} fO) ∗ ((((bO1.access (.whole S8x1792)).loc (thr d i)) ↦{fullShare} fO) -∗ H)))
    (hk : ∀ (v501 : Vec F S16 .f32) (v495 : FVec F S16 .f32) (v512 : FVec F S16 .f32) (v513 : FVec F S16 .f32) (v514 : FVec F S16 .f32) (v515 : FVec F S16 .f32) (v516 : FVec F S16 .f32) (v517 : FVec F S16 .f32) (v518 : FVec F S16 .f32) (v519 : FVec F S16 .f32) (v526 : FVec F S16 .f32) (v529 : FVec F S16 .f32) (v530 : FVec F S16 .f32) (v532 : FVec F S16 .f32), v501 = (fun x => at2 fO b (28 * (u + ln x) + ((14#32).toNat + (w x).toNat))) → v495 = (k0_pay354 v427 v473 v475 v482 v483) → v512 = (k0_pay356 v420 v426 v427 v473 v474 v475 v478 v481 v482 v483) → v513 = (k0_pay357 v219) → v514 = (k0_pay358 v222) → v515 = (k0_pay359 v225) → v516 = (k0_pay360 v228) → v517 = (k0_pay361 v231) → v518 = (k0_pay362 v234) → v519 = (k0_pay363 v237) → v526 = (k0_pay368 v219 v222) → v529 = (k0_pay369 v219 v222) → v530 = (k0_pay370 v219 v222) → v532 = (k0_pay371 v219 v222) →
      H ⊢ wp frame (wpE (defs₀ (F := F)) 𝒱₀ (thr d i) none) Set.univ (k ⟨v495, v501, v512, v513, v514, v515, v516, v517, v518, v519, v526, v529, v530, v532⟩) Q) :
    H ⊢ wp frame (wpE (defs₀ (F := F)) 𝒱₀ (thr d i) none) Set.univ (k0_part23 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_t1 k0_h6 v146 v153 v219 v222 v225 v228 v231 v234 v237 v420 v426 v427 v473 v474 v475 v478 v481 v482 v483 >>= k) Q := by
  rw [k0_part23_eq_skeleton]; unfold k0_part23_skel
  refine st_assume' d i (fun _ => chkW hix hvb hvc hb hu (by decide) hw) ?_
  refine st_gather' d i accO ?_
  refine st_pure d i ?_
  exact hk _ _ _ _ _ _ _ _ _ _ _ _ _ _ (ldW (f := (bO1.access (.whole S8x1792)).read (Elt F) fO) (g := fO) (Memref.read_access_whole _ _ _) hix hvb hvc hb hu (by decide) hw _) rfl rfl rfl rfl rfl rfl rfl rfl rfl rfl rfl rfl rfl

theorem w_part24 {α : Type} {k : ((Σ' (v574 : FVec F S16 .f32) (v576 : FVec F S16 .f32) (v577 : FVec F S16 .f32) (v578 : IVec S16 1) (v581 : FVec F S16 .f32), FVec F S16 .f32)) → Prog (TpuEff nD τ sig (Elt F) Λ₀ (thr d i).2) α} {Q : α → sProp 𝕄} {H : sProp 𝕄}
    (v513 : FVec F S16 .f32) (v514 : FVec F S16 .f32) (v515 : FVec F S16 .f32) (v516 : FVec F S16 .f32) (v517 : FVec F S16 .f32) (v518 : FVec F S16 .f32) (v519 : FVec F S16 .f32) (v526 : FVec F S16 .f32) (v529 : FVec F S16 .f32) (v530 : FVec F S16 .f32) (v532 : FVec F S16 .f32)

    (hk : ∀ (v574 : FVec F S16 .f32) (v576 : FVec F S16 .f32) (v577 : FVec F S16 .f32) (v578 : IVec S16 1) (v581 : FVec F S16 .f32) (v583 : FVec F S16 .f32), v574 = (k0_pay390 v515 v516 v517 v518 v530) → v576 = (k0_pay391 v515 v516 v517 v518 v530 v532) → v577 = (k0_pay392 v513 v514 v515 v516 v517 v518) → v578 = (k0_pay393 v515 v516 v517 v518 v519 v530) → v581 = (k0_pay395 v515 v516 v517 v518 v519 v526 v530) → v583 = (k0_pay396 v515 v516 v517 v518 v519 v526 v529 v530 v532) →
      H ⊢ wp frame (wpE (defs₀ (F := F)) 𝒱₀ (thr d i) none) Set.univ (k ⟨v574, v576, v577, v578, v581, v583⟩) Q) :
    H ⊢ wp frame (wpE (defs₀ (F := F)) 𝒱₀ (thr d i) none) Set.univ (k0_part24 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 v513 v514 v515 v516 v517 v518 v519 v526 v529 v530 v532 >>= k) Q := by
  rw [k0_part24_eq_skeleton]; unfold k0_part24_skel
  refine st_pure d i ?_
  exact hk _ _ _ _ _ _ rfl rfl rfl rfl rfl rfl

theorem w_part25 {α : Type} {k : ((Σ' (v587 : FVec F S16 .f32) (v593 : Vec F S16 .f32) (v604 : FVec F S16 .f32) (v617 : FVec F S16 .f32) (v620 : FVec F S16 .f32) (v623 : FVec F S16 .f32) (v626 : FVec F S16 .f32), FVec F S16 .f32)) → Prog (TpuEff nD τ sig (Elt F) Λ₀ (thr d i).2) α} {Q : α → sProp 𝕄} {H : sProp 𝕄}
    (k0_t1 : Fin (k0_t1_loop i).trips) (k0_h6 : k0_cond6 i k0_t1 = 1#1) (v144 : BitVec 32) (v145 : IVec S16 32) (v146 : IVec S16 32) (v148 : BitVec 32) (v153 : IVec S16 32) (v512 : FVec F S16 .f32) (v519 : FVec F S16 .f32) (v574 : FVec F S16 .f32) (v576 : FVec F S16 .f32) (v577 : FVec F S16 .f32) (v578 : IVec S16 1) (v581 : FVec F S16 .f32) (v583 : FVec F S16 .f32)
    {b : ℕ} (hb : b < 8) (hvb : ∀ x, ((v146 : IVec S16 32) x).toNat = b) {u : ℕ} (hu : u + 16 ≤ 64) (hvc : ∀ x, ((v153) x).toNat = 28 * (u + ln x)) {w : IVec S16 32} (hix : k0_pay398 v153 v576 v578 = addi (addi (v153) (broadcast S16 21#32)) w) (hw : ∀ x, (w x).toNat < 7) {p : ℕ} (hp : p + 16 ≤ 640) (hvp : ∀ x, ((k0_pay400 v144 v145 v148) x).toNat = p + ln x)
    {fO : Vec F S8x1792 .f32} (accO : H ⊢ iprop((((bO1.access (.whole S8x1792)).loc (thr d i)) ↦{fullShare} fO) ∗ ((((bO1.access (.whole S8x1792)).loc (thr d i)) ↦{fullShare} fO) -∗ H)))
    {fP : Vec F S8x4x640 .f32} (accP : H ⊢ iprop((((bP.access (.whole S8x4x640)).loc (thr d i)) ↦{fullShare} fP) ∗ ((((bP.access (.whole S8x4x640)).loc (thr d i)) ↦{fullShare} fP) -∗ H)))
    (hk : ∀ (v593 : Vec F S16 .f32) (v612 : Vec F S16 .f32) (v613 : Vec F S16 .f32) (v614 : Vec F S16 .f32) (v615 : Vec F S16 .f32) (v587 : FVec F S16 .f32) (v604 : FVec F S16 .f32) (v617 : FVec F S16 .f32) (v620 : FVec F S16 .f32) (v623 : FVec F S16 .f32) (v626 : FVec F S16 .f32) (v629 : FVec F S16 .f32), v593 = (fun x => at2 fO b (28 * (u + ln x) + ((21#32).toNat + (w x).toNat))) → v612 = (fun x => at3 fP b (0#32).toNat (p + ln x)) → v613 = (fun x => at3 fP b (1#32).toNat (p + ln x)) → v614 = (fun x => at3 fP b (2#32).toNat (p + ln x)) → v615 = (fun x => at3 fP b (3#32).toNat (p + ln x)) → v587 = (k0_pay397 v576 v578) → v604 = (k0_pay399 v512 v519 v574 v576 v577 v578 v581 v583) → v617 = (k0_pay402 v613 v615) → v620 = (k0_pay403 v612 v614) → v623 = (k0_pay404 v613 v615) → v626 = (k0_pay405 v612 v614) → v629 = (k0_pay406 v612 v614) →
      H ⊢ wp frame (wpE (defs₀ (F := F)) 𝒱₀ (thr d i) none) Set.univ (k ⟨v587, v593, v604, v617, v620, v623, v626, v629⟩) Q) :
    H ⊢ wp frame (wpE (defs₀ (F := F)) 𝒱₀ (thr d i) none) Set.univ (k0_part25 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_t1 k0_h6 v144 v145 v146 v148 v153 v512 v519 v574 v576 v577 v578 v581 v583 >>= k) Q := by
  rw [k0_part25_eq_skeleton]; unfold k0_part25_skel
  refine st_assume' d i (fun _ => chkW hix hvb hvc hb hu (by decide) hw) ?_
  refine st_gather' d i accO ?_
  refine st_assume' d i ⟨fun _ => chkP hvb hb hvp hp 0#32 (by decide), fun _ => chkP hvb hb hvp hp 1#32 (by decide), fun _ => chkP hvb hb hvp hp 2#32 (by decide), fun _ => chkP hvb hb hvp hp 3#32 (by decide)⟩ ?_
  refine st_gather' d i accP ?_
  refine st_gather' d i accP ?_
  refine st_gather' d i accP ?_
  refine st_gather' d i accP ?_
  refine st_pure d i ?_
  exact hk _ _ _ _ _ _ _ _ _ _ _ _ (ldW (f := (bO1.access (.whole S8x1792)).read (Elt F) fO) (g := fO) (Memref.read_access_whole _ _ _) hix hvb hvc hb hu (by decide) hw _) (ldP (f := (bP.access (.whole S8x4x640)).read (Elt F) fP) (g := fP) (Memref.read_access_whole _ _ _) hvb hb hvp hp 0#32 (by decide) _) (ldP (f := (bP.access (.whole S8x4x640)).read (Elt F) fP) (g := fP) (Memref.read_access_whole _ _ _) hvb hb hvp hp 1#32 (by decide) _) (ldP (f := (bP.access (.whole S8x4x640)).read (Elt F) fP) (g := fP) (Memref.read_access_whole _ _ _) hvb hb hvp hp 2#32 (by decide) _) (ldP (f := (bP.access (.whole S8x4x640)).read (Elt F) fP) (g := fP) (Memref.read_access_whole _ _ _) hvb hb hvp hp 3#32 (by decide) _) rfl rfl rfl rfl rfl rfl rfl

end Cert.Proof
-- ==== Proof.GroupC.lean ====
/- The parts of one group of the last 32 proposals: what each gathers and hands on. -/
module

public import proofs.«01_k».proof.Proof.Reads

@[expose] public section

set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

local notation "𝕄" => MT nD τ sig (HIx 1) (Elt F) ℕ UU ℕ

def p55_v64 (c0_i32_26 : BitVec 32) (c1_i32_28 : BitVec 32) (k0_t7 : Fin k0_t7_loop.trips) : BitVec 32 :=
  let arg18 : BitVec 32 := Scf.iv c0_i32_26 c1_i32_28 k0_t7
  let v48 : BitVec 32 := Scalar.divsi arg18 2#32
  let v49 : BitVec 1 := Scalar.cmpi .sgt arg18 0#32
  let v50 : BitVec 32 := Scalar.extui v49
  let v51 : BitVec 1 := Scalar.cmpi .slt arg18 0#32
  let v52 : BitVec 32 := Scalar.extui v51
  let v53 : BitVec 32 := Scalar.subi v50 v52
  let v54 : BitVec 1 := Scalar.cmpi .sgt 2#32 0#32
  let v55 : BitVec 32 := Scalar.extui v54
  let v56 : BitVec 1 := Scalar.cmpi .slt 2#32 0#32
  let v57 : BitVec 32 := Scalar.extui v56
  let v58 : BitVec 32 := Scalar.subi v55 v57
  let v59 : BitVec 1 := Scalar.cmpi .ne v53 v58
  let v60 : BitVec 32 := Scalar.remsi arg18 2#32
  let v61 : BitVec 1 := Scalar.cmpi .ne v60 0#32
  let v62 : BitVec 1 := Scalar.andi v59 v61
  let v63 : BitVec 32 := Scalar.subi v48 1#32
  let v64 : BitVec 32 := Scalar.select v62 v63 v48
  v64

def p55_v75 (c0_i32_26 : BitVec 32) (c1_i32_28 : BitVec 32) (k0_t7 : Fin k0_t7_loop.trips) : BitVec 32 :=
  let arg18 : BitVec 32 := Scf.iv c0_i32_26 c1_i32_28 k0_t7
  let v65 : BitVec 1 := Scalar.cmpi .eq 2#32 0#32
  let v66 : BitVec 32 := Scalar.select v65 1#32 2#32
  let v67 : BitVec 32 := Scalar.remsi arg18 v66
  let v68 : BitVec 1 := Scalar.cmpi .ne v67 0#32
  let v69 : BitVec 1 := Scalar.cmpi .slt v67 0#32
  let v70 : BitVec 1 := Scalar.cmpi .slt v66 0#32
  let v71 : BitVec 1 := Scalar.xori v69 v70
  let v72 : BitVec 1 := Scalar.andi v71 v68
  let v73 : BitVec 32 := Scalar.addi v67 v66
  let v74 : BitVec 32 := Scalar.select v72 v73 v67
  let v75 : BitVec 32 := Scalar.muli v74 16#32
  v75

def p55_v78 (c0_i32_26 : BitVec 32) (c1_i32_28 : BitVec 32) (k0_t7 : Fin k0_t7_loop.trips) : BitVec 32 :=
  let arg18 : BitVec 32 := Scf.iv c0_i32_26 c1_i32_28 k0_t7
  let v65 : BitVec 1 := Scalar.cmpi .eq 2#32 0#32
  let v66 : BitVec 32 := Scalar.select v65 1#32 2#32
  let v67 : BitVec 32 := Scalar.remsi arg18 v66
  let v68 : BitVec 1 := Scalar.cmpi .ne v67 0#32
  let v69 : BitVec 1 := Scalar.cmpi .slt v67 0#32
  let v70 : BitVec 1 := Scalar.cmpi .slt v66 0#32
  let v71 : BitVec 1 := Scalar.xori v69 v70
  let v72 : BitVec 1 := Scalar.andi v71 v68
  let v73 : BitVec 32 := Scalar.addi v67 v66
  let v74 : BitVec 32 := Scalar.select v72 v73 v67
  let v75 : BitVec 32 := Scalar.muli v74 16#32
  let v78 : BitVec 32 := Scalar.addi 0#32 v75
  v78

theorem w_part55 {α : Type} {k : ((Σ' (v64 : BitVec 32) (v75 : BitVec 32) (v76 : IVec S16 32) (v77 : IVec S16 32) (v78 : BitVec 32) (v83 : IVec S16 32) (v86 : Vec F S16 .f32), BitVec 32)) → Prog (TpuEff nD τ sig (Elt F) Λ₀ (thr d i).2) α} {Q : α → sProp 𝕄} {H : sProp 𝕄}
    (k0_h12 : k0_cond12 i = 1#1) (c0_i32_26 : BitVec 32) (c1_i32_28 : BitVec 32) (k0_t7 : Fin k0_t7_loop.trips)
    {b : ℕ} (hb : b < 8) (hvb : ∀ x, ((broadcast S16 (p55_v64 c0_i32_26 c1_i32_28 k0_t7) : IVec S16 32) x).toNat = b) {u : ℕ} (hu : u + 16 ≤ 64) (hvc : ∀ x, ((k0_pay829 c0_i32_26 c1_i32_28 k0_t7) x).toNat = 28 * (u + ln x))
    {fC : Vec F S8x1792 .f32} (accC : H ⊢ iprop((((bC0.access (.whole S8x1792)).loc (thr d i)) ↦{fullShare} fC) ∗ ((((bC0.access (.whole S8x1792)).loc (thr d i)) ↦{fullShare} fC) -∗ H)))
    (hk : ∀ (v86 : Vec F S16 .f32) (v76 : IVec S16 32), v86 = (fun x => at2 fC b (28 * (u + ln x) + (0#32).toNat)) → v76 = (iota .scVector S16 32 [0] iota_S16_d0_w32_scVector) →
      H ⊢ wp frame (wpE (defs₀ (F := F)) 𝒱₀ (thr d i) none) Set.univ (k ⟨(p55_v64 c0_i32_26 c1_i32_28 k0_t7), (p55_v75 c0_i32_26 c1_i32_28 k0_t7), v76, (broadcast S16 (p55_v64 c0_i32_26 c1_i32_28 k0_t7)), (p55_v78 c0_i32_26 c1_i32_28 k0_t7), (k0_pay829 c0_i32_26 c1_i32_28 k0_t7), v86, 1#32⟩) Q) :
    H ⊢ wp frame (wpE (defs₀ (F := F)) 𝒱₀ (thr d i) none) Set.univ (k0_part55 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_h12 c0_i32_26 c1_i32_28 k0_t7 >>= k) Q := by
  rw [k0_part55_eq_skeleton]; unfold k0_part55_skel
  refine st_assume' d i (fun _ => chkC hvb hvc hb hu 0#32 (by decide)) ?_
  refine st_gather' d i accC ?_
  refine st_pure d i ?_
  exact hk _ _ (ldC (f := (bC0.access (.whole S8x1792)).read (Elt F) fC) (g := fC) (Memref.read_access_whole _ _ _) hvb hvc hb hu 0#32 (by decide) _) rfl

theorem w_part56 {α : Type} {k : ((Σ' (v89 : Vec F S16 .f32) (v92 : Vec F S16 .f32) (v95 : Vec F S16 .f32) (v98 : Vec F S16 .f32) (v101 : Vec F S16 .f32) (v104 : Vec F S16 .f32) (v107 : Vec F S16 .f32) (v110 : Vec F S16 .f32) (v113 : Vec F S16 .f32) (v116 : Vec F S16 .f32) (v119 : Vec F S16 .f32) (v122 : Vec F S16 .f32), BitVec 32)) → Prog (TpuEff nD τ sig (Elt F) Λ₀ (thr d i).2) α} {Q : α → sProp 𝕄} {H : sProp 𝕄}
    (k0_h12 : k0_cond12 i = 1#1) (v77 : IVec S16 32) (v83 : IVec S16 32) (c1_i32_48 : BitVec 32)
    (h_c1_i32_48 : c1_i32_48 = 1#32) {b : ℕ} (hb : b < 8) (hvb : ∀ x, ((v77 : IVec S16 32) x).toNat = b) {u : ℕ} (hu : u + 16 ≤ 64) (hvc : ∀ x, ((v83) x).toNat = 28 * (u + ln x))
    {fC : Vec F S8x1792 .f32} (accC : H ⊢ iprop((((bC0.access (.whole S8x1792)).loc (thr d i)) ↦{fullShare} fC) ∗ ((((bC0.access (.whole S8x1792)).loc (thr d i)) ↦{fullShare} fC) -∗ H)))
    (hk : ∀ (v89 : Vec F S16 .f32) (v92 : Vec F S16 .f32) (v95 : Vec F S16 .f32) (v98 : Vec F S16 .f32) (v101 : Vec F S16 .f32) (v104 : Vec F S16 .f32) (v107 : Vec F S16 .f32) (v110 : Vec F S16 .f32) (v113 : Vec F S16 .f32) (v116 : Vec F S16 .f32) (v119 : Vec F S16 .f32) (v122 : Vec F S16 .f32), v89 = (fun x => at2 fC b (28 * (u + ln x) + (1#32).toNat)) → v92 = (fun x => at2 fC b (28 * (u + ln x) + (2#32).toNat)) → v95 = (fun x => at2 fC b (28 * (u + ln x) + (3#32).toNat)) → v98 = (fun x => at2 fC b (28 * (u + ln x) + (4#32).toNat)) → v101 = (fun x => at2 fC b (28 * (u + ln x) + (5#32).toNat)) → v104 = (fun x => at2 fC b (28 * (u + ln x) + (6#32).toNat)) → v107 = (fun x => at2 fC b (28 * (u + ln x) + (7#32).toNat)) → v110 = (fun x => at2 fC b (28 * (u + ln x) + (8#32).toNat)) → v113 = (fun x => at2 fC b (28 * (u + ln x) + (9#32).toNat)) → v116 = (fun x => at2 fC b (28 * (u + ln x) + (10#32).toNat)) → v119 = (fun x => at2 fC b (28 * (u + ln x) + (11#32).toNat)) → v122 = (fun x => at2 fC b (28 * (u + ln x) + (12#32).toNat)) →
      H ⊢ wp frame (wpE (defs₀ (F := F)) 𝒱₀ (thr d i) none) Set.univ (k ⟨v89, v92, v95, v98, v101, v104, v107, v110, v113, v116, v119, v122, 13#32⟩) Q) :
    H ⊢ wp frame (wpE (defs₀ (F := F)) 𝒱₀ (thr d i) none) Set.univ (k0_part56 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_h12 v77 v83 c1_i32_48 >>= k) Q := by
  subst h_c1_i32_48
  rw [k0_part56_eq_skeleton]; unfold k0_part56_skel
  refine st_assume' d i (fun _ => chkC hvb hvc hb hu 1#32 (by decide)) ?_
  refine st_gather' d i accC ?_
  refine st_assume' d i (fun _ => chkC hvb hvc hb hu 2#32 (by decide)) ?_
  refine st_gather' d i accC ?_
  refine st_assume' d i (fun _ => chkC hvb hvc hb hu 3#32 (by decide)) ?_
  refine st_gather' d i accC ?_
  refine st_assume' d i (fun _ => chkC hvb hvc hb hu 4#32 (by decide)) ?_
  refine st_gather' d i accC ?_
  refine st_assume' d i (fun _ => chkC hvb hvc hb hu 5#32 (by decide)) ?_
  refine st_gather' d i accC ?_
  refine st_assume' d i (fun _ => chkC hvb hvc hb hu 6#32 (by decide)) ?_
  refine st_gather' d i accC ?_
  refine st_assume' d i (fun _ => chkC hvb hvc hb hu 7#32 (by decide)) ?_
  refine st_gather' d i accC ?_
  refine st_assume' d i (fun _ => chkC hvb hvc hb hu 8#32 (by decide)) ?_
  refine st_gather' d i accC ?_
  refine st_assume' d i (fun _ => chkC hvb hvc hb hu 9#32 (by decide)) ?_
  refine st_gather' d i accC ?_
  refine st_assume' d i (fun _ => chkC hvb hvc hb hu 10#32 (by decide)) ?_
  refine st_gather' d i accC ?_
  refine st_assume' d i (fun _ => chkC hvb hvc hb hu 11#32 (by decide)) ?_
  refine st_gather' d i accC ?_
  refine st_assume' d i (fun _ => chkC hvb hvc hb hu 12#32 (by decide)) ?_
  refine st_gather' d i accC ?_
  refine st_pure d i ?_
  exact hk _ _ _ _ _ _ _ _ _ _ _ _ (ldC (f := (bC0.access (.whole S8x1792)).read (Elt F) fC) (g := fC) (Memref.read_access_whole _ _ _) hvb hvc hb hu 1#32 (by decide) _) (ldC (f := (bC0.access (.whole S8x1792)).read (Elt F) fC) (g := fC) (Memref.read_access_whole _ _ _) hvb hvc hb hu 2#32 (by decide) _) (ldC (f := (bC0.access (.whole S8x1792)).read (Elt F) fC) (g := fC) (Memref.read_access_whole _ _ _) hvb hvc hb hu 3#32 (by decide) _) (ldC (f := (bC0.access (.whole S8x1792)).read (Elt F) fC) (g := fC) (Memref.read_access_whole _ _ _) hvb hvc hb hu 4#32 (by decide) _) (ldC (f := (bC0.access (.whole S8x1792)).read (Elt F) fC) (g := fC) (Memref.read_access_whole _ _ _) hvb hvc hb hu 5#32 (by decide) _) (ldC (f := (bC0.access (.whole S8x1792)).read (Elt F) fC) (g := fC) (Memref.read_access_whole _ _ _) hvb hvc hb hu 6#32 (by decide) _) (ldC (f := (bC0.access (.whole S8x1792)).read (Elt F) fC) (g := fC) (Memref.read_access_whole _ _ _) hvb hvc hb hu 7#32 (by decide) _) (ldC (f := (bC0.access (.whole S8x1792)).read (Elt F) fC) (g := fC) (Memref.read_access_whole _ _ _) hvb hvc hb hu 8#32 (by decide) _) (ldC (f := (bC0.access (.whole S8x1792)).read (Elt F) fC) (g := fC) (Memref.read_access_whole _ _ _) hvb hvc hb hu 9#32 (by decide) _) (ldC (f := (bC0.access (.whole S8x1792)).read (Elt F) fC) (g := fC) (Memref.read_access_whole _ _ _) hvb hvc hb hu 10#32 (by decide) _) (ldC (f := (bC0.access (.whole S8x1792)).read (Elt F) fC) (g := fC) (Memref.read_access_whole _ _ _) hvb hvc hb hu 11#32 (by decide) _) (ldC (f := (bC0.access (.whole S8x1792)).read (Elt F) fC) (g := fC) (Memref.read_access_whole _ _ _) hvb hvc hb hu 12#32 (by decide) _)

theorem w_part57 {α : Type} {k : ((Σ' (v125 : Vec F S16 .f32) (v128 : Vec F S16 .f32) (v131 : Vec F S16 .f32) (v134 : Vec F S16 .f32) (v137 : Vec F S16 .f32) (v140 : Vec F S16 .f32) (v143 : Vec F S16 .f32) (v146 : Vec F S16 .f32) (v149 : Vec F S16 .f32) (v152 : Vec F S16 .f32) (v155 : Vec F S16 .f32) (v158 : Vec F S16 .f32), BitVec 32)) → Prog (TpuEff nD τ sig (Elt F) Λ₀ (thr d i).2) α} {Q : α → sProp 𝕄} {H : sProp 𝕄}
    (k0_h12 : k0_cond12 i = 1#1) (v77 : IVec S16 32) (v83 : IVec S16 32) (c13_i32 : BitVec 32)
    (h_c13_i32 : c13_i32 = 13#32) {b : ℕ} (hb : b < 8) (hvb : ∀ x, ((v77 : IVec S16 32) x).toNat = b) {u : ℕ} (hu : u + 16 ≤ 64) (hvc : ∀ x, ((v83) x).toNat = 28 * (u + ln x))
    {fC : Vec F S8x1792 .f32} (accC : H ⊢ iprop((((bC0.access (.whole S8x1792)).loc (thr d i)) ↦{fullShare} fC) ∗ ((((bC0.access (.whole S8x1792)).loc (thr d i)) ↦{fullShare} fC) -∗ H)))
    (hk : ∀ (v125 : Vec F S16 .f32) (v128 : Vec F S16 .f32) (v131 : Vec F S16 .f32) (v134 : Vec F S16 .f32) (v137 : Vec F S16 .f32) (v140 : Vec F S16 .f32) (v143 : Vec F S16 .f32) (v146 : Vec F S16 .f32) (v149 : Vec F S16 .f32) (v152 : Vec F S16 .f32) (v155 : Vec F S16 .f32) (v158 : Vec F S16 .f32), v125 = (fun x => at2 fC b (28 * (u + ln x) + (13#32).toNat)) → v128 = (fun x => at2 fC b (28 * (u + ln x) + (14#32).toNat)) → v131 = (fun x => at2 fC b (28 * (u + ln x) + (15#32).toNat)) → v134 = (fun x => at2 fC b (28 * (u + ln x) + (16#32).toNat)) → v137 = (fun x => at2 fC b (28 * (u + ln x) + (17#32).toNat)) → v140 = (fun x => at2 fC b (28 * (u + ln x) + (18#32).toNat)) → v143 = (fun x => at2 fC b (28 * (u + ln x) + (19#32).toNat)) → v146 = (fun x => at2 fC b (28 * (u + ln x) + (20#32).toNat)) → v149 = (fun x => at2 fC b (28 * (u + ln x) + (21#32).toNat)) → v152 = (fun x => at2 fC b (28 * (u + ln x) + (22#32).toNat)) → v155 = (fun x => at2 fC b (28 * (u + ln x) + (23#32).toNat)) → v158 = (fun x => at2 fC b (28 * (u + ln x) + (24#32).toNat)) →
      H ⊢ wp frame (wpE (defs₀ (F := F)) 𝒱₀ (thr d i) none) Set.univ (k ⟨v125, v128, v131, v134, v137, v140, v143, v146, v149, v152, v155, v158, 25#32⟩) Q) :
    H ⊢ wp frame (wpE (defs₀ (F := F)) 𝒱₀ (thr d i) none) Set.univ (k0_part57 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_h12 v77 v83 c13_i32 >>= k) Q := by
  subst h_c13_i32
  rw [k0_part57_eq_skeleton]; unfold k0_part57_skel
  refine st_assume' d i (fun _ => chkC hvb hvc hb hu 13#32 (by decide)) ?_
  refine st_gather' d i accC ?_
  refine st_assume' d i (fun _ => chkC hvb hvc hb hu 14#32 (by decide)) ?_
  refine st_gather' d i accC ?_
  refine st_assume' d i (fun _ => chkC hvb hvc hb hu 15#32 (by decide)) ?_
  refine st_gather' d i accC ?_
  refine st_assume' d i (fun _ => chkC hvb hvc hb hu 16#32 (by decide)) ?_
  refine st_gather' d i accC ?_
  refine st_assume' d i (fun _ => chkC hvb hvc hb hu 17#32 (by decide)) ?_
  refine st_gather' d i accC ?_
  refine st_assume' d i (fun _ => chkC hvb hvc hb hu 18#32 (by decide)) ?_
  refine st_gather' d i accC ?_
  refine st_assume' d i (fun _ => chkC hvb hvc hb hu 19#32 (by decide)) ?_
  refine st_gather' d i accC ?_
  refine st_assume' d i (fun _ => chkC hvb hvc hb hu 20#32 (by decide)) ?_
  refine st_gather' d i accC ?_
  refine st_assume' d i (fun _ => chkC hvb hvc hb hu 21#32 (by decide)) ?_
  refine st_gather' d i accC ?_
  refine st_assume' d i (fun _ => chkC hvb hvc hb hu 22#32 (by decide)) ?_
  refine st_gather' d i accC ?_
  refine st_assume' d i (fun _ => chkC hvb hvc hb hu 23#32 (by decide)) ?_
  refine st_gather' d i accC ?_
  refine st_assume' d i (fun _ => chkC hvb hvc hb hu 24#32 (by decide)) ?_
  refine st_gather' d i accC ?_
  refine st_pure d i ?_
  exact hk _ _ _ _ _ _ _ _ _ _ _ _ (ldC (f := (bC0.access (.whole S8x1792)).read (Elt F) fC) (g := fC) (Memref.read_access_whole _ _ _) hvb hvc hb hu 13#32 (by decide) _) (ldC (f := (bC0.access (.whole S8x1792)).read (Elt F) fC) (g := fC) (Memref.read_access_whole _ _ _) hvb hvc hb hu 14#32 (by decide) _) (ldC (f := (bC0.access (.whole S8x1792)).read (Elt F) fC) (g := fC) (Memref.read_access_whole _ _ _) hvb hvc hb hu 15#32 (by decide) _) (ldC (f := (bC0.access (.whole S8x1792)).read (Elt F) fC) (g := fC) (Memref.read_access_whole _ _ _) hvb hvc hb hu 16#32 (by decide) _) (ldC (f := (bC0.access (.whole S8x1792)).read (Elt F) fC) (g := fC) (Memref.read_access_whole _ _ _) hvb hvc hb hu 17#32 (by decide) _) (ldC (f := (bC0.access (.whole S8x1792)).read (Elt F) fC) (g := fC) (Memref.read_access_whole _ _ _) hvb hvc hb hu 18#32 (by decide) _) (ldC (f := (bC0.access (.whole S8x1792)).read (Elt F) fC) (g := fC) (Memref.read_access_whole _ _ _) hvb hvc hb hu 19#32 (by decide) _) (ldC (f := (bC0.access (.whole S8x1792)).read (Elt F) fC) (g := fC) (Memref.read_access_whole _ _ _) hvb hvc hb hu 20#32 (by decide) _) (ldC (f := (bC0.access (.whole S8x1792)).read (Elt F) fC) (g := fC) (Memref.read_access_whole _ _ _) hvb hvc hb hu 21#32 (by decide) _) (ldC (f := (bC0.access (.whole S8x1792)).read (Elt F) fC) (g := fC) (Memref.read_access_whole _ _ _) hvb hvc hb hu 22#32 (by decide) _) (ldC (f := (bC0.access (.whole S8x1792)).read (Elt F) fC) (g := fC) (Memref.read_access_whole _ _ _) hvb hvc hb hu 23#32 (by decide) _) (ldC (f := (bC0.access (.whole S8x1792)).read (Elt F) fC) (g := fC) (Memref.read_access_whole _ _ _) hvb hvc hb hu 24#32 (by decide) _)

theorem w_part58 {α : Type} {k : ((Σ' (v161 : Vec F S16 .f32) (v164 : Vec F S16 .f32) (v167 : Vec F S16 .f32) (v171 : FVec F S16 .f32) (v172 : FVec F S16 .f32) (v173 : FVec F S16 .f32) (v174 : FVec F S16 .f32) (v196 : FVec F S16 .f32) (v198 : FVec F S16 .f32) (v199 : FVec F S16 .f32) (v200 : IVec S16 1) (v203 : FVec F S16 .f32), FVec F S16 .f32)) → Prog (TpuEff nD τ sig (Elt F) Λ₀ (thr d i).2) α} {Q : α → sProp 𝕄} {H : sProp 𝕄}
    (k0_h12 : k0_cond12 i = 1#1) (v77 : IVec S16 32) (v83 : IVec S16 32) (v86 : Vec F S16 .f32) (v89 : Vec F S16 .f32) (v92 : Vec F S16 .f32) (v95 : Vec F S16 .f32) (v98 : Vec F S16 .f32) (v101 : Vec F S16 .f32) (v104 : Vec F S16 .f32) (c25_i32 : BitVec 32)
    (h_c25_i32 : c25_i32 = 25#32) {b : ℕ} (hb : b < 8) (hvb : ∀ x, ((v77 : IVec S16 32) x).toNat = b) {u : ℕ} (hu : u + 16 ≤ 64) (hvc : ∀ x, ((v83) x).toNat = 28 * (u + ln x))
    {fC : Vec F S8x1792 .f32} (accC : H ⊢ iprop((((bC0.access (.whole S8x1792)).loc (thr d i)) ↦{fullShare} fC) ∗ ((((bC0.access (.whole S8x1792)).loc (thr d i)) ↦{fullShare} fC) -∗ H)))
    (hk : ∀ (v161 : Vec F S16 .f32) (v164 : Vec F S16 .f32) (v167 : Vec F S16 .f32) (v171 : FVec F S16 .f32) (v172 : FVec F S16 .f32) (v173 : FVec F S16 .f32) (v174 : FVec F S16 .f32) (v196 : FVec F S16 .f32) (v198 : FVec F S16 .f32) (v199 : FVec F S16 .f32) (v200 : IVec S16 1) (v203 : FVec F S16 .f32) (v205 : FVec F S16 .f32), v161 = (fun x => at2 fC b (28 * (u + ln x) + (25#32).toNat)) → v164 = (fun x => at2 fC b (28 * (u + ln x) + (26#32).toNat)) → v167 = (fun x => at2 fC b (28 * (u + ln x) + (27#32).toNat)) → v171 = (k0_pay861 v95) → v172 = (k0_pay862 v98) → v173 = (k0_pay863 v101) → v174 = (k0_pay864 v104) → v196 = (k0_pay875 v86 v89 v92) → v198 = (k0_pay876 v86 v89 v92) → v199 = (k0_pay877 v86 v89 v92) → v200 = (k0_pay878 v86 v89 v92 v95) → v203 = (k0_pay880 v86 v89 v92 v95) → v205 = (k0_pay881 v86 v89 v92 v95) →
      H ⊢ wp frame (wpE (defs₀ (F := F)) 𝒱₀ (thr d i) none) Set.univ (k ⟨v161, v164, v167, v171, v172, v173, v174, v196, v198, v199, v200, v203, v205⟩) Q) :
    H ⊢ wp frame (wpE (defs₀ (F := F)) 𝒱₀ (thr d i) none) Set.univ (k0_part58 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_h12 v77 v83 v86 v89 v92 v95 v98 v101 v104 c25_i32 >>= k) Q := by
  subst h_c25_i32
  rw [k0_part58_eq_skeleton]; unfold k0_part58_skel
  refine st_assume' d i (fun _ => chkC hvb hvc hb hu 25#32 (by decide)) ?_
  refine st_gather' d i accC ?_
  refine st_assume' d i (fun _ => chkC hvb hvc hb hu 26#32 (by decide)) ?_
  refine st_gather' d i accC ?_
  refine st_assume' d i (fun _ => chkC hvb hvc hb hu 27#32 (by decide)) ?_
  refine st_gather' d i accC ?_
  refine st_pure d i ?_
  exact hk _ _ _ _ _ _ _ _ _ _ _ _ _ (ldC (f := (bC0.access (.whole S8x1792)).read (Elt F) fC) (g := fC) (Memref.read_access_whole _ _ _) hvb hvc hb hu 25#32 (by decide) _) (ldC (f := (bC0.access (.whole S8x1792)).read (Elt F) fC) (g := fC) (Memref.read_access_whole _ _ _) hvb hvc hb hu 26#32 (by decide) _) (ldC (f := (bC0.access (.whole S8x1792)).read (Elt F) fC) (g := fC) (Memref.read_access_whole _ _ _) hvb hvc hb hu 27#32 (by decide) _) rfl rfl rfl rfl rfl rfl rfl rfl rfl rfl

theorem w_part59 {α : Type} {k : ((Σ' (v242 : FVec F S16 .f32) (v248 : Vec F S16 .f32) (v251 : FVec F S16 .f32) (v252 : FVec F S16 .f32) (v254 : FVec F S16 .f32), F .f32)) → Prog (TpuEff nD τ sig (Elt F) Λ₀ (thr d i).2) α} {Q : α → sProp 𝕄} {H : sProp 𝕄}
    (k0_h12 : k0_cond12 i = 1#1) (v77 : IVec S16 32) (v83 : IVec S16 32) (v171 : FVec F S16 .f32) (v172 : FVec F S16 .f32) (v173 : FVec F S16 .f32) (v174 : FVec F S16 .f32) (v196 : FVec F S16 .f32) (v198 : FVec F S16 .f32) (v199 : FVec F S16 .f32) (v200 : IVec S16 1) (v203 : FVec F S16 .f32) (v205 : FVec F S16 .f32)
    {b : ℕ} (hb : b < 8) (hvb : ∀ x, ((v77 : IVec S16 32) x).toNat = b) {u : ℕ} (hu : u + 16 ≤ 64) (hvc : ∀ x, ((v83) x).toNat = 28 * (u + ln x)) {w : IVec S16 32} (hix : k0_pay897 v83 v171 v172 v173 v174 v196 v198 v200 = addi (addi (v83) (broadcast S16 0#32)) w) (hw : ∀ x, (w x).toNat < 7)
    {fO : Vec F S8x1792 .f32} (accO : H ⊢ iprop((((bO0.access (.whole S8x1792)).loc (thr d i)) ↦{fullShare} fO) ∗ ((((bO0.access (.whole S8x1792)).loc (thr d i)) ↦{fullShare} fO) -∗ H)))
    (hk : ∀ (v248 : Vec F S16 .f32) (v242 : FVec F S16 .f32) (v251 : FVec F S16 .f32) (v252 : FVec F S16 .f32) (v254 : FVec F S16 .f32) (cst_69 : F .f32), v248 = (fun x => at2 fO b (28 * (u + ln x) + ((0#32).toNat + (w x).toNat))) → v242 = (k0_pay896 v171 v172 v173 v174 v196 v198 v200) → v251 = (k0_pay899 v171 v172 v173 v174 v196 v199) → v252 = (k0_pay900 v171 v172 v173 v174 v196 v199 v203) → v254 = (k0_pay901 v171 v172 v173 v174 v196 v198 v200 v203 v205) → cst_69 = (Scalar.ofBits .f32 0x3F800000#32) →
      H ⊢ wp frame (wpE (defs₀ (F := F)) 𝒱₀ (thr d i) none) Set.univ (k ⟨v242, v248, v251, v252, v254, cst_69⟩) Q) :
    H ⊢ wp frame (wpE (defs₀ (F := F)) 𝒱₀ (thr d i) none) Set.univ (k0_part59 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_h12 v77 v83 v171 v172 v173 v174 v196 v198 v199 v200 v203 v205 >>= k) Q := by
  rw [k0_part59_eq_skeleton]; unfold k0_part59_skel
  refine st_assume' d i (fun _ => chkW hix hvb hvc hb hu (by decide) hw) ?_
  refine st_gather' d i accO ?_
  refine st_pure d i ?_
  exact hk _ _ _ _ _ _ (ldW (f := (bO0.access (.whole S8x1792)).read (Elt F) fO) (g := fO) (Memref.read_access_whole _ _ _) hix hvb hvc hb hu (by decide) hw _) rfl rfl rfl rfl rfl

theorem w_part60 {α : Type} {k : ((Σ' (v258 : FVec F S16 .f32) (v263 : FVec F S16 .f32) (v264 : FVec F S16 .f32) (v265 : FVec F S16 .f32) (v297 : FVec F S16 .f32) (v298 : FVec F S16 .f32) (v300 : FVec F S16 .f32) (v301 : FVec F S16 .f32) (v302 : IVec S16 1) (v303 : IVec S16 1), FVec F S16 .f32)) → Prog (TpuEff nD τ sig (Elt F) Λ₀ (thr d i).2) α} {Q : α → sProp 𝕄} {H : sProp 𝕄}
    (v107 : Vec F S16 .f32) (v110 : Vec F S16 .f32) (v113 : Vec F S16 .f32) (v116 : Vec F S16 .f32) (v119 : Vec F S16 .f32) (v122 : Vec F S16 .f32) (v125 : Vec F S16 .f32) (v251 : FVec F S16 .f32) (v252 : FVec F S16 .f32) (v254 : FVec F S16 .f32) (cst_69 : F .f32)

    (hk : ∀ (v258 : FVec F S16 .f32) (v263 : FVec F S16 .f32) (v264 : FVec F S16 .f32) (v265 : FVec F S16 .f32) (v297 : FVec F S16 .f32) (v298 : FVec F S16 .f32) (v300 : FVec F S16 .f32) (v301 : FVec F S16 .f32) (v302 : IVec S16 1) (v303 : IVec S16 1) (v305 : FVec F S16 .f32), v258 = (k0_pay902 v251 v252 v254 cst_69) → v263 = (k0_pay907 v119) → v264 = (k0_pay908 v122) → v265 = (k0_pay909 v125) → v297 = (k0_pay925 v107 v110 v113 v116) → v298 = (k0_pay926 v107 v110 v113 v116) → v300 = (k0_pay927 v107 v110 v113 v116) → v301 = (k0_pay928 v107 v110 v113 v116) → v302 = (k0_pay929 v107 v110 v113 v116 v119) → v303 = (k0_pay930 v107 v110 v113 v116 v119) → v305 = (k0_pay931 v107 v110 v113 v116 v119) →
      H ⊢ wp frame (wpE (defs₀ (F := F)) 𝒱₀ (thr d i) none) Set.univ (k ⟨v258, v263, v264, v265, v297, v298, v300, v301, v302, v303, v305⟩) Q) :
    H ⊢ wp frame (wpE (defs₀ (F := F)) 𝒱₀ (thr d i) none) Set.univ (k0_part60 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 v107 v110 v113 v116 v119 v122 v125 v251 v252 v254 cst_69 >>= k) Q := by
  rw [k0_part60_eq_skeleton]; unfold k0_part60_skel
  refine st_pure d i ?_
  exact hk _ _ _ _ _ _ _ _ _ _ _ rfl rfl rfl rfl rfl rfl rfl rfl rfl rfl rfl

theorem w_part61 {α : Type} {k : ((Σ' (v333 : FVec F S16 .f32) (v339 : Vec F S16 .f32) (v350 : FVec F S16 .f32) (v351 : FVec F S16 .f32) (v352 : FVec F S16 .f32) (v353 : FVec F S16 .f32) (v354 : FVec F S16 .f32), FVec F S16 .f32)) → Prog (TpuEff nD τ sig (Elt F) Λ₀ (thr d i).2) α} {Q : α → sProp 𝕄} {H : sProp 𝕄}
    (k0_h12 : k0_cond12 i = 1#1) (v77 : IVec S16 32) (v83 : IVec S16 32) (v128 : Vec F S16 .f32) (v131 : Vec F S16 .f32) (v134 : Vec F S16 .f32) (v137 : Vec F S16 .f32) (v140 : Vec F S16 .f32) (v258 : FVec F S16 .f32) (v263 : FVec F S16 .f32) (v264 : FVec F S16 .f32) (v265 : FVec F S16 .f32) (v297 : FVec F S16 .f32) (v298 : FVec F S16 .f32) (v300 : FVec F S16 .f32) (v301 : FVec F S16 .f32) (v302 : IVec S16 1) (v303 : IVec S16 1) (v305 : FVec F S16 .f32)
    {b : ℕ} (hb : b < 8) (hvb : ∀ x, ((v77 : IVec S16 32) x).toNat = b) {u : ℕ} (hu : u + 16 ≤ 64) (hvc : ∀ x, ((v83) x).toNat = 28 * (u + ln x)) {w : IVec S16 32} (hix : k0_pay939 v83 v263 v264 v265 v298 v300 v302 = addi (addi (v83) (broadcast S16 7#32)) w) (hw : ∀ x, (w x).toNat < 7)
    {fO : Vec F S8x1792 .f32} (accO : H ⊢ iprop((((bO0.access (.whole S8x1792)).loc (thr d i)) ↦{fullShare} fO) ∗ ((((bO0.access (.whole S8x1792)).loc (thr d i)) ↦{fullShare} fO) -∗ H)))
    (hk : ∀ (v339 : Vec F S16 .f32) (v333 : FVec F S16 .f32) (v350 : FVec F S16 .f32) (v351 : FVec F S16 .f32) (v352 : FVec F S16 .f32) (v353 : FVec F S16 .f32) (v354 : FVec F S16 .f32) (v355 : FVec F S16 .f32), v339 = (fun x => at2 fO b (28 * (u + ln x) + ((7#32).toNat + (w x).toNat))) → v333 = (k0_pay938 v263 v264 v265 v298 v300 v302) → v350 = (k0_pay940 v258 v263 v264 v265 v297 v298 v300 v301 v302 v303 v305) → v351 = (k0_pay941 v128) → v352 = (k0_pay942 v131) → v353 = (k0_pay943 v134) → v354 = (k0_pay944 v137) → v355 = (k0_pay945 v140) →
      H ⊢ wp frame (wpE (defs₀ (F := F)) 𝒱₀ (thr d i) none) Set.univ (k ⟨v333, v339, v350, v351, v352, v353, v354, v355⟩) Q) :
    H ⊢ wp frame (wpE (defs₀ (F := F)) 𝒱₀ (thr d i) none) Set.univ (k0_part61 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_h12 v77 v83 v128 v131 v134 v137 v140 v258 v263 v264 v265 v297 v298 v300 v301 v302 v303 v305 >>= k) Q := by
  rw [k0_part61_eq_skeleton]; unfold k0_part61_skel
  refine st_assume' d i (fun _ => chkW hix hvb hvc hb hu (by decide) hw) ?_
  refine st_gather' d i accO ?_
  refine st_pure d i ?_
  exact hk _ _ _ _ _ _ _ _ (ldW (f := (bO0.access (.whole S8x1792)).read (Elt F) fO) (g := fO) (Memref.read_access_whole _ _ _) hix hvb hvc hb hu (by decide) hw _) rfl rfl rfl rfl rfl rfl rfl

theorem w_part62 {α : Type} {k : ((Σ' (v356 : FVec F S16 .f32) (v357 : FVec F S16 .f32) (v397 : FVec F S16 .f32) (v400 : FVec F S16 .f32) (v401 : FVec F S16 .f32) (v403 : FVec F S16 .f32), FVec F S16 .f32)) → Prog (TpuEff nD τ sig (Elt F) Λ₀ (thr d i).2) α} {Q : α → sProp 𝕄} {H : sProp 𝕄}
    (v143 : Vec F S16 .f32) (v146 : Vec F S16 .f32) (v351 : FVec F S16 .f32) (v352 : FVec F S16 .f32) (v353 : FVec F S16 .f32) (v354 : FVec F S16 .f32) (v355 : FVec F S16 .f32)

    (hk : ∀ (v356 : FVec F S16 .f32) (v357 : FVec F S16 .f32) (v397 : FVec F S16 .f32) (v400 : FVec F S16 .f32) (v401 : FVec F S16 .f32) (v403 : FVec F S16 .f32) (v404 : FVec F S16 .f32), v356 = (k0_pay946 v143) → v357 = (k0_pay947 v146) → v397 = (k0_pay967 v351 v352 v353 v354 v355) → v400 = (k0_pay968 v351 v352 v353 v354 v355) → v401 = (k0_pay969 v351 v352 v353 v354 v355) → v403 = (k0_pay970 v351 v352 v353 v354 v355) → v404 = (k0_pay971 v351 v352 v353 v354 v355) →
      H ⊢ wp frame (wpE (defs₀ (F := F)) 𝒱₀ (thr d i) none) Set.univ (k ⟨v356, v357, v397, v400, v401, v403, v404⟩) Q) :
    H ⊢ wp frame (wpE (defs₀ (F := F)) 𝒱₀ (thr d i) none) Set.univ (k0_part62 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 v143 v146 v351 v352 v353 v354 v355 >>= k) Q := by
  rw [k0_part62_eq_skeleton]; unfold k0_part62_skel
  refine st_pure d i ?_
  exact hk _ _ _ _ _ _ _ rfl rfl rfl rfl rfl rfl rfl

theorem w_part63 {α : Type} {k : ((Σ' (v425 : FVec F S16 .f32) (v431 : Vec F S16 .f32) (v442 : FVec F S16 .f32) (v443 : FVec F S16 .f32) (v444 : FVec F S16 .f32) (v445 : FVec F S16 .f32) (v446 : FVec F S16 .f32) (v447 : FVec F S16 .f32) (v448 : FVec F S16 .f32) (v449 : FVec F S16 .f32) (v450 : FVec F S16 .f32) (v451 : FVec F S16 .f32) (v452 : FVec F S16 .f32), IVec S16 1)) → Prog (TpuEff nD τ sig (Elt F) Λ₀ (thr d i).2) α} {Q : α → sProp 𝕄} {H : sProp 𝕄}
    (k0_h12 : k0_cond12 i = 1#1) (v77 : IVec S16 32) (v83 : IVec S16 32) (v149 : Vec F S16 .f32) (v152 : Vec F S16 .f32) (v155 : Vec F S16 .f32) (v158 : Vec F S16 .f32) (v161 : Vec F S16 .f32) (v164 : Vec F S16 .f32) (v167 : Vec F S16 .f32) (v350 : FVec F S16 .f32) (v356 : FVec F S16 .f32) (v357 : FVec F S16 .f32) (v397 : FVec F S16 .f32) (v400 : FVec F S16 .f32) (v401 : FVec F S16 .f32) (v403 : FVec F S16 .f32) (v404 : FVec F S16 .f32)
    {b : ℕ} (hb : b < 8) (hvb : ∀ x, ((v77 : IVec S16 32) x).toNat = b) {u : ℕ} (hu : u + 16 ≤ 64) (hvc : ∀ x, ((v83) x).toNat = 28 * (u + ln x)) {w : IVec S16 32} (hix : k0_pay977 v83 v356 v357 v401 v403 = addi (addi (v83) (broadcast S16 14#32)) w) (hw : ∀ x, (w x).toNat < 7)
    {fO : Vec F S8x1792 .f32} (accO : H ⊢ iprop((((bO0.access (.whole S8x1792)).loc (thr d i)) ↦{fullShare} fO) ∗ ((((bO0.access (.whole S8x1792)).loc (thr d i)) ↦{fullShare} fO) -∗ H)))
    (hk : ∀ (v431 : Vec F S16 .f32) (v425 : FVec F S16 .f32) (v442 : FVec F S16 .f32) (v443 : FVec F S16 .f32) (v444 : FVec F S16 .f32) (v445 : FVec F S16 .f32) (v446 : FVec F S16 .f32) (v447 : FVec F S16 .f32) (v448 : FVec F S16 .f32) (v449 : FVec F S16 .f32) (v450 : FVec F S16 .f32) (v451 : FVec F S16 .f32) (v452 : FVec F S16 .f32) (v453 : IVec S16 1), v431 = (fun x => at2 fO b (28 * (u + ln x) + ((14#32).toNat + (w x).toNat))) → v425 = (k0_pay976 v356 v357 v401 v403) → v442 = (k0_pay978 v350 v356 v357 v397 v400 v401 v403 v404) → v443 = (k0_pay979 v149) → v444 = (k0_pay980 v152) → v445 = (k0_pay981 v155) → v446 = (k0_pay982 v158) → v447 = (k0_pay983 v161) → v448 = (k0_pay984 v164) → v449 = (k0_pay985 v167) → v450 = (k0_pay986 (F := F)) → v451 = (k0_pay987 (F := F)) → v452 = (k0_pay988 (F := F)) → v453 = (k0_pay989 v149 v152) →
      H ⊢ wp frame (wpE (defs₀ (F := F)) 𝒱₀ (thr d i) none) Set.univ (k ⟨v425, v431, v442, v443, v444, v445, v446, v447, v448, v449, v450, v451, v452, v453⟩) Q) :
    H ⊢ wp frame (wpE (defs₀ (F := F)) 𝒱₀ (thr d i) none) Set.univ (k0_part63 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_h12 v77 v83 v149 v152 v155 v158 v161 v164 v167 v350 v356 v357 v397 v400 v401 v403 v404 >>= k) Q := by
  rw [k0_part63_eq_skeleton]; unfold k0_part63_skel
  refine st_assume' d i (fun _ => chkW hix hvb hvc hb hu (by decide) hw) ?_
  refine st_gather' d i accO ?_
  refine st_pure d i ?_
  exact hk _ _ _ _ _ _ _ _ _ _ _ _ _ _ (ldW (f := (bO0.access (.whole S8x1792)).read (Elt F) fO) (g := fO) (Memref.read_access_whole _ _ _) hix hvb hvc hb hu (by decide) hw _) rfl rfl rfl rfl rfl rfl rfl rfl rfl rfl rfl rfl rfl

theorem w_part64 {α : Type} {k : ((Σ' (v495 : FVec F S16 .f32) (v496 : FVec F S16 .f32) (v497 : IVec S16 1) (v500 : FVec F S16 .f32) (v503 : FVec F S16 .f32), FVec F S16 .f32)) → Prog (TpuEff nD τ sig (Elt F) Λ₀ (thr d i).2) α} {Q : α → sProp 𝕄} {H : sProp 𝕄}
    (v443 : FVec F S16 .f32) (v444 : FVec F S16 .f32) (v445 : FVec F S16 .f32) (v446 : FVec F S16 .f32) (v447 : FVec F S16 .f32) (v448 : FVec F S16 .f32) (v450 : FVec F S16 .f32) (v451 : FVec F S16 .f32) (v452 : FVec F S16 .f32) (v453 : IVec S16 1)

    (hk : ∀ (v495 : FVec F S16 .f32) (v496 : FVec F S16 .f32) (v497 : IVec S16 1) (v500 : FVec F S16 .f32) (v503 : FVec F S16 .f32) (v504 : FVec F S16 .f32), v495 = (k0_pay1008 v443 v444 v445 v446 v447 v450 v453) → v496 = (k0_pay1009 v443 v444 v445 v446 v447) → v497 = (k0_pay1010 v443 v444 v445 v446 v447 v448) → v500 = (k0_pay1012 v443 v444 v445 v446 v447 v448 v451 v453) → v503 = (k0_pay1013 v443 v444 v445 v446 v447 v448 v450 v451 v452 v453) → v504 = (k0_pay1014 v443 v444 v445 v446 v447 v448) →
      H ⊢ wp frame (wpE (defs₀ (F := F)) 𝒱₀ (thr d i) none) Set.univ (k ⟨v495, v496, v497, v500, v503, v504⟩) Q) :
    H ⊢ wp frame (wpE (defs₀ (F := F)) 𝒱₀ (thr d i) none) Set.univ (k0_part64 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 v443 v444 v445 v446 v447 v448 v450 v451 v452 v453 >>= k) Q := by
  rw [k0_part64_eq_skeleton]; unfold k0_part64_skel
  refine st_pure d i ?_
  exact hk _ _ _ _ _ _ rfl rfl rfl rfl rfl rfl

theorem w_part65 {α : Type} {k : ((Σ' (v517 : FVec F S16 .f32) (v523 : Vec F S16 .f32) (v534 : FVec F S16 .f32) (v541 : IVec S16 32) (v542 : Vec F S16 .f32) (v545 : Vec F S16 .f32) (v548 : Vec F S16 .f32), IVec S16 32)) → Prog (TpuEff nD τ sig (Elt F) Λ₀ (thr d i).2) α} {Q : α → sProp 𝕄} {H : sProp 𝕄}
    (k0_h12 : k0_cond12 i = 1#1) (v64 : BitVec 32) (v75 : BitVec 32) (v76 : IVec S16 32) (v77 : IVec S16 32) (v83 : IVec S16 32) (v442 : FVec F S16 .f32) (v448 : FVec F S16 .f32) (v449 : FVec F S16 .f32) (v495 : FVec F S16 .f32) (v496 : FVec F S16 .f32) (v497 : IVec S16 1) (v500 : FVec F S16 .f32) (v503 : FVec F S16 .f32) (v504 : FVec F S16 .f32)
    {b : ℕ} (hb : b < 8) (hvb : ∀ x, ((v77 : IVec S16 32) x).toNat = b) {u : ℕ} (hu : u + 16 ≤ 64) (hvc : ∀ x, ((v83) x).toNat = 28 * (u + ln x)) {w : IVec S16 32} (hix : k0_pay1018 v83 v449 v495 v497 v504 = addi (addi (v83) (broadcast S16 21#32)) w) (hw : ∀ x, (w x).toNat < 7) {p : ℕ} (hp : p + 64 ≤ 1024) (hd : 4 ∣ p) (hvt : ∀ x, ((k0_pay1020 v64 v75 v76) x).toNat = p + 4 * ln x)
    {fO : Vec F S8x1792 .f32} (accO : H ⊢ iprop((((bO0.access (.whole S8x1792)).loc (thr d i)) ↦{fullShare} fO) ∗ ((((bO0.access (.whole S8x1792)).loc (thr d i)) ↦{fullShare} fO) -∗ H)))
    {fT : Vec F S1024 .f32} (accT : H ⊢ iprop((((bT.access (.whole S1024)).loc (thr d i)) ↦{fullShare} fT) ∗ ((((bT.access (.whole S1024)).loc (thr d i)) ↦{fullShare} fT) -∗ H)))
    (hk : ∀ (v523 : Vec F S16 .f32) (v542 : Vec F S16 .f32) (v545 : Vec F S16 .f32) (v548 : Vec F S16 .f32) (v517 : FVec F S16 .f32) (v534 : FVec F S16 .f32) (v541 : IVec S16 32) (v549 : IVec S16 32), v523 = (fun x => at2 fO b (28 * (u + ln x) + ((21#32).toNat + (w x).toNat))) → v542 = (fun x => at1 fT (p + 4 * ln x)) → v545 = (fun x => at1 fT (p + 4 * ln x + (1#32).toNat)) → v548 = (fun x => at1 fT (p + 4 * ln x + (2#32).toNat)) → v517 = (k0_pay1017 v449 v495 v497 v504) → v534 = (k0_pay1019 v442 v448 v449 v495 v496 v497 v500 v503 v504) → v541 = (k0_pay1020 v64 v75 v76) → v549 = (k0_pay1023) →
      H ⊢ wp frame (wpE (defs₀ (F := F)) 𝒱₀ (thr d i) none) Set.univ (k ⟨v517, v523, v534, v541, v542, v545, v548, v549⟩) Q) :
    H ⊢ wp frame (wpE (defs₀ (F := F)) 𝒱₀ (thr d i) none) Set.univ (k0_part65 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_h12 v64 v75 v76 v77 v83 v442 v448 v449 v495 v496 v497 v500 v503 v504 >>= k) Q := by
  rw [k0_part65_eq_skeleton]; unfold k0_part65_skel
  refine st_assume' d i (fun _ => chkW hix hvb hvc hb hu (by decide) hw) ?_
  refine st_gather' d i accO ?_
  refine st_assume' d i (fun _ => chkT hvt hp) ?_
  refine st_gather' d i accT ?_
  refine st_assume' d i (fun _ => chkT' hvt hp 1#32 (by decide)) ?_
  refine st_gather' d i accT ?_
  refine st_assume' d i (fun _ => chkT' hvt hp 2#32 (by decide)) ?_
  refine st_gather' d i accT ?_
  refine st_pure d i ?_
  exact hk _ _ _ _ _ _ _ _ (ldW (f := (bO0.access (.whole S8x1792)).read (Elt F) fO) (g := fO) (Memref.read_access_whole _ _ _) hix hvb hvc hb hu (by decide) hw _) (ldT (f := (bT.access (.whole S1024)).read (Elt F) fT) (g := fT) (Memref.read_access_whole _ _ _) hvt hp _) (ldT' (f := (bT.access (.whole S1024)).read (Elt F) fT) (g := fT) (Memref.read_access_whole _ _ _) hvt hp hd 1#32 (by decide) _) (ldT' (f := (bT.access (.whole S1024)).read (Elt F) fT) (g := fT) (Memref.read_access_whole _ _ _) hvt hp hd 2#32 (by decide) _) rfl rfl rfl rfl

theorem w_part66 {α : Type} {k : ((Σ' (v580 : FVec F S16 .f32) (v585 : FVec F S16 .f32) (v590 : FVec F S16 .f32) (v595 : FVec F S16 .f32), BitVec 32)) → Prog (TpuEff nD τ sig (Elt F) Λ₀ (thr d i).2) α} {Q : α → sProp 𝕄} {H : sProp 𝕄}
    (k0_h12 : k0_cond12 i = 1#1) (v242 : FVec F S16 .f32) (v248 : Vec F S16 .f32) (v333 : FVec F S16 .f32) (v339 : Vec F S16 .f32) (v425 : FVec F S16 .f32) (v431 : Vec F S16 .f32) (v517 : FVec F S16 .f32) (v523 : Vec F S16 .f32) (v541 : IVec S16 32) (v542 : Vec F S16 .f32) (v545 : Vec F S16 .f32) (v548 : Vec F S16 .f32) (v549 : IVec S16 32)
    (h_v549 : v549 = broadcast S16 3#32) {p : ℕ} (hp : p + 64 ≤ 1024) (hd : 4 ∣ p) (hvt : ∀ x, (v541 x).toNat = p + 4 * ln x)
    {fT : Vec F S1024 .f32} (accT : H ⊢ iprop((((bT.access (.whole S1024)).loc (thr d i)) ↦{fullShare} fT) ∗ ((((bT.access (.whole S1024)).loc (thr d i)) ↦{fullShare} fT) -∗ H)))
    (hk : ∀ (v551 : Vec F S16 .f32) (v580 : FVec F S16 .f32) (v585 : FVec F S16 .f32) (v590 : FVec F S16 .f32) (v595 : FVec F S16 .f32), v551 = (fun x => at1 fT (p + 4 * ln x + (3#32).toNat)) → v580 = (k0_pay1030 v242 v248 v542 v548) → v585 = (k0_pay1031 v333 v339 v542 v548) → v590 = (k0_pay1032 v425 v431 v545 v551) → v595 = (k0_pay1033 v517 v523 v545 v551) →
      H ⊢ wp frame (wpE (defs₀ (F := F)) 𝒱₀ (thr d i) none) Set.univ (k ⟨v580, v585, v590, v595, 0#32⟩) Q) :
    H ⊢ wp frame (wpE (defs₀ (F := F)) 𝒱₀ (thr d i) none) Set.univ (k0_part66 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_h12 v242 v248 v333 v339 v425 v431 v517 v523 v541 v542 v545 v548 v549 >>= k) Q := by
  subst h_v549
  rw [k0_part66_eq_skeleton]; unfold k0_part66_skel
  refine st_assume' d i (fun _ => chkT' hvt hp 3#32 (by decide)) ?_
  refine st_gather' d i accT ?_
  refine st_pure d i ?_
  exact hk _ _ _ _ _ (ldT' (f := (bT.access (.whole S1024)).read (Elt F) fT) (g := fT) (Memref.read_access_whole _ _ _) hvt hp hd 3#32 (by decide) _) rfl rfl rfl rfl

end Cert.Proof
-- ==== Proof.Words.lean ====
/- The integer words of the kernel, as numbers: the tile's number, its first block and block count, the row and
   column of each group of sixteen proposals, and the offsets of its loads, stores and copies. -/
module

public import proofs.«01_k».proof.Proof.GroupA
public import proofs.«01_k».proof.Proof.GroupB
public import proofs.«01_k».proof.Proof.GroupC

@[expose] public section

set_option maxRecDepth 65536

noncomputable section

namespace Cert.Proof

open Cert.KernelIdeal Cert.KernelIdeal.Gen
open Idealize.ShloMosaic

variable {F : FTy → Type} [FloatOps F]

/-- The tile's number among the 32. -/
def wid (i : grid0.Coords) : ℕ := 16 * (i 0).val + (i 1).val
/-- Its first block of 128 proposals, and how many blocks are its own. -/
def base (i : grid0.Coords) : ℕ := if wid i < 28 then 5 * wid i else 4 * wid i + 28
def cnt (i : grid0.Coords) : ℕ := if wid i < 28 then 5 else 4

/-- The batch row and the first column (within its half) of group `t`. -/
def rowOf (t : ℕ) : ℕ := t / 2 % 8
def colOf (t : ℕ) : ℕ := t / 16 * 32 + t % 2 * 16

theorem rowOf_lt (t : ℕ) : rowOf t < 8 := Nat.mod_lt _ (by decide)
theorem colOf_le {t : ℕ} (h : t < 32) : colOf t + 16 ≤ 64 := by unfold colOf; omega

theorem wid_lt (i : grid0.Coords) : wid i < 32 := by
  have h0 : (i 0).val < 2 := (i 0).isLt
  have h1 : (i 1).val < 16 := (i 1).isLt
  unfold wid; omega

theorem trips1 : ∀ i : grid0.Coords, (k0_t1_loop i).trips = 2 * cnt i := by decide +kernel
theorem trips4 : ∀ i : grid0.Coords, (k0_t4_loop i).trips = 0 := by decide +kernel
theorem trips2 : k0_t2_loop.trips = 32 := by decide +kernel
theorem trips3 : k0_t3_loop.trips = 32 := by decide +kernel
theorem trips7 : k0_t7_loop.trips = 16 := by decide +kernel

/-! ### The conditions -/

theorem cond1 : ∀ i : grid0.Coords, k0_cond1 i = 1#1 ↔ wid i < 28 := by decide +kernel
theorem cond2 : ∀ i : grid0.Coords, k0_cond2 i = 1#1 ↔ ¬ wid i < 28 := by decide +kernel
theorem cond4 : ∀ (i : grid0.Coords) (t : Fin (k0_t1_loop i).trips), k0_cond4 i t = 1#1 ↔ t.val % 2 = 0 := by decide +kernel
theorem cond5 : ∀ (i : grid0.Coords) (t : Fin (k0_t1_loop i).trips), k0_cond5 i t = 1#1 ↔ t.val + 2 < 2 * cnt i := by decide +kernel
theorem cond6 : ∀ (i : grid0.Coords) (t : Fin (k0_t1_loop i).trips), k0_cond6 i t = 1#1 ↔ t.val % 2 = 1 := by decide +kernel
theorem cond7 : ∀ (i : grid0.Coords) (t : Fin (k0_t1_loop i).trips), k0_cond7 i t = 1#1 ↔ t.val + 2 < 2 * cnt i := by decide +kernel
theorem cond12 : ∀ i : grid0.Coords, k0_cond12 i = 1#1 ↔ wid i = 31 := by decide +kernel
theorem cond13 : ∀ i : grid0.Coords, k0_cond13 i = 1#1 ↔ wid i < 28 := by decide +kernel
theorem cond14 : ∀ i : grid0.Coords, k0_cond14 i = 1#1 ↔ (28 ≤ wid i ∧ wid i < 31) := by decide +kernel
theorem cond15 : ∀ i : grid0.Coords, k0_cond15 i = 1#1 ↔ wid i = 31 := by decide +kernel

/-! ### The groups of an even half -/

theorem a_row (t : Fin k0_t2_loop.trips) : (p1_v111 0#32 1#32 t).toNat = rowOf t.val := by
  revert t; decide +kernel

theorem a_col (t : Fin k0_t2_loop.trips) (x : S16.Idx) :
    (k0_pay1 (p1_arg19 0#32 1#32 t) (p1_v112 0#32 1#32 t) (p1_v123 0#32 1#32 t) (p1_v124 0#32 1#32 t) 0#32 x).toNat = 28 * (colOf t.val + ln x) := by
  revert t x; decide +kernel

theorem a_prop (lb : Fin 5) (t : Fin k0_t2_loop.trips) (x : S16.Idx) :
    (k0_pay193 (p2_v143 (BitVec.ofNat 32 lb.val)) (iota .scVector S16 32 [0] iota_S16_d0_w32_scVector)
      (p2_v147 (p1_arg19 0#32 1#32 t) (p1_v112 0#32 1#32 t) (p1_v123 0#32 1#32 t) (p1_v124 0#32 1#32 t) 0#32) x).toNat
      = 128 * lb.val + colOf t.val + ln x := by
  revert lb t x; decide +kernel

theorem a_out (t : Fin k0_t2_loop.trips) (x : S16.Idx) :
    (k0_pay206 (iota .scVector S16 32 [0] iota_S16_d0_w32_scVector)
      (p2_v147 (p1_arg19 0#32 1#32 t) (p1_v112 0#32 1#32 t) (p1_v123 0#32 1#32 t) (p1_v124 0#32 1#32 t) 0#32) x).toNat
      = colOf t.val + ln x := by
  revert t x; decide +kernel

theorem off5 : ∀ (i : grid0.Coords) (t : Fin (k0_t1_loop i).trips) (g : Fin k0_t2_loop.trips),
    k0_off5 i t g 0 = 672 * rowOf g.val + 128 * (t.val / 2) + colOf g.val := by decide +kernel

/-! ### The groups of an odd half -/

theorem b_row (t : Fin k0_t3_loop.trips) : (p14_v112 0#32 1#32 t).toNat = rowOf t.val := by
  revert t; decide +kernel

theorem b_col (t : Fin k0_t3_loop.trips) (x : S16.Idx) :
    (k0_pay208 (p14_arg19 0#32 1#32 t) (p14_v113 0#32 1#32 t) (p14_v124 0#32 1#32 t) (p14_v125 0#32 1#32 t) 0#32 x).toNat = 28 * (colOf t.val + ln x) := by
  revert t x; decide +kernel

theorem b_prop (lb : Fin 5) (t : Fin k0_t3_loop.trips) (x : S16.Idx) :
    (k0_pay400 (p15_v144 (BitVec.ofNat 32 lb.val)) (iota .scVector S16 32 [0] iota_S16_d0_w32_scVector)
      (p15_v148 (p14_arg19 0#32 1#32 t) (p14_v113 0#32 1#32 t) (p14_v124 0#32 1#32 t) (p14_v125 0#32 1#32 t) 0#32) x).toNat
      = 128 * lb.val + 64 + colOf t.val + ln x := by
  revert lb t x; decide +kernel

theorem b_out (t : Fin k0_t3_loop.trips) (x : S16.Idx) :
    (k0_pay413 (iota .scVector S16 32 [0] iota_S16_d0_w32_scVector)
      (p15_v148 (p14_arg19 0#32 1#32 t) (p14_v113 0#32 1#32 t) (p14_v124 0#32 1#32 t) (p14_v125 0#32 1#32 t) 0#32) x).toNat
      = 64 + colOf t.val + ln x := by
  revert t x; decide +kernel

theorem off8 : ∀ (i : grid0.Coords) (t : Fin (k0_t1_loop i).trips) (g : Fin k0_t3_loop.trips),
    k0_off8 i t g 0 = 672 * rowOf g.val + 128 * (t.val / 2) + 64 + colOf g.val := by decide +kernel

/-! ### The groups of the last 32 proposals -/

theorem c_row (t : Fin k0_t7_loop.trips) : (p55_v64 0#32 1#32 t).toNat = t.val / 2 := by
  revert t; decide +kernel

theorem c_col (t : Fin k0_t7_loop.trips) (x : S16.Idx) :
    (k0_pay829 0#32 1#32 t x).toNat = 28 * (16 * (t.val % 2) + ln x) := by
  revert t x; decide +kernel

theorem c_prop (t : Fin k0_t7_loop.trips) (x : S16.Idx) :
    (k0_pay1020 (p55_v64 0#32 1#32 t) (p55_v75 0#32 1#32 t) (iota .scVector S16 32 [0] iota_S16_d0_w32_scVector) x).toNat
      = 128 * (t.val / 2) + 64 * (t.val % 2) + 4 * ln x := by
  revert t x; decide +kernel

theorem c_out (t : Fin k0_t7_loop.trips) (x : S16.Idx) :
    (k0_pay1034 (iota .scVector S16 32 [0] iota_S16_d0_w32_scVector) (p55_v78 0#32 1#32 t) x).toNat = 16 * (t.val % 2) + ln x := by
  revert t x; decide +kernel

theorem off18 : ∀ (g : Fin k0_t7_loop.trips), k0_off18 g 0 = 672 * (g.val / 2) + 512 + 16 * (g.val % 2) := by decide +kernel

/-! ### The copies -/

theorem off9 : ∀ (i : grid0.Coords) (t : Fin (k0_t1_loop i).trips), k0_off9 i t = ![0, 0, 128 * (base i + t.val / 2)] := by decide +kernel

end Cert.Proof
-- ==== Proof.Cells.lean ====
/- One group of sixteen proposals: what it stores, as functions of the buffers it reads; and the last steps of a group, plain loads and stores. -/
module

public import proofs.«01_k».proof.Proof.Reads

@[expose] public section

set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

local notation "𝕄" => MT nD τ sig (HIx 1) (Elt F) ℕ UU ℕ

/-- The scratches of tile `i`. -/
abbrev lC0 := (thr d i).loc cc0_scratch0
abbrev lC1 := (thr d i).loc cc0_scratch1
abbrev lO0 := (thr d i).loc cc0_scratch2
abbrev lO1 := (thr d i).loc cc0_scratch3
abbrev lP := (thr d i).loc cc0_scratch4
abbrev lB := (thr d i).loc cc0_scratch5
abbrev lF := (thr d i).loc cc0_scratch6
abbrev lT := (thr d i).loc cc0_scratch7

/-- The twenty-eight values of proposal `n` of a half buffer, batch row `b`. -/
def laneAt (f : Vec F S8x1792 .f32) (b n : ℕ) : Fin 28 → F .f32 := fun j => at2 f b (28 * n + j.val)
/-- Its four coordinates in the proposals' slice, at place `p`. -/
def propAt (f : Vec F S8x4x640 .f32) (b p : ℕ) : Fin 4 → F .f32 := fun k => at3 f b k.val p
/-- The four coordinates of one of the last proposals, from place `p` of the flat buffer. -/
def tailAt (f : Vec F S1024 .f32) (p : ℕ) : Fin 4 → F .f32 := fun k => at1 f (p + k.val)

/-- The confidences' scratch with sixteen places from `o` on replaced. -/
def putSeg (f : Vec F S5376 .f32) (o : ℕ) (v : ℕ → F .f32) : Vec F S5376 .f32 :=
  fun y => if o ≤ (y 0).val ∧ (y 0).val < o + 16 then v ((y 0).val - o) else f y

theorem write_seg (off : Fin 1 → ℕ) (h : ∀ a, off a + S16.size a ≤ S5376.size a) (f : Vec F S5376 .f32) (v : Vec F S16 .f32) (w : ℕ → F .f32)
    (hw : ∀ x, v x = w (ln x)) :
    (bF.access (Rect.unit (s := S5376) off S16.size h)).write (Elt F) f v Finset.univ = putSeg f (off 0) w := by
  funext y
  have e1 : ∀ g : Vec F S5376 .f32, bF.view.read (Elt F) g y = g y := fun g => congrFun (View.read_whole cc0_scratch6 g) y
  refine (e1 _).symm.trans ?_
  show bF.view.read (Elt F) (bF.view.writes (Elt F) f [⟨Rect.unit (s := S5376) off S16.size h, v⟩]) y = _
  unfold putSeg
  by_cases hy : off 0 ≤ (y 0).val ∧ (y 0).val < off 0 + 16
  · rw [if_pos hy]
    let x : S16.Idx := fun a => ⟨(y 0).val - off 0, by fin_cases a; show (y 0).val - off 0 < 16; omega⟩
    have := hw x
    refine (View.read_writes_cons_hit_of_coords bF.view f (Rect.unit (s := S5376) off S16.size h) v [] x y ?_).trans this
    intro a; fin_cases a
    show (y 0).val = off 0 + 1 * ((y 0).val - off 0); omega
  · rw [if_neg hy]
    refine (View.read_writes_cons_miss_of_axis bF.view f ⟨Rect.unit (s := S5376) off S16.size h, v⟩ [] y 0 (off 0) 16 rfl rfl rfl (by omega)).trans (e1 f)

/-- A plain load out of a scratch the context holds whole. -/
theorem st_load {s : Shape} {e : EltTy} {m : Memref sig (thr d i).2.kind .vmem s e} {r : LoadRect s} {hl : m.view.LoadsAt r} {α : Type}
    {k : (r.shape.Idx → Elt F e) → Prog (TpuEff nD τ sig (Elt F) Λ₀ (thr d i).2) α} {Q : α → sProp 𝕄} {H : sProp 𝕄} {q : PosShare TreeShare}
    {f : Buf (Elt F) (m.view.loc (thr d i))}
    (acc : H ⊢ iprop((m.view.loc (thr d i) ↦{q} f) ∗ ((m.view.loc (thr d i) ↦{q} f) -∗ H)))
    (hk : ∀ v, H ⊢ wp frame (wpE (defs₀ (F := F)) 𝒱₀ (thr d i) none) Set.univ (k v) Q) :
    H ⊢ wp frame (wpE (defs₀ (F := F)) 𝒱₀ (thr d i) none) Set.univ (Prog.lift (.load m r hl) >>= k) Q := by
  refine acc.trans ?_
  iintro ⟨Hp, Hb⟩
  iapply (wp_load (defs := defs₀ (F := F)) 𝒱₀ (thr d i) none Set.univ (m := m) (S := Finset.univ) (q := q) (f := f) (Finset.subset_univ _)) $$ Hp
  iintro Hp
  iapply (hk _)
  iapply Hb $$ Hp

/-- A plain store into a scratch the context holds whole. -/
theorem st_store {s : Shape} {e : EltTy} {m : Memref sig (thr d i).2.kind .vmem s e} {r : Rect s} {w : r.shape.Idx → Elt F e} {Mk : Finset r.shape.Idx}
    {hx : (m.access r).Stores Mk} {hm : Mk = Finset.univ ∨ ∀ a, r.stride a = 1} {α : Type}
    {k : PUnit → Prog (TpuEff nD τ sig (Elt F) Λ₀ (thr d i).2) α} {Q : α → sProp 𝕄} {H H' : sProp 𝕄}
    {f g : Buf (Elt F) ((m.access r).loc (thr d i))} (hg : (m.access r).write (Elt F) f w Mk = g)
    (acc : H ⊢ iprop(((m.access r).loc (thr d i) ↦{fullShare} f) ∗ (((m.access r).loc (thr d i) ↦{fullShare} g) -∗ H')))
    (hk : H' ⊢ wp frame (wpE (defs₀ (F := F)) 𝒱₀ (thr d i) none) Set.univ (k ⟨⟩) Q) :
    H ⊢ wp frame (wpE (defs₀ (F := F)) 𝒱₀ (thr d i) none) Set.univ (Prog.lift (.store m r w Mk hx hm) >>= k) Q := by
  refine acc.trans ?_
  subst hg
  iintro ⟨Hp, Hb⟩
  iapply (wp_store (defs := defs₀ (F := F)) 𝒱₀ (thr d i) none Set.univ (m := m) (S := Finset.univ) (f := f) (Finset.subset_univ _)) $$ Hp
  iintro Hp
  iapply hk
  iapply Hb $$ Hp

section Acc

theorem acc1 (A B C D E : sProp 𝕄) : iprop(A ∗ B ∗ C ∗ D ∗ E) ⊢ iprop(A ∗ (A -∗ A ∗ B ∗ C ∗ D ∗ E)) := by
  iintro ⟨H1, H2, H3, H4, H5⟩; isplitl [H1]
  · iexact H1
  · iintro H1; isplitl [H1]
    · iexact H1
    · isplitl [H2]
      · iexact H2
      · isplitl [H3]
        · iexact H3
        · isplitl [H4]
          · iexact H4
          · iexact H5

theorem acc2 (A B C D E : sProp 𝕄) : iprop(A ∗ B ∗ C ∗ D ∗ E) ⊢ iprop(B ∗ (B -∗ A ∗ B ∗ C ∗ D ∗ E)) := by
  iintro ⟨H1, H2, H3, H4, H5⟩; isplitl [H2]
  · iexact H2
  · iintro H2; isplitl [H1]
    · iexact H1
    · isplitl [H2]
      · iexact H2
      · isplitl [H3]
        · iexact H3
        · isplitl [H4]
          · iexact H4
          · iexact H5

theorem acc3 (A B C D E : sProp 𝕄) : iprop(A ∗ B ∗ C ∗ D ∗ E) ⊢ iprop(C ∗ (C -∗ A ∗ B ∗ C ∗ D ∗ E)) := by
  iintro ⟨H1, H2, H3, H4, H5⟩; isplitl [H3]
  · iexact H3
  · iintro H3; isplitl [H1]
    · iexact H1
    · isplitl [H2]
      · iexact H2
      · isplitl [H3]
        · iexact H3
        · isplitl [H4]
          · iexact H4
          · iexact H5

theorem acc4 (A B C D E : sProp 𝕄) (D' : sProp 𝕄) : iprop(A ∗ B ∗ C ∗ D ∗ E) ⊢ iprop(D ∗ (D' -∗ A ∗ B ∗ C ∗ D' ∗ E)) := by
  iintro ⟨H1, H2, H3, H4, H5⟩; isplitl [H4]
  · iexact H4
  · iintro H4; isplitl [H1]
    · iexact H1
    · isplitl [H2]
      · iexact H2
      · isplitl [H3]
        · iexact H3
        · isplitl [H4]
          · iexact H4
          · iexact H5

theorem acc5 (A B C D E : sProp 𝕄) (E' : sProp 𝕄) : iprop(A ∗ B ∗ C ∗ D ∗ E) ⊢ iprop(E ∗ (E' -∗ A ∗ B ∗ C ∗ D ∗ E')) := by
  iintro ⟨H1, H2, H3, H4, H5⟩; isplitl [H5]
  · iexact H5
  · iintro H5; isplitl [H1]
    · iexact H1
    · isplitl [H2]
      · iexact H2
      · isplitl [H3]
        · iexact H3
        · isplitl [H4]
          · iexact H4
          · iexact H5

end Acc

/-- What a group leaves in the boxes' scratch: `w k n` is coordinate `k` of its proposal `n`. -/
def putBox (f : Vec F S8x4x128 .f32) (b p : ℕ) (w : ℕ → ℕ → F .f32) : Vec F S8x4x128 .f32 :=
  putRow (putRow (putRow (putRow f b 0 p (w 0)) b 1 p (w 1)) b 2 p (w 2)) b 3 p (w 3)

theorem putBox_apply (f : Vec F S8x4x128 .f32) (b p : ℕ) (w : ℕ → ℕ → F .f32) (y : S8x4x128.Idx) :
    putBox f b p w y = if (y 0).val = b ∧ p ≤ (y 2).val ∧ (y 2).val < p + 16 then w (y 1).val ((y 2).val - p) else f y := by
  have h1 : (y 1).val < 4 := (y 1).isLt
  unfold putBox putRow
  generalize (y 1).val = k at *
  by_cases hb : (y 0).val = b ∧ p ≤ (y 2).val ∧ (y 2).val < p + 16
  · rw [if_pos hb]
    obtain ⟨h, h2, h3⟩ := hb
    simp only [h, h2, h3, true_and, and_true]
    rcases (by omega : k = 0 ∨ k = 1 ∨ k = 2 ∨ k = 3) with rfl | rfl | rfl | rfl <;> simp
  · rw [if_neg hb]
    have : ∀ j, ¬ ((y 0).val = b ∧ k = j ∧ p ≤ (y 2).val ∧ (y 2).val < p + 16) := fun j hj => hb ⟨hj.1, hj.2.2⟩
    rw [if_neg (this 3), if_neg (this 2), if_neg (this 1), if_neg (this 0)]

/-- What a group computes: coordinate `k` of its proposal `n`, and the confidence of its proposal `n`. -/
def groupBox (fC fO : Vec F S8x1792 .f32) (b u : ℕ) (pr : ℕ → Fin 4 → F .f32) : ℕ → ℕ → F .f32 :=
  fun k n => laneBox (laneAt fC b (u + n)) (laneAt fO b (u + n)) (pr n) ⟨k % 4, Nat.mod_lt _ (by decide)⟩
def groupConf (fC : Vec F S8x1792 .f32) (b u : ℕ) : ℕ → F .f32 := fun n => laneConf (laneAt fC b (u + n))

end Cert.Proof
-- ==== Proof.ChainA.lean ====
/- One group of an even half, from its parts: the values it stores. -/
module

public import proofs.«01_k».proof.Proof.Words
public import proofs.«01_k».proof.Proof.Cells

@[expose] public section

set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

local notation "𝕄" => MT nD τ sig (HIx 1) (Elt F) ℕ UU ℕ

theorem w_part13 {α : Type} {k : ((Σ' (v667 : FVec F S16 .f32), BitVec 32)) → Prog (TpuEff nD τ sig (Elt F) Λ₀ (thr d i).2) α} {Q : α → sProp 𝕄} {Hs : Vec F S8x4x128 .f32 → sProp 𝕄}
    (k0_t1 : Fin (k0_t1_loop i).trips) (k0_h4 : k0_cond4 i k0_t1 = 1#1) (v111 : BitVec 32) (v144 : IVec S16 32) (v145 : IVec S16 32) (v147 : BitVec 32) (v311 : FVec F S16 .f32) (v317 : Vec F S16 .f32) (v402 : FVec F S16 .f32) (v408 : Vec F S16 .f32) (v494 : FVec F S16 .f32) (v500 : Vec F S16 .f32) (v586 : FVec F S16 .f32) (v592 : Vec F S16 .f32) (v603 : FVec F S16 .f32) (v616 : FVec F S16 .f32) (v619 : FVec F S16 .f32) (v622 : FVec F S16 .f32) (v625 : FVec F S16 .f32) (v628 : FVec F S16 .f32)
    {b : ℕ} (hb : b < 8) (hvb : ∀ x, (v145 x).toNat = b) {p : ℕ} (hp : p + 16 ≤ 128) (hvp : ∀ x, ((k0_pay206 v144 v147) x).toNat = p + ln x)
    {w : ℕ → ℕ → F .f32}
    (hw0 : ∀ x, (k0_pay202 v311 v317 v619 v625) x = w 0 (ln x))
    (hw1 : ∀ x, (k0_pay204 v494 v500 v616 v622) x = w 1 (ln x))
    (hw2 : ∀ x, (k0_pay203 v402 v408 v619 v628) x = w 2 (ln x))
    (hw3 : ∀ x, (k0_pay205 v586 v592 v616 v622) x = w 3 (ln x))
    {f : Vec F S8x4x128 .f32} (acc : ∀ f g, Hs f ⊢ iprop((lB d i ↦{fullShare} f) ∗ ((lB d i ↦{fullShare} g) -∗ Hs g)))
    (hk : Hs (putBox f b p w) ⊢ wp frame (wpE (defs₀ (F := F)) 𝒱₀ (thr d i) none) Set.univ (k ⟨k0_pay207 v603, Scalar.muli v111 672#32⟩) Q) :
    Hs f ⊢ wp frame (wpE (defs₀ (F := F)) 𝒱₀ (thr d i) none) Set.univ (k0_part13 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_t1 k0_h4 v111 v144 v145 v147 v311 v317 v402 v408 v494 v500 v586 v592 v603 v616 v619 v622 v625 v628 >>= k) Q := by
  rw [k0_part13_eq_skeleton]; unfold k0_part13_skel
  refine st_assume' d i ⟨fun _ => chkB hvb hb hvp hp 0#32 (by decide), fun _ => chkB hvb hb hvp hp 1#32 (by decide), fun _ => chkB hvb hb hvp hp 2#32 (by decide), fun _ => chkB hvb hb hvp hp 3#32 (by decide)⟩ ?_
  refine st_scatter' d i (Memref.set_access_whole _) ((Memref.write_access_whole_univ _ _ _ _).trans (stB (Memref.read_access_whole _ _ _) hvb hb hvp hp 0#32 (by decide) _ (w 0) hw0 _)) (acc _ _) ?_
  refine st_scatter' d i (Memref.set_access_whole _) ((Memref.write_access_whole_univ _ _ _ _).trans (stB (Memref.read_access_whole _ _ _) hvb hb hvp hp 1#32 (by decide) _ (w 1) hw1 _)) (acc _ _) ?_
  refine st_scatter' d i (Memref.set_access_whole _) ((Memref.write_access_whole_univ _ _ _ _).trans (stB (Memref.read_access_whole _ _ _) hvb hb hvp hp 2#32 (by decide) _ (w 2) hw2 _)) (acc _ _) ?_
  refine st_scatter' d i (Memref.set_access_whole _) ((Memref.write_access_whole_univ _ _ _ _).trans (stB (Memref.read_access_whole _ _ _) hvb hb hvp hp 3#32 (by decide) _ (w 3) hw3 _)) (acc _ _) ?_
  refine st_pure d i ?_
  exact hk

theorem a_ix0 (fC fO : Vec F S8x1792 .f32) (fP : Vec F S8x4x640 .f32) (b u p : ℕ) (v152 : IVec S16 32) {v167 : Vec F S16 .f32} {v241 : FVec F S16 .f32} {v170 : Vec F S16 .f32} {v242 : FVec F S16 .f32} {v173 : Vec F S16 .f32} {v243 : FVec F S16 .f32} {v155 : Vec F S16 .f32} {v158 : Vec F S16 .f32} {v161 : Vec F S16 .f32} {v164 : Vec F S16 .f32} {v276 : FVec F S16 .f32} {v278 : FVec F S16 .f32} {v280 : IVec S16 1}
    (h_v167 : v167 = (fun x => at2 fC b (28 * (u + ln x) + (4#32).toNat))) (h_v241 : v241 = (k0_pay34 v167)) (h_v170 : v170 = (fun x => at2 fC b (28 * (u + ln x) + (5#32).toNat))) (h_v242 : v242 = (k0_pay35 v170)) (h_v173 : v173 = (fun x => at2 fC b (28 * (u + ln x) + (6#32).toNat))) (h_v243 : v243 = (k0_pay36 v173)) (h_v155 : v155 = (fun x => at2 fC b (28 * (u + ln x) + (0#32).toNat))) (h_v158 : v158 = (fun x => at2 fC b (28 * (u + ln x) + (1#32).toNat))) (h_v161 : v161 = (fun x => at2 fC b (28 * (u + ln x) + (2#32).toNat))) (h_v164 : v164 = (fun x => at2 fC b (28 * (u + ln x) + (3#32).toNat))) (h_v276 : v276 = (k0_pay53 v155 v158 v161 v164)) (h_v278 : v278 = (k0_pay54 v155 v158 v161 v164)) (h_v280 : v280 = (k0_pay56 v155 v158 v161 v164 v167)) :
    k0_pay66 v152 v241 v242 v243 v276 v278 v280 = addi (addi v152 (broadcast S16 0#32)) (fun x => bestIdx (sideOf (laneAt fC b (u + ln x)) 0)) := by
  subst h_v280 h_v278 h_v276 h_v164 h_v161 h_v158 h_v155 h_v243 h_v173 h_v242 h_v170 h_v241 h_v167
  rfl

theorem a_ix1 (fC fO : Vec F S8x1792 .f32) (fP : Vec F S8x4x640 .f32) (b u p : ℕ) (v152 : IVec S16 32) {v191 : Vec F S16 .f32} {v333 : FVec F S16 .f32} {v194 : Vec F S16 .f32} {v334 : FVec F S16 .f32} {v176 : Vec F S16 .f32} {v328 : FVec F S16 .f32} {v179 : Vec F S16 .f32} {v329 : FVec F S16 .f32} {v182 : Vec F S16 .f32} {v330 : FVec F S16 .f32} {v185 : Vec F S16 .f32} {v331 : FVec F S16 .f32} {v188 : Vec F S16 .f32} {v332 : FVec F S16 .f32} {v378 : FVec F S16 .f32} {v380 : FVec F S16 .f32} {v382 : IVec S16 1}
    (h_v191 : v191 = (fun x => at2 fC b (28 * (u + ln x) + (12#32).toNat))) (h_v333 : v333 = (k0_pay73 v191)) (h_v194 : v194 = (fun x => at2 fC b (28 * (u + ln x) + (13#32).toNat))) (h_v334 : v334 = (k0_pay74 v194)) (h_v176 : v176 = (fun x => at2 fC b (28 * (u + ln x) + (7#32).toNat))) (h_v328 : v328 = (k0_pay68 v176)) (h_v179 : v179 = (fun x => at2 fC b (28 * (u + ln x) + (8#32).toNat))) (h_v329 : v329 = (k0_pay69 v179)) (h_v182 : v182 = (fun x => at2 fC b (28 * (u + ln x) + (9#32).toNat))) (h_v330 : v330 = (k0_pay70 v182)) (h_v185 : v185 = (fun x => at2 fC b (28 * (u + ln x) + (10#32).toNat))) (h_v331 : v331 = (k0_pay71 v185)) (h_v188 : v188 = (fun x => at2 fC b (28 * (u + ln x) + (11#32).toNat))) (h_v332 : v332 = (k0_pay72 v188)) (h_v378 : v378 = (k0_pay96 v328 v329 v330 v331 v332)) (h_v380 : v380 = (k0_pay97 v328 v329 v330 v331 v332)) (h_v382 : v382 = (k0_pay99 v328 v329 v330 v331 v332 v333)) :
    k0_pay105 v152 v333 v334 v378 v380 v382 = addi (addi v152 (broadcast S16 7#32)) (fun x => bestIdx (sideOf (laneAt fC b (u + ln x)) 1)) := by
  subst h_v382 h_v380 h_v378 h_v332 h_v188 h_v331 h_v185 h_v330 h_v182 h_v329 h_v179 h_v328 h_v176 h_v334 h_v194 h_v333 h_v191
  rfl

theorem a_ix2 (fC fO : Vec F S8x1792 .f32) (fP : Vec F S8x4x640 .f32) (b u p : ℕ) (v152 : IVec S16 32) {v215 : Vec F S16 .f32} {v426 : FVec F S16 .f32} {v197 : Vec F S16 .f32} {v420 : FVec F S16 .f32} {v200 : Vec F S16 .f32} {v421 : FVec F S16 .f32} {v203 : Vec F S16 .f32} {v422 : FVec F S16 .f32} {v206 : Vec F S16 .f32} {v423 : FVec F S16 .f32} {v209 : Vec F S16 .f32} {v424 : FVec F S16 .f32} {v427 : FVec F S16 .f32} {v430 : IVec S16 1} {v472 : FVec F S16 .f32} {v212 : Vec F S16 .f32} {v425 : FVec F S16 .f32} {v474 : IVec S16 1} {v481 : FVec F S16 .f32} {v482 : FVec F S16 .f32}
    (h_v215 : v215 = (fun x => at2 fC b (28 * (u + ln x) + (20#32).toNat))) (h_v426 : v426 = (k0_pay113 v215)) (h_v197 : v197 = (fun x => at2 fC b (28 * (u + ln x) + (14#32).toNat))) (h_v420 : v420 = (k0_pay107 v197)) (h_v200 : v200 = (fun x => at2 fC b (28 * (u + ln x) + (15#32).toNat))) (h_v421 : v421 = (k0_pay108 v200)) (h_v203 : v203 = (fun x => at2 fC b (28 * (u + ln x) + (16#32).toNat))) (h_v422 : v422 = (k0_pay109 v203)) (h_v206 : v206 = (fun x => at2 fC b (28 * (u + ln x) + (17#32).toNat))) (h_v423 : v423 = (k0_pay110 v206)) (h_v209 : v209 = (fun x => at2 fC b (28 * (u + ln x) + (18#32).toNat))) (h_v424 : v424 = (k0_pay111 v209)) (h_v427 : v427 = (k0_pay114 (F := F))) (h_v430 : v430 = (k0_pay117 v197 v200)) (h_v472 : v472 = (k0_pay137 v420 v421 v422 v423 v424 v427 v430)) (h_v212 : v212 = (fun x => at2 fC b (28 * (u + ln x) + (19#32).toNat))) (h_v425 : v425 = (k0_pay112 v212)) (h_v474 : v474 = (k0_pay139 v420 v421 v422 v423 v424 v425)) (h_v481 : v481 = (k0_pay143 v420 v421 v422 v423 v424 v425)) (h_v482 : v482 = (k0_pay144 (F := F))) :
    k0_pay148 v152 v426 v472 v474 v481 v482 = addi (addi v152 (broadcast S16 14#32)) (fun x => bestIdx (sideOf (laneAt fC b (u + ln x)) 2)) := by
  subst h_v482 h_v481 h_v474 h_v425 h_v212 h_v472 h_v430 h_v427 h_v424 h_v209 h_v423 h_v206 h_v422 h_v203 h_v421 h_v200 h_v420 h_v197 h_v426 h_v215
  rfl

theorem a_ix3 (fC fO : Vec F S8x1792 .f32) (fP : Vec F S8x4x640 .f32) (b u p : ℕ) (v152 : IVec S16 32) {v224 : Vec F S16 .f32} {v514 : FVec F S16 .f32} {v227 : Vec F S16 .f32} {v515 : FVec F S16 .f32} {v230 : Vec F S16 .f32} {v516 : FVec F S16 .f32} {v233 : Vec F S16 .f32} {v517 : FVec F S16 .f32} {v218 : Vec F S16 .f32} {v221 : Vec F S16 .f32} {v529 : FVec F S16 .f32} {v531 : FVec F S16 .f32} {v575 : FVec F S16 .f32} {v236 : Vec F S16 .f32} {v518 : FVec F S16 .f32} {v577 : IVec S16 1}
    (h_v224 : v224 = (fun x => at2 fC b (28 * (u + ln x) + (23#32).toNat))) (h_v514 : v514 = (k0_pay152 v224)) (h_v227 : v227 = (fun x => at2 fC b (28 * (u + ln x) + (24#32).toNat))) (h_v515 : v515 = (k0_pay153 v227)) (h_v230 : v230 = (fun x => at2 fC b (28 * (u + ln x) + (25#32).toNat))) (h_v516 : v516 = (k0_pay154 v230)) (h_v233 : v233 = (fun x => at2 fC b (28 * (u + ln x) + (26#32).toNat))) (h_v517 : v517 = (k0_pay155 v233)) (h_v218 : v218 = (fun x => at2 fC b (28 * (u + ln x) + (21#32).toNat))) (h_v221 : v221 = (fun x => at2 fC b (28 * (u + ln x) + (22#32).toNat))) (h_v529 : v529 = (k0_pay163 v218 v221)) (h_v531 : v531 = (k0_pay164 v218 v221)) (h_v575 : v575 = (k0_pay184 v514 v515 v516 v517 v529 v531)) (h_v236 : v236 = (fun x => at2 fC b (28 * (u + ln x) + (27#32).toNat))) (h_v518 : v518 = (k0_pay156 v236)) (h_v577 : v577 = (k0_pay186 v514 v515 v516 v517 v518 v529)) :
    k0_pay191 v152 v575 v577 = addi (addi v152 (broadcast S16 21#32)) (fun x => bestIdx (sideOf (laneAt fC b (u + ln x)) 3)) := by
  subst h_v577 h_v518 h_v236 h_v575 h_v531 h_v529 h_v221 h_v218 h_v517 h_v233 h_v516 h_v230 h_v515 h_v227 h_v514 h_v224
  rfl

theorem a_box0 (fC fO : Vec F S8x1792 .f32) (fP : Vec F S8x4x640 .f32) (b u p : ℕ)  {v167 : Vec F S16 .f32} {v241 : FVec F S16 .f32} {v170 : Vec F S16 .f32} {v242 : FVec F S16 .f32} {v173 : Vec F S16 .f32} {v243 : FVec F S16 .f32} {v155 : Vec F S16 .f32} {v158 : Vec F S16 .f32} {v161 : Vec F S16 .f32} {v164 : Vec F S16 .f32} {v276 : FVec F S16 .f32} {v278 : FVec F S16 .f32} {v280 : IVec S16 1} {v311 : FVec F S16 .f32} {v317 : Vec F S16 .f32} {v611 : Vec F S16 .f32} {v613 : Vec F S16 .f32} {v619 : FVec F S16 .f32} {v625 : FVec F S16 .f32}
    (h_v167 : v167 = (fun x => at2 fC b (28 * (u + ln x) + (4#32).toNat))) (h_v241 : v241 = (k0_pay34 v167)) (h_v170 : v170 = (fun x => at2 fC b (28 * (u + ln x) + (5#32).toNat))) (h_v242 : v242 = (k0_pay35 v170)) (h_v173 : v173 = (fun x => at2 fC b (28 * (u + ln x) + (6#32).toNat))) (h_v243 : v243 = (k0_pay36 v173)) (h_v155 : v155 = (fun x => at2 fC b (28 * (u + ln x) + (0#32).toNat))) (h_v158 : v158 = (fun x => at2 fC b (28 * (u + ln x) + (1#32).toNat))) (h_v161 : v161 = (fun x => at2 fC b (28 * (u + ln x) + (2#32).toNat))) (h_v164 : v164 = (fun x => at2 fC b (28 * (u + ln x) + (3#32).toNat))) (h_v276 : v276 = (k0_pay53 v155 v158 v161 v164)) (h_v278 : v278 = (k0_pay54 v155 v158 v161 v164)) (h_v280 : v280 = (k0_pay56 v155 v158 v161 v164 v167)) (h_v311 : v311 = (k0_pay65 v241 v242 v243 v276 v278 v280)) (h_v317 : v317 = (fun x => laneAt fO b (u + ln x) (offIdx (laneAt fC b (u + ln x)) 0))) (h_v611 : v611 = (fun x => at3 fP b (0#32).toNat (p + ln x))) (h_v613 : v613 = (fun x => at3 fP b (2#32).toNat (p + ln x))) (h_v619 : v619 = (k0_pay196 v611 v613)) (h_v625 : v625 = (k0_pay198 v611 v613)) :
    k0_pay202 v311 v317 v619 v625 = fun x => laneBox (laneAt fC b (u + ln x)) (laneAt fO b (u + ln x)) (propAt fP b (p + ln x)) 0 := by
  subst h_v625 h_v619 h_v613 h_v611 h_v317 h_v311 h_v280 h_v278 h_v276 h_v164 h_v161 h_v158 h_v155 h_v243 h_v173 h_v242 h_v170 h_v241 h_v167
  rfl

theorem a_box1 (fC fO : Vec F S8x1792 .f32) (fP : Vec F S8x4x640 .f32) (b u p : ℕ)  {v215 : Vec F S16 .f32} {v426 : FVec F S16 .f32} {v197 : Vec F S16 .f32} {v420 : FVec F S16 .f32} {v200 : Vec F S16 .f32} {v421 : FVec F S16 .f32} {v203 : Vec F S16 .f32} {v422 : FVec F S16 .f32} {v206 : Vec F S16 .f32} {v423 : FVec F S16 .f32} {v209 : Vec F S16 .f32} {v424 : FVec F S16 .f32} {v427 : FVec F S16 .f32} {v430 : IVec S16 1} {v472 : FVec F S16 .f32} {v212 : Vec F S16 .f32} {v425 : FVec F S16 .f32} {v474 : IVec S16 1} {v481 : FVec F S16 .f32} {v482 : FVec F S16 .f32} {v494 : FVec F S16 .f32} {v500 : Vec F S16 .f32} {v612 : Vec F S16 .f32} {v614 : Vec F S16 .f32} {v616 : FVec F S16 .f32} {v622 : FVec F S16 .f32}
    (h_v215 : v215 = (fun x => at2 fC b (28 * (u + ln x) + (20#32).toNat))) (h_v426 : v426 = (k0_pay113 v215)) (h_v197 : v197 = (fun x => at2 fC b (28 * (u + ln x) + (14#32).toNat))) (h_v420 : v420 = (k0_pay107 v197)) (h_v200 : v200 = (fun x => at2 fC b (28 * (u + ln x) + (15#32).toNat))) (h_v421 : v421 = (k0_pay108 v200)) (h_v203 : v203 = (fun x => at2 fC b (28 * (u + ln x) + (16#32).toNat))) (h_v422 : v422 = (k0_pay109 v203)) (h_v206 : v206 = (fun x => at2 fC b (28 * (u + ln x) + (17#32).toNat))) (h_v423 : v423 = (k0_pay110 v206)) (h_v209 : v209 = (fun x => at2 fC b (28 * (u + ln x) + (18#32).toNat))) (h_v424 : v424 = (k0_pay111 v209)) (h_v427 : v427 = (k0_pay114 (F := F))) (h_v430 : v430 = (k0_pay117 v197 v200)) (h_v472 : v472 = (k0_pay137 v420 v421 v422 v423 v424 v427 v430)) (h_v212 : v212 = (fun x => at2 fC b (28 * (u + ln x) + (19#32).toNat))) (h_v425 : v425 = (k0_pay112 v212)) (h_v474 : v474 = (k0_pay139 v420 v421 v422 v423 v424 v425)) (h_v481 : v481 = (k0_pay143 v420 v421 v422 v423 v424 v425)) (h_v482 : v482 = (k0_pay144 (F := F))) (h_v494 : v494 = (k0_pay147 v426 v472 v474 v481 v482)) (h_v500 : v500 = (fun x => laneAt fO b (u + ln x) (offIdx (laneAt fC b (u + ln x)) 2))) (h_v612 : v612 = (fun x => at3 fP b (1#32).toNat (p + ln x))) (h_v614 : v614 = (fun x => at3 fP b (3#32).toNat (p + ln x))) (h_v616 : v616 = (k0_pay195 v612 v614)) (h_v622 : v622 = (k0_pay197 v612 v614)) :
    k0_pay204 v494 v500 v616 v622 = fun x => laneBox (laneAt fC b (u + ln x)) (laneAt fO b (u + ln x)) (propAt fP b (p + ln x)) 1 := by
  subst h_v622 h_v616 h_v614 h_v612 h_v500 h_v494 h_v482 h_v481 h_v474 h_v425 h_v212 h_v472 h_v430 h_v427 h_v424 h_v209 h_v423 h_v206 h_v422 h_v203 h_v421 h_v200 h_v420 h_v197 h_v426 h_v215
  rfl

theorem a_box2 (fC fO : Vec F S8x1792 .f32) (fP : Vec F S8x4x640 .f32) (b u p : ℕ)  {v191 : Vec F S16 .f32} {v333 : FVec F S16 .f32} {v194 : Vec F S16 .f32} {v334 : FVec F S16 .f32} {v176 : Vec F S16 .f32} {v328 : FVec F S16 .f32} {v179 : Vec F S16 .f32} {v329 : FVec F S16 .f32} {v182 : Vec F S16 .f32} {v330 : FVec F S16 .f32} {v185 : Vec F S16 .f32} {v331 : FVec F S16 .f32} {v188 : Vec F S16 .f32} {v332 : FVec F S16 .f32} {v378 : FVec F S16 .f32} {v380 : FVec F S16 .f32} {v382 : IVec S16 1} {v402 : FVec F S16 .f32} {v408 : Vec F S16 .f32} {v611 : Vec F S16 .f32} {v613 : Vec F S16 .f32} {v619 : FVec F S16 .f32} {v628 : FVec F S16 .f32}
    (h_v191 : v191 = (fun x => at2 fC b (28 * (u + ln x) + (12#32).toNat))) (h_v333 : v333 = (k0_pay73 v191)) (h_v194 : v194 = (fun x => at2 fC b (28 * (u + ln x) + (13#32).toNat))) (h_v334 : v334 = (k0_pay74 v194)) (h_v176 : v176 = (fun x => at2 fC b (28 * (u + ln x) + (7#32).toNat))) (h_v328 : v328 = (k0_pay68 v176)) (h_v179 : v179 = (fun x => at2 fC b (28 * (u + ln x) + (8#32).toNat))) (h_v329 : v329 = (k0_pay69 v179)) (h_v182 : v182 = (fun x => at2 fC b (28 * (u + ln x) + (9#32).toNat))) (h_v330 : v330 = (k0_pay70 v182)) (h_v185 : v185 = (fun x => at2 fC b (28 * (u + ln x) + (10#32).toNat))) (h_v331 : v331 = (k0_pay71 v185)) (h_v188 : v188 = (fun x => at2 fC b (28 * (u + ln x) + (11#32).toNat))) (h_v332 : v332 = (k0_pay72 v188)) (h_v378 : v378 = (k0_pay96 v328 v329 v330 v331 v332)) (h_v380 : v380 = (k0_pay97 v328 v329 v330 v331 v332)) (h_v382 : v382 = (k0_pay99 v328 v329 v330 v331 v332 v333)) (h_v402 : v402 = (k0_pay104 v333 v334 v378 v380 v382)) (h_v408 : v408 = (fun x => laneAt fO b (u + ln x) (offIdx (laneAt fC b (u + ln x)) 1))) (h_v611 : v611 = (fun x => at3 fP b (0#32).toNat (p + ln x))) (h_v613 : v613 = (fun x => at3 fP b (2#32).toNat (p + ln x))) (h_v619 : v619 = (k0_pay196 v611 v613)) (h_v628 : v628 = (k0_pay199 v611 v613)) :
    k0_pay203 v402 v408 v619 v628 = fun x => laneBox (laneAt fC b (u + ln x)) (laneAt fO b (u + ln x)) (propAt fP b (p + ln x)) 2 := by
  subst h_v628 h_v619 h_v613 h_v611 h_v408 h_v402 h_v382 h_v380 h_v378 h_v332 h_v188 h_v331 h_v185 h_v330 h_v182 h_v329 h_v179 h_v328 h_v176 h_v334 h_v194 h_v333 h_v191
  rfl

theorem a_box3 (fC fO : Vec F S8x1792 .f32) (fP : Vec F S8x4x640 .f32) (b u p : ℕ)  {v224 : Vec F S16 .f32} {v514 : FVec F S16 .f32} {v227 : Vec F S16 .f32} {v515 : FVec F S16 .f32} {v230 : Vec F S16 .f32} {v516 : FVec F S16 .f32} {v233 : Vec F S16 .f32} {v517 : FVec F S16 .f32} {v218 : Vec F S16 .f32} {v221 : Vec F S16 .f32} {v529 : FVec F S16 .f32} {v531 : FVec F S16 .f32} {v575 : FVec F S16 .f32} {v236 : Vec F S16 .f32} {v518 : FVec F S16 .f32} {v577 : IVec S16 1} {v586 : FVec F S16 .f32} {v592 : Vec F S16 .f32} {v612 : Vec F S16 .f32} {v614 : Vec F S16 .f32} {v616 : FVec F S16 .f32} {v622 : FVec F S16 .f32}
    (h_v224 : v224 = (fun x => at2 fC b (28 * (u + ln x) + (23#32).toNat))) (h_v514 : v514 = (k0_pay152 v224)) (h_v227 : v227 = (fun x => at2 fC b (28 * (u + ln x) + (24#32).toNat))) (h_v515 : v515 = (k0_pay153 v227)) (h_v230 : v230 = (fun x => at2 fC b (28 * (u + ln x) + (25#32).toNat))) (h_v516 : v516 = (k0_pay154 v230)) (h_v233 : v233 = (fun x => at2 fC b (28 * (u + ln x) + (26#32).toNat))) (h_v517 : v517 = (k0_pay155 v233)) (h_v218 : v218 = (fun x => at2 fC b (28 * (u + ln x) + (21#32).toNat))) (h_v221 : v221 = (fun x => at2 fC b (28 * (u + ln x) + (22#32).toNat))) (h_v529 : v529 = (k0_pay163 v218 v221)) (h_v531 : v531 = (k0_pay164 v218 v221)) (h_v575 : v575 = (k0_pay184 v514 v515 v516 v517 v529 v531)) (h_v236 : v236 = (fun x => at2 fC b (28 * (u + ln x) + (27#32).toNat))) (h_v518 : v518 = (k0_pay156 v236)) (h_v577 : v577 = (k0_pay186 v514 v515 v516 v517 v518 v529)) (h_v586 : v586 = (k0_pay190 v575 v577)) (h_v592 : v592 = (fun x => laneAt fO b (u + ln x) (offIdx (laneAt fC b (u + ln x)) 3))) (h_v612 : v612 = (fun x => at3 fP b (1#32).toNat (p + ln x))) (h_v614 : v614 = (fun x => at3 fP b (3#32).toNat (p + ln x))) (h_v616 : v616 = (k0_pay195 v612 v614)) (h_v622 : v622 = (k0_pay197 v612 v614)) :
    k0_pay205 v586 v592 v616 v622 = fun x => laneBox (laneAt fC b (u + ln x)) (laneAt fO b (u + ln x)) (propAt fP b (p + ln x)) 3 := by
  subst h_v622 h_v616 h_v614 h_v612 h_v592 h_v586 h_v577 h_v518 h_v236 h_v575 h_v531 h_v529 h_v221 h_v218 h_v517 h_v233 h_v516 h_v230 h_v515 h_v227 h_v514 h_v224
  rfl

theorem a_conf (fC fO : Vec F S8x1792 .f32) (fP : Vec F S8x4x640 .f32) (b u p : ℕ)  {v167 : Vec F S16 .f32} {v241 : FVec F S16 .f32} {v170 : Vec F S16 .f32} {v242 : FVec F S16 .f32} {v173 : Vec F S16 .f32} {v243 : FVec F S16 .f32} {v155 : Vec F S16 .f32} {v158 : Vec F S16 .f32} {v161 : Vec F S16 .f32} {v164 : Vec F S16 .f32} {v275 : FVec F S16 .f32} {v276 : FVec F S16 .f32} {v278 : FVec F S16 .f32} {v279 : FVec F S16 .f32} {v280 : IVec S16 1} {v281 : IVec S16 1} {v283 : FVec F S16 .f32} {cst_97 : F .f32} {v327 : FVec F S16 .f32} {v191 : Vec F S16 .f32} {v333 : FVec F S16 .f32} {v194 : Vec F S16 .f32} {v334 : FVec F S16 .f32} {v176 : Vec F S16 .f32} {v328 : FVec F S16 .f32} {v179 : Vec F S16 .f32} {v329 : FVec F S16 .f32} {v182 : Vec F S16 .f32} {v330 : FVec F S16 .f32} {v185 : Vec F S16 .f32} {v331 : FVec F S16 .f32} {v188 : Vec F S16 .f32} {v332 : FVec F S16 .f32} {v374 : FVec F S16 .f32} {v377 : FVec F S16 .f32} {v378 : FVec F S16 .f32} {v380 : FVec F S16 .f32} {v381 : FVec F S16 .f32} {v382 : IVec S16 1} {v383 : IVec S16 1} {v419 : FVec F S16 .f32} {v212 : Vec F S16 .f32} {v425 : FVec F S16 .f32} {v215 : Vec F S16 .f32} {v426 : FVec F S16 .f32} {v197 : Vec F S16 .f32} {v420 : FVec F S16 .f32} {v200 : Vec F S16 .f32} {v421 : FVec F S16 .f32} {v203 : Vec F S16 .f32} {v422 : FVec F S16 .f32} {v206 : Vec F S16 .f32} {v423 : FVec F S16 .f32} {v209 : Vec F S16 .f32} {v424 : FVec F S16 .f32} {v427 : FVec F S16 .f32} {v430 : IVec S16 1} {v472 : FVec F S16 .f32} {v473 : FVec F S16 .f32} {v474 : IVec S16 1} {v432 : FVec F S16 .f32} {v477 : FVec F S16 .f32} {v429 : FVec F S16 .f32} {v431 : IVec S16 1} {v480 : FVec F S16 .f32} {v481 : FVec F S16 .f32} {v482 : FVec F S16 .f32} {v511 : FVec F S16 .f32} {v236 : Vec F S16 .f32} {v518 : FVec F S16 .f32} {v224 : Vec F S16 .f32} {v514 : FVec F S16 .f32} {v227 : Vec F S16 .f32} {v515 : FVec F S16 .f32} {v230 : Vec F S16 .f32} {v516 : FVec F S16 .f32} {v233 : Vec F S16 .f32} {v517 : FVec F S16 .f32} {v218 : Vec F S16 .f32} {v221 : Vec F S16 .f32} {v529 : FVec F S16 .f32} {v573 : FVec F S16 .f32} {v531 : FVec F S16 .f32} {v575 : FVec F S16 .f32} {v512 : FVec F S16 .f32} {v513 : FVec F S16 .f32} {v576 : FVec F S16 .f32} {v577 : IVec S16 1} {v525 : FVec F S16 .f32} {v580 : FVec F S16 .f32} {v528 : FVec F S16 .f32} {v582 : FVec F S16 .f32} {v603 : FVec F S16 .f32}
    (h_v167 : v167 = (fun x => at2 fC b (28 * (u + ln x) + (4#32).toNat))) (h_v241 : v241 = (k0_pay34 v167)) (h_v170 : v170 = (fun x => at2 fC b (28 * (u + ln x) + (5#32).toNat))) (h_v242 : v242 = (k0_pay35 v170)) (h_v173 : v173 = (fun x => at2 fC b (28 * (u + ln x) + (6#32).toNat))) (h_v243 : v243 = (k0_pay36 v173)) (h_v155 : v155 = (fun x => at2 fC b (28 * (u + ln x) + (0#32).toNat))) (h_v158 : v158 = (fun x => at2 fC b (28 * (u + ln x) + (1#32).toNat))) (h_v161 : v161 = (fun x => at2 fC b (28 * (u + ln x) + (2#32).toNat))) (h_v164 : v164 = (fun x => at2 fC b (28 * (u + ln x) + (3#32).toNat))) (h_v275 : v275 = (k0_pay52 v155 v158 v161 v164)) (h_v276 : v276 = (k0_pay53 v155 v158 v161 v164)) (h_v278 : v278 = (k0_pay54 v155 v158 v161 v164)) (h_v279 : v279 = (k0_pay55 v155 v158 v161 v164)) (h_v280 : v280 = (k0_pay56 v155 v158 v161 v164 v167)) (h_v281 : v281 = (k0_pay57 v155 v158 v161 v164 v167)) (h_v283 : v283 = (k0_pay58 v155 v158 v161 v164 v167)) (h_cst_97 : cst_97 = (Scalar.ofBits .f32 0x40800000#32)) (h_v327 : v327 = (k0_pay67 v241 v242 v243 v275 v276 v278 v279 v280 v281 v283 cst_97)) (h_v191 : v191 = (fun x => at2 fC b (28 * (u + ln x) + (12#32).toNat))) (h_v333 : v333 = (k0_pay73 v191)) (h_v194 : v194 = (fun x => at2 fC b (28 * (u + ln x) + (13#32).toNat))) (h_v334 : v334 = (k0_pay74 v194)) (h_v176 : v176 = (fun x => at2 fC b (28 * (u + ln x) + (7#32).toNat))) (h_v328 : v328 = (k0_pay68 v176)) (h_v179 : v179 = (fun x => at2 fC b (28 * (u + ln x) + (8#32).toNat))) (h_v329 : v329 = (k0_pay69 v179)) (h_v182 : v182 = (fun x => at2 fC b (28 * (u + ln x) + (9#32).toNat))) (h_v330 : v330 = (k0_pay70 v182)) (h_v185 : v185 = (fun x => at2 fC b (28 * (u + ln x) + (10#32).toNat))) (h_v331 : v331 = (k0_pay71 v185)) (h_v188 : v188 = (fun x => at2 fC b (28 * (u + ln x) + (11#32).toNat))) (h_v332 : v332 = (k0_pay72 v188)) (h_v374 : v374 = (k0_pay94 v328 v329 v330 v331 v332)) (h_v377 : v377 = (k0_pay95 v328 v329 v330 v331 v332)) (h_v378 : v378 = (k0_pay96 v328 v329 v330 v331 v332)) (h_v380 : v380 = (k0_pay97 v328 v329 v330 v331 v332)) (h_v381 : v381 = (k0_pay98 v328 v329 v330 v331 v332)) (h_v382 : v382 = (k0_pay99 v328 v329 v330 v331 v332 v333)) (h_v383 : v383 = (k0_pay100 v328 v329 v330 v331 v332 v333)) (h_v419 : v419 = (k0_pay106 v327 v333 v334 v374 v377 v378 v380 v381 v382 v383)) (h_v212 : v212 = (fun x => at2 fC b (28 * (u + ln x) + (19#32).toNat))) (h_v425 : v425 = (k0_pay112 v212)) (h_v215 : v215 = (fun x => at2 fC b (28 * (u + ln x) + (20#32).toNat))) (h_v426 : v426 = (k0_pay113 v215)) (h_v197 : v197 = (fun x => at2 fC b (28 * (u + ln x) + (14#32).toNat))) (h_v420 : v420 = (k0_pay107 v197)) (h_v200 : v200 = (fun x => at2 fC b (28 * (u + ln x) + (15#32).toNat))) (h_v421 : v421 = (k0_pay108 v200)) (h_v203 : v203 = (fun x => at2 fC b (28 * (u + ln x) + (16#32).toNat))) (h_v422 : v422 = (k0_pay109 v203)) (h_v206 : v206 = (fun x => at2 fC b (28 * (u + ln x) + (17#32).toNat))) (h_v423 : v423 = (k0_pay110 v206)) (h_v209 : v209 = (fun x => at2 fC b (28 * (u + ln x) + (18#32).toNat))) (h_v424 : v424 = (k0_pay111 v209)) (h_v427 : v427 = (k0_pay114 (F := F))) (h_v430 : v430 = (k0_pay117 v197 v200)) (h_v472 : v472 = (k0_pay137 v420 v421 v422 v423 v424 v427 v430)) (h_v473 : v473 = (k0_pay138 v420 v421 v422 v423 v424)) (h_v474 : v474 = (k0_pay139 v420 v421 v422 v423 v424 v425)) (h_v432 : v432 = (k0_pay119 v200)) (h_v477 : v477 = (k0_pay141 v420 v421 v422 v423 v424 v425 v430 v432)) (h_v429 : v429 = (k0_pay116 (F := F))) (h_v431 : v431 = (k0_pay118 v200)) (h_v480 : v480 = (k0_pay142 v420 v421 v422 v423 v424 v425 v427 v429 v430 v431 v432)) (h_v481 : v481 = (k0_pay143 v420 v421 v422 v423 v424 v425)) (h_v482 : v482 = (k0_pay144 (F := F))) (h_v511 : v511 = (k0_pay149 v419 v425 v426 v472 v473 v474 v477 v480 v481 v482)) (h_v236 : v236 = (fun x => at2 fC b (28 * (u + ln x) + (27#32).toNat))) (h_v518 : v518 = (k0_pay156 v236)) (h_v224 : v224 = (fun x => at2 fC b (28 * (u + ln x) + (23#32).toNat))) (h_v514 : v514 = (k0_pay152 v224)) (h_v227 : v227 = (fun x => at2 fC b (28 * (u + ln x) + (24#32).toNat))) (h_v515 : v515 = (k0_pay153 v227)) (h_v230 : v230 = (fun x => at2 fC b (28 * (u + ln x) + (25#32).toNat))) (h_v516 : v516 = (k0_pay154 v230)) (h_v233 : v233 = (fun x => at2 fC b (28 * (u + ln x) + (26#32).toNat))) (h_v517 : v517 = (k0_pay155 v233)) (h_v218 : v218 = (fun x => at2 fC b (28 * (u + ln x) + (21#32).toNat))) (h_v221 : v221 = (fun x => at2 fC b (28 * (u + ln x) + (22#32).toNat))) (h_v529 : v529 = (k0_pay163 v218 v221)) (h_v573 : v573 = (k0_pay183 v514 v515 v516 v517 v529)) (h_v531 : v531 = (k0_pay164 v218 v221)) (h_v575 : v575 = (k0_pay184 v514 v515 v516 v517 v529 v531)) (h_v512 : v512 = (k0_pay150 v218)) (h_v513 : v513 = (k0_pay151 v221)) (h_v576 : v576 = (k0_pay185 v512 v513 v514 v515 v516 v517)) (h_v577 : v577 = (k0_pay186 v514 v515 v516 v517 v518 v529)) (h_v525 : v525 = (k0_pay161 v218 v221)) (h_v580 : v580 = (k0_pay188 v514 v515 v516 v517 v518 v525 v529)) (h_v528 : v528 = (k0_pay162 v218 v221)) (h_v582 : v582 = (k0_pay189 v514 v515 v516 v517 v518 v525 v528 v529 v531)) (h_v603 : v603 = (k0_pay192 v511 v518 v573 v575 v576 v577 v580 v582)) :
    k0_pay207 v603 = fun x => laneConf (laneAt fC b (u + ln x)) := by
  subst h_v603 h_v582 h_v528 h_v580 h_v525 h_v577 h_v576 h_v513 h_v512 h_v575 h_v531 h_v573 h_v529 h_v221 h_v218 h_v517 h_v233 h_v516 h_v230 h_v515 h_v227 h_v514 h_v224 h_v518 h_v236 h_v511 h_v482 h_v481 h_v480 h_v431 h_v429 h_v477 h_v432 h_v474 h_v473 h_v472 h_v430 h_v427 h_v424 h_v209 h_v423 h_v206 h_v422 h_v203 h_v421 h_v200 h_v420 h_v197 h_v426 h_v215 h_v425 h_v212 h_v419 h_v383 h_v382 h_v381 h_v380 h_v378 h_v377 h_v374 h_v332 h_v188 h_v331 h_v185 h_v330 h_v182 h_v329 h_v179 h_v328 h_v176 h_v334 h_v194 h_v333 h_v191 h_v327 h_cst_97 h_v283 h_v281 h_v280 h_v279 h_v278 h_v276 h_v275 h_v164 h_v161 h_v158 h_v155 h_v243 h_v173 h_v242 h_v170 h_v241 h_v167
  rfl

theorem group_a [Buckets F] (k0_t1 : Fin (k0_t1_loop i).trips) (k0_h4 : k0_cond4 i k0_t1 = 1#1) (lb : Fin 5) (k0_t2 : Fin k0_t2_loop.trips) (fC fO : Vec F S8x1792 .f32) (fP : Vec F S8x4x640 .f32) (fB : Vec F S8x4x128 .f32) (fF : Vec F S5376 .f32) :
    (iprop((lC0 d i ↦{fullShare} fC) ∗ (lO0 d i ↦{fullShare} fO) ∗ (lP d i ↦{fullShare} fP) ∗ (lB d i ↦{fullShare} fB) ∗ (lF d i ↦{fullShare} fF)) : sProp 𝕄) ⊢
    wp frame (wpE (defs₀ (F := F)) 𝒱₀ (thr d i) none) Set.univ (k0_t2_body (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_t1 k0_h4 (BitVec.ofNat 32 lb.val) k0_t2 ()) (fun _ => iprop((lC0 d i ↦{fullShare} fC) ∗ (lO0 d i ↦{fullShare} fO) ∗ (lP d i ↦{fullShare} fP) ∗ (lB d i ↦{fullShare} (putBox fB (rowOf k0_t2.val) (colOf k0_t2.val) (groupBox fC fO (rowOf k0_t2.val) (colOf k0_t2.val) (fun n => propAt fP (rowOf k0_t2.val) (128 * lb.val + colOf k0_t2.val + n))))) ∗ (lF d i ↦{fullShare} (putSeg fF (672 * rowOf k0_t2.val + 128 * (k0_t1.val / 2) + colOf k0_t2.val) (groupConf fC (rowOf k0_t2.val) (colOf k0_t2.val)))))) := by
  have hb : (rowOf k0_t2.val) < 8 := rowOf_lt _
  have hu : (colOf k0_t2.val) + 16 ≤ 64 := colOf_le (by have := k0_t2.isLt; have e := trips2; omega)
  have hp : (128 * lb.val + colOf k0_t2.val) + 16 ≤ 640 := by have := lb.isLt; omega
  have ho : (colOf k0_t2.val) + 16 ≤ 128 := by omega
  have hoff : ∀ (s : Fin 4) (n : ℕ), (offIdx (laneAt fC (rowOf k0_t2.val) n) s).val = 7 * s.val + (bestIdx (sideOf (laneAt fC (rowOf k0_t2.val) n) s)).toNat := fun s n => offIdx_val _ s
  have accC := acc1 (lC0 d i ↦{fullShare} fC : sProp 𝕄) (lO0 d i ↦{fullShare} fO : sProp 𝕄) (lP d i ↦{fullShare} fP : sProp 𝕄) (lB d i ↦{fullShare} fB : sProp 𝕄) (lF d i ↦{fullShare} fF : sProp 𝕄)
  have accO := acc2 (lC0 d i ↦{fullShare} fC : sProp 𝕄) (lO0 d i ↦{fullShare} fO : sProp 𝕄) (lP d i ↦{fullShare} fP : sProp 𝕄) (lB d i ↦{fullShare} fB : sProp 𝕄) (lF d i ↦{fullShare} fF : sProp 𝕄)
  have accP := acc3 (lC0 d i ↦{fullShare} fC : sProp 𝕄) (lO0 d i ↦{fullShare} fO : sProp 𝕄) (lP d i ↦{fullShare} fP : sProp 𝕄) (lB d i ↦{fullShare} fB : sProp 𝕄) (lF d i ↦{fullShare} fF : sProp 𝕄)
  unfold k0_t2_body
  refine w_part1 d i _ _ _   ?_
  refine w_part2 d i _ _ _ _ _ _ _ _ _ hb (fun _ => a_row _) hu (a_col _) accC ?_
  intro v155 v158 v161 v144 v162
  intro h_v155 h_v158 h_v161 h_v144 h_v162
  refine w_part3 d i _ _ _ _ _ hb (fun _ => a_row _) hu (a_col _) h_v162 accC ?_
  intro v164 v167 v170 v173 v176 v179 v182 v185 v188 v191 v194 v197 v198
  intro h_v164 h_v167 h_v170 h_v173 h_v176 h_v179 h_v182 h_v185 h_v188 h_v191 h_v194 h_v197 h_v198
  refine w_part4 d i _ _ _ _ _ hb (fun _ => a_row _) hu (a_col _) h_v198 accC ?_
  intro v200 v203 v206 v209 v212 v215 v218 v221 v224 v227 v230 v233 v234
  intro h_v200 h_v203 h_v206 h_v209 h_v212 h_v215 h_v218 h_v221 h_v224 h_v227 h_v230 h_v233 h_v234
  refine w_part5 d i _ _ _ _ _ _ _ _ _ _ _ _ hb (fun _ => a_row _) hu (a_col _) h_v234 accC ?_
  intro v236 v241 v242 v243 v275 v276 v278 v279 v280 v281 v283 cst_97
  intro h_v236 h_v241 h_v242 h_v243 h_v275 h_v276 h_v278 h_v279 h_v280 h_v281 h_v283 h_cst_97
  refine w_part6 d i _ _ _ _ _ _ _ _ _ _ _ _ _ _ _ _ _ _ _ _ _ _ hb (fun _ => a_row _) hu (a_col _) (a_ix0 fC fO fP (rowOf k0_t2.val) (colOf k0_t2.val) 0 _ h_v167 h_v241 h_v170 h_v242 h_v173 h_v243 h_v155 h_v158 h_v161 h_v164 h_v276 h_v278 h_v280) (fun _ => bestIdx_lt _) accO ?_
  intro v317 v311 v327 v328 v329 v330 v331 v332 v333 v334
  intro h_v317 h_v311 h_v327 h_v328 h_v329 h_v330 h_v331 h_v332 h_v333 h_v334
  replace h_v317 : v317 = (fun x => laneAt fO (rowOf k0_t2.val) ((colOf k0_t2.val) + ln x) (offIdx (laneAt fC (rowOf k0_t2.val) ((colOf k0_t2.val) + ln x)) 0)) := by
    rw [h_v317]; funext x; exact congrArg (fun m => at2 fO _ (28 * _ + m)) (hoff 0 _).symm
  refine w_part7 d i _ _ _ _ _ _   ?_
  intro v374 v377 v378 v380 v381 v382 v383
  intro h_v374 h_v377 h_v378 h_v380 h_v381 h_v382 h_v383
  refine w_part8 d i _ _ _ _ _ _ _ _ _ _ _ _ _ _ _ _ _ _ _ _ _ hb (fun _ => a_row _) hu (a_col _) (a_ix1 fC fO fP (rowOf k0_t2.val) (colOf k0_t2.val) 0 _ h_v191 h_v333 h_v194 h_v334 h_v176 h_v328 h_v179 h_v329 h_v182 h_v330 h_v185 h_v331 h_v188 h_v332 h_v378 h_v380 h_v382) (fun _ => bestIdx_lt _) accO ?_
  intro v408 v402 v419 v420 v421 v422 v423 v424 v425 v426 v427 v429 v430 v431 v432
  intro h_v408 h_v402 h_v419 h_v420 h_v421 h_v422 h_v423 h_v424 h_v425 h_v426 h_v427 h_v429 h_v430 h_v431 h_v432
  replace h_v408 : v408 = (fun x => laneAt fO (rowOf k0_t2.val) ((colOf k0_t2.val) + ln x) (offIdx (laneAt fC (rowOf k0_t2.val) ((colOf k0_t2.val) + ln x)) 1)) := by
    rw [h_v408]; funext x; exact congrArg (fun m => at2 fO _ (28 * _ + m)) (hoff 1 _).symm
  refine w_part9 d i _ _ _ _ _ _ _ _ _ _ _   ?_
  intro v472 v473 v474 v477 v480 v481 v482
  intro h_v472 h_v473 h_v474 h_v477 h_v480 h_v481 h_v482
  refine w_part10 d i _ _ _ _ _ _ _ _ _ _ _ _ _ _ _ _ _ _ _ _ _ hb (fun _ => a_row _) hu (a_col _) (a_ix2 fC fO fP (rowOf k0_t2.val) (colOf k0_t2.val) 0 _ h_v215 h_v426 h_v197 h_v420 h_v200 h_v421 h_v203 h_v422 h_v206 h_v423 h_v209 h_v424 h_v427 h_v430 h_v472 h_v212 h_v425 h_v474 h_v481 h_v482) (fun _ => bestIdx_lt _) accO ?_
  intro v500 v494 v511 v512 v513 v514 v515 v516 v517 v518 v525 v528 v529 v531
  intro h_v500 h_v494 h_v511 h_v512 h_v513 h_v514 h_v515 h_v516 h_v517 h_v518 h_v525 h_v528 h_v529 h_v531
  replace h_v500 : v500 = (fun x => laneAt fO (rowOf k0_t2.val) ((colOf k0_t2.val) + ln x) (offIdx (laneAt fC (rowOf k0_t2.val) ((colOf k0_t2.val) + ln x)) 2)) := by
    rw [h_v500]; funext x; exact congrArg (fun m => at2 fO _ (28 * _ + m)) (hoff 2 _).symm
  refine w_part11 d i _ _ _ _ _ _ _ _ _ _ _   ?_
  intro v573 v575 v576 v577 v580 v582
  intro h_v573 h_v575 h_v576 h_v577 h_v580 h_v582
  refine w_part12 d i _ _ _ _ _ _ _ _ _ _ _ _ _ _ _ hb (fun _ => a_row _) hu (a_col _) (a_ix3 fC fO fP (rowOf k0_t2.val) (colOf k0_t2.val) 0 _ h_v224 h_v514 h_v227 h_v515 h_v230 h_v516 h_v233 h_v517 h_v218 h_v221 h_v529 h_v531 h_v575 h_v236 h_v518 h_v577) (fun _ => bestIdx_lt _) hp (by rw [h_v144]; exact a_prop lb _) accO accP ?_
  intro v592 v611 v612 v613 v614 v586 v603 v616 v619 v622 v625 v628
  intro h_v592 h_v611 h_v612 h_v613 h_v614 h_v586 h_v603 h_v616 h_v619 h_v622 h_v625 h_v628
  replace h_v592 : v592 = (fun x => laneAt fO (rowOf k0_t2.val) ((colOf k0_t2.val) + ln x) (offIdx (laneAt fC (rowOf k0_t2.val) ((colOf k0_t2.val) + ln x)) 3)) := by
    rw [h_v592]; funext x; exact congrArg (fun m => at2 fO _ (28 * _ + m)) (hoff 3 _).symm
  refine w_part13 d i (Hs := fun g => iprop((lC0 d i ↦{fullShare} fC) ∗ (lO0 d i ↦{fullShare} fO) ∗ (lP d i ↦{fullShare} fP) ∗ (lB d i ↦{fullShare} g) ∗ (lF d i ↦{fullShare} fF))) (f := fB) (w := groupBox fC fO (rowOf k0_t2.val) (colOf k0_t2.val) (fun n => propAt fP (rowOf k0_t2.val) (128 * lb.val + colOf k0_t2.val + n))) _ _ _ _ _ _ _ _ _ _ _ _ _ _ _ _ _ _ _ _ hb (fun _ => a_row _) ho (by rw [h_v144]; exact a_out _) (fun x => congrFun (a_box0 fC fO fP (rowOf k0_t2.val) (colOf k0_t2.val) (128 * lb.val + colOf k0_t2.val)  h_v167 h_v241 h_v170 h_v242 h_v173 h_v243 h_v155 h_v158 h_v161 h_v164 h_v276 h_v278 h_v280 h_v311 h_v317 h_v611 h_v613 h_v619 h_v625) x)
    (fun x => congrFun (a_box1 fC fO fP (rowOf k0_t2.val) (colOf k0_t2.val) (128 * lb.val + colOf k0_t2.val)  h_v215 h_v426 h_v197 h_v420 h_v200 h_v421 h_v203 h_v422 h_v206 h_v423 h_v209 h_v424 h_v427 h_v430 h_v472 h_v212 h_v425 h_v474 h_v481 h_v482 h_v494 h_v500 h_v612 h_v614 h_v616 h_v622) x)
    (fun x => congrFun (a_box2 fC fO fP (rowOf k0_t2.val) (colOf k0_t2.val) (128 * lb.val + colOf k0_t2.val)  h_v191 h_v333 h_v194 h_v334 h_v176 h_v328 h_v179 h_v329 h_v182 h_v330 h_v185 h_v331 h_v188 h_v332 h_v378 h_v380 h_v382 h_v402 h_v408 h_v611 h_v613 h_v619 h_v628) x)
    (fun x => congrFun (a_box3 fC fO fP (rowOf k0_t2.val) (colOf k0_t2.val) (128 * lb.val + colOf k0_t2.val)  h_v224 h_v514 h_v227 h_v515 h_v230 h_v516 h_v233 h_v517 h_v218 h_v221 h_v529 h_v531 h_v575 h_v236 h_v518 h_v577 h_v586 h_v592 h_v612 h_v614 h_v616 h_v622) x) (fun f g => acc4 _ _ _ _ _ _) ?_
  refine st_load d i (acc5 _ _ _ _ _ _) ?_
  intro _
  refine st_store d i (g := putSeg fF (672 * rowOf k0_t2.val + 128 * (k0_t1.val / 2) + colOf k0_t2.val) (groupConf fC (rowOf k0_t2.val) (colOf k0_t2.val))) ?_ (acc5 _ _ _ _ _ _) ?_
  · rw [← off5 i k0_t1 k0_t2]
    exact write_seg _ _ _ _ _ (fun x => congrFun (a_conf fC fO fP (rowOf k0_t2.val) (colOf k0_t2.val) 0  h_v167 h_v241 h_v170 h_v242 h_v173 h_v243 h_v155 h_v158 h_v161 h_v164 h_v275 h_v276 h_v278 h_v279 h_v280 h_v281 h_v283 h_cst_97 h_v327 h_v191 h_v333 h_v194 h_v334 h_v176 h_v328 h_v179 h_v329 h_v182 h_v330 h_v185 h_v331 h_v188 h_v332 h_v374 h_v377 h_v378 h_v380 h_v381 h_v382 h_v383 h_v419 h_v212 h_v425 h_v215 h_v426 h_v197 h_v420 h_v200 h_v421 h_v203 h_v422 h_v206 h_v423 h_v209 h_v424 h_v427 h_v430 h_v472 h_v473 h_v474 h_v432 h_v477 h_v429 h_v431 h_v480 h_v481 h_v482 h_v511 h_v236 h_v518 h_v224 h_v514 h_v227 h_v515 h_v230 h_v516 h_v233 h_v517 h_v218 h_v221 h_v529 h_v573 h_v531 h_v575 h_v512 h_v513 h_v576 h_v577 h_v525 h_v580 h_v528 h_v582 h_v603) x)
  rw [wp_pure]; exact fupd_intro

end Cert.Proof
-- ==== Proof.ChainB.lean ====
/- One group of an odd half, from its parts: the values it stores. -/
module

public import proofs.«01_k».proof.Proof.Words
public import proofs.«01_k».proof.Proof.Cells

@[expose] public section

set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

local notation "𝕄" => MT nD τ sig (HIx 1) (Elt F) ℕ UU ℕ

theorem w_part26 {α : Type} {k : ((Σ' (v668 : FVec F S16 .f32), BitVec 32)) → Prog (TpuEff nD τ sig (Elt F) Λ₀ (thr d i).2) α} {Q : α → sProp 𝕄} {Hs : Vec F S8x4x128 .f32 → sProp 𝕄}
    (k0_t1 : Fin (k0_t1_loop i).trips) (k0_h6 : k0_cond6 i k0_t1 = 1#1) (v112 : BitVec 32) (v145 : IVec S16 32) (v146 : IVec S16 32) (v148 : BitVec 32) (v312 : FVec F S16 .f32) (v318 : Vec F S16 .f32) (v403 : FVec F S16 .f32) (v409 : Vec F S16 .f32) (v495 : FVec F S16 .f32) (v501 : Vec F S16 .f32) (v587 : FVec F S16 .f32) (v593 : Vec F S16 .f32) (v604 : FVec F S16 .f32) (v617 : FVec F S16 .f32) (v620 : FVec F S16 .f32) (v623 : FVec F S16 .f32) (v626 : FVec F S16 .f32) (v629 : FVec F S16 .f32)
    {b : ℕ} (hb : b < 8) (hvb : ∀ x, (v146 x).toNat = b) {p : ℕ} (hp : p + 16 ≤ 128) (hvp : ∀ x, ((k0_pay413 v145 v148) x).toNat = p + ln x)
    {w : ℕ → ℕ → F .f32}
    (hw0 : ∀ x, (k0_pay409 v312 v318 v620 v626) x = w 0 (ln x))
    (hw1 : ∀ x, (k0_pay411 v495 v501 v617 v623) x = w 1 (ln x))
    (hw2 : ∀ x, (k0_pay410 v403 v409 v620 v629) x = w 2 (ln x))
    (hw3 : ∀ x, (k0_pay412 v587 v593 v617 v623) x = w 3 (ln x))
    {f : Vec F S8x4x128 .f32} (acc : ∀ f g, Hs f ⊢ iprop((lB d i ↦{fullShare} f) ∗ ((lB d i ↦{fullShare} g) -∗ Hs g)))
    (hk : Hs (putBox f b p w) ⊢ wp frame (wpE (defs₀ (F := F)) 𝒱₀ (thr d i) none) Set.univ (k ⟨k0_pay414 v604, Scalar.muli v112 672#32⟩) Q) :
    Hs f ⊢ wp frame (wpE (defs₀ (F := F)) 𝒱₀ (thr d i) none) Set.univ (k0_part26 (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_t1 k0_h6 v112 v145 v146 v148 v312 v318 v403 v409 v495 v501 v587 v593 v604 v617 v620 v623 v626 v629 >>= k) Q := by
  rw [k0_part26_eq_skeleton]; unfold k0_part26_skel
  refine st_assume' d i ⟨fun _ => chkB hvb hb hvp hp 0#32 (by decide), fun _ => chkB hvb hb hvp hp 1#32 (by decide), fun _ => chkB hvb hb hvp hp 2#32 (by decide), fun _ => chkB hvb hb hvp hp 3#32 (by decide)⟩ ?_
  refine st_scatter' d i (Memref.set_access_whole _) ((Memref.write_access_whole_univ _ _ _ _).trans (stB (Memref.read_access_whole _ _ _) hvb hb hvp hp 0#32 (by decide) _ (w 0) hw0 _)) (acc _ _) ?_
  refine st_scatter' d i (Memref.set_access_whole _) ((Memref.write_access_whole_univ _ _ _ _).trans (stB (Memref.read_access_whole _ _ _) hvb hb hvp hp 1#32 (by decide) _ (w 1) hw1 _)) (acc _ _) ?_
  refine st_scatter' d i (Memref.set_access_whole _) ((Memref.write_access_whole_univ _ _ _ _).trans (stB (Memref.read_access_whole _ _ _) hvb hb hvp hp 2#32 (by decide) _ (w 2) hw2 _)) (acc _ _) ?_
  refine st_scatter' d i (Memref.set_access_whole _) ((Memref.write_access_whole_univ _ _ _ _).trans (stB (Memref.read_access_whole _ _ _) hvb hb hvp hp 3#32 (by decide) _ (w 3) hw3 _)) (acc _ _) ?_
  refine st_pure d i ?_
  exact hk

theorem b_ix0 (fC fO : Vec F S8x1792 .f32) (fP : Vec F S8x4x640 .f32) (b u p : ℕ) (v153 : IVec S16 32) {v168 : Vec F S16 .f32} {v242 : FVec F S16 .f32} {v171 : Vec F S16 .f32} {v243 : FVec F S16 .f32} {v174 : Vec F S16 .f32} {v244 : FVec F S16 .f32} {v156 : Vec F S16 .f32} {v159 : Vec F S16 .f32} {v162 : Vec F S16 .f32} {v165 : Vec F S16 .f32} {v277 : FVec F S16 .f32} {v279 : FVec F S16 .f32} {v281 : IVec S16 1}
    (h_v168 : v168 = (fun x => at2 fC b (28 * (u + ln x) + (4#32).toNat))) (h_v242 : v242 = (k0_pay241 v168)) (h_v171 : v171 = (fun x => at2 fC b (28 * (u + ln x) + (5#32).toNat))) (h_v243 : v243 = (k0_pay242 v171)) (h_v174 : v174 = (fun x => at2 fC b (28 * (u + ln x) + (6#32).toNat))) (h_v244 : v244 = (k0_pay243 v174)) (h_v156 : v156 = (fun x => at2 fC b (28 * (u + ln x) + (0#32).toNat))) (h_v159 : v159 = (fun x => at2 fC b (28 * (u + ln x) + (1#32).toNat))) (h_v162 : v162 = (fun x => at2 fC b (28 * (u + ln x) + (2#32).toNat))) (h_v165 : v165 = (fun x => at2 fC b (28 * (u + ln x) + (3#32).toNat))) (h_v277 : v277 = (k0_pay260 v156 v159 v162 v165)) (h_v279 : v279 = (k0_pay261 v156 v159 v162 v165)) (h_v281 : v281 = (k0_pay263 v156 v159 v162 v165 v168)) :
    k0_pay273 v153 v242 v243 v244 v277 v279 v281 = addi (addi v153 (broadcast S16 0#32)) (fun x => bestIdx (sideOf (laneAt fC b (u + ln x)) 0)) := by
  subst h_v281 h_v279 h_v277 h_v165 h_v162 h_v159 h_v156 h_v244 h_v174 h_v243 h_v171 h_v242 h_v168
  rfl

theorem b_ix1 (fC fO : Vec F S8x1792 .f32) (fP : Vec F S8x4x640 .f32) (b u p : ℕ) (v153 : IVec S16 32) {v192 : Vec F S16 .f32} {v334 : FVec F S16 .f32} {v195 : Vec F S16 .f32} {v335 : FVec F S16 .f32} {v177 : Vec F S16 .f32} {v329 : FVec F S16 .f32} {v180 : Vec F S16 .f32} {v330 : FVec F S16 .f32} {v183 : Vec F S16 .f32} {v331 : FVec F S16 .f32} {v186 : Vec F S16 .f32} {v332 : FVec F S16 .f32} {v189 : Vec F S16 .f32} {v333 : FVec F S16 .f32} {v379 : FVec F S16 .f32} {v381 : FVec F S16 .f32} {v383 : IVec S16 1}
    (h_v192 : v192 = (fun x => at2 fC b (28 * (u + ln x) + (12#32).toNat))) (h_v334 : v334 = (k0_pay280 v192)) (h_v195 : v195 = (fun x => at2 fC b (28 * (u + ln x) + (13#32).toNat))) (h_v335 : v335 = (k0_pay281 v195)) (h_v177 : v177 = (fun x => at2 fC b (28 * (u + ln x) + (7#32).toNat))) (h_v329 : v329 = (k0_pay275 v177)) (h_v180 : v180 = (fun x => at2 fC b (28 * (u + ln x) + (8#32).toNat))) (h_v330 : v330 = (k0_pay276 v180)) (h_v183 : v183 = (fun x => at2 fC b (28 * (u + ln x) + (9#32).toNat))) (h_v331 : v331 = (k0_pay277 v183)) (h_v186 : v186 = (fun x => at2 fC b (28 * (u + ln x) + (10#32).toNat))) (h_v332 : v332 = (k0_pay278 v186)) (h_v189 : v189 = (fun x => at2 fC b (28 * (u + ln x) + (11#32).toNat))) (h_v333 : v333 = (k0_pay279 v189)) (h_v379 : v379 = (k0_pay303 v329 v330 v331 v332 v333)) (h_v381 : v381 = (k0_pay304 v329 v330 v331 v332 v333)) (h_v383 : v383 = (k0_pay306 v329 v330 v331 v332 v333 v334)) :
    k0_pay312 v153 v334 v335 v379 v381 v383 = addi (addi v153 (broadcast S16 7#32)) (fun x => bestIdx (sideOf (laneAt fC b (u + ln x)) 1)) := by
  subst h_v383 h_v381 h_v379 h_v333 h_v189 h_v332 h_v186 h_v331 h_v183 h_v330 h_v180 h_v329 h_v177 h_v335 h_v195 h_v334 h_v192
  rfl

theorem b_ix2 (fC fO : Vec F S8x1792 .f32) (fP : Vec F S8x4x640 .f32) (b u p : ℕ) (v153 : IVec S16 32) {v216 : Vec F S16 .f32} {v427 : FVec F S16 .f32} {v198 : Vec F S16 .f32} {v421 : FVec F S16 .f32} {v201 : Vec F S16 .f32} {v422 : FVec F S16 .f32} {v204 : Vec F S16 .f32} {v423 : FVec F S16 .f32} {v207 : Vec F S16 .f32} {v424 : FVec F S16 .f32} {v210 : Vec F S16 .f32} {v425 : FVec F S16 .f32} {v428 : FVec F S16 .f32} {v431 : IVec S16 1} {v473 : FVec F S16 .f32} {v213 : Vec F S16 .f32} {v426 : FVec F S16 .f32} {v475 : IVec S16 1} {v482 : FVec F S16 .f32} {v483 : FVec F S16 .f32}
    (h_v216 : v216 = (fun x => at2 fC b (28 * (u + ln x) + (20#32).toNat))) (h_v427 : v427 = (k0_pay320 v216)) (h_v198 : v198 = (fun x => at2 fC b (28 * (u + ln x) + (14#32).toNat))) (h_v421 : v421 = (k0_pay314 v198)) (h_v201 : v201 = (fun x => at2 fC b (28 * (u + ln x) + (15#32).toNat))) (h_v422 : v422 = (k0_pay315 v201)) (h_v204 : v204 = (fun x => at2 fC b (28 * (u + ln x) + (16#32).toNat))) (h_v423 : v423 = (k0_pay316 v204)) (h_v207 : v207 = (fun x => at2 fC b (28 * (u + ln x) + (17#32).toNat))) (h_v424 : v424 = (k0_pay317 v207)) (h_v210 : v210 = (fun x => at2 fC b (28 * (u + ln x) + (18#32).toNat))) (h_v425 : v425 = (k0_pay318 v210)) (h_v428 : v428 = (k0_pay321 (F := F))) (h_v431 : v431 = (k0_pay324 v198 v201)) (h_v473 : v473 = (k0_pay344 v421 v422 v423 v424 v425 v428 v431)) (h_v213 : v213 = (fun x => at2 fC b (28 * (u + ln x) + (19#32).toNat))) (h_v426 : v426 = (k0_pay319 v213)) (h_v475 : v475 = (k0_pay346 v421 v422 v423 v424 v425 v426)) (h_v482 : v482 = (k0_pay350 v421 v422 v423 v424 v425 v426)) (h_v483 : v483 = (k0_pay351 (F := F))) :
    k0_pay355 v153 v427 v473 v475 v482 v483 = addi (addi v153 (broadcast S16 14#32)) (fun x => bestIdx (sideOf (laneAt fC b (u + ln x)) 2)) := by
  subst h_v483 h_v482 h_v475 h_v426 h_v213 h_v473 h_v431 h_v428 h_v425 h_v210 h_v424 h_v207 h_v423 h_v204 h_v422 h_v201 h_v421 h_v198 h_v427 h_v216
  rfl

theorem b_ix3 (fC fO : Vec F S8x1792 .f32) (fP : Vec F S8x4x640 .f32) (b u p : ℕ) (v153 : IVec S16 32) {v225 : Vec F S16 .f32} {v515 : FVec F S16 .f32} {v228 : Vec F S16 .f32} {v516 : FVec F S16 .f32} {v231 : Vec F S16 .f32} {v517 : FVec F S16 .f32} {v234 : Vec F S16 .f32} {v518 : FVec F S16 .f32} {v219 : Vec F S16 .f32} {v222 : Vec F S16 .f32} {v530 : FVec F S16 .f32} {v532 : FVec F S16 .f32} {v576 : FVec F S16 .f32} {v237 : Vec F S16 .f32} {v519 : FVec F S16 .f32} {v578 : IVec S16 1}
    (h_v225 : v225 = (fun x => at2 fC b (28 * (u + ln x) + (23#32).toNat))) (h_v515 : v515 = (k0_pay359 v225)) (h_v228 : v228 = (fun x => at2 fC b (28 * (u + ln x) + (24#32).toNat))) (h_v516 : v516 = (k0_pay360 v228)) (h_v231 : v231 = (fun x => at2 fC b (28 * (u + ln x) + (25#32).toNat))) (h_v517 : v517 = (k0_pay361 v231)) (h_v234 : v234 = (fun x => at2 fC b (28 * (u + ln x) + (26#32).toNat))) (h_v518 : v518 = (k0_pay362 v234)) (h_v219 : v219 = (fun x => at2 fC b (28 * (u + ln x) + (21#32).toNat))) (h_v222 : v222 = (fun x => at2 fC b (28 * (u + ln x) + (22#32).toNat))) (h_v530 : v530 = (k0_pay370 v219 v222)) (h_v532 : v532 = (k0_pay371 v219 v222)) (h_v576 : v576 = (k0_pay391 v515 v516 v517 v518 v530 v532)) (h_v237 : v237 = (fun x => at2 fC b (28 * (u + ln x) + (27#32).toNat))) (h_v519 : v519 = (k0_pay363 v237)) (h_v578 : v578 = (k0_pay393 v515 v516 v517 v518 v519 v530)) :
    k0_pay398 v153 v576 v578 = addi (addi v153 (broadcast S16 21#32)) (fun x => bestIdx (sideOf (laneAt fC b (u + ln x)) 3)) := by
  subst h_v578 h_v519 h_v237 h_v576 h_v532 h_v530 h_v222 h_v219 h_v518 h_v234 h_v517 h_v231 h_v516 h_v228 h_v515 h_v225
  rfl

theorem b_box0 (fC fO : Vec F S8x1792 .f32) (fP : Vec F S8x4x640 .f32) (b u p : ℕ)  {v168 : Vec F S16 .f32} {v242 : FVec F S16 .f32} {v171 : Vec F S16 .f32} {v243 : FVec F S16 .f32} {v174 : Vec F S16 .f32} {v244 : FVec F S16 .f32} {v156 : Vec F S16 .f32} {v159 : Vec F S16 .f32} {v162 : Vec F S16 .f32} {v165 : Vec F S16 .f32} {v277 : FVec F S16 .f32} {v279 : FVec F S16 .f32} {v281 : IVec S16 1} {v312 : FVec F S16 .f32} {v318 : Vec F S16 .f32} {v612 : Vec F S16 .f32} {v614 : Vec F S16 .f32} {v620 : FVec F S16 .f32} {v626 : FVec F S16 .f32}
    (h_v168 : v168 = (fun x => at2 fC b (28 * (u + ln x) + (4#32).toNat))) (h_v242 : v242 = (k0_pay241 v168)) (h_v171 : v171 = (fun x => at2 fC b (28 * (u + ln x) + (5#32).toNat))) (h_v243 : v243 = (k0_pay242 v171)) (h_v174 : v174 = (fun x => at2 fC b (28 * (u + ln x) + (6#32).toNat))) (h_v244 : v244 = (k0_pay243 v174)) (h_v156 : v156 = (fun x => at2 fC b (28 * (u + ln x) + (0#32).toNat))) (h_v159 : v159 = (fun x => at2 fC b (28 * (u + ln x) + (1#32).toNat))) (h_v162 : v162 = (fun x => at2 fC b (28 * (u + ln x) + (2#32).toNat))) (h_v165 : v165 = (fun x => at2 fC b (28 * (u + ln x) + (3#32).toNat))) (h_v277 : v277 = (k0_pay260 v156 v159 v162 v165)) (h_v279 : v279 = (k0_pay261 v156 v159 v162 v165)) (h_v281 : v281 = (k0_pay263 v156 v159 v162 v165 v168)) (h_v312 : v312 = (k0_pay272 v242 v243 v244 v277 v279 v281)) (h_v318 : v318 = (fun x => laneAt fO b (u + ln x) (offIdx (laneAt fC b (u + ln x)) 0))) (h_v612 : v612 = (fun x => at3 fP b (0#32).toNat (p + ln x))) (h_v614 : v614 = (fun x => at3 fP b (2#32).toNat (p + ln x))) (h_v620 : v620 = (k0_pay403 v612 v614)) (h_v626 : v626 = (k0_pay405 v612 v614)) :
    k0_pay409 v312 v318 v620 v626 = fun x => laneBox (laneAt fC b (u + ln x)) (laneAt fO b (u + ln x)) (propAt fP b (p + ln x)) 0 := by
  subst h_v626 h_v620 h_v614 h_v612 h_v318 h_v312 h_v281 h_v279 h_v277 h_v165 h_v162 h_v159 h_v156 h_v244 h_v174 h_v243 h_v171 h_v242 h_v168
  rfl

theorem b_box1 (fC fO : Vec F S8x1792 .f32) (fP : Vec F S8x4x640 .f32) (b u p : ℕ)  {v216 : Vec F S16 .f32} {v427 : FVec F S16 .f32} {v198 : Vec F S16 .f32} {v421 : FVec F S16 .f32} {v201 : Vec F S16 .f32} {v422 : FVec F S16 .f32} {v204 : Vec F S16 .f32} {v423 : FVec F S16 .f32} {v207 : Vec F S16 .f32} {v424 : FVec F S16 .f32} {v210 : Vec F S16 .f32} {v425 : FVec F S16 .f32} {v428 : FVec F S16 .f32} {v431 : IVec S16 1} {v473 : FVec F S16 .f32} {v213 : Vec F S16 .f32} {v426 : FVec F S16 .f32} {v475 : IVec S16 1} {v482 : FVec F S16 .f32} {v483 : FVec F S16 .f32} {v495 : FVec F S16 .f32} {v501 : Vec F S16 .f32} {v613 : Vec F S16 .f32} {v615 : Vec F S16 .f32} {v617 : FVec F S16 .f32} {v623 : FVec F S16 .f32}
    (h_v216 : v216 = (fun x => at2 fC b (28 * (u + ln x) + (20#32).toNat))) (h_v427 : v427 = (k0_pay320 v216)) (h_v198 : v198 = (fun x => at2 fC b (28 * (u + ln x) + (14#32).toNat))) (h_v421 : v421 = (k0_pay314 v198)) (h_v201 : v201 = (fun x => at2 fC b (28 * (u + ln x) + (15#32).toNat))) (h_v422 : v422 = (k0_pay315 v201)) (h_v204 : v204 = (fun x => at2 fC b (28 * (u + ln x) + (16#32).toNat))) (h_v423 : v423 = (k0_pay316 v204)) (h_v207 : v207 = (fun x => at2 fC b (28 * (u + ln x) + (17#32).toNat))) (h_v424 : v424 = (k0_pay317 v207)) (h_v210 : v210 = (fun x => at2 fC b (28 * (u + ln x) + (18#32).toNat))) (h_v425 : v425 = (k0_pay318 v210)) (h_v428 : v428 = (k0_pay321 (F := F))) (h_v431 : v431 = (k0_pay324 v198 v201)) (h_v473 : v473 = (k0_pay344 v421 v422 v423 v424 v425 v428 v431)) (h_v213 : v213 = (fun x => at2 fC b (28 * (u + ln x) + (19#32).toNat))) (h_v426 : v426 = (k0_pay319 v213)) (h_v475 : v475 = (k0_pay346 v421 v422 v423 v424 v425 v426)) (h_v482 : v482 = (k0_pay350 v421 v422 v423 v424 v425 v426)) (h_v483 : v483 = (k0_pay351 (F := F))) (h_v495 : v495 = (k0_pay354 v427 v473 v475 v482 v483)) (h_v501 : v501 = (fun x => laneAt fO b (u + ln x) (offIdx (laneAt fC b (u + ln x)) 2))) (h_v613 : v613 = (fun x => at3 fP b (1#32).toNat (p + ln x))) (h_v615 : v615 = (fun x => at3 fP b (3#32).toNat (p + ln x))) (h_v617 : v617 = (k0_pay402 v613 v615)) (h_v623 : v623 = (k0_pay404 v613 v615)) :
    k0_pay411 v495 v501 v617 v623 = fun x => laneBox (laneAt fC b (u + ln x)) (laneAt fO b (u + ln x)) (propAt fP b (p + ln x)) 1 := by
  subst h_v623 h_v617 h_v615 h_v613 h_v501 h_v495 h_v483 h_v482 h_v475 h_v426 h_v213 h_v473 h_v431 h_v428 h_v425 h_v210 h_v424 h_v207 h_v423 h_v204 h_v422 h_v201 h_v421 h_v198 h_v427 h_v216
  rfl

theorem b_box2 (fC fO : Vec F S8x1792 .f32) (fP : Vec F S8x4x640 .f32) (b u p : ℕ)  {v192 : Vec F S16 .f32} {v334 : FVec F S16 .f32} {v195 : Vec F S16 .f32} {v335 : FVec F S16 .f32} {v177 : Vec F S16 .f32} {v329 : FVec F S16 .f32} {v180 : Vec F S16 .f32} {v330 : FVec F S16 .f32} {v183 : Vec F S16 .f32} {v331 : FVec F S16 .f32} {v186 : Vec F S16 .f32} {v332 : FVec F S16 .f32} {v189 : Vec F S16 .f32} {v333 : FVec F S16 .f32} {v379 : FVec F S16 .f32} {v381 : FVec F S16 .f32} {v383 : IVec S16 1} {v403 : FVec F S16 .f32} {v409 : Vec F S16 .f32} {v612 : Vec F S16 .f32} {v614 : Vec F S16 .f32} {v620 : FVec F S16 .f32} {v629 : FVec F S16 .f32}
    (h_v192 : v192 = (fun x => at2 fC b (28 * (u + ln x) + (12#32).toNat))) (h_v334 : v334 = (k0_pay280 v192)) (h_v195 : v195 = (fun x => at2 fC b (28 * (u + ln x) + (13#32).toNat))) (h_v335 : v335 = (k0_pay281 v195)) (h_v177 : v177 = (fun x => at2 fC b (28 * (u + ln x) + (7#32).toNat))) (h_v329 : v329 = (k0_pay275 v177)) (h_v180 : v180 = (fun x => at2 fC b (28 * (u + ln x) + (8#32).toNat))) (h_v330 : v330 = (k0_pay276 v180)) (h_v183 : v183 = (fun x => at2 fC b (28 * (u + ln x) + (9#32).toNat))) (h_v331 : v331 = (k0_pay277 v183)) (h_v186 : v186 = (fun x => at2 fC b (28 * (u + ln x) + (10#32).toNat))) (h_v332 : v332 = (k0_pay278 v186)) (h_v189 : v189 = (fun x => at2 fC b (28 * (u + ln x) + (11#32).toNat))) (h_v333 : v333 = (k0_pay279 v189)) (h_v379 : v379 = (k0_pay303 v329 v330 v331 v332 v333)) (h_v381 : v381 = (k0_pay304 v329 v330 v331 v332 v333)) (h_v383 : v383 = (k0_pay306 v329 v330 v331 v332 v333 v334)) (h_v403 : v403 = (k0_pay311 v334 v335 v379 v381 v383)) (h_v409 : v409 = (fun x => laneAt fO b (u + ln x) (offIdx (laneAt fC b (u + ln x)) 1))) (h_v612 : v612 = (fun x => at3 fP b (0#32).toNat (p + ln x))) (h_v614 : v614 = (fun x => at3 fP b (2#32).toNat (p + ln x))) (h_v620 : v620 = (k0_pay403 v612 v614)) (h_v629 : v629 = (k0_pay406 v612 v614)) :
    k0_pay410 v403 v409 v620 v629 = fun x => laneBox (laneAt fC b (u + ln x)) (laneAt fO b (u + ln x)) (propAt fP b (p + ln x)) 2 := by
  subst h_v629 h_v620 h_v614 h_v612 h_v409 h_v403 h_v383 h_v381 h_v379 h_v333 h_v189 h_v332 h_v186 h_v331 h_v183 h_v330 h_v180 h_v329 h_v177 h_v335 h_v195 h_v334 h_v192
  rfl

theorem b_box3 (fC fO : Vec F S8x1792 .f32) (fP : Vec F S8x4x640 .f32) (b u p : ℕ)  {v225 : Vec F S16 .f32} {v515 : FVec F S16 .f32} {v228 : Vec F S16 .f32} {v516 : FVec F S16 .f32} {v231 : Vec F S16 .f32} {v517 : FVec F S16 .f32} {v234 : Vec F S16 .f32} {v518 : FVec F S16 .f32} {v219 : Vec F S16 .f32} {v222 : Vec F S16 .f32} {v530 : FVec F S16 .f32} {v532 : FVec F S16 .f32} {v576 : FVec F S16 .f32} {v237 : Vec F S16 .f32} {v519 : FVec F S16 .f32} {v578 : IVec S16 1} {v587 : FVec F S16 .f32} {v593 : Vec F S16 .f32} {v613 : Vec F S16 .f32} {v615 : Vec F S16 .f32} {v617 : FVec F S16 .f32} {v623 : FVec F S16 .f32}
    (h_v225 : v225 = (fun x => at2 fC b (28 * (u + ln x) + (23#32).toNat))) (h_v515 : v515 = (k0_pay359 v225)) (h_v228 : v228 = (fun x => at2 fC b (28 * (u + ln x) + (24#32).toNat))) (h_v516 : v516 = (k0_pay360 v228)) (h_v231 : v231 = (fun x => at2 fC b (28 * (u + ln x) + (25#32).toNat))) (h_v517 : v517 = (k0_pay361 v231)) (h_v234 : v234 = (fun x => at2 fC b (28 * (u + ln x) + (26#32).toNat))) (h_v518 : v518 = (k0_pay362 v234)) (h_v219 : v219 = (fun x => at2 fC b (28 * (u + ln x) + (21#32).toNat))) (h_v222 : v222 = (fun x => at2 fC b (28 * (u + ln x) + (22#32).toNat))) (h_v530 : v530 = (k0_pay370 v219 v222)) (h_v532 : v532 = (k0_pay371 v219 v222)) (h_v576 : v576 = (k0_pay391 v515 v516 v517 v518 v530 v532)) (h_v237 : v237 = (fun x => at2 fC b (28 * (u + ln x) + (27#32).toNat))) (h_v519 : v519 = (k0_pay363 v237)) (h_v578 : v578 = (k0_pay393 v515 v516 v517 v518 v519 v530)) (h_v587 : v587 = (k0_pay397 v576 v578)) (h_v593 : v593 = (fun x => laneAt fO b (u + ln x) (offIdx (laneAt fC b (u + ln x)) 3))) (h_v613 : v613 = (fun x => at3 fP b (1#32).toNat (p + ln x))) (h_v615 : v615 = (fun x => at3 fP b (3#32).toNat (p + ln x))) (h_v617 : v617 = (k0_pay402 v613 v615)) (h_v623 : v623 = (k0_pay404 v613 v615)) :
    k0_pay412 v587 v593 v617 v623 = fun x => laneBox (laneAt fC b (u + ln x)) (laneAt fO b (u + ln x)) (propAt fP b (p + ln x)) 3 := by
  subst h_v623 h_v617 h_v615 h_v613 h_v593 h_v587 h_v578 h_v519 h_v237 h_v576 h_v532 h_v530 h_v222 h_v219 h_v518 h_v234 h_v517 h_v231 h_v516 h_v228 h_v515 h_v225
  rfl

theorem b_conf (fC fO : Vec F S8x1792 .f32) (fP : Vec F S8x4x640 .f32) (b u p : ℕ)  {v168 : Vec F S16 .f32} {v242 : FVec F S16 .f32} {v171 : Vec F S16 .f32} {v243 : FVec F S16 .f32} {v174 : Vec F S16 .f32} {v244 : FVec F S16 .f32} {v156 : Vec F S16 .f32} {v159 : Vec F S16 .f32} {v162 : Vec F S16 .f32} {v165 : Vec F S16 .f32} {v276 : FVec F S16 .f32} {v277 : FVec F S16 .f32} {v279 : FVec F S16 .f32} {v280 : FVec F S16 .f32} {v281 : IVec S16 1} {v282 : IVec S16 1} {v284 : FVec F S16 .f32} {cst_97 : F .f32} {v328 : FVec F S16 .f32} {v192 : Vec F S16 .f32} {v334 : FVec F S16 .f32} {v195 : Vec F S16 .f32} {v335 : FVec F S16 .f32} {v177 : Vec F S16 .f32} {v329 : FVec F S16 .f32} {v180 : Vec F S16 .f32} {v330 : FVec F S16 .f32} {v183 : Vec F S16 .f32} {v331 : FVec F S16 .f32} {v186 : Vec F S16 .f32} {v332 : FVec F S16 .f32} {v189 : Vec F S16 .f32} {v333 : FVec F S16 .f32} {v375 : FVec F S16 .f32} {v378 : FVec F S16 .f32} {v379 : FVec F S16 .f32} {v381 : FVec F S16 .f32} {v382 : FVec F S16 .f32} {v383 : IVec S16 1} {v384 : IVec S16 1} {v420 : FVec F S16 .f32} {v213 : Vec F S16 .f32} {v426 : FVec F S16 .f32} {v216 : Vec F S16 .f32} {v427 : FVec F S16 .f32} {v198 : Vec F S16 .f32} {v421 : FVec F S16 .f32} {v201 : Vec F S16 .f32} {v422 : FVec F S16 .f32} {v204 : Vec F S16 .f32} {v423 : FVec F S16 .f32} {v207 : Vec F S16 .f32} {v424 : FVec F S16 .f32} {v210 : Vec F S16 .f32} {v425 : FVec F S16 .f32} {v428 : FVec F S16 .f32} {v431 : IVec S16 1} {v473 : FVec F S16 .f32} {v474 : FVec F S16 .f32} {v475 : IVec S16 1} {v433 : FVec F S16 .f32} {v478 : FVec F S16 .f32} {v430 : FVec F S16 .f32} {v432 : IVec S16 1} {v481 : FVec F S16 .f32} {v482 : FVec F S16 .f32} {v483 : FVec F S16 .f32} {v512 : FVec F S16 .f32} {v237 : Vec F S16 .f32} {v519 : FVec F S16 .f32} {v225 : Vec F S16 .f32} {v515 : FVec F S16 .f32} {v228 : Vec F S16 .f32} {v516 : FVec F S16 .f32} {v231 : Vec F S16 .f32} {v517 : FVec F S16 .f32} {v234 : Vec F S16 .f32} {v518 : FVec F S16 .f32} {v219 : Vec F S16 .f32} {v222 : Vec F S16 .f32} {v530 : FVec F S16 .f32} {v574 : FVec F S16 .f32} {v532 : FVec F S16 .f32} {v576 : FVec F S16 .f32} {v513 : FVec F S16 .f32} {v514 : FVec F S16 .f32} {v577 : FVec F S16 .f32} {v578 : IVec S16 1} {v526 : FVec F S16 .f32} {v581 : FVec F S16 .f32} {v529 : FVec F S16 .f32} {v583 : FVec F S16 .f32} {v604 : FVec F S16 .f32}
    (h_v168 : v168 = (fun x => at2 fC b (28 * (u + ln x) + (4#32).toNat))) (h_v242 : v242 = (k0_pay241 v168)) (h_v171 : v171 = (fun x => at2 fC b (28 * (u + ln x) + (5#32).toNat))) (h_v243 : v243 = (k0_pay242 v171)) (h_v174 : v174 = (fun x => at2 fC b (28 * (u + ln x) + (6#32).toNat))) (h_v244 : v244 = (k0_pay243 v174)) (h_v156 : v156 = (fun x => at2 fC b (28 * (u + ln x) + (0#32).toNat))) (h_v159 : v159 = (fun x => at2 fC b (28 * (u + ln x) + (1#32).toNat))) (h_v162 : v162 = (fun x => at2 fC b (28 * (u + ln x) + (2#32).toNat))) (h_v165 : v165 = (fun x => at2 fC b (28 * (u + ln x) + (3#32).toNat))) (h_v276 : v276 = (k0_pay259 v156 v159 v162 v165)) (h_v277 : v277 = (k0_pay260 v156 v159 v162 v165)) (h_v279 : v279 = (k0_pay261 v156 v159 v162 v165)) (h_v280 : v280 = (k0_pay262 v156 v159 v162 v165)) (h_v281 : v281 = (k0_pay263 v156 v159 v162 v165 v168)) (h_v282 : v282 = (k0_pay264 v156 v159 v162 v165 v168)) (h_v284 : v284 = (k0_pay265 v156 v159 v162 v165 v168)) (h_cst_97 : cst_97 = (Scalar.ofBits .f32 0x40800000#32)) (h_v328 : v328 = (k0_pay274 v242 v243 v244 v276 v277 v279 v280 v281 v282 v284 cst_97)) (h_v192 : v192 = (fun x => at2 fC b (28 * (u + ln x) + (12#32).toNat))) (h_v334 : v334 = (k0_pay280 v192)) (h_v195 : v195 = (fun x => at2 fC b (28 * (u + ln x) + (13#32).toNat))) (h_v335 : v335 = (k0_pay281 v195)) (h_v177 : v177 = (fun x => at2 fC b (28 * (u + ln x) + (7#32).toNat))) (h_v329 : v329 = (k0_pay275 v177)) (h_v180 : v180 = (fun x => at2 fC b (28 * (u + ln x) + (8#32).toNat))) (h_v330 : v330 = (k0_pay276 v180)) (h_v183 : v183 = (fun x => at2 fC b (28 * (u + ln x) + (9#32).toNat))) (h_v331 : v331 = (k0_pay277 v183)) (h_v186 : v186 = (fun x => at2 fC b (28 * (u + ln x) + (10#32).toNat))) (h_v332 : v332 = (k0_pay278 v186)) (h_v189 : v189 = (fun x => at2 fC b (28 * (u + ln x) + (11#32).toNat))) (h_v333 : v333 = (k0_pay279 v189)) (h_v375 : v375 = (k0_pay301 v329 v330 v331 v332 v333)) (h_v378 : v378 = (k0_pay302 v329 v330 v331 v332 v333)) (h_v379 : v379 = (k0_pay303 v329 v330 v331 v332 v333)) (h_v381 : v381 = (k0_pay304 v329 v330 v331 v332 v333)) (h_v382 : v382 = (k0_pay305 v329 v330 v331 v332 v333)) (h_v383 : v383 = (k0_pay306 v329 v330 v331 v332 v333 v334)) (h_v384 : v384 = (k0_pay307 v329 v330 v331 v332 v333 v334)) (h_v420 : v420 = (k0_pay313 v328 v334 v335 v375 v378 v379 v381 v382 v383 v384)) (h_v213 : v213 = (fun x => at2 fC b (28 * (u + ln x) + (19#32).toNat))) (h_v426 : v426 = (k0_pay319 v213)) (h_v216 : v216 = (fun x => at2 fC b (28 * (u + ln x) + (20#32).toNat))) (h_v427 : v427 = (k0_pay320 v216)) (h_v198 : v198 = (fun x => at2 fC b (28 * (u + ln x) + (14#32).toNat))) (h_v421 : v421 = (k0_pay314 v198)) (h_v201 : v201 = (fun x => at2 fC b (28 * (u + ln x) + (15#32).toNat))) (h_v422 : v422 = (k0_pay315 v201)) (h_v204 : v204 = (fun x => at2 fC b (28 * (u + ln x) + (16#32).toNat))) (h_v423 : v423 = (k0_pay316 v204)) (h_v207 : v207 = (fun x => at2 fC b (28 * (u + ln x) + (17#32).toNat))) (h_v424 : v424 = (k0_pay317 v207)) (h_v210 : v210 = (fun x => at2 fC b (28 * (u + ln x) + (18#32).toNat))) (h_v425 : v425 = (k0_pay318 v210)) (h_v428 : v428 = (k0_pay321 (F := F))) (h_v431 : v431 = (k0_pay324 v198 v201)) (h_v473 : v473 = (k0_pay344 v421 v422 v423 v424 v425 v428 v431)) (h_v474 : v474 = (k0_pay345 v421 v422 v423 v424 v425)) (h_v475 : v475 = (k0_pay346 v421 v422 v423 v424 v425 v426)) (h_v433 : v433 = (k0_pay326 v201)) (h_v478 : v478 = (k0_pay348 v421 v422 v423 v424 v425 v426 v431 v433)) (h_v430 : v430 = (k0_pay323 (F := F))) (h_v432 : v432 = (k0_pay325 v201)) (h_v481 : v481 = (k0_pay349 v421 v422 v423 v424 v425 v426 v428 v430 v431 v432 v433)) (h_v482 : v482 = (k0_pay350 v421 v422 v423 v424 v425 v426)) (h_v483 : v483 = (k0_pay351 (F := F))) (h_v512 : v512 = (k0_pay356 v420 v426 v427 v473 v474 v475 v478 v481 v482 v483)) (h_v237 : v237 = (fun x => at2 fC b (28 * (u + ln x) + (27#32).toNat))) (h_v519 : v519 = (k0_pay363 v237)) (h_v225 : v225 = (fun x => at2 fC b (28 * (u + ln x) + (23#32).toNat))) (h_v515 : v515 = (k0_pay359 v225)) (h_v228 : v228 = (fun x => at2 fC b (28 * (u + ln x) + (24#32).toNat))) (h_v516 : v516 = (k0_pay360 v228)) (h_v231 : v231 = (fun x => at2 fC b (28 * (u + ln x) + (25#32).toNat))) (h_v517 : v517 = (k0_pay361 v231)) (h_v234 : v234 = (fun x => at2 fC b (28 * (u + ln x) + (26#32).toNat))) (h_v518 : v518 = (k0_pay362 v234)) (h_v219 : v219 = (fun x => at2 fC b (28 * (u + ln x) + (21#32).toNat))) (h_v222 : v222 = (fun x => at2 fC b (28 * (u + ln x) + (22#32).toNat))) (h_v530 : v530 = (k0_pay370 v219 v222)) (h_v574 : v574 = (k0_pay390 v515 v516 v517 v518 v530)) (h_v532 : v532 = (k0_pay371 v219 v222)) (h_v576 : v576 = (k0_pay391 v515 v516 v517 v518 v530 v532)) (h_v513 : v513 = (k0_pay357 v219)) (h_v514 : v514 = (k0_pay358 v222)) (h_v577 : v577 = (k0_pay392 v513 v514 v515 v516 v517 v518)) (h_v578 : v578 = (k0_pay393 v515 v516 v517 v518 v519 v530)) (h_v526 : v526 = (k0_pay368 v219 v222)) (h_v581 : v581 = (k0_pay395 v515 v516 v517 v518 v519 v526 v530)) (h_v529 : v529 = (k0_pay369 v219 v222)) (h_v583 : v583 = (k0_pay396 v515 v516 v517 v518 v519 v526 v529 v530 v532)) (h_v604 : v604 = (k0_pay399 v512 v519 v574 v576 v577 v578 v581 v583)) :
    k0_pay414 v604 = fun x => laneConf (laneAt fC b (u + ln x)) := by
  subst h_v604 h_v583 h_v529 h_v581 h_v526 h_v578 h_v577 h_v514 h_v513 h_v576 h_v532 h_v574 h_v530 h_v222 h_v219 h_v518 h_v234 h_v517 h_v231 h_v516 h_v228 h_v515 h_v225 h_v519 h_v237 h_v512 h_v483 h_v482 h_v481 h_v432 h_v430 h_v478 h_v433 h_v475 h_v474 h_v473 h_v431 h_v428 h_v425 h_v210 h_v424 h_v207 h_v423 h_v204 h_v422 h_v201 h_v421 h_v198 h_v427 h_v216 h_v426 h_v213 h_v420 h_v384 h_v383 h_v382 h_v381 h_v379 h_v378 h_v375 h_v333 h_v189 h_v332 h_v186 h_v331 h_v183 h_v330 h_v180 h_v329 h_v177 h_v335 h_v195 h_v334 h_v192 h_v328 h_cst_97 h_v284 h_v282 h_v281 h_v280 h_v279 h_v277 h_v276 h_v165 h_v162 h_v159 h_v156 h_v244 h_v174 h_v243 h_v171 h_v242 h_v168
  rfl

theorem group_b [Buckets F] (v6 : BitVec 32) (k0_t1 : Fin (k0_t1_loop i).trips) (arg18 : BitVec 32) (k0_h6 : k0_cond6 i k0_t1 = 1#1) (lb : Fin 5) (k0_t3 : Fin k0_t3_loop.trips) (fC fO : Vec F S8x1792 .f32) (fP : Vec F S8x4x640 .f32) (fB : Vec F S8x4x128 .f32) (fF : Vec F S5376 .f32) :
    (iprop((lC1 d i ↦{fullShare} fC) ∗ (lO1 d i ↦{fullShare} fO) ∗ (lP d i ↦{fullShare} fP) ∗ (lB d i ↦{fullShare} fB) ∗ (lF d i ↦{fullShare} fF)) : sProp 𝕄) ⊢
    wp frame (wpE (defs₀ (F := F)) 𝒱₀ (thr d i) none) Set.univ (k0_t3_body (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 v6 k0_t1 arg18 k0_h6 (BitVec.ofNat 32 lb.val) k0_t3 ()) (fun _ => iprop((lC1 d i ↦{fullShare} fC) ∗ (lO1 d i ↦{fullShare} fO) ∗ (lP d i ↦{fullShare} fP) ∗ (lB d i ↦{fullShare} (putBox fB (rowOf k0_t3.val) (64 + colOf k0_t3.val) (groupBox fC fO (rowOf k0_t3.val) (colOf k0_t3.val) (fun n => propAt fP (rowOf k0_t3.val) (128 * lb.val + 64 + colOf k0_t3.val + n))))) ∗ (lF d i ↦{fullShare} (putSeg fF (672 * rowOf k0_t3.val + 128 * (k0_t1.val / 2) + 64 + colOf k0_t3.val) (groupConf fC (rowOf k0_t3.val) (colOf k0_t3.val)))))) := by
  have hb : (rowOf k0_t3.val) < 8 := rowOf_lt _
  have hu : (colOf k0_t3.val) + 16 ≤ 64 := colOf_le (by have := k0_t3.isLt; have e := trips3; omega)
  have hp : (128 * lb.val + 64 + colOf k0_t3.val) + 16 ≤ 640 := by have := lb.isLt; omega
  have ho : (64 + colOf k0_t3.val) + 16 ≤ 128 := by omega
  have hoff : ∀ (s : Fin 4) (n : ℕ), (offIdx (laneAt fC (rowOf k0_t3.val) n) s).val = 7 * s.val + (bestIdx (sideOf (laneAt fC (rowOf k0_t3.val) n) s)).toNat := fun s n => offIdx_val _ s
  have accC := acc1 (lC1 d i ↦{fullShare} fC : sProp 𝕄) (lO1 d i ↦{fullShare} fO : sProp 𝕄) (lP d i ↦{fullShare} fP : sProp 𝕄) (lB d i ↦{fullShare} fB : sProp 𝕄) (lF d i ↦{fullShare} fF : sProp 𝕄)
  have accO := acc2 (lC1 d i ↦{fullShare} fC : sProp 𝕄) (lO1 d i ↦{fullShare} fO : sProp 𝕄) (lP d i ↦{fullShare} fP : sProp 𝕄) (lB d i ↦{fullShare} fB : sProp 𝕄) (lF d i ↦{fullShare} fF : sProp 𝕄)
  have accP := acc3 (lC1 d i ↦{fullShare} fC : sProp 𝕄) (lO1 d i ↦{fullShare} fO : sProp 𝕄) (lP d i ↦{fullShare} fP : sProp 𝕄) (lB d i ↦{fullShare} fB : sProp 𝕄) (lF d i ↦{fullShare} fF : sProp 𝕄)
  unfold k0_t3_body
  refine w_part14 d i _ _ _   ?_
  refine w_part15 d i _ _ _ _ _ _ _ _ _ hb (fun _ => b_row _) hu (b_col _) accC ?_
  intro v156 v159 v162 v145 v163
  intro h_v156 h_v159 h_v162 h_v145 h_v163
  refine w_part16 d i _ _ _ _ _ hb (fun _ => b_row _) hu (b_col _) h_v163 accC ?_
  intro v165 v168 v171 v174 v177 v180 v183 v186 v189 v192 v195 v198 v199
  intro h_v165 h_v168 h_v171 h_v174 h_v177 h_v180 h_v183 h_v186 h_v189 h_v192 h_v195 h_v198 h_v199
  refine w_part17 d i _ _ _ _ _ hb (fun _ => b_row _) hu (b_col _) h_v199 accC ?_
  intro v201 v204 v207 v210 v213 v216 v219 v222 v225 v228 v231 v234 v235
  intro h_v201 h_v204 h_v207 h_v210 h_v213 h_v216 h_v219 h_v222 h_v225 h_v228 h_v231 h_v234 h_v235
  refine w_part18 d i _ _ _ _ _ _ _ _ _ _ _ _ hb (fun _ => b_row _) hu (b_col _) h_v235 accC ?_
  intro v237 v242 v243 v244 v276 v277 v279 v280 v281 v282 v284 cst_97
  intro h_v237 h_v242 h_v243 h_v244 h_v276 h_v277 h_v279 h_v280 h_v281 h_v282 h_v284 h_cst_97
  refine w_part19 d i _ _ _ _ _ _ _ _ _ _ _ _ _ _ _ _ _ _ _ _ _ _ hb (fun _ => b_row _) hu (b_col _) (b_ix0 fC fO fP (rowOf k0_t3.val) (colOf k0_t3.val) 0 _ h_v168 h_v242 h_v171 h_v243 h_v174 h_v244 h_v156 h_v159 h_v162 h_v165 h_v277 h_v279 h_v281) (fun _ => bestIdx_lt _) accO ?_
  intro v318 v312 v328 v329 v330 v331 v332 v333 v334 v335
  intro h_v318 h_v312 h_v328 h_v329 h_v330 h_v331 h_v332 h_v333 h_v334 h_v335
  replace h_v318 : v318 = (fun x => laneAt fO (rowOf k0_t3.val) ((colOf k0_t3.val) + ln x) (offIdx (laneAt fC (rowOf k0_t3.val) ((colOf k0_t3.val) + ln x)) 0)) := by
    rw [h_v318]; funext x; exact congrArg (fun m => at2 fO _ (28 * _ + m)) (hoff 0 _).symm
  refine w_part20 d i _ _ _ _ _ _   ?_
  intro v375 v378 v379 v381 v382 v383 v384
  intro h_v375 h_v378 h_v379 h_v381 h_v382 h_v383 h_v384
  refine w_part21 d i _ _ _ _ _ _ _ _ _ _ _ _ _ _ _ _ _ _ _ _ _ hb (fun _ => b_row _) hu (b_col _) (b_ix1 fC fO fP (rowOf k0_t3.val) (colOf k0_t3.val) 0 _ h_v192 h_v334 h_v195 h_v335 h_v177 h_v329 h_v180 h_v330 h_v183 h_v331 h_v186 h_v332 h_v189 h_v333 h_v379 h_v381 h_v383) (fun _ => bestIdx_lt _) accO ?_
  intro v409 v403 v420 v421 v422 v423 v424 v425 v426 v427 v428 v430 v431 v432 v433
  intro h_v409 h_v403 h_v420 h_v421 h_v422 h_v423 h_v424 h_v425 h_v426 h_v427 h_v428 h_v430 h_v431 h_v432 h_v433
  replace h_v409 : v409 = (fun x => laneAt fO (rowOf k0_t3.val) ((colOf k0_t3.val) + ln x) (offIdx (laneAt fC (rowOf k0_t3.val) ((colOf k0_t3.val) + ln x)) 1)) := by
    rw [h_v409]; funext x; exact congrArg (fun m => at2 fO _ (28 * _ + m)) (hoff 1 _).symm
  refine w_part22 d i _ _ _ _ _ _ _ _ _ _ _   ?_
  intro v473 v474 v475 v478 v481 v482 v483
  intro h_v473 h_v474 h_v475 h_v478 h_v481 h_v482 h_v483
  refine w_part23 d i _ _ _ _ _ _ _ _ _ _ _ _ _ _ _ _ _ _ _ _ _ hb (fun _ => b_row _) hu (b_col _) (b_ix2 fC fO fP (rowOf k0_t3.val) (colOf k0_t3.val) 0 _ h_v216 h_v427 h_v198 h_v421 h_v201 h_v422 h_v204 h_v423 h_v207 h_v424 h_v210 h_v425 h_v428 h_v431 h_v473 h_v213 h_v426 h_v475 h_v482 h_v483) (fun _ => bestIdx_lt _) accO ?_
  intro v501 v495 v512 v513 v514 v515 v516 v517 v518 v519 v526 v529 v530 v532
  intro h_v501 h_v495 h_v512 h_v513 h_v514 h_v515 h_v516 h_v517 h_v518 h_v519 h_v526 h_v529 h_v530 h_v532
  replace h_v501 : v501 = (fun x => laneAt fO (rowOf k0_t3.val) ((colOf k0_t3.val) + ln x) (offIdx (laneAt fC (rowOf k0_t3.val) ((colOf k0_t3.val) + ln x)) 2)) := by
    rw [h_v501]; funext x; exact congrArg (fun m => at2 fO _ (28 * _ + m)) (hoff 2 _).symm
  refine w_part24 d i _ _ _ _ _ _ _ _ _ _ _   ?_
  intro v574 v576 v577 v578 v581 v583
  intro h_v574 h_v576 h_v577 h_v578 h_v581 h_v583
  refine w_part25 d i _ _ _ _ _ _ _ _ _ _ _ _ _ _ _ hb (fun _ => b_row _) hu (b_col _) (b_ix3 fC fO fP (rowOf k0_t3.val) (colOf k0_t3.val) 0 _ h_v225 h_v515 h_v228 h_v516 h_v231 h_v517 h_v234 h_v518 h_v219 h_v222 h_v530 h_v532 h_v576 h_v237 h_v519 h_v578) (fun _ => bestIdx_lt _) hp (by rw [h_v145]; exact b_prop lb _) accO accP ?_
  intro v593 v612 v613 v614 v615 v587 v604 v617 v620 v623 v626 v629
  intro h_v593 h_v612 h_v613 h_v614 h_v615 h_v587 h_v604 h_v617 h_v620 h_v623 h_v626 h_v629
  replace h_v593 : v593 = (fun x => laneAt fO (rowOf k0_t3.val) ((colOf k0_t3.val) + ln x) (offIdx (laneAt fC (rowOf k0_t3.val) ((colOf k0_t3.val) + ln x)) 3)) := by
    rw [h_v593]; funext x; exact congrArg (fun m => at2 fO _ (28 * _ + m)) (hoff 3 _).symm
  refine w_part26 d i (Hs := fun g => iprop((lC1 d i ↦{fullShare} fC) ∗ (lO1 d i ↦{fullShare} fO) ∗ (lP d i ↦{fullShare} fP) ∗ (lB d i ↦{fullShare} g) ∗ (lF d i ↦{fullShare} fF))) (f := fB) (w := groupBox fC fO (rowOf k0_t3.val) (colOf k0_t3.val) (fun n => propAt fP (rowOf k0_t3.val) (128 * lb.val + 64 + colOf k0_t3.val + n))) _ _ _ _ _ _ _ _ _ _ _ _ _ _ _ _ _ _ _ _ hb (fun _ => b_row _) ho (by rw [h_v145]; exact b_out _) (fun x => congrFun (b_box0 fC fO fP (rowOf k0_t3.val) (colOf k0_t3.val) (128 * lb.val + 64 + colOf k0_t3.val)  h_v168 h_v242 h_v171 h_v243 h_v174 h_v244 h_v156 h_v159 h_v162 h_v165 h_v277 h_v279 h_v281 h_v312 h_v318 h_v612 h_v614 h_v620 h_v626) x)
    (fun x => congrFun (b_box1 fC fO fP (rowOf k0_t3.val) (colOf k0_t3.val) (128 * lb.val + 64 + colOf k0_t3.val)  h_v216 h_v427 h_v198 h_v421 h_v201 h_v422 h_v204 h_v423 h_v207 h_v424 h_v210 h_v425 h_v428 h_v431 h_v473 h_v213 h_v426 h_v475 h_v482 h_v483 h_v495 h_v501 h_v613 h_v615 h_v617 h_v623) x)
    (fun x => congrFun (b_box2 fC fO fP (rowOf k0_t3.val) (colOf k0_t3.val) (128 * lb.val + 64 + colOf k0_t3.val)  h_v192 h_v334 h_v195 h_v335 h_v177 h_v329 h_v180 h_v330 h_v183 h_v331 h_v186 h_v332 h_v189 h_v333 h_v379 h_v381 h_v383 h_v403 h_v409 h_v612 h_v614 h_v620 h_v629) x)
    (fun x => congrFun (b_box3 fC fO fP (rowOf k0_t3.val) (colOf k0_t3.val) (128 * lb.val + 64 + colOf k0_t3.val)  h_v225 h_v515 h_v228 h_v516 h_v231 h_v517 h_v234 h_v518 h_v219 h_v222 h_v530 h_v532 h_v576 h_v237 h_v519 h_v578 h_v587 h_v593 h_v613 h_v615 h_v617 h_v623) x) (fun f g => acc4 _ _ _ _ _ _) ?_
  refine st_load d i (acc5 _ _ _ _ _ _) ?_
  intro _
  refine st_store d i (g := putSeg fF (672 * rowOf k0_t3.val + 128 * (k0_t1.val / 2) + 64 + colOf k0_t3.val) (groupConf fC (rowOf k0_t3.val) (colOf k0_t3.val))) ?_ (acc5 _ _ _ _ _ _) ?_
  · rw [← off8 i k0_t1 k0_t3]
    exact write_seg _ _ _ _ _ (fun x => congrFun (b_conf fC fO fP (rowOf k0_t3.val) (colOf k0_t3.val) 0  h_v168 h_v242 h_v171 h_v243 h_v174 h_v244 h_v156 h_v159 h_v162 h_v165 h_v276 h_v277 h_v279 h_v280 h_v281 h_v282 h_v284 h_cst_97 h_v328 h_v192 h_v334 h_v195 h_v335 h_v177 h_v329 h_v180 h_v330 h_v183 h_v331 h_v186 h_v332 h_v189 h_v333 h_v375 h_v378 h_v379 h_v381 h_v382 h_v383 h_v384 h_v420 h_v213 h_v426 h_v216 h_v427 h_v198 h_v421 h_v201 h_v422 h_v204 h_v423 h_v207 h_v424 h_v210 h_v425 h_v428 h_v431 h_v473 h_v474 h_v475 h_v433 h_v478 h_v430 h_v432 h_v481 h_v482 h_v483 h_v512 h_v237 h_v519 h_v225 h_v515 h_v228 h_v516 h_v231 h_v517 h_v234 h_v518 h_v219 h_v222 h_v530 h_v574 h_v532 h_v576 h_v513 h_v514 h_v577 h_v578 h_v526 h_v581 h_v529 h_v583 h_v604) x)
  rw [wp_pure]; exact fupd_intro

end Cert.Proof
-- ==== Proof.ChainC.lean ====
/- One group of the last 32 proposals, from its parts: the values it stores. -/
module

public import proofs.«01_k».proof.Proof.Words
public import proofs.«01_k».proof.Proof.Cells

@[expose] public section

set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

local notation "𝕄" => MT nD τ sig (HIx 1) (Elt F) ℕ UU ℕ

theorem c_ix0 (fC fO : Vec F S8x1792 .f32) (fT : Vec F S1024 .f32) (b u p : ℕ) (v83 : IVec S16 32) {v95 : Vec F S16 .f32} {v171 : FVec F S16 .f32} {v98 : Vec F S16 .f32} {v172 : FVec F S16 .f32} {v101 : Vec F S16 .f32} {v173 : FVec F S16 .f32} {v104 : Vec F S16 .f32} {v174 : FVec F S16 .f32} {v86 : Vec F S16 .f32} {v89 : Vec F S16 .f32} {v92 : Vec F S16 .f32} {v196 : FVec F S16 .f32} {v198 : FVec F S16 .f32} {v200 : IVec S16 1}
    (h_v95 : v95 = (fun x => at2 fC b (28 * (u + ln x) + (3#32).toNat))) (h_v171 : v171 = (k0_pay861 v95)) (h_v98 : v98 = (fun x => at2 fC b (28 * (u + ln x) + (4#32).toNat))) (h_v172 : v172 = (k0_pay862 v98)) (h_v101 : v101 = (fun x => at2 fC b (28 * (u + ln x) + (5#32).toNat))) (h_v173 : v173 = (k0_pay863 v101)) (h_v104 : v104 = (fun x => at2 fC b (28 * (u + ln x) + (6#32).toNat))) (h_v174 : v174 = (k0_pay864 v104)) (h_v86 : v86 = (fun x => at2 fC b (28 * (u + ln x) + (0#32).toNat))) (h_v89 : v89 = (fun x => at2 fC b (28 * (u + ln x) + (1#32).toNat))) (h_v92 : v92 = (fun x => at2 fC b (28 * (u + ln x) + (2#32).toNat))) (h_v196 : v196 = (k0_pay875 v86 v89 v92)) (h_v198 : v198 = (k0_pay876 v86 v89 v92)) (h_v200 : v200 = (k0_pay878 v86 v89 v92 v95)) :
    k0_pay897 v83 v171 v172 v173 v174 v196 v198 v200 = addi (addi v83 (broadcast S16 0#32)) (fun x => bestIdx (sideOf (laneAt fC b (u + ln x)) 0)) := by
  subst h_v200 h_v198 h_v196 h_v92 h_v89 h_v86 h_v174 h_v104 h_v173 h_v101 h_v172 h_v98 h_v171 h_v95
  rfl

theorem c_ix1 (fC fO : Vec F S8x1792 .f32) (fT : Vec F S1024 .f32) (b u p : ℕ) (v83 : IVec S16 32) {v119 : Vec F S16 .f32} {v263 : FVec F S16 .f32} {v122 : Vec F S16 .f32} {v264 : FVec F S16 .f32} {v125 : Vec F S16 .f32} {v265 : FVec F S16 .f32} {v107 : Vec F S16 .f32} {v110 : Vec F S16 .f32} {v113 : Vec F S16 .f32} {v116 : Vec F S16 .f32} {v298 : FVec F S16 .f32} {v300 : FVec F S16 .f32} {v302 : IVec S16 1}
    (h_v119 : v119 = (fun x => at2 fC b (28 * (u + ln x) + (11#32).toNat))) (h_v263 : v263 = (k0_pay907 v119)) (h_v122 : v122 = (fun x => at2 fC b (28 * (u + ln x) + (12#32).toNat))) (h_v264 : v264 = (k0_pay908 v122)) (h_v125 : v125 = (fun x => at2 fC b (28 * (u + ln x) + (13#32).toNat))) (h_v265 : v265 = (k0_pay909 v125)) (h_v107 : v107 = (fun x => at2 fC b (28 * (u + ln x) + (7#32).toNat))) (h_v110 : v110 = (fun x => at2 fC b (28 * (u + ln x) + (8#32).toNat))) (h_v113 : v113 = (fun x => at2 fC b (28 * (u + ln x) + (9#32).toNat))) (h_v116 : v116 = (fun x => at2 fC b (28 * (u + ln x) + (10#32).toNat))) (h_v298 : v298 = (k0_pay926 v107 v110 v113 v116)) (h_v300 : v300 = (k0_pay927 v107 v110 v113 v116)) (h_v302 : v302 = (k0_pay929 v107 v110 v113 v116 v119)) :
    k0_pay939 v83 v263 v264 v265 v298 v300 v302 = addi (addi v83 (broadcast S16 7#32)) (fun x => bestIdx (sideOf (laneAt fC b (u + ln x)) 1)) := by
  subst h_v302 h_v300 h_v298 h_v116 h_v113 h_v110 h_v107 h_v265 h_v125 h_v264 h_v122 h_v263 h_v119
  rfl

theorem c_ix2 (fC fO : Vec F S8x1792 .f32) (fT : Vec F S1024 .f32) (b u p : ℕ) (v83 : IVec S16 32) {v143 : Vec F S16 .f32} {v356 : FVec F S16 .f32} {v146 : Vec F S16 .f32} {v357 : FVec F S16 .f32} {v128 : Vec F S16 .f32} {v351 : FVec F S16 .f32} {v131 : Vec F S16 .f32} {v352 : FVec F S16 .f32} {v134 : Vec F S16 .f32} {v353 : FVec F S16 .f32} {v137 : Vec F S16 .f32} {v354 : FVec F S16 .f32} {v140 : Vec F S16 .f32} {v355 : FVec F S16 .f32} {v401 : FVec F S16 .f32} {v403 : FVec F S16 .f32}
    (h_v143 : v143 = (fun x => at2 fC b (28 * (u + ln x) + (19#32).toNat))) (h_v356 : v356 = (k0_pay946 v143)) (h_v146 : v146 = (fun x => at2 fC b (28 * (u + ln x) + (20#32).toNat))) (h_v357 : v357 = (k0_pay947 v146)) (h_v128 : v128 = (fun x => at2 fC b (28 * (u + ln x) + (14#32).toNat))) (h_v351 : v351 = (k0_pay941 v128)) (h_v131 : v131 = (fun x => at2 fC b (28 * (u + ln x) + (15#32).toNat))) (h_v352 : v352 = (k0_pay942 v131)) (h_v134 : v134 = (fun x => at2 fC b (28 * (u + ln x) + (16#32).toNat))) (h_v353 : v353 = (k0_pay943 v134)) (h_v137 : v137 = (fun x => at2 fC b (28 * (u + ln x) + (17#32).toNat))) (h_v354 : v354 = (k0_pay944 v137)) (h_v140 : v140 = (fun x => at2 fC b (28 * (u + ln x) + (18#32).toNat))) (h_v355 : v355 = (k0_pay945 v140)) (h_v401 : v401 = (k0_pay969 v351 v352 v353 v354 v355)) (h_v403 : v403 = (k0_pay970 v351 v352 v353 v354 v355)) :
    k0_pay977 v83 v356 v357 v401 v403 = addi (addi v83 (broadcast S16 14#32)) (fun x => bestIdx (sideOf (laneAt fC b (u + ln x)) 2)) := by
  subst h_v403 h_v401 h_v355 h_v140 h_v354 h_v137 h_v353 h_v134 h_v352 h_v131 h_v351 h_v128 h_v357 h_v146 h_v356 h_v143
  rfl

theorem c_ix3 (fC fO : Vec F S8x1792 .f32) (fT : Vec F S1024 .f32) (b u p : ℕ) (v83 : IVec S16 32) {v167 : Vec F S16 .f32} {v449 : FVec F S16 .f32} {v149 : Vec F S16 .f32} {v443 : FVec F S16 .f32} {v152 : Vec F S16 .f32} {v444 : FVec F S16 .f32} {v155 : Vec F S16 .f32} {v445 : FVec F S16 .f32} {v158 : Vec F S16 .f32} {v446 : FVec F S16 .f32} {v161 : Vec F S16 .f32} {v447 : FVec F S16 .f32} {v450 : FVec F S16 .f32} {v453 : IVec S16 1} {v495 : FVec F S16 .f32} {v164 : Vec F S16 .f32} {v448 : FVec F S16 .f32} {v497 : IVec S16 1} {v504 : FVec F S16 .f32}
    (h_v167 : v167 = (fun x => at2 fC b (28 * (u + ln x) + (27#32).toNat))) (h_v449 : v449 = (k0_pay985 v167)) (h_v149 : v149 = (fun x => at2 fC b (28 * (u + ln x) + (21#32).toNat))) (h_v443 : v443 = (k0_pay979 v149)) (h_v152 : v152 = (fun x => at2 fC b (28 * (u + ln x) + (22#32).toNat))) (h_v444 : v444 = (k0_pay980 v152)) (h_v155 : v155 = (fun x => at2 fC b (28 * (u + ln x) + (23#32).toNat))) (h_v445 : v445 = (k0_pay981 v155)) (h_v158 : v158 = (fun x => at2 fC b (28 * (u + ln x) + (24#32).toNat))) (h_v446 : v446 = (k0_pay982 v158)) (h_v161 : v161 = (fun x => at2 fC b (28 * (u + ln x) + (25#32).toNat))) (h_v447 : v447 = (k0_pay983 v161)) (h_v450 : v450 = (k0_pay986 (F := F))) (h_v453 : v453 = (k0_pay989 v149 v152)) (h_v495 : v495 = (k0_pay1008 v443 v444 v445 v446 v447 v450 v453)) (h_v164 : v164 = (fun x => at2 fC b (28 * (u + ln x) + (26#32).toNat))) (h_v448 : v448 = (k0_pay984 v164)) (h_v497 : v497 = (k0_pay1010 v443 v444 v445 v446 v447 v448)) (h_v504 : v504 = (k0_pay1014 v443 v444 v445 v446 v447 v448)) :
    k0_pay1018 v83 v449 v495 v497 v504 = addi (addi v83 (broadcast S16 21#32)) (fun x => bestIdx (sideOf (laneAt fC b (u + ln x)) 3)) := by
  subst h_v504 h_v497 h_v448 h_v164 h_v495 h_v453 h_v450 h_v447 h_v161 h_v446 h_v158 h_v445 h_v155 h_v444 h_v152 h_v443 h_v149 h_v449 h_v167
  rfl

theorem c_box0 (fC fO : Vec F S8x1792 .f32) (fT : Vec F S1024 .f32) (b u p : ℕ)  {v95 : Vec F S16 .f32} {v171 : FVec F S16 .f32} {v98 : Vec F S16 .f32} {v172 : FVec F S16 .f32} {v101 : Vec F S16 .f32} {v173 : FVec F S16 .f32} {v104 : Vec F S16 .f32} {v174 : FVec F S16 .f32} {v86 : Vec F S16 .f32} {v89 : Vec F S16 .f32} {v92 : Vec F S16 .f32} {v196 : FVec F S16 .f32} {v198 : FVec F S16 .f32} {v200 : IVec S16 1} {v242 : FVec F S16 .f32} {v248 : Vec F S16 .f32} {v542 : Vec F S16 .f32} {v548 : Vec F S16 .f32} {v580 : FVec F S16 .f32}
    (h_v95 : v95 = (fun x => at2 fC b (28 * (u + ln x) + (3#32).toNat))) (h_v171 : v171 = (k0_pay861 v95)) (h_v98 : v98 = (fun x => at2 fC b (28 * (u + ln x) + (4#32).toNat))) (h_v172 : v172 = (k0_pay862 v98)) (h_v101 : v101 = (fun x => at2 fC b (28 * (u + ln x) + (5#32).toNat))) (h_v173 : v173 = (k0_pay863 v101)) (h_v104 : v104 = (fun x => at2 fC b (28 * (u + ln x) + (6#32).toNat))) (h_v174 : v174 = (k0_pay864 v104)) (h_v86 : v86 = (fun x => at2 fC b (28 * (u + ln x) + (0#32).toNat))) (h_v89 : v89 = (fun x => at2 fC b (28 * (u + ln x) + (1#32).toNat))) (h_v92 : v92 = (fun x => at2 fC b (28 * (u + ln x) + (2#32).toNat))) (h_v196 : v196 = (k0_pay875 v86 v89 v92)) (h_v198 : v198 = (k0_pay876 v86 v89 v92)) (h_v200 : v200 = (k0_pay878 v86 v89 v92 v95)) (h_v242 : v242 = (k0_pay896 v171 v172 v173 v174 v196 v198 v200)) (h_v248 : v248 = (fun x => laneAt fO b (u + ln x) (offIdx (laneAt fC b (u + ln x)) 0))) (h_v542 : v542 = (fun x => at1 fT (p + 4 * ln x))) (h_v548 : v548 = (fun x => at1 fT (p + 4 * ln x + (2#32).toNat))) (h_v580 : v580 = (k0_pay1030 v242 v248 v542 v548)) :
    v580 = fun x => laneBox (laneAt fC b (u + ln x)) (laneAt fO b (u + ln x)) (tailAt fT (p + 4 * ln x)) 0 := by
  subst h_v580 h_v548 h_v542 h_v248 h_v242 h_v200 h_v198 h_v196 h_v92 h_v89 h_v86 h_v174 h_v104 h_v173 h_v101 h_v172 h_v98 h_v171 h_v95
  rfl

theorem c_box1 (fC fO : Vec F S8x1792 .f32) (fT : Vec F S1024 .f32) (b u p : ℕ)  {v143 : Vec F S16 .f32} {v356 : FVec F S16 .f32} {v146 : Vec F S16 .f32} {v357 : FVec F S16 .f32} {v128 : Vec F S16 .f32} {v351 : FVec F S16 .f32} {v131 : Vec F S16 .f32} {v352 : FVec F S16 .f32} {v134 : Vec F S16 .f32} {v353 : FVec F S16 .f32} {v137 : Vec F S16 .f32} {v354 : FVec F S16 .f32} {v140 : Vec F S16 .f32} {v355 : FVec F S16 .f32} {v401 : FVec F S16 .f32} {v403 : FVec F S16 .f32} {v425 : FVec F S16 .f32} {v431 : Vec F S16 .f32} {v545 : Vec F S16 .f32} {v551 : Vec F S16 .f32} {v590 : FVec F S16 .f32}
    (h_v143 : v143 = (fun x => at2 fC b (28 * (u + ln x) + (19#32).toNat))) (h_v356 : v356 = (k0_pay946 v143)) (h_v146 : v146 = (fun x => at2 fC b (28 * (u + ln x) + (20#32).toNat))) (h_v357 : v357 = (k0_pay947 v146)) (h_v128 : v128 = (fun x => at2 fC b (28 * (u + ln x) + (14#32).toNat))) (h_v351 : v351 = (k0_pay941 v128)) (h_v131 : v131 = (fun x => at2 fC b (28 * (u + ln x) + (15#32).toNat))) (h_v352 : v352 = (k0_pay942 v131)) (h_v134 : v134 = (fun x => at2 fC b (28 * (u + ln x) + (16#32).toNat))) (h_v353 : v353 = (k0_pay943 v134)) (h_v137 : v137 = (fun x => at2 fC b (28 * (u + ln x) + (17#32).toNat))) (h_v354 : v354 = (k0_pay944 v137)) (h_v140 : v140 = (fun x => at2 fC b (28 * (u + ln x) + (18#32).toNat))) (h_v355 : v355 = (k0_pay945 v140)) (h_v401 : v401 = (k0_pay969 v351 v352 v353 v354 v355)) (h_v403 : v403 = (k0_pay970 v351 v352 v353 v354 v355)) (h_v425 : v425 = (k0_pay976 v356 v357 v401 v403)) (h_v431 : v431 = (fun x => laneAt fO b (u + ln x) (offIdx (laneAt fC b (u + ln x)) 2))) (h_v545 : v545 = (fun x => at1 fT (p + 4 * ln x + (1#32).toNat))) (h_v551 : v551 = (fun x => at1 fT (p + 4 * ln x + (3#32).toNat))) (h_v590 : v590 = (k0_pay1032 v425 v431 v545 v551)) :
    v590 = fun x => laneBox (laneAt fC b (u + ln x)) (laneAt fO b (u + ln x)) (tailAt fT (p + 4 * ln x)) 1 := by
  subst h_v590 h_v551 h_v545 h_v431 h_v425 h_v403 h_v401 h_v355 h_v140 h_v354 h_v137 h_v353 h_v134 h_v352 h_v131 h_v351 h_v128 h_v357 h_v146 h_v356 h_v143
  rfl

theorem c_box2 (fC fO : Vec F S8x1792 .f32) (fT : Vec F S1024 .f32) (b u p : ℕ)  {v119 : Vec F S16 .f32} {v263 : FVec F S16 .f32} {v122 : Vec F S16 .f32} {v264 : FVec F S16 .f32} {v125 : Vec F S16 .f32} {v265 : FVec F S16 .f32} {v107 : Vec F S16 .f32} {v110 : Vec F S16 .f32} {v113 : Vec F S16 .f32} {v116 : Vec F S16 .f32} {v298 : FVec F S16 .f32} {v300 : FVec F S16 .f32} {v302 : IVec S16 1} {v333 : FVec F S16 .f32} {v339 : Vec F S16 .f32} {v542 : Vec F S16 .f32} {v548 : Vec F S16 .f32} {v585 : FVec F S16 .f32}
    (h_v119 : v119 = (fun x => at2 fC b (28 * (u + ln x) + (11#32).toNat))) (h_v263 : v263 = (k0_pay907 v119)) (h_v122 : v122 = (fun x => at2 fC b (28 * (u + ln x) + (12#32).toNat))) (h_v264 : v264 = (k0_pay908 v122)) (h_v125 : v125 = (fun x => at2 fC b (28 * (u + ln x) + (13#32).toNat))) (h_v265 : v265 = (k0_pay909 v125)) (h_v107 : v107 = (fun x => at2 fC b (28 * (u + ln x) + (7#32).toNat))) (h_v110 : v110 = (fun x => at2 fC b (28 * (u + ln x) + (8#32).toNat))) (h_v113 : v113 = (fun x => at2 fC b (28 * (u + ln x) + (9#32).toNat))) (h_v116 : v116 = (fun x => at2 fC b (28 * (u + ln x) + (10#32).toNat))) (h_v298 : v298 = (k0_pay926 v107 v110 v113 v116)) (h_v300 : v300 = (k0_pay927 v107 v110 v113 v116)) (h_v302 : v302 = (k0_pay929 v107 v110 v113 v116 v119)) (h_v333 : v333 = (k0_pay938 v263 v264 v265 v298 v300 v302)) (h_v339 : v339 = (fun x => laneAt fO b (u + ln x) (offIdx (laneAt fC b (u + ln x)) 1))) (h_v542 : v542 = (fun x => at1 fT (p + 4 * ln x))) (h_v548 : v548 = (fun x => at1 fT (p + 4 * ln x + (2#32).toNat))) (h_v585 : v585 = (k0_pay1031 v333 v339 v542 v548)) :
    v585 = fun x => laneBox (laneAt fC b (u + ln x)) (laneAt fO b (u + ln x)) (tailAt fT (p + 4 * ln x)) 2 := by
  subst h_v585 h_v548 h_v542 h_v339 h_v333 h_v302 h_v300 h_v298 h_v116 h_v113 h_v110 h_v107 h_v265 h_v125 h_v264 h_v122 h_v263 h_v119
  rfl

theorem c_box3 (fC fO : Vec F S8x1792 .f32) (fT : Vec F S1024 .f32) (b u p : ℕ)  {v167 : Vec F S16 .f32} {v449 : FVec F S16 .f32} {v149 : Vec F S16 .f32} {v443 : FVec F S16 .f32} {v152 : Vec F S16 .f32} {v444 : FVec F S16 .f32} {v155 : Vec F S16 .f32} {v445 : FVec F S16 .f32} {v158 : Vec F S16 .f32} {v446 : FVec F S16 .f32} {v161 : Vec F S16 .f32} {v447 : FVec F S16 .f32} {v450 : FVec F S16 .f32} {v453 : IVec S16 1} {v495 : FVec F S16 .f32} {v164 : Vec F S16 .f32} {v448 : FVec F S16 .f32} {v497 : IVec S16 1} {v504 : FVec F S16 .f32} {v517 : FVec F S16 .f32} {v523 : Vec F S16 .f32} {v545 : Vec F S16 .f32} {v551 : Vec F S16 .f32} {v595 : FVec F S16 .f32}
    (h_v167 : v167 = (fun x => at2 fC b (28 * (u + ln x) + (27#32).toNat))) (h_v449 : v449 = (k0_pay985 v167)) (h_v149 : v149 = (fun x => at2 fC b (28 * (u + ln x) + (21#32).toNat))) (h_v443 : v443 = (k0_pay979 v149)) (h_v152 : v152 = (fun x => at2 fC b (28 * (u + ln x) + (22#32).toNat))) (h_v444 : v444 = (k0_pay980 v152)) (h_v155 : v155 = (fun x => at2 fC b (28 * (u + ln x) + (23#32).toNat))) (h_v445 : v445 = (k0_pay981 v155)) (h_v158 : v158 = (fun x => at2 fC b (28 * (u + ln x) + (24#32).toNat))) (h_v446 : v446 = (k0_pay982 v158)) (h_v161 : v161 = (fun x => at2 fC b (28 * (u + ln x) + (25#32).toNat))) (h_v447 : v447 = (k0_pay983 v161)) (h_v450 : v450 = (k0_pay986 (F := F))) (h_v453 : v453 = (k0_pay989 v149 v152)) (h_v495 : v495 = (k0_pay1008 v443 v444 v445 v446 v447 v450 v453)) (h_v164 : v164 = (fun x => at2 fC b (28 * (u + ln x) + (26#32).toNat))) (h_v448 : v448 = (k0_pay984 v164)) (h_v497 : v497 = (k0_pay1010 v443 v444 v445 v446 v447 v448)) (h_v504 : v504 = (k0_pay1014 v443 v444 v445 v446 v447 v448)) (h_v517 : v517 = (k0_pay1017 v449 v495 v497 v504)) (h_v523 : v523 = (fun x => laneAt fO b (u + ln x) (offIdx (laneAt fC b (u + ln x)) 3))) (h_v545 : v545 = (fun x => at1 fT (p + 4 * ln x + (1#32).toNat))) (h_v551 : v551 = (fun x => at1 fT (p + 4 * ln x + (3#32).toNat))) (h_v595 : v595 = (k0_pay1033 v517 v523 v545 v551)) :
    v595 = fun x => laneBox (laneAt fC b (u + ln x)) (laneAt fO b (u + ln x)) (tailAt fT (p + 4 * ln x)) 3 := by
  subst h_v595 h_v551 h_v545 h_v523 h_v517 h_v504 h_v497 h_v448 h_v164 h_v495 h_v453 h_v450 h_v447 h_v161 h_v446 h_v158 h_v445 h_v155 h_v444 h_v152 h_v443 h_v149 h_v449 h_v167
  rfl

theorem c_conf (fC fO : Vec F S8x1792 .f32) (fT : Vec F S1024 .f32) (b u p : ℕ)  {v95 : Vec F S16 .f32} {v171 : FVec F S16 .f32} {v98 : Vec F S16 .f32} {v172 : FVec F S16 .f32} {v101 : Vec F S16 .f32} {v173 : FVec F S16 .f32} {v104 : Vec F S16 .f32} {v174 : FVec F S16 .f32} {v86 : Vec F S16 .f32} {v89 : Vec F S16 .f32} {v92 : Vec F S16 .f32} {v196 : FVec F S16 .f32} {v199 : FVec F S16 .f32} {v251 : FVec F S16 .f32} {v203 : FVec F S16 .f32} {v252 : FVec F S16 .f32} {v198 : FVec F S16 .f32} {v200 : IVec S16 1} {v205 : FVec F S16 .f32} {v254 : FVec F S16 .f32} {cst_69 : F .f32} {v258 : FVec F S16 .f32} {v119 : Vec F S16 .f32} {v263 : FVec F S16 .f32} {v122 : Vec F S16 .f32} {v264 : FVec F S16 .f32} {v125 : Vec F S16 .f32} {v265 : FVec F S16 .f32} {v107 : Vec F S16 .f32} {v110 : Vec F S16 .f32} {v113 : Vec F S16 .f32} {v116 : Vec F S16 .f32} {v297 : FVec F S16 .f32} {v298 : FVec F S16 .f32} {v300 : FVec F S16 .f32} {v301 : FVec F S16 .f32} {v302 : IVec S16 1} {v303 : IVec S16 1} {v305 : FVec F S16 .f32} {v350 : FVec F S16 .f32} {v143 : Vec F S16 .f32} {v356 : FVec F S16 .f32} {v146 : Vec F S16 .f32} {v357 : FVec F S16 .f32} {v128 : Vec F S16 .f32} {v351 : FVec F S16 .f32} {v131 : Vec F S16 .f32} {v352 : FVec F S16 .f32} {v134 : Vec F S16 .f32} {v353 : FVec F S16 .f32} {v137 : Vec F S16 .f32} {v354 : FVec F S16 .f32} {v140 : Vec F S16 .f32} {v355 : FVec F S16 .f32} {v397 : FVec F S16 .f32} {v400 : FVec F S16 .f32} {v401 : FVec F S16 .f32} {v403 : FVec F S16 .f32} {v404 : FVec F S16 .f32} {v442 : FVec F S16 .f32} {v164 : Vec F S16 .f32} {v448 : FVec F S16 .f32} {v167 : Vec F S16 .f32} {v449 : FVec F S16 .f32} {v149 : Vec F S16 .f32} {v443 : FVec F S16 .f32} {v152 : Vec F S16 .f32} {v444 : FVec F S16 .f32} {v155 : Vec F S16 .f32} {v445 : FVec F S16 .f32} {v158 : Vec F S16 .f32} {v446 : FVec F S16 .f32} {v161 : Vec F S16 .f32} {v447 : FVec F S16 .f32} {v450 : FVec F S16 .f32} {v453 : IVec S16 1} {v495 : FVec F S16 .f32} {v496 : FVec F S16 .f32} {v497 : IVec S16 1} {v451 : FVec F S16 .f32} {v500 : FVec F S16 .f32} {v452 : FVec F S16 .f32} {v503 : FVec F S16 .f32} {v504 : FVec F S16 .f32} {v534 : FVec F S16 .f32}
    (h_v95 : v95 = (fun x => at2 fC b (28 * (u + ln x) + (3#32).toNat))) (h_v171 : v171 = (k0_pay861 v95)) (h_v98 : v98 = (fun x => at2 fC b (28 * (u + ln x) + (4#32).toNat))) (h_v172 : v172 = (k0_pay862 v98)) (h_v101 : v101 = (fun x => at2 fC b (28 * (u + ln x) + (5#32).toNat))) (h_v173 : v173 = (k0_pay863 v101)) (h_v104 : v104 = (fun x => at2 fC b (28 * (u + ln x) + (6#32).toNat))) (h_v174 : v174 = (k0_pay864 v104)) (h_v86 : v86 = (fun x => at2 fC b (28 * (u + ln x) + (0#32).toNat))) (h_v89 : v89 = (fun x => at2 fC b (28 * (u + ln x) + (1#32).toNat))) (h_v92 : v92 = (fun x => at2 fC b (28 * (u + ln x) + (2#32).toNat))) (h_v196 : v196 = (k0_pay875 v86 v89 v92)) (h_v199 : v199 = (k0_pay877 v86 v89 v92)) (h_v251 : v251 = (k0_pay899 v171 v172 v173 v174 v196 v199)) (h_v203 : v203 = (k0_pay880 v86 v89 v92 v95)) (h_v252 : v252 = (k0_pay900 v171 v172 v173 v174 v196 v199 v203)) (h_v198 : v198 = (k0_pay876 v86 v89 v92)) (h_v200 : v200 = (k0_pay878 v86 v89 v92 v95)) (h_v205 : v205 = (k0_pay881 v86 v89 v92 v95)) (h_v254 : v254 = (k0_pay901 v171 v172 v173 v174 v196 v198 v200 v203 v205)) (h_cst_69 : cst_69 = (Scalar.ofBits .f32 0x3F800000#32)) (h_v258 : v258 = (k0_pay902 v251 v252 v254 cst_69)) (h_v119 : v119 = (fun x => at2 fC b (28 * (u + ln x) + (11#32).toNat))) (h_v263 : v263 = (k0_pay907 v119)) (h_v122 : v122 = (fun x => at2 fC b (28 * (u + ln x) + (12#32).toNat))) (h_v264 : v264 = (k0_pay908 v122)) (h_v125 : v125 = (fun x => at2 fC b (28 * (u + ln x) + (13#32).toNat))) (h_v265 : v265 = (k0_pay909 v125)) (h_v107 : v107 = (fun x => at2 fC b (28 * (u + ln x) + (7#32).toNat))) (h_v110 : v110 = (fun x => at2 fC b (28 * (u + ln x) + (8#32).toNat))) (h_v113 : v113 = (fun x => at2 fC b (28 * (u + ln x) + (9#32).toNat))) (h_v116 : v116 = (fun x => at2 fC b (28 * (u + ln x) + (10#32).toNat))) (h_v297 : v297 = (k0_pay925 v107 v110 v113 v116)) (h_v298 : v298 = (k0_pay926 v107 v110 v113 v116)) (h_v300 : v300 = (k0_pay927 v107 v110 v113 v116)) (h_v301 : v301 = (k0_pay928 v107 v110 v113 v116)) (h_v302 : v302 = (k0_pay929 v107 v110 v113 v116 v119)) (h_v303 : v303 = (k0_pay930 v107 v110 v113 v116 v119)) (h_v305 : v305 = (k0_pay931 v107 v110 v113 v116 v119)) (h_v350 : v350 = (k0_pay940 v258 v263 v264 v265 v297 v298 v300 v301 v302 v303 v305)) (h_v143 : v143 = (fun x => at2 fC b (28 * (u + ln x) + (19#32).toNat))) (h_v356 : v356 = (k0_pay946 v143)) (h_v146 : v146 = (fun x => at2 fC b (28 * (u + ln x) + (20#32).toNat))) (h_v357 : v357 = (k0_pay947 v146)) (h_v128 : v128 = (fun x => at2 fC b (28 * (u + ln x) + (14#32).toNat))) (h_v351 : v351 = (k0_pay941 v128)) (h_v131 : v131 = (fun x => at2 fC b (28 * (u + ln x) + (15#32).toNat))) (h_v352 : v352 = (k0_pay942 v131)) (h_v134 : v134 = (fun x => at2 fC b (28 * (u + ln x) + (16#32).toNat))) (h_v353 : v353 = (k0_pay943 v134)) (h_v137 : v137 = (fun x => at2 fC b (28 * (u + ln x) + (17#32).toNat))) (h_v354 : v354 = (k0_pay944 v137)) (h_v140 : v140 = (fun x => at2 fC b (28 * (u + ln x) + (18#32).toNat))) (h_v355 : v355 = (k0_pay945 v140)) (h_v397 : v397 = (k0_pay967 v351 v352 v353 v354 v355)) (h_v400 : v400 = (k0_pay968 v351 v352 v353 v354 v355)) (h_v401 : v401 = (k0_pay969 v351 v352 v353 v354 v355)) (h_v403 : v403 = (k0_pay970 v351 v352 v353 v354 v355)) (h_v404 : v404 = (k0_pay971 v351 v352 v353 v354 v355)) (h_v442 : v442 = (k0_pay978 v350 v356 v357 v397 v400 v401 v403 v404)) (h_v164 : v164 = (fun x => at2 fC b (28 * (u + ln x) + (26#32).toNat))) (h_v448 : v448 = (k0_pay984 v164)) (h_v167 : v167 = (fun x => at2 fC b (28 * (u + ln x) + (27#32).toNat))) (h_v449 : v449 = (k0_pay985 v167)) (h_v149 : v149 = (fun x => at2 fC b (28 * (u + ln x) + (21#32).toNat))) (h_v443 : v443 = (k0_pay979 v149)) (h_v152 : v152 = (fun x => at2 fC b (28 * (u + ln x) + (22#32).toNat))) (h_v444 : v444 = (k0_pay980 v152)) (h_v155 : v155 = (fun x => at2 fC b (28 * (u + ln x) + (23#32).toNat))) (h_v445 : v445 = (k0_pay981 v155)) (h_v158 : v158 = (fun x => at2 fC b (28 * (u + ln x) + (24#32).toNat))) (h_v446 : v446 = (k0_pay982 v158)) (h_v161 : v161 = (fun x => at2 fC b (28 * (u + ln x) + (25#32).toNat))) (h_v447 : v447 = (k0_pay983 v161)) (h_v450 : v450 = (k0_pay986 (F := F))) (h_v453 : v453 = (k0_pay989 v149 v152)) (h_v495 : v495 = (k0_pay1008 v443 v444 v445 v446 v447 v450 v453)) (h_v496 : v496 = (k0_pay1009 v443 v444 v445 v446 v447)) (h_v497 : v497 = (k0_pay1010 v443 v444 v445 v446 v447 v448)) (h_v451 : v451 = (k0_pay987 (F := F))) (h_v500 : v500 = (k0_pay1012 v443 v444 v445 v446 v447 v448 v451 v453)) (h_v452 : v452 = (k0_pay988 (F := F))) (h_v503 : v503 = (k0_pay1013 v443 v444 v445 v446 v447 v448 v450 v451 v452 v453)) (h_v504 : v504 = (k0_pay1014 v443 v444 v445 v446 v447 v448)) (h_v534 : v534 = (k0_pay1019 v442 v448 v449 v495 v496 v497 v500 v503 v504)) :
    k0_pay1035 v534 = fun x => laneConf (laneAt fC b (u + ln x)) := by
  subst h_v534 h_v504 h_v503 h_v452 h_v500 h_v451 h_v497 h_v496 h_v495 h_v453 h_v450 h_v447 h_v161 h_v446 h_v158 h_v445 h_v155 h_v444 h_v152 h_v443 h_v149 h_v449 h_v167 h_v448 h_v164 h_v442 h_v404 h_v403 h_v401 h_v400 h_v397 h_v355 h_v140 h_v354 h_v137 h_v353 h_v134 h_v352 h_v131 h_v351 h_v128 h_v357 h_v146 h_v356 h_v143 h_v350 h_v305 h_v303 h_v302 h_v301 h_v300 h_v298 h_v297 h_v116 h_v113 h_v110 h_v107 h_v265 h_v125 h_v264 h_v122 h_v263 h_v119 h_v258 h_cst_69 h_v254 h_v205 h_v200 h_v198 h_v252 h_v203 h_v251 h_v199 h_v196 h_v92 h_v89 h_v86 h_v174 h_v104 h_v173 h_v101 h_v172 h_v98 h_v171 h_v95
  rfl

theorem group_c [Buckets F] (k0_h12 : k0_cond12 i = 1#1) (k0_t7 : Fin k0_t7_loop.trips) (fC fO : Vec F S8x1792 .f32) (fT : Vec F S1024 .f32) (fB : Vec F S8x4x128 .f32) (fF : Vec F S5376 .f32) :
    (iprop((lC0 d i ↦{fullShare} fC) ∗ (lO0 d i ↦{fullShare} fO) ∗ (lT d i ↦{fullShare} fT) ∗ (lB d i ↦{fullShare} fB) ∗ (lF d i ↦{fullShare} fF)) : sProp 𝕄) ⊢
    wp frame (wpE (defs₀ (F := F)) 𝒱₀ (thr d i) none) Set.univ (k0_t7_body (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_h12 k0_t7 ()) (fun _ => iprop((lC0 d i ↦{fullShare} fC) ∗ (lO0 d i ↦{fullShare} fO) ∗ (lT d i ↦{fullShare} fT) ∗ (lB d i ↦{fullShare} (putBox fB (k0_t7.val / 2) (16 * (k0_t7.val % 2)) (groupBox fC fO (k0_t7.val / 2) (16 * (k0_t7.val % 2)) (fun n => tailAt fT (128 * (k0_t7.val / 2) + 64 * (k0_t7.val % 2) + 4 * n))))) ∗ (lF d i ↦{fullShare} (putSeg fF (672 * (k0_t7.val / 2) + 512 + 16 * (k0_t7.val % 2)) (groupConf fC (k0_t7.val / 2) (16 * (k0_t7.val % 2))))))) := by
  have hb : (k0_t7.val / 2) < 8 := by have h := k0_t7.isLt; have e := trips7; omega
  have hu : (16 * (k0_t7.val % 2)) + 16 ≤ 64 := by omega
  have hp : (128 * (k0_t7.val / 2) + 64 * (k0_t7.val % 2)) + 64 ≤ 1024 := by have h := k0_t7.isLt; have e := trips7; omega
  have hd : 4 ∣ (128 * (k0_t7.val / 2) + 64 * (k0_t7.val % 2)) := by omega
  have ho : (16 * (k0_t7.val % 2)) + 16 ≤ 128 := by omega
  have hoff : ∀ (s : Fin 4) (n : ℕ), (offIdx (laneAt fC (k0_t7.val / 2) n) s).val = 7 * s.val + (bestIdx (sideOf (laneAt fC (k0_t7.val / 2) n) s)).toNat := fun s n => offIdx_val _ s
  have accC := acc1 (lC0 d i ↦{fullShare} fC : sProp 𝕄) (lO0 d i ↦{fullShare} fO : sProp 𝕄) (lT d i ↦{fullShare} fT : sProp 𝕄) (lB d i ↦{fullShare} fB : sProp 𝕄) (lF d i ↦{fullShare} fF : sProp 𝕄)
  have accO := acc2 (lC0 d i ↦{fullShare} fC : sProp 𝕄) (lO0 d i ↦{fullShare} fO : sProp 𝕄) (lT d i ↦{fullShare} fT : sProp 𝕄) (lB d i ↦{fullShare} fB : sProp 𝕄) (lF d i ↦{fullShare} fF : sProp 𝕄)
  have accP := acc3 (lC0 d i ↦{fullShare} fC : sProp 𝕄) (lO0 d i ↦{fullShare} fO : sProp 𝕄) (lT d i ↦{fullShare} fT : sProp 𝕄) (lB d i ↦{fullShare} fB : sProp 𝕄) (lF d i ↦{fullShare} fF : sProp 𝕄)
  unfold k0_t7_body
  refine w_part55 d i _ _ _ _ hb (fun _ => c_row _) hu (c_col _) accC ?_
  intro v86 v76
  intro h_v86 h_v76
  refine w_part56 d i _ _ _ _ rfl hb (fun _ => c_row _) hu (c_col _) accC ?_
  intro v89 v92 v95 v98 v101 v104 v107 v110 v113 v116 v119 v122
  intro h_v89 h_v92 h_v95 h_v98 h_v101 h_v104 h_v107 h_v110 h_v113 h_v116 h_v119 h_v122
  refine w_part57 d i _ _ _ _ rfl hb (fun _ => c_row _) hu (c_col _) accC ?_
  intro v125 v128 v131 v134 v137 v140 v143 v146 v149 v152 v155 v158
  intro h_v125 h_v128 h_v131 h_v134 h_v137 h_v140 h_v143 h_v146 h_v149 h_v152 h_v155 h_v158
  refine w_part58 d i _ _ _ _ _ _ _ _ _ _ _ rfl hb (fun _ => c_row _) hu (c_col _) accC ?_
  intro v161 v164 v167 v171 v172 v173 v174 v196 v198 v199 v200 v203 v205
  intro h_v161 h_v164 h_v167 h_v171 h_v172 h_v173 h_v174 h_v196 h_v198 h_v199 h_v200 h_v203 h_v205
  refine w_part59 d i _ _ _ _ _ _ _ _ _ _ _ _ _ hb (fun _ => c_row _) hu (c_col _) (c_ix0 fC fO fT (k0_t7.val / 2) (16 * (k0_t7.val % 2)) 0 _ h_v95 h_v171 h_v98 h_v172 h_v101 h_v173 h_v104 h_v174 h_v86 h_v89 h_v92 h_v196 h_v198 h_v200) (fun _ => bestIdx_lt _) accO ?_
  intro v248 v242 v251 v252 v254 cst_69
  intro h_v248 h_v242 h_v251 h_v252 h_v254 h_cst_69
  replace h_v248 : v248 = (fun x => laneAt fO (k0_t7.val / 2) ((16 * (k0_t7.val % 2)) + ln x) (offIdx (laneAt fC (k0_t7.val / 2) ((16 * (k0_t7.val % 2)) + ln x)) 0)) := by
    rw [h_v248]; funext x; exact congrArg (fun m => at2 fO _ (28 * _ + m)) (hoff 0 _).symm
  refine w_part60 d i _ _ _ _ _ _ _ _ _ _ _   ?_
  intro v258 v263 v264 v265 v297 v298 v300 v301 v302 v303 v305
  intro h_v258 h_v263 h_v264 h_v265 h_v297 h_v298 h_v300 h_v301 h_v302 h_v303 h_v305
  refine w_part61 d i _ _ _ _ _ _ _ _ _ _ _ _ _ _ _ _ _ _ _ hb (fun _ => c_row _) hu (c_col _) (c_ix1 fC fO fT (k0_t7.val / 2) (16 * (k0_t7.val % 2)) 0 _ h_v119 h_v263 h_v122 h_v264 h_v125 h_v265 h_v107 h_v110 h_v113 h_v116 h_v298 h_v300 h_v302) (fun _ => bestIdx_lt _) accO ?_
  intro v339 v333 v350 v351 v352 v353 v354 v355
  intro h_v339 h_v333 h_v350 h_v351 h_v352 h_v353 h_v354 h_v355
  replace h_v339 : v339 = (fun x => laneAt fO (k0_t7.val / 2) ((16 * (k0_t7.val % 2)) + ln x) (offIdx (laneAt fC (k0_t7.val / 2) ((16 * (k0_t7.val % 2)) + ln x)) 1)) := by
    rw [h_v339]; funext x; exact congrArg (fun m => at2 fO _ (28 * _ + m)) (hoff 1 _).symm
  refine w_part62 d i _ _ _ _ _ _ _   ?_
  intro v356 v357 v397 v400 v401 v403 v404
  intro h_v356 h_v357 h_v397 h_v400 h_v401 h_v403 h_v404
  refine w_part63 d i _ _ _ _ _ _ _ _ _ _ _ _ _ _ _ _ _ _ hb (fun _ => c_row _) hu (c_col _) (c_ix2 fC fO fT (k0_t7.val / 2) (16 * (k0_t7.val % 2)) 0 _ h_v143 h_v356 h_v146 h_v357 h_v128 h_v351 h_v131 h_v352 h_v134 h_v353 h_v137 h_v354 h_v140 h_v355 h_v401 h_v403) (fun _ => bestIdx_lt _) accO ?_
  intro v431 v425 v442 v443 v444 v445 v446 v447 v448 v449 v450 v451 v452 v453
  intro h_v431 h_v425 h_v442 h_v443 h_v444 h_v445 h_v446 h_v447 h_v448 h_v449 h_v450 h_v451 h_v452 h_v453
  replace h_v431 : v431 = (fun x => laneAt fO (k0_t7.val / 2) ((16 * (k0_t7.val % 2)) + ln x) (offIdx (laneAt fC (k0_t7.val / 2) ((16 * (k0_t7.val % 2)) + ln x)) 2)) := by
    rw [h_v431]; funext x; exact congrArg (fun m => at2 fO _ (28 * _ + m)) (hoff 2 _).symm
  refine w_part64 d i _ _ _ _ _ _ _ _ _ _   ?_
  intro v495 v496 v497 v500 v503 v504
  intro h_v495 h_v496 h_v497 h_v500 h_v503 h_v504
  refine w_part65 d i _ _ _ _ _ _ _ _ _ _ _ _ _ _ _ hb (fun _ => c_row _) hu (c_col _) (c_ix3 fC fO fT (k0_t7.val / 2) (16 * (k0_t7.val % 2)) 0 _ h_v167 h_v449 h_v149 h_v443 h_v152 h_v444 h_v155 h_v445 h_v158 h_v446 h_v161 h_v447 h_v450 h_v453 h_v495 h_v164 h_v448 h_v497 h_v504) (fun _ => bestIdx_lt _) hp hd (by rw [h_v76]; exact c_prop _) accO accP ?_
  intro v523 v542 v545 v548 v517 v534 v541 v549
  intro h_v523 h_v542 h_v545 h_v548 h_v517 h_v534 h_v541 h_v549
  replace h_v523 : v523 = (fun x => laneAt fO (k0_t7.val / 2) ((16 * (k0_t7.val % 2)) + ln x) (offIdx (laneAt fC (k0_t7.val / 2) ((16 * (k0_t7.val % 2)) + ln x)) 3)) := by
    rw [h_v523]; funext x; exact congrArg (fun m => at2 fO _ (28 * _ + m)) (hoff 3 _).symm
  refine w_part66 d i _ _ _ _ _ _ _ _ _ _ _ _ _ _ h_v549 hp hd (by rw [h_v541, h_v76]; exact c_prop _) accP ?_
  intro v551 v580 v585 v590 v595
  intro h_v551 h_v580 h_v585 h_v590 h_v595
  have hvo : ∀ x, ((k0_pay1034 v76 (p55_v78 0#32 1#32 k0_t7)) x).toNat = (16 * (k0_t7.val % 2)) + ln x := by rw [h_v76]; exact c_out _
  refine st_assume d i ⟨fun _ => chkB (fun _ => c_row _) hb hvo ho 0#32 (by decide), fun _ => chkB (fun _ => c_row _) hb hvo ho 1#32 (by decide), fun _ => chkB (fun _ => c_row _) hb hvo ho 2#32 (by decide), fun _ => chkB (fun _ => c_row _) hb hvo ho 3#32 (by decide)⟩ ?_
  refine st_scatter d i (Memref.set_access_whole _) ((Memref.write_access_whole_univ _ _ _ _).trans (stB (Memref.read_access_whole _ _ _) (fun _ => c_row _) hb hvo ho 0#32 (by decide) _ (groupBox fC fO (k0_t7.val / 2) (16 * (k0_t7.val % 2)) (fun n => tailAt fT (128 * (k0_t7.val / 2) + 64 * (k0_t7.val % 2) + 4 * n)) 0) (fun x => congrFun (c_box0 fC fO fT (k0_t7.val / 2) (16 * (k0_t7.val % 2)) (128 * (k0_t7.val / 2) + 64 * (k0_t7.val % 2))  h_v95 h_v171 h_v98 h_v172 h_v101 h_v173 h_v104 h_v174 h_v86 h_v89 h_v92 h_v196 h_v198 h_v200 h_v242 h_v248 h_v542 h_v548 h_v580) x) _)) (acc4 _ _ _ _ _ _) ?_
  refine st_scatter d i (Memref.set_access_whole _) ((Memref.write_access_whole_univ _ _ _ _).trans (stB (Memref.read_access_whole _ _ _) (fun _ => c_row _) hb hvo ho 1#32 (by decide) _ (groupBox fC fO (k0_t7.val / 2) (16 * (k0_t7.val % 2)) (fun n => tailAt fT (128 * (k0_t7.val / 2) + 64 * (k0_t7.val % 2) + 4 * n)) 1) (fun x => congrFun (c_box1 fC fO fT (k0_t7.val / 2) (16 * (k0_t7.val % 2)) (128 * (k0_t7.val / 2) + 64 * (k0_t7.val % 2))  h_v143 h_v356 h_v146 h_v357 h_v128 h_v351 h_v131 h_v352 h_v134 h_v353 h_v137 h_v354 h_v140 h_v355 h_v401 h_v403 h_v425 h_v431 h_v545 h_v551 h_v590) x) _)) (acc4 _ _ _ _ _ _) ?_
  refine st_scatter d i (Memref.set_access_whole _) ((Memref.write_access_whole_univ _ _ _ _).trans (stB (Memref.read_access_whole _ _ _) (fun _ => c_row _) hb hvo ho 2#32 (by decide) _ (groupBox fC fO (k0_t7.val / 2) (16 * (k0_t7.val % 2)) (fun n => tailAt fT (128 * (k0_t7.val / 2) + 64 * (k0_t7.val % 2) + 4 * n)) 2) (fun x => congrFun (c_box2 fC fO fT (k0_t7.val / 2) (16 * (k0_t7.val % 2)) (128 * (k0_t7.val / 2) + 64 * (k0_t7.val % 2))  h_v119 h_v263 h_v122 h_v264 h_v125 h_v265 h_v107 h_v110 h_v113 h_v116 h_v298 h_v300 h_v302 h_v333 h_v339 h_v542 h_v548 h_v585) x) _)) (acc4 _ _ _ _ _ _) ?_
  refine st_scatter d i (Memref.set_access_whole _) ((Memref.write_access_whole_univ _ _ _ _).trans (stB (Memref.read_access_whole _ _ _) (fun _ => c_row _) hb hvo ho 3#32 (by decide) _ (groupBox fC fO (k0_t7.val / 2) (16 * (k0_t7.val % 2)) (fun n => tailAt fT (128 * (k0_t7.val / 2) + 64 * (k0_t7.val % 2) + 4 * n)) 3) (fun x => congrFun (c_box3 fC fO fT (k0_t7.val / 2) (16 * (k0_t7.val % 2)) (128 * (k0_t7.val / 2) + 64 * (k0_t7.val % 2))  h_v167 h_v449 h_v149 h_v443 h_v152 h_v444 h_v155 h_v445 h_v158 h_v446 h_v161 h_v447 h_v450 h_v453 h_v495 h_v164 h_v448 h_v497 h_v504 h_v517 h_v523 h_v545 h_v551 h_v595) x) _)) (acc4 _ _ _ _ _ _) ?_
  refine st_load d i (acc5 _ _ _ _ _ _) ?_
  intro _
  refine st_store d i (g := putSeg fF (672 * (k0_t7.val / 2) + 512 + 16 * (k0_t7.val % 2)) (groupConf fC (k0_t7.val / 2) (16 * (k0_t7.val % 2)))) ?_ (acc5 _ _ _ _ _ _) ?_
  · rw [← off18 k0_t7]
    exact write_seg _ _ _ _ _ (fun x => congrFun (c_conf fC fO fT (k0_t7.val / 2) (16 * (k0_t7.val % 2)) 0  h_v95 h_v171 h_v98 h_v172 h_v101 h_v173 h_v104 h_v174 h_v86 h_v89 h_v92 h_v196 h_v199 h_v251 h_v203 h_v252 h_v198 h_v200 h_v205 h_v254 h_cst_69 h_v258 h_v119 h_v263 h_v122 h_v264 h_v125 h_v265 h_v107 h_v110 h_v113 h_v116 h_v297 h_v298 h_v300 h_v301 h_v302 h_v303 h_v305 h_v350 h_v143 h_v356 h_v146 h_v357 h_v128 h_v351 h_v131 h_v352 h_v134 h_v353 h_v137 h_v354 h_v140 h_v355 h_v397 h_v400 h_v401 h_v403 h_v404 h_v442 h_v164 h_v448 h_v167 h_v449 h_v149 h_v443 h_v152 h_v444 h_v155 h_v445 h_v158 h_v446 h_v161 h_v447 h_v450 h_v453 h_v495 h_v496 h_v497 h_v451 h_v500 h_v452 h_v503 h_v504 h_v534) x)
  rw [wp_pure]; exact fupd_intro

end Cert.Proof
-- ==== Proof.Half.lean ====
/- A whole half-block: what the 32 groups of sixteen proposals leave in the boxes and confidences scratches; and the same for the last 32 proposals. -/
module

public import proofs.«01_k».proof.Proof.ChainA
public import proofs.«01_k».proof.Proof.ChainB
public import proofs.«01_k».proof.Proof.ChainC

@[expose] public section

set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

local notation "𝕄" => MT nD τ sig (HIx 1) (Elt F) ℕ UU ℕ

/-- The group, in a half, of proposal `u` of batch row `b`. -/
def gIdx (b u : ℕ) : ℕ := u / 32 * 16 + 2 * b + u % 32 / 16

/-- The boxes' scratch once the first `g` groups of half `sub` of local block `lb` are done, over `f`. -/
def boxGo (sub lb : ℕ) (fC fO : Vec F S8x1792 .f32) (fP : Vec F S8x4x640 .f32) (f : Vec F S8x4x128 .f32) (g : ℕ) : Vec F S8x4x128 .f32 :=
  fun y => if (y 2).val / 64 = sub ∧ gIdx (y 0).val ((y 2).val % 64) < g then
      laneBox (laneAt fC (y 0).val ((y 2).val % 64)) (laneAt fO (y 0).val ((y 2).val % 64)) (propAt fP (y 0).val (128 * lb + (y 2).val)) (y 1)
    else f y

/-- The confidences' scratch, likewise. -/
def confGo (sub lb : ℕ) (fC : Vec F S8x1792 .f32) (f : Vec F S5376 .f32) (g : ℕ) : Vec F S5376 .f32 :=
  fun y => if (y 0).val % 672 / 64 = 2 * lb + sub ∧ gIdx ((y 0).val / 672) ((y 0).val % 672 % 64) < g then
      laneConf (laneAt fC ((y 0).val / 672) ((y 0).val % 672 % 64))
    else f y

theorem boxGo_step {sub lb t p q : ℕ} (hs : sub < 2) (ht : t < 32) (hp : p = 64 * sub + colOf t) (hq : q = 128 * lb + 64 * sub + colOf t)
    (fC fO : Vec F S8x1792 .f32) (fP : Vec F S8x4x640 .f32) (f : Vec F S8x4x128 .f32) :
    putBox (boxGo sub lb fC fO fP f t) (rowOf t) p (groupBox fC fO (rowOf t) (colOf t) (fun n => propAt fP (rowOf t) (q + n)))
      = boxGo sub lb fC fO fP f (t + 1) := by
  funext y
  have y0 : (y 0).val < 8 := (y 0).isLt
  have y1 : (y 1).val < 4 := (y 1).isLt
  have y2 : (y 2).val < 128 := (y 2).isLt
  rw [putBox_apply]; unfold boxGo
  have e1 : (⟨(y 1).val % 4, Nat.mod_lt _ (by decide)⟩ : Fin 4) = y 1 := Fin.ext (Nat.mod_eq_of_lt y1)
  have hI : ((y 0).val = rowOf t ∧ p ≤ (y 2).val ∧ (y 2).val < p + 16) ↔ ((y 2).val / 64 = sub ∧ gIdx (y 0).val ((y 2).val % 64) = t) := by
    subst hp; unfold rowOf colOf gIdx; omega
  by_cases h : (y 0).val = rowOf t ∧ p ≤ (y 2).val ∧ (y 2).val < p + 16
  · obtain ⟨h1, h2⟩ := hI.mp h
    rw [if_pos h, if_pos ⟨h1, by omega⟩]
    have a1 : colOf t + ((y 2).val - p) = (y 2).val % 64 := by have := colOf_le ht; omega
    have a2 : q + ((y 2).val - p) = 128 * lb + (y 2).val := by omega
    unfold groupBox; dsimp only
    rw [a1, a2, ← h.1, e1]
  · rw [if_neg h]
    have hn := fun h' => h (hI.mpr h')
    by_cases h3 : (y 2).val / 64 = sub ∧ gIdx (y 0).val ((y 2).val % 64) < t
    · rw [if_pos h3, if_pos ⟨h3.1, by omega⟩]
    · rw [if_neg h3, if_neg (by rintro ⟨h4, h5⟩; exact h3 ⟨h4, by have := fun h6 => hn ⟨h4, h6⟩; omega⟩)]

theorem conf_window {sub lb t o n : ℕ} (hn : n < 5376) (hs : sub < 2) (hl : lb < 5) (ht : t < 32) (ho : o = 672 * rowOf t + 128 * lb + 64 * sub + colOf t) :
    (o ≤ n ∧ n < o + 16) ↔ (n % 672 / 64 = 2 * lb + sub ∧ gIdx (n / 672) (n % 672 % 64) = t) := by
  have hR : rowOf t = t % 16 / 2 := by unfold rowOf; omega
  have hC : colOf t = 16 * (t / 16 * 2 + t % 2) := by unfold colOf; omega
  have hc := colOf_le ht
  constructor
  · rintro ⟨h1, h2⟩
    have e1 : n / 672 = rowOf t := by omega
    have e2 : n % 672 / 64 = 2 * lb + sub := by omega
    have e3 : n % 672 % 64 / 16 = t / 16 * 2 + t % 2 := by omega
    refine ⟨e2, ?_⟩
    rw [e1, hR]; unfold gIdx; omega
  · rintro ⟨h1, h2⟩
    unfold gIdx at h2
    by_cases hb : n / 672 < 8
    · have e1 : rowOf t = n / 672 := by omega
      have e2 : t / 16 * 2 + t % 2 = n % 672 % 64 / 16 := by omega
      rw [hC, e2, e1] at ho; omega
    · omega

theorem confGo_step {sub lb t o : ℕ} (hs : sub < 2) (hl : lb < 5) (ht : t < 32) (ho : o = 672 * rowOf t + 128 * lb + 64 * sub + colOf t)
    (fC : Vec F S8x1792 .f32) (f : Vec F S5376 .f32) :
    putSeg (confGo sub lb fC f t) o (groupConf fC (rowOf t) (colOf t)) = confGo sub lb fC f (t + 1) := by
  funext y
  have y0 : (y 0).val < 5376 := (y 0).isLt
  unfold putSeg confGo
  have hr := rowOf_lt t
  have hc := colOf_le ht
  have hI : (o ≤ (y 0).val ∧ (y 0).val < o + 16) ↔ ((y 0).val % 672 / 64 = 2 * lb + sub ∧ gIdx ((y 0).val / 672) ((y 0).val % 672 % 64) = t) := by
    exact conf_window y0 hs hl ht ho
  by_cases h : o ≤ (y 0).val ∧ (y 0).val < o + 16
  · obtain ⟨h1, h2⟩ := hI.mp h
    rw [if_pos h, if_pos ⟨h1, by omega⟩]
    have a1 : colOf t + ((y 0).val - o) = (y 0).val % 672 % 64 := by omega
    have a2 : rowOf t = (y 0).val / 672 := by omega
    unfold groupConf
    rw [a1, a2]
  · rw [if_neg h]
    have hn := fun h' => h (hI.mpr h')
    by_cases h3 : (y 0).val % 672 / 64 = 2 * lb + sub ∧ gIdx ((y 0).val / 672) ((y 0).val % 672 % 64) < t
    · rw [if_pos h3, if_pos ⟨h3.1, by omega⟩]
    · rw [if_neg h3, if_neg (by rintro ⟨h4, h5⟩; exact h3 ⟨h4, by have := fun h6 => hn ⟨h4, h6⟩; omega⟩)]

theorem boxGo_zero (sub lb : ℕ) (fC fO : Vec F S8x1792 .f32) (fP : Vec F S8x4x640 .f32) (f : Vec F S8x4x128 .f32) :
    boxGo sub lb fC fO fP f 0 = f := by
  funext y; unfold boxGo; rw [if_neg (by omega)]
theorem confGo_zero (sub lb : ℕ) (fC : Vec F S8x1792 .f32) (f : Vec F S5376 .f32) : confGo sub lb fC f 0 = f := by
  funext y; unfold confGo; rw [if_neg (by omega)]

theorem boxGo_all (sub lb : ℕ) (fC fO : Vec F S8x1792 .f32) (fP : Vec F S8x4x640 .f32) (f : Vec F S8x4x128 .f32) (y : S8x4x128.Idx) :
    boxGo sub lb fC fO fP f 32 y = if (y 2).val / 64 = sub then
      laneBox (laneAt fC (y 0).val ((y 2).val % 64)) (laneAt fO (y 0).val ((y 2).val % 64)) (propAt fP (y 0).val (128 * lb + (y 2).val)) (y 1)
    else f y := by
  have y0 : (y 0).val < 8 := (y 0).isLt
  have : gIdx (y 0).val ((y 2).val % 64) < 32 := by unfold gIdx; omega
  unfold boxGo; simp only [this, and_true]
theorem confGo_all (sub lb : ℕ) (fC : Vec F S8x1792 .f32) (f : Vec F S5376 .f32) (y : S5376.Idx) :
    confGo sub lb fC f 32 y = if (y 0).val % 672 / 64 = 2 * lb + sub then laneConf (laneAt fC ((y 0).val / 672) ((y 0).val % 672 % 64)) else f y := by
  have y0 : (y 0).val < 5376 := (y 0).isLt
  have : gIdx ((y 0).val / 672) ((y 0).val % 672 % 64) < 32 := by unfold gIdx; omega
  unfold confGo; simp only [this, and_true]

/-- The boxes' scratch once the first `g` groups of the last 32 proposals are done. -/
def boxTail (fC fO : Vec F S8x1792 .f32) (fT : Vec F S1024 .f32) (f : Vec F S8x4x128 .f32) (g : ℕ) : Vec F S8x4x128 .f32 :=
  fun y => if (y 2).val < 32 ∧ 2 * (y 0).val + (y 2).val / 16 < g then
      laneBox (laneAt fC (y 0).val (y 2).val) (laneAt fO (y 0).val (y 2).val) (tailAt fT (128 * (y 0).val + 4 * (y 2).val)) (y 1)
    else f y
def confTail (fC : Vec F S8x1792 .f32) (f : Vec F S5376 .f32) (g : ℕ) : Vec F S5376 .f32 :=
  fun y => if 512 ≤ (y 0).val % 672 ∧ (y 0).val % 672 < 544 ∧ 2 * ((y 0).val / 672) + ((y 0).val % 672 - 512) / 16 < g then
      laneConf (laneAt fC ((y 0).val / 672) ((y 0).val % 672 - 512))
    else f y

theorem boxTail_step {t : ℕ} (ht : t < 16) (fC fO : Vec F S8x1792 .f32) (fT : Vec F S1024 .f32) (f : Vec F S8x4x128 .f32) :
    putBox (boxTail fC fO fT f t) (t / 2) (16 * (t % 2)) (groupBox fC fO (t / 2) (16 * (t % 2)) (fun n => tailAt fT (128 * (t / 2) + 64 * (t % 2) + 4 * n)))
      = boxTail fC fO fT f (t + 1) := by
  funext y
  have y0 : (y 0).val < 8 := (y 0).isLt
  have y1 : (y 1).val < 4 := (y 1).isLt
  have y2 : (y 2).val < 128 := (y 2).isLt
  rw [putBox_apply]; unfold boxTail
  have e1 : (⟨(y 1).val % 4, Nat.mod_lt _ (by decide)⟩ : Fin 4) = y 1 := Fin.ext (Nat.mod_eq_of_lt y1)
  have hI : ((y 0).val = t / 2 ∧ 16 * (t % 2) ≤ (y 2).val ∧ (y 2).val < 16 * (t % 2) + 16) ↔ ((y 2).val < 32 ∧ 2 * (y 0).val + (y 2).val / 16 = t) := by
    omega
  by_cases h : (y 0).val = t / 2 ∧ 16 * (t % 2) ≤ (y 2).val ∧ (y 2).val < 16 * (t % 2) + 16
  · obtain ⟨h1, h2⟩ := hI.mp h
    rw [if_pos h, if_pos ⟨h1, by omega⟩]
    have a1 : 16 * (t % 2) + ((y 2).val - 16 * (t % 2)) = (y 2).val := by omega
    have a2 : 128 * (t / 2) + 64 * (t % 2) + 4 * ((y 2).val - 16 * (t % 2)) = 128 * (t / 2) + 4 * (y 2).val := by omega
    unfold groupBox; dsimp only
    rw [a1, a2, ← h.1, e1]
  · rw [if_neg h]
    have hn := fun h' => h (hI.mpr h')
    by_cases h3 : (y 2).val < 32 ∧ 2 * (y 0).val + (y 2).val / 16 < t
    · rw [if_pos h3, if_pos ⟨h3.1, by omega⟩]
    · rw [if_neg h3, if_neg (by rintro ⟨h4, h5⟩; exact h3 ⟨h4, by have := fun h6 => hn ⟨h4, h6⟩; omega⟩)]

theorem confTail_step {t : ℕ} (ht : t < 16) (fC : Vec F S8x1792 .f32) (f : Vec F S5376 .f32) :
    putSeg (confTail fC f t) (672 * (t / 2) + 512 + 16 * (t % 2)) (groupConf fC (t / 2) (16 * (t % 2))) = confTail fC f (t + 1) := by
  funext y
  have y0 : (y 0).val < 5376 := (y 0).isLt
  unfold putSeg confTail
  generalize ho : 672 * (t / 2) + 512 + 16 * (t % 2) = o
  have hI : (o ≤ (y 0).val ∧ (y 0).val < o + 16) ↔ (512 ≤ (y 0).val % 672 ∧ (y 0).val % 672 < 544 ∧ 2 * ((y 0).val / 672) + ((y 0).val % 672 - 512) / 16 = t) := by
    omega
  by_cases h : o ≤ (y 0).val ∧ (y 0).val < o + 16
  · obtain ⟨h1, h2, h3⟩ := hI.mp h
    rw [if_pos h, if_pos ⟨h1, h2, by omega⟩]
    have a1 : 16 * (t % 2) + ((y 0).val - o) = (y 0).val % 672 - 512 := by omega
    have a2 : t / 2 = (y 0).val / 672 := by omega
    unfold groupConf
    rw [a1, a2]
  · rw [if_neg h]
    have hn := fun h' => h (hI.mpr h')
    by_cases h3 : 512 ≤ (y 0).val % 672 ∧ (y 0).val % 672 < 544 ∧ 2 * ((y 0).val / 672) + ((y 0).val % 672 - 512) / 16 < t
    · rw [if_pos h3, if_pos ⟨h3.1, h3.2.1, by omega⟩]
    · rw [if_neg h3, if_neg (by rintro ⟨h4, h5, h6⟩; exact h3 ⟨h4, h5, by have := fun h7 => hn ⟨h4, h5, h7⟩; omega⟩)]

theorem boxTail_zero (fC fO : Vec F S8x1792 .f32) (fT : Vec F S1024 .f32) (f : Vec F S8x4x128 .f32) : boxTail fC fO fT f 0 = f := by
  funext y; unfold boxTail; rw [if_neg (by omega)]
theorem confTail_zero (fC : Vec F S8x1792 .f32) (f : Vec F S5376 .f32) : confTail fC f 0 = f := by
  funext y; unfold confTail; rw [if_neg (by omega)]
theorem half_a [Buckets F] (k0_t1 : Fin (k0_t1_loop i).trips) (k0_h4 : k0_cond4 i k0_t1 = 1#1) (lb : Fin 5) (hlb : k0_t1.val / 2 = lb.val) {v71 : BitVec 32} (hv71 : v71 = BitVec.ofNat 32 lb.val) (fC fO : Vec F S8x1792 .f32) (fP : Vec F S8x4x640 .f32) (fB : Vec F S8x4x128 .f32) (fF : Vec F S5376 .f32)
    {α : Type} {k : Unit → Prog (TpuEff nD τ sig (Elt F) Λ₀ (thr d i).2) α} {Q : α → sProp 𝕄} :
    (iprop((lC0 d i ↦{fullShare} fC) ∗ (lO0 d i ↦{fullShare} fO) ∗ (lP d i ↦{fullShare} fP) ∗ (lB d i ↦{fullShare} fB) ∗ (lF d i ↦{fullShare} fF)) : sProp 𝕄) ⊢
    iprop((((lC0 d i ↦{fullShare} fC) ∗ (lO0 d i ↦{fullShare} fO) ∗ (lP d i ↦{fullShare} fP) ∗ (lB d i ↦{fullShare} (boxGo 0 lb.val fC fO fP fB 32)) ∗ (lF d i ↦{fullShare} (confGo 0 lb.val fC fF 32))) -∗ wp frame (wpE (defs₀ (F := F)) 𝒱₀ (thr d i) none) Set.univ (k ()) Q) -∗
      wp frame (wpE (defs₀ (F := F)) 𝒱₀ (thr d i) none) Set.univ (Scf.Loop.for k0_t2_loop (k0_t2_ok i k0_t1 k0_h4) ⟨⟩ (k0_t2_body (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_t1 k0_h4 (v71)) >>= k) Q) := by
  subst hv71
  have hw := Scf.wp_for_bind frame (wpE (defs₀ (F := F)) 𝒱₀ (thr d i) none) Set.univ _ _ _ (k0_t2_ok i k0_t1 k0_h4) () (k0_t2_body (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_t1 k0_h4 (BitVec.ofNat 32 lb.val))
    (fun g _ => (iprop((lC0 d i ↦{fullShare} fC) ∗ (lO0 d i ↦{fullShare} fO) ∗ (lP d i ↦{fullShare} fP) ∗ (lB d i ↦{fullShare} (boxGo 0 lb.val fC fO fP fB g)) ∗ (lF d i ↦{fullShare} (confGo 0 lb.val fC fF g))) : sProp 𝕄)) ?_ (kk := k) (Q := Q)
  · dsimp only at hw
    rw [boxGo_zero, confGo_zero] at hw
    refine hw.trans (wand_mono_left ?_)
    refine forall_intro fun u => ?_
    exact Entails.rfl
  · intro t acc
    have ht : t.val < 32 := Nat.lt_of_lt_of_eq t.isLt trips2
    refine (group_a d i k0_t1 k0_h4 lb t fC fO fP _ _).trans ((wp frame (wpE (defs₀ (F := F)) 𝒱₀ (thr d i) none) Set.univ _).mono fun _ => ?_)
    rw [boxGo_step (by decide) ht (by omega) (by omega), confGo_step (by decide) lb.isLt ht (by omega)]

theorem half_b [Buckets F] (v6 : BitVec 32) (k0_t1 : Fin (k0_t1_loop i).trips) (arg18 : BitVec 32) (k0_h6 : k0_cond6 i k0_t1 = 1#1) (lb : Fin 5) (hlb : k0_t1.val / 2 = lb.val) {v71 : BitVec 32} (hv71 : v71 = BitVec.ofNat 32 lb.val) (fC fO : Vec F S8x1792 .f32) (fP : Vec F S8x4x640 .f32) (fB : Vec F S8x4x128 .f32) (fF : Vec F S5376 .f32)
    {α : Type} {k : Unit → Prog (TpuEff nD τ sig (Elt F) Λ₀ (thr d i).2) α} {Q : α → sProp 𝕄} :
    (iprop((lC1 d i ↦{fullShare} fC) ∗ (lO1 d i ↦{fullShare} fO) ∗ (lP d i ↦{fullShare} fP) ∗ (lB d i ↦{fullShare} fB) ∗ (lF d i ↦{fullShare} fF)) : sProp 𝕄) ⊢
    iprop((((lC1 d i ↦{fullShare} fC) ∗ (lO1 d i ↦{fullShare} fO) ∗ (lP d i ↦{fullShare} fP) ∗ (lB d i ↦{fullShare} (boxGo 1 lb.val fC fO fP fB 32)) ∗ (lF d i ↦{fullShare} (confGo 1 lb.val fC fF 32))) -∗ wp frame (wpE (defs₀ (F := F)) 𝒱₀ (thr d i) none) Set.univ (k ()) Q) -∗
      wp frame (wpE (defs₀ (F := F)) 𝒱₀ (thr d i) none) Set.univ (Scf.Loop.for k0_t3_loop (k0_t3_ok i k0_t1 k0_h6) ⟨⟩ (k0_t3_body (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 v6 k0_t1 arg18 k0_h6 (v71)) >>= k) Q) := by
  subst hv71
  have hw := Scf.wp_for_bind frame (wpE (defs₀ (F := F)) 𝒱₀ (thr d i) none) Set.univ _ _ _ (k0_t3_ok i k0_t1 k0_h6) () (k0_t3_body (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 v6 k0_t1 arg18 k0_h6 (BitVec.ofNat 32 lb.val))
    (fun g _ => (iprop((lC1 d i ↦{fullShare} fC) ∗ (lO1 d i ↦{fullShare} fO) ∗ (lP d i ↦{fullShare} fP) ∗ (lB d i ↦{fullShare} (boxGo 1 lb.val fC fO fP fB g)) ∗ (lF d i ↦{fullShare} (confGo 1 lb.val fC fF g))) : sProp 𝕄)) ?_ (kk := k) (Q := Q)
  · dsimp only at hw
    rw [boxGo_zero, confGo_zero] at hw
    refine hw.trans (wand_mono_left ?_)
    refine forall_intro fun u => ?_
    exact Entails.rfl
  · intro t acc
    have ht : t.val < 32 := Nat.lt_of_lt_of_eq t.isLt trips3
    refine (group_b d i v6 k0_t1 arg18 k0_h6 lb t fC fO fP _ _).trans ((wp frame (wpE (defs₀ (F := F)) 𝒱₀ (thr d i) none) Set.univ _).mono fun _ => ?_)
    rw [boxGo_step (by decide) ht (by omega) (by omega), confGo_step (by decide) lb.isLt ht (by omega)]

theorem half_c [Buckets F] (k0_h12 : k0_cond12 i = 1#1) (fC fO : Vec F S8x1792 .f32) (fT : Vec F S1024 .f32) (fB : Vec F S8x4x128 .f32) (fF : Vec F S5376 .f32)
    {α : Type} {k : Unit → Prog (TpuEff nD τ sig (Elt F) Λ₀ (thr d i).2) α} {Q : α → sProp 𝕄} :
    (iprop((lC0 d i ↦{fullShare} fC) ∗ (lO0 d i ↦{fullShare} fO) ∗ (lT d i ↦{fullShare} fT) ∗ (lB d i ↦{fullShare} fB) ∗ (lF d i ↦{fullShare} fF)) : sProp 𝕄) ⊢
    iprop((((lC0 d i ↦{fullShare} fC) ∗ (lO0 d i ↦{fullShare} fO) ∗ (lT d i ↦{fullShare} fT) ∗ (lB d i ↦{fullShare} (boxTail fC fO fT fB 16)) ∗ (lF d i ↦{fullShare} (confTail fC fF 16))) -∗ wp frame (wpE (defs₀ (F := F)) 𝒱₀ (thr d i) none) Set.univ (k ()) Q) -∗
      wp frame (wpE (defs₀ (F := F)) 𝒱₀ (thr d i) none) Set.univ (Scf.Loop.for k0_t7_loop (k0_t7_ok i k0_h12) ⟨⟩ (k0_t7_body (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_h12) >>= k) Q) := by
  have hw := Scf.wp_for_bind frame (wpE (defs₀ (F := F)) 𝒱₀ (thr d i) none) Set.univ _ _ _ (k0_t7_ok i k0_h12) () (k0_t7_body (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 k0_h12)
    (fun g _ => (iprop((lC0 d i ↦{fullShare} fC) ∗ (lO0 d i ↦{fullShare} fO) ∗ (lT d i ↦{fullShare} fT) ∗ (lB d i ↦{fullShare} (boxTail fC fO fT fB g)) ∗ (lF d i ↦{fullShare} (confTail fC fF g))) : sProp 𝕄)) ?_ (kk := k) (Q := Q)
  · dsimp only at hw
    rw [boxTail_zero, confTail_zero] at hw
    refine hw.trans (wand_mono_left ?_)
    refine forall_intro fun u => ?_
    exact Entails.rfl
  · intro t acc
    have ht : t.val < 16 := Nat.lt_of_lt_of_eq t.isLt trips7
    refine (group_c d i k0_h12 t fC fO fT _ _).trans ((wp frame (wpE (defs₀ (F := F)) 𝒱₀ (thr d i) none) Set.univ _).mono fun _ => ?_)
    rw [boxTail_step ht, confTail_step ht]

end Cert.Proof
-- ==== Proof.Copies.lean ====
/- The copies of one tile: what their slices read and write, the two semaphores that each carry two copies in flight, and the steps the body takes at them. -/
module

public import proofs.«01_k».proof.Proof.Half

@[expose] public section

set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

local notation "𝕄" => MT nD τ sig (HIx 1) (Elt F) ℕ UU ℕ

/-- The waits recorded so far, over those of before: every new one is the body's own. -/
def OW (O : CellTallies nD τ sig (HIx 1)) (W : Waits sig (HIx 1)) : sProp 𝕄 :=
  iprop(∃ W' : Waits sig (HIx 1), ⌜∀ p ∈ W', p ∈ W ∨ p.2 = none⌝ ∗ owes (thr d i) O W')

theorem mem_insert_none {sm : SemLoc sig} {W W' : Waits sig (HIx 1)} (h : ∀ p ∈ W', p ∈ W ∨ p.2 = none) :
    ∀ p ∈ insert (sm, none) W', p ∈ W ∨ p.2 = none := by
  intro p hp
  rcases Finset.mem_insert.mp hp with rfl | hp
  · exact Or.inr rfl
  · exact h p hp

/-- A copy and its wait, over a semaphore that starts and ends at zero. -/
theorem st_copy {s : Shape} {e : EltTy} {sp sp' : Space} {src : Memref sig (thr d i).2.kind sp s e} {dst : Memref sig (thr d i).2.kind sp' s e} {sem : DmaSem sig}
    {hsrc : src.view.WordExact} {hdst : dst.view.WordExact} {hsem : DmaTarget.Typed (nD := nD) sp (.dma sem) (.here dst)}
    {s' : Shape} {e' : EltTy} {spw spw' : Space} {κ' : Kind} {srcw : Memref sig (thr d i).2.kind spw s' e'} {dstw : Memref sig κ' spw' s e}
    {hsrcw : srcw.view.WordExact} {hdstw : dstw.view.WordExact}
    {α : Type} {k : PUnit → Prog (TpuEff nD τ sig (Elt F) Λ₀ (thr d i).2) α} {Q : α → sProp 𝕄} {q : PosShare TreeShare}
    {fs : Buf (Elt F) (src.view.loc (thr d i))} {Ss : Finset (Idx (src.view.loc (thr d i)))} {Sd : Finset (Idx (dst.view.loc (thr d i)))}
    {fd g : Buf (Elt F) (dst.view.loc (thr d i))} {O : CellTallies nD τ sig (HIx 1)} {W : Waits sig (HIx 1)} (hO : ∀ g, O g none = 0)
    (N : ℕ) (hN : dst.view.amount (.dma sem) = N) (hNw : dstw.view.dmaCredit = N) (hN0 : 0 < N) (hSs : src.view.set ⊆ Ss) (hSd : dst.view.set ⊆ Sd)
    (hg : ∀ y ∈ Sd, dst.view.write (Elt F) fd (src.view.read (Elt F) fs) Finset.univ y = g y) :
    (iprop(levAts (K (F := F)).L (K (F := F)).lev ∗ (src.view.loc (thr d i) ↦[Ss]{q} fs) ∗ (dst.view.loc (thr d i) ↦[Sd]{fullShare} fd) ∗ semVal (thr d i, .dma sem) 0 ∗ OW d i O W) : sProp 𝕄) ⊢
    iprop((((src.view.loc (thr d i) ↦[Ss]{q} fs) ∗ (dst.view.loc (thr d i) ↦[Sd]{fullShare} g) ∗ semVal (thr d i, .dma sem) 0 ∗ OW d i O W) -∗ wp frame (wpE (defs₀ (F := F)) 𝒱₀ (thr d i) none) Set.univ (k ⟨⟩) Q) -∗
      wp frame (wpE (defs₀ (F := F)) 𝒱₀ (thr d i) none) Set.univ (.op (.enqueueDma src (.here dst) (.dma sem) hsrc hdst hsem) fun _ => .op (.waitDma2 sem srcw dstw hsrcw hdstw) k) Q) := by
  unfold OW
  iintro ⟨#Hlv, Hs, Hd, Hv, ⟨%W', %hW', HO⟩⟩ Hk
  ihave Hs' := (pointsTo_split_subset (q := q) (f := fs) hSs).1 $$ Hs
  icases Hs' with ⟨Hs, Hr⟩
  iapply (Transfers.wp_dmaLocal countersEmb 𝒱₀ (thr d i) none (none : HIx 1) N hN hN0 hSd) $$ [Hs Hd Hv]
  · isplitl [Hs]; · iexact Hs
    isplitl [Hd]; · iexact Hd
    iexact Hv
  iintro Hfl
  iapply (Transfers.wp_waitLocalO countersEmb 𝒱₀ (thr d i) none (none : HIx 1) hNw (O := O) (W := W')) $$ [Hfl HO]
  · isplitl [Hfl]; · iexact Hfl
    isplitl [HO]; · iexact HO
    iapply ((K (F := F)).mayWait_none (SemLoc.dma sem) hO); iexact Hlv
  iintro ⟨⟨Hd, Hs⟩, Hv, HO⟩
  iapply Hk
  isplitl [Hs Hr]
  · iapply (pointsTo_split_subset (q := q) (f := fs) hSs).2
    isplitl [Hs] <;> iassumption
  isplitl [Hd]
  · iapply (Entails.of_eq (pointsTo_congr hg)); iexact Hd
  isplitl [Hv]; · iexact Hv
  iexists (insert (SemLoc.dma sem, none) W')
  isplitr
  · ipureintro; exact mem_insert_none hW'
  iexact HO

/-- A place of the class scores or of the offsets. -/
def atC (f : Vec F S8x560000 .f32) (b c : ℕ) : F .f32 :=
  f (fun | 0 => ⟨b % 8, Nat.mod_lt _ (by decide)⟩ | 1 => ⟨c % 560000, Nat.mod_lt _ (by decide)⟩)

/-- The columns of a half, from `n` on. -/
def cut (f : Vec F S8x560000 .f32) (n : ℕ) : Vec F S8x1792 .f32 := fun y => atC f (y 0).val (n + (y 1).val)

/-- The places a half's copy reads. -/
def colS (n : ℕ) : Finset S8x560000.Idx := Finset.univ.filter fun y => n ≤ (y 1).val ∧ (y 1).val < n + 1792

theorem cut_read {off : Fin 2 → ℕ} {n : ℕ} (h : ∀ a, off a + S8x1792.size a ≤ S8x560000.size a) (ho : off = ![0, n]) (f : Vec F S8x560000 .f32) :
    (fun x => f ((Rect.unit (s := S8x560000) off S8x1792.size h).emb x)) = cut f n := by
  subst ho
  funext x
  have h1 : n + 1792 ≤ 560000 := h 1
  refine congrArg f (funext fun a => ?_)
  fin_cases a
  · refine Fin.ext ?_
    show 0 + 1 * (x 0).val = (x 0).val % 8
    have : (x 0).val < 8 := (x 0).isLt
    rw [Nat.mod_eq_of_lt this]; omega
  · refine Fin.ext ?_
    show n + 1 * (x 1).val = (n + (x 1).val) % 560000
    have : (x 1).val < 1792 := (x 1).isLt
    rw [Nat.mod_eq_of_lt (by omega)]; omega

theorem colS_set {off : Fin 2 → ℕ} {n : ℕ} (h : ∀ a, off a + S8x1792.size a ≤ S8x560000.size a) (ho : off = ![0, n]) :
    (Rect.unit (s := S8x560000) off S8x1792.size h).set = colS n := by
  subst ho
  ext y
  rw [Rect.mem_set_unit]
  unfold colS
  rw [Finset.mem_filter]
  constructor
  · intro hy
    exact ⟨Finset.mem_univ _, (hy 1).1, (hy 1).2⟩
  · rintro ⟨-, h1, h2⟩ a
    fin_cases a
    · exact ⟨Nat.zero_le _, by show (y 0).val < 0 + 8; have : (y 0).val < 8 := (y 0).isLt; omega⟩
    · exact ⟨h1, h2⟩

theorem set_C {off : Fin 2 → ℕ} {n : ℕ} (h : ∀ a, off a + S8x1792.size a ≤ S8x560000.size a) (hst) (ho : off = ![0, n]) :
    (mC.slice (Rect.unit (s := S8x560000) off S8x1792.size h) hst).view.set = colS n :=
  (View.set_slice_whole main_arg1_scv _).trans (colS_set h ho)

theorem set_O {off : Fin 2 → ℕ} {n : ℕ} (h : ∀ a, off a + S8x1792.size a ≤ S8x560000.size a) (hst) (ho : off = ![0, n]) :
    (mO.slice (Rect.unit (s := S8x560000) off S8x1792.size h) hst).view.set = colS n :=
  (View.set_slice_whole main_arg2_scv _).trans (colS_set h ho)

/-- The class scores and the offsets, as a tile's read share holds them. -/
abbrev gC : Loc nD τ sig := mC.view.loc (thr d i)
abbrev gO : Loc nD τ sig := mO.view.loc (thr d i)

/-- What the two copies of a half in flight on the semaphore deliver. -/
def dlv0 (q : PosShare TreeShare) (fc fo : Vec F S8x560000 .f32) (n : ℕ) (t : Fin 2) : sProp 𝕄 :=
  if t.val = 0 then iprop((lC0 d i ↦{fullShare} (cut fc n)) ∗ (gC d i ↦[colS n]{q} fc)) else iprop((lO0 d i ↦{fullShare} (cut fo n)) ∗ (gO d i ↦[colS n]{q} fo))

instance storable_dlv0 (q : PosShare TreeShare) (fc fo : Vec F S8x560000 .f32) (n : ℕ) (t : Fin 2) : Storable (upEmb : UEmb _ 𝕄) (dlv0 d i q fc fo n t) := by
  unfold dlv0; split <;> infer_instance

/-- Both copies of a half in flight, and the read shares' places they do not read. -/
def Fly0 (q : PosShare TreeShare) (fc fo : Vec F S8x560000 .f32) (n : ℕ) : sProp 𝕄 :=
  iprop(Transfers.Batch countersEmb (thr d i) (.dma cc0_scratch8.sem) (none : HIx 1) (bC0.view.dmaCredit) (dlv0 d i q fc fo n) 2 0
    ∗ (gC d i ↦[Finset.univ \ colS n]{q} fc) ∗ (gO d i ↦[Finset.univ \ colS n]{q} fo))

/-- No copy in flight: the semaphore at zero, both buffers and both read shares. -/
def Rest0 (q : PosShare TreeShare) (fc fo : Vec F S8x560000 .f32) (a b : Vec F S8x1792 .f32) : sProp 𝕄 :=
  iprop(semVal (thr d i, .dma cc0_scratch8.sem) 0 ∗ (lC0 d i ↦{fullShare} a) ∗ (lO0 d i ↦{fullShare} b) ∗ (gC d i ↦{q} fc) ∗ (gO d i ↦{q} fo))

theorem st_fire0 {off off' : Fin 2 → ℕ} {n : ℕ} {h : ∀ a, off a + S8x1792.size a ≤ S8x560000.size a} {h' : ∀ a, off' a + S8x1792.size a ≤ S8x560000.size a}
    (ho : off = ![0, n]) (ho' : off' = ![0, n]) {hst hst' hs1 hd1 ht1 hs2 hd2 ht2}
    {α : Type} {k : PUnit → Prog (TpuEff nD τ sig (Elt F) Λ₀ (thr d i).2) α} {Q : α → sProp 𝕄} {q : PosShare TreeShare} {fc fo : Vec F S8x560000 .f32} {a b : Vec F S8x1792 .f32} :
    (Rest0 d i q fc fo a b : sProp 𝕄) ⊢
    iprop((Fly0 d i q fc fo n -∗ wp frame (wpE (defs₀ (F := F)) 𝒱₀ (thr d i) none) Set.univ (k ⟨⟩) Q) -∗
      wp frame (wpE (defs₀ (F := F)) 𝒱₀ (thr d i) none) Set.univ (.op (.enqueueDma (mC.slice (Rect.unit (s := S8x560000) off S8x1792.size h) hst) (.here bC0) (.dma cc0_scratch8.sem) hs1 hd1 ht1) fun _ =>
        .op (.enqueueDma (mO.slice (Rect.unit (s := S8x560000) off' S8x1792.size h') hst') (.here bO0) (.dma cc0_scratch8.sem) hs2 hd2 ht2) k) Q) := by
  unfold Rest0 Fly0
  iintro ⟨Hv, Ha, Hb, Hc, Ho⟩ Hk
  imod (Transfers.batch_alloc' countersEmb (thr d i) (none : HIx 1) (bC0.view.dmaCredit) (dlv0 d i q fc fo n)) $$ Hv with HB
  ihave Hc' := (pointsTo_split_subset (q := q) (f := fc) (Finset.subset_univ (colS n))).1 $$ Hc
  icases Hc' with ⟨Hc, Hcr⟩
  ihave Ho' := (pointsTo_split_subset (q := q) (f := fo) (Finset.subset_univ (colS n))).1 $$ Ho
  icases Ho' with ⟨Ho, Hor⟩
  iapply (Transfers.wp_dmaBatch countersEmb 𝒱₀ (thr d i) none (none : HIx 1) (bC0.view.dmaCredit) (q := q) (fs := fc) (fd := a) (Sd := Finset.univ) (D := dlv0 d i q fc fo n) (j := 0) (u := 0) rfl (Finset.subset_univ _) (by decide) (by decide) ?d1) $$ [Hc Ha HB]
  case d1 =>
    rw [set_C h hst ho]
    refine sep_mono (Entails.of_eq (congrArg _ ?_)) Entails.rfl
    refine (View.write_whole_univ cc0_scratch0 a _).trans ?_
    exact cut_read h ho fc
  · isplitl [Hc]; · rw [set_C h hst ho]; iexact Hc
    isplitl [Ha]; · iexact Ha
    iexact HB
  iintro HB
  iapply (Transfers.wp_dmaBatch countersEmb 𝒱₀ (thr d i) none (none : HIx 1) (bC0.view.dmaCredit) (q := q) (fs := fo) (fd := b) (Sd := Finset.univ) (D := dlv0 d i q fc fo n) (j := 1) (u := 0) rfl (Finset.subset_univ _) (by decide) (by decide) ?d2) $$ [Ho Hb HB]
  case d2 =>
    rw [set_O h' hst' ho']
    refine sep_mono (Entails.of_eq (congrArg _ ?_)) Entails.rfl
    refine (View.write_whole_univ cc0_scratch2 b _).trans ?_
    exact cut_read h' ho' fo
  · isplitl [Ho]; · rw [set_O h' hst' ho']; iexact Ho
    isplitl [Hb]; · iexact Hb
    iexact HB
  iintro HB
  iapply Hk
  isplitl [HB]; · iexact HB
  isplitl [Hcr] <;> iassumption

theorem st_land0 {s₁ s₂ : Shape} {e₁ e₂ : EltTy} {sp₁ sp₂ : Space} {w1 : Memref sig (thr d i).2.kind sp₁ s₁ e₁} {w2 : Memref sig (thr d i).2.kind sp₂ s₂ e₂} {hs1 hd1 hs2 hd2}
    {α : Type} {k : PUnit → Prog (TpuEff nD τ sig (Elt F) Λ₀ (thr d i).2) α} {Q : α → sProp 𝕄} {q : PosShare TreeShare} {fc fo : Vec F S8x560000 .f32} {n : ℕ}
    {O : CellTallies nD τ sig (HIx 1)} {W : Waits sig (HIx 1)} (hO : ∀ g, O g none = 0) :
    (iprop(levAts (K (F := F)).L (K (F := F)).lev ∗ Fly0 d i q fc fo n ∗ OW d i O W) : sProp 𝕄) ⊢
    iprop(((Rest0 d i q fc fo (cut fc n) (cut fo n) ∗ OW d i O W) -∗ wp frame (wpE (defs₀ (F := F)) 𝒱₀ (thr d i) none) Set.univ (k ⟨⟩) Q) -∗
      wp frame (wpE (defs₀ (F := F)) 𝒱₀ (thr d i) none) Set.univ (.op (.waitDma2 cc0_scratch8.sem w1 bC0 hs1 hd1) fun _ => .op (.waitDma2 cc0_scratch8.sem w2 bO0 hs2 hd2) k) Q) := by
  unfold Rest0 Fly0 OW
  iintro ⟨#Hlv, ⟨HB, Hcr, Hor⟩, ⟨%W', %hW', HO⟩⟩ Hk
  iapply (Transfers.wp_waitBatchO countersEmb 𝒱₀ (thr d i) none (none : HIx 1) (n := 2) (N := bC0.view.dmaCredit) (show bC0.view.dmaCredit = bC0.view.dmaCredit from rfl) (u := 0) (by decide) (O := O) (W := W')) $$ [HB HO]
  · isplitl [HB]; · iexact HB
    isplitl [HO]; · iexact HO
    iapply ((K (F := F)).mayWait_none (SemLoc.dma cc0_scratch8.sem) hO); iexact Hlv
  iintro ⟨HB, HO⟩
  iapply (Transfers.wp_waitBatchLastO countersEmb 𝒱₀ (thr d i) none (none : HIx 1) (n := 2) (N := bC0.view.dmaCredit) (show bO0.view.dmaCredit = bC0.view.dmaCredit from rfl) (by decide) (u := 0 + bC0.view.dmaCredit) (by decide) (O := O)) $$ [HB HO]
  · isplitl [HB]; · iexact HB
    isplitl [HO]; · iexact HO
    iapply ((K (F := F)).mayWait_none (SemLoc.dma cc0_scratch8.sem) hO); iexact Hlv
  iintro ⟨HD, Hv, HO⟩
  ihave HD' := (show (bigSep Finset.univ (dlv0 d i q fc fo n) : sProp 𝕄) ⊢ iprop(((lC0 d i ↦{fullShare} (cut fc n)) ∗ (gC d i ↦[colS n]{q} fc)) ∗ ((lO0 d i ↦{fullShare} (cut fo n)) ∗ (gO d i ↦[colS n]{q} fo)))
    from by
      rw [show (Finset.univ : Finset (Fin 2)) = insert 0 {1} by decide, bigSep_insert (by decide), bigSep_singleton]
      exact Entails.rfl) $$ HD
  icases HD' with ⟨⟨Ha, Hc⟩, ⟨Hb, Ho⟩⟩
  iapply Hk
  isplitl [Hv Ha Hb Hc Ho Hcr Hor]
  · isplitl [Hv]; · iexact Hv
    isplitl [Ha]; · iexact Ha
    isplitl [Hb]; · iexact Hb
    isplitl [Hc Hcr]
    · iapply (pointsTo_split_subset (q := q) (f := fc) (Finset.subset_univ (colS n))).2
      isplitl [Hc] <;> iassumption
    · iapply (pointsTo_split_subset (q := q) (f := fo) (Finset.subset_univ (colS n))).2
      isplitl [Ho] <;> iassumption
  iexists (insert (SemLoc.dma cc0_scratch8.sem, none) (insert (SemLoc.dma cc0_scratch8.sem, none) W'))
  isplitr
  · ipureintro; exact mem_insert_none (mem_insert_none hW')
  iexact HO

/-- What the two copies of a half in flight on the semaphore deliver. -/
def dlv1 (q : PosShare TreeShare) (fc fo : Vec F S8x560000 .f32) (n : ℕ) (t : Fin 2) : sProp 𝕄 :=
  if t.val = 0 then iprop((lC1 d i ↦{fullShare} (cut fc n)) ∗ (gC d i ↦[colS n]{q} fc)) else iprop((lO1 d i ↦{fullShare} (cut fo n)) ∗ (gO d i ↦[colS n]{q} fo))

instance storable_dlv1 (q : PosShare TreeShare) (fc fo : Vec F S8x560000 .f32) (n : ℕ) (t : Fin 2) : Storable (upEmb : UEmb _ 𝕄) (dlv1 d i q fc fo n t) := by
  unfold dlv1; split <;> infer_instance

/-- Both copies of a half in flight, and the read shares' places they do not read. -/
def Fly1 (q : PosShare TreeShare) (fc fo : Vec F S8x560000 .f32) (n : ℕ) : sProp 𝕄 :=
  iprop(Transfers.Batch countersEmb (thr d i) (.dma cc0_scratch9.sem) (none : HIx 1) (bC1.view.dmaCredit) (dlv1 d i q fc fo n) 2 0
    ∗ (gC d i ↦[Finset.univ \ colS n]{q} fc) ∗ (gO d i ↦[Finset.univ \ colS n]{q} fo))

/-- No copy in flight: the semaphore at zero, both buffers and both read shares. -/
def Rest1 (q : PosShare TreeShare) (fc fo : Vec F S8x560000 .f32) (a b : Vec F S8x1792 .f32) : sProp 𝕄 :=
  iprop(semVal (thr d i, .dma cc0_scratch9.sem) 0 ∗ (lC1 d i ↦{fullShare} a) ∗ (lO1 d i ↦{fullShare} b) ∗ (gC d i ↦{q} fc) ∗ (gO d i ↦{q} fo))

theorem st_fire1 {off off' : Fin 2 → ℕ} {n : ℕ} {h : ∀ a, off a + S8x1792.size a ≤ S8x560000.size a} {h' : ∀ a, off' a + S8x1792.size a ≤ S8x560000.size a}
    (ho : off = ![0, n]) (ho' : off' = ![0, n]) {hst hst' hs1 hd1 ht1 hs2 hd2 ht2}
    {α : Type} {k : PUnit → Prog (TpuEff nD τ sig (Elt F) Λ₀ (thr d i).2) α} {Q : α → sProp 𝕄} {q : PosShare TreeShare} {fc fo : Vec F S8x560000 .f32} {a b : Vec F S8x1792 .f32} :
    (Rest1 d i q fc fo a b : sProp 𝕄) ⊢
    iprop((Fly1 d i q fc fo n -∗ wp frame (wpE (defs₀ (F := F)) 𝒱₀ (thr d i) none) Set.univ (k ⟨⟩) Q) -∗
      wp frame (wpE (defs₀ (F := F)) 𝒱₀ (thr d i) none) Set.univ (.op (.enqueueDma (mC.slice (Rect.unit (s := S8x560000) off S8x1792.size h) hst) (.here bC1) (.dma cc0_scratch9.sem) hs1 hd1 ht1) fun _ =>
        .op (.enqueueDma (mO.slice (Rect.unit (s := S8x560000) off' S8x1792.size h') hst') (.here bO1) (.dma cc0_scratch9.sem) hs2 hd2 ht2) k) Q) := by
  unfold Rest1 Fly1
  iintro ⟨Hv, Ha, Hb, Hc, Ho⟩ Hk
  imod (Transfers.batch_alloc' countersEmb (thr d i) (none : HIx 1) (bC1.view.dmaCredit) (dlv1 d i q fc fo n)) $$ Hv with HB
  ihave Hc' := (pointsTo_split_subset (q := q) (f := fc) (Finset.subset_univ (colS n))).1 $$ Hc
  icases Hc' with ⟨Hc, Hcr⟩
  ihave Ho' := (pointsTo_split_subset (q := q) (f := fo) (Finset.subset_univ (colS n))).1 $$ Ho
  icases Ho' with ⟨Ho, Hor⟩
  iapply (Transfers.wp_dmaBatch countersEmb 𝒱₀ (thr d i) none (none : HIx 1) (bC1.view.dmaCredit) (q := q) (fs := fc) (fd := a) (Sd := Finset.univ) (D := dlv1 d i q fc fo n) (j := 0) (u := 0) rfl (Finset.subset_univ _) (by decide) (by decide) ?d1) $$ [Hc Ha HB]
  case d1 =>
    rw [set_C h hst ho]
    refine sep_mono (Entails.of_eq (congrArg _ ?_)) Entails.rfl
    refine (View.write_whole_univ cc0_scratch1 a _).trans ?_
    exact cut_read h ho fc
  · isplitl [Hc]; · rw [set_C h hst ho]; iexact Hc
    isplitl [Ha]; · iexact Ha
    iexact HB
  iintro HB
  iapply (Transfers.wp_dmaBatch countersEmb 𝒱₀ (thr d i) none (none : HIx 1) (bC1.view.dmaCredit) (q := q) (fs := fo) (fd := b) (Sd := Finset.univ) (D := dlv1 d i q fc fo n) (j := 1) (u := 0) rfl (Finset.subset_univ _) (by decide) (by decide) ?d2) $$ [Ho Hb HB]
  case d2 =>
    rw [set_O h' hst' ho']
    refine sep_mono (Entails.of_eq (congrArg _ ?_)) Entails.rfl
    refine (View.write_whole_univ cc0_scratch3 b _).trans ?_
    exact cut_read h' ho' fo
  · isplitl [Ho]; · rw [set_O h' hst' ho']; iexact Ho
    isplitl [Hb]; · iexact Hb
    iexact HB
  iintro HB
  iapply Hk
  isplitl [HB]; · iexact HB
  isplitl [Hcr] <;> iassumption

theorem st_land1 {s₁ s₂ : Shape} {e₁ e₂ : EltTy} {sp₁ sp₂ : Space} {w1 : Memref sig (thr d i).2.kind sp₁ s₁ e₁} {w2 : Memref sig (thr d i).2.kind sp₂ s₂ e₂} {hs1 hd1 hs2 hd2}
    {α : Type} {k : PUnit → Prog (TpuEff nD τ sig (Elt F) Λ₀ (thr d i).2) α} {Q : α → sProp 𝕄} {q : PosShare TreeShare} {fc fo : Vec F S8x560000 .f32} {n : ℕ}
    {O : CellTallies nD τ sig (HIx 1)} {W : Waits sig (HIx 1)} (hO : ∀ g, O g none = 0) :
    (iprop(levAts (K (F := F)).L (K (F := F)).lev ∗ Fly1 d i q fc fo n ∗ OW d i O W) : sProp 𝕄) ⊢
    iprop(((Rest1 d i q fc fo (cut fc n) (cut fo n) ∗ OW d i O W) -∗ wp frame (wpE (defs₀ (F := F)) 𝒱₀ (thr d i) none) Set.univ (k ⟨⟩) Q) -∗
      wp frame (wpE (defs₀ (F := F)) 𝒱₀ (thr d i) none) Set.univ (.op (.waitDma2 cc0_scratch9.sem w1 bC1 hs1 hd1) fun _ => .op (.waitDma2 cc0_scratch9.sem w2 bO1 hs2 hd2) k) Q) := by
  unfold Rest1 Fly1 OW
  iintro ⟨#Hlv, ⟨HB, Hcr, Hor⟩, ⟨%W', %hW', HO⟩⟩ Hk
  iapply (Transfers.wp_waitBatchO countersEmb 𝒱₀ (thr d i) none (none : HIx 1) (n := 2) (N := bC1.view.dmaCredit) (show bC1.view.dmaCredit = bC1.view.dmaCredit from rfl) (u := 0) (by decide) (O := O) (W := W')) $$ [HB HO]
  · isplitl [HB]; · iexact HB
    isplitl [HO]; · iexact HO
    iapply ((K (F := F)).mayWait_none (SemLoc.dma cc0_scratch9.sem) hO); iexact Hlv
  iintro ⟨HB, HO⟩
  iapply (Transfers.wp_waitBatchLastO countersEmb 𝒱₀ (thr d i) none (none : HIx 1) (n := 2) (N := bC1.view.dmaCredit) (show bO1.view.dmaCredit = bC1.view.dmaCredit from rfl) (by decide) (u := 0 + bC1.view.dmaCredit) (by decide) (O := O)) $$ [HB HO]
  · isplitl [HB]; · iexact HB
    isplitl [HO]; · iexact HO
    iapply ((K (F := F)).mayWait_none (SemLoc.dma cc0_scratch9.sem) hO); iexact Hlv
  iintro ⟨HD, Hv, HO⟩
  ihave HD' := (show (bigSep Finset.univ (dlv1 d i q fc fo n) : sProp 𝕄) ⊢ iprop(((lC1 d i ↦{fullShare} (cut fc n)) ∗ (gC d i ↦[colS n]{q} fc)) ∗ ((lO1 d i ↦{fullShare} (cut fo n)) ∗ (gO d i ↦[colS n]{q} fo)))
    from by
      rw [show (Finset.univ : Finset (Fin 2)) = insert 0 {1} by decide, bigSep_insert (by decide), bigSep_singleton]
      exact Entails.rfl) $$ HD
  icases HD' with ⟨⟨Ha, Hc⟩, ⟨Hb, Ho⟩⟩
  iapply Hk
  isplitl [Hv Ha Hb Hc Ho Hcr Hor]
  · isplitl [Hv]; · iexact Hv
    isplitl [Ha]; · iexact Ha
    isplitl [Hb]; · iexact Hb
    isplitl [Hc Hcr]
    · iapply (pointsTo_split_subset (q := q) (f := fc) (Finset.subset_univ (colS n))).2
      isplitl [Hc] <;> iassumption
    · iapply (pointsTo_split_subset (q := q) (f := fo) (Finset.subset_univ (colS n))).2
      isplitl [Ho] <;> iassumption
  iexists (insert (SemLoc.dma cc0_scratch9.sem, none) (insert (SemLoc.dma cc0_scratch9.sem, none) W'))
  isplitr
  · ipureintro; exact mem_insert_none (mem_insert_none hW')
  iexact HO

end Cert.Proof
-- ==== Proof.Data.lean ====
/- What a tile leaves where: the values of the boxes and confidences, the state of its scratches after each half, and the value of each slice its copies write. -/
module

public import proofs.«01_k».proof.Proof.Copies
public import Idealize.ShloMosaic.Lib.WritesUnit

@[expose] public section

set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

local notation "𝕄" => MT nD τ sig (HIx 1) (Elt F) ℕ UU ℕ

/-- A place of the proposals. -/
def atP (f : Vec F S8x20000x4 .f32) (b n k : ℕ) : F .f32 :=
  f (fun | 0 => ⟨b % 8, Nat.mod_lt _ (by decide)⟩ | 1 => ⟨n % 20000, Nat.mod_lt _ (by decide)⟩ | 2 => ⟨k % 4, Nat.mod_lt _ (by decide)⟩)

/-- The 28 scores (or offsets) of proposal `n` of batch row `b`, and its four coordinates. -/
def rowC (f : Vec F S8x560000 .f32) (b n : ℕ) : Fin 28 → F .f32 := fun j => atC f b (28 * n + j.val)
def rowP (f : Vec F S8x20000x4 .f32) (b n : ℕ) : Fin 4 → F .f32 := fun k => atP f b n k.val

/-- The proposals as the kernel is handed them: transposed, and the last 32 of every batch row flat. -/
def propT (f : Vec F S8x20000x4 .f32) : Vec F S8x4x20000 .f32 := fun y => atP f (y 0).val (y 2).val (y 1).val
def tailT (f : Vec F S8x20000x4 .f32) : Vec F S1024 .f32 := fun y => atP f ((y 0).val / 128) (19968 + (y 0).val % 128 / 4) ((y 0).val % 4)

/-- The first column of half `x` of a tile. -/
def col (x : ℕ) : ℕ := 3584 * base i + 1792 * x

theorem base_le : base i + cnt i ≤ 156 := by
  have := wid_lt i
  unfold base cnt; split <;> omega

theorem cnt_le : cnt i ≤ 5 := by unfold cnt; split <;> omega
theorem cnt_ge : 4 ≤ cnt i := by unfold cnt; split <;> omega

theorem baseE : (if 16 * (i 0).val + (i 1).val < 28 then 80 * (i 0).val + 5 * (i 1).val else 64 * (i 0).val + 4 * (i 1).val + 28) = base i := by
  unfold base wid; split <;> omega

theorem off1c (r : Fin 2) : k0_off1 i (BitVec.ofNat 32 r.val) = ![0, col i r.val] := by rw [k0_off1_eq, baseE]; rfl
theorem off2c : k0_off2 i = ![0, 0, 128 * base i] := by rw [k0_off2_eq, baseE]
theorem off3c : k0_off3 i = ![0, 0, 128 * base i] := by rw [k0_off3_eq, baseE]
theorem off6c (t : Fin (k0_t1_loop i).trips) : k0_off6 i t = ![0, col i (t.val + 2)] := by
  rw [k0_off6_eq, baseE]; unfold col; congr 2
theorem off10c (t : Fin (k0_t1_loop i).trips) : k0_off10 i t = ![0, col i (t.val + 2)] := by
  rw [k0_off10_eq, baseE]; unfold col; congr 2
theorem off19c (r : Fin 8) : k0_off19 i (BitVec.ofNat 32 (20000 * r.val)) = ![20000 * r.val + 128 * base i] := by rw [k0_off19_eq, baseE]
theorem off20c (r : Fin 8) : k0_off20 i (BitVec.ofNat 32 (20000 * r.val)) = ![20000 * r.val + 128 * base i] := by rw [k0_off20_eq, baseE]
theorem off21c (r : Fin 8) : k0_off21 i (BitVec.ofNat 32 (20000 * r.val)) = ![20000 * r.val + 128 * base i] := by rw [k0_off21_eq, baseE]

theorem laneAt_cut (f : Vec F S8x560000 .f32) {x b u : ℕ} (hx : x < 2 * cnt i) (hb : b < 8) (hu : u < 64) :
    laneAt (cut f (col i x)) b u = rowC f b (128 * base i + 64 * x + u) := by
  have hB := base_le i
  funext j
  have hj := j.isLt
  have h1 : (28 * u + j.val) % 1792 = 28 * u + j.val := Nat.mod_eq_of_lt (by omega)
  have h0 : b % 8 = b := Nat.mod_eq_of_lt hb
  show atC f (b % 8) (col i x + (28 * u + j.val) % 1792) = atC f b (28 * (128 * base i + 64 * x + u) + j.val)
  rw [h0, h1]
  congr 1
  unfold col; omega

variable [Buckets F] (a0 : Vec F S8x20000x4 .f32) (fc fo : Vec F S8x560000 .f32)

/-- Coordinate `k` of the box of proposal `n` of batch row `b`, and its confidence. -/
def boxAt (b n : ℕ) (k : Fin 4) : F .f32 := laneBox (rowC fc b n) (rowC fo b n) (rowP a0 b n) k
def confAt (b n : ℕ) : F .f32 := laneConf (rowC fc b n)

/-- The proposals' scratch holds the tile's own proposals. -/
def PropOk (fP : Vec F S8x4x640 .f32) : Prop := ∀ b < 8, ∀ p < 128 * cnt i, propAt fP b p = rowP a0 b (128 * base i + p)
/-- The boxes' scratch holds the first half of local block `l`, or all of it. -/
def HalfOk (l : ℕ) (fB : Vec F S8x4x128 .f32) : Prop :=
  ∀ y : S8x4x128.Idx, (y 2).val < 64 → fB y = boxAt a0 fc fo (y 0).val (128 * (base i + l) + (y 2).val) (y 1)
def FullOk (l : ℕ) (fB : Vec F S8x4x128 .f32) : Prop :=
  ∀ y : S8x4x128.Idx, fB y = boxAt a0 fc fo (y 0).val (128 * (base i + l) + (y 2).val) (y 1)
/-- The confidences' scratch holds the first `h` halves. -/
def ConfOk (h : ℕ) (fF : Vec F S5376 .f32) : Prop :=
  ∀ y : S5376.Idx, (y 0).val % 672 / 64 < h → fF y = confAt fc ((y 0).val / 672) (128 * base i + (y 0).val % 672)
/-- The boxes' result holds the first `l` blocks of the tile's own. -/
def DoneOk (l : ℕ) (gB : Vec F S8x4x20096 .f32) : Prop :=
  ∀ y : S8x4x20096.Idx, 128 * base i ≤ (y 2).val → (y 2).val < 128 * (base i + l) → gB y = boxAt a0 fc fo (y 0).val (y 2).val (y 1)

variable {a0 fc fo}

theorem half_even {l : ℕ} {fP : Vec F S8x4x640 .f32} (hP : PropOk i a0 fP) (hl : l < cnt i) (f : Vec F S8x4x128 .f32) :
    HalfOk i a0 fc fo l (boxGo 0 l (cut fc (col i (2 * l))) (cut fo (col i (2 * l))) fP f 32) := by
  intro y hy
  have h0 : (y 0).val < 8 := (y 0).isLt
  rw [boxGo_all, if_pos (Nat.div_eq_of_lt hy), Nat.mod_eq_of_lt hy, laneAt_cut i fc (by omega) h0 hy, laneAt_cut i fo (by omega) h0 hy, hP _ h0 _ (by omega)]
  unfold boxAt
  rw [show 128 * base i + 64 * (2 * l) + (y 2).val = 128 * (base i + l) + (y 2).val by omega, show 128 * base i + (128 * l + (y 2).val) = 128 * (base i + l) + (y 2).val by omega]

theorem half_odd {l : ℕ} {fP : Vec F S8x4x640 .f32} (hP : PropOk i a0 fP) (hl : l < cnt i) {f : Vec F S8x4x128 .f32} (hf : HalfOk i a0 fc fo l f) :
    FullOk i a0 fc fo l (boxGo 1 l (cut fc (col i (2 * l + 1))) (cut fo (col i (2 * l + 1))) fP f 32) := by
  intro y
  have h0 : (y 0).val < 8 := (y 0).isLt
  have h2 : (y 2).val < 128 := (y 2).isLt
  rw [boxGo_all]
  by_cases hy : (y 2).val < 64
  · rw [if_neg (by omega)]; exact hf y hy
  · have hm : (y 2).val % 64 = (y 2).val - 64 := by omega
    rw [if_pos (by omega), hm, laneAt_cut i fc (by omega) h0 (by omega), laneAt_cut i fo (by omega) h0 (by omega), hP _ h0 _ (by omega)]
    unfold boxAt
    rw [show 128 * base i + 64 * (2 * l + 1) + ((y 2).val - 64) = 128 * (base i + l) + (y 2).val by omega, show 128 * base i + (128 * l + (y 2).val) = 128 * (base i + l) + (y 2).val by omega]

theorem conf_half {l sub : ℕ} (hsub : sub < 2) (hl : l < cnt i) {fF : Vec F S5376 .f32} (hF : ConfOk i fc (2 * l + sub) fF) :
    ConfOk i fc (2 * l + sub + 1) (confGo sub l (cut fc (col i (2 * l + sub))) fF 32) := by
  intro y hy
  have hy0 : (y 0).val < 5376 := (y 0).isLt
  rw [confGo_all]
  by_cases h : (y 0).val % 672 / 64 = 2 * l + sub
  · rw [if_pos h, laneAt_cut i fc (by omega) (by omega) (by omega)]
    unfold confAt
    rw [show 128 * base i + 64 * (2 * l + sub) + (y 0).val % 672 % 64 = 128 * base i + (y 0).val % 672 by omega]
  · rw [if_neg h]; exact hF y (by omega)

/-! ### The slices of the boxes' result -/

/-- The end of a tile's own columns of the boxes' result. -/
def topB : ℕ := if wid i = 31 then 20096 else 128 * (base i + cnt i)
/-- The places of the boxes' result that are a tile's own. -/
def ownB : Finset S8x4x20096.Idx := Finset.univ.filter fun y => 128 * base i ≤ (y 2).val ∧ (y 2).val < topB i

theorem top_ge : 128 * (base i + cnt i) ≤ topB i := by
  have := base_le i
  unfold topB; split <;> omega

theorem slice_own {off : Fin 3 → ℕ} {n : ℕ} (h : ∀ a, off a + S8x4x128.size a ≤ S8x4x20096.size a) (hst) (ho : off = ![0, 0, n]) (h1 : 128 * base i ≤ n) (h2 : n + 128 ≤ topB i) :
    (mB.slice (Rect.unit (s := S8x4x20096) off S8x4x128.size h) hst).view.set ⊆ ownB i := by
  subst ho
  intro y hy
  have hy' : y ∈ (Rect.unit (s := S8x4x20096) ![0, 0, n] S8x4x128.size h).set := by
    rw [← View.set_slice_whole main_v3_0_scv (Rect.unit (s := S8x4x20096) ![0, 0, n] S8x4x128.size h)]; exact hy
  rw [Rect.mem_set_unit] at hy'
  have h3 : n ≤ (y 2).val := (hy' 2).1
  have h4 : (y 2).val < n + 128 := (hy' 2).2
  unfold ownB
  rw [Finset.mem_filter]
  exact ⟨Finset.mem_univ _, by omega, by omega⟩

/-- One block written into the boxes' result: what is read there after. -/
theorem slice_write {off : Fin 3 → ℕ} {n : ℕ} (h : ∀ a, off a + S8x4x128.size a ≤ S8x4x20096.size a) (hst) (ho : off = ![0, 0, n]) (f : Vec F S8x4x20096 .f32) (w : Vec F S8x4x128 .f32)
    (y : S8x4x20096.Idx) :
    (mB.slice (Rect.unit (s := S8x4x20096) off S8x4x128.size h) hst).view.write (Elt F) f w Finset.univ y =
      if hy : n ≤ (y 2).val ∧ (y 2).val < n + 128 then w (fun | 0 => y 0 | 1 => y 1 | 2 => ⟨(y 2).val - n, by show _ < 128; omega⟩) else f y := by
  have e1 : ∀ g : Vec F S8x4x20096 .f32, mB.view.read (Elt F) g y = g y := fun g => congrFun (View.read_whole main_v3_0_scv g) y
  refine (e1 _).symm.trans ?_
  show mB.view.read (Elt F) (mB.view.writes (Elt F) f [⟨Rect.unit (s := S8x4x20096) off S8x4x128.size h, w⟩]) y = _
  by_cases hy : n ≤ (y 2).val ∧ (y 2).val < n + 128
  · rw [dif_pos hy]
    refine View.read_writes_cons_unit_of_mem mB.view f h w [] y _ ho ?_
    intro a; fin_cases a
    · show (y 0).val = 0 + (y 0).val; omega
    · show (y 1).val = 0 + (y 1).val; omega
    · show (y 2).val = n + ((y 2).val - n); omega
  · rw [dif_neg hy]
    refine (View.read_writes_cons_unit_of_not_mem mB.view f h w [] y ho 2 ?_).trans (e1 f)
    show (y 2).val < n ∨ n + 128 ≤ (y 2).val
    omega

theorem done_step {off : Fin 3 → ℕ} {l : ℕ} (h : ∀ a, off a + S8x4x128.size a ≤ S8x4x20096.size a) (hst) (ho : off = ![0, 0, 128 * (base i + l)])
    {f : Vec F S8x4x20096 .f32} {w : Vec F S8x4x128 .f32} (hf : DoneOk i a0 fc fo l f) (hw : FullOk i a0 fc fo l w) :
    DoneOk i a0 fc fo (l + 1) ((mB.slice (Rect.unit (s := S8x4x20096) off S8x4x128.size h) hst).view.write (Elt F) f w Finset.univ) := by
  intro y h1 h2
  rw [slice_write h hst ho]
  by_cases hy : 128 * (base i + l) ≤ (y 2).val ∧ (y 2).val < 128 * (base i + l) + 128
  · rw [dif_pos hy, hw]
    show boxAt a0 fc fo (y 0).val (128 * (base i + l) + ((y 2).val - 128 * (base i + l))) (y 1) = _
    rw [show 128 * (base i + l) + ((y 2).val - 128 * (base i + l)) = (y 2).val by omega]
  · rw [dif_neg hy]; exact hf y h1 (by omega)

end Cert.Proof
-- ==== Proof.Step.lean ====
/- One trip of the main loop: a half waited for, worked, its block sent out, and the half after next asked for. -/
module

public import proofs.«01_k».proof.Proof.Data

@[expose] public section

set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

local notation "𝕄" => MT nD τ sig (HIx 1) (Elt F) ℕ UU ℕ

variable [Buckets F] (q0 q1 : PosShare TreeShare) (a0 : Vec F S8x20000x4 .f32) (fc fo : Vec F S8x560000 .f32) (O : CellTallies nD τ sig (HIx 1)) (W : Waits sig (HIx 1))

/-- Half a trip's number, as the body computes it. -/
def halfWord (a : BitVec 32) : BitVec 32 :=
  Scalar.select (Scalar.andi (Scalar.cmpi .ne (Scalar.subi (Scalar.extui (Scalar.cmpi .sgt a 0#32)) (Scalar.extui (Scalar.cmpi .slt a 0#32)))
    (Scalar.subi (Scalar.extui (Scalar.cmpi .sgt 2#32 0#32)) (Scalar.extui (Scalar.cmpi .slt 2#32 0#32)))) (Scalar.cmpi .ne (Scalar.remsi a 2#32) 0#32))
    (Scalar.subi (Scalar.divsi a 2#32) 1#32) (Scalar.divsi a 2#32)

theorem halfWord_eq : ∀ (i : grid0.Coords) (t : Fin (k0_t1_loop i).trips), halfWord (Scf.iv 0#32 1#32 t.val) = BitVec.ofNat 32 (t.val / 2) := by decide +kernel

/-- The boxes' result, as a tile's part of it is held. -/
abbrev gB : Loc nD τ sig := mB.view.loc (thr d i)

/-- The tile's scratches and its part of the boxes' result after `h` halves. -/
def Work (h : ℕ) : sProp 𝕄 :=
  iprop(∃ (fP : Vec F S8x4x640 .f32) (fB : Vec F S8x4x128 .f32) (fF : Vec F S5376 .f32) (f : Vec F S8x4x20096 .f32),
    ⌜PropOk i a0 fP ∧ ConfOk i fc h fF ∧ DoneOk i a0 fc fo (h / 2) f ∧ (h % 2 = 1 → HalfOk i a0 fc fo (h / 2) fB)⌝
    ∗ (lP d i ↦{fullShare} fP) ∗ (lB d i ↦{fullShare} fB) ∗ (lF d i ↦{fullShare} fF) ∗ (gB d i ↦[ownB i]{fullShare} f)
    ∗ semVal (thr d i, .dma cc0_scoped3.sem) 0 ∗ OW d i O W)

/-- The copies of half `x` in flight when there is one, nothing in flight past the last. -/
def Pipe0 (x : ℕ) : sProp 𝕄 := if x < 2 * cnt i then Fly0 d i q0 fc fo (col i x) else iprop(∃ a b, Rest0 d i q0 fc fo a b)
def Pipe1 (x : ℕ) : sProp 𝕄 := if x < 2 * cnt i then Fly1 d i q1 fc fo (col i x) else iprop(∃ a b, Rest1 d i q1 fc fo a b)

/-- The state before half `h`. -/
def Inv (h : ℕ) : sProp 𝕄 :=
  iprop(Work d i a0 fc fo O W h ∗ Pipe0 d i q0 fc fo (2 * ((h + 1) / 2)) ∗ Pipe1 d i q1 fc fo (2 * (h / 2) + 1))

theorem pipe0_fly {x : ℕ} (h : x < 2 * cnt i) : Pipe0 d i q0 fc fo x = Fly0 d i q0 fc fo (col i x) := if_pos h
theorem pipe0_rest {x : ℕ} (h : ¬ x < 2 * cnt i) : Pipe0 d i q0 fc fo x = iprop(∃ a b, Rest0 d i q0 fc fo a b) := if_neg h
theorem pipe1_fly {x : ℕ} (h : x < 2 * cnt i) : Pipe1 d i q1 fc fo x = Fly1 d i q1 fc fo (col i x) := if_pos h
theorem pipe1_rest {x : ℕ} (h : ¬ x < 2 * cnt i) : Pipe1 d i q1 fc fo x = iprop(∃ a b, Rest1 d i q1 fc fo a b) := if_neg h

theorem step_even (hO : ∀ g, O g none = 0) (v6 : BitVec 32) (t : Fin (k0_t1_loop i).trips) (ht : t.val % 2 = 0) :
    (iprop(levAts (K (F := F)).L (K (F := F)).lev ∗ Inv d i q0 q1 a0 fc fo O W t.val) : sProp 𝕄) ⊢
      wp frame (wpE (defs₀ (F := F)) 𝒱₀ (thr d i) none) Set.univ (k0_t1_body (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 v6 t ()) fun _ => Inv d i q0 q1 a0 fc fo O W (t.val + 1) := by
  have hc : t.val < 2 * cnt i := Nat.lt_of_lt_of_eq t.isLt (trips1 i)
  have hc5 := cnt_le i
  have h4 : k0_cond4 i t = 1#1 := (cond4 i t).2 ht
  have h6 : ¬ k0_cond6 i t = 1#1 := fun h => by have := (cond6 i t).1 h; omega
  obtain ⟨l, hl⟩ : ∃ l, t.val = 2 * l := ⟨t.val / 2, by omega⟩
  have e0 : 2 * ((t.val + 1) / 2) = t.val := by omega
  have e1 : 2 * ((t.val + 1 + 1) / 2) = t.val + 2 := by omega
  have e2 : 2 * ((t.val + 1) / 2) + 1 = 2 * (t.val / 2) + 1 := by omega
  have e3 : t.val / 2 = l := by omega
  have e4 : (t.val + 1) / 2 = l := by omega
  unfold k0_t1_body
  rw [dif_pos h4, dif_neg h6]
  unfold Inv
  rw [e2, e0, e1, pipe0_fly d i q0 fc fo hc]
  unfold Work
  rw [e3, e4]
  simp only [Prog.lift, Prog.bind_op, Prog.bind_ret, Prog.pure_eq_ret, bind_assoc]
  iintro ⟨#Hlv, ⟨%fP, %fB, %fF, %f, %hw, HP, HB, HF, HG, Hv3, HO⟩, Hfly, Hp1⟩
  obtain ⟨hP, hF, hD, -⟩ := hw
  iapply (st_land0 d i hO) $$ [Hfly HO]
  · isplitr; · iexact Hlv
    isplitl [Hfly]; · iexact Hfly
    iexact HO
  unfold Rest0
  iintro ⟨⟨Hv, HC, HQ, Hc, Ho⟩, HO⟩
  iapply (half_a d i t h4 ⟨l, by omega⟩ e3 (halfWord_eq i t |>.trans (by rw [e3])) (cut fc (col i t.val)) (cut fo (col i t.val)) fP fB fF) $$ [HC HQ HP HB HF]
  · isplitl [HC]; · iexact HC
    isplitl [HQ]; · iexact HQ
    isplitl [HP]; · iexact HP
    isplitl [HB]; · iexact HB
    iexact HF
  iintro ⟨HC, HQ, HP, HB, HF⟩
  have hB' : HalfOk i a0 fc fo l (boxGo 0 l (cut fc (col i t.val)) (cut fo (col i t.val)) fP fB 32) := by
    rw [hl]; exact half_even i hP (by omega) fB
  have hF' : ConfOk i fc (t.val + 1) (confGo 0 l (cut fc (col i t.val)) fF 32) := by
    have := conf_half i (fc := fc) (l := l) (sub := 0) (by omega) (by omega) (fF := fF) (by rw [Nat.add_zero, ← hl]; exact hF)
    rw [Nat.add_zero, ← hl] at this; exact this
  ihave HR := (show (iprop(semVal (thr d i, .dma cc0_scratch8.sem) 0 ∗ (lC0 d i ↦{fullShare} (cut fc (col i t.val))) ∗ (lO0 d i ↦{fullShare} (cut fo (col i t.val))) ∗ (gC d i ↦{q0} fc) ∗ (gO d i ↦{q0} fo)) : sProp 𝕄) ⊢ Rest0 d i q0 fc fo (cut fc (col i t.val)) (cut fo (col i t.val)) from Entails.rfl) $$ [Hv HC HQ Hc Ho]
  · isplitl [Hv]; · iexact Hv
    isplitl [HC]; · iexact HC
    isplitl [HQ]; · iexact HQ
    isplitl [Hc] <;> iassumption
  by_cases h5 : k0_cond5 i t = 1#1
  · simp only [dif_pos h5]
    rw [pipe0_fly d i q0 fc fo ((cond5 i t).1 h5)]
    try simp only [Prog.lift, Prog.bind_op, Prog.bind_ret, Prog.pure_eq_ret]
    iapply (st_fire0 d i (off6c i t) (off6c i t)) $$ HR
    iintro Hfly
    rw [wp_ret]; imodintro
    isplitl [HP HB HF HG Hv3 HO]
    · iexists fP, _, _, f
      isplitr
      · ipureintro; exact ⟨hP, hF', hD, fun _ => hB'⟩
      isplitl [HP]; · iexact HP
      isplitl [HB]; · iexact HB
      isplitl [HF]; · iexact HF
      isplitl [HG]; · iexact HG
      isplitl [Hv3] <;> iassumption
    isplitl [Hfly] <;> iassumption
  · simp only [dif_neg h5]
    rw [pipe0_rest d i q0 fc fo (fun h => h5 ((cond5 i t).2 h))]
    try simp only [Prog.lift, Prog.bind_op, Prog.bind_ret, Prog.pure_eq_ret]
    rw [wp_ret]; imodintro
    isplitl [HP HB HF HG Hv3 HO]
    · iexists fP, _, _, f
      isplitr
      · ipureintro; exact ⟨hP, hF', hD, fun _ => hB'⟩
      isplitl [HP]; · iexact HP
      isplitl [HB]; · iexact HB
      isplitl [HF]; · iexact HF
      isplitl [HG]; · iexact HG
      isplitl [Hv3] <;> iassumption
    isplitl [HR]
    · iexists _, _; iexact HR
    iexact Hp1

/-- A block sent out and waited for. -/
theorem st_out {off off' : Fin 3 → ℕ} {n : ℕ} {h : ∀ a, off a + S8x4x128.size a ≤ S8x4x20096.size a} {h' : ∀ a, off' a + S8x4x128.size a ≤ S8x4x20096.size a} {hst hst'} (ho : off = ![0, 0, n])
    (h1 : 128 * base i ≤ n) (h2 : n + 128 ≤ topB i) {sem : DmaSem sig} {hs1 hd1 ht1 hs2 hd2} (hO : ∀ g, O g none = 0)
    {α : Type} {k : PUnit → Prog (TpuEff nD τ sig (Elt F) Λ₀ (thr d i).2) α} {Q : α → sProp 𝕄} {fB : Vec F S8x4x128 .f32} {f : Vec F S8x4x20096 .f32} :
    (iprop(levAts (K (F := F)).L (K (F := F)).lev ∗ (lB d i ↦{fullShare} fB) ∗ (gB d i ↦[ownB i]{fullShare} f) ∗ semVal (thr d i, .dma sem) 0 ∗ OW d i O W) : sProp 𝕄) ⊢
    iprop((((lB d i ↦{fullShare} fB) ∗ (gB d i ↦[ownB i]{fullShare} ((mB.slice (Rect.unit (s := S8x4x20096) off S8x4x128.size h) hst).view.write (Elt F) f fB Finset.univ)) ∗ semVal (thr d i, .dma sem) 0 ∗ OW d i O W) -∗ wp frame (wpE (defs₀ (F := F)) 𝒱₀ (thr d i) none) Set.univ (k ⟨⟩) Q) -∗
      wp frame (wpE (defs₀ (F := F)) 𝒱₀ (thr d i) none) Set.univ (.op (.enqueueDma bB (.here (mB.slice (Rect.unit (s := S8x4x20096) off S8x4x128.size h) hst)) (.dma sem) hs1 hd1 ht1) fun _ =>
        .op (.waitDma2 sem bB (mB.slice (Rect.unit (s := S8x4x20096) off' S8x4x128.size h') hst') hs2 hd2) k) Q) :=
  st_copy d i (src := bB) (dst := mB.slice (Rect.unit (s := S8x4x20096) off S8x4x128.size h) hst) (dstw := mB.slice (Rect.unit (s := S8x4x20096) off' S8x4x128.size h') hst')
    (Ss := Finset.univ) (Sd := ownB i) (sem := sem)
    (q := fullShare) (fs := fB) (fd := f) hO bB.view.dmaCredit rfl rfl (by decide) (Finset.subset_univ _)
    (slice_own i _ _ ho h1 h2) (fun _ _ => rfl)

set_option maxHeartbeats 1000000 in
theorem step_odd (hO : ∀ g, O g none = 0) (v6 : BitVec 32) (t : Fin (k0_t1_loop i).trips) (ht : t.val % 2 = 1) :
    (iprop(levAts (K (F := F)).L (K (F := F)).lev ∗ Inv d i q0 q1 a0 fc fo O W t.val) : sProp 𝕄) ⊢
      wp frame (wpE (defs₀ (F := F)) 𝒱₀ (thr d i) none) Set.univ (k0_t1_body (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 v6 t ()) fun _ => Inv d i q0 q1 a0 fc fo O W (t.val + 1) := by
  have hc : t.val < 2 * cnt i := Nat.lt_of_lt_of_eq t.isLt (trips1 i)
  have hc5 := cnt_le i
  have hge := top_ge i
  have h4 : ¬ k0_cond4 i t = 1#1 := fun h => by have := (cond4 i t).1 h; omega
  have h6 : k0_cond6 i t = 1#1 := (cond6 i t).2 ht
  obtain ⟨l, hl⟩ : ∃ l, t.val = 2 * l + 1 := ⟨t.val / 2, by omega⟩
  have e0 : 2 * (t.val / 2) + 1 = t.val := by omega
  have e1 : 2 * ((t.val + 1) / 2) + 1 = t.val + 2 := by omega
  have e2 : 2 * ((t.val + 1 + 1) / 2) = 2 * ((t.val + 1) / 2) := by omega
  have e3 : t.val / 2 = l := by omega
  have e4 : (t.val + 1) / 2 = l + 1 := by omega
  have e9 : k0_off9 i t = ![0, 0, 128 * (base i + l)] := by rw [off9, e3]
  unfold k0_t1_body
  rw [dif_neg h4, dif_pos h6]
  rw [k0_part27_eq_skeleton]; unfold k0_part27_skel
  unfold Inv
  rw [e0, e1, e2, pipe1_fly d i q1 fc fo hc]
  unfold Work
  rw [e3, e4]
  simp only [Prog.lift, Prog.bind_op, Prog.bind_ret, Prog.pure_eq_ret, bind_assoc]
  iintro ⟨#Hlv, ⟨%fP, %fB, %fF, %f, %hw, HP, HB, HF, HG, Hv3, HO⟩, Hp0, Hfly⟩
  obtain ⟨hP, hF, hD, hH⟩ := hw
  iapply (st_land1 d i hO) $$ [Hfly HO]
  · isplitr; · iexact Hlv
    isplitl [Hfly]; · iexact Hfly
    iexact HO
  unfold Rest1
  iintro ⟨⟨Hv, HC, HQ, Hc, Ho⟩, HO⟩
  iapply (half_b d i v6 t (Scf.iv 0#32 1#32 t.val) h6 ⟨l, by omega⟩ e3 (halfWord_eq i t |>.trans (by rw [e3])) (cut fc (col i t.val)) (cut fo (col i t.val)) fP fB fF) $$ [HC HQ HP HB HF]
  · isplitl [HC]; · iexact HC
    isplitl [HQ]; · iexact HQ
    isplitl [HP]; · iexact HP
    isplitl [HB]; · iexact HB
    iexact HF
  iintro ⟨HC, HQ, HP, HB, HF⟩
  have hB' : FullOk i a0 fc fo l (boxGo 1 l (cut fc (col i t.val)) (cut fo (col i t.val)) fP fB 32) := by
    rw [hl]; exact half_odd i hP (by omega) (hH ht)
  have hF' : ConfOk i fc (t.val + 1) (confGo 1 l (cut fc (col i t.val)) fF 32) := by
    have := conf_half i (fc := fc) (l := l) (sub := 1) (by omega) (by omega) (fF := fF) (by rw [← hl]; exact hF)
    rw [← hl] at this; exact this
  simp only [Prog.bind_op, Prog.bind_ret]
  iapply (st_out d i O W (fB := boxGo 1 l (cut fc (col i t.val)) (cut fo (col i t.val)) fP fB 32) (f := f) e9 (by omega) (by omega) hO) $$ [HB HG Hv3 HO]
  · isplitr; · iexact Hlv
    isplitl [HB]; · iexact HB
    isplitl [HG]; · iexact HG
    isplitl [Hv3] <;> iassumption
  iintro ⟨HB, HG, Hv3, HO⟩
  have hD' := done_step i (k0_off9_inb i t h6) (fun _ => rfl) e9 hD hB'
  ihave HR := (show (iprop(semVal (thr d i, .dma cc0_scratch9.sem) 0 ∗ (lC1 d i ↦{fullShare} (cut fc (col i t.val))) ∗ (lO1 d i ↦{fullShare} (cut fo (col i t.val))) ∗ (gC d i ↦{q1} fc) ∗ (gO d i ↦{q1} fo)) : sProp 𝕄) ⊢ Rest1 d i q1 fc fo (cut fc (col i t.val)) (cut fo (col i t.val)) from Entails.rfl) $$ [Hv HC HQ Hc Ho]
  · isplitl [Hv]; · iexact Hv
    isplitl [HC]; · iexact HC
    isplitl [HQ]; · iexact HQ
    isplitl [Hc] <;> iassumption
  by_cases h7 : k0_cond7 i t = 1#1
  · simp only [dif_pos h7]
    rw [pipe1_fly d i q1 fc fo ((cond7 i t).1 h7)]
    try simp only [Prog.lift, Prog.bind_op, Prog.bind_ret, Prog.pure_eq_ret]
    iapply (st_fire1 d i (off10c i t) (off10c i t)) $$ HR
    iintro Hfly
    rw [wp_ret]; imodintro
    isplitl [HP HB HF HG Hv3 HO]
    · iexists fP, _, _, _
      isplitr
      pick_goal 2
      · isplitl [HP]; · iexact HP
        isplitl [HB]; · iexact HB
        isplitl [HF]; · iexact HF
        isplitl [HG]; · iexact HG
        isplitl [Hv3] <;> iassumption
      · ipureintro; exact ⟨hP, hF', hD', fun h => absurd h (by omega)⟩
    isplitl [Hp0] <;> iassumption
  · simp only [dif_neg h7]
    rw [pipe1_rest d i q1 fc fo (fun h => h7 ((cond7 i t).2 h))]
    try simp only [Prog.lift, Prog.bind_op, Prog.bind_ret, Prog.pure_eq_ret]
    rw [wp_ret]; imodintro
    isplitl [HP HB HF HG Hv3 HO]
    · iexists fP, _, _, _
      isplitr
      pick_goal 2
      · isplitl [HP]; · iexact HP
        isplitl [HB]; · iexact HB
        isplitl [HF]; · iexact HF
        isplitl [HG]; · iexact HG
        isplitl [Hv3] <;> iassumption
      · ipureintro; exact ⟨hP, hF', hD', fun h => absurd h (by omega)⟩
    isplitl [Hp0]; · iexact Hp0
    iexists _, _; iexact HR

end Cert.Proof
-- ==== Proof.Ends.lean ====
/- The copies before and after the main loop: the proposals in, the last 32 proposals, the confidences out. -/
module

public import proofs.«01_k».proof.Proof.Step

@[expose] public section

set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

local notation "𝕄" => MT nD τ sig (HIx 1) (Elt F) ℕ UU ℕ

variable (a0 : Vec F S8x20000x4 .f32) (fc fo : Vec F S8x560000 .f32) (O : CellTallies nD τ sig (HIx 1)) (W : Waits sig (HIx 1))

/-- The transposed and the tail's proposals, and the confidences' result. -/
abbrev gP : Loc nD τ sig := mP.view.loc (thr d i)
abbrev gT : Loc nD τ sig := mT.view.loc (thr d i)
abbrev gF : Loc nD τ sig := mF.view.loc (thr d i)

/-! ### The proposals in -/

theorem prop_full {off : Fin 3 → ℕ} (h : ∀ a, off a + S8x4x640.size a ≤ S8x4x20000.size a) (hst) (ho : off = ![0, 0, 128 * base i]) (fd : Vec F S8x4x640 .f32) :
    PropOk i a0 (bP.view.write (Elt F) fd ((mP.slice (Rect.unit (s := S8x4x20000) off S8x4x640.size h) hst).view.read (Elt F) (propT a0)) Finset.univ) := by
  subst ho
  intro b hb p hp
  have hc := cnt_le i
  refine funext fun k => ?_
  have hw : bP.view.write (Elt F) fd ((mP.slice (Rect.unit (s := S8x4x20000) ![0, 0, 128 * base i] S8x4x640.size h) hst).view.read (Elt F) (propT a0)) Finset.univ
      = fun x : S8x4x640.Idx => propT a0 ((Rect.unit (s := S8x4x20000) ![0, 0, 128 * base i] S8x4x640.size h).emb x) := View.write_whole_univ cc0_scratch4 fd _
  rw [hw]
  show atP a0 (0 + 1 * (b % 8)) (128 * base i + 1 * (p % 640)) (0 + 1 * (k.val % 4)) = atP a0 b (128 * base i + p) k.val
  have hk := k.isLt
  rw [Nat.mod_eq_of_lt hb, Nat.mod_eq_of_lt hk, Nat.mod_eq_of_lt (show p < 640 by omega)]
  simp only [Nat.one_mul, Nat.zero_add]

theorem part_write (h' : ∀ a, (![0, 0, 0] : Fin 3 → ℕ) a + S8x4x512.size a ≤ S8x4x640.size a) (hst') (fd : Vec F S8x4x640 .f32) (w : Vec F S8x4x512 .f32) (y : S8x4x640.Idx) (x : S8x4x512.Idx)
    (hx : ∀ a, (y a).val = (![0, 0, 0] : Fin 3 → ℕ) a + (x a).val) :
    (bP.slice (Rect.unit (s := S8x4x640) ![0, 0, 0] S8x4x512.size h') hst').view.write (Elt F) fd w Finset.univ y = w x := by
  have e1 : ∀ g : Vec F S8x4x640 .f32, bP.view.read (Elt F) g y = g y := fun g => congrFun (View.read_whole cc0_scratch4 g) y
  refine (e1 _).symm.trans ?_
  show bP.view.read (Elt F) (bP.view.writes (Elt F) fd [⟨Rect.unit (s := S8x4x640) ![0, 0, 0] S8x4x512.size h', w⟩]) y = _
  exact View.read_writes_cons_unit_of_mem bP.view fd h' w [] y x rfl hx

theorem prop_part {off : Fin 3 → ℕ} (h : ∀ a, off a + S8x4x512.size a ≤ S8x4x20000.size a) (h' : ∀ a, (![0, 0, 0] : Fin 3 → ℕ) a + S8x4x512.size a ≤ S8x4x640.size a) (hst hst') (ho : off = ![0, 0, 128 * base i])
    (hc : cnt i = 4) (fd : Vec F S8x4x640 .f32) :
    PropOk i a0 ((bP.slice (Rect.unit (s := S8x4x640) ![0, 0, 0] S8x4x512.size h') hst').view.write (Elt F) fd ((mP.slice (Rect.unit (s := S8x4x20000) off S8x4x512.size h) hst).view.read (Elt F) (propT a0)) Finset.univ) := by
  subst ho
  intro b hb p hp
  refine funext fun k => ?_
  have hk := k.isLt
  have hp' : p < 512 := by omega
  let x : S8x4x512.Idx := fun | 0 => ⟨b, hb⟩ | 1 => ⟨k.val, hk⟩ | 2 => ⟨p, hp'⟩
  unfold propAt at3
  refine (part_write h' hst' fd _ _ x ?_).trans ?_
  · intro a; fin_cases a
    · show b % 8 = 0 + b; rw [Nat.mod_eq_of_lt hb]; omega
    · show k.val % 4 = 0 + k.val; rw [Nat.mod_eq_of_lt hk]; omega
    · show p % 640 = 0 + p; rw [Nat.mod_eq_of_lt (by omega)]; omega
  · show propT a0 ((Rect.unit (s := S8x4x20000) ![0, 0, 128 * base i] S8x4x512.size h).emb x) = rowP a0 b (128 * base i + p) k
    show atP a0 (0 + 1 * b) (128 * base i + 1 * p) (0 + 1 * k.val) = atP a0 b (128 * base i + p) k.val
    simp only [Nat.one_mul, Nat.zero_add]

/-! ### The last 32 proposals -/

/-- The first 896 columns of a half's scratch written with the last columns of `f`. -/
def TailC (f : Vec F S8x560000 .f32) (g : Vec F S8x1792 .f32) : Prop := ∀ b < 8, ∀ u < 32, laneAt g b u = rowC f b (19968 + u)

theorem tail_writeC (h' : ∀ a, (![0, 0] : Fin 2 → ℕ) a + S8x896.size a ≤ S8x1792.size a) (hst') (fd : Vec F S8x1792 .f32) (w : Vec F S8x896 .f32) (y : S8x1792.Idx) (x : S8x896.Idx)
    (hx : ∀ a, (y a).val = (![0, 0] : Fin 2 → ℕ) a + (x a).val) :
    (bC0.slice (Rect.unit (s := S8x1792) ![0, 0] S8x896.size h') hst').view.write (Elt F) fd w Finset.univ y = w x := by
  have e1 : ∀ g : Vec F S8x1792 .f32, bC0.view.read (Elt F) g y = g y := fun g => congrFun (View.read_whole cc0_scratch0 g) y
  refine (e1 _).symm.trans ?_
  show bC0.view.read (Elt F) (bC0.view.writes (Elt F) fd [⟨Rect.unit (s := S8x1792) ![0, 0] S8x896.size h', w⟩]) y = _
  exact View.read_writes_cons_unit_of_mem bC0.view fd h' w [] y x rfl hx

theorem tail_C {off : Fin 2 → ℕ} (h : ∀ a, off a + S8x896.size a ≤ S8x560000.size a) (h' : ∀ a, (![0, 0] : Fin 2 → ℕ) a + S8x896.size a ≤ S8x1792.size a) (hst hst') (ho : off = ![0, 559104])
    (f : Vec F S8x560000 .f32) (fd : Vec F S8x1792 .f32) :
    TailC f ((bC0.slice (Rect.unit (s := S8x1792) ![0, 0] S8x896.size h') hst').view.write (Elt F) fd ((mC.slice (Rect.unit (s := S8x560000) off S8x896.size h) hst).view.read (Elt F) f) Finset.univ) := by
  subst ho
  intro b hb u hu
  refine funext fun j => ?_
  have hj := j.isLt
  let x : S8x896.Idx := fun | 0 => ⟨b, hb⟩ | 1 => ⟨28 * u + j.val, by show 28 * u + j.val < 896; omega⟩
  unfold laneAt at2
  refine (tail_writeC h' hst' fd _ _ x ?_).trans ?_
  · intro a; fin_cases a
    · show b % 8 = 0 + b; rw [Nat.mod_eq_of_lt hb]; omega
    · show (28 * u + j.val) % 1792 = 0 + (28 * u + j.val); rw [Nat.mod_eq_of_lt (by omega)]; omega
  · show f ((Rect.unit (s := S8x560000) ![0, 559104] S8x896.size h).emb x) = rowC f b (19968 + u) j
    unfold rowC atC
    refine congrArg f (funext fun a => ?_)
    fin_cases a
    · refine Fin.ext ?_
      show 0 + 1 * b = b % 8
      rw [Nat.mod_eq_of_lt hb]; omega
    · refine Fin.ext ?_
      show 559104 + 1 * (28 * u + j.val) = (28 * (19968 + u) + j.val) % 560000
      rw [Nat.mod_eq_of_lt (by omega)]; omega

theorem tail_writeO (h' : ∀ a, (![0, 0] : Fin 2 → ℕ) a + S8x896.size a ≤ S8x1792.size a) (hst') (fd : Vec F S8x1792 .f32) (w : Vec F S8x896 .f32) (y : S8x1792.Idx) (x : S8x896.Idx)
    (hx : ∀ a, (y a).val = (![0, 0] : Fin 2 → ℕ) a + (x a).val) :
    (bO0.slice (Rect.unit (s := S8x1792) ![0, 0] S8x896.size h') hst').view.write (Elt F) fd w Finset.univ y = w x := by
  have e1 : ∀ g : Vec F S8x1792 .f32, bO0.view.read (Elt F) g y = g y := fun g => congrFun (View.read_whole cc0_scratch2 g) y
  refine (e1 _).symm.trans ?_
  show bO0.view.read (Elt F) (bO0.view.writes (Elt F) fd [⟨Rect.unit (s := S8x1792) ![0, 0] S8x896.size h', w⟩]) y = _
  exact View.read_writes_cons_unit_of_mem bO0.view fd h' w [] y x rfl hx

theorem tail_O {off : Fin 2 → ℕ} (h : ∀ a, off a + S8x896.size a ≤ S8x560000.size a) (h' : ∀ a, (![0, 0] : Fin 2 → ℕ) a + S8x896.size a ≤ S8x1792.size a) (hst hst') (ho : off = ![0, 559104])
    (f : Vec F S8x560000 .f32) (fd : Vec F S8x1792 .f32) :
    TailC f ((bO0.slice (Rect.unit (s := S8x1792) ![0, 0] S8x896.size h') hst').view.write (Elt F) fd ((mO.slice (Rect.unit (s := S8x560000) off S8x896.size h) hst).view.read (Elt F) f) Finset.univ) := by
  subst ho
  intro b hb u hu
  refine funext fun j => ?_
  have hj := j.isLt
  let x : S8x896.Idx := fun | 0 => ⟨b, hb⟩ | 1 => ⟨28 * u + j.val, by show 28 * u + j.val < 896; omega⟩
  unfold laneAt at2
  refine (tail_writeO h' hst' fd _ _ x ?_).trans ?_
  · intro a; fin_cases a
    · show b % 8 = 0 + b; rw [Nat.mod_eq_of_lt hb]; omega
    · show (28 * u + j.val) % 1792 = 0 + (28 * u + j.val); rw [Nat.mod_eq_of_lt (by omega)]; omega
  · show f ((Rect.unit (s := S8x560000) ![0, 559104] S8x896.size h).emb x) = rowC f b (19968 + u) j
    unfold rowC atC
    refine congrArg f (funext fun a => ?_)
    fin_cases a
    · refine Fin.ext ?_
      show 0 + 1 * b = b % 8
      rw [Nat.mod_eq_of_lt hb]; omega
    · refine Fin.ext ?_
      show 559104 + 1 * (28 * u + j.val) = (28 * (19968 + u) + j.val) % 560000
      rw [Nat.mod_eq_of_lt (by omega)]; omega

theorem tailAt_tail {b u : ℕ} (hb : b < 8) (hu : u < 32) : tailAt (tailT a0) (128 * b + 4 * u) = rowP a0 b (19968 + u) := by
  refine funext fun k => ?_
  have hk := k.isLt
  show atP a0 ((128 * b + 4 * u + k.val) % 1024 / 128) (19968 + (128 * b + 4 * u + k.val) % 1024 % 128 / 4) ((128 * b + 4 * u + k.val) % 1024 % 4) = atP a0 b (19968 + u) k.val
  rw [Nat.mod_eq_of_lt (show 128 * b + 4 * u + k.val < 1024 by omega)]
  rw [show (128 * b + 4 * u + k.val) / 128 = b by omega, show (128 * b + 4 * u + k.val) % 128 = 4 * u + k.val by omega, show (4 * u + k.val) / 4 = u by omega,
    show (128 * b + 4 * u + k.val) % 4 = k.val by omega]

/-- The tile's own part of the boxes' result is whole. -/
def BoxDone [Buckets F] (f : Vec F S8x4x20096 .f32) : Prop :=
  ∀ y : S8x4x20096.Idx, 128 * base i ≤ (y 2).val → (y 2).val < topB i → (y 2).val < 20000 → f y = boxAt a0 fc fo (y 0).val (y 2).val (y 1)

theorem tail_done [Buckets F] {off : Fin 3 → ℕ} (h : ∀ a, off a + S8x4x128.size a ≤ S8x4x20096.size a) (hst) (ho : off = ![0, 0, 19968]) (hw : wid i = 31)
    {f : Vec F S8x4x20096 .f32} {fB : Vec F S8x4x128 .f32} {gC gO : Vec F S8x1792 .f32} (hf : DoneOk i a0 fc fo (cnt i) f) (hC : TailC fc gC) (hO : TailC fo gO) :
    BoxDone i a0 fc fo ((mB.slice (Rect.unit (s := S8x4x20096) off S8x4x128.size h) hst).view.write (Elt F) f (boxTail gC gO (tailT a0) fB 16) Finset.univ) := by
  intro y h1 h2 h3
  have h0 : (y 0).val < 8 := (y 0).isLt
  have hb : base i + cnt i = 156 := by unfold base cnt; rw [hw]; rfl
  rw [slice_write h hst ho]
  by_cases hy : 19968 ≤ (y 2).val ∧ (y 2).val < 19968 + 128
  · rw [dif_pos hy]
    unfold boxTail
    refine (if_pos ?_).trans ?_
    · show (y 2).val - 19968 < 32 ∧ 2 * (y 0).val + ((y 2).val - 19968) / 16 < 16
      omega
    · show laneBox (laneAt gC (y 0).val ((y 2).val - 19968)) (laneAt gO (y 0).val ((y 2).val - 19968)) (tailAt (tailT a0) (128 * (y 0).val + 4 * ((y 2).val - 19968))) (y 1) = _
      rw [hC _ h0 _ (by omega), hO _ h0 _ (by omega), tailAt_tail a0 h0 (by omega), show 19968 + ((y 2).val - 19968) = (y 2).val by omega]
      rfl
  · rw [dif_neg hy]; exact hf y h1 (by omega)

/-! ### The confidences out -/

/-- How many proposals of each batch row are the tile's own, in the confidences. -/
def lenF : ℕ := if wid i < 28 then 640 else if wid i = 31 then 544 else 512
/-- The confidences' scratch is whole. -/
def ConfFull (fF : Vec F S5376 .f32) : Prop :=
  ∀ y : S5376.Idx, (y 0).val % 672 < lenF i → fF y = confAt fc ((y 0).val / 672) (128 * base i + (y 0).val % 672)
/-- The places of the confidences' result that are a tile's own, and that its first `r` batch rows are there. -/
def ownF : Finset S160000.Idx := Finset.univ.filter fun y => 128 * base i ≤ (y 0).val % 20000 ∧ (y 0).val % 20000 < 128 * base i + lenF i
def ConfDone (r : ℕ) (f : Vec F S160000 .f32) : Prop :=
  ∀ y : S160000.Idx, 128 * base i ≤ (y 0).val % 20000 → (y 0).val % 20000 < 128 * base i + lenF i → (y 0).val / 20000 < r → f y = confAt fc ((y 0).val / 20000) ((y 0).val % 20000)

theorem len_le : 128 * base i + lenF i ≤ 20000 := by
  have := wid_lt i
  unfold base lenF; split
  · omega
  · split <;> omega

theorem conf_full_of (hw : ¬ wid i = 31) {fF : Vec F S5376 .f32} (hF : ConfOk i fc (2 * cnt i) fF) : ConfFull i fc fF := by
  intro y hy
  refine hF y ?_
  unfold lenF at hy; unfold cnt
  by_cases h : wid i < 28
  · rw [if_pos h] at hy; rw [if_pos h]; omega
  · rw [if_neg h, if_neg hw] at hy; rw [if_neg h]; omega

theorem conf_full_tail (hw : wid i = 31) {fF : Vec F S5376 .f32} {gC : Vec F S8x1792 .f32} (hF : ConfOk i fc (2 * cnt i) fF) (hC : TailC fc gC) :
    ConfFull i fc (confTail gC fF 16) := by
  intro y hy
  have h0 : (y 0).val < 5376 := (y 0).isLt
  have hc : cnt i = 4 := by unfold cnt; rw [hw]; rfl
  have hb : base i = 152 := by unfold base; rw [hw]; rfl
  have hl : lenF i = 544 := by unfold lenF; rw [hw]; rfl
  rw [hl] at hy
  unfold confTail
  dsimp only
  split
  · rename_i h
    rw [hC _ (by omega) _ (by omega)]
    unfold confAt
    rw [hb]
    congr 2
    omega
  · rename_i h
    refine hF y ?_
    rw [hc]
    omega

/-- What the confidences' copies work on after `r` of them. -/
def Confs (r : ℕ) (fF : Vec F S5376 .f32) : sProp 𝕄 :=
  iprop((lF d i ↦{fullShare} fF) ∗ (∃ f : Vec F S160000 .f32, ⌜ConfDone i fc r f⌝ ∗ (gF d i ↦[ownF i]{fullShare} f)) ∗ OW d i O W)

theorem conf_set640 {off : Fin 1 → ℕ} {r : ℕ} (hr : r < 8) (h : ∀ a, off a + S640.size a ≤ S160000.size a) (hst) (ho : off = ![20000 * r + 128 * base i]) (hl : lenF i = 640) :
    (mF.slice (Rect.unit (s := S160000) off S640.size h) hst).view.set ⊆ ownF i := by
  subst ho
  have hle := len_le i
  intro y hy
  have hy' : y ∈ (Rect.unit (s := S160000) ![20000 * r + 128 * base i] S640.size h).set := by
    rw [← View.set_slice_whole main_v3_1_scv (Rect.unit (s := S160000) ![20000 * r + 128 * base i] S640.size h)]; exact hy
  rw [Rect.mem_set_unit] at hy'
  have h3 : 20000 * r + 128 * base i ≤ (y 0).val := (hy' 0).1
  have h4 : (y 0).val < 20000 * r + 128 * base i + 640 := (hy' 0).2
  unfold ownF
  rw [Finset.mem_filter]
  exact ⟨Finset.mem_univ _, by omega, by omega⟩

theorem conf_write640 {off off' : Fin 1 → ℕ} {r : ℕ} (hr : r < 8) (h : ∀ a, off a + S640.size a ≤ S160000.size a) (h' : ∀ a, off' a + S640.size a ≤ S5376.size a) (hst hst') (ho : off = ![20000 * r + 128 * base i])
    (ho' : off' = ![672 * r]) (hl : lenF i = 640) {fF : Vec F S5376 .f32} (hF : ConfFull i fc fF) {f : Vec F S160000 .f32} (hf : ConfDone i fc r f) :
    ConfDone i fc (r + 1) ((mF.slice (Rect.unit (s := S160000) off S640.size h) hst).view.write (Elt F) f ((bF.slice (Rect.unit (s := S5376) off' S640.size h') hst').view.read (Elt F) fF) Finset.univ) := by
  subst ho; subst ho'
  have hle := len_le i
  intro y h1 h2 h3
  have h0 : (y 0).val < 160000 := (y 0).isLt
  have e1 : ∀ g : Vec F S160000 .f32, mF.view.read (Elt F) g y = g y := fun g => congrFun (View.read_whole main_v3_1_scv g) y
  refine (e1 _).symm.trans ?_
  by_cases hy : (y 0).val / 20000 = r
  · let x : S640.Idx := fun | 0 => ⟨(y 0).val - (20000 * r + 128 * base i), by show _ < 640; omega⟩
    refine (View.read_writes_cons_unit_of_mem mF.view f h (fun x : S640.Idx => fF ((Rect.unit (s := S5376) ![672 * r] S640.size h').emb x)) [] y x rfl ?_).trans ?_
    · intro a; fin_cases a
      show (y 0).val = 20000 * r + 128 * base i + ((y 0).val - (20000 * r + 128 * base i)); omega
    · have e : ((Rect.unit (s := S5376) ![672 * r] S640.size h').emb x 0).val = 672 * r + 1 * ((y 0).val - (20000 * r + 128 * base i)) := rfl
      refine (hF _ ?_).trans ?_
      · rw [e, hl]; omega
      · rw [e]; congr 1 <;> omega
  · refine (View.read_writes_cons_unit_of_not_mem mF.view f h (fun x : S640.Idx => fF ((Rect.unit (s := S5376) ![672 * r] S640.size h').emb x)) [] y rfl 0 ?_).trans ((e1 f).trans (hf y h1 h2 (by omega)))
    show (y 0).val < 20000 * r + 128 * base i ∨ 20000 * r + 128 * base i + 640 ≤ (y 0).val
    omega

theorem st_conf640 {off off' off2 off2' : Fin 1 → ℕ} {r : ℕ} (hr : r < 8) {h : ∀ a, off a + S640.size a ≤ S160000.size a} {h' : ∀ a, off' a + S640.size a ≤ S5376.size a} {h2 : ∀ a, off2 a + S640.size a ≤ S160000.size a}
    {h2' : ∀ a, off2' a + S640.size a ≤ S5376.size a} {hst hst' hst2 hst2'} (ho : off = ![20000 * r + 128 * base i])
    (ho' : off' = ![672 * r]) (hl : lenF i = 640) {sem : DmaSem sig} {hs1 hd1 ht1 hs2 hd2} (hO : ∀ g, O g none = 0)
    {α : Type} {k : PUnit → Prog (TpuEff nD τ sig (Elt F) Λ₀ (thr d i).2) α} {Q : α → sProp 𝕄} {fF : Vec F S5376 .f32} (hF : ConfFull i fc fF) :
    (iprop(levAts (K (F := F)).L (K (F := F)).lev ∗ Confs d i fc O W r fF ∗ semVal (thr d i, .dma sem) 0) : sProp 𝕄) ⊢
    iprop(((Confs d i fc O W (r + 1) fF ∗ semVal (thr d i, .dma sem) 0) -∗ wp frame (wpE (defs₀ (F := F)) 𝒱₀ (thr d i) none) Set.univ (k ⟨⟩) Q) -∗
      wp frame (wpE (defs₀ (F := F)) 𝒱₀ (thr d i) none) Set.univ (.op (.enqueueDma (bF.slice (Rect.unit (s := S5376) off' S640.size h') hst') (.here (mF.slice (Rect.unit (s := S160000) off S640.size h) hst)) (.dma sem) hs1 hd1 ht1) fun _ =>
        .op (.waitDma2 sem (bF.slice (Rect.unit (s := S5376) off2' S640.size h2') hst2') (mF.slice (Rect.unit (s := S160000) off2 S640.size h2) hst2) hs2 hd2) k) Q) := by
  have hc := fun f => st_copy d i (src := bF.slice (Rect.unit (s := S5376) off' S640.size h') hst') (dst := mF.slice (Rect.unit (s := S160000) off S640.size h) hst)
    (srcw := bF.slice (Rect.unit (s := S5376) off2' S640.size h2') hst2') (dstw := mF.slice (Rect.unit (s := S160000) off2 S640.size h2) hst2) (hsrc := hs1) (hdst := hd1) (hsem := ht1) (hsrcw := hs2) (hdstw := hd2) (k := k) (Q := Q)
    (Ss := Finset.univ) (Sd := ownF i) (sem := sem) (q := fullShare) (fs := fF) (fd := f) (W := W) hO (bF.slice (Rect.unit (s := S5376) ![0] S640.size (by decide)) (fun _ => rfl)).view.dmaCredit rfl rfl (by decide) (Finset.subset_univ _)
    (conf_set640 i hr h hst ho hl) (fun _ _ => rfl)
  unfold Confs
  iintro ⟨#Hlv, ⟨HF, ⟨%f, %hf, HG⟩, HO⟩, Hv⟩ Hk
  iapply (hc f) $$ [HF HG Hv HO]
  · isplitr; · iexact Hlv
    isplitl [HF]; · iexact HF
    isplitl [HG]; · iexact HG
    isplitl [Hv] <;> iassumption
  iintro ⟨HF, HG, Hv, HO⟩
  iapply Hk
  isplitl [HF HG HO]
  · isplitl [HF]; · iexact HF
    isplitl [HG]
    · iexists _
      isplitr
      pick_goal 2
      · iexact HG
      · ipureintro; exact conf_write640 i fc hr h h' hst hst' ho ho' hl hF hf
    iexact HO
  iexact Hv

theorem conf_set512 {off : Fin 1 → ℕ} {r : ℕ} (hr : r < 8) (h : ∀ a, off a + S512.size a ≤ S160000.size a) (hst) (ho : off = ![20000 * r + 128 * base i]) (hl : lenF i = 512) :
    (mF.slice (Rect.unit (s := S160000) off S512.size h) hst).view.set ⊆ ownF i := by
  subst ho
  have hle := len_le i
  intro y hy
  have hy' : y ∈ (Rect.unit (s := S160000) ![20000 * r + 128 * base i] S512.size h).set := by
    rw [← View.set_slice_whole main_v3_1_scv (Rect.unit (s := S160000) ![20000 * r + 128 * base i] S512.size h)]; exact hy
  rw [Rect.mem_set_unit] at hy'
  have h3 : 20000 * r + 128 * base i ≤ (y 0).val := (hy' 0).1
  have h4 : (y 0).val < 20000 * r + 128 * base i + 512 := (hy' 0).2
  unfold ownF
  rw [Finset.mem_filter]
  exact ⟨Finset.mem_univ _, by omega, by omega⟩

theorem conf_write512 {off off' : Fin 1 → ℕ} {r : ℕ} (hr : r < 8) (h : ∀ a, off a + S512.size a ≤ S160000.size a) (h' : ∀ a, off' a + S512.size a ≤ S5376.size a) (hst hst') (ho : off = ![20000 * r + 128 * base i])
    (ho' : off' = ![672 * r]) (hl : lenF i = 512) {fF : Vec F S5376 .f32} (hF : ConfFull i fc fF) {f : Vec F S160000 .f32} (hf : ConfDone i fc r f) :
    ConfDone i fc (r + 1) ((mF.slice (Rect.unit (s := S160000) off S512.size h) hst).view.write (Elt F) f ((bF.slice (Rect.unit (s := S5376) off' S512.size h') hst').view.read (Elt F) fF) Finset.univ) := by
  subst ho; subst ho'
  have hle := len_le i
  intro y h1 h2 h3
  have h0 : (y 0).val < 160000 := (y 0).isLt
  have e1 : ∀ g : Vec F S160000 .f32, mF.view.read (Elt F) g y = g y := fun g => congrFun (View.read_whole main_v3_1_scv g) y
  refine (e1 _).symm.trans ?_
  by_cases hy : (y 0).val / 20000 = r
  · let x : S512.Idx := fun | 0 => ⟨(y 0).val - (20000 * r + 128 * base i), by show _ < 512; omega⟩
    refine (View.read_writes_cons_unit_of_mem mF.view f h (fun x : S512.Idx => fF ((Rect.unit (s := S5376) ![672 * r] S512.size h').emb x)) [] y x rfl ?_).trans ?_
    · intro a; fin_cases a
      show (y 0).val = 20000 * r + 128 * base i + ((y 0).val - (20000 * r + 128 * base i)); omega
    · have e : ((Rect.unit (s := S5376) ![672 * r] S512.size h').emb x 0).val = 672 * r + 1 * ((y 0).val - (20000 * r + 128 * base i)) := rfl
      refine (hF _ ?_).trans ?_
      · rw [e, hl]; omega
      · rw [e]; congr 1 <;> omega
  · refine (View.read_writes_cons_unit_of_not_mem mF.view f h (fun x : S512.Idx => fF ((Rect.unit (s := S5376) ![672 * r] S512.size h').emb x)) [] y rfl 0 ?_).trans ((e1 f).trans (hf y h1 h2 (by omega)))
    show (y 0).val < 20000 * r + 128 * base i ∨ 20000 * r + 128 * base i + 512 ≤ (y 0).val
    omega

theorem st_conf512 {off off' off2 off2' : Fin 1 → ℕ} {r : ℕ} (hr : r < 8) {h : ∀ a, off a + S512.size a ≤ S160000.size a} {h' : ∀ a, off' a + S512.size a ≤ S5376.size a} {h2 : ∀ a, off2 a + S512.size a ≤ S160000.size a}
    {h2' : ∀ a, off2' a + S512.size a ≤ S5376.size a} {hst hst' hst2 hst2'} (ho : off = ![20000 * r + 128 * base i])
    (ho' : off' = ![672 * r]) (hl : lenF i = 512) {sem : DmaSem sig} {hs1 hd1 ht1 hs2 hd2} (hO : ∀ g, O g none = 0)
    {α : Type} {k : PUnit → Prog (TpuEff nD τ sig (Elt F) Λ₀ (thr d i).2) α} {Q : α → sProp 𝕄} {fF : Vec F S5376 .f32} (hF : ConfFull i fc fF) :
    (iprop(levAts (K (F := F)).L (K (F := F)).lev ∗ Confs d i fc O W r fF ∗ semVal (thr d i, .dma sem) 0) : sProp 𝕄) ⊢
    iprop(((Confs d i fc O W (r + 1) fF ∗ semVal (thr d i, .dma sem) 0) -∗ wp frame (wpE (defs₀ (F := F)) 𝒱₀ (thr d i) none) Set.univ (k ⟨⟩) Q) -∗
      wp frame (wpE (defs₀ (F := F)) 𝒱₀ (thr d i) none) Set.univ (.op (.enqueueDma (bF.slice (Rect.unit (s := S5376) off' S512.size h') hst') (.here (mF.slice (Rect.unit (s := S160000) off S512.size h) hst)) (.dma sem) hs1 hd1 ht1) fun _ =>
        .op (.waitDma2 sem (bF.slice (Rect.unit (s := S5376) off2' S512.size h2') hst2') (mF.slice (Rect.unit (s := S160000) off2 S512.size h2) hst2) hs2 hd2) k) Q) := by
  have hc := fun f => st_copy d i (src := bF.slice (Rect.unit (s := S5376) off' S512.size h') hst') (dst := mF.slice (Rect.unit (s := S160000) off S512.size h) hst)
    (srcw := bF.slice (Rect.unit (s := S5376) off2' S512.size h2') hst2') (dstw := mF.slice (Rect.unit (s := S160000) off2 S512.size h2) hst2) (hsrc := hs1) (hdst := hd1) (hsem := ht1) (hsrcw := hs2) (hdstw := hd2) (k := k) (Q := Q)
    (Ss := Finset.univ) (Sd := ownF i) (sem := sem) (q := fullShare) (fs := fF) (fd := f) (W := W) hO (bF.slice (Rect.unit (s := S5376) ![0] S512.size (by decide)) (fun _ => rfl)).view.dmaCredit rfl rfl (by decide) (Finset.subset_univ _)
    (conf_set512 i hr h hst ho hl) (fun _ _ => rfl)
  unfold Confs
  iintro ⟨#Hlv, ⟨HF, ⟨%f, %hf, HG⟩, HO⟩, Hv⟩ Hk
  iapply (hc f) $$ [HF HG Hv HO]
  · isplitr; · iexact Hlv
    isplitl [HF]; · iexact HF
    isplitl [HG]; · iexact HG
    isplitl [Hv] <;> iassumption
  iintro ⟨HF, HG, Hv, HO⟩
  iapply Hk
  isplitl [HF HG HO]
  · isplitl [HF]; · iexact HF
    isplitl [HG]
    · iexists _
      isplitr
      pick_goal 2
      · iexact HG
      · ipureintro; exact conf_write512 i fc hr h h' hst hst' ho ho' hl hF hf
    iexact HO
  iexact Hv

theorem conf_set544 {off : Fin 1 → ℕ} {r : ℕ} (hr : r < 8) (h : ∀ a, off a + S544.size a ≤ S160000.size a) (hst) (ho : off = ![20000 * r + 128 * base i]) (hl : lenF i = 544) :
    (mF.slice (Rect.unit (s := S160000) off S544.size h) hst).view.set ⊆ ownF i := by
  subst ho
  have hle := len_le i
  intro y hy
  have hy' : y ∈ (Rect.unit (s := S160000) ![20000 * r + 128 * base i] S544.size h).set := by
    rw [← View.set_slice_whole main_v3_1_scv (Rect.unit (s := S160000) ![20000 * r + 128 * base i] S544.size h)]; exact hy
  rw [Rect.mem_set_unit] at hy'
  have h3 : 20000 * r + 128 * base i ≤ (y 0).val := (hy' 0).1
  have h4 : (y 0).val < 20000 * r + 128 * base i + 544 := (hy' 0).2
  unfold ownF
  rw [Finset.mem_filter]
  exact ⟨Finset.mem_univ _, by omega, by omega⟩

theorem conf_write544 {off off' : Fin 1 → ℕ} {r : ℕ} (hr : r < 8) (h : ∀ a, off a + S544.size a ≤ S160000.size a) (h' : ∀ a, off' a + S544.size a ≤ S5376.size a) (hst hst') (ho : off = ![20000 * r + 128 * base i])
    (ho' : off' = ![672 * r]) (hl : lenF i = 544) {fF : Vec F S5376 .f32} (hF : ConfFull i fc fF) {f : Vec F S160000 .f32} (hf : ConfDone i fc r f) :
    ConfDone i fc (r + 1) ((mF.slice (Rect.unit (s := S160000) off S544.size h) hst).view.write (Elt F) f ((bF.slice (Rect.unit (s := S5376) off' S544.size h') hst').view.read (Elt F) fF) Finset.univ) := by
  subst ho; subst ho'
  have hle := len_le i
  intro y h1 h2 h3
  have h0 : (y 0).val < 160000 := (y 0).isLt
  have e1 : ∀ g : Vec F S160000 .f32, mF.view.read (Elt F) g y = g y := fun g => congrFun (View.read_whole main_v3_1_scv g) y
  refine (e1 _).symm.trans ?_
  by_cases hy : (y 0).val / 20000 = r
  · let x : S544.Idx := fun | 0 => ⟨(y 0).val - (20000 * r + 128 * base i), by show _ < 544; omega⟩
    refine (View.read_writes_cons_unit_of_mem mF.view f h (fun x : S544.Idx => fF ((Rect.unit (s := S5376) ![672 * r] S544.size h').emb x)) [] y x rfl ?_).trans ?_
    · intro a; fin_cases a
      show (y 0).val = 20000 * r + 128 * base i + ((y 0).val - (20000 * r + 128 * base i)); omega
    · have e : ((Rect.unit (s := S5376) ![672 * r] S544.size h').emb x 0).val = 672 * r + 1 * ((y 0).val - (20000 * r + 128 * base i)) := rfl
      refine (hF _ ?_).trans ?_
      · rw [e, hl]; omega
      · rw [e]; congr 1 <;> omega
  · refine (View.read_writes_cons_unit_of_not_mem mF.view f h (fun x : S544.Idx => fF ((Rect.unit (s := S5376) ![672 * r] S544.size h').emb x)) [] y rfl 0 ?_).trans ((e1 f).trans (hf y h1 h2 (by omega)))
    show (y 0).val < 20000 * r + 128 * base i ∨ 20000 * r + 128 * base i + 544 ≤ (y 0).val
    omega

theorem st_conf544 {off off' off2 off2' : Fin 1 → ℕ} {r : ℕ} (hr : r < 8) {h : ∀ a, off a + S544.size a ≤ S160000.size a} {h' : ∀ a, off' a + S544.size a ≤ S5376.size a} {h2 : ∀ a, off2 a + S544.size a ≤ S160000.size a}
    {h2' : ∀ a, off2' a + S544.size a ≤ S5376.size a} {hst hst' hst2 hst2'} (ho : off = ![20000 * r + 128 * base i])
    (ho' : off' = ![672 * r]) (hl : lenF i = 544) {sem : DmaSem sig} {hs1 hd1 ht1 hs2 hd2} (hO : ∀ g, O g none = 0)
    {α : Type} {k : PUnit → Prog (TpuEff nD τ sig (Elt F) Λ₀ (thr d i).2) α} {Q : α → sProp 𝕄} {fF : Vec F S5376 .f32} (hF : ConfFull i fc fF) :
    (iprop(levAts (K (F := F)).L (K (F := F)).lev ∗ Confs d i fc O W r fF ∗ semVal (thr d i, .dma sem) 0) : sProp 𝕄) ⊢
    iprop(((Confs d i fc O W (r + 1) fF ∗ semVal (thr d i, .dma sem) 0) -∗ wp frame (wpE (defs₀ (F := F)) 𝒱₀ (thr d i) none) Set.univ (k ⟨⟩) Q) -∗
      wp frame (wpE (defs₀ (F := F)) 𝒱₀ (thr d i) none) Set.univ (.op (.enqueueDma (bF.slice (Rect.unit (s := S5376) off' S544.size h') hst') (.here (mF.slice (Rect.unit (s := S160000) off S544.size h) hst)) (.dma sem) hs1 hd1 ht1) fun _ =>
        .op (.waitDma2 sem (bF.slice (Rect.unit (s := S5376) off2' S544.size h2') hst2') (mF.slice (Rect.unit (s := S160000) off2 S544.size h2) hst2) hs2 hd2) k) Q) := by
  have hc := fun f => st_copy d i (src := bF.slice (Rect.unit (s := S5376) off' S544.size h') hst') (dst := mF.slice (Rect.unit (s := S160000) off S544.size h) hst)
    (srcw := bF.slice (Rect.unit (s := S5376) off2' S544.size h2') hst2') (dstw := mF.slice (Rect.unit (s := S160000) off2 S544.size h2) hst2) (hsrc := hs1) (hdst := hd1) (hsem := ht1) (hsrcw := hs2) (hdstw := hd2) (k := k) (Q := Q)
    (Ss := Finset.univ) (Sd := ownF i) (sem := sem) (q := fullShare) (fs := fF) (fd := f) (W := W) hO (bF.slice (Rect.unit (s := S5376) ![0] S544.size (by decide)) (fun _ => rfl)).view.dmaCredit rfl rfl (by decide) (Finset.subset_univ _)
    (conf_set544 i hr h hst ho hl) (fun _ _ => rfl)
  unfold Confs
  iintro ⟨#Hlv, ⟨HF, ⟨%f, %hf, HG⟩, HO⟩, Hv⟩ Hk
  iapply (hc f) $$ [HF HG Hv HO]
  · isplitr; · iexact Hlv
    isplitl [HF]; · iexact HF
    isplitl [HG]; · iexact HG
    isplitl [Hv] <;> iassumption
  iintro ⟨HF, HG, Hv, HO⟩
  iapply Hk
  isplitl [HF HG HO]
  · isplitl [HF]; · iexact HF
    isplitl [HG]
    · iexists _
      isplitr
      pick_goal 2
      · iexact HG
      · ipureintro; exact conf_write544 i fc hr h h' hst hst' ho ho' hl hF hf
    iexact HO
  iexact Hv

end Cert.Proof
-- ==== Proof.Loop.lean ====
/- The whole body of one tile. -/
module

public import proofs.«01_k».proof.Proof.Ends

@[expose] public section

set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

local notation "𝕄" => MT nD τ sig (HIx 1) (Elt F) ℕ UU ℕ

variable (q0 q1 : PosShare TreeShare) (a0 : Vec F S8x20000x4 .f32) (fc fo : Vec F S8x560000 .f32) (O : CellTallies nD τ sig (HIx 1)) (W : Waits sig (HIx 1))

/-- The tile's semaphores but the two that carry the halves. -/
def Sems : sProp 𝕄 := bigSep (((ownCells (thr d i)).erase (thr d i, .dma cc0_scratch8.sem)).erase (thr d i, .dma cc0_scratch9.sem)) fun g => semVal g 0

theorem ownSems0_split :
    (ownSems0 (thr d i) : sProp 𝕄) = iprop(semVal (thr d i, .dma cc0_scratch8.sem) 0 ∗ semVal (thr d i, .dma cc0_scratch9.sem) 0 ∗ Sems d i) := by
  unfold SparseCore.Cfg.ownSems0 Sems
  rw [SparseCore.bigSep_erase' ((mem_ownCells (g := (thr d i, SemLoc.dma cc0_scratch8.sem))).mpr ⟨rfl, by
      show (SemLoc.dma cc0_scratch8.sem : SemLoc sig).isScoped .scVector = true; decide⟩),
    SparseCore.bigSep_erase' (Finset.mem_erase.mpr ⟨fun e => absurd (Prod.ext_iff.mp e).2 (show (SemLoc.dma cc0_scratch9.sem : SemLoc sig) ≠ SemLoc.dma cc0_scratch8.sem by decide),
      (mem_ownCells (g := (thr d i, SemLoc.dma cc0_scratch9.sem))).mpr ⟨rfl, by show (SemLoc.dma cc0_scratch9.sem : SemLoc sig).isScoped .scVector = true; decide⟩⟩)]

/-- One of the other semaphores, out and back. -/
theorem sems_take (sem : DmaSem sig) (h : (SemLoc.dma sem : SemLoc sig).isScoped .scVector = true)
    (h8 : (SemLoc.dma sem : SemLoc sig) ≠ SemLoc.dma cc0_scratch8.sem) (h9 : (SemLoc.dma sem : SemLoc sig) ≠ SemLoc.dma cc0_scratch9.sem) :
    (Sems d i : sProp 𝕄) ⊢ iprop(semVal (thr d i, .dma sem) 0 ∗ (semVal (thr d i, .dma sem) 0 -∗ Sems d i)) := by
  unfold Sems
  rw [SparseCore.bigSep_erase' (i := (thr d i, SemLoc.dma sem)) (Finset.mem_erase.mpr ⟨fun e => h9 (Prod.ext_iff.mp e).2, Finset.mem_erase.mpr ⟨fun e => h8 (Prod.ext_iff.mp e).2,
    (mem_ownCells (g := (thr d i, SemLoc.dma sem))).mpr ⟨rfl, h⟩⟩⟩)]
  iintro ⟨Hv, Hr⟩
  isplitl [Hv]; · iexact Hv
  iintro Hv
  isplitl [Hv] <;> iassumption

/-- The tile's buffers but the eight scratches. -/
def Bufs : sProp 𝕄 :=
  bigSep (((((((((ownRefs (τ := τ) (thr d i).2).erase ((thr d i).2.devRef cc0_scratch0)).erase ((thr d i).2.devRef cc0_scratch1)).erase ((thr d i).2.devRef cc0_scratch2)).erase ((thr d i).2.devRef cc0_scratch3)).erase ((thr d i).2.devRef cc0_scratch4)).erase ((thr d i).2.devRef cc0_scratch5)).erase ((thr d i).2.devRef cc0_scratch6)).erase ((thr d i).2.devRef cc0_scratch7)) fun b => iprop(∃ f, ((d, b) : Loc nD τ sig) ↦{fullShare} f)

theorem ownBufs_split :
    (ownBufs (thr d i) : sProp 𝕄) = iprop((∃ f, lC0 d i ↦{fullShare} f) ∗ (∃ f, lC1 d i ↦{fullShare} f) ∗ (∃ f, lO0 d i ↦{fullShare} f) ∗ (∃ f, lO1 d i ↦{fullShare} f) ∗ (∃ f, lP d i ↦{fullShare} f) ∗ (∃ f, lB d i ↦{fullShare} f) ∗ (∃ f, lF d i ↦{fullShare} f) ∗ (∃ f, lT d i ↦{fullShare} f) ∗ Bufs d i) := by
  unfold SparseCore.Cfg.ownBufs Bufs
  have hm : ∀ (b : Ref sig .scVector), ((thr d i).2.devRef b).owner = .proc (thr d i).2 → (thr d i).2.devRef b ∈ ownRefs (τ := τ) (thr d i).2 := fun b hb => SparseCore.Cfg.mem_ownRefs_of_owner (p := (thr d i).2) hb
  have hn : ∀ {a b : Ref sig .scVector}, a ≠ b → (thr d i).2.devRef a ≠ (thr d i).2.devRef b := fun h e => h (Proc.devRef_injective _ e)
  refine (SparseCore.bigSep_erase' (hm cc0_scratch0 rfl)).trans ?_
  rw [SparseCore.bigSep_erase' (Finset.mem_erase.mpr ⟨hn (show (cc0_scratch1 : Ref sig .scVector) ≠ cc0_scratch0 by decide), hm cc0_scratch1 rfl⟩),
    SparseCore.bigSep_erase' (Finset.mem_erase.mpr ⟨hn (show (cc0_scratch2 : Ref sig .scVector) ≠ cc0_scratch1 by decide), Finset.mem_erase.mpr ⟨hn (show (cc0_scratch2 : Ref sig .scVector) ≠ cc0_scratch0 by decide), hm cc0_scratch2 rfl⟩⟩),
    SparseCore.bigSep_erase' (Finset.mem_erase.mpr ⟨hn (show (cc0_scratch3 : Ref sig .scVector) ≠ cc0_scratch2 by decide), Finset.mem_erase.mpr ⟨hn (show (cc0_scratch3 : Ref sig .scVector) ≠ cc0_scratch1 by decide), Finset.mem_erase.mpr ⟨hn (show (cc0_scratch3 : Ref sig .scVector) ≠ cc0_scratch0 by decide), hm cc0_scratch3 rfl⟩⟩⟩),
    SparseCore.bigSep_erase' (Finset.mem_erase.mpr ⟨hn (show (cc0_scratch4 : Ref sig .scVector) ≠ cc0_scratch3 by decide), Finset.mem_erase.mpr ⟨hn (show (cc0_scratch4 : Ref sig .scVector) ≠ cc0_scratch2 by decide), Finset.mem_erase.mpr ⟨hn (show (cc0_scratch4 : Ref sig .scVector) ≠ cc0_scratch1 by decide), Finset.mem_erase.mpr ⟨hn (show (cc0_scratch4 : Ref sig .scVector) ≠ cc0_scratch0 by decide), hm cc0_scratch4 rfl⟩⟩⟩⟩),
    SparseCore.bigSep_erase' (Finset.mem_erase.mpr ⟨hn (show (cc0_scratch5 : Ref sig .scVector) ≠ cc0_scratch4 by decide), Finset.mem_erase.mpr ⟨hn (show (cc0_scratch5 : Ref sig .scVector) ≠ cc0_scratch3 by decide), Finset.mem_erase.mpr ⟨hn (show (cc0_scratch5 : Ref sig .scVector) ≠ cc0_scratch2 by decide), Finset.mem_erase.mpr ⟨hn (show (cc0_scratch5 : Ref sig .scVector) ≠ cc0_scratch1 by decide), Finset.mem_erase.mpr ⟨hn (show (cc0_scratch5 : Ref sig .scVector) ≠ cc0_scratch0 by decide), hm cc0_scratch5 rfl⟩⟩⟩⟩⟩),
    SparseCore.bigSep_erase' (Finset.mem_erase.mpr ⟨hn (show (cc0_scratch6 : Ref sig .scVector) ≠ cc0_scratch5 by decide), Finset.mem_erase.mpr ⟨hn (show (cc0_scratch6 : Ref sig .scVector) ≠ cc0_scratch4 by decide), Finset.mem_erase.mpr ⟨hn (show (cc0_scratch6 : Ref sig .scVector) ≠ cc0_scratch3 by decide), Finset.mem_erase.mpr ⟨hn (show (cc0_scratch6 : Ref sig .scVector) ≠ cc0_scratch2 by decide), Finset.mem_erase.mpr ⟨hn (show (cc0_scratch6 : Ref sig .scVector) ≠ cc0_scratch1 by decide), Finset.mem_erase.mpr ⟨hn (show (cc0_scratch6 : Ref sig .scVector) ≠ cc0_scratch0 by decide), hm cc0_scratch6 rfl⟩⟩⟩⟩⟩⟩),
    SparseCore.bigSep_erase' (Finset.mem_erase.mpr ⟨hn (show (cc0_scratch7 : Ref sig .scVector) ≠ cc0_scratch6 by decide), Finset.mem_erase.mpr ⟨hn (show (cc0_scratch7 : Ref sig .scVector) ≠ cc0_scratch5 by decide), Finset.mem_erase.mpr ⟨hn (show (cc0_scratch7 : Ref sig .scVector) ≠ cc0_scratch4 by decide), Finset.mem_erase.mpr ⟨hn (show (cc0_scratch7 : Ref sig .scVector) ≠ cc0_scratch3 by decide), Finset.mem_erase.mpr ⟨hn (show (cc0_scratch7 : Ref sig .scVector) ≠ cc0_scratch2 by decide), Finset.mem_erase.mpr ⟨hn (show (cc0_scratch7 : Ref sig .scVector) ≠ cc0_scratch1 by decide), Finset.mem_erase.mpr ⟨hn (show (cc0_scratch7 : Ref sig .scVector) ≠ cc0_scratch0 by decide), hm cc0_scratch7 rfl⟩⟩⟩⟩⟩⟩⟩)]

/-! ### The copies at the ends -/

theorem st_prop1 {off off' : Fin 3 → ℕ} {h : ∀ a, off a + S8x4x640.size a ≤ S8x4x20000.size a} {h' : ∀ a, off' a + S8x4x640.size a ≤ S8x4x20000.size a} {hst hst'} (ho : off = ![0, 0, 128 * base i])
    {sem : DmaSem sig} {hs1 hd1 ht1 hs2 hd2} (hO : ∀ g, O g none = 0) {α : Type} {k : PUnit → Prog (TpuEff nD τ sig (Elt F) Λ₀ (thr d i).2) α} {Q : α → sProp 𝕄} {f : Vec F S8x4x640 .f32} :
    (iprop(levAts (K (F := F)).L (K (F := F)).lev ∗ (gP d i ↦{q0} (propT a0)) ∗ (lP d i ↦{fullShare} f) ∗ semVal (thr d i, .dma sem) 0 ∗ OW d i O W) : sProp 𝕄) ⊢
    iprop((((gP d i ↦{q0} (propT a0)) ∗ (∃ g : Vec F S8x4x640 .f32, ⌜PropOk i a0 g⌝ ∗ (lP d i ↦{fullShare} g)) ∗ semVal (thr d i, .dma sem) 0 ∗ OW d i O W) -∗ wp frame (wpE (defs₀ (F := F)) 𝒱₀ (thr d i) none) Set.univ (k ⟨⟩) Q) -∗
      wp frame (wpE (defs₀ (F := F)) 𝒱₀ (thr d i) none) Set.univ (.op (.enqueueDma (mP.slice (Rect.unit (s := S8x4x20000) off S8x4x640.size h) hst) (.here bP) (.dma sem) hs1 hd1 ht1) fun _ =>
        .op (.waitDma2 sem (mP.slice (Rect.unit (s := S8x4x20000) off' S8x4x640.size h') hst') bP hs2 hd2) k) Q) := by
  have hc := st_copy d i (src := mP.slice (Rect.unit (s := S8x4x20000) off S8x4x640.size h) hst) (dst := bP) (srcw := mP.slice (Rect.unit (s := S8x4x20000) off' S8x4x640.size h') hst') (dstw := bP)
    (hsrc := hs1) (hdst := hd1) (hsem := ht1) (hsrcw := hs2) (hdstw := hd2) (k := k) (Q := Q)
    (Ss := Finset.univ) (Sd := Finset.univ) (sem := sem) (q := q0) (fs := propT a0) (fd := f) (W := W) hO bP.view.dmaCredit rfl rfl (by decide) (Finset.subset_univ _) (Finset.subset_univ _) (fun _ _ => rfl)
  iintro ⟨#Hlv, HA, HP, Hv, HO⟩ Hk
  iapply hc $$ [HA HP Hv HO]
  · isplitr; · iexact Hlv
    isplitl [HA]; · iexact HA
    isplitl [HP]; · iexact HP
    isplitl [Hv] <;> iassumption
  iintro ⟨HA, HP, Hv, HO⟩
  iapply Hk
  isplitl [HA]; · iexact HA
  isplitl [HP]
  · iexists _
    isplitr
    pick_goal 2
    · iexact HP
    · ipureintro; exact prop_full i a0 h hst ho f
  isplitl [Hv] <;> iassumption

theorem st_prop2 {off off' : Fin 3 → ℕ} {h : ∀ a, off a + S8x4x512.size a ≤ S8x4x20000.size a} {h' : ∀ a, off' a + S8x4x512.size a ≤ S8x4x20000.size a} {hp hp' : ∀ a, (![0, 0, 0] : Fin 3 → ℕ) a + S8x4x512.size a ≤ S8x4x640.size a} {hst hst' hst2 hst2'} (ho : off = ![0, 0, 128 * base i])
    (hcn : cnt i = 4) {sem : DmaSem sig} {hs1 hd1 ht1 hs2 hd2} (hO : ∀ g, O g none = 0) {α : Type} {k : PUnit → Prog (TpuEff nD τ sig (Elt F) Λ₀ (thr d i).2) α} {Q : α → sProp 𝕄} {f : Vec F S8x4x640 .f32} :
    (iprop(levAts (K (F := F)).L (K (F := F)).lev ∗ (gP d i ↦{q0} (propT a0)) ∗ (lP d i ↦{fullShare} f) ∗ semVal (thr d i, .dma sem) 0 ∗ OW d i O W) : sProp 𝕄) ⊢
    iprop((((gP d i ↦{q0} (propT a0)) ∗ (∃ g : Vec F S8x4x640 .f32, ⌜PropOk i a0 g⌝ ∗ (lP d i ↦{fullShare} g)) ∗ semVal (thr d i, .dma sem) 0 ∗ OW d i O W) -∗ wp frame (wpE (defs₀ (F := F)) 𝒱₀ (thr d i) none) Set.univ (k ⟨⟩) Q) -∗
      wp frame (wpE (defs₀ (F := F)) 𝒱₀ (thr d i) none) Set.univ (.op (.enqueueDma (mP.slice (Rect.unit (s := S8x4x20000) off S8x4x512.size h) hst) (.here (bP.slice (Rect.unit (s := S8x4x640) ![0, 0, 0] S8x4x512.size hp) hst2)) (.dma sem) hs1 hd1 ht1) fun _ =>
        .op (.waitDma2 sem (mP.slice (Rect.unit (s := S8x4x20000) off' S8x4x512.size h') hst') (bP.slice (Rect.unit (s := S8x4x640) ![0, 0, 0] S8x4x512.size hp') hst2') hs2 hd2) k) Q) := by
  have hc := st_copy d i (src := mP.slice (Rect.unit (s := S8x4x20000) off S8x4x512.size h) hst) (dst := bP.slice (Rect.unit (s := S8x4x640) ![0, 0, 0] S8x4x512.size hp) hst2) (srcw := mP.slice (Rect.unit (s := S8x4x20000) off' S8x4x512.size h') hst') (dstw := bP.slice (Rect.unit (s := S8x4x640) ![0, 0, 0] S8x4x512.size hp') hst2')
    (hsrc := hs1) (hdst := hd1) (hsem := ht1) (hsrcw := hs2) (hdstw := hd2) (k := k) (Q := Q)
    (Ss := Finset.univ) (Sd := Finset.univ) (sem := sem) (q := q0) (fs := propT a0) (fd := f) (W := W) hO (bP.slice (Rect.unit (s := S8x4x640) ![0, 0, 0] S8x4x512.size (by decide)) (fun _ => rfl)).view.dmaCredit rfl rfl (by decide) (Finset.subset_univ _) (Finset.subset_univ _) (fun _ _ => rfl)
  iintro ⟨#Hlv, HA, HP, Hv, HO⟩ Hk
  iapply hc $$ [HA HP Hv HO]
  · isplitr; · iexact Hlv
    isplitl [HA]; · iexact HA
    isplitl [HP]; · iexact HP
    isplitl [Hv] <;> iassumption
  iintro ⟨HA, HP, Hv, HO⟩
  iapply Hk
  isplitl [HA]; · iexact HA
  isplitl [HP]
  · iexists _
    isplitr
    pick_goal 2
    · iexact HP
    · ipureintro; exact prop_part i a0 h hp hst hst2 ho hcn f
  isplitl [Hv] <;> iassumption

theorem st_propT {sem : DmaSem sig} {hs1 hd1 ht1 hs2 hd2} (hO : ∀ g, O g none = 0) {α : Type} {k : PUnit → Prog (TpuEff nD τ sig (Elt F) Λ₀ (thr d i).2) α} {Q : α → sProp 𝕄} {f : Vec F S1024 .f32} :
    (iprop(levAts (K (F := F)).L (K (F := F)).lev ∗ (gT d i ↦{q0} (tailT a0)) ∗ (lT d i ↦{fullShare} f) ∗ semVal (thr d i, .dma sem) 0 ∗ OW d i O W) : sProp 𝕄) ⊢
    iprop((((gT d i ↦{q0} (tailT a0)) ∗ (lT d i ↦{fullShare} (tailT a0)) ∗ semVal (thr d i, .dma sem) 0 ∗ OW d i O W) -∗ wp frame (wpE (defs₀ (F := F)) 𝒱₀ (thr d i) none) Set.univ (k ⟨⟩) Q) -∗
      wp frame (wpE (defs₀ (F := F)) 𝒱₀ (thr d i) none) Set.univ (.op (.enqueueDma mT (.here bT) (.dma sem) hs1 hd1 ht1) fun _ => .op (.waitDma2 sem mT bT hs2 hd2) k) Q) :=
  st_copy d i (src := mT) (dst := bT) (srcw := mT) (dstw := bT)
    (Ss := Finset.univ) (Sd := Finset.univ) (sem := sem) (q := q0) (fs := tailT a0) (fd := f) hO bT.view.dmaCredit rfl rfl (by decide) (Finset.subset_univ _) (Finset.subset_univ _)
    (fun y _ => congrFun (View.write_whole_univ cc0_scratch7 f _) y)

theorem st_tailC {hp hp' : ∀ a, (![0, 0] : Fin 2 → ℕ) a + S8x896.size a ≤ S8x1792.size a} {h h' : ∀ a, (![0, 559104] : Fin 2 → ℕ) a + S8x896.size a ≤ S8x560000.size a} {hst hst' hst2 hst2'}
    {sem : DmaSem sig} {hs1 hd1 ht1 hs2 hd2} (hO : ∀ g, O g none = 0) {α : Type} {k : PUnit → Prog (TpuEff nD τ sig (Elt F) Λ₀ (thr d i).2) α} {Q : α → sProp 𝕄} {f : Vec F S8x1792 .f32} :
    (iprop(levAts (K (F := F)).L (K (F := F)).lev ∗ (gC d i ↦{q0} fc) ∗ (lC0 d i ↦{fullShare} f) ∗ semVal (thr d i, .dma sem) 0 ∗ OW d i O W) : sProp 𝕄) ⊢
    iprop((((gC d i ↦{q0} fc) ∗ (∃ g : Vec F S8x1792 .f32, ⌜TailC fc g⌝ ∗ (lC0 d i ↦{fullShare} g)) ∗ semVal (thr d i, .dma sem) 0 ∗ OW d i O W) -∗ wp frame (wpE (defs₀ (F := F)) 𝒱₀ (thr d i) none) Set.univ (k ⟨⟩) Q) -∗
      wp frame (wpE (defs₀ (F := F)) 𝒱₀ (thr d i) none) Set.univ (.op (.enqueueDma (mC.slice (Rect.unit (s := S8x560000) ![0, 559104] S8x896.size h) hst) (.here (bC0.slice (Rect.unit (s := S8x1792) ![0, 0] S8x896.size hp) hst2)) (.dma sem) hs1 hd1 ht1) fun _ =>
        .op (.waitDma2 sem (mC.slice (Rect.unit (s := S8x560000) ![0, 559104] S8x896.size h') hst') (bC0.slice (Rect.unit (s := S8x1792) ![0, 0] S8x896.size hp') hst2') hs2 hd2) k) Q) := by
  have hc := st_copy d i (src := mC.slice (Rect.unit (s := S8x560000) ![0, 559104] S8x896.size h) hst) (dst := bC0.slice (Rect.unit (s := S8x1792) ![0, 0] S8x896.size hp) hst2) (srcw := mC.slice (Rect.unit (s := S8x560000) ![0, 559104] S8x896.size h') hst') (dstw := bC0.slice (Rect.unit (s := S8x1792) ![0, 0] S8x896.size hp') hst2')
    (hsrc := hs1) (hdst := hd1) (hsem := ht1) (hsrcw := hs2) (hdstw := hd2) (k := k) (Q := Q)
    (Ss := Finset.univ) (Sd := Finset.univ) (sem := sem) (q := q0) (fs := fc) (fd := f) (W := W) hO (bC0.slice (Rect.unit (s := S8x1792) ![0, 0] S8x896.size (by decide)) (fun _ => rfl)).view.dmaCredit rfl rfl (by decide) (Finset.subset_univ _) (Finset.subset_univ _) (fun _ _ => rfl)
  iintro ⟨#Hlv, HA, HP, Hv, HO⟩ Hk
  iapply hc $$ [HA HP Hv HO]
  · isplitr; · iexact Hlv
    isplitl [HA]; · iexact HA
    isplitl [HP]; · iexact HP
    isplitl [Hv] <;> iassumption
  iintro ⟨HA, HP, Hv, HO⟩
  iapply Hk
  isplitl [HA]; · iexact HA
  isplitl [HP]
  · iexists _
    isplitr
    pick_goal 2
    · iexact HP
    · ipureintro; exact tail_C h hp hst hst2 rfl fc f
  isplitl [Hv] <;> iassumption

theorem st_tailO {hp hp' : ∀ a, (![0, 0] : Fin 2 → ℕ) a + S8x896.size a ≤ S8x1792.size a} {h h' : ∀ a, (![0, 559104] : Fin 2 → ℕ) a + S8x896.size a ≤ S8x560000.size a} {hst hst' hst2 hst2'}
    {sem : DmaSem sig} {hs1 hd1 ht1 hs2 hd2} (hO : ∀ g, O g none = 0) {α : Type} {k : PUnit → Prog (TpuEff nD τ sig (Elt F) Λ₀ (thr d i).2) α} {Q : α → sProp 𝕄} {f : Vec F S8x1792 .f32} :
    (iprop(levAts (K (F := F)).L (K (F := F)).lev ∗ (gO d i ↦{q0} fc) ∗ (lO0 d i ↦{fullShare} f) ∗ semVal (thr d i, .dma sem) 0 ∗ OW d i O W) : sProp 𝕄) ⊢
    iprop((((gO d i ↦{q0} fc) ∗ (∃ g : Vec F S8x1792 .f32, ⌜TailC fc g⌝ ∗ (lO0 d i ↦{fullShare} g)) ∗ semVal (thr d i, .dma sem) 0 ∗ OW d i O W) -∗ wp frame (wpE (defs₀ (F := F)) 𝒱₀ (thr d i) none) Set.univ (k ⟨⟩) Q) -∗
      wp frame (wpE (defs₀ (F := F)) 𝒱₀ (thr d i) none) Set.univ (.op (.enqueueDma (mO.slice (Rect.unit (s := S8x560000) ![0, 559104] S8x896.size h) hst) (.here (bO0.slice (Rect.unit (s := S8x1792) ![0, 0] S8x896.size hp) hst2)) (.dma sem) hs1 hd1 ht1) fun _ =>
        .op (.waitDma2 sem (mO.slice (Rect.unit (s := S8x560000) ![0, 559104] S8x896.size h') hst') (bO0.slice (Rect.unit (s := S8x1792) ![0, 0] S8x896.size hp') hst2') hs2 hd2) k) Q) := by
  have hc := st_copy d i (src := mO.slice (Rect.unit (s := S8x560000) ![0, 559104] S8x896.size h) hst) (dst := bO0.slice (Rect.unit (s := S8x1792) ![0, 0] S8x896.size hp) hst2) (srcw := mO.slice (Rect.unit (s := S8x560000) ![0, 559104] S8x896.size h') hst') (dstw := bO0.slice (Rect.unit (s := S8x1792) ![0, 0] S8x896.size hp') hst2')
    (hsrc := hs1) (hdst := hd1) (hsem := ht1) (hsrcw := hs2) (hdstw := hd2) (k := k) (Q := Q)
    (Ss := Finset.univ) (Sd := Finset.univ) (sem := sem) (q := q0) (fs := fc) (fd := f) (W := W) hO (bO0.slice (Rect.unit (s := S8x1792) ![0, 0] S8x896.size (by decide)) (fun _ => rfl)).view.dmaCredit rfl rfl (by decide) (Finset.subset_univ _) (Finset.subset_univ _) (fun _ _ => rfl)
  iintro ⟨#Hlv, HA, HP, Hv, HO⟩ Hk
  iapply hc $$ [HA HP Hv HO]
  · isplitr; · iexact Hlv
    isplitl [HA]; · iexact HA
    isplitl [HP]; · iexact HP
    isplitl [Hv] <;> iassumption
  iintro ⟨HA, HP, Hv, HO⟩
  iapply Hk
  isplitl [HA]; · iexact HA
  isplitl [HP]
  · iexists _
    isplitr
    pick_goal 2
    · iexact HP
    · ipureintro; exact tail_O h hp hst hst2 rfl fc f
  isplitl [Hv] <;> iassumption

/-! ### The loops -/

variable [Buckets F]

theorem main_loop (hO : ∀ g, O g none = 0) (v6 : BitVec 32) {α : Type} {k : Unit → Prog (TpuEff nD τ sig (Elt F) Λ₀ (thr d i).2) α} {Q : α → sProp 𝕄} :
    (iprop(levAts (K (F := F)).L (K (F := F)).lev ∗ Inv d i q0 q1 a0 fc fo O W 0) : sProp 𝕄) ⊢
    iprop((Inv d i q0 q1 a0 fc fo O W (2 * cnt i) -∗ wp frame (wpE (defs₀ (F := F)) 𝒱₀ (thr d i) none) Set.univ (k ()) Q) -∗ wp frame (wpE (defs₀ (F := F)) 𝒱₀ (thr d i) none) Set.univ (Scf.Loop.for (k0_t1_loop i) (k0_t1_ok i) ⟨⟩ (k0_t1_body (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 v6) >>= k) Q) := by
  have hw := Scf.wp_for_bind frame (wpE (defs₀ (F := F)) 𝒱₀ (thr d i) none) Set.univ _ _ _ (k0_t1_ok i) () (k0_t1_body (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 v6)
    (fun h _ => (iprop(levAts (K (F := F)).L (K (F := F)).lev ∗ Inv d i q0 q1 a0 fc fo O W h) : sProp 𝕄)) ?_ (kk := k) (Q := Q)
  · dsimp only at hw
    refine hw.trans (wand_mono_left ?_)
    iintro Hk %u ⟨-, H⟩
    iapply Hk
    rw [← trips1 i]
    iexact H
  · intro t acc
    rcases (by omega : t.val % 2 = 0 ∨ t.val % 2 = 1) with ht | ht
    · iintro ⟨#Hlv, H⟩
      iapply (wp_frame_l frame (wpE (defs₀ (F := F)) 𝒱₀ (thr d i) none) Set.univ (R := (levAts (K (F := F)).L (K (F := F)).lev : sProp 𝕄)))
      isplitr; · iexact Hlv
      iapply (step_even d i q0 q1 a0 fc fo O W hO v6 t ht)
      isplitr; · iexact Hlv
      iexact H
    · iintro ⟨#Hlv, H⟩
      iapply (wp_frame_l frame (wpE (defs₀ (F := F)) 𝒱₀ (thr d i) none) Set.univ (R := (levAts (K (F := F)).L (K (F := F)).lev : sProp 𝕄)))
      isplitr; · iexact Hlv
      iapply (step_odd d i q0 q1 a0 fc fo O W hO v6 t ht)
      isplitr; · iexact Hlv
      iexact H

theorem skip_loop (v6 v35 : BitVec 32) {α : Type} {k : Unit → Prog (TpuEff nD τ sig (Elt F) Λ₀ (thr d i).2) α} {Q : α → sProp 𝕄} :
    (wp frame (wpE (defs₀ (F := F)) 𝒱₀ (thr d i) none) Set.univ (k ()) Q : sProp 𝕄) ⊢ wp frame (wpE (defs₀ (F := F)) 𝒱₀ (thr d i) none) Set.univ (Scf.Loop.for (k0_t4_loop i) (k0_t4_ok i) ⟨⟩ (k0_t4_body (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 v6 v35) >>= k) Q :=
  Scf.wp_for0_bind frame (wpE (defs₀ (F := F)) 𝒱₀ (thr d i) none) Set.univ _ _ _ (k0_t4_ok i) (k0_t4_body (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 v6 v35) (trips4 i) k Q _ Entails.rfl

theorem cond3 : ∀ i : grid0.Coords, Scalar.cmpi .ne (Scalar.extui (Scalar.cmpi .eq (Scalar.addi (Scalar.muli (BitVec.ofNat 32 (i 0).val) 16#32) (BitVec.ofNat 32 (i 1).val)) 31#32) : BitVec 32) 0#32 = 1#1 ↔ wid i = 31 := by
  decide +kernel

end Cert.Proof
-- ==== Proof.Tile.lean ====
/- One tile, from its start to its end. -/
module

public import proofs.«01_k».proof.Proof.Loop

@[expose] public section

set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

local notation "𝕄" => MT nD τ sig (HIx 1) (Elt F) ℕ UU ℕ

variable (q0 q1 qp qt : PosShare TreeShare) (a0 : Vec F S8x20000x4 .f32) (fc fo : Vec F S8x560000 .f32) (O : CellTallies nD τ sig (HIx 1)) (W : Waits sig (HIx 1))

/-- What a tile reads. -/
def Reads : sProp 𝕄 :=
  iprop((gC d i ↦{q0} fc) ∗ (gO d i ↦{q0} fo) ∗ (gC d i ↦{q1} fc) ∗ (gO d i ↦{q1} fo) ∗ (gP d i ↦{qp} (propT a0)) ∗ (gT d i ↦{qt} (tailT a0)))

variable [Buckets F]

/-- What a tile holds at its end: its columns of the boxes and its part of the confidences, both right. -/
def Done : sProp 𝕄 :=
  iprop((∃ f : Vec F S8x4x20096 .f32, ⌜BoxDone i a0 fc fo f⌝ ∗ (gB d i ↦[ownB i]{fullShare} f)) ∗ (∃ f : Vec F S160000 .f32, ⌜ConfDone i fc 8 f⌝ ∗ (gF d i ↦[ownF i]{fullShare} f)))

theorem conf_none (f : Vec F S5376 .f32) : ConfOk i fc 0 f := fun y h => absurd h (by omega)

theorem done_none (f : Vec F S8x4x20096 .f32) : DoneOk i a0 fc fo (0 / 2) f := fun y h1 h2 => absurd h2 (by omega)

theorem conf_start (f : Vec F S160000 .f32) : ConfDone i fc 0 f := by
  unfold ConfDone
  intros
  omega

theorem box_done_of (hw : ¬ wid i = 31) {f : Vec F S8x4x20096 .f32} (h : DoneOk i a0 fc fo (cnt i) f) : BoxDone i a0 fc fo f := by
  intro y h1 h2 h3
  refine h y h1 ?_
  unfold topB at h2
  rw [if_neg hw] at h2
  omega

theorem tile_A (hw : wid i < 28) (hO : ∀ g, O g none = 0) :
    (iprop(levAts (K (F := F)).L (K (F := F)).lev ∗ Reads d i q0 q1 qp qt a0 fc fo ∗ (∃ f, gB d i ↦[ownB i]{fullShare} f) ∗ (∃ f, gF d i ↦[ownF i]{fullShare} f) ∗ ownBufs (thr d i) ∗ ownSems0 (thr d i) ∗ owes (thr d i) O W) : sProp 𝕄) ⊢
    wp frame (wpE (defs₀ (F := F)) 𝒱₀ (thr d i) none) Set.univ (cc0_run (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31) fun _ =>
      iprop(Reads d i q0 q1 qp qt a0 fc fo ∗ Done d i a0 fc fo ∗ ownBufs (thr d i) ∗ ownSems0 (thr d i) ∗ OW d i O W) := by
  have h1 : k0_cond1 i = 1#1 := (cond1 i).2 (by omega)
  have h2 : ¬ k0_cond2 i = 1#1 := fun h => by have := (cond2 i).1 h; omega
  have h3 : ¬ Scalar.cmpi .ne (Scalar.extui (Scalar.cmpi .eq (Scalar.addi (Scalar.muli (BitVec.ofNat 32 (i 0).val) 16#32) (BitVec.ofNat 32 (i 1).val)) 31#32) : BitVec 32) 0#32 = 1#1 := fun h => by have := (cond3 i).1 h; omega
  have h12 : ¬ k0_cond12 i = 1#1 := fun h => by have := (cond12 i).1 h; omega
  have h13 : k0_cond13 i = 1#1 := (cond13 i).2 (by omega)
  have h14 : ¬ k0_cond14 i = 1#1 := fun h => by have := (cond14 i).1 h; omega
  have h15 : ¬ k0_cond15 i = 1#1 := fun h => by have := (cond15 i).1 h; omega
  have hc5 := cnt_le i
  have hcg := cnt_ge i
  have hl : lenF i = 640 := by unfold lenF; rw [if_pos hw]
  rw [cc0_run_eq_skeleton]
  unfold cc0_run_skel
  simp only [dif_neg h12, dif_neg h14, dif_neg h15]
  simp only [dif_pos h13]
  simp only [k0_part74_eq_skeleton, k0_part68_eq_skeleton, k0_part69_eq_skeleton]
  unfold k0_part74_skel k0_part68_skel k0_part69_skel
  simp only [dif_pos h1, dif_neg h2, Prog.lift, Prog.bind_op, Prog.bind_ret, Prog.pure_eq_ret, bind_assoc]
  simp only [dif_neg h3, Prog.lift, Prog.bind_op, Prog.bind_ret, Prog.pure_eq_ret, bind_assoc]
  rw [ownSems0_split, ownBufs_split]
  unfold Reads
  iintro ⟨#Hlv, ⟨HC0, HO0, HC1, HO1, HgP, HgT⟩, ⟨%fB, HgB⟩, ⟨%fF, HgF⟩, ⟨⟨%b0, H0⟩, ⟨%b1, H1⟩, ⟨%b2, H2⟩, ⟨%b3, H3⟩, ⟨%b4, HP⟩, ⟨%b5, HB⟩, ⟨%b6, HF⟩, ⟨%b7, HT⟩, Hbufs⟩, ⟨H8, H9, HS⟩, HW⟩
  ihave HO : OW d i O W $$ [HW]
  · unfold OW
    iexists W
    isplitr
    · ipureintro; exact fun p hp => Or.inl hp
    iexact HW
  iapply (st_fire0 d i (n := col i 0) (off1c i 0) (off1c i 0)) $$ [H8 H0 H2 HC0 HO0]
  · unfold Rest0
    isplitl [H8]; · iexact H8
    isplitl [H0]; · iexact H0
    isplitl [H2]; · iexact H2
    isplitl [HC0] <;> iassumption
  iintro Hf0
  iapply (st_fire1 d i (n := col i 1) (off1c i 1) (off1c i 1)) $$ [H9 H1 H3 HC1 HO1]
  · unfold Rest1
    isplitl [H9]; · iexact H9
    isplitl [H1]; · iexact H1
    isplitl [H3]; · iexact H3
    isplitl [HC1] <;> iassumption
  iintro Hf1
  ihave HSS := sems_take d i cc0_scoped0.sem (by decide) (by decide) (by decide) $$ HS
  icases HSS with ⟨Hv, HS⟩
  iapply (st_prop1 d i qp a0 O W (off2c i) hO) $$ [HgP HP Hv HO]
  · isplitr; · iexact Hlv
    isplitl [HgP]; · iexact HgP
    isplitl [HP]; · iexact HP
    isplitl [Hv] <;> iassumption
  iintro ⟨HgP, ⟨%fP, %hP, HP⟩, Hv, HO⟩
  ispecialize HS $$ Hv
  ihave HSS := sems_take d i cc0_scoped3.sem (by decide) (by decide) (by decide) $$ HS
  icases HSS with ⟨Hv, HS⟩
  iapply (main_loop d i q0 q1 a0 fc fo O W hO _) $$ [HP HB HF HgB Hv HO Hf0 Hf1]
  · isplitr; · iexact Hlv
    unfold Inv
    rw [pipe0_fly d i q0 fc fo (show 2 * ((0 + 1) / 2) < 2 * cnt i by omega), pipe1_fly d i q1 fc fo (show 2 * (0 / 2) + 1 < 2 * cnt i by omega)]
    isplitl [HP HB HF HgB Hv HO]
    · unfold Work
      iexists fP, b5, b6, fB
      isplitr
      · ipureintro
        exact ⟨hP, conf_none i fc b6, done_none i a0 fc fo fB, fun h => absurd h (by decide)⟩
      isplitl [HP]; · iexact HP
      isplitl [HB]; · iexact HB
      isplitl [HF]; · iexact HF
      isplitl [HgB]; · iexact HgB
      isplitl [Hv] <;> iassumption
    isplitl [Hf0]
    · iexact Hf0
    · iexact Hf1
  iintro HI
  unfold Inv
  rw [pipe0_rest d i q0 fc fo (show ¬ 2 * ((2 * cnt i + 1) / 2) < 2 * cnt i by omega), pipe1_rest d i q1 fc fo (show ¬ 2 * (2 * cnt i / 2) + 1 < 2 * cnt i by omega)]
  unfold Work Rest0 Rest1
  icases HI with ⟨⟨%gP, %gBb, %gFf, %gBox, %hWk, HP, HB, HF, HgB, Hv, HO⟩, ⟨%c0, %c2, H8, H0, H2, HC0, HO0⟩, ⟨%c1, %c3, H9, H1, H3, HC1, HO1⟩⟩
  obtain ⟨-, hCf, hDn, -⟩ := hWk
  rw [show 2 * cnt i / 2 = cnt i by omega] at hDn
  ispecialize HS $$ Hv
  iapply (skip_loop d i _ _)
  have hFull := conf_full_of i fc (by omega) hCf
  have hBox := box_done_of i a0 fc fo (by omega) hDn
  ihave HQ : Confs d i fc O W 0 _ $$ [HF HgF HO]
  · unfold Confs
    isplitl [HF]; · iexact HF
    isplitl [HgF]
    · iexists fF
      isplitr
      · ipureintro; exact conf_start i fc fF
      iexact HgF
    iexact HO
  ihave HSS := sems_take d i cc0_scoped8.sem (by decide) (by decide) (by decide) $$ HS
  icases HSS with ⟨Hv, HS⟩
  iapply (st_conf640 d i fc O W (r := 0) (by decide) (off19c i 0) rfl hl hO hFull) $$ [HQ Hv]
  · isplitr; · iexact Hlv
    isplitl [HQ] <;> iassumption
  iintro ⟨HQ, Hv⟩
  ispecialize HS $$ Hv
  ihave HSS := sems_take d i cc0_scoped9.sem (by decide) (by decide) (by decide) $$ HS
  icases HSS with ⟨Hv, HS⟩
  iapply (st_conf640 d i fc O W (r := 1) (by decide) (off19c i 1) rfl hl hO hFull) $$ [HQ Hv]
  · isplitr; · iexact Hlv
    isplitl [HQ] <;> iassumption
  iintro ⟨HQ, Hv⟩
  ispecialize HS $$ Hv
  ihave HSS := sems_take d i cc0_scoped10.sem (by decide) (by decide) (by decide) $$ HS
  icases HSS with ⟨Hv, HS⟩
  iapply (st_conf640 d i fc O W (r := 2) (by decide) (off19c i 2) rfl hl hO hFull) $$ [HQ Hv]
  · isplitr; · iexact Hlv
    isplitl [HQ] <;> iassumption
  iintro ⟨HQ, Hv⟩
  ispecialize HS $$ Hv
  ihave HSS := sems_take d i cc0_scoped11.sem (by decide) (by decide) (by decide) $$ HS
  icases HSS with ⟨Hv, HS⟩
  iapply (st_conf640 d i fc O W (r := 3) (by decide) (off19c i 3) rfl hl hO hFull) $$ [HQ Hv]
  · isplitr; · iexact Hlv
    isplitl [HQ] <;> iassumption
  iintro ⟨HQ, Hv⟩
  ispecialize HS $$ Hv
  ihave HSS := sems_take d i cc0_scoped12.sem (by decide) (by decide) (by decide) $$ HS
  icases HSS with ⟨Hv, HS⟩
  iapply (st_conf640 d i fc O W (r := 4) (by decide) (off19c i 4) rfl hl hO hFull) $$ [HQ Hv]
  · isplitr; · iexact Hlv
    isplitl [HQ] <;> iassumption
  iintro ⟨HQ, Hv⟩
  ispecialize HS $$ Hv
  ihave HSS := sems_take d i cc0_scoped13.sem (by decide) (by decide) (by decide) $$ HS
  icases HSS with ⟨Hv, HS⟩
  iapply (st_conf640 d i fc O W (r := 5) (by decide) (off19c i 5) rfl hl hO hFull) $$ [HQ Hv]
  · isplitr; · iexact Hlv
    isplitl [HQ] <;> iassumption
  iintro ⟨HQ, Hv⟩
  ispecialize HS $$ Hv
  ihave HSS := sems_take d i cc0_scoped14.sem (by decide) (by decide) (by decide) $$ HS
  icases HSS with ⟨Hv, HS⟩
  iapply (st_conf640 d i fc O W (r := 6) (by decide) (off19c i 6) rfl hl hO hFull) $$ [HQ Hv]
  · isplitr; · iexact Hlv
    isplitl [HQ] <;> iassumption
  iintro ⟨HQ, Hv⟩
  ispecialize HS $$ Hv
  ihave HSS := sems_take d i cc0_scoped15.sem (by decide) (by decide) (by decide) $$ HS
  icases HSS with ⟨Hv, HS⟩
  iapply (st_conf640 d i fc O W (r := 7) (by decide) (off19c i 7) rfl hl hO hFull) $$ [HQ Hv]
  · isplitr; · iexact Hlv
    isplitl [HQ] <;> iassumption
  iintro ⟨HQ, Hv⟩
  ispecialize HS $$ Hv
  rw [wp_ret]
  imodintro
  unfold Confs Done
  icases HQ with ⟨HF, HgF, HO⟩
  isplitl [HC0 HO0 HC1 HO1 HgP HgT]
  · isplitl [HC0]; · iexact HC0
    isplitl [HO0]; · iexact HO0
    isplitl [HC1]; · iexact HC1
    isplitl [HO1]; · iexact HO1
    isplitl [HgP] <;> iassumption
  isplitl [HgB HgF]
  · isplitl [HgB]
    · iexists _
      isplitr
      pick_goal 2
      · iexact HgB
      · ipureintro; exact hBox
    · iexact HgF
  isplitl [H0 H1 H2 H3 HP HB HF HT Hbufs]
  · isplitl [H0]; · iexists _; iexact H0
    isplitl [H1]; · iexists _; iexact H1
    isplitl [H2]; · iexists _; iexact H2
    isplitl [H3]; · iexists _; iexact H3
    isplitl [HP]; · iexists _; iexact HP
    isplitl [HB]; · iexists _; iexact HB
    isplitl [HF]; · iexists _; iexact HF
    isplitl [HT]; · iexists _; iexact HT
    iexact Hbufs
  isplitr [HO]
  · isplitl [H8]; · iexact H8
    isplitl [H9] <;> iassumption
  iexact HO

theorem tile_B (hw : 28 ≤ wid i ∧ wid i < 31) (hO : ∀ g, O g none = 0) :
    (iprop(levAts (K (F := F)).L (K (F := F)).lev ∗ Reads d i q0 q1 qp qt a0 fc fo ∗ (∃ f, gB d i ↦[ownB i]{fullShare} f) ∗ (∃ f, gF d i ↦[ownF i]{fullShare} f) ∗ ownBufs (thr d i) ∗ ownSems0 (thr d i) ∗ owes (thr d i) O W) : sProp 𝕄) ⊢
    wp frame (wpE (defs₀ (F := F)) 𝒱₀ (thr d i) none) Set.univ (cc0_run (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31) fun _ =>
      iprop(Reads d i q0 q1 qp qt a0 fc fo ∗ Done d i a0 fc fo ∗ ownBufs (thr d i) ∗ ownSems0 (thr d i) ∗ OW d i O W) := by
  have h1 : ¬ k0_cond1 i = 1#1 := fun h => by have := (cond1 i).1 h; omega
  have h2 : k0_cond2 i = 1#1 := (cond2 i).2 (by omega)
  have h3 : ¬ Scalar.cmpi .ne (Scalar.extui (Scalar.cmpi .eq (Scalar.addi (Scalar.muli (BitVec.ofNat 32 (i 0).val) 16#32) (BitVec.ofNat 32 (i 1).val)) 31#32) : BitVec 32) 0#32 = 1#1 := fun h => by have := (cond3 i).1 h; omega
  have h12 : ¬ k0_cond12 i = 1#1 := fun h => by have := (cond12 i).1 h; omega
  have h13 : ¬ k0_cond13 i = 1#1 := fun h => by have := (cond13 i).1 h; omega
  have h14 : k0_cond14 i = 1#1 := (cond14 i).2 (by omega)
  have h15 : ¬ k0_cond15 i = 1#1 := fun h => by have := (cond15 i).1 h; omega
  have hc5 := cnt_le i
  have hcg := cnt_ge i
  have hcn : cnt i = 4 := by unfold cnt; rw [if_neg (by omega)]
  have hl : lenF i = 512 := by unfold lenF; rw [if_neg (by omega : ¬ wid i < 28), if_neg (by omega : ¬ wid i = 31)]
  rw [cc0_run_eq_skeleton]
  unfold cc0_run_skel
  simp only [dif_neg h12, dif_neg h13, dif_neg h15]
  simp only [dif_pos h14]
  simp only [k0_part74_eq_skeleton, k0_part70_eq_skeleton, k0_part71_eq_skeleton]
  unfold k0_part74_skel k0_part70_skel k0_part71_skel
  simp only [dif_neg h1, dif_pos h2, Prog.lift, Prog.bind_op, Prog.bind_ret, Prog.pure_eq_ret, bind_assoc]
  simp only [dif_neg h3, Prog.lift, Prog.bind_op, Prog.bind_ret, Prog.pure_eq_ret, bind_assoc]
  rw [ownSems0_split, ownBufs_split]
  unfold Reads
  iintro ⟨#Hlv, ⟨HC0, HO0, HC1, HO1, HgP, HgT⟩, ⟨%fB, HgB⟩, ⟨%fF, HgF⟩, ⟨⟨%b0, H0⟩, ⟨%b1, H1⟩, ⟨%b2, H2⟩, ⟨%b3, H3⟩, ⟨%b4, HP⟩, ⟨%b5, HB⟩, ⟨%b6, HF⟩, ⟨%b7, HT⟩, Hbufs⟩, ⟨H8, H9, HS⟩, HW⟩
  ihave HO : OW d i O W $$ [HW]
  · unfold OW
    iexists W
    isplitr
    · ipureintro; exact fun p hp => Or.inl hp
    iexact HW
  iapply (st_fire0 d i (n := col i 0) (off1c i 0) (off1c i 0)) $$ [H8 H0 H2 HC0 HO0]
  · unfold Rest0
    isplitl [H8]; · iexact H8
    isplitl [H0]; · iexact H0
    isplitl [H2]; · iexact H2
    isplitl [HC0] <;> iassumption
  iintro Hf0
  iapply (st_fire1 d i (n := col i 1) (off1c i 1) (off1c i 1)) $$ [H9 H1 H3 HC1 HO1]
  · unfold Rest1
    isplitl [H9]; · iexact H9
    isplitl [H1]; · iexact H1
    isplitl [H3]; · iexact H3
    isplitl [HC1] <;> iassumption
  iintro Hf1
  ihave HSS := sems_take d i cc0_scoped1.sem (by decide) (by decide) (by decide) $$ HS
  icases HSS with ⟨Hv, HS⟩
  iapply (st_prop2 d i qp a0 O W (off3c i) hcn hO) $$ [HgP HP Hv HO]
  · isplitr; · iexact Hlv
    isplitl [HgP]; · iexact HgP
    isplitl [HP]; · iexact HP
    isplitl [Hv] <;> iassumption
  iintro ⟨HgP, ⟨%fP, %hP, HP⟩, Hv, HO⟩
  ispecialize HS $$ Hv
  ihave HSS := sems_take d i cc0_scoped3.sem (by decide) (by decide) (by decide) $$ HS
  icases HSS with ⟨Hv, HS⟩
  iapply (main_loop d i q0 q1 a0 fc fo O W hO _) $$ [HP HB HF HgB Hv HO Hf0 Hf1]
  · isplitr; · iexact Hlv
    unfold Inv
    rw [pipe0_fly d i q0 fc fo (show 2 * ((0 + 1) / 2) < 2 * cnt i by omega), pipe1_fly d i q1 fc fo (show 2 * (0 / 2) + 1 < 2 * cnt i by omega)]
    isplitl [HP HB HF HgB Hv HO]
    · unfold Work
      iexists fP, b5, b6, fB
      isplitr
      · ipureintro
        exact ⟨hP, conf_none i fc b6, done_none i a0 fc fo fB, fun h => absurd h (by decide)⟩
      isplitl [HP]; · iexact HP
      isplitl [HB]; · iexact HB
      isplitl [HF]; · iexact HF
      isplitl [HgB]; · iexact HgB
      isplitl [Hv] <;> iassumption
    isplitl [Hf0]
    · iexact Hf0
    · iexact Hf1
  iintro HI
  unfold Inv
  rw [pipe0_rest d i q0 fc fo (show ¬ 2 * ((2 * cnt i + 1) / 2) < 2 * cnt i by omega), pipe1_rest d i q1 fc fo (show ¬ 2 * (2 * cnt i / 2) + 1 < 2 * cnt i by omega)]
  unfold Work Rest0 Rest1
  icases HI with ⟨⟨%gP, %gBb, %gFf, %gBox, %hWk, HP, HB, HF, HgB, Hv, HO⟩, ⟨%c0, %c2, H8, H0, H2, HC0, HO0⟩, ⟨%c1, %c3, H9, H1, H3, HC1, HO1⟩⟩
  obtain ⟨-, hCf, hDn, -⟩ := hWk
  rw [show 2 * cnt i / 2 = cnt i by omega] at hDn
  ispecialize HS $$ Hv
  iapply (skip_loop d i _ _)
  have hFull := conf_full_of i fc (by omega) hCf
  have hBox := box_done_of i a0 fc fo (by omega) hDn
  ihave HQ : Confs d i fc O W 0 _ $$ [HF HgF HO]
  · unfold Confs
    isplitl [HF]; · iexact HF
    isplitl [HgF]
    · iexists fF
      isplitr
      · ipureintro; exact conf_start i fc fF
      iexact HgF
    iexact HO
  ihave HSS := sems_take d i cc0_scoped16.sem (by decide) (by decide) (by decide) $$ HS
  icases HSS with ⟨Hv, HS⟩
  iapply (st_conf512 d i fc O W (r := 0) (by decide) (off20c i 0) rfl hl hO hFull) $$ [HQ Hv]
  · isplitr; · iexact Hlv
    isplitl [HQ] <;> iassumption
  iintro ⟨HQ, Hv⟩
  ispecialize HS $$ Hv
  ihave HSS := sems_take d i cc0_scoped17.sem (by decide) (by decide) (by decide) $$ HS
  icases HSS with ⟨Hv, HS⟩
  iapply (st_conf512 d i fc O W (r := 1) (by decide) (off20c i 1) rfl hl hO hFull) $$ [HQ Hv]
  · isplitr; · iexact Hlv
    isplitl [HQ] <;> iassumption
  iintro ⟨HQ, Hv⟩
  ispecialize HS $$ Hv
  ihave HSS := sems_take d i cc0_scoped18.sem (by decide) (by decide) (by decide) $$ HS
  icases HSS with ⟨Hv, HS⟩
  iapply (st_conf512 d i fc O W (r := 2) (by decide) (off20c i 2) rfl hl hO hFull) $$ [HQ Hv]
  · isplitr; · iexact Hlv
    isplitl [HQ] <;> iassumption
  iintro ⟨HQ, Hv⟩
  ispecialize HS $$ Hv
  ihave HSS := sems_take d i cc0_scoped19.sem (by decide) (by decide) (by decide) $$ HS
  icases HSS with ⟨Hv, HS⟩
  iapply (st_conf512 d i fc O W (r := 3) (by decide) (off20c i 3) rfl hl hO hFull) $$ [HQ Hv]
  · isplitr; · iexact Hlv
    isplitl [HQ] <;> iassumption
  iintro ⟨HQ, Hv⟩
  ispecialize HS $$ Hv
  ihave HSS := sems_take d i cc0_scoped20.sem (by decide) (by decide) (by decide) $$ HS
  icases HSS with ⟨Hv, HS⟩
  iapply (st_conf512 d i fc O W (r := 4) (by decide) (off20c i 4) rfl hl hO hFull) $$ [HQ Hv]
  · isplitr; · iexact Hlv
    isplitl [HQ] <;> iassumption
  iintro ⟨HQ, Hv⟩
  ispecialize HS $$ Hv
  ihave HSS := sems_take d i cc0_scoped21.sem (by decide) (by decide) (by decide) $$ HS
  icases HSS with ⟨Hv, HS⟩
  iapply (st_conf512 d i fc O W (r := 5) (by decide) (off20c i 5) rfl hl hO hFull) $$ [HQ Hv]
  · isplitr; · iexact Hlv
    isplitl [HQ] <;> iassumption
  iintro ⟨HQ, Hv⟩
  ispecialize HS $$ Hv
  ihave HSS := sems_take d i cc0_scoped22.sem (by decide) (by decide) (by decide) $$ HS
  icases HSS with ⟨Hv, HS⟩
  iapply (st_conf512 d i fc O W (r := 6) (by decide) (off20c i 6) rfl hl hO hFull) $$ [HQ Hv]
  · isplitr; · iexact Hlv
    isplitl [HQ] <;> iassumption
  iintro ⟨HQ, Hv⟩
  ispecialize HS $$ Hv
  ihave HSS := sems_take d i cc0_scoped23.sem (by decide) (by decide) (by decide) $$ HS
  icases HSS with ⟨Hv, HS⟩
  iapply (st_conf512 d i fc O W (r := 7) (by decide) (off20c i 7) rfl hl hO hFull) $$ [HQ Hv]
  · isplitr; · iexact Hlv
    isplitl [HQ] <;> iassumption
  iintro ⟨HQ, Hv⟩
  ispecialize HS $$ Hv
  rw [wp_ret]
  imodintro
  unfold Confs Done
  icases HQ with ⟨HF, HgF, HO⟩
  isplitl [HC0 HO0 HC1 HO1 HgP HgT]
  · isplitl [HC0]; · iexact HC0
    isplitl [HO0]; · iexact HO0
    isplitl [HC1]; · iexact HC1
    isplitl [HO1]; · iexact HO1
    isplitl [HgP] <;> iassumption
  isplitl [HgB HgF]
  · isplitl [HgB]
    · iexists _
      isplitr
      pick_goal 2
      · iexact HgB
      · ipureintro; exact hBox
    · iexact HgF
  isplitl [H0 H1 H2 H3 HP HB HF HT Hbufs]
  · isplitl [H0]; · iexists _; iexact H0
    isplitl [H1]; · iexists _; iexact H1
    isplitl [H2]; · iexists _; iexact H2
    isplitl [H3]; · iexists _; iexact H3
    isplitl [HP]; · iexists _; iexact HP
    isplitl [HB]; · iexists _; iexact HB
    isplitl [HF]; · iexists _; iexact HF
    isplitl [HT]; · iexists _; iexact HT
    iexact Hbufs
  isplitr [HO]
  · isplitl [H8]; · iexact H8
    isplitl [H9] <;> iassumption
  iexact HO

theorem tile_C (hw : wid i = 31) (hO : ∀ g, O g none = 0) :
    (iprop(levAts (K (F := F)).L (K (F := F)).lev ∗ Reads d i q0 q1 qp qt a0 fc fo ∗ (∃ f, gB d i ↦[ownB i]{fullShare} f) ∗ (∃ f, gF d i ↦[ownF i]{fullShare} f) ∗ ownBufs (thr d i) ∗ ownSems0 (thr d i) ∗ owes (thr d i) O W) : sProp 𝕄) ⊢
    wp frame (wpE (defs₀ (F := F)) 𝒱₀ (thr d i) none) Set.univ (cc0_run (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31) fun _ =>
      iprop(Reads d i q0 q1 qp qt a0 fc fo ∗ Done d i a0 fc fo ∗ ownBufs (thr d i) ∗ ownSems0 (thr d i) ∗ OW d i O W) := by
  have h1 : ¬ k0_cond1 i = 1#1 := fun h => by have := (cond1 i).1 h; omega
  have h2 : k0_cond2 i = 1#1 := (cond2 i).2 (by omega)
  have h3 : Scalar.cmpi .ne (Scalar.extui (Scalar.cmpi .eq (Scalar.addi (Scalar.muli (BitVec.ofNat 32 (i 0).val) 16#32) (BitVec.ofNat 32 (i 1).val)) 31#32) : BitVec 32) 0#32 = 1#1 := (cond3 i).2 (by omega)
  have h12 : k0_cond12 i = 1#1 := (cond12 i).2 (by omega)
  have h13 : ¬ k0_cond13 i = 1#1 := fun h => by have := (cond13 i).1 h; omega
  have h14 : ¬ k0_cond14 i = 1#1 := fun h => by have := (cond14 i).1 h; omega
  have h15 : k0_cond15 i = 1#1 := (cond15 i).2 (by omega)
  have hc5 := cnt_le i
  have hcg := cnt_ge i
  have hcn : cnt i = 4 := by unfold cnt; rw [if_neg (by omega)]
  have hl : lenF i = 544 := by unfold lenF; rw [if_neg (by omega : ¬ wid i < 28), if_pos hw]
  rw [cc0_run_eq_skeleton]
  unfold cc0_run_skel
  simp only [dif_neg h13, dif_neg h14]
  simp only [dif_pos h12, dif_pos h15]
  simp only [k0_part74_eq_skeleton, k0_part67_eq_skeleton, k0_part72_eq_skeleton, k0_part73_eq_skeleton]
  unfold k0_part74_skel k0_part67_skel k0_part72_skel k0_part73_skel
  simp only [dif_neg h1, dif_pos h2, Prog.lift, Prog.bind_op, Prog.bind_ret, Prog.pure_eq_ret, bind_assoc]
  simp only [dif_pos h3, Prog.lift, Prog.bind_op, Prog.bind_ret, Prog.pure_eq_ret, bind_assoc]
  rw [ownSems0_split, ownBufs_split]
  unfold Reads
  iintro ⟨#Hlv, ⟨HC0, HO0, HC1, HO1, HgP, HgT⟩, ⟨%fB, HgB⟩, ⟨%fF, HgF⟩, ⟨⟨%b0, H0⟩, ⟨%b1, H1⟩, ⟨%b2, H2⟩, ⟨%b3, H3⟩, ⟨%b4, HP⟩, ⟨%b5, HB⟩, ⟨%b6, HF⟩, ⟨%b7, HT⟩, Hbufs⟩, ⟨H8, H9, HS⟩, HW⟩
  ihave HO : OW d i O W $$ [HW]
  · unfold OW
    iexists W
    isplitr
    · ipureintro; exact fun p hp => Or.inl hp
    iexact HW
  iapply (st_fire0 d i (n := col i 0) (off1c i 0) (off1c i 0)) $$ [H8 H0 H2 HC0 HO0]
  · unfold Rest0
    isplitl [H8]; · iexact H8
    isplitl [H0]; · iexact H0
    isplitl [H2]; · iexact H2
    isplitl [HC0] <;> iassumption
  iintro Hf0
  iapply (st_fire1 d i (n := col i 1) (off1c i 1) (off1c i 1)) $$ [H9 H1 H3 HC1 HO1]
  · unfold Rest1
    isplitl [H9]; · iexact H9
    isplitl [H1]; · iexact H1
    isplitl [H3]; · iexact H3
    isplitl [HC1] <;> iassumption
  iintro Hf1
  ihave HSS := sems_take d i cc0_scoped1.sem (by decide) (by decide) (by decide) $$ HS
  icases HSS with ⟨Hv, HS⟩
  iapply (st_prop2 d i qp a0 O W (off3c i) hcn hO) $$ [HgP HP Hv HO]
  · isplitr; · iexact Hlv
    isplitl [HgP]; · iexact HgP
    isplitl [HP]; · iexact HP
    isplitl [Hv] <;> iassumption
  iintro ⟨HgP, ⟨%fP, %hP, HP⟩, Hv, HO⟩
  ispecialize HS $$ Hv
  ihave HSS := sems_take d i cc0_scoped2.sem (by decide) (by decide) (by decide) $$ HS
  icases HSS with ⟨Hv, HS⟩
  iapply (st_propT d i qt a0 O W hO) $$ [HgT HT Hv HO]
  · isplitr; · iexact Hlv
    isplitl [HgT]; · iexact HgT
    isplitl [HT]; · iexact HT
    isplitl [Hv] <;> iassumption
  iintro ⟨HgT, HT, Hv, HO⟩
  ispecialize HS $$ Hv
  ihave HSS := sems_take d i cc0_scoped3.sem (by decide) (by decide) (by decide) $$ HS
  icases HSS with ⟨Hv, HS⟩
  iapply (main_loop d i q0 q1 a0 fc fo O W hO _) $$ [HP HB HF HgB Hv HO Hf0 Hf1]
  · isplitr; · iexact Hlv
    unfold Inv
    rw [pipe0_fly d i q0 fc fo (show 2 * ((0 + 1) / 2) < 2 * cnt i by omega), pipe1_fly d i q1 fc fo (show 2 * (0 / 2) + 1 < 2 * cnt i by omega)]
    isplitl [HP HB HF HgB Hv HO]
    · unfold Work
      iexists fP, b5, b6, fB
      isplitr
      · ipureintro
        exact ⟨hP, conf_none i fc b6, done_none i a0 fc fo fB, fun h => absurd h (by decide)⟩
      isplitl [HP]; · iexact HP
      isplitl [HB]; · iexact HB
      isplitl [HF]; · iexact HF
      isplitl [HgB]; · iexact HgB
      isplitl [Hv] <;> iassumption
    isplitl [Hf0]
    · iexact Hf0
    · iexact Hf1
  iintro HI
  unfold Inv
  rw [pipe0_rest d i q0 fc fo (show ¬ 2 * ((2 * cnt i + 1) / 2) < 2 * cnt i by omega), pipe1_rest d i q1 fc fo (show ¬ 2 * (2 * cnt i / 2) + 1 < 2 * cnt i by omega)]
  unfold Work Rest0 Rest1
  icases HI with ⟨⟨%gP, %gBb, %gFf, %gBox, %hWk, HP, HB, HF, HgB, Hv, HO⟩, ⟨%c0, %c2, H8, H0, H2, HC0, HO0⟩, ⟨%c1, %c3, H9, H1, H3, HC1, HO1⟩⟩
  obtain ⟨-, hCf, hDn, -⟩ := hWk
  rw [show 2 * cnt i / 2 = cnt i by omega] at hDn
  ispecialize HS $$ Hv
  iapply (skip_loop d i _ _)
  ihave HSS := sems_take d i cc0_scoped5.sem (by decide) (by decide) (by decide) $$ HS
  icases HSS with ⟨Hv, HS⟩
  iapply (st_tailC d i q0 fc O W hO) $$ [HC0 H0 Hv HO]
  · isplitr; · iexact Hlv
    isplitl [HC0]; · iexact HC0
    isplitl [H0]; · iexact H0
    isplitl [Hv] <;> iassumption
  iintro ⟨HC0, ⟨%tC, %htC, H0⟩, Hv, HO⟩
  ispecialize HS $$ Hv
  ihave HSS := sems_take d i cc0_scoped6.sem (by decide) (by decide) (by decide) $$ HS
  icases HSS with ⟨Hv, HS⟩
  iapply (st_tailO d i q0 fo O W hO) $$ [HO0 H2 Hv HO]
  · isplitr; · iexact Hlv
    isplitl [HO0]; · iexact HO0
    isplitl [H2]; · iexact H2
    isplitl [Hv] <;> iassumption
  iintro ⟨HO0, ⟨%tO, %htO, H2⟩, Hv, HO⟩
  ispecialize HS $$ Hv
  iapply (half_c d i h12 tC tO (tailT a0) gBb gFf) $$ [H0 H2 HT HB HF]
  · isplitl [H0]; · iexact H0
    isplitl [H2]; · iexact H2
    isplitl [HT]; · iexact HT
    isplitl [HB] <;> iassumption
  iintro ⟨H0, H2, HT, HB, HF⟩
  simp only [Prog.bind_op, Prog.bind_ret, bind_assoc]
  ihave HSS := sems_take d i cc0_scoped7.sem (by decide) (by decide) (by decide) $$ HS
  icases HSS with ⟨Hv, HS⟩
  have htop : 19968 + 128 ≤ topB i := by unfold topB; rw [if_pos hw]
  have hlow : 128 * base i ≤ 19968 := by have := base_le i; omega
  iapply (st_out d i O W (n := 19968) rfl hlow htop hO) $$ [HB HgB Hv HO]
  · isplitr; · iexact Hlv
    isplitl [HB]; · iexact HB
    isplitl [HgB]; · iexact HgB
    isplitl [Hv] <;> iassumption
  iintro ⟨HB, HgB, Hv, HO⟩
  ispecialize HS $$ Hv
  have hFull := conf_full_tail i fc hw hCf htC
  have hBox := fun h hst => tail_done i a0 fc fo (off := ![0, 0, 19968]) h hst rfl hw hDn htC htO (fB := gBb)
  ihave HQ : Confs d i fc O W 0 _ $$ [HF HgF HO]
  · unfold Confs
    isplitl [HF]; · iexact HF
    isplitl [HgF]
    · iexists fF
      isplitr
      · ipureintro; exact conf_start i fc fF
      iexact HgF
    iexact HO
  ihave HSS := sems_take d i cc0_scoped24.sem (by decide) (by decide) (by decide) $$ HS
  icases HSS with ⟨Hv, HS⟩
  iapply (st_conf544 d i fc O W (r := 0) (by decide) (off21c i 0) rfl hl hO hFull) $$ [HQ Hv]
  · isplitr; · iexact Hlv
    isplitl [HQ] <;> iassumption
  iintro ⟨HQ, Hv⟩
  ispecialize HS $$ Hv
  ihave HSS := sems_take d i cc0_scoped25.sem (by decide) (by decide) (by decide) $$ HS
  icases HSS with ⟨Hv, HS⟩
  iapply (st_conf544 d i fc O W (r := 1) (by decide) (off21c i 1) rfl hl hO hFull) $$ [HQ Hv]
  · isplitr; · iexact Hlv
    isplitl [HQ] <;> iassumption
  iintro ⟨HQ, Hv⟩
  ispecialize HS $$ Hv
  ihave HSS := sems_take d i cc0_scoped26.sem (by decide) (by decide) (by decide) $$ HS
  icases HSS with ⟨Hv, HS⟩
  iapply (st_conf544 d i fc O W (r := 2) (by decide) (off21c i 2) rfl hl hO hFull) $$ [HQ Hv]
  · isplitr; · iexact Hlv
    isplitl [HQ] <;> iassumption
  iintro ⟨HQ, Hv⟩
  ispecialize HS $$ Hv
  ihave HSS := sems_take d i cc0_scoped27.sem (by decide) (by decide) (by decide) $$ HS
  icases HSS with ⟨Hv, HS⟩
  iapply (st_conf544 d i fc O W (r := 3) (by decide) (off21c i 3) rfl hl hO hFull) $$ [HQ Hv]
  · isplitr; · iexact Hlv
    isplitl [HQ] <;> iassumption
  iintro ⟨HQ, Hv⟩
  ispecialize HS $$ Hv
  ihave HSS := sems_take d i cc0_scoped28.sem (by decide) (by decide) (by decide) $$ HS
  icases HSS with ⟨Hv, HS⟩
  iapply (st_conf544 d i fc O W (r := 4) (by decide) (off21c i 4) rfl hl hO hFull) $$ [HQ Hv]
  · isplitr; · iexact Hlv
    isplitl [HQ] <;> iassumption
  iintro ⟨HQ, Hv⟩
  ispecialize HS $$ Hv
  ihave HSS := sems_take d i cc0_scoped29.sem (by decide) (by decide) (by decide) $$ HS
  icases HSS with ⟨Hv, HS⟩
  iapply (st_conf544 d i fc O W (r := 5) (by decide) (off21c i 5) rfl hl hO hFull) $$ [HQ Hv]
  · isplitr; · iexact Hlv
    isplitl [HQ] <;> iassumption
  iintro ⟨HQ, Hv⟩
  ispecialize HS $$ Hv
  ihave HSS := sems_take d i cc0_scoped30.sem (by decide) (by decide) (by decide) $$ HS
  icases HSS with ⟨Hv, HS⟩
  iapply (st_conf544 d i fc O W (r := 6) (by decide) (off21c i 6) rfl hl hO hFull) $$ [HQ Hv]
  · isplitr; · iexact Hlv
    isplitl [HQ] <;> iassumption
  iintro ⟨HQ, Hv⟩
  ispecialize HS $$ Hv
  ihave HSS := sems_take d i cc0_scoped31.sem (by decide) (by decide) (by decide) $$ HS
  icases HSS with ⟨Hv, HS⟩
  iapply (st_conf544 d i fc O W (r := 7) (by decide) (off21c i 7) rfl hl hO hFull) $$ [HQ Hv]
  · isplitr; · iexact Hlv
    isplitl [HQ] <;> iassumption
  iintro ⟨HQ, Hv⟩
  ispecialize HS $$ Hv
  rw [wp_ret]
  imodintro
  unfold Confs Done
  icases HQ with ⟨HF, HgF, HO⟩
  isplitl [HC0 HO0 HC1 HO1 HgP HgT]
  · isplitl [HC0]; · iexact HC0
    isplitl [HO0]; · iexact HO0
    isplitl [HC1]; · iexact HC1
    isplitl [HO1]; · iexact HO1
    isplitl [HgP] <;> iassumption
  isplitl [HgB HgF]
  · isplitl [HgB]
    · iexists _
      isplitr
      pick_goal 2
      · iexact HgB
      · ipureintro; exact hBox _ _
    · iexact HgF
  isplitl [H0 H1 H2 H3 HP HB HF HT Hbufs]
  · isplitl [H0]; · iexists _; iexact H0
    isplitl [H1]; · iexists _; iexact H1
    isplitl [H2]; · iexists _; iexact H2
    isplitl [H3]; · iexists _; iexact H3
    isplitl [HP]; · iexists _; iexact HP
    isplitl [HB]; · iexists _; iexact HB
    isplitl [HF]; · iexists _; iexact HF
    isplitl [HT]; · iexists _; iexact HT
    iexact Hbufs
  isplitr [HO]
  · isplitl [H8]; · iexact H8
    isplitl [H9] <;> iassumption
  iexact HO

theorem tile_run (hO : ∀ g, O g none = 0) :
    (iprop(levAts (K (F := F)).L (K (F := F)).lev ∗ Reads d i q0 q1 qp qt a0 fc fo ∗ (∃ f, gB d i ↦[ownB i]{fullShare} f) ∗ (∃ f, gF d i ↦[ownF i]{fullShare} f) ∗ ownBufs (thr d i) ∗ ownSems0 (thr d i) ∗ owes (thr d i) O W) : sProp 𝕄) ⊢
    wp frame (wpE (defs₀ (F := F)) 𝒱₀ (thr d i) none) Set.univ (cc0_run (F := F) i mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31) fun _ =>
      iprop(Reads d i q0 q1 qp qt a0 fc fo ∗ Done d i a0 fc fo ∗ ownBufs (thr d i) ∗ ownSems0 (thr d i) ∗ OW d i O W) := by
  by_cases h1 : wid i < 28
  · exact tile_A d i q0 q1 qp qt a0 fc fo O W h1 hO
  by_cases h2 : wid i = 31
  · exact tile_C d i q0 q1 qp qt a0 fc fo O W h2 hO
  · exact tile_B d i q0 q1 qp qt a0 fc fo O W ⟨by omega, by have := wid_lt i; omega⟩ hO

end Cert.Proof
-- ==== Proof.Deal.lean ====
module

public import proofs.«01_k».proof.Proof.Tile

@[expose] public section

set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The grid's points, and the reads and results dealt to them -/

def coordsV (c : Fin (grid0.bound 0)) (s : Fin (grid0.bound 1)) : grid0.Coords :=
  fun | 0 => c | 1 => s | ⟨_ + 2, h⟩ => absurd h (Nat.not_lt.2 (Nat.le_add_left _ _))

abbrev pt (p : Fin 2 × Fin 16) : grid0.Coords := coordsV p.1 p.2

theorem wid_pt (p : Fin 2 × Fin 16) : wid (pt p) = 16 * p.1.val + p.2.val := rfl

theorem wid_inj {p p' : Fin 2 × Fin 16} (h : p ≠ p') : wid (pt p) ≠ wid (pt p') := by
  intro e
  rw [wid_pt, wid_pt] at e
  have h1 := p.2.isLt
  have h2 := p'.2.isLt
  exact h (Prod.ext (Fin.ext (by omega)) (Fin.ext (by omega)))

theorem wid_onto {w : ℕ} (h : w < 32) : ∃ p : Fin 2 × Fin 16, wid (pt p) = w :=
  ⟨(⟨w / 16, by omega⟩, ⟨w % 16, by omega⟩), by rw [wid_pt]; show 16 * (w / 16) + w % 16 = w; omega⟩

theorem top_le {i j : grid0.Coords} (h : wid i < wid j) : topB i ≤ 128 * base j := by
  have := wid_lt j
  unfold topB base cnt
  split_ifs <;> omega

theorem len_top {i j : grid0.Coords} (h : wid i < wid j) : 128 * base i + lenF i ≤ 128 * base j := by
  have := wid_lt j
  unfold lenF base
  split_ifs <;> omega

theorem ownB_disj : ∀ p ∈ (Finset.univ : Finset (Fin 2 × Fin 16)), ∀ p' ∈ (Finset.univ : Finset (Fin 2 × Fin 16)), p ≠ p' → Disjoint (ownB (pt p)) (ownB (pt p')) := by
  intro p _ p' _ h
  rw [Finset.disjoint_left]
  intro y hy hy'
  unfold ownB at hy hy'
  simp only [Finset.mem_filter, Finset.mem_univ, true_and] at hy hy'
  rcases Nat.lt_or_gt_of_ne (wid_inj h) with h | h
  · have := top_le h; omega
  · have := top_le h; omega

theorem ownF_disj : ∀ p ∈ (Finset.univ : Finset (Fin 2 × Fin 16)), ∀ p' ∈ (Finset.univ : Finset (Fin 2 × Fin 16)), p ≠ p' → Disjoint (ownF (pt p)) (ownF (pt p')) := by
  intro p _ p' _ h
  rw [Finset.disjoint_left]
  intro y hy hy'
  unfold ownF at hy hy'
  simp only [Finset.mem_filter, Finset.mem_univ, true_and] at hy hy'
  rcases Nat.lt_or_gt_of_ne (wid_inj h) with h | h
  · have := len_top h; omega
  · have := len_top h; omega

/-- The tile a column belongs to. -/
theorem tile_of {n : ℕ} (h : n < 20096) : ∃ p : Fin 2 × Fin 16, 128 * base (pt p) ≤ n ∧ n < topB (pt p) := by
  by_cases h1 : n < 17920
  · obtain ⟨p, hp⟩ := wid_onto (w := n / 640) (by omega)
    refine ⟨p, ?_⟩
    unfold topB base cnt
    rw [hp]
    split_ifs <;> omega
  · by_cases h2 : n < 19968
    · obtain ⟨p, hp⟩ := wid_onto (w := (n / 128 - 28) / 4) (by omega)
      refine ⟨p, ?_⟩
      unfold topB base cnt
      rw [hp]
      split_ifs <;> omega
    · obtain ⟨p, hp⟩ := wid_onto (w := 31) (by omega)
      refine ⟨p, ?_⟩
      unfold topB base cnt
      rw [hp]
      split_ifs <;> omega

theorem tileF_of {n : ℕ} (h : n < 20000) : ∃ p : Fin 2 × Fin 16, 128 * base (pt p) ≤ n ∧ n < 128 * base (pt p) + lenF (pt p) := by
  obtain ⟨p, h1, h2⟩ := tile_of (n := n) (by omega)
  refine ⟨p, h1, ?_⟩
  have := wid_lt (pt p)
  unfold topB base cnt at h2
  unfold base at h1
  unfold lenF base
  split_ifs at h1 h2 ⊢ <;> omega

theorem ownB_cover : (Finset.univ : Finset (Fin 2 × Fin 16)).biUnion (fun p => ownB (pt p)) = Finset.univ := by
  refine Finset.eq_univ_of_forall fun y => ?_
  have hy : (y 2).val < 20096 := (y 2).isLt
  obtain ⟨p, h1, h2⟩ := tile_of hy
  refine Finset.mem_biUnion.2 ⟨p, Finset.mem_univ _, ?_⟩
  unfold ownB
  exact Finset.mem_filter.2 ⟨Finset.mem_univ _, h1, h2⟩

theorem ownF_cover : (Finset.univ : Finset (Fin 2 × Fin 16)).biUnion (fun p => ownF (pt p)) = Finset.univ := by
  refine Finset.eq_univ_of_forall fun y => ?_
  obtain ⟨p, h1, h2⟩ := tileF_of (n := (y 0).val % 20000) (Nat.mod_lt _ (by decide))
  refine Finset.mem_biUnion.2 ⟨p, Finset.mem_univ _, ?_⟩
  unfold ownF
  exact Finset.mem_filter.2 ⟨Finset.mem_univ _, h1, h2⟩

/-! ### The shares -/

/-- A tile's share of a table, and its two halves. -/
def sh (p : Fin 2 × Fin 16) : PosShare TreeShare := Transfers.dealOf (Transfers.dealOf fullShare (Finset.univ : Finset (Fin 2)) p.1) (Finset.univ : Finset (Fin 16)) p.2
def shA (p : Fin 2 × Fin 16) : PosShare TreeShare := Transfers.dealOf (sh p) (Finset.univ : Finset (Fin 2)) 0
def shB (p : Fin 2 × Fin 16) : PosShare TreeShare := Transfers.dealOf (sh p) (Finset.univ : Finset (Fin 2)) 1

theorem deal_all {ℓ : Loc nD τ sig} (f : Buf (Elt F) ℓ) :
    (ℓ ↦{fullShare} f : sProp 𝕄) = bigSep Finset.univ fun p : Fin 2 × Fin 16 => ℓ ↦{sh p} f := by
  rw [bigSep_univ_prod, Transfers.pointsTo_deal (Finset.univ : Finset (Fin 2)) Finset.univ_nonempty fullShare]
  refine bigSep_congr fun c _ => ?_
  rw [Transfers.pointsTo_deal (Finset.univ : Finset (Fin 16)) Finset.univ_nonempty]
  rfl

theorem deal_two {ℓ : Loc nD τ sig} (f : Buf (Elt F) ℓ) :
    (ℓ ↦{fullShare} f : sProp 𝕄) = iprop((bigSep Finset.univ fun p : Fin 2 × Fin 16 => ℓ ↦{shA p} f) ∗ bigSep Finset.univ fun p : Fin 2 × Fin 16 => ℓ ↦{shB p} f) := by
  rw [deal_all, ← bigSep_sep']
  refine bigSep_congr fun p _ => ?_
  rw [Transfers.pointsTo_deal (Finset.univ : Finset (Fin 2)) Finset.univ_nonempty, bigSep_univ_two]
  rfl

/-- Facts beside every piece are facts of all of them. -/
theorem bigSep_pure_sep {J : Type} [Fintype J] [DecidableEq J] (φ : J → Prop) (Φ : J → sProp 𝕄) :
    (bigSep Finset.univ fun p : J => iprop(⌜φ p⌝ ∗ Φ p)) ⊢ (iprop(⌜∀ p, φ p⌝ ∗ bigSep Finset.univ Φ) : sProp 𝕄) := by
  have key : ∀ S : Finset J, (bigSep S fun p : J => iprop(⌜φ p⌝ ∗ Φ p)) ⊢ (iprop(⌜∀ p ∈ S, φ p⌝ ∗ bigSep S Φ) : sProp 𝕄) := by
    intro S
    induction S using Finset.induction_on with
    | empty =>
      rw [bigSep_empty, bigSep_empty]
      iintro H
      isplitr
      · ipureintro; intro p hp; exact absurd hp (Finset.notMem_empty p)
      · iexact H
    | insert a S ha ih =>
      rw [SparseCore.bigSep_insert' ha, SparseCore.bigSep_insert' ha]
      iintro ⟨⟨%h, Ha⟩, HS⟩
      ihave HS' := ih $$ HS
      icases HS' with ⟨%h', HS⟩
      isplitr
      · ipureintro
        intro p hp
        rcases Finset.mem_insert.1 hp with rfl | hp
        · exact h
        · exact h' p hp
      · isplitl [Ha]; · iexact Ha
        iexact HS
  refine (key Finset.univ).trans ?_
  iintro ⟨%h, H⟩
  isplitr
  · ipureintro; exact fun p => h p (Finset.mem_univ p)
  · iexact H

section Deal

variable (d : Dev nD) (a0 : Vec F S8x20000x4 .f32) (fc fo : Vec F S8x560000 .f32)

abbrev zC : Loc nD τ sig := (SparseCore.T d).loc main_arg1
abbrev zO : Loc nD τ sig := (SparseCore.T d).loc main_arg2
abbrev zP : Loc nD τ sig := (SparseCore.T d).loc main_v2
abbrev zT : Loc nD τ sig := (SparseCore.T d).loc main_v1
abbrev zB : Loc nD τ sig := (SparseCore.T d).loc main_v3_0
abbrev zF : Loc nD τ sig := (SparseCore.T d).loc main_v3_1

/-- The four tables the tiles read, whole. -/
def Tables : sProp 𝕄 := iprop((zC d ↦{fullShare} fc) ∗ (zO d ↦{fullShare} fo) ∗ (zP d ↦{fullShare} (propT a0)) ∗ (zT d ↦{fullShare} (tailT a0)))

abbrev ReadsAt (p : Fin 2 × Fin 16) : sProp 𝕄 := Reads d (pt p) (shA p) (shB p) (sh p) (sh p) a0 fc fo

theorem tables_reads : (Tables d a0 fc fo : sProp 𝕄) = bigSep Finset.univ fun p => ReadsAt d a0 fc fo p := by
  unfold Tables ReadsAt Reads
  rw [deal_two (ℓ := zC d) fc, deal_two (ℓ := zO d) fo, deal_all (ℓ := zP d) (propT a0), deal_all (ℓ := zT d) (tailT a0), bigSep_sep', bigSep_sep', bigSep_sep', bigSep_sep', bigSep_sep']
  refine BI.equiv_iff.mp ⟨?_, ?_⟩
  · show (iprop(_) : sProp 𝕄) ⊢ iprop(_)
    iintro ⟨⟨C0, C1⟩, ⟨O0, O1⟩, P, Q⟩
    isplitl [C0]; · iexact C0
    isplitl [O0]; · iexact O0
    isplitl [C1]; · iexact C1
    isplitl [O1]; · iexact O1
    isplitl [P]; · iexact P
    iexact Q
  · show (iprop(_) : sProp 𝕄) ⊢ iprop(_)
    iintro ⟨C0, O0, C1, O1, P, Q⟩
    isplitl [C0 C1]; · isplitl [C0]; (· iexact C0); iexact C1
    isplitl [O0 O1]; · isplitl [O0]; (· iexact O0); iexact O1
    isplitl [P]; · iexact P
    iexact Q

theorem outB_split (f : Vec F S8x4x20096 .f32) : (zB d ↦{fullShare} f : sProp 𝕄) ⊢ bigSep Finset.univ fun p : Fin 2 × Fin 16 => iprop(∃ f : Vec F S8x4x20096 .f32, gB d (pt p) ↦[ownB (pt p)]{fullShare} f) := by
  have e : (zB d ↦{fullShare} f : sProp 𝕄) = bigSep Finset.univ fun p : Fin 2 × Fin 16 => zB d ↦[ownB (pt p)]{fullShare} f := by
    rw [← pointsTo_biUnion Finset.univ (ℓ := zB d) (fun p : Fin 2 × Fin 16 => ownB (pt p)) ownB_disj, ownB_cover]
  rw [e]
  refine bigSep_mono fun p _ => ?_
  show (iprop(_) : sProp 𝕄) ⊢ iprop(_)
  iintro H
  iexists f
  iexact H

theorem outF_split (f : Vec F S160000 .f32) : (zF d ↦{fullShare} f : sProp 𝕄) ⊢ bigSep Finset.univ fun p : Fin 2 × Fin 16 => iprop(∃ f : Vec F S160000 .f32, gF d (pt p) ↦[ownF (pt p)]{fullShare} f) := by
  have e : (zF d ↦{fullShare} f : sProp 𝕄) = bigSep Finset.univ fun p : Fin 2 × Fin 16 => zF d ↦[ownF (pt p)]{fullShare} f := by
    rw [← pointsTo_biUnion Finset.univ (ℓ := zF d) (fun p : Fin 2 × Fin 16 => ownF (pt p)) ownF_disj, ownF_cover]
  rw [e]
  refine bigSep_mono fun p _ => ?_
  show (iprop(_) : sProp 𝕄) ⊢ iprop(_)
  iintro H
  iexists f
  iexact H

variable [Buckets F]

/-- Every box of a proposal is right, and every confidence. -/
def BoxAll (f : Vec F S8x4x20096 .f32) : Prop :=
  ∀ y : S8x4x20096.Idx, (y 2).val < 20000 → f y = boxAt a0 fc fo (y 0).val (y 2).val (y 1)
def ConfAll (f : Vec F S160000 .f32) : Prop :=
  ∀ y : S160000.Idx, f y = confAt fc ((y 0).val / 20000) ((y 0).val % 20000)

theorem outB_join : (bigSep Finset.univ fun p : Fin 2 × Fin 16 => iprop(∃ f : Vec F S8x4x20096 .f32, ⌜BoxDone (pt p) a0 fc fo f⌝ ∗ (gB d (pt p) ↦[ownB (pt p)]{fullShare} f)))
    ⊢ (iprop(∃ f : Vec F S8x4x20096 .f32, ⌜BoxAll a0 fc fo f⌝ ∗ (zB d ↦{fullShare} f)) : sProp 𝕄) := by
  haveI : Nonempty (Vec F S8x4x20096 .f32) := ⟨fun _ => confAt fc 0 0⟩
  refine (bigSep_exists_pi Finset.univ (fun p (f : Vec F S8x4x20096 .f32) => iprop(⌜BoxDone (pt p) a0 fc fo f⌝ ∗ (gB d (pt p) ↦[ownB (pt p)]{fullShare} f)))).trans ?_
  iintro ⟨%fs, H⟩
  ihave H1 := (bigSep_pure_sep (F := F) (fun p => BoxDone (pt p) a0 fc fo (fs p)) (fun p => gB d (pt p) ↦[ownB (pt p)]{fullShare} fs p)) $$ H
  icases H1 with ⟨%hf, H⟩
  ihave H' := (pointsTo_biUnion_join (ℓ := zB d) Finset.univ (fun p : Fin 2 × Fin 16 => ownB (pt p)) fs (fs (0, 0)) ownB_disj) $$ H
  icases H' with ⟨%g, %hg, Hg⟩
  rw [ownB_cover]
  iexists g
  isplitr
  · ipureintro
    intro y hy
    obtain ⟨p, h1, h2⟩ := tile_of (n := (y 2).val) (by omega)
    have hm : y ∈ ownB (pt p) := by unfold ownB; exact Finset.mem_filter.2 ⟨Finset.mem_univ _, h1, h2⟩
    rw [hg p (Finset.mem_univ _) y hm]
    exact hf p y h1 h2 hy
  · iexact Hg

theorem outF_join : (bigSep Finset.univ fun p : Fin 2 × Fin 16 => iprop(∃ f : Vec F S160000 .f32, ⌜ConfDone (pt p) fc 8 f⌝ ∗ (gF d (pt p) ↦[ownF (pt p)]{fullShare} f)))
    ⊢ (iprop(∃ f : Vec F S160000 .f32, ⌜ConfAll fc f⌝ ∗ (zF d ↦{fullShare} f)) : sProp 𝕄) := by
  haveI : Nonempty (Vec F S160000 .f32) := ⟨fun _ => confAt fc 0 0⟩
  refine (bigSep_exists_pi Finset.univ (fun p (f : Vec F S160000 .f32) => iprop(⌜ConfDone (pt p) fc 8 f⌝ ∗ (gF d (pt p) ↦[ownF (pt p)]{fullShare} f)))).trans ?_
  iintro ⟨%fs, H⟩
  ihave H1 := (bigSep_pure_sep (F := F) (fun p => ConfDone (pt p) fc 8 (fs p)) (fun p => gF d (pt p) ↦[ownF (pt p)]{fullShare} fs p)) $$ H
  icases H1 with ⟨%hf, H⟩
  ihave H' := (pointsTo_biUnion_join (ℓ := zF d) Finset.univ (fun p : Fin 2 × Fin 16 => ownF (pt p)) fs (fs (0, 0)) ownF_disj) $$ H
  icases H' with ⟨%g, %hg, Hg⟩
  rw [ownF_cover]
  iexists g
  isplitr
  · ipureintro
    intro y
    have hy : (y 0).val < 160000 := (y 0).isLt
    obtain ⟨p, h1, h2⟩ := tileF_of (n := (y 0).val % 20000) (Nat.mod_lt _ (by decide))
    have hm : y ∈ ownF (pt p) := by unfold ownF; exact Finset.mem_filter.2 ⟨Finset.mem_univ _, h1, h2⟩
    rw [hg p (Finset.mem_univ _) y hm]
    exact hf p y h1 h2 (by omega)
  · iexact Hg

/-- What a tile is handed, and what it gives back. -/
def TileIn (p : Fin 2 × Fin 16) : sProp 𝕄 :=
  iprop(ReadsAt d a0 fc fo p ∗ (∃ f : Vec F S8x4x20096 .f32, gB d (pt p) ↦[ownB (pt p)]{fullShare} f) ∗ (∃ f : Vec F S160000 .f32, gF d (pt p) ↦[ownF (pt p)]{fullShare} f))
def TileOut (p : Fin 2 × Fin 16) : sProp 𝕄 := iprop(ReadsAt d a0 fc fo p ∗ Done d (pt p) a0 fc fo)

instance tileIn_storable (p : Fin 2 × Fin 16) : BI.Storable (upEmb : UEmb _ 𝕄) (TileIn d a0 fc fo p) := by
  unfold TileIn ReadsAt Reads; infer_instance
instance tileOut_storable (p : Fin 2 × Fin 16) : BI.Storable (upEmb : UEmb _ 𝕄) (TileOut d a0 fc fo p) := by
  unfold TileOut ReadsAt Reads Done; infer_instance

theorem deal_in (f : Vec F S8x4x20096 .f32) (g : Vec F S160000 .f32) :
    (iprop(Tables d a0 fc fo ∗ (zB d ↦{fullShare} f) ∗ (zF d ↦{fullShare} g)) : sProp 𝕄) ⊢ bigSep Finset.univ fun p => TileIn d a0 fc fo p := by
  unfold TileIn
  rw [bigSep_sep', bigSep_sep', tables_reads]
  iintro ⟨H, B, C⟩
  isplitl [H]; · iexact H
  isplitl [B]
  · iapply (outB_split d f); iexact B
  · iapply (outF_split d g); iexact C

theorem deal_out : (bigSep Finset.univ fun p => TileOut d a0 fc fo p) ⊢
    (iprop(Tables d a0 fc fo ∗ (∃ f : Vec F S8x4x20096 .f32, ⌜BoxAll a0 fc fo f⌝ ∗ (zB d ↦{fullShare} f)) ∗ (∃ f : Vec F S160000 .f32, ⌜ConfAll fc f⌝ ∗ (zF d ↦{fullShare} f))) : sProp 𝕄) := by
  unfold TileOut Done
  rw [bigSep_sep', bigSep_sep', tables_reads]
  iintro ⟨H, B, C⟩
  isplitl [H]; · iexact H
  isplitl [B]
  · iapply (outB_join d a0 fc fo); iexact B
  · iapply (outF_join d fc); iexact C

end Deal
end Cert.Proof
end
-- ==== Proof.Launch.lean ====
module

public import proofs.«01_k».proof.Proof.Deal

@[expose] public section

set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F] [Buckets F]

local notation "𝕄" => MT nD τ sig (HIx 1) (Elt F) ℕ UU ℕ

variable (m : (ℓ : Loc nD τ sig) → Buf (Elt F) ℓ) (ρ : Dev nD → PrngReg)

/-! ## The arguments at the launch, and what a tile is handed -/

abbrev argP (d : Dev nD) : Vec F S8x20000x4 .f32 := m ((SparseCore.T d).loc main_arg0)
abbrev argC (d : Dev nD) : Vec F S8x560000 .f32 := m ((SparseCore.T d).loc main_arg1)
abbrev argO (d : Dev nD) : Vec F S8x560000 .f32 := m ((SparseCore.T d).loc main_arg2)

abbrev goAt (d : Dev nD) (p : Fin 2 × Fin 16) : sProp 𝕄 := TileIn d (argP m d) (argC m d) (argO m d) p
abbrev backAt (d : Dev nD) (p : Fin 2 × Fin 16) : sProp 𝕄 := TileOut d (argP m d) (argC m d) (argO m d) p

def P : (K (F := F)).Pay (nD := nD) (Val := Elt F) (Name := ℕ) (U := UU) where
  st := fun q d c => match q with | 0 => bigSep Finset.univ fun s : Fin 16 => goAt m d (Fin.cast nCore_zero c, s)
  dn := fun q d c => match q with | 0 => bigSep Finset.univ fun s : Fin 16 => backAt m d (Fin.cast nCore_zero c, s)
  go := fun q d c s => match q with | 0 => goAt m d (Fin.cast nCore_zero c, Fin.cast nSub_zero s)
  td := fun q d c s => match q with | 0 => backAt m d (Fin.cast nCore_zero c, Fin.cast nSub_zero s)
  x := fun _ _ => iprop(emp)

instance P_storable : (P (F := F) m).IsStorable where
  st q d c := match q with
    | 0 => (inferInstance : BI.Storable (upEmb : UEmb _ 𝕄) (bigSep Finset.univ fun s : Fin 16 => goAt m d (Fin.cast nCore_zero c, s)))
  dn q d c := match q with
    | 0 => (inferInstance : BI.Storable (upEmb : UEmb _ 𝕄) (bigSep Finset.univ fun s : Fin 16 => backAt m d (Fin.cast nCore_zero c, s)))
  go q d c s := match q with
    | 0 => (inferInstance : BI.Storable (upEmb : UEmb _ 𝕄) (goAt m d (Fin.cast nCore_zero c, Fin.cast nSub_zero s)))
  td q d c s := match q with
    | 0 => (inferInstance : BI.Storable (upEmb : UEmb _ 𝕄) (backAt m d (Fin.cast nCore_zero c, Fin.cast nSub_zero s)))

omit [Buckets F] in
theorem bigSep_tiles (Φ : Fin 16 → sProp 𝕄) :
    (bigSep Finset.univ fun s : Fin ((K (F := F)).nSub 0) => Φ (Fin.cast nSub_zero s)) = bigSep Finset.univ Φ :=
  bigSep_congr fun _ _ => congrArg Φ (Fin.ext rfl)

omit [Buckets F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

section Split

attribute [local irreducible] TileIn TileOut

omit [Buckets F] in
theorem split_tiles (G B : Fin 16 → sProp 𝕄) : bigSep Finset.univ G ⊢ (iprop(|={Set.univ}=>
      ((bigSep Finset.univ fun s : Fin ((K (F := F)).nSub 0) => G (Fin.cast nSub_zero s))
      ∗ ((bigSep Finset.univ fun s : Fin ((K (F := F)).nSub 0) => B (Fin.cast nSub_zero s)) -∗ bigSep Finset.univ B))) : sProp 𝕄) := by
  rw [bigSep_tiles (F := F) G, bigSep_tiles (F := F) B]
  iintro H
  imodintro
  isplitl [H]; · iexact H
  iintro H; iexact H

theorem vecSplit : (K (F := F)).VecSplit' (P m) 0 :=
by
  intro d c
  have h := split_tiles (F := F) (fun s => TileIn d (argP m d) (argC m d) (argO m d) (Fin.cast nCore_zero c, s)) (fun s => TileOut d (argP m d) (argC m d) (argO m d) (Fin.cast nCore_zero c, s))
  exact h

end Split

/-! ## The tile's obligation -/

theorem defs₀_vector (c : Fin τ.nSC) (s : Fin τ.nSub) :
    defs₀ (F := F) (.scVector c s) 0 ()
      = SparseCore.onTile hcore0 hsub0 (fun c s => cc0_run (F := F) (coordsV c s) mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31) ⟨⟩ c s := rfl

theorem obl_post {thr : Thread nD τ} {A A' B C : sProp 𝕄} {O : CellTallies nD τ sig (HIx 1)} {W : Waits sig (HIx 1)} {q : Fin 1} :
    iprop(A ∗ A' ∗ B ∗ C ∗ ∃ W', ⌜∀ p ∈ W', p ∈ W ∨ p.2 = none⌝ ∗ owes thr O W')
      ⊢ iprop((A ∗ A') ∗ B ∗ C ∗ ∃ W', ⌜∀ p ∈ W', p ∈ W ∨ p.2 = none ∨ p.2 = some q⌝ ∗ owes thr O W') := by
  iintro ⟨HA, HA', HB, HC, %W', %hW', HO⟩
  isplitl [HA HA']
  · isplitl [HA]; · iexact HA
    iexact HA'
  isplitl [HB]; · iexact HB
  isplitl [HC]; · iexact HC
  iexists W'; isplitr
  · ipureintro; exact fun p hp => (hW' p hp).imp_right Or.inl
  · iexact HO

/-- A tile's run as the launch asks it. -/
theorem tile_task (d : Dev nD) (p : Fin 2 × Fin 16) (O : CellTallies nD τ sig (HIx 1)) (W : Waits sig (HIx 1)) (hO : ∀ g, O g none = 0) :
    (iprop(levAts (K (F := F)).L (K (F := F)).lev ∗ emp ∗ goAt m d p ∗ scopedBufs (thr d (pt p)) ∗ scopedSems0 (thr d (pt p)) ∗ owes (thr d (pt p)) O W) : sProp 𝕄) ⊢
    wp frame (wpE (defs₀ (F := F)) 𝒱₀ (thr d (pt p)) none) Set.univ (cc0_run (F := F) (pt p) mC (Memref.isWhole_whole _) mO (Memref.isWhole_whole _) mP (Memref.isWhole_whole _) mT (Memref.isWhole_whole _) mB (Memref.isWhole_whole _) mF (Memref.isWhole_whole _) bC0 (Memref.isWhole_whole _) bC1 (Memref.isWhole_whole _) bO0 (Memref.isWhole_whole _) bO1 (Memref.isWhole_whole _) bP (Memref.isWhole_whole _) bB (Memref.isWhole_whole _) bF (Memref.isWhole_whole _) bT (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31) fun _ =>
      iprop(backAt m d p ∗ scopedBufs (thr d (pt p)) ∗ scopedSems0 (thr d (pt p)) ∗ ∃ W', ⌜∀ p ∈ W', p ∈ W ∨ p.2 = none ∨ p.2 = some (0 : Fin 1)⌝ ∗ owes (thr d (pt p)) O W') := by
  unfold thr
  rw [(K (F := F)).scopedBufs_V facts d _ _, SparseCore.Cfg.scopedSems0_V (Val := Elt F) d _ _]
  refine BI.Entails.trans ?_ ((tile_run d (pt p) (shA p) (shB p) (sh p) (sh p) (argP m d) (argC m d) (argO m d) O W hO).trans (wp_mono frame _ _ fun _ => obl_post))
  show (iprop(_) : sProp 𝕄) ⊢ iprop(_)
  unfold goAt TileIn
  iintro ⟨HL, -, ⟨HR, HB, HF⟩, Hb, Hs, HO⟩
  isplitl [HL]; · iexact HL
  isplitl [HR]; · iexact HR
  isplitl [HB]; · iexact HB
  isplitl [HF]; · iexact HF
  isplitl [Hb]; · iexact Hb
  isplitl [Hs]; · iexact Hs
  iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_task m d (Fin.cast nCore_zero c, Fin.cast nSub_zero i) O W hO

/-! ## The launch element -/

def u₀ : UU := (initOf (K (F := F)).hsCells (K (F := F)).hsToks, 1)

omit [Buckets F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro
end Cert.Proof
end
-- ==== Proof.Host.lean ====
module

public import proofs.«01_k».proof.Proof.Launch
public import Idealize.ShloMosaic.Lib.Pipeline.Value

@[expose] public section

set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

/-! ## The host's operations -/

abbrev b0 : DevRef τ sig := Proc.devRef .tc (main_arg0 : Ref sig .tc)
abbrev b1 : DevRef τ sig := Proc.devRef .tc (main_arg1 : Ref sig .tc)
abbrev b2 : DevRef τ sig := Proc.devRef .tc (main_arg2 : Ref sig .tc)
abbrev c0 : DevRef τ sig := Proc.devRef .tc (main_v0 : Ref sig .tc)
abbrev c1 : DevRef τ sig := Proc.devRef .tc (main_v1 : Ref sig .tc)
abbrev c2 : DevRef τ sig := Proc.devRef .tc (main_v2 : Ref sig .tc)
abbrev c3 : DevRef τ sig := Proc.devRef .tc (main_v3_0 : Ref sig .tc)
abbrev c3' : DevRef τ sig := Proc.devRef .tc (main_v3_1 : Ref sig .tc)
abbrev c4 : DevRef τ sig := Proc.devRef .tc (main_v4 : Ref sig .tc)
abbrev c5 : DevRef τ sig := Proc.devRef .tc (main_v5 : Ref sig .tc)
abbrev c6 : DevRef τ sig := Proc.devRef .tc (main_v6 : Ref sig .tc)

abbrev op1 : HloOp τ sig (Elt F) := StableHlo.unary main_arg0 main_v0 ((extractStridedSlice S8x32x4 ![0, 19968, 0] · slices_S8x20000x4_S8x32x4_0_19968_0) : (⟨S8x20000x4, .f32⟩ : BufTy).Contents (Elt F) → (⟨S8x32x4, .f32⟩ : BufTy).Contents (Elt F))
abbrev op2 : HloOp τ sig (Elt F) := StableHlo.reshape main_v0 main_v1 (rfl : (.f32 : EltTy) = .f32) shapeCasts_S8x32x4_S1024
abbrev op3 : HloOp τ sig (Elt F) := StableHlo.unary main_arg0 main_v2 ((transpose S8x4x20000 [0, 2, 1] · transposes_S8x20000x4_S8x4x20000_0_2_1) : (⟨S8x20000x4, .f32⟩ : BufTy).Contents (Elt F) → (⟨S8x4x20000, .f32⟩ : BufTy).Contents (Elt F))
abbrev op4 : HloOp τ sig (Elt F) := StableHlo.unary main_v3_0 main_v4 ((transpose S8x20096x4 [0, 2, 1] · transposes_S8x4x20096_S8x20096x4_0_2_1) : (⟨S8x4x20096, .f32⟩ : BufTy).Contents (Elt F) → (⟨S8x20096x4, .f32⟩ : BufTy).Contents (Elt F))
abbrev op5 : HloOp τ sig (Elt F) := StableHlo.unary main_v4 main_v5 ((extractStridedSlice S8x20000x4 ![0, 0, 0] · slices_S8x20096x4_S8x20000x4_0_0_0) : (⟨S8x20096x4, .f32⟩ : BufTy).Contents (Elt F) → (⟨S8x20000x4, .f32⟩ : BufTy).Contents (Elt F))
abbrev op6 : HloOp τ sig (Elt F) := StableHlo.reshape main_v3_1 main_v6 (rfl : (.f32 : EltTy) = .f32) shapeCasts_S160000_S8x20000

/-- The TensorCore's arrays, all unscoped. -/
abbrev SA : Finset (DevRef τ sig) := {b0, b1, b2, c0, c1, c2, c3, c3', c4, c5, c6}

theorem held_SA (d : Dev nD) (W : Valuation τ sig (Elt F)) :
    (held (SparseCore.T d) SA W : sProp 𝕄) = iprop(((SparseCore.T d).loc main_arg0 ↦{fullShare} W b0) ∗ ((SparseCore.T d).loc main_arg1 ↦{fullShare} W b1) ∗ ((SparseCore.T d).loc main_arg2 ↦{fullShare} W b2)
      ∗ ((SparseCore.T d).loc main_v0 ↦{fullShare} W c0) ∗ ((SparseCore.T d).loc main_v1 ↦{fullShare} W c1) ∗ ((SparseCore.T d).loc main_v2 ↦{fullShare} W c2) ∗ ((SparseCore.T d).loc main_v3_0 ↦{fullShare} W c3)
      ∗ ((SparseCore.T d).loc main_v3_1 ↦{fullShare} W c3') ∗ ((SparseCore.T d).loc main_v4 ↦{fullShare} W c4) ∗ ((SparseCore.T d).loc main_v5 ↦{fullShare} W c5) ∗ ((SparseCore.T d).loc main_v6 ↦{fullShare} W c6)) := by
  unfold held SA
  rw [SparseCore.bigSep_insert' (by decide), SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1) ∗ ((SparseCore.T d).loc main_arg2 ↦{fullShare} W main_arg2)
      ∗ ((SparseCore.T d).loc main_v0 ↦{fullShare} W main_v0) ∗ ((SparseCore.T d).loc main_v1 ↦{fullShare} W main_v1) ∗ ((SparseCore.T d).loc main_v2 ↦{fullShare} W main_v2) ∗ ((SparseCore.T d).loc main_v3_0 ↦{fullShare} W main_v3_0)
      ∗ ((SparseCore.T d).loc main_v3_1 ↦{fullShare} W main_v3_1) ∗ ((SparseCore.T d).loc main_v4 ↦{fullShare} W main_v4) ∗ ((SparseCore.T d).loc main_v5 ↦{fullShare} W main_v5) ∗ ((SparseCore.T d).loc main_v6 ↦{fullShare} W main_v6)) := by
  unfold unscopedBufs
  rw [show (Finset.univ.filter fun b : Ref sig .tc => ¬ b.isScoped) = {main_arg0, main_arg1, main_arg2, main_v0, main_v1, main_v2, main_v3_0, main_v3_1, main_v4, main_v5, main_v6} by decide,
    SparseCore.bigSep_insert' (by decide), SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), SparseCore.bigSep_insert' (by decide), bigSep_singleton]

section Values

variable (V : Valuation τ sig (Elt F))

/-- The arrays' contents before the call, and after it. -/
def VA : Valuation τ sig (Elt F) := (op3 (F := F)).result ((op2 (F := F)).result ((op1 (F := F)).result V))
def VB : Valuation τ sig (Elt F) := (op6 (F := F)).result ((op5 (F := F)).result ((op4 (F := F)).result V))

theorem nm {r r' : DevRef τ sig} (h : r ≠ r') : r ∉ ({r'} : Finset (DevRef τ sig)) := fun e => h (Finset.mem_singleton.1 e)

theorem VA_ne {r : DevRef τ sig} (h0 : r ≠ c0) (h1 : r ≠ c1) (h2 : r ≠ c2) : VA V r = V r := by
  unfold VA
  rw [(op3 (F := F)).result_of_not_mem _ (b := r) (nm h2), (op2 (F := F)).result_of_not_mem _ (b := r) (nm h1), (op1 (F := F)).result_of_not_mem _ (b := r) (nm h0)]

theorem VB_ne {r : DevRef τ sig} (h0 : r ≠ c4) (h1 : r ≠ c5) (h2 : r ≠ c6) : VB V r = V r := by
  unfold VB
  rw [(op6 (F := F)).result_of_not_mem _ (b := r) (nm h2), (op5 (F := F)).result_of_not_mem _ (b := r) (nm h1), (op4 (F := F)).result_of_not_mem _ (b := r) (nm h0)]

theorem VA_prop : VA V c2 = propT (F := F) (V b0) := by
  unfold VA
  rw [show (op3 (F := F)).result _ c2 = _ from StableHlo.unary_result' .., (op2 (F := F)).result_of_not_mem _ (b := b0) (nm (by decide)), (op1 (F := F)).result_of_not_mem _ (b := b0) (nm (by decide))]
  refine funext fun y => ?_
  have h0 : (y 0).val < 8 := (y 0).isLt
  have h1 : (y 1).val < 4 := (y 1).isLt
  have h2 : (y 2).val < 20000 := (y 2).isLt
  unfold propT atP
  refine transpose_apply _ _ _ _ _ fun b => ?_
  fin_cases b
  · exact Nat.mod_eq_of_lt h0
  · exact Nat.mod_eq_of_lt h1
  · exact Nat.mod_eq_of_lt h2

theorem VA_tail : VA V c1 = tailT (F := F) (V b0) := by
  unfold VA
  rw [(op3 (F := F)).result_of_not_mem _ (b := c1) (nm (by decide)), show (op2 (F := F)).result _ c1 = _ from StableHlo.reshape_result' .., show (op1 (F := F)).result V c0 = _ from StableHlo.unary_result' ..]
  refine funext fun y => ?_
  have h0 : (y 0).val < 1024 := (y 0).isLt
  unfold tailT atP
  refine (shapeCast_apply (s := S8x32x4) (t := S1024) _ _ y (fun | 0 => ⟨(y 0).val / 128, by show _ < 8; omega⟩ | 1 => ⟨(y 0).val % 128 / 4, by show _ < 32; omega⟩ | 2 => ⟨(y 0).val % 4, by show _ < 4; omega⟩) ?_).trans ?_
  · rw [Shape.rowMajor_val_three, Shape.rowMajor_val_one]
    show ((y 0).val / 128 * 32 + (y 0).val % 128 / 4) * 4 + (y 0).val % 4 = (y 0).val
    omega
  · refine extractStridedSlice_apply _ _ _ _ _ fun a => ?_
    fin_cases a
    · show (y 0).val / 128 % 8 = 0 + (y 0).val / 128
      omega
    · show (19968 + (y 0).val % 128 / 4) % 20000 = 19968 + (y 0).val % 128 / 4
      omega
    · show (y 0).val % 4 % 4 = 0 + (y 0).val % 4
      omega

variable [Buckets F] (a0 : Vec F S8x20000x4 .f32) (fc fo : Vec F S8x560000 .f32)

/-- The two results. -/
def outBox : Vec F S8x20000x4 .f32 := fun y => boxAt a0 fc fo (y 0).val (y 1).val (y 2)
def outConf : Vec F S8x20000 .f32 := fun y => confAt fc (y 0).val (y 1).val

theorem VB_box (h : BoxAll a0 fc fo (V c3)) : VB V c5 = outBox (F := F) a0 fc fo := by
  unfold VB
  rw [(op6 (F := F)).result_of_not_mem _ (b := c5) (nm (by decide)), show (op5 (F := F)).result _ c5 = _ from StableHlo.unary_result' .., show (op4 (F := F)).result V c4 = _ from StableHlo.unary_result' ..]
  refine funext fun y => ?_
  have h0 : (y 0).val < 8 := (y 0).isLt
  have h1 : (y 1).val < 20000 := (y 1).isLt
  have h2 : (y 2).val < 4 := (y 2).isLt
  refine (extractStridedSlice_apply (s := S8x20096x4) (t := S8x20000x4) _ _ _ y (fun | 0 => ⟨(y 0).val, by show _ < 8; omega⟩ | 1 => ⟨(y 1).val, by show _ < 20096; omega⟩ | 2 => ⟨(y 2).val, by show _ < 4; omega⟩) fun a => ?_).trans ?_
  · fin_cases a
    · exact (Nat.zero_add _).symm
    · exact (Nat.zero_add _).symm
    · exact (Nat.zero_add _).symm
  refine (transpose_apply (s := S8x4x20096) (t := S8x20096x4) _ _ _ _ (fun | 0 => ⟨(y 0).val, by show _ < 8; omega⟩ | 1 => ⟨(y 2).val, by show _ < 4; omega⟩ | 2 => ⟨(y 1).val, by show _ < 20096; omega⟩) fun b => ?_).trans ?_
  · fin_cases b <;> rfl
  exact h _ h1

theorem VB_conf (h : ConfAll fc (V c3')) : VB V c6 = outConf (F := F) fc := by
  unfold VB
  rw [show (op6 (F := F)).result _ c6 = _ from StableHlo.reshape_result' .., (op5 (F := F)).result_of_not_mem _ (b := c3') (nm (by decide)), (op4 (F := F)).result_of_not_mem _ (b := c3') (nm (by decide))]
  refine funext fun y => ?_
  have h0 : (y 0).val < 8 := (y 0).isLt
  have h1 : (y 1).val < 20000 := (y 1).isLt
  refine (shapeCast_apply (s := S160000) (t := S8x20000) _ _ y (fun | 0 => ⟨(y 0).val * 20000 + (y 1).val, by show _ < 160000; omega⟩) ?_).trans ?_
  · rw [Shape.rowMajor_val_one, Shape.rowMajor_val_two]
    rfl
  refine (h _).trans ?_
  unfold outConf
  show confAt fc (((y 0).val * 20000 + (y 1).val) / 20000) (((y 0).val * 20000 + (y 1).val) % 20000) = _
  rw [show ((y 0).val * 20000 + (y 1).val) / 20000 = (y 0).val by omega, show ((y 0).val * 20000 + (y 1).val) % 20000 = (y 1).val by omega]

end Values
end Cert.Proof
end
-- ==== Proof.Main.lean ====
module

public import proofs.«01_k».proof.Proof.Host

@[expose] public section

set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F] [Buckets F]

local notation "𝕄" => MT nD τ sig (HIx 1) (Elt F) ℕ UU ℕ

variable (m : (ℓ : Loc nD τ sig) → Buf (Elt F) ℓ) (ρ : Dev nD → PrngReg)

/-- The contents at the launch, and when the call has returned with the boxes `f` and the confidences `g`. -/
def V0 (d : Dev nD) : Valuation τ sig (Elt F) := fun b => m (d, b)
def VM (d : Dev nD) (f : Vec F S8x4x20096 .f32) (g : Vec F S160000 .f32) : Valuation τ sig (Elt F) :=
  Function.update (Function.update (VA (V0 m d)) c3 f) c3' g

theorem VM_box (d : Dev nD) (f : Vec F S8x4x20096 .f32) (g : Vec F S160000 .f32) : VM m d f g c3 = f := by
  unfold VM
  rw [Function.update_of_ne (show c3 ≠ c3' by decide), Function.update_self]
theorem VM_conf (d : Dev nD) (f : Vec F S8x4x20096 .f32) (g : Vec F S160000 .f32) : VM m d f g c3' = g := by
  unfold VM
  rw [Function.update_self]
theorem VM_ne (d : Dev nD) (f : Vec F S8x4x20096 .f32) (g : Vec F S160000 .f32) {r : DevRef τ sig} (h : r ≠ c3) (h' : r ≠ c3') : VM m d f g r = VA (V0 m d) r := by
  unfold VM
  rw [Function.update_of_ne h', Function.update_of_ne h]

theorem unscoped_held (d : Dev nD) : (unscopedBufs d (fun b => m ((SparseCore.T d).loc b)) : sProp 𝕄) = held (SparseCore.T d) SA (V0 m d) := by
  rw [unscopedBufs_eq, held_SA]; rfl

theorem st0_eq (d : Dev nD) : (bigSep Finset.univ fun c : Fin ((K (F := F)).nCore 0) => (P m).st 0 d c) = bigSep Finset.univ fun p => goAt m d p := by
  rw [bigSep_univ_prod]
  exact bigSep_cores (fun c => bigSep Finset.univ fun s : Fin 16 => goAt m d (c, s))
theorem dn0_eq (d : Dev nD) : (bigSep Finset.univ fun c : Fin ((K (F := F)).nCore 0) => (P m).dn 0 d c) = bigSep Finset.univ fun p => backAt m d p := by
  rw [bigSep_univ_prod]
  exact bigSep_cores (fun c => bigSep Finset.univ fun s : Fin 16 => backAt m d (c, s))

theorem sub1 : (op1 (F := F)).bufs ⊆ SA := show ({b0, c0} : Finset (DevRef τ sig)) ⊆ SA by decide
theorem sub2 : (op2 (F := F)).bufs ⊆ SA := show ({c0, c1} : Finset (DevRef τ sig)) ⊆ SA by decide
theorem sub3 : (op3 (F := F)).bufs ⊆ SA := show ({b0, c2} : Finset (DevRef τ sig)) ⊆ SA by decide
theorem sub4 : (op4 (F := F)).bufs ⊆ SA := show ({c3, c4} : Finset (DevRef τ sig)) ⊆ SA by decide
theorem sub5 : (op5 (F := F)).bufs ⊆ SA := show ({c4, c5} : Finset (DevRef τ sig)) ⊆ SA by decide
theorem sub6 : (op6 (F := F)).bufs ⊆ SA := show ({c3', c6} : Finset (DevRef τ sig)) ⊆ SA by decide

/-- What @main leaves the claim: the arguments as they were, and the two results. -/
def FIN (d : Dev nD) : sProp 𝕄 :=
  iprop(((SparseCore.T d).loc main_arg0 ↦{fullShare} argP m d) ∗ ((SparseCore.T d).loc main_arg1 ↦{fullShare} argC m d) ∗ ((SparseCore.T d).loc main_arg2 ↦{fullShare} argO m d)
    ∗ ((SparseCore.T d).loc main_v5 ↦{fullShare} outBox (F := F) (argP m d) (argC m d) (argO m d)) ∗ ((SparseCore.T d).loc main_v6 ↦{fullShare} outConf (F := F) (argC m d)))

/-- The arrays before the call. -/
theorem held_A (d : Dev nD) : (held (SparseCore.T d) SA (VA (V0 m d)) : sProp 𝕄) = iprop(((SparseCore.T d).loc main_arg0 ↦{fullShare} argP m d) ∗ (zC d ↦{fullShare} argC m d) ∗ (zO d ↦{fullShare} argO m d)
      ∗ ((SparseCore.T d).loc main_v0 ↦{fullShare} VA (V0 m d) c0) ∗ (zT d ↦{fullShare} tailT (argP m d)) ∗ (zP d ↦{fullShare} propT (argP m d)) ∗ (zB d ↦{fullShare} VA (V0 m d) c3)
      ∗ (zF d ↦{fullShare} VA (V0 m d) c3') ∗ ((SparseCore.T d).loc main_v4 ↦{fullShare} VA (V0 m d) c4) ∗ ((SparseCore.T d).loc main_v5 ↦{fullShare} VA (V0 m d) c5) ∗ ((SparseCore.T d).loc main_v6 ↦{fullShare} VA (V0 m d) c6)) := by
  rw [held_SA, VA_ne (V0 m d) (r := b0) (by decide) (by decide) (by decide), VA_ne (V0 m d) (r := b1) (by decide) (by decide) (by decide), VA_ne (V0 m d) (r := b2) (by decide) (by decide) (by decide), VA_tail, VA_prop]
  rfl

/-- The arrays after it. -/
theorem held_M (d : Dev nD) (f : Vec F S8x4x20096 .f32) (g : Vec F S160000 .f32) : (held (SparseCore.T d) SA (VM m d f g) : sProp 𝕄) = iprop(((SparseCore.T d).loc main_arg0 ↦{fullShare} argP m d) ∗ (zC d ↦{fullShare} argC m d) ∗ (zO d ↦{fullShare} argO m d)
      ∗ ((SparseCore.T d).loc main_v0 ↦{fullShare} VA (V0 m d) c0) ∗ (zT d ↦{fullShare} tailT (argP m d)) ∗ (zP d ↦{fullShare} propT (argP m d)) ∗ (zB d ↦{fullShare} f)
      ∗ (zF d ↦{fullShare} g) ∗ ((SparseCore.T d).loc main_v4 ↦{fullShare} VA (V0 m d) c4) ∗ ((SparseCore.T d).loc main_v5 ↦{fullShare} VA (V0 m d) c5) ∗ ((SparseCore.T d).loc main_v6 ↦{fullShare} VA (V0 m d) c6)) := by
  rw [held_SA, VM_box, VM_conf, VM_ne m d f g (r := b0) (by decide) (by decide), VM_ne m d f g (r := b1) (by decide) (by decide), VM_ne m d f g (r := b2) (by decide) (by decide),
    VM_ne m d f g (r := c0) (by decide) (by decide), VM_ne m d f g (r := c1) (by decide) (by decide), VM_ne m d f g (r := c2) (by decide) (by decide), VM_ne m d f g (r := c4) (by decide) (by decide), VM_ne m d f g (r := c5) (by decide) (by decide), VM_ne m d f g (r := c6) (by decide) (by decide),
    VA_ne (V0 m d) (r := b0) (by decide) (by decide) (by decide), VA_ne (V0 m d) (r := b1) (by decide) (by decide) (by decide), VA_ne (V0 m d) (r := b2) (by decide) (by decide) (by decide), VA_tail, VA_prop]
  rfl

theorem held_end (d : Dev nD) (f : Vec F S8x4x20096 .f32) (g : Vec F S160000 .f32) (hf : BoxAll (argP m d) (argC m d) (argO m d) f) (hg : ConfAll (argC m d) g) :
    (held (SparseCore.T d) SA (VB (VM m d f g)) : sProp 𝕄) ⊢ FIN m d := by
  rw [held_SA, VB_box (VM m d f g) (argP m d) (argC m d) (argO m d) (by rw [VM_box]; exact hf), VB_conf (VM m d f g) (argC m d) (by rw [VM_conf]; exact hg),
    VB_ne (VM m d f g) (r := b0) (by decide) (by decide) (by decide), VB_ne (VM m d f g) (r := b1) (by decide) (by decide) (by decide), VB_ne (VM m d f g) (r := b2) (by decide) (by decide) (by decide),
    VM_ne m d f g (r := b0) (by decide) (by decide), VM_ne m d f g (r := b1) (by decide) (by decide), VM_ne m d f g (r := b2) (by decide) (by decide),
    VA_ne (V0 m d) (r := b0) (by decide) (by decide) (by decide), VA_ne (V0 m d) (r := b1) (by decide) (by decide) (by decide), VA_ne (V0 m d) (r := b2) (by decide) (by decide) (by decide)]
  unfold FIN
  show (iprop(_) : sProp 𝕄) ⊢ iprop(_)
  iintro ⟨H0, H1, H2, -, -, -, -, -, -, H5, H6⟩
  isplitl [H0]; · iexact H0
  isplitl [H1]; · iexact H1
  isplitl [H2]; · iexact H2
  isplitl [H5]; · iexact H5
  iexact H6

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op1) (S := SA) sub1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := SA) sub2 (V := (op1 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := SA) sub3 (V := (op2 (F := F)).result ((op1 (F := F)).result (V0 m d)))) $$ [Hb Hheld]
  · isplitl [Hb]; · iexact Hb
    iexact Hheld
  iintro ⟨Hb, Hheld⟩
  rw [wp_ret]; imodintro
  ihave Hh := (Entails.of_eq ((show (held (SparseCore.T d) SA ((op3 (F := F)).result ((op2 (F := F)).result ((op1 (F := F)).result (V0 m d)))) : sProp 𝕄) = held (SparseCore.T d) SA (VA (V0 m d)) from rfl).trans (held_A m d))) $$ Hheld
  icases Hh with ⟨H0, H1, H2, h0, h1, h2, h3, h3', h4, h5, h6⟩
  iapply ((K (F := F)).wp_run (D (F := F)) 𝒱 (EH := EH) (P := P m) κ d 0) $$ [Hst H0 H1 H2 h0 h1 h2 h3 h3' h4 h5 h6 Hb Hts]
  isplitr; · iexact Hctx
  isplitl [Hst]; · iexact Hst
  isplitl [H1 H2 h1 h2 h3 h3']
  · rw [st0_eq]
    iapply (deal_in d (argP m d) (argC m d) (argO m d) (VA (V0 m d) c3) (VA (V0 m d) c3'))
    unfold Tables
    isplitl [H1 H2 h1 h2]
    · isplitl [H1]; · iexact H1
      isplitl [H2]; · iexact H2
      isplitl [h2]; · iexact h2
      iexact h1
    isplitl [h3]; · iexact h3
    iexact h3'
  iintro ⟨Hst, Hdn⟩
  ihave Hdn1 := (Entails.of_eq (dn0_eq m d)) $$ Hdn
  ihave Hdn2 := (deal_out d (argP m d) (argC m d) (argO m d)) $$ Hdn1
  unfold Tables
  icases Hdn2 with ⟨⟨H1, H2, h2, h1⟩, ⟨%f, %hf, h3⟩, ⟨%g, %hg, h3'⟩⟩
  iapply (wp_hlo_within 𝒱 (SparseCore.T d) none Set.univ (op := op4) (S := SA) sub4 (V := VM m d f g)) $$ [Hb H0 H1 H2 h0 h1 h2 h3 h3' h4 h5 h6]
  · isplitl [Hb]; · iexact Hb
    rw [held_M]
    isplitl [H0]; · iexact H0
    isplitl [H1]; · iexact H1
    isplitl [H2]; · iexact H2
    isplitl [h0]; · iexact h0
    isplitl [h1]; · iexact h1
    isplitl [h2]; · iexact h2
    isplitl [h3]; · iexact h3
    isplitl [h3']; · iexact h3'
    isplitl [h4]; · iexact h4
    isplitl [h5]; · iexact h5
    iexact h6
  iintro ⟨Hb, Hheld⟩
  rw [wp_ret]; imodintro
  iapply (wp_hlo_within 𝒱 (SparseCore.T d) none Set.univ (op := op5) (S := SA) sub5 (V := (op4 (F := F)).result (VM m d f g))) $$ [Hb Hheld]
  · isplitl [Hb]; · iexact Hb
    iexact Hheld
  iintro ⟨Hb, Hheld⟩
  rw [wp_ret]; imodintro
  iapply (wp_hlo_within 𝒱 (SparseCore.T d) none Set.univ (op := op6) (S := SA) sub6 (V := (op5 (F := F)).result ((op4 (F := F)).result (VM m d f g)))) $$ [Hb Hheld]
  · isplitl [Hb]; · iexact Hb
    iexact Hheld
  iintro ⟨Hb, Hheld⟩
  rw [wp_ret]; imodintro; imodintro
  isplitl [Hst]; · iexact Hst
  isplitl [Hheld]
  · iapply (held_end m d f g hf hg); iexact Hheld
  isplitl [Hb] <;> iassumption

/-! ## The run -/

def fq (d : Dev nD) (s' : Phys nD τ sig (Elt F)) : Prop :=
  s'.mem.mem ((SparseCore.T d).loc main_arg0) = argP m d ∧ s'.mem.mem ((SparseCore.T d).loc main_arg1) = argC m d ∧ s'.mem.mem ((SparseCore.T d).loc main_arg2) = argO m d
    ∧ s'.mem.mem ((SparseCore.T d).loc main_v5) = outBox (F := F) (argP m d) (argC m d) (argO m d) ∧ s'.mem.mem ((SparseCore.T d).loc main_v6) = outConf (F := F) (argC m d)

omit [FloatOps F] [Buckets F] in
theorem agree {ℓ : Loc nD τ sig} {f : Buf (Elt F) ℓ} (s' : Phys nD τ sig (Elt F)) : (iprop((ℓ ↦{fullShare} f) ∗ SI s') : sProp 𝕄) ⊢ iprop(⌜s'.mem.mem ℓ = f⌝ ∗ SI s') := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h1, HSI, -⟩
  isplitr
  · ipureintro; exact funext fun i => h1 i (Finset.mem_univ i)
  · iexact HSI

theorem hfin (d : Dev nD) (s' : Phys nD τ sig (Elt F)) : iprop(FIN m d ∗ SI s') ⊢ (⌜fq m d s'⌝ : sProp 𝕄) := by
  unfold FIN fq
  iintro ⟨⟨H0, H1, H2, H5, H6⟩, HS⟩
  ihave A := (agree s') $$ [H0 HS]
  · isplitl [H0] <;> iassumption
  icases A with ⟨%e0, HS⟩
  ihave A := (agree s') $$ [H1 HS]
  · isplitl [H1] <;> iassumption
  icases A with ⟨%e1, HS⟩
  ihave A := (agree s') $$ [H2 HS]
  · isplitl [H2] <;> iassumption
  icases A with ⟨%e2, HS⟩
  ihave A := (agree s') $$ [H5 HS]
  · isplitl [H5] <;> iassumption
  icases A with ⟨%e5, HS⟩
  ihave A := (agree s') $$ [H6 HS]
  · isplitl [H6] <;> iassumption
  icases A with ⟨%e6, HS⟩
  ipureintro
  exact ⟨e0, e1, e2, e5, e6⟩

def QC : PUnit × MemSt nD τ sig (Elt F) → Prop := fun r =>
  (∀ d : Dev nD, r.2.mem ((SparseCore.T d).loc main_arg0) = argP m d ∧ r.2.mem ((SparseCore.T d).loc main_arg1) = argC m d ∧ r.2.mem ((SparseCore.T d).loc main_arg2) = argO m d
    ∧ r.2.mem ((SparseCore.T d).loc main_v5) = outBox (F := F) (argP m d) (argC m d) (argO m d) ∧ r.2.mem ((SparseCore.T d).loc main_v6) = outConf (F := F) (argC m d)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof
end
-- ==== Proof.Frames.lean ====
module

public import proofs.«01_k».proof.Proof.Main
public import proofs.«01_k».proof.Defs
public import proofs.«01_k».proof.Proof.Gen.Kernel
public import proofs.«01_k».proof.Proof.Gen.ReferenceIdeal
public import proofs.«01_k».proof.Proof.Gen.ReferenceIdeal.Run
public import Idealize.ShloMosaic.Lib.IdealHost
public import Idealize.ShloMosaic.Lib.NatWords

@[expose] public section

set_option maxRecDepth 65536

namespace Cert.Proof

open Idealize.ShloMosaic Idealize.SL.Sem
open Cert.KernelIdeal.Gen

/-! ## The two float semantics, and what the programs leave -/

theorem nat_bucket (j : Fin 7) : Bits.f32OfNat j.val = (bucketWord j : Bits .f32) := by
  rw [Bits.f32OfNat_eq _ (by have := j.isLt; omega)]
  revert j
  decide

instance bucketsBits : Buckets Bits where
  conv := by
    intro j
    show Bits.fptosi32 32 (bucketWord j) = _
    rw [show (bucketWord j : Bits .f32) = Bits.f32OfNat j.val from (nat_bucket j).symm, Bits.fptosi32_nat _ (by have := j.isLt; omega)]

/-- A normal word of sign 0, from its exponent and fraction fields. -/
theorem word_normal (w : BitVec 32) (E T : ℕ) (hE : (w.extractLsb' 23 8).toNat = E) (hT : (w.extractLsb' 0 23).toNat = T)
    (hs : (w.extractLsb' 31 1 == 1#1) = false) (h1 : E ≠ 255) (h0 : E ≠ 0) :
    Ideal.ofBits .f32 w = (((8388608 + T : ℕ) * (2 : ℝ) ^ ((E : ℤ) - 150) : ℝ) : EReal) := by
  show Ideal.ieee 8 23 w = _
  unfold Ideal.ieee
  dsimp only
  rw [hE, hT, if_neg (by norm_num; exact h1), if_neg h0, show 8 + 23 = 31 from rfl, hs]
  refine congrArg _ ?_
  have e : ((E : ℤ) - (2 ^ (8 - 1) - 1) - (23 : ℕ)) = (E : ℤ) - 150 := by norm_num; ring
  rw [e]
  norm_num

theorem word_zero : Ideal.ofBits .f32 0x00000000#32 = ((0 : ℝ) : EReal) := by simp [Ideal.ofBits, Ideal.ieee]
theorem word_one : Ideal.ofBits .f32 0x3F800000#32 = ((1 : ℝ) : EReal) := by
  rw [word_normal _ 127 0 (by decide) (by decide) (by decide) (by decide) (by decide)]; norm_num

theorem word_bucket (j : Fin 7) : Ideal.ofBits .f32 (bucketWord j) = ((j.val : ℝ) : EReal) := by
  fin_cases j
  · exact word_zero.trans (by simp)
  · exact word_one.trans (by simp)
  · refine (word_normal 0x40000000#32 128 0 (by decide) (by decide) (by decide) (by decide) (by decide)).trans (congrArg _ ?_); norm_num
  · refine (word_normal 0x40400000#32 128 4194304 (by decide) (by decide) (by decide) (by decide) (by decide)).trans (congrArg _ ?_); norm_num
  · refine (word_normal 0x40800000#32 129 0 (by decide) (by decide) (by decide) (by decide) (by decide)).trans (congrArg _ ?_); norm_num
  · refine (word_normal 0x40A00000#32 129 2097152 (by decide) (by decide) (by decide) (by decide) (by decide)).trans (congrArg _ ?_); norm_num
  · refine (word_normal 0x40C00000#32 129 4194304 (by decide) (by decide) (by decide) (by decide) (by decide)).trans (congrArg _ ?_); norm_num

theorem conv_bucket (j : Fin 7) : Ideal.fptosi 32 ((j.val : ℝ) : EReal) = BitVec.ofNat 32 j.val := by
  have h : Ideal.toIntClamped (-(2 ^ (32 - 1) : ℕ)) ((2 ^ (32 - 1) : ℕ) - 1) ((j.val : ℝ) : EReal) = max (-((2 ^ (32 - 1) : ℕ) : ℤ)) (min (((2 ^ (32 - 1) : ℕ) : ℤ) - 1) (j.val : ℤ)) := by
    show max _ (min _ (if (0 : ℝ) ≤ (j.val : ℝ) then ⌊(j.val : ℝ)⌋ else ⌈(j.val : ℝ)⌉)) = _
    rw [if_pos (Nat.cast_nonneg _), Int.floor_natCast]
  unfold Ideal.fptosi
  rw [h]
  clear h
  revert j
  decide +kernel

instance bucketsIdeal : Buckets Ideal where
  conv := fun j => (congrArg (Ideal.fptosi 32) (word_bucket j)).trans (conv_bucket j)

theorem frame_kernel : Cert.quiescent_Kernel (hKernel := Cert.Kernel.Gen.facts) := fun m ρ _ =>
  (θ_run Cert.KernelIdeal.defs _ _).mono (fun _ h => ⟨fun c => ⟨(h.1 c).1, (h.1 c).2.1, (h.1 c).2.2.1⟩, h.2⟩) (run_main (F := Bits) m ρ)

theorem frame_kernel_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1, (h.1 c).2.2.1⟩, h.2⟩) (run_main (F := Ideal) m ρ)

theorem frame_reference : Cert.quiescent_ReferenceIdeal (hReferenceIdeal := Cert.ReferenceIdeal.Gen.facts) := fun m ρ _ =>
  (θ_run Cert.ReferenceIdeal.defs _ _).mono (fun r h => ⟨fun c => ⟨(h c).2.2.1, (h c).2.2.2.1, (h c).2.2.2.2⟩,
    Idealize.ShloMosaic.sem_eq_zero_of_no_sems (by decide) r.2⟩) (Cert.ReferenceIdeal.Value.run (F := Ideal) m ρ)

end Cert.Proof
end
-- ==== Proof.Top2.lean ====
/- The two greatest of a line of values, first come first, and where a stable descending sort puts them. -/
module

public import Idealize.ShloMosaic.Lib.SortPrefix

@[expose] public section

namespace Cert.Proof

open Idealize.ShloMosaic

variable {α β : Type} [LinearOrder α] [LinearOrder β] {n : ℕ}

/-- `p` is the first place of the greatest value. -/
structure First (f : Fin n → α) (p : Fin n) : Prop where
  le : ∀ j, ¬ f p < f j
  lt : ∀ j, j < p → f j < f p

/-- `q` is the first place of the greatest value among the places other than `p`. -/
structure Second (f : Fin n → α) (p q : Fin n) : Prop where
  ne : q ≠ p
  le : ∀ j, j ≠ p → ¬ f q < f j
  lt : ∀ j, j ≠ p → j < q → f j < f q

theorem First.map {f : Fin n → α} {g : Fin n → β} {p : Fin n} (h : First f p) (e : ∀ a b, f a < f b ↔ g a < g b) : First g p :=
  ⟨fun j hj => h.le j ((e _ _).2 hj), fun j hj => (e _ _).1 (h.lt j hj)⟩

theorem Second.map {f : Fin n → α} {g : Fin n → β} {p q : Fin n} (h : Second f p q) (e : ∀ a b, f a < f b ↔ g a < g b) : Second g p q :=
  ⟨h.ne, fun j hn hj => h.le j hn ((e _ _).2 hj), fun j hn hj => (e _ _).1 (h.lt j hn hj)⟩

/-- Putting a place in front of later places only is the same with ties broken by place. -/
theorem insertBefore_tie (f : Fin n → α) (a : Fin n) : ∀ l : List (Fin n), (∀ b ∈ l, a < b) →
    insertBefore (fun k k' : Fin n => decide (f k' < f k)) a l
      = insertBefore (fun k k' : Fin n => decide (f k' < f k) || (decide (f k = f k') && decide (k < k'))) a l
  | [], _ => rfl
  | b :: l, h => by
    have hb : ¬ b < a := not_lt.2 (le_of_lt (h b (List.mem_cons_self ..)))
    unfold insertBefore
    rw [insertBefore_tie f a l fun c hc => h c (List.mem_cons_of_mem _ hc)]
    simp only [hb, decide_false, Bool.and_false, Bool.or_false]

theorem stableSort_tie (f : Fin n → α) : ∀ l : List (Fin n), l.Pairwise (· < ·) →
    stableSort (fun k k' : Fin n => decide (f k' < f k)) l
      = stableSort (fun k k' : Fin n => decide (f k' < f k) || (decide (f k = f k') && decide (k < k'))) l
  | [], _ => rfl
  | a :: l, h => by
    rw [List.pairwise_cons] at h
    unfold stableSort
    rw [stableSort_tie f l h.2]
    exact insertBefore_tie f a _ fun b hb => h.1 b ((perm_stableSort _ l).mem_iff.1 hb)

/-- The stable descending sort starts with the first greatest place and then the next. -/
theorem sorted_two (f : Fin n → α) {p q : Fin n} (hp : First f p) (hq : Second f p q) (h2 : 2 ≤ n) (i : Fin 2) :
    sortedFrom (fun k k' : Fin n => decide (f k' < f k)) (i.castLE h2) = (![p, q] : Fin 2 → Fin n) i := by
  have hB := StrictTotalBefore.of_key_then_position (fun a b : α => decide (b < a)) f (fun a => by simp)
    (fun a b c h h' => by simp only [decide_eq_true_eq] at h h' ⊢; exact lt_trans h' h)
    (fun a b => by
      rcases lt_trichotomy a b with h | h | h
      · exact Or.inr (Or.inr (decide_eq_true h))
      · exact Or.inr (Or.inl h)
      · exact Or.inl (decide_eq_true h))
  have e : sortedFrom (fun k k' : Fin n => decide (f k' < f k)) (i.castLE h2)
      = sortedFrom (fun k k' : Fin n => decide (f k' < f k) || (decide (f k = f k') && decide (k < k'))) (i.castLE h2) := by
    unfold sortedFrom sortPositions
    have := stableSort_tie f (List.finRange n) (List.pairwise_lt_finRange n)
    simp only [List.get_eq_getElem, this]
    rfl
  have no : ∀ a b : Fin n, ¬ f b < f a → (f a = f b → ¬ a < b) →
      (decide (f b < f a) || (decide (f a = f b) && decide (a < b))) = false := by
    intro a b h h'
    by_cases e : f a = f b
    · simp [e, h' e]
    · simp [e, h]
  rw [e]
  refine hB.sortedFrom_eq_of_prefix h2 ![p, q] ?_ ?_ ?_ i
  · intro a b h
    match a, b with
    | 0, 0 => rfl
    | 1, 1 => rfl
    | 0, 1 => exact absurd h.symm hq.ne
    | 1, 0 => exact absurd h hq.ne
  · intro a b hab
    obtain ⟨rfl, rfl⟩ : a = 0 ∧ b = 1 := by revert a b; decide
    exact no q p (hp.le q) fun he hl => absurd he (ne_of_lt (hp.lt q hl))
  · intro a k hk
    have k0 : p ≠ k := hk 0
    have k1 : q ≠ k := hk 1
    match a with
    | 0 => exact no k p (hp.le k) fun he hl => absurd he (ne_of_lt (hp.lt k hl))
    | 1 => exact no k q (hq.le k k0.symm) fun he hl => absurd he (ne_of_lt (hq.lt k k0.symm hl))

end Cert.Proof
end
-- ==== Proof.Top2Scan.lean ====
/- One side's scan over the extended reals, for finite scores: it ends with the two greatest exponentials,
   first come first, the buckets they are in, and the sum. -/
module

public import proofs.«01_k».proof.Proof.Frames
public import proofs.«01_k».proof.Proof.Top2

@[expose] public section

noncomputable section

namespace Cert.Proof

open Idealize.ShloMosaic

/-- The exponentials of a side's scores, and their sum. -/
def expo (r : Fin 7 → ℝ) : Fin 7 → ℝ := fun j => Real.exp (r j)
def total (r : Fin 7 → ℝ) : ℝ := ∑ j, Real.exp (r j)

theorem expo_pos (r : Fin 7 → ℝ) (j : Fin 7) : 0 < expo r j := Real.exp_pos _
theorem total_pos (r : Fin 7 → ℝ) : 0 < total r := Finset.sum_pos (fun j _ => Real.exp_pos _) ⟨0, Finset.mem_univ _⟩

theorem gt_one (x y : ℝ) : (FloatOps.cmpf (F := Ideal) (φ := .f32) .ogt (x : EReal) (y : EReal) = 1) ↔ y < x := by
  show BitVec.ofBool (decide ((y : EReal) < (x : EReal))) = 1 ↔ _
  rw [← EReal.coe_lt_coe_iff (x := y)]
  by_cases h : (y : EReal) < (x : EReal) <;> simp [h] <;> rfl

/-- The scan after buckets `0 … t`. -/
def Upto (e : Fin 7 → ℝ) (t : ℕ) (s : Scan Ideal) : Prop :=
  ∃ p q : Fin 7, p.val ≤ t ∧ q.val ≤ t ∧ q ≠ p ∧ (∀ j : Fin 7, j.val ≤ t → e j ≤ e p) ∧ (∀ j, j < p → e j < e p)
    ∧ (∀ j : Fin 7, j.val ≤ t → j ≠ p → e j ≤ e q) ∧ (∀ j, j ≠ p → j < q → e j < e q)
    ∧ s.m1 = ((e p : ℝ) : EReal) ∧ s.i1 = ((p.val : ℝ) : EReal) ∧ s.m2 = ((e q : ℝ) : EReal) ∧ s.i2 = ((q.val : ℝ) : EReal)

theorem upto_one (e : Fin 7 → ℝ) (he : ∀ j, 0 < e j) :
    Upto e 1 ((Scan.start (F := Ideal) ((e 0 : ℝ) : EReal)).step (bucketWord 1) ((e 1 : ℝ) : EReal)) := by
  have z : (FloatOps.ofBits (F := Ideal) .f32 0x00000000#32 : EReal) = ((0 : ℝ) : EReal) := word_zero
  have o : (FloatOps.ofBits (F := Ideal) .f32 (bucketWord 1) : EReal) = (((1 : Fin 7).val : ℝ) : EReal) := word_bucket 1
  have c01 : ∀ j : Fin 7, j.val ≤ 1 → j = 0 ∨ j = 1 := by decide
  by_cases h : e 0 < e 1
  · refine ⟨1, 0, by decide, by decide, by decide, ?_, ?_, ?_, ?_, ?_, ?_, ?_, ?_⟩
    · intro j hj; rcases c01 j hj with rfl | rfl; exacts [h.le, le_rfl]
    · intro j hj
      have : j = 0 := by revert j; decide
      rw [this]; exact h
    · intro j hj hn; rcases c01 j hj with rfl | rfl; exacts [le_rfl, absurd rfl hn]
    · intro j _ hj; exact absurd hj (by revert j; decide)
    · show max _ _ = _; exact max_eq_left (EReal.coe_le_coe_iff.2 h.le)
    · show (if _ then _ else _) = _; exact (if_pos ((gt_one _ _).2 h)).trans o
    · show (if _ then _ else _) = _; exact if_pos ((gt_one _ _).2 h)
    · show (if _ then _ else _) = _; exact (if_pos ((gt_one _ _).2 h)).trans (z.trans (by simp))
  · have g := not_lt.1 h
    have n1 : ¬ (FloatOps.cmpf (F := Ideal) (φ := .f32) .ogt ((e 1 : ℝ) : EReal) ((e 0 : ℝ) : EReal) = 1) := fun hh => h ((gt_one _ _).1 hh)
    have n2 : FloatOps.cmpf (F := Ideal) (φ := .f32) .ogt ((e 1 : ℝ) : EReal) (FloatOps.ofBits (F := Ideal) .f32 0x00000000#32) = 1 := by
      rw [z]; exact (gt_one _ _).2 (he 1)
    refine ⟨0, 1, by decide, by decide, by decide, ?_, ?_, ?_, ?_, ?_, ?_, ?_, ?_⟩
    · intro j hj; rcases c01 j hj with rfl | rfl; exacts [le_rfl, g]
    · intro j hj; exact absurd hj (by revert j; decide)
    · intro j hj hn; rcases c01 j hj with rfl | rfl; exacts [absurd rfl hn, le_rfl]
    · intro j hn hj; exact absurd hj (by revert j; decide)
    · show max _ _ = _; exact max_eq_right (EReal.coe_le_coe_iff.2 g)
    · show (if _ then _ else _) = _; exact (if_neg n1).trans (z.trans (by simp))
    · show (if _ then _ else (if _ then _ else _)) = _; exact (if_neg n1).trans (if_pos n2)
    · show (if _ then _ else (if _ then _ else _)) = _; exact ((if_neg n1).trans (if_pos n2)).trans o

theorem upto_step (e : Fin 7 → ℝ) (t : ℕ) (s : Scan Ideal) (h : Upto e t s) (x : Fin 7) (hx : x.val = t + 1) :
    Upto e (t + 1) (s.step (bucketWord x) ((e x : ℝ) : EReal)) := by
  obtain ⟨p, q, hp, hq, hne, pl, pf, ql, qf, m1, i1, m2, i2⟩ := h
  have o : (FloatOps.ofBits (F := Ideal) .f32 (bucketWord x) : EReal) = ((x.val : ℝ) : EReal) := word_bucket x
  have cs : ∀ j : Fin 7, j.val ≤ t + 1 → j.val ≤ t ∨ j = x := fun j hj => by
    rcases Nat.lt_or_ge t j.val with h | h
    · exact Or.inr (Fin.ext (by omega))
    · exact Or.inl h
  have lt_t : ∀ j : Fin 7, j < x → j.val ≤ t := fun j hj => by have : j.val < x.val := hj; omega
  by_cases h : e p < e x
  · have y : FloatOps.cmpf (F := Ideal) (φ := .f32) .ogt ((e x : ℝ) : EReal) s.m1 = 1 := by rw [m1]; exact (gt_one _ _).2 h
    refine ⟨x, p, by omega, by omega, fun hh => by rw [hh] at hp; omega, ?_, ?_, ?_, ?_, ?_, ?_, ?_, ?_⟩
    · intro j hj; rcases cs j hj with hj | rfl; exacts [(pl j hj).trans h.le, le_rfl]
    · intro j hj; exact (pl j (lt_t j hj)).trans_lt h
    · intro j hj hn; rcases cs j hj with hj | rfl; exacts [pl j hj, absurd rfl hn]
    · intro j _ hj; exact pf j hj
    · show max _ _ = _; rw [m1]; exact max_eq_left (EReal.coe_le_coe_iff.2 h.le)
    · show (if _ then _ else _) = _; exact (if_pos y).trans o
    · show (if _ then _ else _) = _; exact (if_pos y).trans m1
    · show (if _ then _ else _) = _; exact (if_pos y).trans i1
  · have g := not_lt.1 h
    have n1 : ¬ (FloatOps.cmpf (F := Ideal) (φ := .f32) .ogt ((e x : ℝ) : EReal) s.m1 = 1) := by rw [m1]; exact fun hh => h ((gt_one _ _).1 hh)
    by_cases h' : e q < e x
    · have y : FloatOps.cmpf (F := Ideal) (φ := .f32) .ogt ((e x : ℝ) : EReal) s.m2 = 1 := by rw [m2]; exact (gt_one _ _).2 h'
      refine ⟨p, x, by omega, by omega, fun hh => by rw [← hh] at hp; omega, ?_, pf, ?_, ?_, ?_, ?_, ?_, ?_⟩
      · intro j hj; rcases cs j hj with hj | rfl; exacts [pl j hj, g]
      · intro j hj hn; rcases cs j hj with hj | rfl; exacts [(ql j hj hn).trans h'.le, le_rfl]
      · intro j hn hj; exact (ql j (lt_t j hj) hn).trans_lt h'
      · show max _ _ = _; rw [m1]; exact max_eq_right (EReal.coe_le_coe_iff.2 g)
      · show (if _ then _ else _) = _; exact (if_neg n1).trans i1
      · show (if _ then _ else (if _ then _ else _)) = _; exact (if_neg n1).trans (if_pos y)
      · show (if _ then _ else (if _ then _ else _)) = _; exact ((if_neg n1).trans (if_pos y)).trans o
    · have g' := not_lt.1 h'
      have n2 : ¬ (FloatOps.cmpf (F := Ideal) (φ := .f32) .ogt ((e x : ℝ) : EReal) s.m2 = 1) := by rw [m2]; exact fun hh => h' ((gt_one _ _).1 hh)
      refine ⟨p, q, by omega, by omega, hne, ?_, pf, ?_, qf, ?_, ?_, ?_, ?_⟩
      · intro j hj; rcases cs j hj with hj | rfl; exacts [pl j hj, g]
      · intro j hj hn; rcases cs j hj with hj | rfl; exacts [ql j hj hn, g']
      · show max _ _ = _; rw [m1]; exact max_eq_right (EReal.coe_le_coe_iff.2 g)
      · show (if _ then _ else _) = _; exact (if_neg n1).trans i1
      · show (if _ then _ else (if _ then _ else _)) = _; exact ((if_neg n1).trans (if_neg n2)).trans m2
      · show (if _ then _ else (if _ then _ else _)) = _; exact ((if_neg n1).trans (if_neg n2)).trans i2

/-- What a side's scan ends with, its scores finite. -/
theorem scan_real (r : Fin 7 → ℝ) : ∃ p q : Fin 7, First (expo r) p ∧ Second (expo r) p q
    ∧ (scan (F := Ideal) fun j => ((r j : ℝ) : EReal)).m1 = ((expo r p : ℝ) : EReal)
    ∧ (scan (F := Ideal) fun j => ((r j : ℝ) : EReal)).i1 = ((p.val : ℝ) : EReal)
    ∧ (scan (F := Ideal) fun j => ((r j : ℝ) : EReal)).m2 = ((expo r q : ℝ) : EReal)
    ∧ (scan (F := Ideal) fun j => ((r j : ℝ) : EReal)).i2 = ((q.val : ℝ) : EReal)
    ∧ (scan (F := Ideal) fun j => ((r j : ℝ) : EReal)).den = ((total r : ℝ) : EReal) := by
  have h : Upto (expo r) 6 (scan (F := Ideal) fun j => ((r j : ℝ) : EReal)) :=
    upto_step _ 5 _ (upto_step _ 4 _ (upto_step _ 3 _ (upto_step _ 2 _ (upto_step _ 1 _ (upto_one _ (expo_pos r))
      2 rfl) 3 rfl) 4 rfl) 5 rfl) 6 rfl
  obtain ⟨p, q, -, -, hne, pl, pf, ql, qf, m1, i1, m2, i2⟩ := h
  refine ⟨p, q, ⟨fun j => not_lt.2 (pl j (by omega)), pf⟩, ⟨hne, fun j hn => not_lt.2 (ql j (by omega) hn), qf⟩, m1, i1, m2, i2, ?_⟩
  show (((((((expo r 0 : ℝ) : EReal) + ((expo r 1 : ℝ) : EReal)) + ((expo r 2 : ℝ) : EReal)) + ((expo r 3 : ℝ) : EReal))
    + ((expo r 4 : ℝ) : EReal)) + ((expo r 5 : ℝ) : EReal)) + ((expo r 6 : ℝ) : EReal) = _
  simp only [← EReal.coe_add]
  refine congrArg _ ?_
  unfold total expo
  rw [Fin.sum_univ_seven]

end Cert.Proof
end
-- ==== Proof.Side.lean ====
/- The two sides of the arithmetic over the extended reals: the reference's expressions for one side and one edge, and the
   kernel's, equal when scores and coordinates are finite. -/
module

public import proofs.«01_k».proof.Proof.Top2Scan

@[expose] public section

noncomputable section

namespace Cert.Proof

open Idealize.ShloMosaic

theorem div_real (a b : ℝ) (hb : b ≠ 0) : Ideal.div ((a : ℝ) : EReal) ((b : ℝ) : EReal) = ((a / b : ℝ) : EReal) := by
  unfold Ideal.div
  rw [if_neg (by simpa using hb), ← EReal.coe_inv, ← EReal.coe_mul, div_eq_mul_inv]

theorem abs_real (a : ℝ) : max ((a : ℝ) : EReal) (-((a : ℝ) : EReal)) = ((|a| : ℝ) : EReal) := by
  rw [← EReal.coe_neg, abs_eq_max_neg]
  exact (EReal.coe_strictMono.monotone.map_max).symm

theorem word_half : Ideal.ofBits .f32 0x3F000000#32 = ((1 / 2 : ℝ) : EReal) :=
  (word_normal _ 126 0 (by decide) (by decide) (by decide) (by decide) (by decide)).trans (congrArg _ (by norm_num))
theorem word_quarter : Ideal.ofBits .f32 0x3E800000#32 = ((1 / 4 : ℝ) : EReal) :=
  (word_normal _ 125 0 (by decide) (by decide) (by decide) (by decide) (by decide)).trans (congrArg _ (by norm_num))
theorem word_four : Ideal.ofBits .f32 0x40800000#32 = ((4 : ℝ) : EReal) :=
  (word_normal _ 129 0 (by decide) (by decide) (by decide) (by decide) (by decide)).trans (congrArg _ (by norm_num))
theorem word_fourteen : Ideal.ofBits .f32 0x41600000#32 = ((14 : ℝ) : EReal) :=
  (word_normal _ 130 6291456 (by decide) (by decide) (by decide) (by decide) (by decide)).trans (congrArg _ (by norm_num))
theorem word_scale : ∃ k : ℝ, Ideal.ofBits .f32 0x3FD9999A#32 = (k : EReal) :=
  ⟨_, word_normal _ 127 5872026 (by decide) (by decide) (by decide) (by decide) (by decide)⟩
theorem word_bot : Ideal.ofBits .f32 0xFF800000#32 = (⊥ : EReal) := by simp [Ideal.ofBits, Ideal.ieee]

/-! ## One side's confidence -/

/-- One side's share of the confidence, when its best and second best buckets are `p` and `q`. -/
def confR (r : Fin 7 → ℝ) (p q : Fin 7) : ℝ := expo r p / total r + expo r q / total r * (|(p.val : ℝ) - (q.val : ℝ)| - 1)

theorem side_real (r : Fin 7 → ℝ) : ∃ p q : Fin 7, First (expo r) p ∧ Second (expo r) p q
    ∧ best (F := Ideal) (fun j => ((r j : ℝ) : EReal)) = ((p.val : ℝ) : EReal)
    ∧ sideConf (F := Ideal) (fun j => ((r j : ℝ) : EReal)) = ((confR r p q : ℝ) : EReal) := by
  obtain ⟨p, q, hp, hq, m1, i1, m2, i2, den⟩ := scan_real r
  refine ⟨p, q, hp, hq, i1, ?_⟩
  unfold sideConf
  rw [m1, i1, m2, i2, den]
  have o : (FloatOps.ofBits (F := Ideal) .f32 0x3F800000#32 : EReal) = ((1 : ℝ) : EReal) := word_one
  rw [o]
  show ((expo r p : ℝ) : EReal) * Ideal.div ((1 : ℝ) : EReal) ((total r : ℝ) : EReal)
    + ((expo r q : ℝ) : EReal) * Ideal.div ((1 : ℝ) : EReal) ((total r : ℝ) : EReal)
      * (max (((p.val : ℝ) : EReal) - ((q.val : ℝ) : EReal)) (-(((p.val : ℝ) : EReal) - ((q.val : ℝ) : EReal))) - ((1 : ℝ) : EReal)) = _
  rw [div_real _ _ (total_pos r).ne', ← EReal.coe_sub, abs_real, ← EReal.coe_sub, ← EReal.coe_mul, ← EReal.coe_mul, ← EReal.coe_mul, ← EReal.coe_add]
  refine congrArg _ ?_
  unfold confR
  rw [mul_one_div, mul_one_div]

/-- The reference's softmax of a side at bucket `j`, the scores shifted by `M`. -/
def soft (c : Fin 7 → EReal) (M : EReal) (j : Fin 7) : EReal :=
  Ideal.div (Ideal.exp (c j - M)) (Ideal.ofBits .f32 0x00000000#32 + ∑ k : Fin 7, Ideal.exp (c k - M))

theorem coe_sum (f : Fin 7 → ℝ) : (∑ k : Fin 7, ((f k : ℝ) : EReal)) = ((∑ k : Fin 7, f k : ℝ) : EReal) := by
  rw [Fin.sum_univ_seven, Fin.sum_univ_seven]
  simp only [EReal.coe_add]

theorem soft_real (r : Fin 7 → ℝ) (μ : ℝ) (j : Fin 7) :
    soft (fun j => ((r j : ℝ) : EReal)) (μ : EReal) j = ((expo r j / total r : ℝ) : EReal) := by
  unfold soft
  rw [word_zero]
  have e : ∀ k, Ideal.exp (((r k : ℝ) : EReal) - (μ : EReal)) = ((Real.exp (r k) * Real.exp (-μ) : ℝ) : EReal) := fun k => by
    rw [← EReal.coe_sub, ← Real.exp_add, ← sub_eq_add_neg]; rfl
  simp only [e]
  rw [coe_sum, ← EReal.coe_add, zero_add, ← Finset.sum_mul]
  refine (div_real _ _ (mul_pos (total_pos r) (Real.exp_pos _)).ne').trans (congrArg _ ?_)
  exact mul_div_mul_right _ _ (Real.exp_pos _).ne'

theorem soft_lt (r : Fin 7 → ℝ) (a b : Fin 7) :
    expo r a < expo r b ↔ ((expo r a / total r : ℝ) : EReal) < ((expo r b / total r : ℝ) : EReal) := by
  rw [EReal.coe_lt_coe_iff, div_lt_div_iff_of_pos_right (total_pos r)]

/-- The greatest of finitely many finite scores is finite. -/
theorem max_real (f : Fin 7 → ℝ) : ∃ μ : ℝ, max (⊥ : EReal) ((Finset.univ : Finset (Fin 7)).fold max ⊥ fun k => ((f k : ℝ) : EReal)) = (μ : EReal) := by
  rw [max_eq_right bot_le]
  have h1 : (Finset.univ : Finset (Fin 7)).fold max ⊥ (fun k => ((f k : ℝ) : EReal)) < ⊤ :=
    (Finset.fold_max_lt _).2 ⟨bot_lt_top, fun k _ => EReal.coe_lt_top _⟩
  have h0 : ⊥ < (Finset.univ : Finset (Fin 7)).fold max ⊥ (fun k => ((f k : ℝ) : EReal)) :=
    (Finset.lt_fold_max _).2 (Or.inr ⟨0, Finset.mem_univ _, EReal.bot_lt_coe _⟩)
  exact ⟨_, (EReal.coe_toReal h1.ne h0.ne').symm⟩

/-! ## One edge -/

/-- The reference's centre, extent, ends and bucket width along one axis. -/
def refMid (lo hi : EReal) : EReal := (lo + hi) * Ideal.ofBits .f32 0x3F000000#32
def refExt (lo hi : EReal) : EReal := (hi - lo) * Ideal.ofBits .f32 0x3FD9999A#32
def refP1 (lo hi : EReal) : EReal := refMid lo hi - Ideal.ofBits .f32 0x3F000000#32 * refExt lo hi
def refP2 (lo hi : EReal) : EReal := refMid lo hi + Ideal.ofBits .f32 0x3F000000#32 * refExt lo hi
def refWid (lo hi : EReal) : EReal := Ideal.div (refP2 lo hi - refP1 lo hi) (Ideal.ofBits .f32 0x41600000#32)
/-- The reference's two refined edges along one axis. -/
def refLo (lo hi i o : EReal) : EReal := refP1 lo hi + (Ideal.ofBits .f32 0x3F000000#32 + i) * refWid lo hi - o * refWid lo hi
def refHi (lo hi i o : EReal) : EReal := refP2 lo hi - (Ideal.ofBits .f32 0x3F000000#32 + i) * refWid lo hi - o * refWid lo hi

theorem top_mul_real (w : ℝ) : (⊤ : EReal) * (w : EReal) = if 0 < w then ⊤ else if w < 0 then ⊥ else 0 := by
  rcases lt_trichotomy w 0 with h | h | h
  · rw [EReal.top_mul_coe_of_neg h, if_neg (not_lt.2 h.le), if_pos h]
  · subst h; simp
  · rw [EReal.top_mul_coe_of_pos h, if_pos h]
theorem bot_mul_real (w : ℝ) : (⊥ : EReal) * (w : EReal) = if 0 < w then ⊥ else if w < 0 then ⊤ else 0 := by
  rcases lt_trichotomy w 0 with h | h | h
  · rw [EReal.bot_mul_coe_of_neg h, if_neg (not_lt.2 h.le), if_pos h]
  · subst h; simp
  · rw [EReal.bot_mul_coe_of_pos h, if_pos h]

theorem lo_split (a k w : ℝ) (o : EReal) : (a : EReal) + ((k : EReal) - o) * (w : EReal) = ((a + k * w : ℝ) : EReal) - o * (w : EReal) := by
  induction o with
  | coe x =>
    rw [← EReal.coe_sub, ← EReal.coe_mul, ← EReal.coe_mul, ← EReal.coe_add, ← EReal.coe_sub]
    exact congrArg _ (by ring)
  | top =>
    rw [sub_eq_add_neg (k : EReal), EReal.neg_top, EReal.add_bot, top_mul_real, bot_mul_real]
    rcases lt_trichotomy w 0 with h | h | h
    · rw [if_neg (not_lt.2 h.le), if_pos h, if_neg (not_lt.2 h.le), if_pos h]; simp only [sub_eq_add_neg, EReal.neg_top, EReal.neg_bot, EReal.add_bot, EReal.coe_add_top]
    · subst h; simp
    · rw [if_pos h, if_pos h]; simp only [sub_eq_add_neg, EReal.neg_top, EReal.neg_bot, EReal.add_bot, EReal.coe_add_top]
  | bot =>
    rw [EReal.coe_sub_bot, top_mul_real, bot_mul_real]
    rcases lt_trichotomy w 0 with h | h | h
    · rw [if_neg (not_lt.2 h.le), if_pos h, if_neg (not_lt.2 h.le), if_pos h]; simp only [sub_eq_add_neg, EReal.neg_top, EReal.neg_bot, EReal.add_bot, EReal.coe_add_top]
    · subst h; simp
    · rw [if_pos h, if_pos h]; simp only [sub_eq_add_neg, EReal.neg_top, EReal.neg_bot, EReal.add_bot, EReal.coe_add_top]

theorem hi_split (a k w : ℝ) (o : EReal) : (a : EReal) - ((k : EReal) + o) * (w : EReal) = ((a - k * w : ℝ) : EReal) - o * (w : EReal) := by
  induction o with
  | coe x =>
    rw [← EReal.coe_add, ← EReal.coe_mul, ← EReal.coe_mul, ← EReal.coe_sub, ← EReal.coe_sub]
    exact congrArg _ (by ring)
  | top =>
    rw [EReal.coe_add_top, top_mul_real]
    rcases lt_trichotomy w 0 with h | h | h
    · rw [if_neg (not_lt.2 h.le), if_pos h]; simp only [sub_eq_add_neg, EReal.neg_top, EReal.neg_bot, EReal.add_bot, EReal.coe_add_top]
    · subst h; simp
    · rw [if_pos h]; simp only [sub_eq_add_neg, EReal.neg_top, EReal.neg_bot, EReal.add_bot, EReal.coe_add_top]
  | bot =>
    rw [EReal.add_bot, bot_mul_real]
    rcases lt_trichotomy w 0 with h | h | h
    · rw [if_neg (not_lt.2 h.le), if_pos h]; simp only [sub_eq_add_neg, EReal.neg_top, EReal.neg_bot, EReal.add_bot, EReal.coe_add_top]
    · subst h; simp
    · rw [if_pos h]; simp only [sub_eq_add_neg, EReal.neg_top, EReal.neg_bot, EReal.add_bot, EReal.coe_add_top]

theorem refWid_real (lo hi k : ℝ) (hk : Ideal.ofBits .f32 0x3FD9999A#32 = (k : EReal)) :
    refP1 lo hi = (((lo + hi) * (1 / 2) - 1 / 2 * ((hi - lo) * k) : ℝ) : EReal)
    ∧ refP2 lo hi = (((lo + hi) * (1 / 2) + 1 / 2 * ((hi - lo) * k) : ℝ) : EReal)
    ∧ refWid lo hi = (((hi - lo) * k / 14 : ℝ) : EReal) := by
  have h1 : refP1 lo hi = (((lo + hi) * (1 / 2) - 1 / 2 * ((hi - lo) * k) : ℝ) : EReal) := by
    unfold refP1 refMid refExt
    rw [hk, word_half]
    simp only [← EReal.coe_add, ← EReal.coe_sub, ← EReal.coe_mul]
  have h2 : refP2 lo hi = (((lo + hi) * (1 / 2) + 1 / 2 * ((hi - lo) * k) : ℝ) : EReal) := by
    unfold refP2 refMid refExt
    rw [hk, word_half]
    simp only [← EReal.coe_add, ← EReal.coe_sub, ← EReal.coe_mul]
  refine ⟨h1, h2, ?_⟩
  unfold refWid
  rw [h1, h2, word_fourteen, ← EReal.coe_sub, div_real _ _ (by norm_num)]
  exact congrArg _ (by ring)

theorem edgeLo_real (lo hi i : ℝ) (o : EReal) : edgeLo (F := Ideal) (lo : EReal) (hi : EReal) (i : EReal) o = refLo lo hi i o := by
  obtain ⟨k, hk⟩ := word_scale
  obtain ⟨h1, -, hw⟩ := refWid_real lo hi k hk
  unfold refLo
  rw [h1, hw, word_half]
  show (((lo : EReal) + hi) - ((hi : EReal) - lo) * Ideal.ofBits .f32 0x3FD9999A#32) * Ideal.ofBits .f32 0x3F000000#32
    + ((Ideal.ofBits .f32 0x3F000000#32 + (i : EReal)) - o) * Ideal.div (((hi : EReal) - lo) * Ideal.ofBits .f32 0x3FD9999A#32) (Ideal.ofBits .f32 0x41600000#32) = _
  rw [hk, word_half, word_fourteen]
  simp only [← EReal.coe_add, ← EReal.coe_sub, ← EReal.coe_mul]
  rw [div_real _ _ (by norm_num), lo_split]
  exact congrArg (fun x : ℝ => (x : EReal) - o * (((hi - lo) * k / 14 : ℝ) : EReal)) (by ring)

theorem edgeHi_real (lo hi i : ℝ) (o : EReal) : edgeHi (F := Ideal) (lo : EReal) (hi : EReal) (i : EReal) o = refHi lo hi i o := by
  obtain ⟨k, hk⟩ := word_scale
  obtain ⟨-, h2, hw⟩ := refWid_real lo hi k hk
  unfold refHi
  rw [h2, hw, word_half]
  show (((lo : EReal) + hi) + ((hi : EReal) - lo) * Ideal.ofBits .f32 0x3FD9999A#32) * Ideal.ofBits .f32 0x3F000000#32
    - ((Ideal.ofBits .f32 0x3F000000#32 + (i : EReal)) + o) * Ideal.div (((hi : EReal) - lo) * Ideal.ofBits .f32 0x3FD9999A#32) (Ideal.ofBits .f32 0x41600000#32) = _
  rw [hk, word_half, word_fourteen]
  simp only [← EReal.coe_add, ← EReal.coe_sub, ← EReal.coe_mul]
  rw [div_real _ _ (by norm_num), hi_split]
  exact congrArg (fun x : ℝ => (x : EReal) - o * (((hi - lo) * k / 14 : ℝ) : EReal)) (by ring)

end Cert.Proof
end
-- ==== Proof.RefRead.lean ====
/- The reference's layout steps, top-two, lookup and maximum, read at an index. -/
module

public import proofs.«01_k».proof.Proof.Side
public import proofs.«01_k».proof.Proof.Gen.ReferenceIdeal.Read
public import Idealize.ShloMosaic.Lib.ReduceAll

@[expose] public section

noncomputable section

namespace Cert.Proof

open Cert.ReferenceIdeal Cert.ReferenceIdeal.Gen Cert.ReferenceIdeal.Read Idealize.ShloMosaic

/-- Indices by coordinate: a proposal `n` of batch row `b`, one of its four sides or coordinates `s`, and a further axis. -/
def ix2 (b : Fin 8) (n : Fin 20000) : S8x20000.Idx := fun a => match a with | ⟨0, _⟩ => b | ⟨1, _⟩ => n
def ix31 (b : Fin 8) (n : Fin 20000) (k : Fin 1) : S8x20000x1.Idx := fun a => match a with | ⟨0, _⟩ => b | ⟨1, _⟩ => n | ⟨2, _⟩ => k
def ix3 (b : Fin 8) (n : Fin 20000) (s : Fin 4) : S8x20000x4.Idx := fun a => match a with | ⟨0, _⟩ => b | ⟨1, _⟩ => n | ⟨2, _⟩ => s
def ix41 (b : Fin 8) (n : Fin 20000) (s : Fin 4) (k : Fin 1) : S8x20000x4x1.Idx :=
  fun a => match a with | ⟨0, _⟩ => b | ⟨1, _⟩ => n | ⟨2, _⟩ => s | ⟨3, _⟩ => k
def ix42 (b : Fin 8) (n : Fin 20000) (s : Fin 4) (k : Fin 2) : S8x20000x4x2.Idx :=
  fun a => match a with | ⟨0, _⟩ => b | ⟨1, _⟩ => n | ⟨2, _⟩ => s | ⟨3, _⟩ => k
def ix47 (b : Fin 8) (n : Fin 20000) (s : Fin 4) (k : Fin 7) : S8x20000x4x7.Idx :=
  fun a => match a with | ⟨0, _⟩ => b | ⟨1, _⟩ => n | ⟨2, _⟩ => s | ⟨3, _⟩ => k
def ix5 (b : Fin 8) (n : Fin 20000) (s : Fin 4) : S8x20000x4x1x1.Idx :=
  fun a => match a with | ⟨0, _⟩ => b | ⟨1, _⟩ => n | ⟨2, _⟩ => s | ⟨3, _⟩ => (0 : Fin 1) | ⟨4, _⟩ => (0 : Fin 1)

theorem ix2_eta (i : S8x20000.Idx) : ∃ b n, i = ix2 b n :=
  ⟨i 0, i 1, funext fun a => match a with | ⟨0, _⟩ => rfl | ⟨1, _⟩ => rfl⟩
theorem ix3_eta (i : S8x20000x4.Idx) : ∃ b n s, i = ix3 b n s :=
  ⟨i 0, i 1, i 2, funext fun a => match a with | ⟨0, _⟩ => rfl | ⟨1, _⟩ => rfl | ⟨2, _⟩ => rfl⟩
theorem ix5_eta (i : S8x20000x4x1x1.Idx) : ∃ b n s, i = ix5 b n s :=
  ⟨i 0, i 1, i 2, funext fun a => match a with
    | ⟨0, _⟩ => rfl | ⟨1, _⟩ => rfl | ⟨2, _⟩ => rfl
    | ⟨3, _⟩ => Subsingleton.elim (α := Fin 1) _ _ | ⟨4, _⟩ => Subsingleton.elim (α := Fin 1) _ _⟩

variable (x0 : S8x20000x4.Idx → EReal) (x1 x2 : S8x560000.Idx → EReal) (b : Fin 8) (n : Fin 20000) (s : Fin 4)

/-- The seven scores (or offsets) of a side, as the reference's reshape lays them out. -/
theorem read_row (x : S8x560000.Idx → EReal) (j : Fin 7) (i : S8x560000.Idx)
    (h0 : (i 0).val = (((b.val * 20000 + n.val) * 4 + s.val) * 7 + j.val) / 560000)
    (h1 : (i 1).val = (((b.val * 20000 + n.val) * 4 + s.val) * 7 + j.val) % 560000) :
    x i = sideOf (F := Ideal) (rowC (F := Ideal) x b.val n.val) s j := by
  refine congrArg x (funext fun a => ?_)
  have hb := b.isLt; have hn := n.isLt; have hs := s.isLt; have hj := j.isLt
  match a with
  | ⟨0, _⟩ => exact Fin.ext (by show (i 0).val = b.val % 8; omega)
  | ⟨1, _⟩ => exact Fin.ext (by show (i 1).val = (28 * n.val + (7 * s.val + j.val)) % 560000; omega)

theorem read_v0 (j : Fin 7) : val_main_v0 (F := Ideal) x1 (ix47 b n s j) = sideOf (F := Ideal) (rowC (F := Ideal) x1 b.val n.val) s j := by
  rw [val_main_v0_apply]
  exact read_row b n s x1 j _ rfl rfl

theorem read_v12 (j : Fin 7) : val_main_v12 (F := Ideal) x2 (ix47 b n s j) = sideOf (F := Ideal) (rowC (F := Ideal) x2 b.val n.val) s j := by
  rw [val_main_v12_apply]
  exact read_row b n s x2 j _ rfl rfl

/-! ## The shifted softmax -/

/-- The reference's shift of a side: the greatest of its scores. -/
def shift (c : Fin 7 → EReal) : EReal := max ⊥ ((Finset.univ : Finset (Fin 7)).fold max ⊥ c)

theorem reduce_max (x : S8x20000x4x7.Idx → EReal) (z : S_.Idx → EReal) (hz : z (Shape.Idx.first h_S_) = ⊥) :
    Host.reduce (FloatOps.maximumf (F := Ideal) (φ := .f32)) x z reducesTo_S8x20000x4x7_S8x20000x4_d3 h_S_ (ix3 b n s)
      = (Finset.univ : Finset (Fin 7)).fold max ⊥ fun k => x (ix47 b n s k) := by
  rw [Host.reduce_eq_fold_single (FloatOps.maximumf (F := Ideal) (φ := .f32)) x z reducesTo_S8x20000x4x7_S8x20000x4_d3 (by decide) h_S_ (ix3 b n s), hz]
  refine congrArg (Finset.fold max ⊥ · (Finset.univ : Finset (Fin 7))) (funext fun k => congrArg x (funext fun a => Fin.ext ?_))
  match a with | ⟨0, _⟩ => rfl | ⟨1, _⟩ => rfl | ⟨2, _⟩ => rfl | ⟨3, _⟩ => rfl

theorem read_v3 : val_main_v3 (F := Ideal) x1 (ix3 b n s) = shift (sideOf (F := Ideal) (rowC (F := Ideal) x1 b.val n.val) s) := by
  rw [val_main_v3_apply, val_main_v2_apply, val_main_cst_0_apply]
  unfold val_main_v1
  rw [reduce_max b n s (val_main_v0 (F := Ideal) x1) (val_main_cst (F := Ideal)) word_bot]
  unfold shift
  show max (Ideal.ofBits .f32 0xFF800000#32) _ = _
  rw [word_bot]
  exact congrArg (fun f => max (⊥ : EReal) (Finset.fold max ⊥ f (Finset.univ : Finset (Fin 7)))) (funext fun k => read_v0 x1 b n s k)

theorem read_v7 (j : Fin 7) : val_main_v7 (F := Ideal) x1 (ix47 b n s j)
    = Ideal.exp (sideOf (F := Ideal) (rowC (F := Ideal) x1 b.val n.val) s j - shift (sideOf (F := Ideal) (rowC (F := Ideal) x1 b.val n.val) s)) := by
  rw [val_main_v7_apply, val_main_v6_apply, read_v0, val_main_v5_apply, val_main_v4_apply]
  have e : idx_main_v4 (idx_main_v5 (ix47 b n s j)) = ix3 b n s := funext fun a => match a with | ⟨0, _⟩ => rfl | ⟨1, _⟩ => rfl | ⟨2, _⟩ => rfl
  rw [e, read_v3]
  rfl

theorem read_v11 (j : Fin 7) : val_main_v11 (F := Ideal) x1 (ix47 b n s j)
    = soft (sideOf (F := Ideal) (rowC (F := Ideal) x1 b.val n.val) s) (shift (sideOf (F := Ideal) (rowC (F := Ideal) x1 b.val n.val) s)) j := by
  rw [val_main_v11_apply, read_v7, val_main_v10_apply, val_main_v9_apply]
  have e : idx_main_v9 (idx_main_v10 (ix47 b n s j)) = ix3 b n s := funext fun a => match a with | ⟨0, _⟩ => rfl | ⟨1, _⟩ => rfl | ⟨2, _⟩ => rfl
  rw [e, val_main_v8_apply, val_main_cst_1_apply]
  have e' : ∀ k : Fin 7, idx_main_v8 (ix3 b n s) k = ix47 b n s k := fun k => funext fun a => match a with | ⟨0, _⟩ => rfl | ⟨1, _⟩ => rfl | ⟨2, _⟩ => rfl | ⟨3, _⟩ => rfl
  simp only [e', read_v7]
  rfl

/-! ## The top two -/

/-- Where the stable descending sort of a line takes its `t`-th value from. -/
def place (f : Fin 7 → EReal) (t : Fin 2) : Fin 7 := sortedFrom (fun k k' : Fin 7 => decide (f k' < f k)) (t.castLE (by decide))

theorem gt_word (x y : EReal) : (FloatOps.cmpfTotal (F := Ideal) (φ := .f32) .gt x y == 1#1) = decide (y < x) := by
  show (BitVec.ofBool (decide (y < x)) == 1#1) = _
  by_cases h : y < x <;> simp [h]

theorem read_top (x : S8x20000x4x7.Idx → EReal) (t : Fin 2) :
    (Host.topK S8x20000x4x2 3 (FloatOps.cmpfTotal (F := Ideal) (φ := .f32) .gt) x sliceFits_S8x20000x4x7_S8x20000x4x2).1 (ix42 b n s t)
      = x (ix47 b n s (place (fun k => x (ix47 b n s k)) t))
    ∧ (Host.topK S8x20000x4x2 3 (FloatOps.cmpfTotal (F := Ideal) (φ := .f32) .gt) x sliceFits_S8x20000x4x7_S8x20000x4x2).2 (ix42 b n s t)
      = BitVec.ofNat 32 (place (fun k => x (ix47 b n s k)) t).val := by
  have al : ∀ k : Fin 7, (ix47 b n s (t.castLE (by decide))).along (3 : Fin 4) k = ix47 b n s k := fun k => funext fun a => match a with
    | ⟨0, _⟩ => rfl | ⟨1, _⟩ => rfl | ⟨2, _⟩ => rfl | ⟨3, _⟩ => rfl
  have pl : sortedFrom (fun k k' : Fin 7 => FloatOps.cmpfTotal (F := Ideal) (φ := .f32) .gt (x ((ix47 b n s (t.castLE (by decide))).along (3 : Fin 4) k))
      (x ((ix47 b n s (t.castLE (by decide))).along (3 : Fin 4) k')) == 1#1) (t.castLE (by decide)) = place (fun k => x (ix47 b n s k)) t := by
    unfold place
    congr 1
    funext k k'
    rw [al, al, gt_word]
  unfold Host.topK Host.sort2
  dsimp only
  rw [dif_pos (show 3 < S8x20000x4x7.rank by decide)]
  constructor
  · rw [extractStridedSlice_apply (s := S8x20000x4x7) (t := S8x20000x4x2) _ _ _ (ix42 b n s t) (ix47 b n s (t.castLE (by decide))) (fun a => match a with
      | ⟨0, _⟩ => (Nat.zero_add _).symm | ⟨1, _⟩ => (Nat.zero_add _).symm | ⟨2, _⟩ => (Nat.zero_add _).symm | ⟨3, _⟩ => (Nat.zero_add _).symm)]
    exact congrArg x ((congrArg _ pl).trans (al _))
  · rw [extractStridedSlice_apply (s := S8x20000x4x7) (t := S8x20000x4x2) _ _ _ (ix42 b n s t) (ix47 b n s (t.castLE (by decide))) (fun a => match a with
      | ⟨0, _⟩ => (Nat.zero_add _).symm | ⟨1, _⟩ => (Nat.zero_add _).symm | ⟨2, _⟩ => (Nat.zero_add _).symm | ⟨3, _⟩ => (Nat.zero_add _).symm)]
    dsimp only
    refine (dif_pos (show 3 < 4 by decide)).trans ?_
    exact congrArg (fun k : Fin 7 => BitVec.ofNat 32 k.val) pl

/-- The reference's two labels of a side. -/
def lab (t : Fin 2) : Fin 7 := place (fun k => val_main_v11 (F := Ideal) x1 (ix47 b n s k)) t

theorem read_indices (t : Fin 2) : val_main_indices (F := Ideal) x1 (ix42 b n s t) = BitVec.ofNat 32 (lab x1 b n s t).val :=
  (read_top b n s (val_main_v11 (F := Ideal) x1) t).2

theorem read_values (t : Fin 2) : val_main_values (F := Ideal) x1 (ix42 b n s t) = val_main_v11 (F := Ideal) x1 (ix47 b n s (lab x1 b n s t)) :=
  (read_top b n s (val_main_v11 (F := Ideal) x1) t).1

end Cert.Proof
end
-- ==== Proof.RefLook.lean ====
/- The reference's offset lookup, boxes and confidences, read at an index. -/
module

public import proofs.«01_k».proof.Proof.RefRead

@[expose] public section

noncomputable section

namespace Cert.Proof

open Cert.ReferenceIdeal Cert.ReferenceIdeal.Gen Cert.ReferenceIdeal.Read Idealize.ShloMosaic

variable (x0 : S8x20000x4.Idx → EReal) (x1 x2 : S8x560000.Idx → EReal) (b : Fin 8) (n : Fin 20000) (s : Fin 4)

/-! ## The lookup along the last axis -/

theorem gather_line (x : S8x20000x4x7.Idx → EReal) (idx : IVec S8x20000x4x1x1 32) (p : Fin 7)
    (hp : min (idx (ix5 b n s)).toInt.toNat 6 = p.val) :
    Host.gather gather_S8x20000x4x7_S8x20000x4x1x1_S8x20000x4x1_n_3_012_012_3_4_1111 x idx (ix41 b n s 0) = x (ix47 b n s p) := by
  unfold Host.gather
  refine congrArg x (funext fun a => Fin.ext ?_)
  have si : GatherDims.siIdx gather_S8x20000x4x7_S8x20000x4x1x1_S8x20000x4x1_n_3_012_012_3_4_1111 (ix41 b n s 0) ⟨0, by decide⟩ = ix5 b n s :=
    funext fun c => match c with
      | ⟨0, _⟩ => rfl | ⟨1, _⟩ => rfl | ⟨2, _⟩ => rfl | ⟨3, _⟩ => rfl | ⟨4, _⟩ => rfl
  match a with
  | ⟨0, _⟩ => show 0 + b.val + 0 = b.val; omega
  | ⟨1, _⟩ => show 0 + n.val + 0 = n.val; omega
  | ⟨2, _⟩ => show 0 + s.val + 0 = s.val; omega
  | ⟨3, _⟩ =>
    show min (idx (GatherDims.siIdx gather_S8x20000x4x7_S8x20000x4x1x1_S8x20000x4x1_n_3_012_012_3_4_1111 (ix41 b n s 0) ⟨0, _⟩)).toInt.toNat 6 + 0 + 0 = p.val
    rw [si]; exact hp

theorem small_word (p : Fin 7) : Scalar.select (IntOp.cmpi .slt (BitVec.ofNat 32 p.val) 0#32) (IntOp.addi (BitVec.ofNat 32 p.val) 7#32) (BitVec.ofNat 32 p.val)
    = BitVec.ofNat 32 p.val := by revert p; decide
theorem small_in (p : Fin 7) : IntOp.andi (IntOp.cmpi .sge (BitVec.ofNat 32 p.val) 0#32) (IntOp.cmpi .sle (BitVec.ofNat 32 p.val) 6#32) = 1#1 := by
  revert p; decide
theorem small_min (p : Fin 7) : min (BitVec.ofNat 32 p.val).toInt.toNat 6 = p.val := by revert p; decide

theorem read_v13 : val_main_v13 (F := Ideal) x1 (ix41 b n s 0) = BitVec.ofNat 32 (lab x1 b n s 0).val := by
  rw [val_main_v13_apply, ← read_indices]
  exact congrArg _ (funext fun a => match a with | ⟨0, _⟩ => rfl | ⟨1, _⟩ => rfl | ⟨2, _⟩ => rfl | ⟨3, _⟩ => rfl)

theorem read_call_v5 : val_main_call0_v5 (F := Ideal) x1 (ix5 b n s) = BitVec.ofNat 32 (lab x1 b n s 0).val := by
  rw [val_main_call0_v5_apply]
  have e : idx_main_call0_v5 (ix5 b n s) = ix41 b n s 0 := funext fun a => by
    have hb := b.isLt; have hn := n.isLt; have hs := s.isLt
    match a with
    | ⟨0, _⟩ => exact Fin.ext (by show ((((b.val * 20000 + n.val) * 4 + s.val) * 1 + 0) * 1 + 0) / 80000 = b.val; omega)
    | ⟨1, _⟩ => exact Fin.ext (by show ((((b.val * 20000 + n.val) * 4 + s.val) * 1 + 0) * 1 + 0) / 4 % 20000 = n.val; omega)
    | ⟨2, _⟩ => exact Fin.ext (by show ((((b.val * 20000 + n.val) * 4 + s.val) * 1 + 0) * 1 + 0) / 1 % 4 = s.val; omega)
    | ⟨3, _⟩ => rfl
  rw [e, val_main_call0_v4_apply, val_main_call0_v1_apply, val_main_call0_v3_apply, val_main_call0_v0_apply, val_main_call0_v2_apply,
    val_main_call0_c_apply, val_main_call0_c_0_apply, read_v13]
  exact small_word _

theorem read_call_v11 (i : S8x20000x4x1x1.Idx) : val_main_call0_v11 (F := Ideal) x1 i = 1#1 := by
  obtain ⟨b, n, s, rfl⟩ := ix5_eta i
  rw [val_main_call0_v11_apply, val_main_call0_v7_apply, val_main_call0_v10_apply, read_call_v5, val_main_call0_v6_apply, val_main_call0_c_2_apply,
    val_main_call0_v9_apply, val_main_call0_v8_apply, val_main_call0_c_1_apply]
  exact small_in _

theorem read_v15 : val_main_v15 (F := Ideal) x1 x2 (ix3 b n s) = sideOf (F := Ideal) (rowC (F := Ideal) x2 b.val n.val) s (lab x1 b n s 0) := by
  rw [val_main_v15_apply]
  have e : idx_main_v15 (ix3 b n s) = ix41 b n s 0 := funext fun a => by
    have hb := b.isLt; have hn := n.isLt; have hs := s.isLt
    match a with
    | ⟨0, _⟩ => exact Fin.ext (by show ((b.val * 20000 + n.val) * 4 + s.val) / 80000 = b.val; omega)
    | ⟨1, _⟩ => exact Fin.ext (by show ((b.val * 20000 + n.val) * 4 + s.val) / 4 % 20000 = n.val; omega)
    | ⟨2, _⟩ => exact Fin.ext (by show ((b.val * 20000 + n.val) * 4 + s.val) / 1 % 4 = s.val; omega)
    | ⟨3, _⟩ => rfl
  rw [e, val_main_v14_apply]
  have c : val_main_call0_v12 (F := Ideal) x1 (ix41 b n s 0) = 1#1 :=
    Host.reduce_andi_one _ _ _ _ _ rfl (read_call_v11 x1)
  rw [c, ← read_v12]
  show val_main_call0_v13 (F := Ideal) x1 x2 (ix41 b n s 0) = _
  unfold val_main_call0_v13
  exact gather_line b n s _ _ _ (by rw [read_call_v5]; exact small_min _)

/-! ## The labels as floats -/

theorem to_s4 (i : S8x20000x4x1.Idx) (h0 : (i 0).val = ((b.val * 20000 + n.val) * 4 + s.val) / 80000)
    (h1 : (i 1).val = ((b.val * 20000 + n.val) * 4 + s.val) / 4 % 20000) (h2 : (i 2).val = ((b.val * 20000 + n.val) * 4 + s.val) / 1 % 4) :
    i = ix41 b n s 0 := funext fun a => by
  have hb := b.isLt; have hn := n.isLt; have hs := s.isLt
  match a with
  | ⟨0, _⟩ => exact Fin.ext (by show (i 0).val = b.val; omega)
  | ⟨1, _⟩ => exact Fin.ext (by show (i 1).val = n.val; omega)
  | ⟨2, _⟩ => exact Fin.ext (by show (i 2).val = s.val; omega)
  | ⟨3, _⟩ => exact Subsingleton.elim (α := Fin 1) _ _

theorem read_v17 : val_main_v17 (F := Ideal) x1 (ix3 b n s) = BitVec.ofNat 32 (lab x1 b n s 0).val := by
  rw [val_main_v17_apply, to_s4 b n s (idx_main_v17 (ix3 b n s)) rfl rfl rfl, val_main_v16_apply, ← read_indices]
  exact congrArg _ (funext fun a => match a with | ⟨0, _⟩ => rfl | ⟨1, _⟩ => rfl | ⟨2, _⟩ => rfl | ⟨3, _⟩ => rfl)

theorem small_int (p : Fin 7) : ((BitVec.ofNat 32 p.val).toInt : ℤ) = (p.val : ℤ) := by revert p; decide
theorem small_sub (p q : Fin 7) : (IntOp.subi (BitVec.ofNat 32 p.val) (BitVec.ofNat 32 q.val)).toInt = (p.val : ℤ) - (q.val : ℤ) := by
  revert p q; decide

theorem read_v18 : val_main_v18 (F := Ideal) x1 (ix3 b n s) = (((lab x1 b n s 0).val : ℝ) : EReal) := by
  rw [val_main_v18_apply, read_v17]
  show (((BitVec.ofNat 32 (lab x1 b n s 0).val).toInt : ℝ) : EReal) = _
  rw [small_int, Int.cast_natCast]

/-! ## The confidence -/

theorem read_v111 : val_main_v111 (F := Ideal) x1 (ix3 b n s) = BitVec.ofNat 32 (lab x1 b n s 0).val := by
  rw [val_main_v111_apply, to_s4 b n s (idx_main_v111 (ix3 b n s)) rfl rfl rfl, val_main_v110_apply, ← read_indices]
  exact congrArg _ (funext fun a => match a with | ⟨0, _⟩ => rfl | ⟨1, _⟩ => rfl | ⟨2, _⟩ => rfl | ⟨3, _⟩ => rfl)
theorem read_v113 : val_main_v113 (F := Ideal) x1 (ix3 b n s) = BitVec.ofNat 32 (lab x1 b n s 1).val := by
  rw [val_main_v113_apply, to_s4 b n s (idx_main_v113 (ix3 b n s)) rfl rfl rfl, val_main_v112_apply, ← read_indices]
  exact congrArg _ (funext fun a => match a with | ⟨0, _⟩ => rfl | ⟨1, _⟩ => rfl | ⟨2, _⟩ => rfl | ⟨3, _⟩ => rfl)
theorem read_v120 : val_main_v120 (F := Ideal) x1 (ix3 b n s) = val_main_v11 (F := Ideal) x1 (ix47 b n s (lab x1 b n s 0)) := by
  rw [val_main_v120_apply, to_s4 b n s (idx_main_v120 (ix3 b n s)) rfl rfl rfl, val_main_v119_apply, ← read_values]
  exact congrArg _ (funext fun a => match a with | ⟨0, _⟩ => rfl | ⟨1, _⟩ => rfl | ⟨2, _⟩ => rfl | ⟨3, _⟩ => rfl)
theorem read_v122 : val_main_v122 (F := Ideal) x1 (ix3 b n s) = val_main_v11 (F := Ideal) x1 (ix47 b n s (lab x1 b n s 1)) := by
  rw [val_main_v122_apply, to_s4 b n s (idx_main_v122 (ix3 b n s)) rfl rfl rfl, val_main_v121_apply, ← read_values]
  exact congrArg _ (funext fun a => match a with | ⟨0, _⟩ => rfl | ⟨1, _⟩ => rfl | ⟨2, _⟩ => rfl | ⟨3, _⟩ => rfl)

/-- One side's share of the confidence, as the reference has it. -/
theorem read_v124 : val_main_v124 (F := Ideal) x1 (ix3 b n s)
    = val_main_v11 (F := Ideal) x1 (ix47 b n s (lab x1 b n s 0))
      + val_main_v11 (F := Ideal) x1 (ix47 b n s (lab x1 b n s 1))
        * (((|((lab x1 b n s 0).val : ℝ) - ((lab x1 b n s 1).val : ℝ)| - 1 : ℝ)) : EReal) := by
  rw [val_main_v124_apply, val_main_v123_apply, read_v120, read_v122, val_main_v118_apply, val_main_v116_apply, val_main_v115_apply, val_main_v114_apply,
    read_v111, read_v113, val_main_v117_apply, val_main_cst_16_apply]
  generalize val_main_v11 (F := Ideal) x1 (ix47 b n s (lab x1 b n s 0)) = u
  generalize val_main_v11 (F := Ideal) x1 (ix47 b n s (lab x1 b n s 1)) = v
  generalize lab x1 b n s 0 = p
  generalize lab x1 b n s 1 = q
  show u + v * (max (((IntOp.subi (BitVec.ofNat 32 p.val) (BitVec.ofNat 32 q.val)).toInt : ℝ) : EReal)
    (-(((IntOp.subi (BitVec.ofNat 32 p.val) (BitVec.ofNat 32 q.val)).toInt : ℝ) : EReal)) - Ideal.ofBits .f32 0x3F800000#32) = _
  rw [abs_real, word_one, ← EReal.coe_sub, small_sub]
  push_cast
  rfl

theorem read_v127 : val_main_v127 (F := Ideal) x1 (ix2 b n)
    = Ideal.div (Ideal.ofBits .f32 0x00000000#32 + ∑ k : Fin 4, val_main_v124 (F := Ideal) x1 (ix3 b n k)) (Ideal.ofBits .f32 0x40800000#32) := by
  rw [val_main_v127_apply, val_main_v125_apply, val_main_v126_apply, val_main_cst_17_apply, val_main_cst_18_apply]
  have e : ∀ k : Fin 4, idx_main_v125 (ix2 b n) k = ix3 b n k := fun k => funext fun a => match a with | ⟨0, _⟩ => rfl | ⟨1, _⟩ => rfl | ⟨2, _⟩ => rfl
  simp only [e]
  rfl

/-! ## The boxes -/

theorem to_s3 (i : S8x20000x1.Idx) (h0 : (i 0).val = (b.val * 20000 + n.val) / 20000)
    (h1 : (i 1).val = (b.val * 20000 + n.val) / 1 % 20000) : i = ix31 b n 0 := funext fun a => by
  have hb := b.isLt; have hn := n.isLt
  match a with
  | ⟨0, _⟩ => exact Fin.ext (by show (i 0).val = b.val; omega)
  | ⟨1, _⟩ => exact Fin.ext (by show (i 1).val = n.val; omega)
  | ⟨2, _⟩ => exact Subsingleton.elim (α := Fin 1) _ _

theorem read_cat (y0 y1 y2 y3 : S8x20000x1.Idx → EReal) (h) :
    concatenate S8x20000x4 2 [⟨S8x20000x1, y0⟩, ⟨S8x20000x1, y1⟩, ⟨S8x20000x1, y2⟩, ⟨S8x20000x1, y3⟩] h (ix3 b n s)
      = (![y0, y1, y2, y3] : Fin 4 → S8x20000x1.Idx → EReal) s (ix31 b n 0) := by
  match s with
  | 0 => exact congrArg y0 (funext fun a => match a with | ⟨0, _⟩ => rfl | ⟨1, _⟩ => rfl | ⟨2, _⟩ => rfl)
  | 1 => exact congrArg y1 (funext fun a => match a with | ⟨0, _⟩ => rfl | ⟨1, _⟩ => rfl | ⟨2, _⟩ => rfl)
  | 2 => exact congrArg y2 (funext fun a => match a with | ⟨0, _⟩ => rfl | ⟨1, _⟩ => rfl | ⟨2, _⟩ => rfl)
  | 3 => exact congrArg y3 (funext fun a => match a with | ⟨0, _⟩ => rfl | ⟨1, _⟩ => rfl | ⟨2, _⟩ => rfl)

theorem read_v20 : val_main_v20 (F := Ideal) x0 (ix2 b n) = x0 (ix3 b n 0) := by
  rw [val_main_v20_apply, to_s3 b n (idx_main_v20 (ix2 b n)) rfl rfl, val_main_v19_apply]
  exact congrArg _ (funext fun a => match a with | ⟨0, _⟩ => rfl | ⟨1, _⟩ => rfl | ⟨2, _⟩ => rfl)
theorem read_v22 : val_main_v22 (F := Ideal) x0 (ix2 b n) = x0 (ix3 b n 2) := by
  rw [val_main_v22_apply, to_s3 b n (idx_main_v22 (ix2 b n)) rfl rfl, val_main_v21_apply]
  exact congrArg _ (funext fun a => match a with | ⟨0, _⟩ => rfl | ⟨1, _⟩ => rfl | ⟨2, _⟩ => rfl)
theorem read_v27 : val_main_v27 (F := Ideal) x0 (ix2 b n) = x0 (ix3 b n 1) := by
  rw [val_main_v27_apply, to_s3 b n (idx_main_v27 (ix2 b n)) rfl rfl, val_main_v26_apply]
  exact congrArg _ (funext fun a => match a with | ⟨0, _⟩ => rfl | ⟨1, _⟩ => rfl | ⟨2, _⟩ => rfl)
theorem read_v29 : val_main_v29 (F := Ideal) x0 (ix2 b n) = x0 (ix3 b n 3) := by
  rw [val_main_v29_apply, to_s3 b n (idx_main_v29 (ix2 b n)) rfl rfl, val_main_v28_apply]
  exact congrArg _ (funext fun a => match a with | ⟨0, _⟩ => rfl | ⟨1, _⟩ => rfl | ⟨2, _⟩ => rfl)
theorem read_v34 : val_main_v34 (F := Ideal) x0 (ix2 b n) = x0 (ix3 b n 2) := by
  rw [val_main_v34_apply, to_s3 b n (idx_main_v34 (ix2 b n)) rfl rfl, val_main_v33_apply]
  exact congrArg _ (funext fun a => match a with | ⟨0, _⟩ => rfl | ⟨1, _⟩ => rfl | ⟨2, _⟩ => rfl)
theorem read_v36 : val_main_v36 (F := Ideal) x0 (ix2 b n) = x0 (ix3 b n 0) := by
  rw [val_main_v36_apply, to_s3 b n (idx_main_v36 (ix2 b n)) rfl rfl, val_main_v35_apply]
  exact congrArg _ (funext fun a => match a with | ⟨0, _⟩ => rfl | ⟨1, _⟩ => rfl | ⟨2, _⟩ => rfl)
theorem read_v41 : val_main_v41 (F := Ideal) x0 (ix2 b n) = x0 (ix3 b n 3) := by
  rw [val_main_v41_apply, to_s3 b n (idx_main_v41 (ix2 b n)) rfl rfl, val_main_v40_apply]
  exact congrArg _ (funext fun a => match a with | ⟨0, _⟩ => rfl | ⟨1, _⟩ => rfl | ⟨2, _⟩ => rfl)
theorem read_v43 : val_main_v43 (F := Ideal) x0 (ix2 b n) = x0 (ix3 b n 1) := by
  rw [val_main_v43_apply, to_s3 b n (idx_main_v43 (ix2 b n)) rfl rfl, val_main_v42_apply]
  exact congrArg _ (funext fun a => match a with | ⟨0, _⟩ => rfl | ⟨1, _⟩ => rfl | ⟨2, _⟩ => rfl)
theorem read_v66 : val_main_v66 (F := Ideal) x1 (ix2 b n) = val_main_v18 (F := Ideal) x1 (ix3 b n 0) := by
  rw [val_main_v66_apply, to_s3 b n (idx_main_v66 (ix2 b n)) rfl rfl, val_main_v65_apply]
  exact congrArg _ (funext fun a => match a with | ⟨0, _⟩ => rfl | ⟨1, _⟩ => rfl | ⟨2, _⟩ => rfl)
theorem read_v76 : val_main_v76 (F := Ideal) x1 (ix2 b n) = val_main_v18 (F := Ideal) x1 (ix3 b n 1) := by
  rw [val_main_v76_apply, to_s3 b n (idx_main_v76 (ix2 b n)) rfl rfl, val_main_v75_apply]
  exact congrArg _ (funext fun a => match a with | ⟨0, _⟩ => rfl | ⟨1, _⟩ => rfl | ⟨2, _⟩ => rfl)
theorem read_v86 : val_main_v86 (F := Ideal) x1 (ix2 b n) = val_main_v18 (F := Ideal) x1 (ix3 b n 2) := by
  rw [val_main_v86_apply, to_s3 b n (idx_main_v86 (ix2 b n)) rfl rfl, val_main_v85_apply]
  exact congrArg _ (funext fun a => match a with | ⟨0, _⟩ => rfl | ⟨1, _⟩ => rfl | ⟨2, _⟩ => rfl)
theorem read_v96 : val_main_v96 (F := Ideal) x1 (ix2 b n) = val_main_v18 (F := Ideal) x1 (ix3 b n 3) := by
  rw [val_main_v96_apply, to_s3 b n (idx_main_v96 (ix2 b n)) rfl rfl, val_main_v95_apply]
  exact congrArg _ (funext fun a => match a with | ⟨0, _⟩ => rfl | ⟨1, _⟩ => rfl | ⟨2, _⟩ => rfl)
theorem read_v72 : val_main_v72 (F := Ideal) x1 x2 (ix2 b n) = val_main_v15 (F := Ideal) x1 x2 (ix3 b n 0) := by
  rw [val_main_v72_apply, to_s3 b n (idx_main_v72 (ix2 b n)) rfl rfl, val_main_v71_apply]
  exact congrArg _ (funext fun a => match a with | ⟨0, _⟩ => rfl | ⟨1, _⟩ => rfl | ⟨2, _⟩ => rfl)
theorem read_v82 : val_main_v82 (F := Ideal) x1 x2 (ix2 b n) = val_main_v15 (F := Ideal) x1 x2 (ix3 b n 1) := by
  rw [val_main_v82_apply, to_s3 b n (idx_main_v82 (ix2 b n)) rfl rfl, val_main_v81_apply]
  exact congrArg _ (funext fun a => match a with | ⟨0, _⟩ => rfl | ⟨1, _⟩ => rfl | ⟨2, _⟩ => rfl)
theorem read_v92 : val_main_v92 (F := Ideal) x1 x2 (ix2 b n) = val_main_v15 (F := Ideal) x1 x2 (ix3 b n 2) := by
  rw [val_main_v92_apply, to_s3 b n (idx_main_v92 (ix2 b n)) rfl rfl, val_main_v91_apply]
  exact congrArg _ (funext fun a => match a with | ⟨0, _⟩ => rfl | ⟨1, _⟩ => rfl | ⟨2, _⟩ => rfl)
theorem read_v102 : val_main_v102 (F := Ideal) x1 x2 (ix2 b n) = val_main_v15 (F := Ideal) x1 x2 (ix3 b n 3) := by
  rw [val_main_v102_apply, to_s3 b n (idx_main_v102 (ix2 b n)) rfl rfl, val_main_v101_apply]
  exact congrArg _ (funext fun a => match a with | ⟨0, _⟩ => rfl | ⟨1, _⟩ => rfl | ⟨2, _⟩ => rfl)

/-- The reference's two ends and bucket width along each axis. -/
theorem read_x : val_main_v49 (F := Ideal) x0 (ix2 b n) = refP1 (x0 (ix3 b n 0)) (x0 (ix3 b n 2))
    ∧ val_main_v55 (F := Ideal) x0 (ix2 b n) = refP2 (x0 (ix3 b n 0)) (x0 (ix3 b n 2))
    ∧ val_main_v61 (F := Ideal) x0 (ix2 b n) = refWid (x0 (ix3 b n 0)) (x0 (ix3 b n 2)) := by
  have h1 : val_main_v49 (F := Ideal) x0 (ix2 b n) = refP1 (x0 (ix3 b n 0)) (x0 (ix3 b n 2)) := by
    rw [val_main_v49_apply, val_main_v48_apply, val_main_v47_apply, val_main_v39_apply, val_main_v38_apply, val_main_v37_apply, val_main_v25_apply, val_main_v24_apply, val_main_v23_apply, val_main_cst_2_apply, val_main_cst_4_apply, val_main_cst_6_apply, read_v20, read_v22, read_v34, read_v36]; rfl
  have h2 : val_main_v55 (F := Ideal) x0 (ix2 b n) = refP2 (x0 (ix3 b n 0)) (x0 (ix3 b n 2)) := by
    rw [val_main_v55_apply, val_main_v54_apply, val_main_v53_apply, val_main_v39_apply, val_main_v38_apply, val_main_v37_apply, val_main_v25_apply, val_main_v24_apply, val_main_v23_apply, val_main_cst_2_apply, val_main_cst_4_apply, val_main_cst_8_apply, read_v20, read_v22, read_v34, read_v36]; rfl
  refine ⟨h1, h2, ?_⟩
  rw [val_main_v61_apply, val_main_v60_apply, val_main_v59_apply, val_main_cst_10_apply, h1, h2]; rfl
theorem read_y : val_main_v52 (F := Ideal) x0 (ix2 b n) = refP1 (x0 (ix3 b n 1)) (x0 (ix3 b n 3))
    ∧ val_main_v58 (F := Ideal) x0 (ix2 b n) = refP2 (x0 (ix3 b n 1)) (x0 (ix3 b n 3))
    ∧ val_main_v64 (F := Ideal) x0 (ix2 b n) = refWid (x0 (ix3 b n 1)) (x0 (ix3 b n 3)) := by
  have h1 : val_main_v52 (F := Ideal) x0 (ix2 b n) = refP1 (x0 (ix3 b n 1)) (x0 (ix3 b n 3)) := by
    rw [val_main_v52_apply, val_main_v51_apply, val_main_v50_apply, val_main_v46_apply, val_main_v45_apply, val_main_v44_apply, val_main_v32_apply, val_main_v31_apply, val_main_v30_apply, val_main_cst_3_apply, val_main_cst_5_apply, val_main_cst_7_apply, read_v27, read_v29, read_v41, read_v43]; rfl
  have h2 : val_main_v58 (F := Ideal) x0 (ix2 b n) = refP2 (x0 (ix3 b n 1)) (x0 (ix3 b n 3)) := by
    rw [val_main_v58_apply, val_main_v57_apply, val_main_v56_apply, val_main_v46_apply, val_main_v45_apply, val_main_v44_apply, val_main_v32_apply, val_main_v31_apply, val_main_v30_apply, val_main_cst_3_apply, val_main_cst_5_apply, val_main_cst_9_apply, read_v27, read_v29, read_v41, read_v43]; rfl
  refine ⟨h1, h2, ?_⟩
  rw [val_main_v64_apply, val_main_v63_apply, val_main_v62_apply, val_main_cst_11_apply, h1, h2]; rfl

/-- The reference's four refined coordinates. -/
theorem read_v74 : val_main_v74 (F := Ideal) x0 x1 x2 (ix2 b n) = refLo (x0 (ix3 b n 0)) (x0 (ix3 b n 2))
    (val_main_v18 (F := Ideal) x1 (ix3 b n 0)) (val_main_v15 (F := Ideal) x1 x2 (ix3 b n 0)) := by
  rw [val_main_v74_apply, val_main_v73_apply, val_main_v70_apply, val_main_v69_apply, val_main_v68_apply, val_main_v67_apply, val_main_cst_12_apply, read_v66, read_v72, (read_x x0 b n).1, (read_x x0 b n).2.2]; rfl
theorem read_v84 : val_main_v84 (F := Ideal) x0 x1 x2 (ix2 b n) = refHi (x0 (ix3 b n 0)) (x0 (ix3 b n 2))
    (val_main_v18 (F := Ideal) x1 (ix3 b n 1)) (val_main_v15 (F := Ideal) x1 x2 (ix3 b n 1)) := by
  rw [val_main_v84_apply, val_main_v83_apply, val_main_v80_apply, val_main_v79_apply, val_main_v78_apply, val_main_v77_apply, val_main_cst_13_apply, read_v76, read_v82, (read_x x0 b n).2.1, (read_x x0 b n).2.2]; rfl
theorem read_v94 : val_main_v94 (F := Ideal) x0 x1 x2 (ix2 b n) = refLo (x0 (ix3 b n 1)) (x0 (ix3 b n 3))
    (val_main_v18 (F := Ideal) x1 (ix3 b n 2)) (val_main_v15 (F := Ideal) x1 x2 (ix3 b n 2)) := by
  rw [val_main_v94_apply, val_main_v93_apply, val_main_v90_apply, val_main_v89_apply, val_main_v88_apply, val_main_v87_apply, val_main_cst_14_apply, read_v86, read_v92, (read_y x0 b n).1, (read_y x0 b n).2.2]; rfl
theorem read_v104 : val_main_v104 (F := Ideal) x0 x1 x2 (ix2 b n) = refHi (x0 (ix3 b n 1)) (x0 (ix3 b n 3))
    (val_main_v18 (F := Ideal) x1 (ix3 b n 3)) (val_main_v15 (F := Ideal) x1 x2 (ix3 b n 3)) := by
  rw [val_main_v104_apply, val_main_v103_apply, val_main_v100_apply, val_main_v99_apply, val_main_v98_apply, val_main_v97_apply, val_main_cst_15_apply, read_v96, read_v102, (read_y x0 b n).2.1, (read_y x0 b n).2.2]; rfl

/-- The reference's boxes, read at an index. -/
theorem read_v109 : val_main_v109 (F := Ideal) x0 x1 x2 (ix3 b n s)
    = (![val_main_v74 (F := Ideal) x0 x1 x2 (ix2 b n), val_main_v94 (F := Ideal) x0 x1 x2 (ix2 b n),
        val_main_v84 (F := Ideal) x0 x1 x2 (ix2 b n), val_main_v104 (F := Ideal) x0 x1 x2 (ix2 b n)] : Fin 4 → EReal) s := by
  unfold val_main_v109
  refine (read_cat b n s _ _ _ _ _).trans ?_
  match s with
  | 0 => exact (val_main_v105_apply (F := Ideal) x0 x1 x2 _).trans (congrArg _ (funext fun a => match a with | ⟨0, _⟩ => rfl | ⟨1, _⟩ => rfl))
  | 1 => exact (val_main_v106_apply (F := Ideal) x0 x1 x2 _).trans (congrArg _ (funext fun a => match a with | ⟨0, _⟩ => rfl | ⟨1, _⟩ => rfl))
  | 2 => exact (val_main_v107_apply (F := Ideal) x0 x1 x2 _).trans (congrArg _ (funext fun a => match a with | ⟨0, _⟩ => rfl | ⟨1, _⟩ => rfl))
  | 3 => exact (val_main_v108_apply (F := Ideal) x0 x1 x2 _).trans (congrArg _ (funext fun a => match a with | ⟨0, _⟩ => rfl | ⟨1, _⟩ => rfl))

end Cert.Proof
end
-- ==== Proof.Value.lean ====
/- The kernel's values over the extended reals are the reference's, and the claims about the two idealized programs. -/
module

public import proofs.«01_k».proof.Proof.RefLook
public import proofs.«01_k».proof.Proof.Gen.Pre_finite

@[expose] public section

noncomputable section

namespace Cert.Proof

open Cert.ReferenceIdeal.Read Idealize.ShloMosaic Idealize.SL.Sem

/-! ## The precondition: proposals and scores are finite -/

theorem real_of_abs (x : EReal) (h : BitVec.ofBool (decide (max x (-x) < (⊤ : EReal))) = 1#1) : ∃ r : ℝ, x = (r : EReal) := by
  have hlt : max x (-x) < ⊤ := by
    by_contra hc
    rw [decide_eq_false hc] at h
    exact absurd h (by decide)
  have h1 : x < ⊤ := lt_of_le_of_lt (le_max_left _ _) hlt
  have h2 : -x < ⊤ := lt_of_le_of_lt (le_max_right _ _) hlt
  have h3 : x ≠ ⊥ := fun e => by rw [e, EReal.neg_bot] at h2; exact absurd h2 (lt_irrefl _)
  exact ⟨x.toReal, (EReal.coe_toReal h1.ne h3).symm⟩

theorem word_top : Ideal.ofBits .f32 0x7F800000#32 = (⊤ : EReal) := by simp [Ideal.ofBits, Ideal.ieee]

instance : Subsingleton (Cert.Pre_finite.S_.Idx) := ⟨fun _ _ => funext fun a => a.elim0⟩

theorem pre_real (a0 : Cert.Pre_finite.S8x20000x4.Idx → EReal) (a1 a2 : Cert.Pre_finite.S8x560000.Idx → EReal)
    (h : Cert.Pre_finite.fn (F := Ideal) a0 a1 a2 = fun _ => 1#1) :
    (∀ i, ∃ r : ℝ, a0 i = (r : EReal)) ∧ (∀ i, ∃ r : ℝ, a1 i = (r : EReal)) := by
  have h0 := congrFun h (fun a => a.elim0)
  dsimp only [Cert.Pre_finite.fn] at h0
  obtain ⟨e0, e1⟩ := IntOp.andi_eq_one.1 h0
  refine ⟨fun i => ?_, fun i => ?_⟩
  · have := Host.reduce_andi_all _ _ _ _ _ e0 i
    refine real_of_abs _ ?_
    rw [← word_top]; exact this
  · have := Host.reduce_andi_all _ _ _ _ _ e1 i
    refine real_of_abs _ ?_
    rw [← word_top]; exact this

/-! ## The values -/

variable (x0 : Cert.ReferenceIdeal.S8x20000x4.Idx → EReal) (x1 x2 : Cert.ReferenceIdeal.S8x560000.Idx → EReal)

/-- What a side comes to, its scores finite: the reference's labels are the two leading buckets, and the kernel's best
    bucket and confidence are theirs. -/
theorem side_eq (h1 : ∀ i, ∃ r : ℝ, x1 i = (r : EReal)) (b : Fin 8) (n : Fin 20000) (s : Fin 4) :
    best (F := Ideal) (sideOf (F := Ideal) (rowC (F := Ideal) x1 b.val n.val) s) = (((lab x1 b n s 0).val : ℝ) : EReal)
    ∧ ∃ k : ℝ, sideConf (F := Ideal) (sideOf (F := Ideal) (rowC (F := Ideal) x1 b.val n.val) s) = (k : EReal)
      ∧ val_main_v124 (F := Ideal) x1 (ix3 b n s) = (k : EReal) := by
  obtain ⟨r, hr⟩ : ∃ r : Fin 7 → ℝ, sideOf (F := Ideal) (rowC (F := Ideal) x1 b.val n.val) s = fun j => ((r j : ℝ) : EReal) := by
    choose f hf using h1
    exact ⟨fun j => f _, funext fun j => hf _⟩
  obtain ⟨μ, hμ⟩ : ∃ μ : ℝ, shift (fun j => ((r j : ℝ) : EReal)) = (μ : EReal) := max_real r
  have v11 : ∀ j, val_main_v11 (F := Ideal) x1 (ix47 b n s j) = ((expo r j / total r : ℝ) : EReal) := fun j => by
    rw [read_v11, hr, hμ, soft_real]
  obtain ⟨p, q, hp, hq, hb, hc⟩ := side_real r
  have hl : ∀ t : Fin 2, lab x1 b n s t = (![p, q] : Fin 2 → Fin 7) t := fun t => by
    unfold lab place
    simp only [v11]
    exact sorted_two (fun k => ((expo r k / total r : ℝ) : EReal)) (hp.map (soft_lt r)) (hq.map (soft_lt r)) (by decide) t
  have hl0 : lab x1 b n s 0 = p := hl 0
  have hl1 : lab x1 b n s 1 = q := hl 1
  rw [hr]
  refine ⟨by rw [hb, hl0], confR r p q, hc, ?_⟩
  rw [read_v124, v11, v11, hl0, hl1, ← EReal.coe_mul, ← EReal.coe_add]
  rfl

/-- The confidences agree. -/
theorem conf_eq (h1 : ∀ i, ∃ r : ℝ, x1 i = (r : EReal)) : outConf (F := Ideal) x1 = val_main_v127 (F := Ideal) x1 := by
  funext i
  obtain ⟨b, n, rfl⟩ := ix2_eta i
  rw [read_v127]
  obtain ⟨-, k0, c0, v0⟩ := side_eq x1 h1 b n 0
  obtain ⟨-, k1, c1, v1⟩ := side_eq x1 h1 b n 1
  obtain ⟨-, k2, c2, v2⟩ := side_eq x1 h1 b n 2
  obtain ⟨-, k3, c3, v3⟩ := side_eq x1 h1 b n 3
  rw [Fin.sum_univ_four, v0, v1, v2, v3, word_zero, word_four]
  show laneConf (F := Ideal) (rowC (F := Ideal) x1 b.val n.val) = _
  unfold laneConf
  rw [c0, c1, c2, c3]
  show (((k0 : EReal) + k1 + k2 + k3)) * Ideal.ofBits .f32 0x3E800000#32 = _
  rw [word_quarter]
  simp only [← EReal.coe_add, ← EReal.coe_mul]
  rw [div_real _ _ (by norm_num)]
  exact congrArg _ (by ring)

/-- The offset the kernel fetches is the one the reference looks up. -/
theorem off_eq (h1 : ∀ i, ∃ r : ℝ, x1 i = (r : EReal)) (b : Fin 8) (n : Fin 20000) (s : Fin 4) :
    rowC (F := Ideal) x2 b.val n.val (offIdx (F := Ideal) (rowC (F := Ideal) x1 b.val n.val) s) = val_main_v15 (F := Ideal) x1 x2 (ix3 b n s) := by
  rw [read_v15]
  refine congrArg (rowC (F := Ideal) x2 b.val n.val) (Fin.ext ?_)
  rw [offIdx_val]
  show 7 * s.val + (bestIdx (F := Ideal) (sideOf (F := Ideal) (rowC (F := Ideal) x1 b.val n.val) s)).toNat = 7 * s.val + (lab x1 b n s 0).val
  have : bestIdx (F := Ideal) (sideOf (F := Ideal) (rowC (F := Ideal) x1 b.val n.val) s) = BitVec.ofNat 32 (lab x1 b n s 0).val := by
    unfold bestIdx
    rw [(side_eq x1 h1 b n s).1]
    exact conv_bucket _
  rw [this, BitVec.toNat_ofNat]
  have := (lab x1 b n s 0).isLt
  omega

theorem prop_eq (b : Fin 8) (n : Fin 20000) (k : Fin 4) : rowP (F := Ideal) x0 b.val n.val k = x0 (ix3 b n k) := by
  refine congrArg x0 (funext fun a => ?_)
  match a with
  | ⟨0, _⟩ => exact Fin.ext (Nat.mod_eq_of_lt b.isLt)
  | ⟨1, _⟩ => exact Fin.ext (Nat.mod_eq_of_lt n.isLt)
  | ⟨2, _⟩ => exact Fin.ext (Nat.mod_eq_of_lt k.isLt)

/-- The boxes agree. -/
theorem box_eq (h0 : ∀ i, ∃ r : ℝ, x0 i = (r : EReal)) (h1 : ∀ i, ∃ r : ℝ, x1 i = (r : EReal)) :
    outBox (F := Ideal) x0 x1 x2 = val_main_v109 (F := Ideal) x0 x1 x2 := by
  funext i
  obtain ⟨b, n, k, rfl⟩ := ix3_eta i
  rw [read_v109, read_v74, read_v84, read_v94, read_v104]
  show laneBox (F := Ideal) (rowC (F := Ideal) x1 b.val n.val) (rowC (F := Ideal) x2 b.val n.val) (rowP (F := Ideal) x0 b.val n.val) k = _
  obtain ⟨p0, e0⟩ := h0 (ix3 b n 0)
  obtain ⟨p1, e1⟩ := h0 (ix3 b n 1)
  obtain ⟨p2, e2⟩ := h0 (ix3 b n 2)
  obtain ⟨p3, e3⟩ := h0 (ix3 b n 3)
  simp only [read_v18]
  rw [e0, e1, e2, e3]
  match k with
  | 0 =>
    show edgeLo (F := Ideal) _ _ _ _ = refLo _ _ _ _
    rw [prop_eq, prop_eq, e0, e2, (side_eq x1 h1 b n 0).1, off_eq x1 x2 h1]; exact edgeLo_real _ _ _ _
  | 1 =>
    show edgeLo (F := Ideal) _ _ _ _ = refLo _ _ _ _
    rw [prop_eq, prop_eq, e1, e3, (side_eq x1 h1 b n 2).1, off_eq x1 x2 h1]; exact edgeLo_real _ _ _ _
  | 2 =>
    show edgeHi (F := Ideal) _ _ _ _ = refHi _ _ _ _
    rw [prop_eq, prop_eq, e0, e2, (side_eq x1 h1 b n 1).1, off_eq x1 x2 h1]; exact edgeHi_real _ _ _ _
  | 3 =>
    show edgeHi (F := Ideal) _ _ _ _ = refHi _ _ _ _
    rw [prop_eq, prop_eq, e1, e3, (side_eq x1 h1 b n 3).1, off_eq x1 x2 h1]; exact edgeHi_real _ _ _ _

/-! ## The claims -/

theorem frame_kernel_finite : Cert.quiescent_KernelIdeal_pre_finite (hKernelIdeal := Cert.KernelIdeal.Gen.facts) (hPre_finite := Cert.Pre_finite.Gen.facts) := fun m ρ _ =>
  (θ_run Cert.KernelIdeal.defs _ _).mono (fun _ h => ⟨fun c => ⟨(h.1 c).1, (h.1 c).2.1, (h.1 c).2.2.1⟩, h.2⟩) (run_main (F := Ideal) m ρ)

theorem frame_reference_finite : Cert.quiescent_ReferenceIdeal_pre_finite (hReferenceIdeal := Cert.ReferenceIdeal.Gen.facts) (hPre_finite := Cert.Pre_finite.Gen.facts) := fun m ρ _ =>
  (θ_run Cert.ReferenceIdeal.defs _ _).mono (fun r h => ⟨fun c => ⟨(h c).2.2.1, (h c).2.2.2.1, (h c).2.2.2.2⟩,
    Idealize.ShloMosaic.sem_eq_zero_of_no_sems (by decide) r.2⟩) (Cert.ReferenceIdeal.Value.run (F := Ideal) m ρ)

theorem values_agree : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => outBox (F := Ideal) (argP m c) (argC m c) (argO m c), fun c => outConf (F := Ideal) (argC m c), ?_, ?_⟩
  · refine (θ_run Cert.KernelIdeal.defs _ _).mono (fun _ h c => ?_) (run_main (F := Ideal) m g)
    obtain ⟨a0, a1, a2, v5, v6⟩ := h.1 c
    exact ⟨v5, v6, a0, a1, a2⟩
  · refine (θ_run Cert.ReferenceIdeal.defs _ _).mono (fun r h c => ?_) (Cert.ReferenceIdeal.Value.run (F := Ideal) m' g')
    obtain ⟨v109, v127, a0, a1, a2⟩ := h c
    obtain ⟨e0, e1, e2⟩ := hargs c
    obtain ⟨r0, r1⟩ := pre_real _ _ _ (hpre c)
    refine ⟨?_, ?_, a0, a1, a2⟩
    · rw [v109, val_main_v109_eq, e0, e1, e2]
      exact (box_eq _ _ _ r0 r1).symm
    · rw [v127, val_main_v127_eq, e1]
      exact (conf_eq _ r1).symm

end Cert.Proof
end
-- ==== Proof.lean ====
module

public import proofs.«01_k».proof.Defs
public import proofs.«01_k».proof.Proof.Frames
public import proofs.«01_k».proof.Proof.Value
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  frame_kernel, frame_kernel_ideal, frame_kernel_finite, frame_reference, frame_reference_finite, trivial, values_agree⟩

end Cert.Proof

end
